-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InDxKernel (m : (ℓ : Loc Cert.InDxKernel.nD Cert.InDxKernel.τ Cert.InDxKernel.sig) → Buf (Elt Bits) ℓ) : Prop :=
  True

def Pre_InDxKernelIdeal (m : (ℓ : Loc Cert.InDxKernelIdeal.nD Cert.InDxKernelIdeal.τ Cert.InDxKernelIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDwKernel (m : (ℓ : Loc Cert.InDwKernel.nD Cert.InDwKernel.τ Cert.InDwKernel.sig) → Buf (Elt Bits) ℓ) : Prop :=
  True

def Pre_InDwKernelIdeal (m : (ℓ : Loc Cert.InDwKernelIdeal.nD Cert.InDwKernelIdeal.τ Cert.InDwKernelIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_UpDxKernel (m : (ℓ : Loc Cert.UpDxKernel.nD Cert.UpDxKernel.τ Cert.UpDxKernel.sig) → Buf (Elt Bits) ℓ) : Prop :=
  True

def Pre_UpDxKernelIdeal (m : (ℓ : Loc Cert.UpDxKernelIdeal.nD Cert.UpDxKernelIdeal.τ Cert.UpDxKernelIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDwKernel (m : (ℓ : Loc Cert.UpDwKernel.nD Cert.UpDwKernel.τ Cert.UpDwKernel.sig) → Buf (Elt Bits) ℓ) : Prop :=
  True

def Pre_UpDwKernelIdeal (m : (ℓ : Loc Cert.UpDwKernelIdeal.nD Cert.UpDwKernelIdeal.τ Cert.UpDwKernelIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownDxKernel (m : (ℓ : Loc Cert.DownDxKernel.nD Cert.DownDxKernel.τ Cert.DownDxKernel.sig) → Buf (Elt Bits) ℓ) : Prop :=
  True

def Pre_DownDxKernelIdeal (m : (ℓ : Loc Cert.DownDxKernelIdeal.nD Cert.DownDxKernelIdeal.τ Cert.DownDxKernelIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_SsmKernel (m : (ℓ : Loc Cert.SsmKernel.nD Cert.SsmKernel.τ Cert.SsmKernel.sig) → Buf (Elt Bits) ℓ) : Prop :=
  True

def Pre_SsmKernelIdeal (m : (ℓ : Loc Cert.SsmKernelIdeal.nD Cert.SsmKernelIdeal.τ Cert.SsmKernelIdeal.sig) → Buf (Elt Ideal) ℓ) : Prop :=
  True

def Pre_SsmReferenceIdeal (m : (ℓ : Loc Cert.SsmReferenceIdeal.nD Cert.SsmReferenceIdeal.τ Cert.SsmReferenceIdeal.sig) → Buf (Elt Ideal) ℓ) : Prop :=
  True

def Pre_SsmDxKernel (m : (ℓ : Loc Cert.SsmDxKernel.nD Cert.SsmDxKernel.τ Cert.SsmDxKernel.sig) → Buf (Elt Bits) ℓ) : Prop :=
  True

def Pre_SsmDxKernelIdeal (m : (ℓ : Loc Cert.SsmDxKernelIdeal.nD Cert.SsmDxKernelIdeal.τ Cert.SsmDxKernelIdeal.sig) → Buf (Elt Ideal) ℓ) : Prop :=
  True

def Pre_SsmDxReferenceIdeal (m : (ℓ : Loc Cert.SsmDxReferenceIdeal.nD Cert.SsmDxReferenceIdeal.τ Cert.SsmDxReferenceIdeal.sig) → Buf (Elt Ideal) ℓ) : Prop :=
  True

def Pre_SsmDwKernel (m : (ℓ : Loc Cert.SsmDwKernel.nD Cert.SsmDwKernel.τ Cert.SsmDwKernel.sig) → Buf (Elt Bits) ℓ) : Prop :=
  True

def Pre_SsmDwKernelIdeal (m : (ℓ : Loc Cert.SsmDwKernelIdeal.nD Cert.SsmDwKernelIdeal.τ Cert.SsmDwKernelIdeal.sig) → Buf (Elt Ideal) ℓ) : Prop :=
  True

def Pre_SsmDwReferenceIdeal (m : (ℓ : Loc Cert.SsmDwReferenceIdeal.nD Cert.SsmDwReferenceIdeal.τ Cert.SsmDwReferenceIdeal.sig) → Buf (Elt Ideal) ℓ) : Prop :=
  True

def Pre_RecKernel (m : (ℓ : Loc Cert.RecKernel.nD Cert.RecKernel.τ Cert.RecKernel.sig) → Buf (Elt Bits) ℓ) : Prop :=
  True

def Pre_RecKernelIdeal (m : (ℓ : Loc Cert.RecKernelIdeal.nD Cert.RecKernelIdeal.τ Cert.RecKernelIdeal.sig) → Buf (Elt Ideal) ℓ) : Prop :=
  True

def Pre_RecReferenceIdeal (m : (ℓ : Loc Cert.RecReferenceIdeal.nD Cert.RecReferenceIdeal.τ Cert.RecReferenceIdeal.sig) → Buf (Elt Ideal) ℓ) : Prop :=
  True

def Pre_RecDxKernel (m : (ℓ : Loc Cert.RecDxKernel.nD Cert.RecDxKernel.τ Cert.RecDxKernel.sig) → Buf (Elt Bits) ℓ) : Prop :=
  True

def Pre_RecDxKernelIdeal (m : (ℓ : Loc Cert.RecDxKernelIdeal.nD Cert.RecDxKernelIdeal.τ Cert.RecDxKernelIdeal.sig) → Buf (Elt Ideal) ℓ) : Prop :=
  True

def Pre_RecDxReferenceIdeal (m : (ℓ : Loc Cert.RecDxReferenceIdeal.nD Cert.RecDxReferenceIdeal.τ Cert.RecDxReferenceIdeal.sig) → Buf (Elt Ideal) ℓ) : Prop :=
  True

def Pre_RecDwKernel (m : (ℓ : Loc Cert.RecDwKernel.nD Cert.RecDwKernel.τ Cert.RecDwKernel.sig) → Buf (Elt Bits) ℓ) : Prop :=
  True

def Pre_RecDwKernelIdeal (m : (ℓ : Loc Cert.RecDwKernelIdeal.nD Cert.RecDwKernelIdeal.τ Cert.RecDwKernelIdeal.sig) → Buf (Elt Ideal) ℓ) : Prop :=
  True

def Pre_RecDwReferenceIdeal (m : (ℓ : Loc Cert.RecDwReferenceIdeal.nD Cert.RecDwReferenceIdeal.τ Cert.RecDwReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutDxKernel (m : (ℓ : Loc Cert.OutDxKernel.nD Cert.OutDxKernel.τ Cert.OutDxKernel.sig) → Buf (Elt Bits) ℓ) : Prop :=
  True

def Pre_OutDxKernelIdeal (m : (ℓ : Loc Cert.OutDxKernelIdeal.nD Cert.OutDxKernelIdeal.τ Cert.OutDxKernelIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDwKernel (m : (ℓ : Loc Cert.OutDwKernel.nD Cert.OutDwKernel.τ Cert.OutDwKernel.sig) → Buf (Elt Bits) ℓ) : Prop :=
  True

def Pre_OutDwKernelIdeal (m : (ℓ : Loc Cert.OutDwKernelIdeal.nD Cert.OutDwKernelIdeal.τ Cert.OutDwKernelIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_SwigluKernel (m : (ℓ : Loc Cert.SwigluKernel.nD Cert.SwigluKernel.τ Cert.SwigluKernel.sig) → Buf (Elt Bits) ℓ) : Prop :=
  True

def Pre_SwigluKernelIdeal (m : (ℓ : Loc Cert.SwigluKernelIdeal.nD Cert.SwigluKernelIdeal.τ Cert.SwigluKernelIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluBwdKernel (m : (ℓ : Loc Cert.SwigluBwdKernel.nD Cert.SwigluBwdKernel.τ Cert.SwigluBwdKernel.sig) → Buf (Elt Bits) ℓ) : Prop :=
  True

def Pre_SwigluBwdKernelIdeal (m : (ℓ : Loc Cert.SwigluBwdKernelIdeal.nD Cert.SwigluBwdKernelIdeal.τ Cert.SwigluBwdKernelIdeal.sig) → Buf (Elt Ideal) ℓ) : Prop :=
  True

def Pre_SwigluBwdKernelIdeal_swiglu_real [hPre_swiglu_real : Cert.Pre_swiglu_real.Facts] (m : (ℓ : Loc Cert.SwigluBwdKernelIdeal.nD Cert.SwigluBwdKernelIdeal.τ Cert.SwigluBwdKernelIdeal.sig) → Buf (Elt Ideal) ℓ) : Prop :=
  ∀ c : Dev Cert.SwigluBwdKernelIdeal.nD,
    (Cert.Pre_swiglu_real.fn (F := Ideal) (m ((c.tc : Thread Cert.SwigluBwdKernelIdeal.nD Cert.SwigluBwdKernelIdeal.τ).loc Cert.SwigluBwdKernelIdeal.main_arg0)) (m ((c.tc : Thread Cert.SwigluBwdKernelIdeal.nD Cert.SwigluBwdKernelIdeal.τ).loc Cert.SwigluBwdKernelIdeal.main_arg1))) = (fun _ => 1#1)

def Pre_SwigluBwdReferenceIdeal (m : (ℓ : Loc Cert.SwigluBwdReferenceIdeal.nD Cert.SwigluBwdReferenceIdeal.τ Cert.SwigluBwdReferenceIdeal.sig) → Buf (Elt Ideal) ℓ) : Prop :=
  True

def Pre_SwigluBwdReferenceIdeal_swiglu_real [hPre_swiglu_real : Cert.Pre_swiglu_real.Facts] (m : (ℓ : Loc Cert.SwigluBwdReferenceIdeal.nD Cert.SwigluBwdReferenceIdeal.τ Cert.SwigluBwdReferenceIdeal.sig) → Buf (Elt Ideal) ℓ) : Prop :=
  ∀ c : Dev Cert.SwigluBwdReferenceIdeal.nD,
    (Cert.Pre_swiglu_real.fn (F := Ideal) (m ((c.tc : Thread Cert.SwigluBwdReferenceIdeal.nD Cert.SwigluBwdReferenceIdeal.τ).loc Cert.SwigluBwdReferenceIdeal.main_arg0)) (m ((c.tc : Thread Cert.SwigluBwdReferenceIdeal.nD Cert.SwigluBwdReferenceIdeal.τ).loc Cert.SwigluBwdReferenceIdeal.main_arg1))) = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeBwdKernel (m : (ℓ : Loc Cert.MergeBwdKernel.nD Cert.MergeBwdKernel.τ Cert.MergeBwdKernel.sig) → Buf (Elt Bits) ℓ) : Prop :=
  True

def Pre_MergeBwdKernelIdeal (m : (ℓ : Loc Cert.MergeBwdKernelIdeal.nD Cert.MergeBwdKernelIdeal.τ Cert.MergeBwdKernelIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_InDxKernel [hInDxKernel : Cert.InDxKernel.Facts] : Prop :=
  ∀ (m : (ℓ : Loc Cert.InDxKernel.nD Cert.InDxKernel.τ Cert.InDxKernel.sig) → Buf (Elt Bits) ℓ) (g : Dev Cert.InDxKernel.nD → PrngReg), Pre_InDxKernel m →
    θ_run (Cert.InDxKernel.defs (F := Bits)) (onTc (τ := Cert.InDxKernel.τ) (Cert.InDxKernel.main (F := Bits))) ⟨m, fun _ => 0, g⟩ (fun r => (∀ c : Dev Cert.InDxKernel.nD,
      r.2.mem ((c.tc : Thread Cert.InDxKernel.nD Cert.InDxKernel.τ).loc Cert.InDxKernel.main_arg0) = m ((c.tc : Thread Cert.InDxKernel.nD Cert.InDxKernel.τ).loc Cert.InDxKernel.main_arg0)
      ∧ r.2.mem ((c.tc : Thread Cert.InDxKernel.nD Cert.InDxKernel.τ).loc Cert.InDxKernel.main_arg1) = m ((c.tc : Thread Cert.InDxKernel.nD Cert.InDxKernel.τ).loc Cert.InDxKernel.main_arg1))
      ∧ r.2.sem = fun _ => 0)

def quiescent_InDxKernelIdeal [hInDxKernelIdeal : Cert.InDxKernelIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg), Pre_InDxKernelIdeal m →
    θ_run (Cert.InDxKernelIdeal.defs (F := Ideal)) (onTc (τ := Cert.InDxKernelIdeal.τ) (Cert.InDxKernelIdeal.main (F := Ideal))) ⟨m, fun _ => 0, g⟩ (fun r => (∀ c : Dev Cert.InDxKernelIdeal.nD,
      r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
      ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_InDwKernel [hInDwKernel : Cert.InDwKernel.Facts] : Prop :=
  ∀ (m : (ℓ : Loc Cert.InDwKernel.nD Cert.InDwKernel.τ Cert.InDwKernel.sig) → Buf (Elt Bits) ℓ) (g : Dev Cert.InDwKernel.nD → PrngReg), Pre_InDwKernel m →
    θ_run (Cert.InDwKernel.defs (F := Bits)) (onTc (τ := Cert.InDwKernel.τ) (Cert.InDwKernel.main (F := Bits))) ⟨m, fun _ => 0, g⟩ (fun r => (∀ c : Dev Cert.InDwKernel.nD,
      r.2.mem ((c.tc : Thread Cert.InDwKernel.nD Cert.InDwKernel.τ).loc Cert.InDwKernel.main_arg0) = m ((c.tc : Thread Cert.InDwKernel.nD Cert.InDwKernel.τ).loc Cert.InDwKernel.main_arg0)
      ∧ r.2.mem ((c.tc : Thread Cert.InDwKernel.nD Cert.InDwKernel.τ).loc Cert.InDwKernel.main_arg1) = m ((c.tc : Thread Cert.InDwKernel.nD Cert.InDwKernel.τ).loc Cert.InDwKernel.main_arg1))
      ∧ r.2.sem = fun _ => 0)

def quiescent_InDwKernelIdeal [hInDwKernelIdeal : Cert.InDwKernelIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg), Pre_InDwKernelIdeal m →
    θ_run (Cert.InDwKernelIdeal.defs (F := Ideal)) (onTc (τ := Cert.InDwKernelIdeal.τ) (Cert.InDwKernelIdeal.main (F := Ideal))) ⟨m, fun _ => 0, g⟩ (fun r => (∀ c : Dev Cert.InDwKernelIdeal.nD,
      r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
      ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_UpDxKernel [hUpDxKernel : Cert.UpDxKernel.Facts] : Prop :=
  ∀ (m : (ℓ : Loc Cert.UpDxKernel.nD Cert.UpDxKernel.τ Cert.UpDxKernel.sig) → Buf (Elt Bits) ℓ) (g : Dev Cert.UpDxKernel.nD → PrngReg), Pre_UpDxKernel m →
    θ_run (Cert.UpDxKernel.defs (F := Bits)) (onTc (τ := Cert.UpDxKernel.τ) (Cert.UpDxKernel.main (F := Bits))) ⟨m, fun _ => 0, g⟩ (fun r => (∀ c : Dev Cert.UpDxKernel.nD,
      r.2.mem ((c.tc : Thread Cert.UpDxKernel.nD Cert.UpDxKernel.τ).loc Cert.UpDxKernel.main_arg0) = m ((c.tc : Thread Cert.UpDxKernel.nD Cert.UpDxKernel.τ).loc Cert.UpDxKernel.main_arg0)
      ∧ r.2.mem ((c.tc : Thread Cert.UpDxKernel.nD Cert.UpDxKernel.τ).loc Cert.UpDxKernel.main_arg1) = m ((c.tc : Thread Cert.UpDxKernel.nD Cert.UpDxKernel.τ).loc Cert.UpDxKernel.main_arg1))
      ∧ r.2.sem = fun _ => 0)

def quiescent_UpDxKernelIdeal [hUpDxKernelIdeal : Cert.UpDxKernelIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg), Pre_UpDxKernelIdeal m →
    θ_run (Cert.UpDxKernelIdeal.defs (F := Ideal)) (onTc (τ := Cert.UpDxKernelIdeal.τ) (Cert.UpDxKernelIdeal.main (F := Ideal))) ⟨m, fun _ => 0, g⟩ (fun r => (∀ c : Dev Cert.UpDxKernelIdeal.nD,
      r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
      ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_UpDwKernel [hUpDwKernel : Cert.UpDwKernel.Facts] : Prop :=
  ∀ (m : (ℓ : Loc Cert.UpDwKernel.nD Cert.UpDwKernel.τ Cert.UpDwKernel.sig) → Buf (Elt Bits) ℓ) (g : Dev Cert.UpDwKernel.nD → PrngReg), Pre_UpDwKernel m →
    θ_run (Cert.UpDwKernel.defs (F := Bits)) (onTc (τ := Cert.UpDwKernel.τ) (Cert.UpDwKernel.main (F := Bits))) ⟨m, fun _ => 0, g⟩ (fun r => (∀ c : Dev Cert.UpDwKernel.nD,
      r.2.mem ((c.tc : Thread Cert.UpDwKernel.nD Cert.UpDwKernel.τ).loc Cert.UpDwKernel.main_arg0) = m ((c.tc : Thread Cert.UpDwKernel.nD Cert.UpDwKernel.τ).loc Cert.UpDwKernel.main_arg0)
      ∧ r.2.mem ((c.tc : Thread Cert.UpDwKernel.nD Cert.UpDwKernel.τ).loc Cert.UpDwKernel.main_arg1) = m ((c.tc : Thread Cert.UpDwKernel.nD Cert.UpDwKernel.τ).loc Cert.UpDwKernel.main_arg1))
      ∧ r.2.sem = fun _ => 0)

def quiescent_UpDwKernelIdeal [hUpDwKernelIdeal : Cert.UpDwKernelIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg), Pre_UpDwKernelIdeal m →
    θ_run (Cert.UpDwKernelIdeal.defs (F := Ideal)) (onTc (τ := Cert.UpDwKernelIdeal.τ) (Cert.UpDwKernelIdeal.main (F := Ideal))) ⟨m, fun _ => 0, g⟩ (fun r => (∀ c : Dev Cert.UpDwKernelIdeal.nD,
      r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
      ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DownDxKernel [hDownDxKernel : Cert.DownDxKernel.Facts] : Prop :=
  ∀ (m : (ℓ : Loc Cert.DownDxKernel.nD Cert.DownDxKernel.τ Cert.DownDxKernel.sig) → Buf (Elt Bits) ℓ) (g : Dev Cert.DownDxKernel.nD → PrngReg), Pre_DownDxKernel m →
    θ_run (Cert.DownDxKernel.defs (F := Bits)) (onTc (τ := Cert.DownDxKernel.τ) (Cert.DownDxKernel.main (F := Bits))) ⟨m, fun _ => 0, g⟩ (fun r => (∀ c : Dev Cert.DownDxKernel.nD,
      r.2.mem ((c.tc : Thread Cert.DownDxKernel.nD Cert.DownDxKernel.τ).loc Cert.DownDxKernel.main_arg0) = m ((c.tc : Thread Cert.DownDxKernel.nD Cert.DownDxKernel.τ).loc Cert.DownDxKernel.main_arg0)
      ∧ r.2.mem ((c.tc : Thread Cert.DownDxKernel.nD Cert.DownDxKernel.τ).loc Cert.DownDxKernel.main_arg1) = m ((c.tc : Thread Cert.DownDxKernel.nD Cert.DownDxKernel.τ).loc Cert.DownDxKernel.main_arg1))
      ∧ r.2.sem = fun _ => 0)

def quiescent_DownDxKernelIdeal [hDownDxKernelIdeal : Cert.DownDxKernelIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg), Pre_DownDxKernelIdeal m →
    θ_run (Cert.DownDxKernelIdeal.defs (F := Ideal)) (onTc (τ := Cert.DownDxKernelIdeal.τ) (Cert.DownDxKernelIdeal.main (F := Ideal))) ⟨m, fun _ => 0, g⟩ (fun r => (∀ c : Dev Cert.DownDxKernelIdeal.nD,
      r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
      ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_SsmKernel [hSsmKernel : Cert.SsmKernel.Facts] : Prop :=
  ∀ (m : (ℓ : Loc Cert.SsmKernel.nD Cert.SsmKernel.τ Cert.SsmKernel.sig) → Buf (Elt Bits) ℓ) (g : Dev Cert.SsmKernel.nD → PrngReg), Pre_SsmKernel m →
    θ_run (Cert.SsmKernel.defs (F := Bits)) (onTc (τ := Cert.SsmKernel.τ) (Cert.SsmKernel.main (F := Bits))) ⟨m, fun _ => 0, g⟩ (fun r => (∀ c : Dev Cert.SsmKernel.nD,
      r.2.mem ((c.tc : Thread Cert.SsmKernel.nD Cert.SsmKernel.τ).loc Cert.SsmKernel.main_arg0) = m ((c.tc : Thread Cert.SsmKernel.nD Cert.SsmKernel.τ).loc Cert.SsmKernel.main_arg0)
      ∧ r.2.mem ((c.tc : Thread Cert.SsmKernel.nD Cert.SsmKernel.τ).loc Cert.SsmKernel.main_arg1) = m ((c.tc : Thread Cert.SsmKernel.nD Cert.SsmKernel.τ).loc Cert.SsmKernel.main_arg1))
      ∧ r.2.sem = fun _ => 0)

def quiescent_SsmKernelIdeal [hSsmKernelIdeal : Cert.SsmKernelIdeal.Facts] : Prop :=
  ∀ (m : (ℓ : Loc Cert.SsmKernelIdeal.nD Cert.SsmKernelIdeal.τ Cert.SsmKernelIdeal.sig) → Buf (Elt Ideal) ℓ) (g : Dev Cert.SsmKernelIdeal.nD → PrngReg), Pre_SsmKernelIdeal m →
    θ_run (Cert.SsmKernelIdeal.defs (F := Ideal)) (onTc (τ := Cert.SsmKernelIdeal.τ) (Cert.SsmKernelIdeal.main (F := Ideal))) ⟨m, fun _ => 0, g⟩ (fun r => (∀ c : Dev Cert.SsmKernelIdeal.nD,
      r.2.mem ((c.tc : Thread Cert.SsmKernelIdeal.nD Cert.SsmKernelIdeal.τ).loc Cert.SsmKernelIdeal.main_arg0) = m ((c.tc : Thread Cert.SsmKernelIdeal.nD Cert.SsmKernelIdeal.τ).loc Cert.SsmKernelIdeal.main_arg0)
      ∧ r.2.mem ((c.tc : Thread Cert.SsmKernelIdeal.nD Cert.SsmKernelIdeal.τ).loc Cert.SsmKernelIdeal.main_arg1) = m ((c.tc : Thread Cert.SsmKernelIdeal.nD Cert.SsmKernelIdeal.τ).loc Cert.SsmKernelIdeal.main_arg1))
      ∧ r.2.sem = fun _ => 0)

def quiescent_SsmReferenceIdeal [hSsmReferenceIdeal : Cert.SsmReferenceIdeal.Facts] : Prop :=
  ∀ (m : (ℓ : Loc Cert.SsmReferenceIdeal.nD Cert.SsmReferenceIdeal.τ Cert.SsmReferenceIdeal.sig) → Buf (Elt Ideal) ℓ) (g : Dev Cert.SsmReferenceIdeal.nD → PrngReg), Pre_SsmReferenceIdeal m →
    θ_run (Cert.SsmReferenceIdeal.defs (F := Ideal)) (onTc (τ := Cert.SsmReferenceIdeal.τ) (Cert.SsmReferenceIdeal.main (F := Ideal))) ⟨m, fun _ => 0, g⟩ (fun r => (∀ c : Dev Cert.SsmReferenceIdeal.nD,
      r.2.mem ((c.tc : Thread Cert.SsmReferenceIdeal.nD Cert.SsmReferenceIdeal.τ).loc Cert.SsmReferenceIdeal.main_arg0) = m ((c.tc : Thread Cert.SsmReferenceIdeal.nD Cert.SsmReferenceIdeal.τ).loc Cert.SsmReferenceIdeal.main_arg0)
      ∧ r.2.mem ((c.tc : Thread Cert.SsmReferenceIdeal.nD Cert.SsmReferenceIdeal.τ).loc Cert.SsmReferenceIdeal.main_arg1) = m ((c.tc : Thread Cert.SsmReferenceIdeal.nD Cert.SsmReferenceIdeal.τ).loc Cert.SsmReferenceIdeal.main_arg1))
      ∧ r.2.sem = fun _ => 0)

def quiescent_SsmDxKernel [hSsmDxKernel : Cert.SsmDxKernel.Facts] : Prop :=
  ∀ (m : (ℓ : Loc Cert.SsmDxKernel.nD Cert.SsmDxKernel.τ Cert.SsmDxKernel.sig) → Buf (Elt Bits) ℓ) (g : Dev Cert.SsmDxKernel.nD → PrngReg), Pre_SsmDxKernel m →
    θ_run (Cert.SsmDxKernel.defs (F := Bits)) (onTc (τ := Cert.SsmDxKernel.τ) (Cert.SsmDxKernel.main (F := Bits))) ⟨m, fun _ => 0, g⟩ (fun r => (∀ c : Dev Cert.SsmDxKernel.nD,
      r.2.mem ((c.tc : Thread Cert.SsmDxKernel.nD Cert.SsmDxKernel.τ).loc Cert.SsmDxKernel.main_arg0) = m ((c.tc : Thread Cert.SsmDxKernel.nD Cert.SsmDxKernel.τ).loc Cert.SsmDxKernel.main_arg0)
      ∧ r.2.mem ((c.tc : Thread Cert.SsmDxKernel.nD Cert.SsmDxKernel.τ).loc Cert.SsmDxKernel.main_arg1) = m ((c.tc : Thread Cert.SsmDxKernel.nD Cert.SsmDxKernel.τ).loc Cert.SsmDxKernel.main_arg1))
      ∧ r.2.sem = fun _ => 0)

def quiescent_SsmDxKernelIdeal [hSsmDxKernelIdeal : Cert.SsmDxKernelIdeal.Facts] : Prop :=
  ∀ (m : (ℓ : Loc Cert.SsmDxKernelIdeal.nD Cert.SsmDxKernelIdeal.τ Cert.SsmDxKernelIdeal.sig) → Buf (Elt Ideal) ℓ) (g : Dev Cert.SsmDxKernelIdeal.nD → PrngReg), Pre_SsmDxKernelIdeal m →
    θ_run (Cert.SsmDxKernelIdeal.defs (F := Ideal)) (onTc (τ := Cert.SsmDxKernelIdeal.τ) (Cert.SsmDxKernelIdeal.main (F := Ideal))) ⟨m, fun _ => 0, g⟩ (fun r => (∀ c : Dev Cert.SsmDxKernelIdeal.nD,
      r.2.mem ((c.tc : Thread Cert.SsmDxKernelIdeal.nD Cert.SsmDxKernelIdeal.τ).loc Cert.SsmDxKernelIdeal.main_arg0) = m ((c.tc : Thread Cert.SsmDxKernelIdeal.nD Cert.SsmDxKernelIdeal.τ).loc Cert.SsmDxKernelIdeal.main_arg0)
      ∧ r.2.mem ((c.tc : Thread Cert.SsmDxKernelIdeal.nD Cert.SsmDxKernelIdeal.τ).loc Cert.SsmDxKernelIdeal.main_arg1) = m ((c.tc : Thread Cert.SsmDxKernelIdeal.nD Cert.SsmDxKernelIdeal.τ).loc Cert.SsmDxKernelIdeal.main_arg1))
      ∧ r.2.sem = fun _ => 0)

def quiescent_SsmDxReferenceIdeal [hSsmDxReferenceIdeal : Cert.SsmDxReferenceIdeal.Facts] : Prop :=
  ∀ (m : (ℓ : Loc Cert.SsmDxReferenceIdeal.nD Cert.SsmDxReferenceIdeal.τ Cert.SsmDxReferenceIdeal.sig) → Buf (Elt Ideal) ℓ) (g : Dev Cert.SsmDxReferenceIdeal.nD → PrngReg), Pre_SsmDxReferenceIdeal m →
    θ_run (Cert.SsmDxReferenceIdeal.defs (F := Ideal)) (onTc (τ := Cert.SsmDxReferenceIdeal.τ) (Cert.SsmDxReferenceIdeal.main (F := Ideal))) ⟨m, fun _ => 0, g⟩ (fun r => (∀ c : Dev Cert.SsmDxReferenceIdeal.nD,
      r.2.mem ((c.tc : Thread Cert.SsmDxReferenceIdeal.nD Cert.SsmDxReferenceIdeal.τ).loc Cert.SsmDxReferenceIdeal.main_arg0) = m ((c.tc : Thread Cert.SsmDxReferenceIdeal.nD Cert.SsmDxReferenceIdeal.τ).loc Cert.SsmDxReferenceIdeal.main_arg0)
      ∧ r.2.mem ((c.tc : Thread Cert.SsmDxReferenceIdeal.nD Cert.SsmDxReferenceIdeal.τ).loc Cert.SsmDxReferenceIdeal.main_arg1) = m ((c.tc : Thread Cert.SsmDxReferenceIdeal.nD Cert.SsmDxReferenceIdeal.τ).loc Cert.SsmDxReferenceIdeal.main_arg1))
      ∧ r.2.sem = fun _ => 0)

def quiescent_SsmDwKernel [hSsmDwKernel : Cert.SsmDwKernel.Facts] : Prop :=
  ∀ (m : (ℓ : Loc Cert.SsmDwKernel.nD Cert.SsmDwKernel.τ Cert.SsmDwKernel.sig) → Buf (Elt Bits) ℓ) (g : Dev Cert.SsmDwKernel.nD → PrngReg), Pre_SsmDwKernel m →
    θ_run (Cert.SsmDwKernel.defs (F := Bits)) (onTc (τ := Cert.SsmDwKernel.τ) (Cert.SsmDwKernel.main (F := Bits))) ⟨m, fun _ => 0, g⟩ (fun r => (∀ c : Dev Cert.SsmDwKernel.nD,
      r.2.mem ((c.tc : Thread Cert.SsmDwKernel.nD Cert.SsmDwKernel.τ).loc Cert.SsmDwKernel.main_arg0) = m ((c.tc : Thread Cert.SsmDwKernel.nD Cert.SsmDwKernel.τ).loc Cert.SsmDwKernel.main_arg0)
      ∧ r.2.mem ((c.tc : Thread Cert.SsmDwKernel.nD Cert.SsmDwKernel.τ).loc Cert.SsmDwKernel.main_arg1) = m ((c.tc : Thread Cert.SsmDwKernel.nD Cert.SsmDwKernel.τ).loc Cert.SsmDwKernel.main_arg1))
      ∧ r.2.sem = fun _ => 0)

def quiescent_SsmDwKernelIdeal [hSsmDwKernelIdeal : Cert.SsmDwKernelIdeal.Facts] : Prop :=
  ∀ (m : (ℓ : Loc Cert.SsmDwKernelIdeal.nD Cert.SsmDwKernelIdeal.τ Cert.SsmDwKernelIdeal.sig) → Buf (Elt Ideal) ℓ) (g : Dev Cert.SsmDwKernelIdeal.nD → PrngReg), Pre_SsmDwKernelIdeal m →
    θ_run (Cert.SsmDwKernelIdeal.defs (F := Ideal)) (onTc (τ := Cert.SsmDwKernelIdeal.τ) (Cert.SsmDwKernelIdeal.main (F := Ideal))) ⟨m, fun _ => 0, g⟩ (fun r => (∀ c : Dev Cert.SsmDwKernelIdeal.nD,
      r.2.mem ((c.tc : Thread Cert.SsmDwKernelIdeal.nD Cert.SsmDwKernelIdeal.τ).loc Cert.SsmDwKernelIdeal.main_arg0) = m ((c.tc : Thread Cert.SsmDwKernelIdeal.nD Cert.SsmDwKernelIdeal.τ).loc Cert.SsmDwKernelIdeal.main_arg0)
      ∧ r.2.mem ((c.tc : Thread Cert.SsmDwKernelIdeal.nD Cert.SsmDwKernelIdeal.τ).loc Cert.SsmDwKernelIdeal.main_arg1) = m ((c.tc : Thread Cert.SsmDwKernelIdeal.nD Cert.SsmDwKernelIdeal.τ).loc Cert.SsmDwKernelIdeal.main_arg1))
      ∧ r.2.sem = fun _ => 0)

def quiescent_SsmDwReferenceIdeal [hSsmDwReferenceIdeal : Cert.SsmDwReferenceIdeal.Facts] : Prop :=
  ∀ (m : (ℓ : Loc Cert.SsmDwReferenceIdeal.nD Cert.SsmDwReferenceIdeal.τ Cert.SsmDwReferenceIdeal.sig) → Buf (Elt Ideal) ℓ) (g : Dev Cert.SsmDwReferenceIdeal.nD → PrngReg), Pre_SsmDwReferenceIdeal m →
    θ_run (Cert.SsmDwReferenceIdeal.defs (F := Ideal)) (onTc (τ := Cert.SsmDwReferenceIdeal.τ) (Cert.SsmDwReferenceIdeal.main (F := Ideal))) ⟨m, fun _ => 0, g⟩ (fun r => (∀ c : Dev Cert.SsmDwReferenceIdeal.nD,
      r.2.mem ((c.tc : Thread Cert.SsmDwReferenceIdeal.nD Cert.SsmDwReferenceIdeal.τ).loc Cert.SsmDwReferenceIdeal.main_arg0) = m ((c.tc : Thread Cert.SsmDwReferenceIdeal.nD Cert.SsmDwReferenceIdeal.τ).loc Cert.SsmDwReferenceIdeal.main_arg0)
      ∧ r.2.mem ((c.tc : Thread Cert.SsmDwReferenceIdeal.nD Cert.SsmDwReferenceIdeal.τ).loc Cert.SsmDwReferenceIdeal.main_arg1) = m ((c.tc : Thread Cert.SsmDwReferenceIdeal.nD Cert.SsmDwReferenceIdeal.τ).loc Cert.SsmDwReferenceIdeal.main_arg1))
      ∧ r.2.sem = fun _ => 0)

def quiescent_RecKernel [hRecKernel : Cert.RecKernel.Facts] : Prop :=
  ∀ (m : (ℓ : Loc Cert.RecKernel.nD Cert.RecKernel.τ Cert.RecKernel.sig) → Buf (Elt Bits) ℓ) (g : Dev Cert.RecKernel.nD → PrngReg), Pre_RecKernel m →
    θ_run (Cert.RecKernel.defs (F := Bits)) (onTc (τ := Cert.RecKernel.τ) (Cert.RecKernel.main (F := Bits))) ⟨m, fun _ => 0, g⟩ (fun r => (∀ c : Dev Cert.RecKernel.nD,
      r.2.mem ((c.tc : Thread Cert.RecKernel.nD Cert.RecKernel.τ).loc Cert.RecKernel.main_arg0) = m ((c.tc : Thread Cert.RecKernel.nD Cert.RecKernel.τ).loc Cert.RecKernel.main_arg0)
      ∧ r.2.mem ((c.tc : Thread Cert.RecKernel.nD Cert.RecKernel.τ).loc Cert.RecKernel.main_arg1) = m ((c.tc : Thread Cert.RecKernel.nD Cert.RecKernel.τ).loc Cert.RecKernel.main_arg1))
      ∧ r.2.sem = fun _ => 0)

def quiescent_RecKernelIdeal [hRecKernelIdeal : Cert.RecKernelIdeal.Facts] : Prop :=
  ∀ (m : (ℓ : Loc Cert.RecKernelIdeal.nD Cert.RecKernelIdeal.τ Cert.RecKernelIdeal.sig) → Buf (Elt Ideal) ℓ) (g : Dev Cert.RecKernelIdeal.nD → PrngReg), Pre_RecKernelIdeal m →
    θ_run (Cert.RecKernelIdeal.defs (F := Ideal)) (onTc (τ := Cert.RecKernelIdeal.τ) (Cert.RecKernelIdeal.main (F := Ideal))) ⟨m, fun _ => 0, g⟩ (fun r => (∀ c : Dev Cert.RecKernelIdeal.nD,
      r.2.mem ((c.tc : Thread Cert.RecKernelIdeal.nD Cert.RecKernelIdeal.τ).loc Cert.RecKernelIdeal.main_arg0) = m ((c.tc : Thread Cert.RecKernelIdeal.nD Cert.RecKernelIdeal.τ).loc Cert.RecKernelIdeal.main_arg0)
      ∧ r.2.mem ((c.tc : Thread Cert.RecKernelIdeal.nD Cert.RecKernelIdeal.τ).loc Cert.RecKernelIdeal.main_arg1) = m ((c.tc : Thread Cert.RecKernelIdeal.nD Cert.RecKernelIdeal.τ).loc Cert.RecKernelIdeal.main_arg1))
      ∧ r.2.sem = fun _ => 0)

def quiescent_RecReferenceIdeal [hRecReferenceIdeal : Cert.RecReferenceIdeal.Facts] : Prop :=
  ∀ (m : (ℓ : Loc Cert.RecReferenceIdeal.nD Cert.RecReferenceIdeal.τ Cert.RecReferenceIdeal.sig) → Buf (Elt Ideal) ℓ) (g : Dev Cert.RecReferenceIdeal.nD → PrngReg), Pre_RecReferenceIdeal m →
    θ_run (Cert.RecReferenceIdeal.defs (F := Ideal)) (onTc (τ := Cert.RecReferenceIdeal.τ) (Cert.RecReferenceIdeal.main (F := Ideal))) ⟨m, fun _ => 0, g⟩ (fun r => (∀ c : Dev Cert.RecReferenceIdeal.nD,
      r.2.mem ((c.tc : Thread Cert.RecReferenceIdeal.nD Cert.RecReferenceIdeal.τ).loc Cert.RecReferenceIdeal.main_arg0) = m ((c.tc : Thread Cert.RecReferenceIdeal.nD Cert.RecReferenceIdeal.τ).loc Cert.RecReferenceIdeal.main_arg0)
      ∧ r.2.mem ((c.tc : Thread Cert.RecReferenceIdeal.nD Cert.RecReferenceIdeal.τ).loc Cert.RecReferenceIdeal.main_arg1) = m ((c.tc : Thread Cert.RecReferenceIdeal.nD Cert.RecReferenceIdeal.τ).loc Cert.RecReferenceIdeal.main_arg1))
      ∧ r.2.sem = fun _ => 0)

def quiescent_RecDxKernel [hRecDxKernel : Cert.RecDxKernel.Facts] : Prop :=
  ∀ (m : (ℓ : Loc Cert.RecDxKernel.nD Cert.RecDxKernel.τ Cert.RecDxKernel.sig) → Buf (Elt Bits) ℓ) (g : Dev Cert.RecDxKernel.nD → PrngReg), Pre_RecDxKernel m →
    θ_run (Cert.RecDxKernel.defs (F := Bits)) (onTc (τ := Cert.RecDxKernel.τ) (Cert.RecDxKernel.main (F := Bits))) ⟨m, fun _ => 0, g⟩ (fun r => (∀ c : Dev Cert.RecDxKernel.nD,
      r.2.mem ((c.tc : Thread Cert.RecDxKernel.nD Cert.RecDxKernel.τ).loc Cert.RecDxKernel.main_arg0) = m ((c.tc : Thread Cert.RecDxKernel.nD Cert.RecDxKernel.τ).loc Cert.RecDxKernel.main_arg0)
      ∧ r.2.mem ((c.tc : Thread Cert.RecDxKernel.nD Cert.RecDxKernel.τ).loc Cert.RecDxKernel.main_arg1) = m ((c.tc : Thread Cert.RecDxKernel.nD Cert.RecDxKernel.τ).loc Cert.RecDxKernel.main_arg1))
      ∧ r.2.sem = fun _ => 0)

def quiescent_RecDxKernelIdeal [hRecDxKernelIdeal : Cert.RecDxKernelIdeal.Facts] : Prop :=
  ∀ (m : (ℓ : Loc Cert.RecDxKernelIdeal.nD Cert.RecDxKernelIdeal.τ Cert.RecDxKernelIdeal.sig) → Buf (Elt Ideal) ℓ) (g : Dev Cert.RecDxKernelIdeal.nD → PrngReg), Pre_RecDxKernelIdeal m →
    θ_run (Cert.RecDxKernelIdeal.defs (F := Ideal)) (onTc (τ := Cert.RecDxKernelIdeal.τ) (Cert.RecDxKernelIdeal.main (F := Ideal))) ⟨m, fun _ => 0, g⟩ (fun r => (∀ c : Dev Cert.RecDxKernelIdeal.nD,
      r.2.mem ((c.tc : Thread Cert.RecDxKernelIdeal.nD Cert.RecDxKernelIdeal.τ).loc Cert.RecDxKernelIdeal.main_arg0) = m ((c.tc : Thread Cert.RecDxKernelIdeal.nD Cert.RecDxKernelIdeal.τ).loc Cert.RecDxKernelIdeal.main_arg0)
      ∧ r.2.mem ((c.tc : Thread Cert.RecDxKernelIdeal.nD Cert.RecDxKernelIdeal.τ).loc Cert.RecDxKernelIdeal.main_arg1) = m ((c.tc : Thread Cert.RecDxKernelIdeal.nD Cert.RecDxKernelIdeal.τ).loc Cert.RecDxKernelIdeal.main_arg1))
      ∧ r.2.sem = fun _ => 0)

def quiescent_RecDxReferenceIdeal [hRecDxReferenceIdeal : Cert.RecDxReferenceIdeal.Facts] : Prop :=
  ∀ (m : (ℓ : Loc Cert.RecDxReferenceIdeal.nD Cert.RecDxReferenceIdeal.τ Cert.RecDxReferenceIdeal.sig) → Buf (Elt Ideal) ℓ) (g : Dev Cert.RecDxReferenceIdeal.nD → PrngReg), Pre_RecDxReferenceIdeal m →
    θ_run (Cert.RecDxReferenceIdeal.defs (F := Ideal)) (onTc (τ := Cert.RecDxReferenceIdeal.τ) (Cert.RecDxReferenceIdeal.main (F := Ideal))) ⟨m, fun _ => 0, g⟩ (fun r => (∀ c : Dev Cert.RecDxReferenceIdeal.nD,
      r.2.mem ((c.tc : Thread Cert.RecDxReferenceIdeal.nD Cert.RecDxReferenceIdeal.τ).loc Cert.RecDxReferenceIdeal.main_arg0) = m ((c.tc : Thread Cert.RecDxReferenceIdeal.nD Cert.RecDxReferenceIdeal.τ).loc Cert.RecDxReferenceIdeal.main_arg0)
      ∧ r.2.mem ((c.tc : Thread Cert.RecDxReferenceIdeal.nD Cert.RecDxReferenceIdeal.τ).loc Cert.RecDxReferenceIdeal.main_arg1) = m ((c.tc : Thread Cert.RecDxReferenceIdeal.nD Cert.RecDxReferenceIdeal.τ).loc Cert.RecDxReferenceIdeal.main_arg1))
      ∧ r.2.sem = fun _ => 0)

def quiescent_RecDwKernel [hRecDwKernel : Cert.RecDwKernel.Facts] : Prop :=
  ∀ (m : (ℓ : Loc Cert.RecDwKernel.nD Cert.RecDwKernel.τ Cert.RecDwKernel.sig) → Buf (Elt Bits) ℓ) (g : Dev Cert.RecDwKernel.nD → PrngReg), Pre_RecDwKernel m →
    θ_run (Cert.RecDwKernel.defs (F := Bits)) (onTc (τ := Cert.RecDwKernel.τ) (Cert.RecDwKernel.main (F := Bits))) ⟨m, fun _ => 0, g⟩ (fun r => (∀ c : Dev Cert.RecDwKernel.nD,
      r.2.mem ((c.tc : Thread Cert.RecDwKernel.nD Cert.RecDwKernel.τ).loc Cert.RecDwKernel.main_arg0) = m ((c.tc : Thread Cert.RecDwKernel.nD Cert.RecDwKernel.τ).loc Cert.RecDwKernel.main_arg0)
      ∧ r.2.mem ((c.tc : Thread Cert.RecDwKernel.nD Cert.RecDwKernel.τ).loc Cert.RecDwKernel.main_arg1) = m ((c.tc : Thread Cert.RecDwKernel.nD Cert.RecDwKernel.τ).loc Cert.RecDwKernel.main_arg1))
      ∧ r.2.sem = fun _ => 0)

def quiescent_RecDwKernelIdeal [hRecDwKernelIdeal : Cert.RecDwKernelIdeal.Facts] : Prop :=
  ∀ (m : (ℓ : Loc Cert.RecDwKernelIdeal.nD Cert.RecDwKernelIdeal.τ Cert.RecDwKernelIdeal.sig) → Buf (Elt Ideal) ℓ) (g : Dev Cert.RecDwKernelIdeal.nD → PrngReg), Pre_RecDwKernelIdeal m →
    θ_run (Cert.RecDwKernelIdeal.defs (F := Ideal)) (onTc (τ := Cert.RecDwKernelIdeal.τ) (Cert.RecDwKernelIdeal.main (F := Ideal))) ⟨m, fun _ => 0, g⟩ (fun r => (∀ c : Dev Cert.RecDwKernelIdeal.nD,
      r.2.mem ((c.tc : Thread Cert.RecDwKernelIdeal.nD Cert.RecDwKernelIdeal.τ).loc Cert.RecDwKernelIdeal.main_arg0) = m ((c.tc : Thread Cert.RecDwKernelIdeal.nD Cert.RecDwKernelIdeal.τ).loc Cert.RecDwKernelIdeal.main_arg0)
      ∧ r.2.mem ((c.tc : Thread Cert.RecDwKernelIdeal.nD Cert.RecDwKernelIdeal.τ).loc Cert.RecDwKernelIdeal.main_arg1) = m ((c.tc : Thread Cert.RecDwKernelIdeal.nD Cert.RecDwKernelIdeal.τ).loc Cert.RecDwKernelIdeal.main_arg1))
      ∧ r.2.sem = fun _ => 0)

def quiescent_RecDwReferenceIdeal [hRecDwReferenceIdeal : Cert.RecDwReferenceIdeal.Facts] : Prop :=
  ∀ (m : (ℓ : Loc Cert.RecDwReferenceIdeal.nD Cert.RecDwReferenceIdeal.τ Cert.RecDwReferenceIdeal.sig) → Buf (Elt Ideal) ℓ) (g : Dev Cert.RecDwReferenceIdeal.nD → PrngReg), Pre_RecDwReferenceIdeal m →
    θ_run (Cert.RecDwReferenceIdeal.defs (F := Ideal)) (onTc (τ := Cert.RecDwReferenceIdeal.τ) (Cert.RecDwReferenceIdeal.main (F := Ideal))) ⟨m, fun _ => 0, g⟩ (fun r => (∀ c : Dev Cert.RecDwReferenceIdeal.nD,
      r.2.mem ((c.tc : Thread Cert.RecDwReferenceIdeal.nD Cert.RecDwReferenceIdeal.τ).loc Cert.RecDwReferenceIdeal.main_arg0) = m ((c.tc : Thread Cert.RecDwReferenceIdeal.nD Cert.RecDwReferenceIdeal.τ).loc Cert.RecDwReferenceIdeal.main_arg0)
      ∧ r.2.mem ((c.tc : Thread Cert.RecDwReferenceIdeal.nD Cert.RecDwReferenceIdeal.τ).loc Cert.RecDwReferenceIdeal.main_arg1) = m ((c.tc : Thread Cert.RecDwReferenceIdeal.nD Cert.RecDwReferenceIdeal.τ).loc Cert.RecDwReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_OutDxKernel [hOutDxKernel : Cert.OutDxKernel.Facts] : Prop :=
  ∀ (m : (ℓ : Loc Cert.OutDxKernel.nD Cert.OutDxKernel.τ Cert.OutDxKernel.sig) → Buf (Elt Bits) ℓ) (g : Dev Cert.OutDxKernel.nD → PrngReg), Pre_OutDxKernel m →
    θ_run (Cert.OutDxKernel.defs (F := Bits)) (onTc (τ := Cert.OutDxKernel.τ) (Cert.OutDxKernel.main (F := Bits))) ⟨m, fun _ => 0, g⟩ (fun r => (∀ c : Dev Cert.OutDxKernel.nD,
      r.2.mem ((c.tc : Thread Cert.OutDxKernel.nD Cert.OutDxKernel.τ).loc Cert.OutDxKernel.main_arg0) = m ((c.tc : Thread Cert.OutDxKernel.nD Cert.OutDxKernel.τ).loc Cert.OutDxKernel.main_arg0)
      ∧ r.2.mem ((c.tc : Thread Cert.OutDxKernel.nD Cert.OutDxKernel.τ).loc Cert.OutDxKernel.main_arg1) = m ((c.tc : Thread Cert.OutDxKernel.nD Cert.OutDxKernel.τ).loc Cert.OutDxKernel.main_arg1))
      ∧ r.2.sem = fun _ => 0)

def quiescent_OutDxKernelIdeal [hOutDxKernelIdeal : Cert.OutDxKernelIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg), Pre_OutDxKernelIdeal m →
    θ_run (Cert.OutDxKernelIdeal.defs (F := Ideal)) (onTc (τ := Cert.OutDxKernelIdeal.τ) (Cert.OutDxKernelIdeal.main (F := Ideal))) ⟨m, fun _ => 0, g⟩ (fun r => (∀ c : Dev Cert.OutDxKernelIdeal.nD,
      r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
      ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDwKernel [hOutDwKernel : Cert.OutDwKernel.Facts] : Prop :=
  ∀ (m : (ℓ : Loc Cert.OutDwKernel.nD Cert.OutDwKernel.τ Cert.OutDwKernel.sig) → Buf (Elt Bits) ℓ) (g : Dev Cert.OutDwKernel.nD → PrngReg), Pre_OutDwKernel m →
    θ_run (Cert.OutDwKernel.defs (F := Bits)) (onTc (τ := Cert.OutDwKernel.τ) (Cert.OutDwKernel.main (F := Bits))) ⟨m, fun _ => 0, g⟩ (fun r => (∀ c : Dev Cert.OutDwKernel.nD,
      r.2.mem ((c.tc : Thread Cert.OutDwKernel.nD Cert.OutDwKernel.τ).loc Cert.OutDwKernel.main_arg0) = m ((c.tc : Thread Cert.OutDwKernel.nD Cert.OutDwKernel.τ).loc Cert.OutDwKernel.main_arg0)
      ∧ r.2.mem ((c.tc : Thread Cert.OutDwKernel.nD Cert.OutDwKernel.τ).loc Cert.OutDwKernel.main_arg1) = m ((c.tc : Thread Cert.OutDwKernel.nD Cert.OutDwKernel.τ).loc Cert.OutDwKernel.main_arg1))
      ∧ r.2.sem = fun _ => 0)

def quiescent_OutDwKernelIdeal [hOutDwKernelIdeal : Cert.OutDwKernelIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg), Pre_OutDwKernelIdeal m →
    θ_run (Cert.OutDwKernelIdeal.defs (F := Ideal)) (onTc (τ := Cert.OutDwKernelIdeal.τ) (Cert.OutDwKernelIdeal.main (F := Ideal))) ⟨m, fun _ => 0, g⟩ (fun r => (∀ c : Dev Cert.OutDwKernelIdeal.nD,
      r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
      ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_SwigluKernel [hSwigluKernel : Cert.SwigluKernel.Facts] : Prop :=
  ∀ (m : (ℓ : Loc Cert.SwigluKernel.nD Cert.SwigluKernel.τ Cert.SwigluKernel.sig) → Buf (Elt Bits) ℓ) (g : Dev Cert.SwigluKernel.nD → PrngReg), Pre_SwigluKernel m →
    θ_run (Cert.SwigluKernel.defs (F := Bits)) (onTc (τ := Cert.SwigluKernel.τ) (Cert.SwigluKernel.main (F := Bits))) ⟨m, fun _ => 0, g⟩ (fun r => (∀ c : Dev Cert.SwigluKernel.nD,
      r.2.mem ((c.tc : Thread Cert.SwigluKernel.nD Cert.SwigluKernel.τ).loc Cert.SwigluKernel.main_arg0) = m ((c.tc : Thread Cert.SwigluKernel.nD Cert.SwigluKernel.τ).loc Cert.SwigluKernel.main_arg0))
      ∧ r.2.sem = fun _ => 0)

def quiescent_SwigluKernelIdeal [hSwigluKernelIdeal : Cert.SwigluKernelIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0))
      ∧ r.2.sem = fun _ => 0)

def quiescent_SwigluBwdKernel [hSwigluBwdKernel : Cert.SwigluBwdKernel.Facts] : Prop :=
  ∀ (m : (ℓ : Loc Cert.SwigluBwdKernel.nD Cert.SwigluBwdKernel.τ Cert.SwigluBwdKernel.sig) → Buf (Elt Bits) ℓ) (g : Dev Cert.SwigluBwdKernel.nD → PrngReg), Pre_SwigluBwdKernel m →
    θ_run (Cert.SwigluBwdKernel.defs (F := Bits)) (onTc (τ := Cert.SwigluBwdKernel.τ) (Cert.SwigluBwdKernel.main (F := Bits))) ⟨m, fun _ => 0, g⟩ (fun r => (∀ c : Dev Cert.SwigluBwdKernel.nD,
      r.2.mem ((c.tc : Thread Cert.SwigluBwdKernel.nD Cert.SwigluBwdKernel.τ).loc Cert.SwigluBwdKernel.main_arg0) = m ((c.tc : Thread Cert.SwigluBwdKernel.nD Cert.SwigluBwdKernel.τ).loc Cert.SwigluBwdKernel.main_arg0)
      ∧ r.2.mem ((c.tc : Thread Cert.SwigluBwdKernel.nD Cert.SwigluBwdKernel.τ).loc Cert.SwigluBwdKernel.main_arg1) = m ((c.tc : Thread Cert.SwigluBwdKernel.nD Cert.SwigluBwdKernel.τ).loc Cert.SwigluBwdKernel.main_arg1))
      ∧ r.2.sem = fun _ => 0)

def quiescent_SwigluBwdKernelIdeal [hSwigluBwdKernelIdeal : Cert.SwigluBwdKernelIdeal.Facts] : Prop :=
  ∀ (m : (ℓ : Loc Cert.SwigluBwdKernelIdeal.nD Cert.SwigluBwdKernelIdeal.τ Cert.SwigluBwdKernelIdeal.sig) → Buf (Elt Ideal) ℓ) (g : Dev Cert.SwigluBwdKernelIdeal.nD → PrngReg), Pre_SwigluBwdKernelIdeal m →
    θ_run (Cert.SwigluBwdKernelIdeal.defs (F := Ideal)) (onTc (τ := Cert.SwigluBwdKernelIdeal.τ) (Cert.SwigluBwdKernelIdeal.main (F := Ideal))) ⟨m, fun _ => 0, g⟩ (fun r => (∀ c : Dev Cert.SwigluBwdKernelIdeal.nD,
      r.2.mem ((c.tc : Thread Cert.SwigluBwdKernelIdeal.nD Cert.SwigluBwdKernelIdeal.τ).loc Cert.SwigluBwdKernelIdeal.main_arg0) = m ((c.tc : Thread Cert.SwigluBwdKernelIdeal.nD Cert.SwigluBwdKernelIdeal.τ).loc Cert.SwigluBwdKernelIdeal.main_arg0)
      ∧ r.2.mem ((c.tc : Thread Cert.SwigluBwdKernelIdeal.nD Cert.SwigluBwdKernelIdeal.τ).loc Cert.SwigluBwdKernelIdeal.main_arg1) = m ((c.tc : Thread Cert.SwigluBwdKernelIdeal.nD Cert.SwigluBwdKernelIdeal.τ).loc Cert.SwigluBwdKernelIdeal.main_arg1))
      ∧ r.2.sem = fun _ => 0)

def quiescent_SwigluBwdKernelIdeal_pre_swiglu_real [hSwigluBwdKernelIdeal : Cert.SwigluBwdKernelIdeal.Facts] [hPre_swiglu_real : Cert.Pre_swiglu_real.Facts] : Prop :=
  ∀ (m : (ℓ : Loc Cert.SwigluBwdKernelIdeal.nD Cert.SwigluBwdKernelIdeal.τ Cert.SwigluBwdKernelIdeal.sig) → Buf (Elt Ideal) ℓ) (g : Dev Cert.SwigluBwdKernelIdeal.nD → PrngReg), Pre_SwigluBwdKernelIdeal_swiglu_real m →
    θ_run (Cert.SwigluBwdKernelIdeal.defs (F := Ideal)) (onTc (τ := Cert.SwigluBwdKernelIdeal.τ) (Cert.SwigluBwdKernelIdeal.main (F := Ideal))) ⟨m, fun _ => 0, g⟩ (fun r => (∀ c : Dev Cert.SwigluBwdKernelIdeal.nD,
      r.2.mem ((c.tc : Thread Cert.SwigluBwdKernelIdeal.nD Cert.SwigluBwdKernelIdeal.τ).loc Cert.SwigluBwdKernelIdeal.main_arg0) = m ((c.tc : Thread Cert.SwigluBwdKernelIdeal.nD Cert.SwigluBwdKernelIdeal.τ).loc Cert.SwigluBwdKernelIdeal.main_arg0)
      ∧ r.2.mem ((c.tc : Thread Cert.SwigluBwdKernelIdeal.nD Cert.SwigluBwdKernelIdeal.τ).loc Cert.SwigluBwdKernelIdeal.main_arg1) = m ((c.tc : Thread Cert.SwigluBwdKernelIdeal.nD Cert.SwigluBwdKernelIdeal.τ).loc Cert.SwigluBwdKernelIdeal.main_arg1))
      ∧ r.2.sem = fun _ => 0)

def quiescent_SwigluBwdReferenceIdeal [hSwigluBwdReferenceIdeal : Cert.SwigluBwdReferenceIdeal.Facts] : Prop :=
  ∀ (m : (ℓ : Loc Cert.SwigluBwdReferenceIdeal.nD Cert.SwigluBwdReferenceIdeal.τ Cert.SwigluBwdReferenceIdeal.sig) → Buf (Elt Ideal) ℓ) (g : Dev Cert.SwigluBwdReferenceIdeal.nD → PrngReg), Pre_SwigluBwdReferenceIdeal m →
    θ_run (Cert.SwigluBwdReferenceIdeal.defs (F := Ideal)) (onTc (τ := Cert.SwigluBwdReferenceIdeal.τ) (Cert.SwigluBwdReferenceIdeal.main (F := Ideal))) ⟨m, fun _ => 0, g⟩ (fun r => (∀ c : Dev Cert.SwigluBwdReferenceIdeal.nD,
      r.2.mem ((c.tc : Thread Cert.SwigluBwdReferenceIdeal.nD Cert.SwigluBwdReferenceIdeal.τ).loc Cert.SwigluBwdReferenceIdeal.main_arg0) = m ((c.tc : Thread Cert.SwigluBwdReferenceIdeal.nD Cert.SwigluBwdReferenceIdeal.τ).loc Cert.SwigluBwdReferenceIdeal.main_arg0)
      ∧ r.2.mem ((c.tc : Thread Cert.SwigluBwdReferenceIdeal.nD Cert.SwigluBwdReferenceIdeal.τ).loc Cert.SwigluBwdReferenceIdeal.main_arg1) = m ((c.tc : Thread Cert.SwigluBwdReferenceIdeal.nD Cert.SwigluBwdReferenceIdeal.τ).loc Cert.SwigluBwdReferenceIdeal.main_arg1))
      ∧ r.2.sem = fun _ => 0)

def quiescent_SwigluBwdReferenceIdeal_pre_swiglu_real [hSwigluBwdReferenceIdeal : Cert.SwigluBwdReferenceIdeal.Facts] [hPre_swiglu_real : Cert.Pre_swiglu_real.Facts] : Prop :=
  ∀ (m : (ℓ : Loc Cert.SwigluBwdReferenceIdeal.nD Cert.SwigluBwdReferenceIdeal.τ Cert.SwigluBwdReferenceIdeal.sig) → Buf (Elt Ideal) ℓ) (g : Dev Cert.SwigluBwdReferenceIdeal.nD → PrngReg), Pre_SwigluBwdReferenceIdeal_swiglu_real m →
    θ_run (Cert.SwigluBwdReferenceIdeal.defs (F := Ideal)) (onTc (τ := Cert.SwigluBwdReferenceIdeal.τ) (Cert.SwigluBwdReferenceIdeal.main (F := Ideal))) ⟨m, fun _ => 0, g⟩ (fun r => (∀ c : Dev Cert.SwigluBwdReferenceIdeal.nD,
      r.2.mem ((c.tc : Thread Cert.SwigluBwdReferenceIdeal.nD Cert.SwigluBwdReferenceIdeal.τ).loc Cert.SwigluBwdReferenceIdeal.main_arg0) = m ((c.tc : Thread Cert.SwigluBwdReferenceIdeal.nD Cert.SwigluBwdReferenceIdeal.τ).loc Cert.SwigluBwdReferenceIdeal.main_arg0)
      ∧ r.2.mem ((c.tc : Thread Cert.SwigluBwdReferenceIdeal.nD Cert.SwigluBwdReferenceIdeal.τ).loc Cert.SwigluBwdReferenceIdeal.main_arg1) = m ((c.tc : Thread Cert.SwigluBwdReferenceIdeal.nD Cert.SwigluBwdReferenceIdeal.τ).loc Cert.SwigluBwdReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3))
      ∧ r.2.sem = fun _ => 0)

def quiescent_MergeBwdKernel [hMergeBwdKernel : Cert.MergeBwdKernel.Facts] : Prop :=
  ∀ (m : (ℓ : Loc Cert.MergeBwdKernel.nD Cert.MergeBwdKernel.τ Cert.MergeBwdKernel.sig) → Buf (Elt Bits) ℓ) (g : Dev Cert.MergeBwdKernel.nD → PrngReg), Pre_MergeBwdKernel m →
    θ_run (Cert.MergeBwdKernel.defs (F := Bits)) (onTc (τ := Cert.MergeBwdKernel.τ) (Cert.MergeBwdKernel.main (F := Bits))) ⟨m, fun _ => 0, g⟩ (fun r => (∀ c : Dev Cert.MergeBwdKernel.nD,
      r.2.mem ((c.tc : Thread Cert.MergeBwdKernel.nD Cert.MergeBwdKernel.τ).loc Cert.MergeBwdKernel.main_arg0) = m ((c.tc : Thread Cert.MergeBwdKernel.nD Cert.MergeBwdKernel.τ).loc Cert.MergeBwdKernel.main_arg0)
      ∧ r.2.mem ((c.tc : Thread Cert.MergeBwdKernel.nD Cert.MergeBwdKernel.τ).loc Cert.MergeBwdKernel.main_arg1) = m ((c.tc : Thread Cert.MergeBwdKernel.nD Cert.MergeBwdKernel.τ).loc Cert.MergeBwdKernel.main_arg1)
      ∧ r.2.mem ((c.tc : Thread Cert.MergeBwdKernel.nD Cert.MergeBwdKernel.τ).loc Cert.MergeBwdKernel.main_arg2) = m ((c.tc : Thread Cert.MergeBwdKernel.nD Cert.MergeBwdKernel.τ).loc Cert.MergeBwdKernel.main_arg2)
      ∧ r.2.mem ((c.tc : Thread Cert.MergeBwdKernel.nD Cert.MergeBwdKernel.τ).loc Cert.MergeBwdKernel.main_arg3) = m ((c.tc : Thread Cert.MergeBwdKernel.nD Cert.MergeBwdKernel.τ).loc Cert.MergeBwdKernel.main_arg3)
      ∧ r.2.mem ((c.tc : Thread Cert.MergeBwdKernel.nD Cert.MergeBwdKernel.τ).loc Cert.MergeBwdKernel.main_arg4) = m ((c.tc : Thread Cert.MergeBwdKernel.nD Cert.MergeBwdKernel.τ).loc Cert.MergeBwdKernel.main_arg4))
      ∧ r.2.sem = fun _ => 0)

def quiescent_MergeBwdKernelIdeal [hMergeBwdKernelIdeal : Cert.MergeBwdKernelIdeal.Facts] : Prop :=
  ∀ (m : (ℓ : Loc Cert.MergeBwdKernelIdeal.nD Cert.MergeBwdKernelIdeal.τ Cert.MergeBwdKernelIdeal.sig) → Buf (Elt Ideal) ℓ) (g : Dev Cert.MergeBwdKernelIdeal.nD → PrngReg), Pre_MergeBwdKernelIdeal m →
    θ_run (Cert.MergeBwdKernelIdeal.defs (F := Ideal)) (onTc (τ := Cert.MergeBwdKernelIdeal.τ) (Cert.MergeBwdKernelIdeal.main (F := Ideal))) ⟨m, fun _ => 0, g⟩ (fun r => (∀ c : Dev Cert.MergeBwdKernelIdeal.nD,
      r.2.mem ((c.tc : Thread Cert.MergeBwdKernelIdeal.nD Cert.MergeBwdKernelIdeal.τ).loc Cert.MergeBwdKernelIdeal.main_arg0) = m ((c.tc : Thread Cert.MergeBwdKernelIdeal.nD Cert.MergeBwdKernelIdeal.τ).loc Cert.MergeBwdKernelIdeal.main_arg0)
      ∧ r.2.mem ((c.tc : Thread Cert.MergeBwdKernelIdeal.nD Cert.MergeBwdKernelIdeal.τ).loc Cert.MergeBwdKernelIdeal.main_arg1) = m ((c.tc : Thread Cert.MergeBwdKernelIdeal.nD Cert.MergeBwdKernelIdeal.τ).loc Cert.MergeBwdKernelIdeal.main_arg1)
      ∧ r.2.mem ((c.tc : Thread Cert.MergeBwdKernelIdeal.nD Cert.MergeBwdKernelIdeal.τ).loc Cert.MergeBwdKernelIdeal.main_arg2) = m ((c.tc : Thread Cert.MergeBwdKernelIdeal.nD Cert.MergeBwdKernelIdeal.τ).loc Cert.MergeBwdKernelIdeal.main_arg2)
      ∧ r.2.mem ((c.tc : Thread Cert.MergeBwdKernelIdeal.nD Cert.MergeBwdKernelIdeal.τ).loc Cert.MergeBwdKernelIdeal.main_arg3) = m ((c.tc : Thread Cert.MergeBwdKernelIdeal.nD Cert.MergeBwdKernelIdeal.τ).loc Cert.MergeBwdKernelIdeal.main_arg3)
      ∧ r.2.mem ((c.tc : Thread Cert.MergeBwdKernelIdeal.nD Cert.MergeBwdKernelIdeal.τ).loc Cert.MergeBwdKernelIdeal.main_arg4) = m ((c.tc : Thread Cert.MergeBwdKernelIdeal.nD Cert.MergeBwdKernelIdeal.τ).loc Cert.MergeBwdKernelIdeal.main_arg4))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3)
      ∧ r.2.mem ((c.tc : Thread Cert.MergeBwdReferenceIdeal.nD Cert.MergeBwdReferenceIdeal.τ).loc Cert.MergeBwdReferenceIdeal.main_arg4) = m ((c.tc : Thread Cert.MergeBwdReferenceIdeal.nD Cert.MergeBwdReferenceIdeal.τ).loc Cert.MergeBwdReferenceIdeal.main_arg4))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  IdealRules.named_const.Statement Cert.KernelIdeal.κ "gelu_k" .f32 0x3D372713#32 ((8943 / 200000 : ℝ) : EReal)
  ∧ IdealRules.named_const.Statement Cert.KernelIdeal.κ "gelu_3k" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_v208) = v2 c
          ∧ r.2.mem ((c.tc : Thread Cert.ReferenceIdeal.nD Cert.ReferenceIdeal.τ).loc Cert.ReferenceIdeal.main_v199) = v3 c
          ∧ r.2.mem ((c.tc : Thread Cert.ReferenceIdeal.nD Cert.ReferenceIdeal.τ).loc Cert.ReferenceIdeal.main_v164) = v4 c
          ∧ r.2.mem ((c.tc : Thread Cert.ReferenceIdeal.nD Cert.ReferenceIdeal.τ).loc Cert.ReferenceIdeal.main_v157) = v5 c
          ∧ r.2.mem ((c.tc : Thread Cert.ReferenceIdeal.nD Cert.ReferenceIdeal.τ).loc Cert.ReferenceIdeal.main_v154) = v6 c
          ∧ r.2.mem ((c.tc : Thread Cert.ReferenceIdeal.nD Cert.ReferenceIdeal.τ).loc Cert.ReferenceIdeal.main_v148) = v7 c
          ∧ r.2.mem ((c.tc : Thread Cert.ReferenceIdeal.nD Cert.ReferenceIdeal.τ).loc Cert.ReferenceIdeal.main_v143) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v0)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v2) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_InDxKernel_InDxKernelIdeal : Prop :=
  True

def algebraic_InDxKernelIdeal_InDxReferenceIdeal [hInDxKernelIdeal : Cert.InDxKernelIdeal.Facts] [hInDxReferenceIdeal : Cert.InDxReferenceIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxKernelIdeal m →
    (∀ c : Dev Cert.InDxKernelIdeal.nD,
      m' ((c.tc : Thread Cert.InDxReferenceIdeal.nD Cert.InDxReferenceIdeal.τ).loc Cert.InDxReferenceIdeal.main_arg0) = m ((c.tc : Thread Cert.InDxKernelIdeal.nD Cert.InDxKernelIdeal.τ).loc Cert.InDxKernelIdeal.main_arg0)
      ∧ m' ((c.tc : Thread Cert.InDxReferenceIdeal.nD Cert.InDxReferenceIdeal.τ).loc Cert.InDxReferenceIdeal.main_arg1) = m ((c.tc : Thread Cert.InDxKernelIdeal.nD Cert.InDxKernelIdeal.τ).loc Cert.InDxKernelIdeal.main_arg1)) →
    ∃ (v0 : (c : Dev Cert.InDxKernelIdeal.nD) → Buf (Elt Ideal) ((c.tc : Thread Cert.InDxKernelIdeal.nD Cert.InDxKernelIdeal.τ).loc Cert.InDxKernelIdeal.main_v0)),
      θ_run (Cert.InDxKernelIdeal.defs (F := Ideal)) (onTc (τ := Cert.InDxKernelIdeal.τ) (Cert.InDxKernelIdeal.main (F := Ideal))) ⟨m, fun _ => 0, g⟩ (fun r => ∀ c : Dev Cert.InDxKernelIdeal.nD,
          r.2.mem ((c.tc : Thread Cert.InDxKernelIdeal.nD Cert.InDxKernelIdeal.τ).loc Cert.InDxKernelIdeal.main_v0) = v0 c
          ∧ r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
          ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v4) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_InDwKernel_InDwKernelIdeal : Prop :=
  True

def algebraic_InDwKernelIdeal_InDwReferenceIdeal [hInDwKernelIdeal : Cert.InDwKernelIdeal.Facts] [hInDwReferenceIdeal : Cert.InDwReferenceIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwKernelIdeal m →
    (∀ c : Dev Cert.InDwKernelIdeal.nD,
      m' ((c.tc : Thread Cert.InDwReferenceIdeal.nD Cert.InDwReferenceIdeal.τ).loc Cert.InDwReferenceIdeal.main_arg0) = m ((c.tc : Thread Cert.InDwKernelIdeal.nD Cert.InDwKernelIdeal.τ).loc Cert.InDwKernelIdeal.main_arg0)
      ∧ m' ((c.tc : Thread Cert.InDwReferenceIdeal.nD Cert.InDwReferenceIdeal.τ).loc Cert.InDwReferenceIdeal.main_arg1) = m ((c.tc : Thread Cert.InDwKernelIdeal.nD Cert.InDwKernelIdeal.τ).loc Cert.InDwKernelIdeal.main_arg1)) →
    ∃ (v0 : (c : Dev Cert.InDwKernelIdeal.nD) → Buf (Elt Ideal) ((c.tc : Thread Cert.InDwKernelIdeal.nD Cert.InDwKernelIdeal.τ).loc Cert.InDwKernelIdeal.main_v0)),
      θ_run (Cert.InDwKernelIdeal.defs (F := Ideal)) (onTc (τ := Cert.InDwKernelIdeal.τ) (Cert.InDwKernelIdeal.main (F := Ideal))) ⟨m, fun _ => 0, g⟩ (fun r => ∀ c : Dev Cert.InDwKernelIdeal.nD,
          r.2.mem ((c.tc : Thread Cert.InDwKernelIdeal.nD Cert.InDwKernelIdeal.τ).loc Cert.InDwKernelIdeal.main_v0) = v0 c
          ∧ r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
          ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v5) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_UpDxKernel_UpDxKernelIdeal : Prop :=
  True

def algebraic_UpDxKernelIdeal_UpDxReferenceIdeal [hUpDxKernelIdeal : Cert.UpDxKernelIdeal.Facts] [hUpDxReferenceIdeal : Cert.UpDxReferenceIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxKernelIdeal m →
    (∀ c : Dev Cert.UpDxKernelIdeal.nD,
      m' ((c.tc : Thread Cert.UpDxReferenceIdeal.nD Cert.UpDxReferenceIdeal.τ).loc Cert.UpDxReferenceIdeal.main_arg0) = m ((c.tc : Thread Cert.UpDxKernelIdeal.nD Cert.UpDxKernelIdeal.τ).loc Cert.UpDxKernelIdeal.main_arg0)
      ∧ m' ((c.tc : Thread Cert.UpDxReferenceIdeal.nD Cert.UpDxReferenceIdeal.τ).loc Cert.UpDxReferenceIdeal.main_arg1) = m ((c.tc : Thread Cert.UpDxKernelIdeal.nD Cert.UpDxKernelIdeal.τ).loc Cert.UpDxKernelIdeal.main_arg1)) →
    ∃ (v0 : (c : Dev Cert.UpDxKernelIdeal.nD) → Buf (Elt Ideal) ((c.tc : Thread Cert.UpDxKernelIdeal.nD Cert.UpDxKernelIdeal.τ).loc Cert.UpDxKernelIdeal.main_v0)),
      θ_run (Cert.UpDxKernelIdeal.defs (F := Ideal)) (onTc (τ := Cert.UpDxKernelIdeal.τ) (Cert.UpDxKernelIdeal.main (F := Ideal))) ⟨m, fun _ => 0, g⟩ (fun r => ∀ c : Dev Cert.UpDxKernelIdeal.nD,
          r.2.mem ((c.tc : Thread Cert.UpDxKernelIdeal.nD Cert.UpDxKernelIdeal.τ).loc Cert.UpDxKernelIdeal.main_v0) = v0 c
          ∧ r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
          ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v4) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_UpDwKernel_UpDwKernelIdeal : Prop :=
  True

def algebraic_UpDwKernelIdeal_UpDwReferenceIdeal [hUpDwKernelIdeal : Cert.UpDwKernelIdeal.Facts] [hUpDwReferenceIdeal : Cert.UpDwReferenceIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwKernelIdeal m →
    (∀ c : Dev Cert.UpDwKernelIdeal.nD,
      m' ((c.tc : Thread Cert.UpDwReferenceIdeal.nD Cert.UpDwReferenceIdeal.τ).loc Cert.UpDwReferenceIdeal.main_arg0) = m ((c.tc : Thread Cert.UpDwKernelIdeal.nD Cert.UpDwKernelIdeal.τ).loc Cert.UpDwKernelIdeal.main_arg0)
      ∧ m' ((c.tc : Thread Cert.UpDwReferenceIdeal.nD Cert.UpDwReferenceIdeal.τ).loc Cert.UpDwReferenceIdeal.main_arg1) = m ((c.tc : Thread Cert.UpDwKernelIdeal.nD Cert.UpDwKernelIdeal.τ).loc Cert.UpDwKernelIdeal.main_arg1)) →
    ∃ (v0 : (c : Dev Cert.UpDwKernelIdeal.nD) → Buf (Elt Ideal) ((c.tc : Thread Cert.UpDwKernelIdeal.nD Cert.UpDwKernelIdeal.τ).loc Cert.UpDwKernelIdeal.main_v0)),
      θ_run (Cert.UpDwKernelIdeal.defs (F := Ideal)) (onTc (τ := Cert.UpDwKernelIdeal.τ) (Cert.UpDwKernelIdeal.main (F := Ideal))) ⟨m, fun _ => 0, g⟩ (fun r => ∀ c : Dev Cert.UpDwKernelIdeal.nD,
          r.2.mem ((c.tc : Thread Cert.UpDwKernelIdeal.nD Cert.UpDwKernelIdeal.τ).loc Cert.UpDwKernelIdeal.main_v0) = v0 c
          ∧ r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
          ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v5) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_DownDxKernel_DownDxKernelIdeal : Prop :=
  True

def algebraic_DownDxKernelIdeal_DownDxReferenceIdeal [hDownDxKernelIdeal : Cert.DownDxKernelIdeal.Facts] [hDownDxReferenceIdeal : Cert.DownDxReferenceIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxKernelIdeal m →
    (∀ c : Dev Cert.DownDxKernelIdeal.nD,
      m' ((c.tc : Thread Cert.DownDxReferenceIdeal.nD Cert.DownDxReferenceIdeal.τ).loc Cert.DownDxReferenceIdeal.main_arg0) = m ((c.tc : Thread Cert.DownDxKernelIdeal.nD Cert.DownDxKernelIdeal.τ).loc Cert.DownDxKernelIdeal.main_arg0)
      ∧ m' ((c.tc : Thread Cert.DownDxReferenceIdeal.nD Cert.DownDxReferenceIdeal.τ).loc Cert.DownDxReferenceIdeal.main_arg1) = m ((c.tc : Thread Cert.DownDxKernelIdeal.nD Cert.DownDxKernelIdeal.τ).loc Cert.DownDxKernelIdeal.main_arg1)) →
    ∃ (v0 : (c : Dev Cert.DownDxKernelIdeal.nD) → Buf (Elt Ideal) ((c.tc : Thread Cert.DownDxKernelIdeal.nD Cert.DownDxKernelIdeal.τ).loc Cert.DownDxKernelIdeal.main_v0)),
      θ_run (Cert.DownDxKernelIdeal.defs (F := Ideal)) (onTc (τ := Cert.DownDxKernelIdeal.τ) (Cert.DownDxKernelIdeal.main (F := Ideal))) ⟨m, fun _ => 0, g⟩ (fun r => ∀ c : Dev Cert.DownDxKernelIdeal.nD,
          r.2.mem ((c.tc : Thread Cert.DownDxKernelIdeal.nD Cert.DownDxKernelIdeal.τ).loc Cert.DownDxKernelIdeal.main_v0) = v0 c
          ∧ r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
          ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v3) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m' ((c.tc : Thread Cert.DownDwReferenceIdeal.nD Cert.DownDwReferenceIdeal.τ).loc Cert.DownDwReferenceIdeal.main_arg0) = m ((c.tc : Thread Cert.DownDwKernelIdeal.nD Cert.DownDwKernelIdeal.τ).loc Cert.DownDwKernelIdeal.main_arg0)
      ∧ m' ((c.tc : Thread Cert.DownDwReferenceIdeal.nD Cert.DownDwReferenceIdeal.τ).loc Cert.DownDwReferenceIdeal.main_arg1) = m ((c.tc : Thread Cert.DownDwKernelIdeal.nD Cert.DownDwKernelIdeal.τ).loc Cert.DownDwKernelIdeal.main_arg1)) →
    ∃ (v0 : (c : Dev Cert.DownDwKernelIdeal.nD) → Buf (Elt Ideal) ((c.tc : Thread Cert.DownDwKernelIdeal.nD Cert.DownDwKernelIdeal.τ).loc Cert.DownDwKernelIdeal.main_v0)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v0) = v0 c
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v4) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_SsmKernel_SsmKernelIdeal : Prop :=
  True

def algebraic_SsmKernelIdeal_SsmReferenceIdeal [hSsmKernelIdeal : Cert.SsmKernelIdeal.Facts] [hSsmReferenceIdeal : Cert.SsmReferenceIdeal.Facts] : Prop :=
  ∀ (m : (ℓ : Loc Cert.SsmKernelIdeal.nD Cert.SsmKernelIdeal.τ Cert.SsmKernelIdeal.sig) → Buf (Elt Ideal) ℓ) (g : Dev Cert.SsmKernelIdeal.nD → PrngReg)
    (m' : (ℓ : Loc Cert.SsmReferenceIdeal.nD Cert.SsmReferenceIdeal.τ Cert.SsmReferenceIdeal.sig) → Buf (Elt Ideal) ℓ) (g' : Dev Cert.SsmReferenceIdeal.nD → PrngReg), Pre_SsmKernelIdeal m →
    (∀ c : Dev Cert.SsmKernelIdeal.nD,
      m' ((c.tc : Thread Cert.SsmReferenceIdeal.nD Cert.SsmReferenceIdeal.τ).loc Cert.SsmReferenceIdeal.main_arg0) = m ((c.tc : Thread Cert.SsmKernelIdeal.nD Cert.SsmKernelIdeal.τ).loc Cert.SsmKernelIdeal.main_arg0)
      ∧ m' ((c.tc : Thread Cert.SsmReferenceIdeal.nD Cert.SsmReferenceIdeal.τ).loc Cert.SsmReferenceIdeal.main_arg1) = m ((c.tc : Thread Cert.SsmKernelIdeal.nD Cert.SsmKernelIdeal.τ).loc Cert.SsmKernelIdeal.main_arg1)) →
    ∃ (v0 : (c : Dev Cert.SsmKernelIdeal.nD) → Buf (Elt Ideal) ((c.tc : Thread Cert.SsmKernelIdeal.nD Cert.SsmKernelIdeal.τ).loc Cert.SsmKernelIdeal.main_v0)),
      θ_run (Cert.SsmKernelIdeal.defs (F := Ideal)) (onTc (τ := Cert.SsmKernelIdeal.τ) (Cert.SsmKernelIdeal.main (F := Ideal))) ⟨m, fun _ => 0, g⟩ (fun r => ∀ c : Dev Cert.SsmKernelIdeal.nD,
          r.2.mem ((c.tc : Thread Cert.SsmKernelIdeal.nD Cert.SsmKernelIdeal.τ).loc Cert.SsmKernelIdeal.main_v0) = v0 c
          ∧ r.2.mem ((c.tc : Thread Cert.SsmKernelIdeal.nD Cert.SsmKernelIdeal.τ).loc Cert.SsmKernelIdeal.main_arg0) = m ((c.tc : Thread Cert.SsmKernelIdeal.nD Cert.SsmKernelIdeal.τ).loc Cert.SsmKernelIdeal.main_arg0)
          ∧ r.2.mem ((c.tc : Thread Cert.SsmKernelIdeal.nD Cert.SsmKernelIdeal.τ).loc Cert.SsmKernelIdeal.main_arg1) = m ((c.tc : Thread Cert.SsmKernelIdeal.nD Cert.SsmKernelIdeal.τ).loc Cert.SsmKernelIdeal.main_arg1))
      ∧ θ_run (Cert.SsmReferenceIdeal.defs (F := Ideal)) (onTc (τ := Cert.SsmReferenceIdeal.τ) (Cert.SsmReferenceIdeal.main (F := Ideal))) ⟨m', fun _ => 0, g'⟩ (fun r => ∀ c : Dev Cert.SsmReferenceIdeal.nD,
          r.2.mem ((c.tc : Thread Cert.SsmReferenceIdeal.nD Cert.SsmReferenceIdeal.τ).loc Cert.SsmReferenceIdeal.main_v2) = v0 c
          ∧ r.2.mem ((c.tc : Thread Cert.SsmReferenceIdeal.nD Cert.SsmReferenceIdeal.τ).loc Cert.SsmReferenceIdeal.main_arg0) = m' ((c.tc : Thread Cert.SsmReferenceIdeal.nD Cert.SsmReferenceIdeal.τ).loc Cert.SsmReferenceIdeal.main_arg0)
          ∧ r.2.mem ((c.tc : Thread Cert.SsmReferenceIdeal.nD Cert.SsmReferenceIdeal.τ).loc Cert.SsmReferenceIdeal.main_arg1) = m' ((c.tc : Thread Cert.SsmReferenceIdeal.nD Cert.SsmReferenceIdeal.τ).loc Cert.SsmReferenceIdeal.main_arg1))

def preserves_SsmDxKernel_SsmDxKernelIdeal : Prop :=
  True

def algebraic_SsmDxKernelIdeal_SsmDxReferenceIdeal [hSsmDxKernelIdeal : Cert.SsmDxKernelIdeal.Facts] [hSsmDxReferenceIdeal : Cert.SsmDxReferenceIdeal.Facts] : Prop :=
  ∀ (m : (ℓ : Loc Cert.SsmDxKernelIdeal.nD Cert.SsmDxKernelIdeal.τ Cert.SsmDxKernelIdeal.sig) → Buf (Elt Ideal) ℓ) (g : Dev Cert.SsmDxKernelIdeal.nD → PrngReg)
    (m' : (ℓ : Loc Cert.SsmDxReferenceIdeal.nD Cert.SsmDxReferenceIdeal.τ Cert.SsmDxReferenceIdeal.sig) → Buf (Elt Ideal) ℓ) (g' : Dev Cert.SsmDxReferenceIdeal.nD → PrngReg), Pre_SsmDxKernelIdeal m →
    (∀ c : Dev Cert.SsmDxKernelIdeal.nD,
      m' ((c.tc : Thread Cert.SsmDxReferenceIdeal.nD Cert.SsmDxReferenceIdeal.τ).loc Cert.SsmDxReferenceIdeal.main_arg0) = m ((c.tc : Thread Cert.SsmDxKernelIdeal.nD Cert.SsmDxKernelIdeal.τ).loc Cert.SsmDxKernelIdeal.main_arg0)
      ∧ m' ((c.tc : Thread Cert.SsmDxReferenceIdeal.nD Cert.SsmDxReferenceIdeal.τ).loc Cert.SsmDxReferenceIdeal.main_arg1) = m ((c.tc : Thread Cert.SsmDxKernelIdeal.nD Cert.SsmDxKernelIdeal.τ).loc Cert.SsmDxKernelIdeal.main_arg1)) →
    ∃ (v0 : (c : Dev Cert.SsmDxKernelIdeal.nD) → Buf (Elt Ideal) ((c.tc : Thread Cert.SsmDxKernelIdeal.nD Cert.SsmDxKernelIdeal.τ).loc Cert.SsmDxKernelIdeal.main_v0)),
      θ_run (Cert.SsmDxKernelIdeal.defs (F := Ideal)) (onTc (τ := Cert.SsmDxKernelIdeal.τ) (Cert.SsmDxKernelIdeal.main (F := Ideal))) ⟨m, fun _ => 0, g⟩ (fun r => ∀ c : Dev Cert.SsmDxKernelIdeal.nD,
          r.2.mem ((c.tc : Thread Cert.SsmDxKernelIdeal.nD Cert.SsmDxKernelIdeal.τ).loc Cert.SsmDxKernelIdeal.main_v0) = v0 c
          ∧ r.2.mem ((c.tc : Thread Cert.SsmDxKernelIdeal.nD Cert.SsmDxKernelIdeal.τ).loc Cert.SsmDxKernelIdeal.main_arg0) = m ((c.tc : Thread Cert.SsmDxKernelIdeal.nD Cert.SsmDxKernelIdeal.τ).loc Cert.SsmDxKernelIdeal.main_arg0)
          ∧ r.2.mem ((c.tc : Thread Cert.SsmDxKernelIdeal.nD Cert.SsmDxKernelIdeal.τ).loc Cert.SsmDxKernelIdeal.main_arg1) = m ((c.tc : Thread Cert.SsmDxKernelIdeal.nD Cert.SsmDxKernelIdeal.τ).loc Cert.SsmDxKernelIdeal.main_arg1))
      ∧ θ_run (Cert.SsmDxReferenceIdeal.defs (F := Ideal)) (onTc (τ := Cert.SsmDxReferenceIdeal.τ) (Cert.SsmDxReferenceIdeal.main (F := Ideal))) ⟨m', fun _ => 0, g'⟩ (fun r => ∀ c : Dev Cert.SsmDxReferenceIdeal.nD,
          r.2.mem ((c.tc : Thread Cert.SsmDxReferenceIdeal.nD Cert.SsmDxReferenceIdeal.τ).loc Cert.SsmDxReferenceIdeal.main_v4) = v0 c
          ∧ r.2.mem ((c.tc : Thread Cert.SsmDxReferenceIdeal.nD Cert.SsmDxReferenceIdeal.τ).loc Cert.SsmDxReferenceIdeal.main_arg0) = m' ((c.tc : Thread Cert.SsmDxReferenceIdeal.nD Cert.SsmDxReferenceIdeal.τ).loc Cert.SsmDxReferenceIdeal.main_arg0)
          ∧ r.2.mem ((c.tc : Thread Cert.SsmDxReferenceIdeal.nD Cert.SsmDxReferenceIdeal.τ).loc Cert.SsmDxReferenceIdeal.main_arg1) = m' ((c.tc : Thread Cert.SsmDxReferenceIdeal.nD Cert.SsmDxReferenceIdeal.τ).loc Cert.SsmDxReferenceIdeal.main_arg1))

def preserves_SsmDwKernel_SsmDwKernelIdeal : Prop :=
  True

def algebraic_SsmDwKernelIdeal_SsmDwReferenceIdeal [hSsmDwKernelIdeal : Cert.SsmDwKernelIdeal.Facts] [hSsmDwReferenceIdeal : Cert.SsmDwReferenceIdeal.Facts] : Prop :=
  ∀ (m : (ℓ : Loc Cert.SsmDwKernelIdeal.nD Cert.SsmDwKernelIdeal.τ Cert.SsmDwKernelIdeal.sig) → Buf (Elt Ideal) ℓ) (g : Dev Cert.SsmDwKernelIdeal.nD → PrngReg)
    (m' : (ℓ : Loc Cert.SsmDwReferenceIdeal.nD Cert.SsmDwReferenceIdeal.τ Cert.SsmDwReferenceIdeal.sig) → Buf (Elt Ideal) ℓ) (g' : Dev Cert.SsmDwReferenceIdeal.nD → PrngReg), Pre_SsmDwKernelIdeal m →
    (∀ c : Dev Cert.SsmDwKernelIdeal.nD,
      m' ((c.tc : Thread Cert.SsmDwReferenceIdeal.nD Cert.SsmDwReferenceIdeal.τ).loc Cert.SsmDwReferenceIdeal.main_arg0) = m ((c.tc : Thread Cert.SsmDwKernelIdeal.nD Cert.SsmDwKernelIdeal.τ).loc Cert.SsmDwKernelIdeal.main_arg0)
      ∧ m' ((c.tc : Thread Cert.SsmDwReferenceIdeal.nD Cert.SsmDwReferenceIdeal.τ).loc Cert.SsmDwReferenceIdeal.main_arg1) = m ((c.tc : Thread Cert.SsmDwKernelIdeal.nD Cert.SsmDwKernelIdeal.τ).loc Cert.SsmDwKernelIdeal.main_arg1)) →
    ∃ (v0 : (c : Dev Cert.SsmDwKernelIdeal.nD) → Buf (Elt Ideal) ((c.tc : Thread Cert.SsmDwKernelIdeal.nD Cert.SsmDwKernelIdeal.τ).loc Cert.SsmDwKernelIdeal.main_v0)),
      θ_run (Cert.SsmDwKernelIdeal.defs (F := Ideal)) (onTc (τ := Cert.SsmDwKernelIdeal.τ) (Cert.SsmDwKernelIdeal.main (F := Ideal))) ⟨m, fun _ => 0, g⟩ (fun r => ∀ c : Dev Cert.SsmDwKernelIdeal.nD,
          r.2.mem ((c.tc : Thread Cert.SsmDwKernelIdeal.nD Cert.SsmDwKernelIdeal.τ).loc Cert.SsmDwKernelIdeal.main_v0) = v0 c
          ∧ r.2.mem ((c.tc : Thread Cert.SsmDwKernelIdeal.nD Cert.SsmDwKernelIdeal.τ).loc Cert.SsmDwKernelIdeal.main_arg0) = m ((c.tc : Thread Cert.SsmDwKernelIdeal.nD Cert.SsmDwKernelIdeal.τ).loc Cert.SsmDwKernelIdeal.main_arg0)
          ∧ r.2.mem ((c.tc : Thread Cert.SsmDwKernelIdeal.nD Cert.SsmDwKernelIdeal.τ).loc Cert.SsmDwKernelIdeal.main_arg1) = m ((c.tc : Thread Cert.SsmDwKernelIdeal.nD Cert.SsmDwKernelIdeal.τ).loc Cert.SsmDwKernelIdeal.main_arg1))
      ∧ θ_run (Cert.SsmDwReferenceIdeal.defs (F := Ideal)) (onTc (τ := Cert.SsmDwReferenceIdeal.τ) (Cert.SsmDwReferenceIdeal.main (F := Ideal))) ⟨m', fun _ => 0, g'⟩ (fun r => ∀ c : Dev Cert.SsmDwReferenceIdeal.nD,
          r.2.mem ((c.tc : Thread Cert.SsmDwReferenceIdeal.nD Cert.SsmDwReferenceIdeal.τ).loc Cert.SsmDwReferenceIdeal.main_v5) = v0 c
          ∧ r.2.mem ((c.tc : Thread Cert.SsmDwReferenceIdeal.nD Cert.SsmDwReferenceIdeal.τ).loc Cert.SsmDwReferenceIdeal.main_arg0) = m' ((c.tc : Thread Cert.SsmDwReferenceIdeal.nD Cert.SsmDwReferenceIdeal.τ).loc Cert.SsmDwReferenceIdeal.main_arg0)
          ∧ r.2.mem ((c.tc : Thread Cert.SsmDwReferenceIdeal.nD Cert.SsmDwReferenceIdeal.τ).loc Cert.SsmDwReferenceIdeal.main_arg1) = m' ((c.tc : Thread Cert.SsmDwReferenceIdeal.nD Cert.SsmDwReferenceIdeal.τ).loc Cert.SsmDwReferenceIdeal.main_arg1))

def preserves_RecKernel_RecKernelIdeal : Prop :=
  True

def algebraic_RecKernelIdeal_RecReferenceIdeal [hRecKernelIdeal : Cert.RecKernelIdeal.Facts] [hRecReferenceIdeal : Cert.RecReferenceIdeal.Facts] : Prop :=
  ∀ (m : (ℓ : Loc Cert.RecKernelIdeal.nD Cert.RecKernelIdeal.τ Cert.RecKernelIdeal.sig) → Buf (Elt Ideal) ℓ) (g : Dev Cert.RecKernelIdeal.nD → PrngReg)
    (m' : (ℓ : Loc Cert.RecReferenceIdeal.nD Cert.RecReferenceIdeal.τ Cert.RecReferenceIdeal.sig) → Buf (Elt Ideal) ℓ) (g' : Dev Cert.RecReferenceIdeal.nD → PrngReg), Pre_RecKernelIdeal m →
    (∀ c : Dev Cert.RecKernelIdeal.nD,
      m' ((c.tc : Thread Cert.RecReferenceIdeal.nD Cert.RecReferenceIdeal.τ).loc Cert.RecReferenceIdeal.main_arg0) = m ((c.tc : Thread Cert.RecKernelIdeal.nD Cert.RecKernelIdeal.τ).loc Cert.RecKernelIdeal.main_arg0)
      ∧ m' ((c.tc : Thread Cert.RecReferenceIdeal.nD Cert.RecReferenceIdeal.τ).loc Cert.RecReferenceIdeal.main_arg1) = m ((c.tc : Thread Cert.RecKernelIdeal.nD Cert.RecKernelIdeal.τ).loc Cert.RecKernelIdeal.main_arg1)) →
    ∃ (v0 : (c : Dev Cert.RecKernelIdeal.nD) → Buf (Elt Ideal) ((c.tc : Thread Cert.RecKernelIdeal.nD Cert.RecKernelIdeal.τ).loc Cert.RecKernelIdeal.main_v0)),
      θ_run (Cert.RecKernelIdeal.defs (F := Ideal)) (onTc (τ := Cert.RecKernelIdeal.τ) (Cert.RecKernelIdeal.main (F := Ideal))) ⟨m, fun _ => 0, g⟩ (fun r => ∀ c : Dev Cert.RecKernelIdeal.nD,
          r.2.mem ((c.tc : Thread Cert.RecKernelIdeal.nD Cert.RecKernelIdeal.τ).loc Cert.RecKernelIdeal.main_v0) = v0 c
          ∧ r.2.mem ((c.tc : Thread Cert.RecKernelIdeal.nD Cert.RecKernelIdeal.τ).loc Cert.RecKernelIdeal.main_arg0) = m ((c.tc : Thread Cert.RecKernelIdeal.nD Cert.RecKernelIdeal.τ).loc Cert.RecKernelIdeal.main_arg0)
          ∧ r.2.mem ((c.tc : Thread Cert.RecKernelIdeal.nD Cert.RecKernelIdeal.τ).loc Cert.RecKernelIdeal.main_arg1) = m ((c.tc : Thread Cert.RecKernelIdeal.nD Cert.RecKernelIdeal.τ).loc Cert.RecKernelIdeal.main_arg1))
      ∧ θ_run (Cert.RecReferenceIdeal.defs (F := Ideal)) (onTc (τ := Cert.RecReferenceIdeal.τ) (Cert.RecReferenceIdeal.main (F := Ideal))) ⟨m', fun _ => 0, g'⟩ (fun r => ∀ c : Dev Cert.RecReferenceIdeal.nD,
          r.2.mem ((c.tc : Thread Cert.RecReferenceIdeal.nD Cert.RecReferenceIdeal.τ).loc Cert.RecReferenceIdeal.main_v2) = v0 c
          ∧ r.2.mem ((c.tc : Thread Cert.RecReferenceIdeal.nD Cert.RecReferenceIdeal.τ).loc Cert.RecReferenceIdeal.main_arg0) = m' ((c.tc : Thread Cert.RecReferenceIdeal.nD Cert.RecReferenceIdeal.τ).loc Cert.RecReferenceIdeal.main_arg0)
          ∧ r.2.mem ((c.tc : Thread Cert.RecReferenceIdeal.nD Cert.RecReferenceIdeal.τ).loc Cert.RecReferenceIdeal.main_arg1) = m' ((c.tc : Thread Cert.RecReferenceIdeal.nD Cert.RecReferenceIdeal.τ).loc Cert.RecReferenceIdeal.main_arg1))

def preserves_RecDxKernel_RecDxKernelIdeal : Prop :=
  True

def algebraic_RecDxKernelIdeal_RecDxReferenceIdeal [hRecDxKernelIdeal : Cert.RecDxKernelIdeal.Facts] [hRecDxReferenceIdeal : Cert.RecDxReferenceIdeal.Facts] : Prop :=
  ∀ (m : (ℓ : Loc Cert.RecDxKernelIdeal.nD Cert.RecDxKernelIdeal.τ Cert.RecDxKernelIdeal.sig) → Buf (Elt Ideal) ℓ) (g : Dev Cert.RecDxKernelIdeal.nD → PrngReg)
    (m' : (ℓ : Loc Cert.RecDxReferenceIdeal.nD Cert.RecDxReferenceIdeal.τ Cert.RecDxReferenceIdeal.sig) → Buf (Elt Ideal) ℓ) (g' : Dev Cert.RecDxReferenceIdeal.nD → PrngReg), Pre_RecDxKernelIdeal m →
    (∀ c : Dev Cert.RecDxKernelIdeal.nD,
      m' ((c.tc : Thread Cert.RecDxReferenceIdeal.nD Cert.RecDxReferenceIdeal.τ).loc Cert.RecDxReferenceIdeal.main_arg0) = m ((c.tc : Thread Cert.RecDxKernelIdeal.nD Cert.RecDxKernelIdeal.τ).loc Cert.RecDxKernelIdeal.main_arg0)
      ∧ m' ((c.tc : Thread Cert.RecDxReferenceIdeal.nD Cert.RecDxReferenceIdeal.τ).loc Cert.RecDxReferenceIdeal.main_arg1) = m ((c.tc : Thread Cert.RecDxKernelIdeal.nD Cert.RecDxKernelIdeal.τ).loc Cert.RecDxKernelIdeal.main_arg1)) →
    ∃ (v0 : (c : Dev Cert.RecDxKernelIdeal.nD) → Buf (Elt Ideal) ((c.tc : Thread Cert.RecDxKernelIdeal.nD Cert.RecDxKernelIdeal.τ).loc Cert.RecDxKernelIdeal.main_v0)),
      θ_run (Cert.RecDxKernelIdeal.defs (F := Ideal)) (onTc (τ := Cert.RecDxKernelIdeal.τ) (Cert.RecDxKernelIdeal.main (F := Ideal))) ⟨m, fun _ => 0, g⟩ (fun r => ∀ c : Dev Cert.RecDxKernelIdeal.nD,
          r.2.mem ((c.tc : Thread Cert.RecDxKernelIdeal.nD Cert.RecDxKernelIdeal.τ).loc Cert.RecDxKernelIdeal.main_v0) = v0 c
          ∧ r.2.mem ((c.tc : Thread Cert.RecDxKernelIdeal.nD Cert.RecDxKernelIdeal.τ).loc Cert.RecDxKernelIdeal.main_arg0) = m ((c.tc : Thread Cert.RecDxKernelIdeal.nD Cert.RecDxKernelIdeal.τ).loc Cert.RecDxKernelIdeal.main_arg0)
          ∧ r.2.mem ((c.tc : Thread Cert.RecDxKernelIdeal.nD Cert.RecDxKernelIdeal.τ).loc Cert.RecDxKernelIdeal.main_arg1) = m ((c.tc : Thread Cert.RecDxKernelIdeal.nD Cert.RecDxKernelIdeal.τ).loc Cert.RecDxKernelIdeal.main_arg1))
      ∧ θ_run (Cert.RecDxReferenceIdeal.defs (F := Ideal)) (onTc (τ := Cert.RecDxReferenceIdeal.τ) (Cert.RecDxReferenceIdeal.main (F := Ideal))) ⟨m', fun _ => 0, g'⟩ (fun r => ∀ c : Dev Cert.RecDxReferenceIdeal.nD,
          r.2.mem ((c.tc : Thread Cert.RecDxReferenceIdeal.nD Cert.RecDxReferenceIdeal.τ).loc Cert.RecDxReferenceIdeal.main_v4) = v0 c
          ∧ r.2.mem ((c.tc : Thread Cert.RecDxReferenceIdeal.nD Cert.RecDxReferenceIdeal.τ).loc Cert.RecDxReferenceIdeal.main_arg0) = m' ((c.tc : Thread Cert.RecDxReferenceIdeal.nD Cert.RecDxReferenceIdeal.τ).loc Cert.RecDxReferenceIdeal.main_arg0)
          ∧ r.2.mem ((c.tc : Thread Cert.RecDxReferenceIdeal.nD Cert.RecDxReferenceIdeal.τ).loc Cert.RecDxReferenceIdeal.main_arg1) = m' ((c.tc : Thread Cert.RecDxReferenceIdeal.nD Cert.RecDxReferenceIdeal.τ).loc Cert.RecDxReferenceIdeal.main_arg1))

def preserves_RecDwKernel_RecDwKernelIdeal : Prop :=
  True

def algebraic_RecDwKernelIdeal_RecDwReferenceIdeal [hRecDwKernelIdeal : Cert.RecDwKernelIdeal.Facts] [hRecDwReferenceIdeal : Cert.RecDwReferenceIdeal.Facts] : Prop :=
  ∀ (m : (ℓ : Loc Cert.RecDwKernelIdeal.nD Cert.RecDwKernelIdeal.τ Cert.RecDwKernelIdeal.sig) → Buf (Elt Ideal) ℓ) (g : Dev Cert.RecDwKernelIdeal.nD → PrngReg)
    (m' : (ℓ : Loc Cert.RecDwReferenceIdeal.nD Cert.RecDwReferenceIdeal.τ Cert.RecDwReferenceIdeal.sig) → Buf (Elt Ideal) ℓ) (g' : Dev Cert.RecDwReferenceIdeal.nD → PrngReg), Pre_RecDwKernelIdeal m →
    (∀ c : Dev Cert.RecDwKernelIdeal.nD,
      m' ((c.tc : Thread Cert.RecDwReferenceIdeal.nD Cert.RecDwReferenceIdeal.τ).loc Cert.RecDwReferenceIdeal.main_arg0) = m ((c.tc : Thread Cert.RecDwKernelIdeal.nD Cert.RecDwKernelIdeal.τ).loc Cert.RecDwKernelIdeal.main_arg0)
      ∧ m' ((c.tc : Thread Cert.RecDwReferenceIdeal.nD Cert.RecDwReferenceIdeal.τ).loc Cert.RecDwReferenceIdeal.main_arg1) = m ((c.tc : Thread Cert.RecDwKernelIdeal.nD Cert.RecDwKernelIdeal.τ).loc Cert.RecDwKernelIdeal.main_arg1)) →
    ∃ (v0 : (c : Dev Cert.RecDwKernelIdeal.nD) → Buf (Elt Ideal) ((c.tc : Thread Cert.RecDwKernelIdeal.nD Cert.RecDwKernelIdeal.τ).loc Cert.RecDwKernelIdeal.main_v0)),
      θ_run (Cert.RecDwKernelIdeal.defs (F := Ideal)) (onTc (τ := Cert.RecDwKernelIdeal.τ) (Cert.RecDwKernelIdeal.main (F := Ideal))) ⟨m, fun _ => 0, g⟩ (fun r => ∀ c : Dev Cert.RecDwKernelIdeal.nD,
          r.2.mem ((c.tc : Thread Cert.RecDwKernelIdeal.nD Cert.RecDwKernelIdeal.τ).loc Cert.RecDwKernelIdeal.main_v0) = v0 c
          ∧ r.2.mem ((c.tc : Thread Cert.RecDwKernelIdeal.nD Cert.RecDwKernelIdeal.τ).loc Cert.RecDwKernelIdeal.main_arg0) = m ((c.tc : Thread Cert.RecDwKernelIdeal.nD Cert.RecDwKernelIdeal.τ).loc Cert.RecDwKernelIdeal.main_arg0)
          ∧ r.2.mem ((c.tc : Thread Cert.RecDwKernelIdeal.nD Cert.RecDwKernelIdeal.τ).loc Cert.RecDwKernelIdeal.main_arg1) = m ((c.tc : Thread Cert.RecDwKernelIdeal.nD Cert.RecDwKernelIdeal.τ).loc Cert.RecDwKernelIdeal.main_arg1))
      ∧ θ_run (Cert.RecDwReferenceIdeal.defs (F := Ideal)) (onTc (τ := Cert.RecDwReferenceIdeal.τ) (Cert.RecDwReferenceIdeal.main (F := Ideal))) ⟨m', fun _ => 0, g'⟩ (fun r => ∀ c : Dev Cert.RecDwReferenceIdeal.nD,
          r.2.mem ((c.tc : Thread Cert.RecDwReferenceIdeal.nD Cert.RecDwReferenceIdeal.τ).loc Cert.RecDwReferenceIdeal.main_v5) = v0 c
          ∧ r.2.mem ((c.tc : Thread Cert.RecDwReferenceIdeal.nD Cert.RecDwReferenceIdeal.τ).loc Cert.RecDwReferenceIdeal.main_arg0) = m' ((c.tc : Thread Cert.RecDwReferenceIdeal.nD Cert.RecDwReferenceIdeal.τ).loc Cert.RecDwReferenceIdeal.main_arg0)
          ∧ r.2.mem ((c.tc : Thread Cert.RecDwReferenceIdeal.nD Cert.RecDwReferenceIdeal.τ).loc Cert.RecDwReferenceIdeal.main_arg1) = m' ((c.tc : Thread Cert.RecDwReferenceIdeal.nD Cert.RecDwReferenceIdeal.τ).loc Cert.RecDwReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_OutDxKernel_OutDxKernelIdeal : Prop :=
  True

def algebraic_OutDxKernelIdeal_OutDxReferenceIdeal [hOutDxKernelIdeal : Cert.OutDxKernelIdeal.Facts] [hOutDxReferenceIdeal : Cert.OutDxReferenceIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxKernelIdeal m →
    (∀ c : Dev Cert.OutDxKernelIdeal.nD,
      m' ((c.tc : Thread Cert.OutDxReferenceIdeal.nD Cert.OutDxReferenceIdeal.τ).loc Cert.OutDxReferenceIdeal.main_arg0) = m ((c.tc : Thread Cert.OutDxKernelIdeal.nD Cert.OutDxKernelIdeal.τ).loc Cert.OutDxKernelIdeal.main_arg0)
      ∧ m' ((c.tc : Thread Cert.OutDxReferenceIdeal.nD Cert.OutDxReferenceIdeal.τ).loc Cert.OutDxReferenceIdeal.main_arg1) = m ((c.tc : Thread Cert.OutDxKernelIdeal.nD Cert.OutDxKernelIdeal.τ).loc Cert.OutDxKernelIdeal.main_arg1)) →
    ∃ (v0 : (c : Dev Cert.OutDxKernelIdeal.nD) → Buf (Elt Ideal) ((c.tc : Thread Cert.OutDxKernelIdeal.nD Cert.OutDxKernelIdeal.τ).loc Cert.OutDxKernelIdeal.main_v0)),
      θ_run (Cert.OutDxKernelIdeal.defs (F := Ideal)) (onTc (τ := Cert.OutDxKernelIdeal.τ) (Cert.OutDxKernelIdeal.main (F := Ideal))) ⟨m, fun _ => 0, g⟩ (fun r => ∀ c : Dev Cert.OutDxKernelIdeal.nD,
          r.2.mem ((c.tc : Thread Cert.OutDxKernelIdeal.nD Cert.OutDxKernelIdeal.τ).loc Cert.OutDxKernelIdeal.main_v0) = v0 c
          ∧ r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
          ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDwKernel_OutDwKernelIdeal : Prop :=
  True

def algebraic_OutDwKernelIdeal_OutDwReferenceIdeal [hOutDwKernelIdeal : Cert.OutDwKernelIdeal.Facts] [hOutDwReferenceIdeal : Cert.OutDwReferenceIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwKernelIdeal m →
    (∀ c : Dev Cert.OutDwKernelIdeal.nD,
      m' ((c.tc : Thread Cert.OutDwReferenceIdeal.nD Cert.OutDwReferenceIdeal.τ).loc Cert.OutDwReferenceIdeal.main_arg0) = m ((c.tc : Thread Cert.OutDwKernelIdeal.nD Cert.OutDwKernelIdeal.τ).loc Cert.OutDwKernelIdeal.main_arg0)
      ∧ m' ((c.tc : Thread Cert.OutDwReferenceIdeal.nD Cert.OutDwReferenceIdeal.τ).loc Cert.OutDwReferenceIdeal.main_arg1) = m ((c.tc : Thread Cert.OutDwKernelIdeal.nD Cert.OutDwKernelIdeal.τ).loc Cert.OutDwKernelIdeal.main_arg1)) →
    ∃ (v0 : (c : Dev Cert.OutDwKernelIdeal.nD) → Buf (Elt Ideal) ((c.tc : Thread Cert.OutDwKernelIdeal.nD Cert.OutDwKernelIdeal.τ).loc Cert.OutDwKernelIdeal.main_v0)),
      θ_run (Cert.OutDwKernelIdeal.defs (F := Ideal)) (onTc (τ := Cert.OutDwKernelIdeal.τ) (Cert.OutDwKernelIdeal.main (F := Ideal))) ⟨m, fun _ => 0, g⟩ (fun r => ∀ c : Dev Cert.OutDwKernelIdeal.nD,
          r.2.mem ((c.tc : Thread Cert.OutDwKernelIdeal.nD Cert.OutDwKernelIdeal.τ).loc Cert.OutDwKernelIdeal.main_v0) = v0 c
          ∧ r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
          ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v4) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_SwigluKernel_SwigluKernelIdeal : Prop :=
  True

def algebraic_SwigluKernelIdeal_SwigluReferenceIdeal [hSwigluKernelIdeal : Cert.SwigluKernelIdeal.Facts] [hSwigluReferenceIdeal : Cert.SwigluReferenceIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluKernelIdeal m →
    (∀ c : Dev Cert.SwigluKernelIdeal.nD,
      m' ((c.tc : Thread Cert.SwigluReferenceIdeal.nD Cert.SwigluReferenceIdeal.τ).loc Cert.SwigluReferenceIdeal.main_arg0) = m ((c.tc : Thread Cert.SwigluKernelIdeal.nD Cert.SwigluKernelIdeal.τ).loc Cert.SwigluKernelIdeal.main_arg0)) →
    ∃ (v0 : (c : Dev Cert.SwigluKernelIdeal.nD) → Buf (Elt Ideal) ((c.tc : Thread Cert.SwigluKernelIdeal.nD Cert.SwigluKernelIdeal.τ).loc Cert.SwigluKernelIdeal.main_v0)),
      θ_run (Cert.SwigluKernelIdeal.defs (F := Ideal)) (onTc (τ := Cert.SwigluKernelIdeal.τ) (Cert.SwigluKernelIdeal.main (F := Ideal))) ⟨m, fun _ => 0, g⟩ (fun r => ∀ c : Dev Cert.SwigluKernelIdeal.nD,
          r.2.mem ((c.tc : Thread Cert.SwigluKernelIdeal.nD Cert.SwigluKernelIdeal.τ).loc Cert.SwigluKernelIdeal.main_v0) = v0 c
          ∧ r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v10) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0))

def preserves_SwigluBwdKernel_SwigluBwdKernelIdeal : Prop :=
  True

def algebraic_SwigluBwdKernelIdeal_SwigluBwdReferenceIdeal_pre_swiglu_real [hSwigluBwdKernelIdeal : Cert.SwigluBwdKernelIdeal.Facts] [hSwigluBwdReferenceIdeal : Cert.SwigluBwdReferenceIdeal.Facts] [hPre_swiglu_real : Cert.Pre_swiglu_real.Facts] : Prop :=
  ∀ (m : (ℓ : Loc Cert.SwigluBwdKernelIdeal.nD Cert.SwigluBwdKernelIdeal.τ Cert.SwigluBwdKernelIdeal.sig) → Buf (Elt Ideal) ℓ) (g : Dev Cert.SwigluBwdKernelIdeal.nD → PrngReg)
    (m' : (ℓ : Loc Cert.SwigluBwdReferenceIdeal.nD Cert.SwigluBwdReferenceIdeal.τ Cert.SwigluBwdReferenceIdeal.sig) → Buf (Elt Ideal) ℓ) (g' : Dev Cert.SwigluBwdReferenceIdeal.nD → PrngReg), Pre_SwigluBwdKernelIdeal_swiglu_real m →
    (∀ c : Dev Cert.SwigluBwdKernelIdeal.nD,
      m' ((c.tc : Thread Cert.SwigluBwdReferenceIdeal.nD Cert.SwigluBwdReferenceIdeal.τ).loc Cert.SwigluBwdReferenceIdeal.main_arg0) = m ((c.tc : Thread Cert.SwigluBwdKernelIdeal.nD Cert.SwigluBwdKernelIdeal.τ).loc Cert.SwigluBwdKernelIdeal.main_arg0)
      ∧ m' ((c.tc : Thread Cert.SwigluBwdReferenceIdeal.nD Cert.SwigluBwdReferenceIdeal.τ).loc Cert.SwigluBwdReferenceIdeal.main_arg1) = m ((c.tc : Thread Cert.SwigluBwdKernelIdeal.nD Cert.SwigluBwdKernelIdeal.τ).loc Cert.SwigluBwdKernelIdeal.main_arg1)) →
    ∃ (v0 : (c : Dev Cert.SwigluBwdKernelIdeal.nD) → Buf (Elt Ideal) ((c.tc : Thread Cert.SwigluBwdKernelIdeal.nD Cert.SwigluBwdKernelIdeal.τ).loc Cert.SwigluBwdKernelIdeal.main_v0)),
      θ_run (Cert.SwigluBwdKernelIdeal.defs (F := Ideal)) (onTc (τ := Cert.SwigluBwdKernelIdeal.τ) (Cert.SwigluBwdKernelIdeal.main (F := Ideal))) ⟨m, fun _ => 0, g⟩ (fun r => ∀ c : Dev Cert.SwigluBwdKernelIdeal.nD,
          r.2.mem ((c.tc : Thread Cert.SwigluBwdKernelIdeal.nD Cert.SwigluBwdKernelIdeal.τ).loc Cert.SwigluBwdKernelIdeal.main_v0) = v0 c
          ∧ r.2.mem ((c.tc : Thread Cert.SwigluBwdKernelIdeal.nD Cert.SwigluBwdKernelIdeal.τ).loc Cert.SwigluBwdKernelIdeal.main_arg0) = m ((c.tc : Thread Cert.SwigluBwdKernelIdeal.nD Cert.SwigluBwdKernelIdeal.τ).loc Cert.SwigluBwdKernelIdeal.main_arg0)
          ∧ r.2.mem ((c.tc : Thread Cert.SwigluBwdKernelIdeal.nD Cert.SwigluBwdKernelIdeal.τ).loc Cert.SwigluBwdKernelIdeal.main_arg1) = m ((c.tc : Thread Cert.SwigluBwdKernelIdeal.nD Cert.SwigluBwdKernelIdeal.τ).loc Cert.SwigluBwdKernelIdeal.main_arg1))
      ∧ θ_run (Cert.SwigluBwdReferenceIdeal.defs (F := Ideal)) (onTc (τ := Cert.SwigluBwdReferenceIdeal.τ) (Cert.SwigluBwdReferenceIdeal.main (F := Ideal))) ⟨m', fun _ => 0, g'⟩ (fun r => ∀ c : Dev Cert.SwigluBwdReferenceIdeal.nD,
          r.2.mem ((c.tc : Thread Cert.SwigluBwdReferenceIdeal.nD Cert.SwigluBwdReferenceIdeal.τ).loc Cert.SwigluBwdReferenceIdeal.main_v20) = v0 c
          ∧ r.2.mem ((c.tc : Thread Cert.SwigluBwdReferenceIdeal.nD Cert.SwigluBwdReferenceIdeal.τ).loc Cert.SwigluBwdReferenceIdeal.main_arg0) = m' ((c.tc : Thread Cert.SwigluBwdReferenceIdeal.nD Cert.SwigluBwdReferenceIdeal.τ).loc Cert.SwigluBwdReferenceIdeal.main_arg0)
          ∧ r.2.mem ((c.tc : Thread Cert.SwigluBwdReferenceIdeal.nD Cert.SwigluBwdReferenceIdeal.τ).loc Cert.SwigluBwdReferenceIdeal.main_arg1) = m' ((c.tc : Thread Cert.SwigluBwdReferenceIdeal.nD Cert.SwigluBwdReferenceIdeal.τ).loc Cert.SwigluBwdReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)) →
    ∃ (v0 : (c : Dev Cert.MergeKernelIdeal.nD) → Buf (Elt Ideal) ((c.tc : Thread Cert.MergeKernelIdeal.nD Cert.MergeKernelIdeal.τ).loc Cert.MergeKernelIdeal.main_v0)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v14) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3))

def preserves_MergeBwdKernel_MergeBwdKernelIdeal : Prop :=
  True

def algebraic_MergeBwdKernelIdeal_MergeBwdReferenceIdeal [hMergeBwdKernelIdeal : Cert.MergeBwdKernelIdeal.Facts] [hMergeBwdReferenceIdeal : Cert.MergeBwdReferenceIdeal.Facts] : Prop :=
  ∀ (m : (ℓ : Loc Cert.MergeBwdKernelIdeal.nD Cert.MergeBwdKernelIdeal.τ Cert.MergeBwdKernelIdeal.sig) → Buf (Elt Ideal) ℓ) (g : Dev Cert.MergeBwdKernelIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdKernelIdeal m →
    (∀ c : Dev Cert.MergeBwdKernelIdeal.nD,
      m' ((c.tc : Thread Cert.MergeBwdReferenceIdeal.nD Cert.MergeBwdReferenceIdeal.τ).loc Cert.MergeBwdReferenceIdeal.main_arg0) = m ((c.tc : Thread Cert.MergeBwdKernelIdeal.nD Cert.MergeBwdKernelIdeal.τ).loc Cert.MergeBwdKernelIdeal.main_arg0)
      ∧ m' ((c.tc : Thread Cert.MergeBwdReferenceIdeal.nD Cert.MergeBwdReferenceIdeal.τ).loc Cert.MergeBwdReferenceIdeal.main_arg1) = m ((c.tc : Thread Cert.MergeBwdKernelIdeal.nD Cert.MergeBwdKernelIdeal.τ).loc Cert.MergeBwdKernelIdeal.main_arg1)
      ∧ m' ((c.tc : Thread Cert.MergeBwdReferenceIdeal.nD Cert.MergeBwdReferenceIdeal.τ).loc Cert.MergeBwdReferenceIdeal.main_arg2) = m ((c.tc : Thread Cert.MergeBwdKernelIdeal.nD Cert.MergeBwdKernelIdeal.τ).loc Cert.MergeBwdKernelIdeal.main_arg2)
      ∧ m' ((c.tc : Thread Cert.MergeBwdReferenceIdeal.nD Cert.MergeBwdReferenceIdeal.τ).loc Cert.MergeBwdReferenceIdeal.main_arg3) = m ((c.tc : Thread Cert.MergeBwdKernelIdeal.nD Cert.MergeBwdKernelIdeal.τ).loc Cert.MergeBwdKernelIdeal.main_arg3)
      ∧ m' ((c.tc : Thread Cert.MergeBwdReferenceIdeal.nD Cert.MergeBwdReferenceIdeal.τ).loc Cert.MergeBwdReferenceIdeal.main_arg4) = m ((c.tc : Thread Cert.MergeBwdKernelIdeal.nD Cert.MergeBwdKernelIdeal.τ).loc Cert.MergeBwdKernelIdeal.main_arg4)) →
    ∃ (v0 : (c : Dev Cert.MergeBwdKernelIdeal.nD) → Buf (Elt Ideal) ((c.tc : Thread Cert.MergeBwdKernelIdeal.nD Cert.MergeBwdKernelIdeal.τ).loc Cert.MergeBwdKernelIdeal.main_v0_0)) (v1 : (c : Dev Cert.MergeBwdKernelIdeal.nD) → Buf (Elt Ideal) ((c.tc : Thread Cert.MergeBwdKernelIdeal.nD Cert.MergeBwdKernelIdeal.τ).loc Cert.MergeBwdKernelIdeal.main_v0_1)) (v2 : (c : Dev Cert.MergeBwdKernelIdeal.nD) → Buf (Elt Ideal) ((c.tc : Thread Cert.MergeBwdKernelIdeal.nD Cert.MergeBwdKernelIdeal.τ).loc Cert.MergeBwdKernelIdeal.main_v0_2)) (v3 : (c : Dev Cert.MergeBwdKernelIdeal.nD) → Buf (Elt Ideal) ((c.tc : Thread Cert.MergeBwdKernelIdeal.nD Cert.MergeBwdKernelIdeal.τ).loc Cert.MergeBwdKernelIdeal.main_v0_3)),
      θ_run (Cert.MergeBwdKernelIdeal.defs (F := Ideal)) (onTc (τ := Cert.MergeBwdKernelIdeal.τ) (Cert.MergeBwdKernelIdeal.main (F := Ideal))) ⟨m, fun _ => 0, g⟩ (fun r => ∀ c : Dev Cert.MergeBwdKernelIdeal.nD,
          r.2.mem ((c.tc : Thread Cert.MergeBwdKernelIdeal.nD Cert.MergeBwdKernelIdeal.τ).loc Cert.MergeBwdKernelIdeal.main_v0_0) = v0 c
          ∧ r.2.mem ((c.tc : Thread Cert.MergeBwdKernelIdeal.nD Cert.MergeBwdKernelIdeal.τ).loc Cert.MergeBwdKernelIdeal.main_v0_1) = v1 c
          ∧ r.2.mem ((c.tc : Thread Cert.MergeBwdKernelIdeal.nD Cert.MergeBwdKernelIdeal.τ).loc Cert.MergeBwdKernelIdeal.main_v0_2) = v2 c
          ∧ r.2.mem ((c.tc : Thread Cert.MergeBwdKernelIdeal.nD Cert.MergeBwdKernelIdeal.τ).loc Cert.MergeBwdKernelIdeal.main_v0_3) = v3 c
          ∧ r.2.mem ((c.tc : Thread Cert.MergeBwdKernelIdeal.nD Cert.MergeBwdKernelIdeal.τ).loc Cert.MergeBwdKernelIdeal.main_arg0) = m ((c.tc : Thread Cert.MergeBwdKernelIdeal.nD Cert.MergeBwdKernelIdeal.τ).loc Cert.MergeBwdKernelIdeal.main_arg0)
          ∧ r.2.mem ((c.tc : Thread Cert.MergeBwdKernelIdeal.nD Cert.MergeBwdKernelIdeal.τ).loc Cert.MergeBwdKernelIdeal.main_arg1) = m ((c.tc : Thread Cert.MergeBwdKernelIdeal.nD Cert.MergeBwdKernelIdeal.τ).loc Cert.MergeBwdKernelIdeal.main_arg1)
          ∧ r.2.mem ((c.tc : Thread Cert.MergeBwdKernelIdeal.nD Cert.MergeBwdKernelIdeal.τ).loc Cert.MergeBwdKernelIdeal.main_arg2) = m ((c.tc : Thread Cert.MergeBwdKernelIdeal.nD Cert.MergeBwdKernelIdeal.τ).loc Cert.MergeBwdKernelIdeal.main_arg2)
          ∧ r.2.mem ((c.tc : Thread Cert.MergeBwdKernelIdeal.nD Cert.MergeBwdKernelIdeal.τ).loc Cert.MergeBwdKernelIdeal.main_arg3) = m ((c.tc : Thread Cert.MergeBwdKernelIdeal.nD Cert.MergeBwdKernelIdeal.τ).loc Cert.MergeBwdKernelIdeal.main_arg3)
          ∧ r.2.mem ((c.tc : Thread Cert.MergeBwdKernelIdeal.nD Cert.MergeBwdKernelIdeal.τ).loc Cert.MergeBwdKernelIdeal.main_arg4) = m ((c.tc : Thread Cert.MergeBwdKernelIdeal.nD Cert.MergeBwdKernelIdeal.τ).loc Cert.MergeBwdKernelIdeal.main_arg4))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v27) = v0 c
          ∧ r.2.mem ((c.tc : Thread Cert.MergeBwdReferenceIdeal.nD Cert.MergeBwdReferenceIdeal.τ).loc Cert.MergeBwdReferenceIdeal.main_v28) = v1 c
          ∧ r.2.mem ((c.tc : Thread Cert.MergeBwdReferenceIdeal.nD Cert.MergeBwdReferenceIdeal.τ).loc Cert.MergeBwdReferenceIdeal.main_v29) = v2 c
          ∧ r.2.mem ((c.tc : Thread Cert.MergeBwdReferenceIdeal.nD Cert.MergeBwdReferenceIdeal.τ).loc Cert.MergeBwdReferenceIdeal.main_v26) = v3 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3)
          ∧ r.2.mem ((c.tc : Thread Cert.MergeBwdReferenceIdeal.nD Cert.MergeBwdReferenceIdeal.τ).loc Cert.MergeBwdReferenceIdeal.main_arg4) = m' ((c.tc : Thread Cert.MergeBwdReferenceIdeal.nD Cert.MergeBwdReferenceIdeal.τ).loc Cert.MergeBwdReferenceIdeal.main_arg4))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v0)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hInDxKernel : Cert.InDxKernel.Facts) (hInDxKernelIdeal : Cert.InDxKernelIdeal.Facts) (hInDxReferenceIdeal : Cert.InDxReferenceIdeal.Facts) (hInDwKernel : Cert.InDwKernel.Facts) (hInDwKernelIdeal : Cert.InDwKernelIdeal.Facts) (hInDwReferenceIdeal : Cert.InDwReferenceIdeal.Facts) (hUpKernel : Cert.UpKernel.Facts) (hUpKernelIdeal : Cert.UpKernelIdeal.Facts) (hUpReferenceIdeal : Cert.UpReferenceIdeal.Facts) (hUpDxKernel : Cert.UpDxKernel.Facts) (hUpDxKernelIdeal : Cert.UpDxKernelIdeal.Facts) (hUpDxReferenceIdeal : Cert.UpDxReferenceIdeal.Facts) (hUpDwKernel : Cert.UpDwKernel.Facts) (hUpDwKernelIdeal : Cert.UpDwKernelIdeal.Facts) (hUpDwReferenceIdeal : Cert.UpDwReferenceIdeal.Facts) (hDownKernel : Cert.DownKernel.Facts) (hDownKernelIdeal : Cert.DownKernelIdeal.Facts) (hDownReferenceIdeal : Cert.DownReferenceIdeal.Facts) (hDownDxKernel : Cert.DownDxKernel.Facts) (hDownDxKernelIdeal : Cert.DownDxKernelIdeal.Facts) (hDownDxReferenceIdeal : Cert.DownDxReferenceIdeal.Facts) (hDownDwKernel : Cert.DownDwKernel.Facts) (hDownDwKernelIdeal : Cert.DownDwKernelIdeal.Facts) (hDownDwReferenceIdeal : Cert.DownDwReferenceIdeal.Facts) (hSsmKernel : Cert.SsmKernel.Facts) (hSsmKernelIdeal : Cert.SsmKernelIdeal.Facts) (hSsmReferenceIdeal : Cert.SsmReferenceIdeal.Facts) (hSsmDxKernel : Cert.SsmDxKernel.Facts) (hSsmDxKernelIdeal : Cert.SsmDxKernelIdeal.Facts) (hSsmDxReferenceIdeal : Cert.SsmDxReferenceIdeal.Facts) (hSsmDwKernel : Cert.SsmDwKernel.Facts) (hSsmDwKernelIdeal : Cert.SsmDwKernelIdeal.Facts) (hSsmDwReferenceIdeal : Cert.SsmDwReferenceIdeal.Facts) (hRecKernel : Cert.RecKernel.Facts) (hRecKernelIdeal : Cert.RecKernelIdeal.Facts) (hRecReferenceIdeal : Cert.RecReferenceIdeal.Facts) (hRecDxKernel : Cert.RecDxKernel.Facts) (hRecDxKernelIdeal : Cert.RecDxKernelIdeal.Facts) (hRecDxReferenceIdeal : Cert.RecDxReferenceIdeal.Facts) (hRecDwKernel : Cert.RecDwKernel.Facts) (hRecDwKernelIdeal : Cert.RecDwKernelIdeal.Facts) (hRecDwReferenceIdeal : Cert.RecDwReferenceIdeal.Facts) (hOutKernel : Cert.OutKernel.Facts) (hOutKernelIdeal : Cert.OutKernelIdeal.Facts) (hOutReferenceIdeal : Cert.OutReferenceIdeal.Facts) (hOutDxKernel : Cert.OutDxKernel.Facts) (hOutDxKernelIdeal : Cert.OutDxKernelIdeal.Facts) (hOutDxReferenceIdeal : Cert.OutDxReferenceIdeal.Facts) (hOutDwKernel : Cert.OutDwKernel.Facts) (hOutDwKernelIdeal : Cert.OutDwKernelIdeal.Facts) (hOutDwReferenceIdeal : Cert.OutDwReferenceIdeal.Facts) (hSwigluKernel : Cert.SwigluKernel.Facts) (hSwigluKernelIdeal : Cert.SwigluKernelIdeal.Facts) (hSwigluReferenceIdeal : Cert.SwigluReferenceIdeal.Facts) (hSwigluBwdKernel : Cert.SwigluBwdKernel.Facts) (hSwigluBwdKernelIdeal : Cert.SwigluBwdKernelIdeal.Facts) (hSwigluBwdReferenceIdeal : Cert.SwigluBwdReferenceIdeal.Facts) (hMergeKernel : Cert.MergeKernel.Facts) (hMergeKernelIdeal : Cert.MergeKernelIdeal.Facts) (hMergeReferenceIdeal : Cert.MergeReferenceIdeal.Facts) (hMergeBwdKernel : Cert.MergeBwdKernel.Facts) (hMergeBwdKernelIdeal : Cert.MergeBwdKernelIdeal.Facts) (hMergeBwdReferenceIdeal : Cert.MergeBwdReferenceIdeal.Facts) (hNormKernel : Cert.NormKernel.Facts) (hNormKernelIdeal : Cert.NormKernelIdeal.Facts) (hNormReferenceIdeal : Cert.NormReferenceIdeal.Facts) (hPre_finite : Cert.Pre_finite.Facts) (hPre_swiglu_real : Cert.Pre_swiglu_real.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_InDxKernel (hInDxKernel := hInDxKernel)
    ∧ quiescent_InDxKernelIdeal (hInDxKernelIdeal := hInDxKernelIdeal)
    ∧ quiescent_InDxReferenceIdeal (hInDxReferenceIdeal := hInDxReferenceIdeal)
    ∧ quiescent_InDwKernel (hInDwKernel := hInDwKernel)
    ∧ quiescent_InDwKernelIdeal (hInDwKernelIdeal := hInDwKernelIdeal)
    ∧ quiescent_InDwReferenceIdeal (hInDwReferenceIdeal := hInDwReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_UpDxKernel (hUpDxKernel := hUpDxKernel)
    ∧ quiescent_UpDxKernelIdeal (hUpDxKernelIdeal := hUpDxKernelIdeal)
    ∧ quiescent_UpDxReferenceIdeal (hUpDxReferenceIdeal := hUpDxReferenceIdeal)
    ∧ quiescent_UpDwKernel (hUpDwKernel := hUpDwKernel)
    ∧ quiescent_UpDwKernelIdeal (hUpDwKernelIdeal := hUpDwKernelIdeal)
    ∧ quiescent_UpDwReferenceIdeal (hUpDwReferenceIdeal := hUpDwReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_DownDxKernel (hDownDxKernel := hDownDxKernel)
    ∧ quiescent_DownDxKernelIdeal (hDownDxKernelIdeal := hDownDxKernelIdeal)
    ∧ quiescent_DownDxReferenceIdeal (hDownDxReferenceIdeal := hDownDxReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_SsmKernel (hSsmKernel := hSsmKernel)
    ∧ quiescent_SsmKernelIdeal (hSsmKernelIdeal := hSsmKernelIdeal)
    ∧ quiescent_SsmReferenceIdeal (hSsmReferenceIdeal := hSsmReferenceIdeal)
    ∧ quiescent_SsmDxKernel (hSsmDxKernel := hSsmDxKernel)
    ∧ quiescent_SsmDxKernelIdeal (hSsmDxKernelIdeal := hSsmDxKernelIdeal)
    ∧ quiescent_SsmDxReferenceIdeal (hSsmDxReferenceIdeal := hSsmDxReferenceIdeal)
    ∧ quiescent_SsmDwKernel (hSsmDwKernel := hSsmDwKernel)
    ∧ quiescent_SsmDwKernelIdeal (hSsmDwKernelIdeal := hSsmDwKernelIdeal)
    ∧ quiescent_SsmDwReferenceIdeal (hSsmDwReferenceIdeal := hSsmDwReferenceIdeal)
    ∧ quiescent_RecKernel (hRecKernel := hRecKernel)
    ∧ quiescent_RecKernelIdeal (hRecKernelIdeal := hRecKernelIdeal)
    ∧ quiescent_RecReferenceIdeal (hRecReferenceIdeal := hRecReferenceIdeal)
    ∧ quiescent_RecDxKernel (hRecDxKernel := hRecDxKernel)
    ∧ quiescent_RecDxKernelIdeal (hRecDxKernelIdeal := hRecDxKernelIdeal)
    ∧ quiescent_RecDxReferenceIdeal (hRecDxReferenceIdeal := hRecDxReferenceIdeal)
    ∧ quiescent_RecDwKernel (hRecDwKernel := hRecDwKernel)
    ∧ quiescent_RecDwKernelIdeal (hRecDwKernelIdeal := hRecDwKernelIdeal)
    ∧ quiescent_RecDwReferenceIdeal (hRecDwReferenceIdeal := hRecDwReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_OutDxKernel (hOutDxKernel := hOutDxKernel)
    ∧ quiescent_OutDxKernelIdeal (hOutDxKernelIdeal := hOutDxKernelIdeal)
    ∧ quiescent_OutDxReferenceIdeal (hOutDxReferenceIdeal := hOutDxReferenceIdeal)
    ∧ quiescent_OutDwKernel (hOutDwKernel := hOutDwKernel)
    ∧ quiescent_OutDwKernelIdeal (hOutDwKernelIdeal := hOutDwKernelIdeal)
    ∧ quiescent_OutDwReferenceIdeal (hOutDwReferenceIdeal := hOutDwReferenceIdeal)
    ∧ quiescent_SwigluKernel (hSwigluKernel := hSwigluKernel)
    ∧ quiescent_SwigluKernelIdeal (hSwigluKernelIdeal := hSwigluKernelIdeal)
    ∧ quiescent_SwigluReferenceIdeal (hSwigluReferenceIdeal := hSwigluReferenceIdeal)
    ∧ quiescent_SwigluBwdKernel (hSwigluBwdKernel := hSwigluBwdKernel)
    ∧ quiescent_SwigluBwdKernelIdeal (hSwigluBwdKernelIdeal := hSwigluBwdKernelIdeal)
    ∧ quiescent_SwigluBwdKernelIdeal_pre_swiglu_real (hSwigluBwdKernelIdeal := hSwigluBwdKernelIdeal) (hPre_swiglu_real := hPre_swiglu_real)
    ∧ quiescent_SwigluBwdReferenceIdeal (hSwigluBwdReferenceIdeal := hSwigluBwdReferenceIdeal)
    ∧ quiescent_SwigluBwdReferenceIdeal_pre_swiglu_real (hSwigluBwdReferenceIdeal := hSwigluBwdReferenceIdeal) (hPre_swiglu_real := hPre_swiglu_real)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_MergeBwdKernel (hMergeBwdKernel := hMergeBwdKernel)
    ∧ quiescent_MergeBwdKernelIdeal (hMergeBwdKernelIdeal := hMergeBwdKernelIdeal)
    ∧ quiescent_MergeBwdReferenceIdeal (hMergeBwdReferenceIdeal := hMergeBwdReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_InDxKernel_InDxKernelIdeal
    ∧ algebraic_InDxKernelIdeal_InDxReferenceIdeal (hInDxKernelIdeal := hInDxKernelIdeal) (hInDxReferenceIdeal := hInDxReferenceIdeal)
    ∧ preserves_InDwKernel_InDwKernelIdeal
    ∧ algebraic_InDwKernelIdeal_InDwReferenceIdeal (hInDwKernelIdeal := hInDwKernelIdeal) (hInDwReferenceIdeal := hInDwReferenceIdeal)
    ∧ preserves_UpKernel_UpKernelIdeal
    ∧ algebraic_UpKernelIdeal_UpReferenceIdeal (hUpKernelIdeal := hUpKernelIdeal) (hUpReferenceIdeal := hUpReferenceIdeal)
    ∧ preserves_UpDxKernel_UpDxKernelIdeal
    ∧ algebraic_UpDxKernelIdeal_UpDxReferenceIdeal (hUpDxKernelIdeal := hUpDxKernelIdeal) (hUpDxReferenceIdeal := hUpDxReferenceIdeal)
    ∧ preserves_UpDwKernel_UpDwKernelIdeal
    ∧ algebraic_UpDwKernelIdeal_UpDwReferenceIdeal (hUpDwKernelIdeal := hUpDwKernelIdeal) (hUpDwReferenceIdeal := hUpDwReferenceIdeal)
    ∧ preserves_DownKernel_DownKernelIdeal
    ∧ algebraic_DownKernelIdeal_DownReferenceIdeal (hDownKernelIdeal := hDownKernelIdeal) (hDownReferenceIdeal := hDownReferenceIdeal)
    ∧ preserves_DownDxKernel_DownDxKernelIdeal
    ∧ algebraic_DownDxKernelIdeal_DownDxReferenceIdeal (hDownDxKernelIdeal := hDownDxKernelIdeal) (hDownDxReferenceIdeal := hDownDxReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_SsmKernel_SsmKernelIdeal
    ∧ algebraic_SsmKernelIdeal_SsmReferenceIdeal (hSsmKernelIdeal := hSsmKernelIdeal) (hSsmReferenceIdeal := hSsmReferenceIdeal)
    ∧ preserves_SsmDxKernel_SsmDxKernelIdeal
    ∧ algebraic_SsmDxKernelIdeal_SsmDxReferenceIdeal (hSsmDxKernelIdeal := hSsmDxKernelIdeal) (hSsmDxReferenceIdeal := hSsmDxReferenceIdeal)
    ∧ preserves_SsmDwKernel_SsmDwKernelIdeal
    ∧ algebraic_SsmDwKernelIdeal_SsmDwReferenceIdeal (hSsmDwKernelIdeal := hSsmDwKernelIdeal) (hSsmDwReferenceIdeal := hSsmDwReferenceIdeal)
    ∧ preserves_RecKernel_RecKernelIdeal
    ∧ algebraic_RecKernelIdeal_RecReferenceIdeal (hRecKernelIdeal := hRecKernelIdeal) (hRecReferenceIdeal := hRecReferenceIdeal)
    ∧ preserves_RecDxKernel_RecDxKernelIdeal
    ∧ algebraic_RecDxKernelIdeal_RecDxReferenceIdeal (hRecDxKernelIdeal := hRecDxKernelIdeal) (hRecDxReferenceIdeal := hRecDxReferenceIdeal)
    ∧ preserves_RecDwKernel_RecDwKernelIdeal
    ∧ algebraic_RecDwKernelIdeal_RecDwReferenceIdeal (hRecDwKernelIdeal := hRecDwKernelIdeal) (hRecDwReferenceIdeal := hRecDwReferenceIdeal)
    ∧ preserves_OutKernel_OutKernelIdeal
    ∧ algebraic_OutKernelIdeal_OutReferenceIdeal (hOutKernelIdeal := hOutKernelIdeal) (hOutReferenceIdeal := hOutReferenceIdeal)
    ∧ preserves_OutDxKernel_OutDxKernelIdeal
    ∧ algebraic_OutDxKernelIdeal_OutDxReferenceIdeal (hOutDxKernelIdeal := hOutDxKernelIdeal) (hOutDxReferenceIdeal := hOutDxReferenceIdeal)
    ∧ preserves_OutDwKernel_OutDwKernelIdeal
    ∧ algebraic_OutDwKernelIdeal_OutDwReferenceIdeal (hOutDwKernelIdeal := hOutDwKernelIdeal) (hOutDwReferenceIdeal := hOutDwReferenceIdeal)
    ∧ preserves_SwigluKernel_SwigluKernelIdeal
    ∧ algebraic_SwigluKernelIdeal_SwigluReferenceIdeal (hSwigluKernelIdeal := hSwigluKernelIdeal) (hSwigluReferenceIdeal := hSwigluReferenceIdeal)
    ∧ preserves_SwigluBwdKernel_SwigluBwdKernelIdeal
    ∧ algebraic_SwigluBwdKernelIdeal_SwigluBwdReferenceIdeal_pre_swiglu_real (hSwigluBwdKernelIdeal := hSwigluBwdKernelIdeal) (hSwigluBwdReferenceIdeal := hSwigluBwdReferenceIdeal) (hPre_swiglu_real := hPre_swiglu_real)
    ∧ preserves_MergeKernel_MergeKernelIdeal
    ∧ algebraic_MergeKernelIdeal_MergeReferenceIdeal (hMergeKernelIdeal := hMergeKernelIdeal) (hMergeReferenceIdeal := hMergeReferenceIdeal)
    ∧ preserves_MergeBwdKernel_MergeBwdKernelIdeal
    ∧ algebraic_MergeBwdKernelIdeal_MergeBwdReferenceIdeal (hMergeBwdKernelIdeal := hMergeBwdKernelIdeal) (hMergeBwdReferenceIdeal := hMergeBwdReferenceIdeal)
    ∧ preserves_NormKernel_NormKernelIdeal
    ∧ algebraic_NormKernelIdeal_NormReferenceIdeal (hNormKernelIdeal := hNormKernelIdeal) (hNormReferenceIdeal := hNormReferenceIdeal)
-- ==== Pre_finite.lean ====
abbrev S4096x9856 : Shape := ⟨2, ![4096, 9856]⟩
abbrev S4x1280 : Shape := ⟨2, ![4, 1280]⟩
abbrev S1x1280 : Shape := ⟨2, ![1, 1280]⟩
abbrev S10x128x128 : Shape := ⟨3, ![10, 128, 128]⟩
abbrev S4096x1280 : Shape := ⟨2, ![4096, 1280]⟩
abbrev S4096x2560 : Shape := ⟨2, ![4096, 2560]⟩
abbrev S_ : Shape := ⟨0, ![]⟩

class Facts : Prop where
  slices_S4096x9856_S4096x2560_0_7168 : S4096x9856.Slices ![0, 7168] S4096x2560
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S4x1280 : S_.BroadcastsInDim S4x1280 (![] : Fin 0 → Fin S4x1280.rank)
  reducesTo_S4x1280_S_d0_1 : S4x1280.ReducesTo [0, 1] S_
  bcast_S_S1x1280 : S_.BroadcastsInDim S1x1280 (![] : Fin 0 → Fin S1x1280.rank)
  reducesTo_S1x1280_S_d0_1 : S1x1280.ReducesTo [0, 1] S_
  bcast_S_S10x128x128 : S_.BroadcastsInDim S10x128x128 (![] : Fin 0 → Fin S10x128x128.rank)
  reducesTo_S10x128x128_S_d0_1_2 : S10x128x128.ReducesTo [0, 1, 2] S_
  bcast_S_S4096x1280 : S_.BroadcastsInDim S4096x1280 (![] : Fin 0 → Fin S4096x1280.rank)
  reducesTo_S4096x1280_S_d0_1 : S4096x1280.ReducesTo [0, 1] S_

variable [Facts]

def fn_part2 {F : FTy → Type} [FloatOps F] (main_arg8 : FVec F S4096x1280 .f32) (main_v4 : IVec S_ 1) (main_v8 : IVec S_ 1) (main_v12 : IVec S_ 1) (main_v16 : IVec S_ 1) (main_v20 : IVec S_ 1) (main_v24 : IVec S_ 1) (main_v28 : IVec S_ 1) (main_v31 : IVec S1x1280 1) (main_c_13 : IVec S_ 1) : IVec S_ 1 :=
  let main_v32 : IVec S_ 1 := (fun x v => Host.reduce IntOp.andi x v reducesTo_S1x1280_S_d0_1 h_S_) main_v31 main_c_13
  let main_v33 : FVec F S4096x1280 .f32 := Host.absf main_arg8
  let main_cst_14 : FVec F S_ .f32 := constant S_ .f32 0x7F800000#32
  let main_v34 : FVec F S4096x1280 .f32 := broadcastInDim S4096x1280 ![] bcast_S_S4096x1280 main_cst_14
  let main_v35 : IVec S4096x1280 1 := cmpf .olt main_v33 main_v34
  let main_c_15 : IVec S_ 1 := constantI S_ 1 1#1
  let main_v36 : IVec S_ 1 := (fun x v => Host.reduce IntOp.andi x v reducesTo_S4096x1280_S_d0_1 h_S_) main_v35 main_c_15
  let main_v37 : IVec S_ 1 := andi main_v4 main_v8
  let main_v38 : IVec S_ 1 := andi main_v37 main_v12
  let main_v39 : IVec S_ 1 := andi main_v38 main_v16
  let main_v40 : IVec S_ 1 := andi main_v39 main_v20
  let main_v41 : IVec S_ 1 := andi main_v40 main_v24
  let main_v42 : IVec S_ 1 := andi main_v41 main_v28
  let main_v43 : IVec S_ 1 := andi main_v42 main_v32
  let main_v44 : IVec S_ 1 := andi main_v43 main_v36
  main_v44

def fn_part1 {F : FTy → Type} [FloatOps F] (main_arg4 : FVec F S1x1280 .f32) (main_arg5 : FVec F S10x128x128 .f32) (main_arg6 : FVec F S1x1280 .f32) (main_arg7 : FVec F S1x1280 .f32) (main_arg8 : FVec F S4096x1280 .f32) (main_v4 : IVec S_ 1) (main_v8 : IVec S_ 1) (main_v12 : IVec S_ 1) (main_v15 : IVec S10x128x128 1) (main_c_5 : IVec S_ 1) : IVec S_ 1 :=
  let main_v16 : IVec S_ 1 := (fun x v => Host.reduce IntOp.andi x v reducesTo_S10x128x128_S_d0_1_2 h_S_) main_v15 main_c_5
  let main_v17 : FVec F S1x1280 .f32 := Host.absf main_arg4
  let main_cst_6 : FVec F S_ .f32 := constant S_ .f32 0x7F800000#32
  let main_v18 : FVec F S1x1280 .f32 := broadcastInDim S1x1280 ![] bcast_S_S1x1280 main_cst_6
  let main_v19 : IVec S1x1280 1 := cmpf .olt main_v17 main_v18
  let main_c_7 : IVec S_ 1 := constantI S_ 1 1#1
  let main_v20 : IVec S_ 1 := (fun x v => Host.reduce IntOp.andi x v reducesTo_S1x1280_S_d0_1 h_S_) main_v19 main_c_7
  let main_v21 : FVec F S10x128x128 .f32 := Host.absf main_arg5
  let main_cst_8 : FVec F S_ .f32 := constant S_ .f32 0x7F800000#32
  let main_v22 : FVec F S10x128x128 .f32 := broadcastInDim S10x128x128 ![] bcast_S_S10x128x128 main_cst_8
  let main_v23 : IVec S10x128x128 1 := cmpf .olt main_v21 main_v22
  let main_c_9 : IVec S_ 1 := constantI S_ 1 1#1
  let main_v24 : IVec S_ 1 := (fun x v => Host.reduce IntOp.andi x v reducesTo_S10x128x128_S_d0_1_2 h_S_) main_v23 main_c_9
  let main_v25 : FVec F S1x1280 .f32 := Host.absf main_arg6
  let main_cst_10 : FVec F S_ .f32 := constant S_ .f32 0x7F800000#32
  let main_v26 : FVec F S1x1280 .f32 := broadcastInDim S1x1280 ![] bcast_S_S1x1280 main_cst_10
  let main_v27 : IVec S1x1280 1 := cmpf .olt main_v25 main_v26
  let main_c_11 : IVec S_ 1 := constantI S_ 1 1#1
  let main_v28 : IVec S_ 1 := (fun x v => Host.reduce IntOp.andi x v reducesTo_S1x1280_S_d0_1 h_S_) main_v27 main_c_11
  let main_v29 : FVec F S1x1280 .f32 := Host.absf main_arg7
  let main_cst_12 : FVec F S_ .f32 := constant S_ .f32 0x7F800000#32
  let main_v30 : FVec F S1x1280 .f32 := broadcastInDim S1x1280 ![] bcast_S_S1x1280 main_cst_12
  let main_v31 : IVec S1x1280 1 := cmpf .olt main_v29 main_v30
  let main_c_13 : IVec S_ 1 := constantI S_ 1 1#1
  fn_part2 (F := F) main_arg8 main_v4 main_v8 main_v12 main_v16 main_v20 main_v24 main_v28 main_v31 main_c_13

def fn {F : FTy → Type} [FloatOps F] (main_arg0 : FVec F S4096x9856 .f32) (main_arg1 : FVec F S4x1280 .f32) (main_arg2 : FVec F S1x1280 .f32) (main_arg3 : FVec F S10x128x128 .f32) (main_arg4 : FVec F S1x1280 .f32) (main_arg5 : FVec F S10x128x128 .f32) (main_arg6 : FVec F S1x1280 .f32) (main_arg7 : FVec F S1x1280 .f32) (main_arg8 : FVec F S4096x1280 .f32) : IVec S_ 1 :=
  let main_v0 : FVec F S4096x2560 .f32 := (extractStridedSlice S4096x2560 ![0, 7168] · slices_S4096x9856_S4096x2560_0_7168) main_arg0
  let main_v1 : FVec F S4096x2560 .f32 := Host.absf main_v0
  let main_cst : FVec F S_ .f32 := constant S_ .f32 0x7F800000#32
  let main_v2 : FVec F S4096x2560 .f32 := broadcastInDim S4096x2560 ![] bcast_S_S4096x2560 main_cst
  let main_v3 : IVec S4096x2560 1 := cmpf .olt main_v1 main_v2
  let main_c : IVec S_ 1 := constantI S_ 1 1#1
  let main_v4 : IVec S_ 1 := (fun x v => Host.reduce IntOp.andi x v reducesTo_S4096x2560_S_d0_1 h_S_) main_v3 main_c
  let main_v5 : FVec F S4x1280 .f32 := Host.absf main_arg1
  let main_cst_0 : FVec F S_ .f32 := constant S_ .f32 0x7F800000#32
  let main_v6 : FVec F S4x1280 .f32 := broadcastInDim S4x1280 ![] bcast_S_S4x1280 main_cst_0
  let main_v7 : IVec S4x1280 1 := cmpf .olt main_v5 main_v6
  let main_c_1 : IVec S_ 1 := constantI S_ 1 1#1
  let main_v8 : IVec S_ 1 := (fun x v => Host.reduce IntOp.andi x v reducesTo_S4x1280_S_d0_1 h_S_) main_v7 main_c_1
  let main_v9 : FVec F S1x1280 .f32 := Host.absf main_arg2
  let main_cst_2 : FVec F S_ .f32 := constant S_ .f32 0x7F800000#32
  let main_v10 : FVec F S1x1280 .f32 := broadcastInDim S1x1280 ![] bcast_S_S1x1280 main_cst_2
  let main_v11 : IVec S1x1280 1 := cmpf .olt main_v9 main_v10
  let main_c_3 : IVec S_ 1 := constantI S_ 1 1#1
  let main_v12 : IVec S_ 1 := (fun x v => Host.reduce IntOp.andi x v reducesTo_S1x1280_S_d0_1 h_S_) main_v11 main_c_3
  let main_v13 : FVec F S10x128x128 .f32 := Host.absf main_arg3
  let main_cst_4 : FVec F S_ .f32 := constant S_ .f32 0x7F800000#32
  let main_v14 : FVec F S10x128x128 .f32 := broadcastInDim S10x128x128 ![] bcast_S_S10x128x128 main_cst_4
  let main_v15 : IVec S10x128x128 1 := cmpf .olt main_v13 main_v14
  let main_c_5 : IVec S_ 1 := constantI S_ 1 1#1
  fn_part1 (F := F) main_arg4 main_arg5 main_arg6 main_arg7 main_arg8 main_v4 main_v8 main_v12 main_v15 main_c_5
-- ==== Pre_swiglu_real.lean ====
abbrev S4096x5632 : Shape := ⟨2, ![4096, 5632]⟩
abbrev S4096x2816 : Shape := ⟨2, ![4096, 2816]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x5632 .f32) (main_arg1 : FVec F S4096x2816 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  main_v8
-- ==== Kernel.lean ====
abbrev S4096x9856 : Shape := ⟨2, ![4096, 9856]⟩
abbrev S4x1280 : Shape := ⟨2, ![4, 1280]⟩
abbrev S1x1280 : Shape := ⟨2, ![1, 1280]⟩
abbrev S10x128x128 : Shape := ⟨3, ![10, 128, 128]⟩
abbrev S4096x1280 : Shape := ⟨2, ![4096, 1280]⟩
abbrev S4096x128 : Shape := ⟨2, ![4096, 128]⟩
abbrev S4x128 : Shape := ⟨2, ![4, 128]⟩
abbrev S1x128 : Shape := ⟨2, ![1, 128]⟩
abbrev S1x128x128 : Shape := ⟨3, ![1, 128, 128]⟩
abbrev S128x128 : Shape := ⟨2, ![128, 128]⟩
abbrev S8x128 : Shape := ⟨2, ![8, 128]⟩
abbrev S128 : Shape := ⟨1, ![128]⟩

abbrev nBuf : Space → Nat
  | .hbm => 18
  | .vmem => 42
  | .smem => 0
  | _ => 0

abbrev bufTy : (tb : Table) → Fin (tcTables nBuf tb) → BufTy
  | .hbm, ⟨0, _⟩ => ⟨S4096x9856, .f32⟩
  | .hbm, ⟨1, _⟩ => ⟨S4x1280, .f32⟩
  | .hbm, ⟨2, _⟩ => ⟨S1x1280, .f32⟩
  | .hbm, ⟨3, _⟩ => ⟨S10x128x128, .f32⟩
  | .hbm, ⟨4, _⟩ => ⟨S1x1280, .f32⟩
  | .hbm, ⟨5, _⟩ => ⟨S10x128x128, .f32⟩
  | .hbm, ⟨6, _⟩ => ⟨S1x1280, .f32⟩
  | .hbm, ⟨7, _⟩ => ⟨S1x1280, .f32⟩
  | .hbm, ⟨8, _⟩ => ⟨S4096x1280, .f32⟩
  | .hbm, ⟨9, _⟩ => ⟨S4096x1280, .bf16⟩
  | .hbm, ⟨10, _⟩ => ⟨S4096x1280, .bf16⟩
  | .hbm, ⟨11, _⟩ => ⟨S4x1280, .f32⟩
  | .hbm, ⟨12, _⟩ => ⟨S1x1280, .f32⟩
  | .hbm, ⟨13, _⟩ => ⟨S10x128x128, .f32⟩
  | .hbm, ⟨14, _⟩ => ⟨S1x1280, .f32⟩
  | .hbm, ⟨15, _⟩ => ⟨S10x128x128, .f32⟩
  | .hbm, ⟨16, _⟩ => ⟨S1x1280, .f32⟩
  | .hbm, ⟨17, _⟩ => ⟨S1x1280, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .f32⟩
  | .local _ .vmem, ⟨9, _⟩ => ⟨S1x128x128, .f32⟩
  | .local _ .vmem, ⟨10, _⟩ => ⟨S1x128, .f32⟩
  | .local _ .vmem, ⟨11, _⟩ => ⟨S1x128, .f32⟩
  | .local _ .vmem, ⟨12, _⟩ => ⟨S1x128x128, .f32⟩
  | .local _ .vmem, ⟨13, _⟩ => ⟨S1x128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4096x128, .f32⟩
  | .local _ .vmem, ⟨19, _⟩ => ⟨S4096x128, .f32⟩
  | .local _ .vmem, ⟨20, _⟩ => ⟨S4096x128, .bf16⟩
  | .local _ .vmem, ⟨21, _⟩ => ⟨S4096x128, .bf16⟩
  | .local _ .vmem, ⟨22, _⟩ => ⟨S4096x128, .bf16⟩
  | .local _ .vmem, ⟨23, _⟩ => ⟨S4096x128, .bf16⟩
  | .local _ .vmem, ⟨24, _⟩ => ⟨S4x128, .f32⟩
  | .local _ .vmem, ⟨25, _⟩ => ⟨S4x128, .f32⟩
  | .local _ .vmem, ⟨26, _⟩ => ⟨S1x128, .f32⟩
  | .local _ .vmem, ⟨27, _⟩ => ⟨S1x128, .f32⟩
  | .local _ .vmem, ⟨28, _⟩ => ⟨S1x128x128, .f32⟩
  | .local _ .vmem, ⟨29, _⟩ => ⟨S1x128x128, .f32⟩
  | .local _ .vmem, ⟨30, _⟩ => ⟨S1x128, .f32⟩
  | .local _ .vmem, ⟨31, _⟩ => ⟨S1x128, .f32⟩
  | .local _ .vmem, ⟨32, _⟩ => ⟨S1x128x128, .f32⟩
  | .local _ .vmem, ⟨33, _⟩ => ⟨S1x128x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S4096x128, .f32⟩
  | .local _ .vmem, ⟨39, _⟩ => ⟨S4096x128, .f32⟩
  | .local _ .vmem, ⟨40, _⟩ => ⟨S4096x128, .f32⟩
  | .local _ .vmem, ⟨41, _⟩ => ⟨S4096x128, .f32⟩
  | _, _ => ⟨S4096x9856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32 : BitVec 32 := 0#32
  let c512_i32 : BitVec 32 := 512#32
  let v115 : BitVec 32 := Scalar.addi c0_i32 c512_i32
  let c1_i32_46 : BitVec 32 := 1#32
  ⟨c0_i32, v115, c1_i32_46⟩
def k0_mult1 (k0_t1 : Fin k0_t1_loop.trips) : BitVec 32 :=
  let c0_i32 : BitVec 32 := 0#32
  let c1_i32_46 : BitVec 32 := 1#32
  let arg24 : BitVec 32 := Scf.iv c0_i32 c1_i32_46 k0_t1
  let c8_i32 : BitVec 32 := 8#32
  let v322 : BitVec 32 := Scalar.muli arg24 c8_i32
  v322
def k0_off1 (k0_t1 : Fin k0_t1_loop.trips) : Fin 2 → Nat :=
  let c0_i32 : BitVec 32 := 0#32
  let c1_i32_46 : BitVec 32 := 1#32
  let arg24 : BitVec 32 := Scf.iv c0_i32 c1_i32_46 k0_t1
  let c8_i32 : BitVec 32 := 8#32
  let v322 : BitVec 32 := Scalar.muli arg24 c8_i32
  let v323 : BitVec 32 := v322
  let v324 : Index := Scalar.indexCast v323
  let c0_147 : Index := 0#32
  ![v324.toNat, 0]
@[reducible] def k0_t2_loop : Scf.Loop 32 :=
  let c0_i32_74 : BitVec 32 := 0#32
  let c512_i32_75 : BitVec 32 := 512#32
  let v171 : BitVec 32 := Scalar.addi c0_i32_74 c512_i32_75
  let c1_i32_76 : BitVec 32 := 1#32
  ⟨c0_i32_74, v171, c1_i32_76⟩
def k0_mult2 (k0_t2 : Fin k0_t2_loop.trips) : BitVec 32 :=
  let c511_i32 : BitVec 32 := 511#32
  let c0_i32_74 : BitVec 32 := 0#32
  let c1_i32_76 : BitVec 32 := 1#32
  let arg24 : BitVec 32 := Scf.iv c0_i32_74 c1_i32_76 k0_t2
  let v322 : BitVec 32 := Scalar.subi c511_i32 arg24
  let c8_i32 : BitVec 32 := 8#32
  let v323 : BitVec 32 := Scalar.muli v322 c8_i32
  v323
def k0_off2 (k0_t2 : Fin k0_t2_loop.trips) : Fin 2 → Nat :=
  let c511_i32 : BitVec 32 := 511#32
  let c0_i32_74 : BitVec 32 := 0#32
  let c1_i32_76 : BitVec 32 := 1#32
  let arg24 : BitVec 32 := Scf.iv c0_i32_74 c1_i32_76 k0_t2
  let v322 : BitVec 32 := Scalar.subi c511_i32 arg24
  let c8_i32 : BitVec 32 := 8#32
  let v323 : BitVec 32 := Scalar.muli v322 c8_i32
  let v324 : BitVec 32 := v323
  let v325 : Index := Scalar.indexCast v324
  let c0_147 : Index := 0#32
  ![v325.toNat, 0]
def cc0_transform_0 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c66_i32 : BitVec 32 := 66#32
  let v0 : BitVec 32 := Scalar.addi c66_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== ReferenceIdeal.lean ====
abbrev S4096x9856 : Shape := ⟨2, ![4096, 9856]⟩
abbrev S4x1280 : Shape := ⟨2, ![4, 1280]⟩
abbrev S1x1280 : Shape := ⟨2, ![1, 1280]⟩
abbrev S10x128x128 : Shape := ⟨3, ![10, 128, 128]⟩
abbrev S4096x1280 : Shape := ⟨2, ![4096, 1280]⟩
abbrev S_ : Shape := ⟨0, ![]⟩
abbrev S3x1280 : Shape := ⟨2, ![3, 1280]⟩
abbrev S4099x1280 : Shape := ⟨2, ![4099, 1280]⟩
abbrev S1280 : Shape := ⟨1, ![1280]⟩
abbrev S4096x10x128 : Shape := ⟨3, ![4096, 10, 128]⟩
abbrev S10x128x4096 : Shape := ⟨3, ![10, 128, 4096]⟩
abbrev S10x4096x128 : Shape := ⟨3, ![10, 4096, 128]⟩

abbrev nBuf : Space → Nat
  | .hbm => 376
  | .vmem => 0
  | .smem => 0
  | _ => 0

abbrev hbmTy0_0 (i : Nat) : BufTy := match i % 128 with
  | 0 => ⟨S4096x9856, .f32⟩
  | 1 => ⟨S4x1280, .f32⟩
  | 2 => ⟨S1x1280, .f32⟩
  | 3 => ⟨S10x128x128, .f32⟩
  | 4 => ⟨S1x1280, .f32⟩
  | 5 => ⟨S10x128x128, .f32⟩
  | 6 => ⟨S1x1280, .f32⟩
  | 7 => ⟨S1x1280, .f32⟩
  | 8 => ⟨S4096x1280, .f32⟩
  | 9 => ⟨S4096x1280, .f32⟩
  | 10 => ⟨S4096x1280, .f32⟩
  | 11 => ⟨S_, .f32⟩
  | 12 => ⟨S3x1280, .f32⟩
  | 13 => ⟨S4099x1280, .f32⟩
  | 14 => ⟨S_, .f32⟩
  | 15 => ⟨S3x1280, .f32⟩
  | 16 => ⟨S4096x1280, .f32⟩
  | 17 => ⟨S1x1280, .f32⟩
  | 18 => ⟨S1280, .f32⟩
  | 19 => ⟨S1x1280, .f32⟩
  | 20 => ⟨S4096x1280, .f32⟩
  | 21 => ⟨S4096x1280, .f32⟩
  | 22 => ⟨S4096x1280, .f32⟩
  | 23 => ⟨S4096x1280, .f32⟩
  | 24 => ⟨S4096x1280, .f32⟩
  | 25 => ⟨S1x1280, .f32⟩
  | 26 => ⟨S1280, .f32⟩
  | 27 => ⟨S1x1280, .f32⟩
  | 28 => ⟨S4096x1280, .f32⟩
  | 29 => ⟨S4096x1280, .f32⟩
  | 30 => ⟨S4096x1280, .f32⟩
  | 31 => ⟨S4096x1280, .f32⟩
  | 32 => ⟨S1x1280, .f32⟩
  | 33 => ⟨S1280, .f32⟩
  | 34 => ⟨S1x1280, .f32⟩
  | 35 => ⟨S4096x1280, .f32⟩
  | 36 => ⟨S4096x1280, .f32⟩
  | 37 => ⟨S4096x1280, .f32⟩
  | 38 => ⟨S4096x1280, .f32⟩
  | 39 => ⟨S1x1280, .f32⟩
  | 40 => ⟨S1280, .f32⟩
  | 41 => ⟨S1x1280, .f32⟩
  | 42 => ⟨S4096x1280, .f32⟩
  | 43 => ⟨S4096x1280, .f32⟩
  | 44 => ⟨S4096x1280, .f32⟩
  | 45 => ⟨S4096x10x128, .f32⟩
  | 46 => ⟨S10x128x4096, .f32⟩
  | 47 => ⟨S4096x10x128, .f32⟩
  | 48 => ⟨S4096x1280, .f32⟩
  | 49 => ⟨S4096x1280, .f32⟩
  | 50 => ⟨S4096x1280, .f32⟩
  | 51 => ⟨S4096x1280, .f32⟩
  | 52 => ⟨S4096x1280, .f32⟩
  | 53 => ⟨S_, .f32⟩
  | 54 => ⟨S4096x1280, .f32⟩
  | 55 => ⟨S4096x1280, .f32⟩
  | 56 => ⟨S_, .f32⟩
  | 57 => ⟨S4096x1280, .f32⟩
  | 58 => ⟨S4096x1280, .f32⟩
  | 59 => ⟨S_, .f32⟩
  | 60 => ⟨S4096x1280, .f32⟩
  | 61 => ⟨S4096x1280, .f32⟩
  | 62 => ⟨S4096x1280, .f32⟩
  | 63 => ⟨S10x128x4096, .f32⟩
  | 64 => ⟨S4096x10x128, .f32⟩
  | 65 => ⟨S4096x1280, .f32⟩
  | 66 => ⟨S4096x1280, .f32⟩
  | 67 => ⟨S4096x1280, .f32⟩
  | 68 => ⟨S4096x1280, .f32⟩
  | 69 => ⟨S4096x1280, .f32⟩
  | 70 => ⟨S_, .f32⟩
  | 71 => ⟨S4096x1280, .f32⟩
  | 72 => ⟨S4096x1280, .f32⟩
  | 73 => ⟨S_, .f32⟩
  | 74 => ⟨S4096x1280, .f32⟩
  | 75 => ⟨S4096x1280, .f32⟩
  | 76 => ⟨S_, .f32⟩
  | 77 => ⟨S4096x1280, .f32⟩
  | 78 => ⟨S4096x1280, .f32⟩
  | 79 => ⟨S4096x1280, .f32⟩
  | 80 => ⟨S_, .f32⟩
  | 81 => ⟨S4096x1280, .f32⟩
  | 82 => ⟨S4096x1280, .f32⟩
  | 83 => ⟨S1x1280, .f32⟩
  | 84 => ⟨S_, .f32⟩
  | 85 => ⟨S1x1280, .f32⟩
  | 86 => ⟨S1x1280, .f32⟩
  | 87 => ⟨S1x1280, .f32⟩
  | 88 => ⟨S1x1280, .f32⟩
  | 89 => ⟨S1x1280, .i1⟩
  | 90 => ⟨S1x1280, .f32⟩
  | 91 => ⟨S1x1280, .f32⟩
  | 92 => ⟨S1x1280, .f32⟩
  | 93 => ⟨S1x1280, .f32⟩
  | 94 => ⟨S1x1280, .f32⟩
  | 95 => ⟨S1x1280, .f32⟩
  | 96 => ⟨S1x1280, .f32⟩
  | 97 => ⟨S1x1280, .f32⟩
  | 98 => ⟨S_, .f32⟩
  | 99 => ⟨S1x1280, .f32⟩
  | 100 => ⟨S1x1280, .i1⟩
  | 101 => ⟨S_, .f32⟩
  | 102 => ⟨S1x1280, .f32⟩
  | 103 => ⟨S1x1280, .f32⟩
  | 104 => ⟨S_, .f32⟩
  | 105 => ⟨S1x1280, .f32⟩
  | 106 => ⟨S1x1280, .i1⟩
  | 107 => ⟨S_, .f32⟩
  | 108 => ⟨S1x1280, .f32⟩
  | 109 => ⟨S1x1280, .f32⟩
  | 110 => ⟨S1x1280, .f32⟩
  | 111 => ⟨S1x1280, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S1x1280, .f32⟩
  | 120 => ⟨S1x1280, .i1⟩
  | 121 => ⟨S_, .f32⟩
  | 122 => ⟨S1x1280, .f32⟩
  | 123 => ⟨S1x1280, .f32⟩
  | 124 => ⟨S1x1280, .f32⟩
  | 125 => ⟨S1x1280, .f32⟩
  | 126 => ⟨S1x1280, .f32⟩
  | 127 => ⟨S_, .f32⟩
  | _ => ⟨S4096x9856, .f32⟩

abbrev hbmTy0_1 (i : Nat) : BufTy := match i % 128 with
  | 0 => ⟨S1x1280, .f32⟩
  | 1 => ⟨S1x1280, .f32⟩
  | 2 => ⟨S4096x1280, .f32⟩
  | 3 => ⟨S4096x1280, .f32⟩
  | 4 => ⟨S4096x1280, .f32⟩
  | 5 => ⟨S_, .f32⟩
  | 6 => ⟨S4096x1280, .f32⟩
  | 7 => ⟨S4096x1280, .f32⟩
  | 8 => ⟨S4096x1280, .f32⟩
  | 9 => ⟨S4096x1280, .f32⟩
  | 10 => ⟨S4096x1280, .f32⟩
  | 11 => ⟨S4096x1280, .f32⟩
  | 12 => ⟨S_, .f32⟩
  | 13 => ⟨S4096x1280, .f32⟩
  | 14 => ⟨S4096x1280, .f32⟩
  | 15 => ⟨S4096x1280, .f32⟩
  | 16 => ⟨S4096x1280, .f32⟩
  | 17 => ⟨S_, .f32⟩
  | 18 => ⟨S1280, .f32⟩
  | 19 => ⟨S_, .f32⟩
  | 20 => ⟨S4096x1280, .f32⟩
  | 21 => ⟨S_, .f32⟩
  | 22 => ⟨S4096x1280, .f32⟩
  | 23 => ⟨S_, .i32⟩
  | 24 => ⟨S4096x1280, .f32⟩
  | 25 => ⟨S4096x1280, .f32⟩
  | 26 => ⟨S_, .i32⟩
  | 27 => ⟨S1280, .f32⟩
  | 28 => ⟨S4096x1280, .f32⟩
  | 29 => ⟨S4096x1280, .f32⟩
  | 30 => ⟨S_, .i32⟩
  | 31 => ⟨S_, .i1⟩
  | 32 => ⟨S_, .i32⟩
  | 33 => ⟨S1x1280, .f32⟩
  | 34 => ⟨S1280, .f32⟩
  | 35 => ⟨S_, .i32⟩
  | 36 => ⟨S1x1280, .f32⟩
  | 37 => ⟨S1280, .f32⟩
  | 38 => ⟨S1280, .f32⟩
  | 39 => ⟨S1280, .f32⟩
  | 40 => ⟨S1x1280, .f32⟩
  | 41 => ⟨S_, .i32⟩
  | 42 => ⟨S4096x1280, .f32⟩
  | 43 => ⟨S1x1280, .f32⟩
  | 44 => ⟨S_, .i32⟩
  | 45 => ⟨S4096x1280, .f32⟩
  | 46 => ⟨S_, .i32⟩
  | 47 => ⟨S_, .i32⟩
  | 48 => ⟨S_, .f32⟩
  | 49 => ⟨S_, .f32⟩
  | 50 => ⟨S_, .f32⟩
  | 51 => ⟨S4096x1280, .f32⟩
  | 52 => ⟨S4096x1280, .f32⟩
  | 53 => ⟨S4096x1280, .f32⟩
  | 54 => ⟨S_, .f32⟩
  | 55 => ⟨S4096x1280, .f32⟩
  | 56 => ⟨S4096x1280, .f32⟩
  | 57 => ⟨S4096x1280, .f32⟩
  | 58 => ⟨S4096x1280, .f32⟩
  | 59 => ⟨S4096x1280, .f32⟩
  | 60 => ⟨S_, .f32⟩
  | 61 => ⟨S4096x1280, .f32⟩
  | 62 => ⟨S4096x1280, .f32⟩
  | 63 => ⟨S4096x1280, .f32⟩
  | 64 => ⟨S_, .f32⟩
  | 65 => ⟨S4096x1280, .f32⟩
  | 66 => ⟨S4096x1280, .f32⟩
  | 67 => ⟨S_, .f32⟩
  | 68 => ⟨S4096x1280, .f32⟩
  | 69 => ⟨S4096x1280, .f32⟩
  | 70 => ⟨S4096x1280, .f32⟩
  | 71 => ⟨S_, .f32⟩
  | 72 => ⟨S4096x1280, .f32⟩
  | 73 => ⟨S4096x1280, .f32⟩
  | 74 => ⟨S_, .f32⟩
  | 75 => ⟨S4096x1280, .f32⟩
  | 76 => ⟨S4096x1280, .f32⟩
  | 77 => ⟨S4096x1280, .f32⟩
  | 78 => ⟨S4096x1280, .f32⟩
  | 79 => ⟨S_, .f32⟩
  | 80 => ⟨S1280, .f32⟩
  | 81 => ⟨S4096x1280, .f32⟩
  | 82 => ⟨S4096x1280, .f32⟩
  | 83 => ⟨S4096x1280, .f32⟩
  | 84 => ⟨S4096x1280, .f32⟩
  | 85 => ⟨S_, .f32⟩
  | 86 => ⟨S4096x1280, .f32⟩
  | 87 => ⟨S4096x1280, .f32⟩
  | 88 => ⟨S4096x1280, .f32⟩
  | 89 => ⟨S_, .f32⟩
  | 90 => ⟨S4096x1280, .f32⟩
  | 91 => ⟨S4096x1280, .f32⟩
  | 92 => ⟨S4096x1280, .f32⟩
  | 93 => ⟨S4096x1280, .f32⟩
  | 94 => ⟨S4096x1280, .f32⟩
  | 95 => ⟨S4096x1280, .f32⟩
  | 96 => ⟨S4096x1280, .f32⟩
  | 97 => ⟨S_, .f32⟩
  | 98 => ⟨S1280, .f32⟩
  | 99 => ⟨S_, .f32⟩
  | 100 => ⟨S4096x1280, .f32⟩
  | 101 => ⟨S_, .f32⟩
  | 102 => ⟨S4096x1280, .f32⟩
  | 103 => ⟨S_, .i32⟩
  | 104 => ⟨S4096x1280, .f32⟩
  | 105 => ⟨S4096x1280, .f32⟩
  | 106 => ⟨S4096x1280, .f32⟩
  | 107 => ⟨S_, .i32⟩
  | 108 => ⟨S1280, .f32⟩
  | 109 => ⟨S4096x1280, .f32⟩
  | 110 => ⟨S4096x1280, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S1x1280, .f32⟩
  | 119 => ⟨S1280, .f32⟩
  | 120 => ⟨S_, .i32⟩
  | 121 => ⟨S1x1280, .f32⟩
  | 122 => ⟨S1280, .f32⟩
  | 123 => ⟨S_, .i32⟩
  | 124 => ⟨S1x1280, .f32⟩
  | 125 => ⟨S1280, .f32⟩
  | 126 => ⟨S1280, .f32⟩
  | 127 => ⟨S1280, .f32⟩
  | _ => ⟨S4096x9856, .f32⟩

abbrev hbmTy0_2 (i : Nat) : BufTy := match i % 128 with
  | 0 => ⟨S1280, .f32⟩
  | 1 => ⟨S1x1280, .f32⟩
  | 2 => ⟨S_, .i32⟩
  | 3 => ⟨S4096x1280, .f32⟩
  | 4 => ⟨S1x1280, .f32⟩
  | 5 => ⟨S_, .i32⟩
  | 6 => ⟨S4096x1280, .f32⟩
  | 7 => ⟨S_, .i32⟩
  | 8 => ⟨S_, .i32⟩
  | 9 => ⟨S4096x1280, .f32⟩
  | 10 => ⟨S4096x1280, .f32⟩
  | 11 => ⟨S4096x1280, .f32⟩
  | 12 => ⟨S4096x1280, .f32⟩
  | 13 => ⟨S4096x1280, .f32⟩
  | 14 => ⟨S4096x1280, .f32⟩
  | 15 => ⟨S4096x1280, .f32⟩
  | 16 => ⟨S_, .f32⟩
  | 17 => ⟨S4096x1280, .f32⟩
  | 18 => ⟨S4096x1280, .f32⟩
  | 19 => ⟨S4096x1280, .f32⟩
  | 20 => ⟨S4096x1280, .f32⟩
  | 21 => ⟨S4096x1280, .f32⟩
  | 22 => ⟨S_, .f32⟩
  | 23 => ⟨S1280, .f32⟩
  | 24 => ⟨S1x1280, .f32⟩
  | 25 => ⟨S4096x1280, .f32⟩
  | 26 => ⟨S4096x1280, .f32⟩
  | 27 => ⟨S1x1280, .f32⟩
  | 28 => ⟨S1x1280, .f32⟩
  | 29 => ⟨S_, .f32⟩
  | 30 => ⟨S4096x1280, .f32⟩
  | 31 => ⟨S4096x1280, .f32⟩
  | 32 => ⟨S4096x1280, .f32⟩
  | 33 => ⟨S_, .f32⟩
  | 34 => ⟨S1280, .f32⟩
  | 35 => ⟨S1x1280, .f32⟩
  | 36 => ⟨S4096x10x128, .f32⟩
  | 37 => ⟨S10x128x4096, .f32⟩
  | 38 => ⟨S10x4096x128, .f32⟩
  | 39 => ⟨S4096x10x128, .f32⟩
  | 40 => ⟨S10x128x128, .f32⟩
  | 41 => ⟨S10x128x128, .f32⟩
  | 42 => ⟨S4096x1280, .f32⟩
  | 43 => ⟨S_, .f32⟩
  | 44 => ⟨S1280, .f32⟩
  | 45 => ⟨S1x1280, .f32⟩
  | 46 => ⟨S4096x10x128, .f32⟩
  | 47 => ⟨S10x128x4096, .f32⟩
  | 48 => ⟨S10x4096x128, .f32⟩
  | 49 => ⟨S4096x10x128, .f32⟩
  | 50 => ⟨S4096x10x128, .f32⟩
  | 51 => ⟨S10x128x128, .f32⟩
  | 52 => ⟨S10x128x128, .f32⟩
  | 53 => ⟨S4096x1280, .f32⟩
  | 54 => ⟨S4096x1280, .f32⟩
  | 55 => ⟨S4096x1280, .f32⟩
  | 56 => ⟨S_, .f32⟩
  | 57 => ⟨S1280, .f32⟩
  | 58 => ⟨S1x1280, .f32⟩
  | 59 => ⟨S4096x1280, .f32⟩
  | 60 => ⟨S4096x1280, .f32⟩
  | 61 => ⟨S_, .f32⟩
  | 62 => ⟨S1280, .f32⟩
  | 63 => ⟨S1x1280, .f32⟩
  | 64 => ⟨S_, .f32⟩
  | 65 => ⟨S4x1280, .f32⟩
  | 66 => ⟨S_, .f32⟩
  | 67 => ⟨S4099x1280, .f32⟩
  | 68 => ⟨S4096x1280, .f32⟩
  | 69 => ⟨S_, .f32⟩
  | 70 => ⟨S1280, .f32⟩
  | 71 => ⟨S1x1280, .f32⟩
  | 72 => ⟨S4096x1280, .f32⟩
  | 73 => ⟨S4096x1280, .f32⟩
  | 74 => ⟨S_, .f32⟩
  | 75 => ⟨S1280, .f32⟩
  | 76 => ⟨S1x1280, .f32⟩
  | 77 => ⟨S_, .f32⟩
  | 78 => ⟨S4x1280, .f32⟩
  | 79 => ⟨S4x1280, .f32⟩
  | 80 => ⟨S_, .f32⟩
  | 81 => ⟨S4099x1280, .f32⟩
  | 82 => ⟨S4099x1280, .f32⟩
  | 83 => ⟨S4096x1280, .f32⟩
  | 84 => ⟨S_, .f32⟩
  | 85 => ⟨S1280, .f32⟩
  | 86 => ⟨S1x1280, .f32⟩
  | 87 => ⟨S4096x1280, .f32⟩
  | 88 => ⟨S4096x1280, .f32⟩
  | 89 => ⟨S_, .f32⟩
  | 90 => ⟨S1280, .f32⟩
  | 91 => ⟨S1x1280, .f32⟩
  | 92 => ⟨S_, .f32⟩
  | 93 => ⟨S4x1280, .f32⟩
  | 94 => ⟨S4x1280, .f32⟩
  | 95 => ⟨S_, .f32⟩
  | 96 => ⟨S4099x1280, .f32⟩
  | 97 => ⟨S4099x1280, .f32⟩
  | 98 => ⟨S_, .f32⟩
  | 99 => ⟨S1280, .f32⟩
  | 100 => ⟨S1x1280, .f32⟩
  | 101 => ⟨S4096x1280, .f32⟩
  | 102 => ⟨S_, .f32⟩
  | 103 => ⟨S1280, .f32⟩
  | 104 => ⟨S1x1280, .f32⟩
  | 105 => ⟨S4096x1280, .f32⟩
  | 106 => ⟨S4096x1280, .f32⟩
  | 107 => ⟨S_, .f32⟩
  | 108 => ⟨S1280, .f32⟩
  | 109 => ⟨S1x1280, .f32⟩
  | 110 => ⟨S_, .f32⟩
  | 111 => ⟨S4x1280, .f32⟩
  | 112 => ⟨S4x1280, .f32⟩
  | 113 => ⟨S_, .f32⟩
  | 114 => ⟨S4099x1280, .f32⟩
  | 115 => ⟨S4099x1280, .f32⟩
  | 116 => ⟨S3x1280, .f32⟩
  | 117 => ⟨S4096x1280, .f32⟩
  | 118 => ⟨S4096x1280, .bf16⟩
  | 119 => ⟨S4096x1280, .bf16⟩
  | _ => ⟨S4096x9856, .f32⟩

abbrev hbmTy (i : Nat) : BufTy := match i / 128 with
  | 0 => hbmTy0_0 i
  | 1 => hbmTy0_1 i
  | 2 => hbmTy0_2 i
  | _ => ⟨S4096x9856, .f32⟩

abbrev bufTy : (tb : Table) → Fin (tcTables nBuf tb) → BufTy
  | .hbm, ⟨i, _⟩ => hbmTy i
  | _, _ => ⟨S4096x9856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_v66_0 : Ref sig .tc := ⟨.hbm, 97, rfl⟩
abbrev main_call0_cst_0 : Ref sig .tc := ⟨.hbm, 98, rfl⟩
abbrev main_call0_v13 : Ref sig .tc := ⟨.hbm, 99, rfl⟩
abbrev main_call0_v14 : Ref sig .tc := ⟨.hbm, 100, rfl⟩
abbrev main_call0_cst_1 : Ref sig .tc := ⟨.hbm, 101, rfl⟩
abbrev main_call0_v15 : Ref sig .tc := ⟨.hbm, 102, rfl⟩
abbrev main_call0_v16 : Ref sig .tc := ⟨.hbm, 103, rfl⟩
abbrev main_call0_cst_2 : Ref sig .tc := ⟨.hbm, 104, rfl⟩
abbrev main_call0_v17 : Ref sig .tc := ⟨.hbm, 105, rfl⟩
abbrev main_call0_v18 : Ref sig .tc := ⟨.hbm, 106, rfl⟩
abbrev main_call0_cst_3 : Ref sig .tc := ⟨.hbm, 107, rfl⟩
abbrev main_call0_v19 : Ref sig .tc := ⟨.hbm, 108, rfl⟩
abbrev main_call0_v20 : Ref sig .tc := ⟨.hbm, 109, rfl⟩
abbrev main_call0_v21 : Ref sig .tc := ⟨.hbm, 110, rfl⟩
abbrev main_v66_1 : Ref sig .tc := ⟨.hbm, 111, rfl⟩
abbrev main_call0_cst_4 : Ref sig .tc := ⟨.hbm, 112, rfl⟩
abbrev main_call0_cst_5 : Ref sig .tc := ⟨.hbm, 113, rfl⟩
abbrev main_call0_v23 : Ref sig .tc := ⟨.hbm, 114, rfl⟩
abbrev main_call0_cst_6 : Ref sig .tc := ⟨.hbm, 115, rfl⟩
abbrev main_call0_cst_7 : Ref sig .tc := ⟨.hbm, 116, rfl⟩
abbrev main_call0_v24 : Ref sig .tc := ⟨.hbm, 117, rfl⟩
abbrev main_call0_cst_8 : Ref sig .tc := ⟨.hbm, 118, rfl⟩
abbrev main_call0_v25 : Ref sig .tc := ⟨.hbm, 119, rfl⟩
abbrev main_call0_v26 : Ref sig .tc := ⟨.hbm, 120, rfl⟩
abbrev main_call0_cst_9 : Ref sig .tc := ⟨.hbm, 121, rfl⟩
abbrev main_call0_v27 : Ref sig .tc := ⟨.hbm, 122, rfl⟩
abbrev main_call0_v28 : Ref sig .tc := ⟨.hbm, 123, rfl⟩
abbrev main_call0_v29 : Ref sig .tc := ⟨.hbm, 124, rfl⟩
abbrev main_call0_v30 : Ref sig .tc := ⟨.hbm, 125, rfl⟩
abbrev main_call0_v31 : Ref sig .tc := ⟨.hbm, 126, rfl⟩
abbrev main_call0_cst_10 : Ref sig .tc := ⟨.hbm, 127, rfl⟩
abbrev main_call0_v32 : Ref sig .tc := ⟨.hbm, 128, rfl⟩
abbrev main_v66_2 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_cst_8 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_cst_9 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_10 : Ref sig .tc := ⟨.hbm, 145, rfl⟩
abbrev main_v80 : Ref sig .tc := ⟨.hbm, 146, rfl⟩
abbrev main_cst_11 : Ref sig .tc := ⟨.hbm, 147, rfl⟩
abbrev main_v81 : Ref sig .tc := ⟨.hbm, 148, rfl⟩
abbrev main_cst_12 : Ref sig .tc := ⟨.hbm, 149, rfl⟩
abbrev main_v82 : Ref sig .tc := ⟨.hbm, 150, rfl⟩
abbrev main_c : Ref sig .tc := ⟨.hbm, 151, rfl⟩
abbrev main_v83_0 : Ref sig .tc := ⟨.hbm, 152, rfl⟩
abbrev main_v83_1 : Ref sig .tc := ⟨.hbm, 153, rfl⟩
abbrev main_v83_2 : Ref sig .tc := ⟨.hbm, 154, rfl⟩
abbrev main_v83_3 : Ref sig .tc := ⟨.hbm, 155, rfl⟩
abbrev main_v83_4 : Ref sig .tc := ⟨.hbm, 156, rfl⟩
abbrev main_v83_5 : Ref sig .tc := ⟨.hbm, 157, rfl⟩
abbrev main_while0c_c_55 : Ref sig .tc := ⟨.hbm, 158, rfl⟩
abbrev main_while0c_v215 : Ref sig .tc := ⟨.hbm, 159, rfl⟩
abbrev main_while0b_call1_c : Ref sig .tc := ⟨.hbm, 160, rfl⟩
abbrev main_while0b_call1_v0 : Ref sig .tc := ⟨.hbm, 161, rfl⟩
abbrev main_while0b_v215 : Ref sig .tc := ⟨.hbm, 162, rfl⟩
abbrev main_while0b_call2_c : Ref sig .tc := ⟨.hbm, 163, rfl⟩
abbrev main_while0b_call2_v0 : Ref sig .tc := ⟨.hbm, 164, rfl⟩
abbrev main_while0b_v216 : Ref sig .tc := ⟨.hbm, 165, rfl⟩
abbrev main_while0b_v217 : Ref sig .tc := ⟨.hbm, 166, rfl⟩
abbrev main_while0b_v218 : Ref sig .tc := ⟨.hbm, 167, rfl⟩
abbrev main_while0b_call3_v0 : Ref sig .tc := ⟨.hbm, 168, rfl⟩
abbrev main_while0b_call3_c : Ref sig .tc := ⟨.hbm, 169, rfl⟩
abbrev main_while0b_v219 : Ref sig .tc := ⟨.hbm, 170, rfl⟩
abbrev main_while0b_call4_v0 : Ref sig .tc := ⟨.hbm, 171, rfl⟩
abbrev main_while0b_call4_c : Ref sig .tc := ⟨.hbm, 172, rfl⟩
abbrev main_while0b_v220 : Ref sig .tc := ⟨.hbm, 173, rfl⟩
abbrev main_while0b_c_55 : Ref sig .tc := ⟨.hbm, 174, rfl⟩
abbrev main_while0b_v221 : Ref sig .tc := ⟨.hbm, 175, rfl⟩
abbrev main_cst_13 : Ref sig .tc := ⟨.hbm, 176, rfl⟩
abbrev main_cst_14 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_cst_15 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_cst_16 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_cst_17 : Ref sig .tc := ⟨.hbm, 192, rfl⟩
abbrev main_v96 : Ref sig .tc := ⟨.hbm, 193, rfl⟩
abbrev main_v97 : Ref sig .tc := ⟨.hbm, 194, rfl⟩
abbrev main_cst_18 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_cst_19 : Ref sig .tc := ⟨.hbm, 199, rfl⟩
abbrev main_v101 : Ref sig .tc := ⟨.hbm, 200, rfl⟩
abbrev main_v102 : Ref sig .tc := ⟨.hbm, 201, rfl⟩
abbrev main_cst_20 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_cst_21 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_cst_22 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_cst_23 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_cst_24 : Ref sig .tc := ⟨.hbm, 225, rfl⟩
abbrev main_v122 : Ref sig .tc := ⟨.hbm, 226, rfl⟩
abbrev main_cst_25 : Ref sig .tc := ⟨.hbm, 227, rfl⟩
abbrev main_v123 : Ref sig .tc := ⟨.hbm, 228, rfl⟩
abbrev main_cst_26 : Ref sig .tc := ⟨.hbm, 229, rfl⟩
abbrev main_v124 : Ref sig .tc := ⟨.hbm, 230, rfl⟩
abbrev main_c_27 : Ref sig .tc := ⟨.hbm, 231, rfl⟩
abbrev main_v125_0 : Ref sig .tc := ⟨.hbm, 232, rfl⟩
abbrev main_v125_1 : Ref sig .tc := ⟨.hbm, 233, rfl⟩
abbrev main_v125_2 : Ref sig .tc := ⟨.hbm, 234, rfl⟩
abbrev main_v125_3 : Ref sig .tc := ⟨.hbm, 235, rfl⟩
abbrev main_v125_4 : Ref sig .tc := ⟨.hbm, 236, rfl⟩
abbrev main_v125_5 : Ref sig .tc := ⟨.hbm, 237, rfl⟩
abbrev main_v125_6 : Ref sig .tc := ⟨.hbm, 238, rfl⟩
abbrev main_while1c_c_56 : Ref sig .tc := ⟨.hbm, 239, rfl⟩
abbrev main_while1c_v215 : Ref sig .tc := ⟨.hbm, 240, rfl⟩
abbrev main_while1b_c_56 : Ref sig .tc := ⟨.hbm, 241, rfl⟩
abbrev main_while1b_v215 : Ref sig .tc := ⟨.hbm, 242, rfl⟩
abbrev main_while1b_c_57 : Ref sig .tc := ⟨.hbm, 243, rfl⟩
abbrev main_while1b_v216 : Ref sig .tc := ⟨.hbm, 244, rfl⟩
abbrev main_while1b_call5_c : Ref sig .tc := ⟨.hbm, 245, rfl⟩
abbrev main_while1b_call5_v0 : Ref sig .tc := ⟨.hbm, 246, rfl⟩
abbrev main_while1b_v217 : Ref sig .tc := ⟨.hbm, 247, rfl⟩
abbrev main_while1b_call6_c : Ref sig .tc := ⟨.hbm, 248, rfl⟩
abbrev main_while1b_call6_v0 : Ref sig .tc := ⟨.hbm, 249, rfl⟩
abbrev main_while1b_v218 : Ref sig .tc := ⟨.hbm, 250, rfl⟩
abbrev main_while1b_call7_c : Ref sig .tc := ⟨.hbm, 251, rfl⟩
abbrev main_while1b_call7_v0 : Ref sig .tc := ⟨.hbm, 252, rfl⟩
abbrev main_while1b_v219 : Ref sig .tc := ⟨.hbm, 253, rfl⟩
abbrev main_while1b_v220 : Ref sig .tc := ⟨.hbm, 254, rfl⟩
abbrev main_while1b_v221 : Ref sig .tc := ⟨.hbm, 255, rfl⟩
abbrev main_while1b_v222 : Ref sig .tc := ⟨.hbm, 256, rfl⟩
abbrev main_while1b_call8_v0 : Ref sig .tc := ⟨.hbm, 257, rfl⟩
abbrev main_while1b_call8_c : Ref sig .tc := ⟨.hbm, 258, rfl⟩
abbrev main_while1b_v223 : Ref sig .tc := ⟨.hbm, 259, rfl⟩
abbrev main_while1b_call9_v0 : Ref sig .tc := ⟨.hbm, 260, rfl⟩
abbrev main_while1b_call9_c : Ref sig .tc := ⟨.hbm, 261, rfl⟩
abbrev main_while1b_v224 : Ref sig .tc := ⟨.hbm, 262, rfl⟩
abbrev main_while1b_c_58 : Ref sig .tc := ⟨.hbm, 263, rfl⟩
abbrev main_while1b_v225 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩
abbrev main_cst_28 : Ref sig .tc := ⟨.hbm, 272, rfl⟩
abbrev main_v133 : Ref sig .tc := ⟨.hbm, 273, rfl⟩
abbrev main_v134 : Ref sig .tc := ⟨.hbm, 274, rfl⟩
abbrev main_v135 : Ref sig .tc := ⟨.hbm, 275, rfl⟩
abbrev main_v136 : Ref sig .tc := ⟨.hbm, 276, rfl⟩
abbrev main_v137 : Ref sig .tc := ⟨.hbm, 277, rfl⟩
abbrev main_cst_29 : Ref sig .tc := ⟨.hbm, 278, rfl⟩
abbrev main_v138 : Ref sig .tc := ⟨.hbm, 279, rfl⟩
abbrev main_v139 : Ref sig .tc := ⟨.hbm, 280, rfl⟩
abbrev main_v140 : Ref sig .tc := ⟨.hbm, 281, rfl⟩
abbrev main_v141 : Ref sig .tc := ⟨.hbm, 282, rfl⟩
abbrev main_v142 : Ref sig .tc := ⟨.hbm, 283, rfl⟩
abbrev main_v143 : Ref sig .tc := ⟨.hbm, 284, rfl⟩
abbrev main_cst_30 : Ref sig .tc := ⟨.hbm, 285, rfl⟩
abbrev main_v144 : Ref sig .tc := ⟨.hbm, 286, rfl⟩
abbrev main_v145 : Ref sig .tc := ⟨.hbm, 287, rfl⟩
abbrev main_v146 : Ref sig .tc := ⟨.hbm, 288, rfl⟩
abbrev main_cst_31 : Ref sig .tc := ⟨.hbm, 289, rfl⟩
abbrev main_v147 : Ref sig .tc := ⟨.hbm, 290, rfl⟩
abbrev main_v148 : Ref sig .tc := ⟨.hbm, 291, rfl⟩
abbrev main_v149 : Ref sig .tc := ⟨.hbm, 292, rfl⟩
abbrev main_v150 : Ref sig .tc := ⟨.hbm, 293, rfl⟩
abbrev main_v151 : Ref sig .tc := ⟨.hbm, 294, rfl⟩
abbrev main_v152 : Ref sig .tc := ⟨.hbm, 295, rfl⟩
abbrev main_v153 : Ref sig .tc := ⟨.hbm, 296, rfl⟩
abbrev main_v154 : Ref sig .tc := ⟨.hbm, 297, rfl⟩
abbrev main_v155 : Ref sig .tc := ⟨.hbm, 298, rfl⟩
abbrev main_cst_32 : Ref sig .tc := ⟨.hbm, 299, rfl⟩
abbrev main_v156 : Ref sig .tc := ⟨.hbm, 300, rfl⟩
abbrev main_v157 : Ref sig .tc := ⟨.hbm, 301, rfl⟩
abbrev main_v158 : Ref sig .tc := ⟨.hbm, 302, rfl⟩
abbrev main_v159 : Ref sig .tc := ⟨.hbm, 303, rfl⟩
abbrev main_v160 : Ref sig .tc := ⟨.hbm, 304, rfl⟩
abbrev main_v161 : Ref sig .tc := ⟨.hbm, 305, rfl⟩
abbrev main_v162 : Ref sig .tc := ⟨.hbm, 306, rfl⟩
abbrev main_v163 : Ref sig .tc := ⟨.hbm, 307, rfl⟩
abbrev main_v164 : Ref sig .tc := ⟨.hbm, 308, rfl⟩
abbrev main_v165 : Ref sig .tc := ⟨.hbm, 309, rfl⟩
abbrev main_v166 : Ref sig .tc := ⟨.hbm, 310, rfl⟩
abbrev main_v167 : Ref sig .tc := ⟨.hbm, 311, rfl⟩
abbrev main_cst_33 : Ref sig .tc := ⟨.hbm, 312, rfl⟩
abbrev main_v168 : Ref sig .tc := ⟨.hbm, 313, rfl⟩
abbrev main_v169 : Ref sig .tc := ⟨.hbm, 314, rfl⟩
abbrev main_v170 : Ref sig .tc := ⟨.hbm, 315, rfl⟩
abbrev main_v171 : Ref sig .tc := ⟨.hbm, 316, rfl⟩
abbrev main_cst_34 : Ref sig .tc := ⟨.hbm, 317, rfl⟩
abbrev main_v172 : Ref sig .tc := ⟨.hbm, 318, rfl⟩
abbrev main_v173 : Ref sig .tc := ⟨.hbm, 319, rfl⟩
abbrev main_cst_35 : Ref sig .tc := ⟨.hbm, 320, rfl⟩
abbrev main_v174 : Ref sig .tc := ⟨.hbm, 321, rfl⟩
abbrev main_cst_36 : Ref sig .tc := ⟨.hbm, 322, rfl⟩
abbrev main_v175 : Ref sig .tc := ⟨.hbm, 323, rfl⟩
abbrev main_v176 : Ref sig .tc := ⟨.hbm, 324, rfl⟩
abbrev main_cst_37 : Ref sig .tc := ⟨.hbm, 325, rfl⟩
abbrev main_v177 : Ref sig .tc := ⟨.hbm, 326, rfl⟩
abbrev main_v178 : Ref sig .tc := ⟨.hbm, 327, rfl⟩
abbrev main_v179 : Ref sig .tc := ⟨.hbm, 328, rfl⟩
abbrev main_v180 : Ref sig .tc := ⟨.hbm, 329, rfl⟩
abbrev main_cst_38 : Ref sig .tc := ⟨.hbm, 330, rfl⟩
abbrev main_v181 : Ref sig .tc := ⟨.hbm, 331, rfl⟩
abbrev main_v182 : Ref sig .tc := ⟨.hbm, 332, rfl⟩
abbrev main_cst_39 : Ref sig .tc := ⟨.hbm, 333, rfl⟩
abbrev main_v183 : Ref sig .tc := ⟨.hbm, 334, rfl⟩
abbrev main_v184 : Ref sig .tc := ⟨.hbm, 335, rfl⟩
abbrev main_cst_40 : Ref sig .tc := ⟨.hbm, 336, rfl⟩
abbrev main_v185 : Ref sig .tc := ⟨.hbm, 337, rfl⟩
abbrev main_v186 : Ref sig .tc := ⟨.hbm, 338, rfl⟩
abbrev main_v187 : Ref sig .tc := ⟨.hbm, 339, rfl⟩
abbrev main_cst_41 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_v191 : Ref sig .tc := ⟨.hbm, 344, rfl⟩
abbrev main_cst_42 : Ref sig .tc := ⟨.hbm, 345, rfl⟩
abbrev main_v192 : Ref sig .tc := ⟨.hbm, 346, rfl⟩
abbrev main_v193 : Ref sig .tc := ⟨.hbm, 347, rfl⟩
abbrev main_cst_43 : Ref sig .tc := ⟨.hbm, 348, rfl⟩
abbrev main_v194 : Ref sig .tc := ⟨.hbm, 349, rfl⟩
abbrev main_v195 : Ref sig .tc := ⟨.hbm, 350, rfl⟩
abbrev main_cst_44 : Ref sig .tc := ⟨.hbm, 351, rfl⟩
abbrev main_v196 : Ref sig .tc := ⟨.hbm, 352, rfl⟩
abbrev main_v197 : Ref sig .tc := ⟨.hbm, 353, rfl⟩
abbrev main_cst_45 : Ref sig .tc := ⟨.hbm, 354, rfl⟩
abbrev main_v198 : Ref sig .tc := ⟨.hbm, 355, rfl⟩
abbrev main_v199 : Ref sig .tc := ⟨.hbm, 356, rfl⟩
abbrev main_v200 : Ref sig .tc := ⟨.hbm, 357, rfl⟩
abbrev main_cst_46 : Ref sig .tc := ⟨.hbm, 358, rfl⟩
abbrev main_v201 : Ref sig .tc := ⟨.hbm, 359, rfl⟩
abbrev main_v202 : Ref sig .tc := ⟨.hbm, 360, rfl⟩
abbrev main_v203 : Ref sig .tc := ⟨.hbm, 361, rfl⟩
abbrev main_v204 : Ref sig .tc := ⟨.hbm, 362, rfl⟩
abbrev main_cst_47 : Ref sig .tc := ⟨.hbm, 363, rfl⟩
abbrev main_v205 : Ref sig .tc := ⟨.hbm, 364, rfl⟩
abbrev main_v206 : Ref sig .tc := ⟨.hbm, 365, rfl⟩
abbrev main_cst_48 : Ref sig .tc := ⟨.hbm, 366, rfl⟩
abbrev main_v207 : Ref sig .tc := ⟨.hbm, 367, rfl⟩
abbrev main_v208 : Ref sig .tc := ⟨.hbm, 368, rfl⟩
abbrev main_cst_49 : Ref sig .tc := ⟨.hbm, 369, rfl⟩
abbrev main_v209 : Ref sig .tc := ⟨.hbm, 370, rfl⟩
abbrev main_v210 : Ref sig .tc := ⟨.hbm, 371, rfl⟩
abbrev main_v211 : Ref sig .tc := ⟨.hbm, 372, rfl⟩
abbrev main_v212 : Ref sig .tc := ⟨.hbm, 373, rfl⟩
abbrev main_v213 : Ref sig .tc := ⟨.hbm, 374, rfl⟩
abbrev main_v214 : Ref sig .tc := ⟨.hbm, 375, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== InKernel.lean ====
abbrev S4096x1024 : Shape := ⟨2, ![4096, 1024]⟩
abbrev S1024x9856 : Shape := ⟨2, ![1024, 9856]⟩
abbrev S4096x9856 : Shape := ⟨2, ![4096, 9856]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x9856, .bf16⟩
  | .hbm, ⟨2, _⟩ => ⟨S4096x9856, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S4096x1024 : Shape := ⟨2, ![4096, 1024]⟩
abbrev S1024x9856 : Shape := ⟨2, ![1024, 9856]⟩
abbrev S4096x9856 : Shape := ⟨2, ![4096, 9856]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9856, .bf16⟩
  | .hbm, ⟨2, _⟩ => ⟨S4096x1024, .f32⟩
  | .hbm, ⟨3, _⟩ => ⟨S1024x9856, .f32⟩
  | .hbm, ⟨4, _⟩ => ⟨S4096x9856, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDxKernel.lean ====
abbrev S4096x9856 : Shape := ⟨2, ![4096, 9856]⟩
abbrev S1024x9856 : Shape := ⟨2, ![1024, 9856]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x9856, .bf16⟩
  | .hbm, ⟨1, _⟩ => ⟨S1024x9856, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x9856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S4096x9856 : Shape := ⟨2, ![4096, 9856]⟩
abbrev S1024x9856 : Shape := ⟨2, ![1024, 9856]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x9856, .bf16⟩
  | .hbm, ⟨1, _⟩ => ⟨S1024x9856, .bf16⟩
  | .hbm, ⟨2, _⟩ => ⟨S_, .f32⟩
  | .hbm, ⟨3, _⟩ => ⟨S4096x1024, .f32⟩
  | .hbm, ⟨4, _⟩ => ⟨S1024x9856, .f32⟩
  | .hbm, ⟨5, _⟩ => ⟨S4096x9856, .f32⟩
  | .hbm, ⟨6, _⟩ => ⟨S4096x9856, .f32⟩
  | .hbm, ⟨7, _⟩ => ⟨S4096x1024, .f32⟩
  | _, _ => ⟨S4096x9856, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDwKernel.lean ====
abbrev S4096x1024 : Shape := ⟨2, ![4096, 1024]⟩
abbrev S4096x9856 : Shape := ⟨2, ![4096, 9856]⟩
abbrev S1024x9856 : Shape := ⟨2, ![1024, 9856]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x9856, .bf16⟩
  | .hbm, ⟨2, _⟩ => ⟨S1024x9856, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4096x1024 : Shape := ⟨2, ![4096, 1024]⟩
abbrev S4096x9856 : Shape := ⟨2, ![4096, 9856]⟩
abbrev S_ : Shape := ⟨0, ![]⟩
abbrev S1024x9856 : Shape := ⟨2, ![1024, 9856]⟩
abbrev S9856x1024 : Shape := ⟨2, ![9856, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x9856, .bf16⟩
  | .hbm, ⟨2, _⟩ => ⟨S_, .f32⟩
  | .hbm, ⟨3, _⟩ => ⟨S1024x9856, .f32⟩
  | .hbm, ⟨4, _⟩ => ⟨S4096x1024, .f32⟩
  | .hbm, ⟨5, _⟩ => ⟨S4096x9856, .f32⟩
  | .hbm, ⟨6, _⟩ => ⟨S4096x9856, .f32⟩
  | .hbm, ⟨7, _⟩ => ⟨S9856x1024, .f32⟩
  | .hbm, ⟨8, _⟩ => ⟨S1024x9856, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpKernel.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDxKernel.lean ====
abbrev S4096x5632 : Shape := ⟨2, ![4096, 5632]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDwKernel.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownKernel.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDxKernel.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDwKernel.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmKernel.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmDxKernel.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDxReferenceIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmDwKernel.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDwReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RecKernel.lean ====
abbrev S4096x1280 : Shape := ⟨2, ![4096, 1280]⟩
abbrev S1280x1024 : Shape := ⟨2, ![1280, 1024]⟩
abbrev S4096x1024 : Shape := ⟨2, ![4096, 1024]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1280, .bf16⟩
  | .hbm, ⟨1, _⟩ => ⟨S1280x1024, .bf16⟩
  | .hbm, ⟨2, _⟩ => ⟨S4096x1024, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecReferenceIdeal.lean ====
abbrev S4096x1280 : Shape := ⟨2, ![4096, 1280]⟩
abbrev S1280x1024 : Shape := ⟨2, ![1280, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S1280x1024, .bf16⟩
  | .hbm, ⟨2, _⟩ => ⟨S4096x1280, .f32⟩
  | .hbm, ⟨3, _⟩ => ⟨S1280x1024, .f32⟩
  | .hbm, ⟨4, _⟩ => ⟨S4096x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RecDxKernel.lean ====
abbrev S4096x1024 : Shape := ⟨2, ![4096, 1024]⟩
abbrev S1280x1024 : Shape := ⟨2, ![1280, 1024]⟩
abbrev S4096x1280 : Shape := ⟨2, ![4096, 1280]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1280x1024, .bf16⟩
  | .hbm, ⟨2, _⟩ => ⟨S4096x1280, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x1280, .f32⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecDxReferenceIdeal.lean ====
abbrev S4096x1024 : Shape := ⟨2, ![4096, 1024]⟩
abbrev S1280x1024 : Shape := ⟨2, ![1280, 1024]⟩
abbrev S_ : Shape := ⟨0, ![]⟩
abbrev S4096x1280 : Shape := ⟨2, ![4096, 1280]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1280x1024, .bf16⟩
  | .hbm, ⟨2, _⟩ => ⟨S_, .f32⟩
  | .hbm, ⟨3, _⟩ => ⟨S4096x1280, .f32⟩
  | .hbm, ⟨4, _⟩ => ⟨S1280x1024, .f32⟩
  | .hbm, ⟨5, _⟩ => ⟨S4096x1024, .f32⟩
  | .hbm, ⟨6, _⟩ => ⟨S4096x1024, .f32⟩
  | .hbm, ⟨7, _⟩ => ⟨S4096x1280, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RecDwKernel.lean ====
abbrev S4096x1280 : Shape := ⟨2, ![4096, 1280]⟩
abbrev S4096x1024 : Shape := ⟨2, ![4096, 1024]⟩
abbrev S1280x1024 : Shape := ⟨2, ![1280, 1024]⟩
abbrev S1024x640 : Shape := ⟨2, ![1024, 640]⟩
abbrev S1024x1024 : Shape := ⟨2, ![1024, 1024]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S1280x1024, .f32⟩
  | .local _ .vmem, ⟨0, _⟩ => ⟨S1024x640, .bf16⟩
  | .local _ .vmem, ⟨1, _⟩ => ⟨S1024x640, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecDwReferenceIdeal.lean ====
abbrev S4096x1280 : Shape := ⟨2, ![4096, 1280]⟩
abbrev S4096x1024 : Shape := ⟨2, ![4096, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 9
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S_, .f32⟩
  | .hbm, ⟨3, _⟩ => ⟨S1280x1024, .f32⟩
  | .hbm, ⟨4, _⟩ => ⟨S4096x1280, .f32⟩
  | .hbm, ⟨5, _⟩ => ⟨S4096x1024, .f32⟩
  | .hbm, ⟨6, _⟩ => ⟨S4096x1024, .f32⟩
  | .hbm, ⟨7, _⟩ => ⟨S1024x1280, .f32⟩
  | .hbm, ⟨8, _⟩ => ⟨S1280x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutKernel.lean ====
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDxKernel.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDwKernel.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SwigluKernel.lean ====
abbrev S4096x5632 : Shape := ⟨2, ![4096, 5632]⟩
abbrev S4096x2816 : Shape := ⟨2, ![4096, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .bf16⟩
  | .local _ .vmem, ⟨5, _⟩ => ⟨S256x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluReferenceIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== SwigluBwdKernel.lean ====
abbrev S4096x5632 : Shape := ⟨2, ![4096, 5632]⟩
abbrev S4096x2816 : Shape := ⟨2, ![4096, 2816]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x5632, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x5632, .bf16⟩
  | .local _ .vmem, ⟨7, _⟩ => ⟨S256x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwigluBwdReferenceIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x5632, .f32⟩
  | .hbm, ⟨25, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== MergeKernel.lean ====
abbrev S4096x9856 : Shape := ⟨2, ![4096, 9856]⟩
abbrev S1x2048 : Shape := ⟨2, ![1, 2048]⟩
abbrev S4096x1024 : Shape := ⟨2, ![4096, 1024]⟩
abbrev S256x1024 : Shape := ⟨2, ![256, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x9856, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | _, _ => ⟨S4096x9856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeReferenceIdeal.lean ====
abbrev S4096x9856 : Shape := ⟨2, ![4096, 9856]⟩
abbrev S1x2048 : Shape := ⟨2, ![1, 2048]⟩
abbrev S4096x1024 : Shape := ⟨2, ![4096, 1024]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x9856, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | _, _ => ⟨S4096x9856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MergeBwdKernel.lean ====
abbrev S4096x9856 : Shape := ⟨2, ![4096, 9856]⟩
abbrev S1x2048 : Shape := ⟨2, ![1, 2048]⟩
abbrev S4096x1024 : Shape := ⟨2, ![4096, 1024]⟩
abbrev S4096x2048 : Shape := ⟨2, ![4096, 2048]⟩
abbrev S256x1024 : Shape := ⟨2, ![256, 1024]⟩
abbrev S256x2048 : Shape := ⟨2, ![256, 2048]⟩
abbrev S1x1024 : Shape := ⟨2, ![1, 1024]⟩
abbrev S1024 : Shape := ⟨1, ![1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x9856, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x2048, .bf16⟩
  | .hbm, ⟨8, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x2048, .bf16⟩
  | .local _ .vmem, ⟨16, _⟩ => ⟨S256x2048, .bf16⟩
  | .local _ .vmem, ⟨17, _⟩ => ⟨S1x2048, .f32⟩
  | _, _ => ⟨S4096x9856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MergeBwdReferenceIdeal.lean ====
abbrev S4096x9856 : Shape := ⟨2, ![4096, 9856]⟩
abbrev S1x2048 : Shape := ⟨2, ![1, 2048]⟩
abbrev S4096x1024 : Shape := ⟨2, ![4096, 1024]⟩
abbrev S4096x2048 : Shape := ⟨2, ![4096, 2048]⟩
abbrev S_ : Shape := ⟨0, ![]⟩
abbrev S2048 : Shape := ⟨1, ![2048]⟩

abbrev nBuf : Space → Nat
  | .hbm => 39
  | .vmem => 0
  | .smem => 0
  | _ => 0

abbrev bufTy : (tb : Table) → Fin (tcTables nBuf tb) → BufTy
  | .hbm, ⟨0, _⟩ => ⟨S4096x9856, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x1024, .bf16⟩
  | .hbm, ⟨37, _⟩ => ⟨S4096x1024, .bf16⟩
  | .hbm, ⟨38, _⟩ => ⟨S4096x2048, .bf16⟩
  | _, _ => ⟨S4096x9856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== NormKernel.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.KLoops.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.VecWindow

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the runs. -/
local notation "𝕄" => MT nD τ sig Unit (Elt F) ℕ (UR sig nD τ) ℕ

/-! ## The forward loop -/

/-- The tile of eight rows that trip `k` of the forward loop works on. -/
abbrev fwdRect (k : Fin k0_t1_loop.trips) : Rect S4096x128 := Rect.unit (s := S4096x128) (k0_off1 k) S8x128.size (k0_off1_inb k)

/-- What trip `k` of the forward loop stores, from the carried row, the coefficients `A` and the inputs `B`. -/
def fwdTile (v : IVec S8x128 32) (A B : Vec F S4096x128 .f32) (acc : FVec F S1x128 .f32) (k : Fin k0_t1_loop.trips) : FVec F S8x128 .f32 :=
  k0_pay37 (k0_pay8 v (View.ld (Val := Elt F) A (fwdRect k)) (View.ld (Val := Elt F) B (fwdRect k))) (k0_pay9 v acc (View.ld (Val := Elt F) A (fwdRect k)))

/-- What trip `k` of the forward loop carries on. -/
def fwdNext (v : IVec S8x128 32) (A B : Vec F S4096x128 .f32) (acc : FVec F S1x128 .f32) (k : Fin k0_t1_loop.trips) : FVec F S1x128 .f32 :=
  k0_pay38 (k0_pay8 v (View.ld (Val := Elt F) A (fwdRect k)) (View.ld (Val := Elt F) B (fwdRect k))) (k0_pay9 v acc (View.ld (Val := Elt F) A (fwdRect k)))

/-- The row carried before trip `k` of the forward loop. -/
def fwdCarry (v : IVec S8x128 32) (A B : Vec F S4096x128 .f32) (init : FVec F S1x128 .f32) : ℕ → FVec F S1x128 .f32
  | 0 => init
  | k + 1 => if h : k < k0_t1_loop.trips then fwdNext v A B (fwdCarry v A B init k) ⟨k, h⟩ else fwdCarry v A B init k

/-- The tiles stored before trip `k` of the forward loop, the last first. -/
def fwdPieces (v : IVec S8x128 32) (A B : Vec F S4096x128 .f32) (init : FVec F S1x128 .f32) : ℕ → List (View.Piece (Elt F) S4096x128 .f32)
  | 0 => []
  | k + 1 => if h : k < k0_t1_loop.trips then ⟨fwdRect ⟨k, h⟩, fwdTile v A B (fwdCarry v A B init k) ⟨k, h⟩⟩ :: fwdPieces v A B init k else fwdPieces v A B init k

theorem fwdCarry_succ (v : IVec S8x128 32) (A B : Vec F S4096x128 .f32) (init : FVec F S1x128 .f32) (k : Fin k0_t1_loop.trips) :
    fwdCarry v A B init (k.val + 1) = fwdNext v A B (fwdCarry v A B init k) k := dif_pos k.isLt

theorem fwdPieces_succ (v : IVec S8x128 32) (A B : Vec F S4096x128 .f32) (init : FVec F S1x128 .f32) (k : Fin k0_t1_loop.trips) :
    fwdPieces v A B init (k.val + 1) = ⟨fwdRect k, fwdTile v A B (fwdCarry v A B init k) k⟩ :: fwdPieces v A B init k := dif_pos k.isLt

/-- What one trip of the forward loop touches: the coefficients and the inputs at their contents, the output at any. -/
abbrev fwdRes (c : Dev nD) (arg20 arg21 arg22 : Memref sig .tc .vmem S4096x128 .f32)
    (X20 : BufTy.Contents (Elt F) arg20.view.ty) (X21 : BufTy.Contents (Elt F) arg21.view.ty) (f : BufTy.Contents (Elt F) arg22.view.ty) : sProp 𝕄 :=
  iprop((arg20.view.loc (c : Thread nD τ) ↦[arg20.view.set]{fullShare} X20) ∗ (arg21.view.loc (c : Thread nD τ) ↦[arg21.view.set]{fullShare} X21)
    ∗ (arg22.view.loc (c : Thread nD τ) ↦[arg22.view.set]{fullShare} f))

/-- One trip of the forward loop: it stores its tile and carries its last row on. -/
theorem fwd_trip (𝒱 : Variants) (c : Dev nD) (bd : Option 𝒱.V) (E : Set ℕ) (i : grid0.Coords)
    (arg1 : Memref sig .tc .vmem S4096x128 .f32) (harg1 : arg1.IsWhole)
    (arg2 : Memref sig .tc .vmem S4096x128 .f32) (harg2 : arg2.IsWhole)
    (arg3 : Memref sig .tc .vmem S4x128 .f32) (harg3 : arg3.IsWhole)
    (arg4 : Memref sig .tc .vmem S1x128 .f32) (harg4 : arg4.IsWhole)
    (arg5 : Memref sig .tc .vmem S1x128x128 .f32) (harg5 : arg5.IsWhole)
    (arg6 : Memref sig .tc .vmem S1x128 .f32) (harg6 : arg6.IsWhole)
    (arg7 : Memref sig .tc .vmem S1x128x128 .f32) (harg7 : arg7.IsWhole)
    (arg8 : Memref sig .tc .vmem S1x128 .f32) (harg8 : arg8.IsWhole)
    (arg9 : Memref sig .tc .vmem S1x128 .f32) (harg9 : arg9.IsWhole)
    (arg10 : Memref sig .tc .vmem S4096x128 .f32) (harg10 : arg10.IsWhole)
    (arg11 : Memref sig .tc .vmem S4096x128 .bf16) (harg11 : arg11.IsWhole)
    (arg12 : Memref sig .tc .vmem S4096x128 .bf16) (harg12 : arg12.IsWhole)
    (arg13 : Memref sig .tc .vmem S4x128 .f32) (harg13 : arg13.IsWhole)
    (arg14 : Memref sig .tc .vmem S1x128 .f32) (harg14 : arg14.IsWhole)
    (arg15 : Memref sig .tc .vmem S1x128x128 .f32) (harg15 : arg15.IsWhole)
    (arg16 : Memref sig .tc .vmem S1x128 .f32) (harg16 : arg16.IsWhole)
    (arg17 : Memref sig .tc .vmem S1x128x128 .f32) (harg17 : arg17.IsWhole)
    (arg18 : Memref sig .tc .vmem S1x128 .f32) (harg18 : arg18.IsWhole)
    (arg19 : Memref sig .tc .vmem S1x128 .f32) (harg19 : arg19.IsWhole)
    (arg20 : Memref sig .tc .vmem S4096x128 .f32) (harg20 : arg20.IsWhole)
    (arg21 : Memref sig .tc .vmem S4096x128 .f32) (harg21 : arg21.IsWhole)
    (arg22 : Memref sig .tc .vmem S4096x128 .f32) (harg22 : arg22.IsWhole)
    (arg23 : Memref sig .tc .vmem S4096x128 .f32) (harg23 : arg23.IsWhole)
    (v44 v56 v68 : FVec F S4096x128 .f32) (v70 v74 v76 : FVec F S1x128 .f32) (v78 : IVec S1x128 1) (v79 : FVec F S1x128 .f32) (v113 : IVec S8x128 32)
    (X20 : BufTy.Contents (Elt F) arg20.view.ty) (X21 : BufTy.Contents (Elt F) arg21.view.ty) (f : BufTy.Contents (Elt F) arg22.view.ty)
    (k : Fin k0_t1_loop.trips) (acc : FVec F S1x128 .f32) :
    fwdRes (F := F) c arg20 arg21 arg22 X20 X21 f
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v44 v56 v68 v70 v74 v76 v78 v79 v113 k acc)
        (fun yld => iprop(⌜yld = fwdNext v113 (arg20.view.read (Elt F) X20) (arg21.view.read (Elt F) X21) acc k⌝
          ∗ fwdRes (F := F) c arg20 arg21 arg22 X20 X21
              (arg22.view.writes (Elt F) f [⟨fwdRect k, fwdTile v113 (arg20.view.read (Elt F) X20) (arg21.view.read (Elt F) X21) acc k⟩]))) := by
  have hk : k.val < 512 := Nat.lt_of_lt_of_le k.isLt k0_t1_abs.2.1
  unfold k0_t1_body
  iintro ⟨H20, H21, HW⟩
  sl_exec
  sl_step
  isplitr
  · ipureintro; rfl
  isplitl [H20]; · iexact H20
  isplitl [H21]; · iexact H21
  iexact HW

set_option warn.classDefReducibility false in
/-- The forward loop by its invariant: before trip `k` the output holds the tiles of the trips before over what it held. -/
@[sl_loop] def fwdLoop (𝒱 : Variants) (c : Dev nD) (bd : Option 𝒱.V) (E : Set ℕ) (i : grid0.Coords)
    (arg1 : Memref sig .tc .vmem S4096x128 .f32) (harg1 : arg1.IsWhole)
    (arg2 : Memref sig .tc .vmem S4096x128 .f32) (harg2 : arg2.IsWhole)
    (arg3 : Memref sig .tc .vmem S4x128 .f32) (harg3 : arg3.IsWhole)
    (arg4 : Memref sig .tc .vmem S1x128 .f32) (harg4 : arg4.IsWhole)
    (arg5 : Memref sig .tc .vmem S1x128x128 .f32) (harg5 : arg5.IsWhole)
    (arg6 : Memref sig .tc .vmem S1x128 .f32) (harg6 : arg6.IsWhole)
    (arg7 : Memref sig .tc .vmem S1x128x128 .f32) (harg7 : arg7.IsWhole)
    (arg8 : Memref sig .tc .vmem S1x128 .f32) (harg8 : arg8.IsWhole)
    (arg9 : Memref sig .tc .vmem S1x128 .f32) (harg9 : arg9.IsWhole)
    (arg10 : Memref sig .tc .vmem S4096x128 .f32) (harg10 : arg10.IsWhole)
    (arg11 : Memref sig .tc .vmem S4096x128 .bf16) (harg11 : arg11.IsWhole)
    (arg12 : Memref sig .tc .vmem S4096x128 .bf16) (harg12 : arg12.IsWhole)
    (arg13 : Memref sig .tc .vmem S4x128 .f32) (harg13 : arg13.IsWhole)
    (arg14 : Memref sig .tc .vmem S1x128 .f32) (harg14 : arg14.IsWhole)
    (arg15 : Memref sig .tc .vmem S1x128x128 .f32) (harg15 : arg15.IsWhole)
    (arg16 : Memref sig .tc .vmem S1x128 .f32) (harg16 : arg16.IsWhole)
    (arg17 : Memref sig .tc .vmem S1x128x128 .f32) (harg17 : arg17.IsWhole)
    (arg18 : Memref sig .tc .vmem S1x128 .f32) (harg18 : arg18.IsWhole)
    (arg19 : Memref sig .tc .vmem S1x128 .f32) (harg19 : arg19.IsWhole)
    (arg20 : Memref sig .tc .vmem S4096x128 .f32) (harg20 : arg20.IsWhole)
    (arg21 : Memref sig .tc .vmem S4096x128 .f32) (harg21 : arg21.IsWhole)
    (arg22 : Memref sig .tc .vmem S4096x128 .f32) (harg22 : arg22.IsWhole)
    (arg23 : Memref sig .tc .vmem S4096x128 .f32) (harg23 : arg23.IsWhole)
    (v44 v56 v68 : FVec F S4096x128 .f32) (v70 v74 v76 : FVec F S1x128 .f32) (v78 : IVec S1x128 1) (v79 : FVec F S1x128 .f32) (v113 : IVec S8x128 32)
    (X20 : BufTy.Contents (Elt F) arg20.view.ty) (X21 : BufTy.Contents (Elt F) arg21.view.ty) (G : BufTy.Contents (Elt F) arg22.view.ty)
    (init : FVec F S1x128 .f32) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok init
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v44 v56 v68 v70 v74 v76 v78 v79 v113) where
  inv k acc := iprop((arg20.view.loc (c : Thread nD τ) ↦[arg20.view.set]{fullShare} X20) ∗ (arg21.view.loc (c : Thread nD τ) ↦[arg21.view.set]{fullShare} X21)
    ∗ (∃ f, (arg22.view.loc (c : Thread nD τ) ↦[arg22.view.set]{fullShare} f)
        ∗ ⌜f = arg22.view.writes (Elt F) G (fwdPieces v113 (arg20.view.read (Elt F) X20) (arg21.view.read (Elt F) X21) init k)⌝)
    ∗ ⌜acc = fwdCarry v113 (arg20.view.read (Elt F) X20) (arg21.view.read (Elt F) X21) init k⌝)
  step k acc := by
    iintro ⟨H20, H21, ⟨%f, HW, %hf⟩, %hacc⟩
    subst hacc
    iapply (wp_wand_r Idealize.ShloMosaic.frame (wpE (defs₀ (F := F)) 𝒱 (c : Thread nD τ) bd) E)
    isplitl [H20 H21 HW]
    · iapply (fwd_trip (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v44 v56 v68 v70 v74 v76 v78 v79 v113 X20 X21 f k _)
      isplitl [H20]; · iexact H20
      isplitl [H21]; · iexact H21
      iexact HW
    · iintro %yld ⟨%hy, H20, H21, HW⟩
      isplitl [H20]; · iexact H20
      isplitl [H21]; · iexact H21
      simp only [fwdCarry_succ, fwdPieces_succ]
      isplitl [HW]
      · iexists _; isplitl [HW]; · iexact HW
        ipureintro; rw [hf, ← View.writes_append]; rfl
      ipureintro; exact hy

/-! ## The reverse loop -/

/-- The tile of eight rows that trip `k` of the reverse loop works on. -/
abbrev revRect (k : Fin k0_t2_loop.trips) : Rect S4096x128 := Rect.unit (s := S4096x128) (k0_off2 k) S8x128.size (k0_off2_inb k)

/-- What trip `k` of the reverse loop stores, from the carried row, the coefficients `A` and the inputs `B`. -/
def revTile (v : IVec S8x128 32) (A B : Vec F S4096x128 .f32) (acc : FVec F S1x128 .f32) (k : Fin k0_t2_loop.trips) : FVec F S8x128 .f32 :=
  k0_pay46 acc (k0_pay15 v (View.ld (Val := Elt F) A (revRect k)) (View.ld (Val := Elt F) B (revRect k))) (k0_pay16 v (View.ld (Val := Elt F) A (revRect k)))

/-- What trip `k` of the reverse loop carries on. -/
def revNext (v : IVec S8x128 32) (A B : Vec F S4096x128 .f32) (acc : FVec F S1x128 .f32) (k : Fin k0_t2_loop.trips) : FVec F S1x128 .f32 :=
  k0_pay47 acc (k0_pay15 v (View.ld (Val := Elt F) A (revRect k)) (View.ld (Val := Elt F) B (revRect k))) (k0_pay16 v (View.ld (Val := Elt F) A (revRect k)))

/-- The row carried before trip `k` of the reverse loop. -/
def revCarry (v : IVec S8x128 32) (A B : Vec F S4096x128 .f32) (init : FVec F S1x128 .f32) : ℕ → FVec F S1x128 .f32
  | 0 => init
  | k + 1 => if h : k < k0_t2_loop.trips then revNext v A B (revCarry v A B init k) ⟨k, h⟩ else revCarry v A B init k

/-- The tiles stored before trip `k` of the reverse loop, the last first. -/
def revPieces (v : IVec S8x128 32) (A B : Vec F S4096x128 .f32) (init : FVec F S1x128 .f32) : ℕ → List (View.Piece (Elt F) S4096x128 .f32)
  | 0 => []
  | k + 1 => if h : k < k0_t2_loop.trips then ⟨revRect ⟨k, h⟩, revTile v A B (revCarry v A B init k) ⟨k, h⟩⟩ :: revPieces v A B init k else revPieces v A B init k

theorem revCarry_succ (v : IVec S8x128 32) (A B : Vec F S4096x128 .f32) (init : FVec F S1x128 .f32) (k : Fin k0_t2_loop.trips) :
    revCarry v A B init (k.val + 1) = revNext v A B (revCarry v A B init k) k := dif_pos k.isLt

theorem revPieces_succ (v : IVec S8x128 32) (A B : Vec F S4096x128 .f32) (init : FVec F S1x128 .f32) (k : Fin k0_t2_loop.trips) :
    revPieces v A B init (k.val + 1) = ⟨revRect k, revTile v A B (revCarry v A B init k) k⟩ :: revPieces v A B init k := dif_pos k.isLt

/-- What one trip of the reverse loop touches: the coefficients and the inputs at their contents, the output at any. -/
abbrev revRes (c : Dev nD) (arg20 arg21 arg23 : Memref sig .tc .vmem S4096x128 .f32)
    (X20 : BufTy.Contents (Elt F) arg20.view.ty) (X21 : BufTy.Contents (Elt F) arg21.view.ty) (f : BufTy.Contents (Elt F) arg23.view.ty) : sProp 𝕄 :=
  iprop((arg20.view.loc (c : Thread nD τ) ↦[arg20.view.set]{fullShare} X20) ∗ (arg21.view.loc (c : Thread nD τ) ↦[arg21.view.set]{fullShare} X21)
    ∗ (arg23.view.loc (c : Thread nD τ) ↦[arg23.view.set]{fullShare} f))

/-- One trip of the reverse loop: it stores its tile and carries its last row on. -/
theorem rev_trip (𝒱 : Variants) (c : Dev nD) (bd : Option 𝒱.V) (E : Set ℕ) (i : grid0.Coords)
    (arg1 : Memref sig .tc .vmem S4096x128 .f32) (harg1 : arg1.IsWhole)
    (arg2 : Memref sig .tc .vmem S4096x128 .f32) (harg2 : arg2.IsWhole)
    (arg3 : Memref sig .tc .vmem S4x128 .f32) (harg3 : arg3.IsWhole)
    (arg4 : Memref sig .tc .vmem S1x128 .f32) (harg4 : arg4.IsWhole)
    (arg5 : Memref sig .tc .vmem S1x128x128 .f32) (harg5 : arg5.IsWhole)
    (arg6 : Memref sig .tc .vmem S1x128 .f32) (harg6 : arg6.IsWhole)
    (arg7 : Memref sig .tc .vmem S1x128x128 .f32) (harg7 : arg7.IsWhole)
    (arg8 : Memref sig .tc .vmem S1x128 .f32) (harg8 : arg8.IsWhole)
    (arg9 : Memref sig .tc .vmem S1x128 .f32) (harg9 : arg9.IsWhole)
    (arg10 : Memref sig .tc .vmem S4096x128 .f32) (harg10 : arg10.IsWhole)
    (arg11 : Memref sig .tc .vmem S4096x128 .bf16) (harg11 : arg11.IsWhole)
    (arg12 : Memref sig .tc .vmem S4096x128 .bf16) (harg12 : arg12.IsWhole)
    (arg13 : Memref sig .tc .vmem S4x128 .f32) (harg13 : arg13.IsWhole)
    (arg14 : Memref sig .tc .vmem S1x128 .f32) (harg14 : arg14.IsWhole)
    (arg15 : Memref sig .tc .vmem S1x128x128 .f32) (harg15 : arg15.IsWhole)
    (arg16 : Memref sig .tc .vmem S1x128 .f32) (harg16 : arg16.IsWhole)
    (arg17 : Memref sig .tc .vmem S1x128x128 .f32) (harg17 : arg17.IsWhole)
    (arg18 : Memref sig .tc .vmem S1x128 .f32) (harg18 : arg18.IsWhole)
    (arg19 : Memref sig .tc .vmem S1x128 .f32) (harg19 : arg19.IsWhole)
    (arg20 : Memref sig .tc .vmem S4096x128 .f32) (harg20 : arg20.IsWhole)
    (arg21 : Memref sig .tc .vmem S4096x128 .f32) (harg21 : arg21.IsWhole)
    (arg22 : Memref sig .tc .vmem S4096x128 .f32) (harg22 : arg22.IsWhole)
    (arg23 : Memref sig .tc .vmem S4096x128 .f32) (harg23 : arg23.IsWhole)
    (v56 : FVec F S4096x128 .f32) (v91 : FVec F S1x128 .f32) (v96 v104 v105 : FVec F S4096x128 .f32) (v151 : Vec F S4096x128 .f32) (v159 : FVec F S4096x128 .f32) (v169 : IVec S8x128 32)
    (X20 : BufTy.Contents (Elt F) arg20.view.ty) (X21 : BufTy.Contents (Elt F) arg21.view.ty) (f : BufTy.Contents (Elt F) arg23.view.ty)
    (k : Fin k0_t2_loop.trips) (acc : FVec F S1x128 .f32) :
    revRes (F := F) c arg20 arg21 arg23 X20 X21 f
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v56 v91 v96 v104 v105 v151 v159 v169 k acc)
        (fun yld => iprop(⌜yld = revNext v169 (arg20.view.read (Elt F) X20) (arg21.view.read (Elt F) X21) acc k⌝
          ∗ revRes (F := F) c arg20 arg21 arg23 X20 X21
              (arg23.view.writes (Elt F) f [⟨revRect k, revTile v169 (arg20.view.read (Elt F) X20) (arg21.view.read (Elt F) X21) acc k⟩]))) := by
  have hk : k.val < 512 := Nat.lt_of_lt_of_le k.isLt k0_t2_abs.2.1
  unfold k0_t2_body
  iintro ⟨H20, H21, HW⟩
  sl_exec
  sl_step
  isplitr
  · ipureintro; rfl
  isplitl [H20]; · iexact H20
  isplitl [H21]; · iexact H21
  iexact HW

set_option warn.classDefReducibility false in
/-- The reverse loop by its invariant: before trip `k` the output holds the tiles of the trips before over what it held. -/
@[sl_loop] def revLoop (𝒱 : Variants) (c : Dev nD) (bd : Option 𝒱.V) (E : Set ℕ) (i : grid0.Coords)
    (arg1 : Memref sig .tc .vmem S4096x128 .f32) (harg1 : arg1.IsWhole)
    (arg2 : Memref sig .tc .vmem S4096x128 .f32) (harg2 : arg2.IsWhole)
    (arg3 : Memref sig .tc .vmem S4x128 .f32) (harg3 : arg3.IsWhole)
    (arg4 : Memref sig .tc .vmem S1x128 .f32) (harg4 : arg4.IsWhole)
    (arg5 : Memref sig .tc .vmem S1x128x128 .f32) (harg5 : arg5.IsWhole)
    (arg6 : Memref sig .tc .vmem S1x128 .f32) (harg6 : arg6.IsWhole)
    (arg7 : Memref sig .tc .vmem S1x128x128 .f32) (harg7 : arg7.IsWhole)
    (arg8 : Memref sig .tc .vmem S1x128 .f32) (harg8 : arg8.IsWhole)
    (arg9 : Memref sig .tc .vmem S1x128 .f32) (harg9 : arg9.IsWhole)
    (arg10 : Memref sig .tc .vmem S4096x128 .f32) (harg10 : arg10.IsWhole)
    (arg11 : Memref sig .tc .vmem S4096x128 .bf16) (harg11 : arg11.IsWhole)
    (arg12 : Memref sig .tc .vmem S4096x128 .bf16) (harg12 : arg12.IsWhole)
    (arg13 : Memref sig .tc .vmem S4x128 .f32) (harg13 : arg13.IsWhole)
    (arg14 : Memref sig .tc .vmem S1x128 .f32) (harg14 : arg14.IsWhole)
    (arg15 : Memref sig .tc .vmem S1x128x128 .f32) (harg15 : arg15.IsWhole)
    (arg16 : Memref sig .tc .vmem S1x128 .f32) (harg16 : arg16.IsWhole)
    (arg17 : Memref sig .tc .vmem S1x128x128 .f32) (harg17 : arg17.IsWhole)
    (arg18 : Memref sig .tc .vmem S1x128 .f32) (harg18 : arg18.IsWhole)
    (arg19 : Memref sig .tc .vmem S1x128 .f32) (harg19 : arg19.IsWhole)
    (arg20 : Memref sig .tc .vmem S4096x128 .f32) (harg20 : arg20.IsWhole)
    (arg21 : Memref sig .tc .vmem S4096x128 .f32) (harg21 : arg21.IsWhole)
    (arg22 : Memref sig .tc .vmem S4096x128 .f32) (harg22 : arg22.IsWhole)
    (arg23 : Memref sig .tc .vmem S4096x128 .f32) (harg23 : arg23.IsWhole)
    (v56 : FVec F S4096x128 .f32) (v91 : FVec F S1x128 .f32) (v96 v104 v105 : FVec F S4096x128 .f32) (v151 : Vec F S4096x128 .f32) (v159 : FVec F S4096x128 .f32) (v169 : IVec S8x128 32)
    (X20 : BufTy.Contents (Elt F) arg20.view.ty) (X21 : BufTy.Contents (Elt F) arg21.view.ty) (G : BufTy.Contents (Elt F) arg23.view.ty)
    (init : FVec F S1x128 .f32) :
    Idealize.ShloMosaic.LoopInv (M := 𝕄) Idealize.ShloMosaic.frame (wpE (defs₀ (F := F)) 𝒱 (c : Thread nD τ) bd) E
      k0_t2_loop.lb k0_t2_loop.ub k0_t2_loop.st k0_t2_ok init
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v56 v91 v96 v104 v105 v151 v159 v169) where
  inv k acc := iprop((arg20.view.loc (c : Thread nD τ) ↦[arg20.view.set]{fullShare} X20) ∗ (arg21.view.loc (c : Thread nD τ) ↦[arg21.view.set]{fullShare} X21)
    ∗ (∃ f, (arg23.view.loc (c : Thread nD τ) ↦[arg23.view.set]{fullShare} f)
        ∗ ⌜f = arg23.view.writes (Elt F) G (revPieces v169 (arg20.view.read (Elt F) X20) (arg21.view.read (Elt F) X21) init k)⌝)
    ∗ ⌜acc = revCarry v169 (arg20.view.read (Elt F) X20) (arg21.view.read (Elt F) X21) init k⌝)
  step k acc := by
    iintro ⟨H20, H21, ⟨%f, HW, %hf⟩, %hacc⟩
    subst hacc
    iapply (wp_wand_r Idealize.ShloMosaic.frame (wpE (defs₀ (F := F)) 𝒱 (c : Thread nD τ) bd) E)
    isplitl [H20 H21 HW]
    · iapply (rev_trip (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v56 v91 v96 v104 v105 v151 v159 v169 X20 X21 f k _)
      isplitl [H20]; · iexact H20
      isplitl [H21]; · iexact H21
      iexact HW
    · iintro %yld ⟨%hy, H20, H21, HW⟩
      isplitl [H20]; · iexact H20
      isplitl [H21]; · iexact H21
      simp only [revCarry_succ, revPieces_succ]
      isplitl [HW]
      · iexists _; isplitl [HW]; · iexact HW
        ipureintro; rw [hf, ← View.writes_append]; rfl
      ipureintro; exact hy

end Cert.Lru

end
-- ==== Proof.KScan.lean ====
/- What the two tile loops leave in the whole buffer they store into: every row is stored once, by the trip of its tile. -/
module

public import proofs.«01_k».proof.Proof.KLoops
public import Idealize.ShloMosaic.Lib.ValueIdxCore

@[expose] public section

set_option maxRecDepth 16384

noncomputable section

namespace Cert.Lru

open Cert.KernelIdeal Cert.KernelIdeal.Gen
open Idealize.ShloMosaic Idealize.ShloMosaic.TcCoe
open Idealize.ShloMosaic.ValueIdx

variable {F : FTy → Type} [FloatOps F] [Named F]

theorem trips1 : k0_t1_loop.trips = 512 := by decide
theorem trips2 : k0_t2_loop.trips = 512 := by decide

/-- The row iota of a tile, as both loops build it. -/
abbrev tileIota : IVec S8x128 32 := iota .tc S8x128 32 [0] iota_S8x128_d0_w32

/-- The whole buffer the forward loop leaves. -/
def fwdAll (A B : Vec F S4096x128 .f32) : Vec F S4096x128 .f32 := fun y =>
  fwdTile tileIota A B (fwdCarry tileIota A B k0_pay35 ((y (0 : Fin 2)).val / 8))
    ⟨(y (0 : Fin 2)).val / 8, by rw [trips1]; have : (y (0 : Fin 2)).val < 4096 := (y 0).isLt; omega⟩
    (ix2 ⟨(y (0 : Fin 2)).val % 8, Nat.mod_lt _ (by omega)⟩ (y (1 : Fin 2)))

/-- The whole buffer the reverse loop leaves. -/
def revAll (A B : Vec F S4096x128 .f32) : Vec F S4096x128 .f32 := fun y =>
  revTile tileIota A B (revCarry tileIota A B k0_pay44 (511 - (y (0 : Fin 2)).val / 8))
    ⟨511 - (y (0 : Fin 2)).val / 8, by rw [trips2]; omega⟩
    (ix2 ⟨(y (0 : Fin 2)).val % 8, Nat.mod_lt _ (by omega)⟩ (y (1 : Fin 2)))

theorem fwd_read_upto (m : Memref sig .tc .vmem S4096x128 .f32) (G : BufTy.Contents (Elt F) m.view.ty) (A B : Vec F S4096x128 .f32) :
    ∀ k, k ≤ 512 → ∀ y : S4096x128.Idx, (y (0 : Fin 2)).val < 8 * k →
      m.view.read (Elt F) (m.view.writes (Elt F) G (fwdPieces tileIota A B k0_pay35 k)) y = fwdAll A B y := by
  intro k
  induction k with
  | zero => intro _ y hy; omega
  | succ k ih =>
    intro hk y hy
    have hkt : k < k0_t1_loop.trips := by rw [trips1]; omega
    rw [fwdPieces_succ tileIota A B k0_pay35 ⟨k, hkt⟩]
    by_cases h : (y (0 : Fin 2)).val < 8 * k
    · rw [← ih (by omega) y h]
      exact View.read_writes_cons_rows_of_not_mem (d := ![4096, 128]) (W := 8) m.view G _ _ _ y (k0_off1_eq ⟨k, hkt⟩) rfl (Or.inl h)
    · have e : (y (0 : Fin 2)).val / 8 = k := by omega
      refine (View.read_writes_cons_rows_of_mem (d := ![4096, 128]) (size := S8x128.size) m.view G (k0_off1_inb ⟨k, hkt⟩) _ _ y
        (ix2 ⟨(y (0 : Fin 2)).val % 8, Nat.mod_lt _ (by omega)⟩ (y (1 : Fin 2))) (k0_off1_eq ⟨k, hkt⟩)
        (by show _ = 8 * k + (y (0 : Fin 2)).val % 8; omega) rfl).trans ?_
      unfold fwdAll
      simp only [e]

theorem fwd_read (m : Memref sig .tc .vmem S4096x128 .f32) (G : BufTy.Contents (Elt F) m.view.ty) (A B : Vec F S4096x128 .f32) :
    m.view.read (Elt F) (m.view.writes (Elt F) G (fwdPieces tileIota A B k0_pay35 k0_t1_loop.trips)) = fwdAll A B := by
  funext y
  rw [trips1]
  exact fwd_read_upto m G A B 512 le_rfl y (y (0 : Fin 2)).isLt

theorem rev_read_upto (m : Memref sig .tc .vmem S4096x128 .f32) (G : BufTy.Contents (Elt F) m.view.ty) (A B : Vec F S4096x128 .f32) :
    ∀ k, k ≤ 512 → ∀ y : S4096x128.Idx, 4096 - 8 * k ≤ (y (0 : Fin 2)).val →
      m.view.read (Elt F) (m.view.writes (Elt F) G (revPieces tileIota A B k0_pay44 k)) y = revAll A B y := by
  intro k
  induction k with
  | zero => intro _ y hy; have : (y (0 : Fin 2)).val < 4096 := (y 0).isLt; omega
  | succ k ih =>
    intro hk y hy
    have hkt : k < k0_t2_loop.trips := by rw [trips2]; omega
    rw [revPieces_succ tileIota A B k0_pay44 ⟨k, hkt⟩]
    by_cases h : 4096 - 8 * k ≤ (y (0 : Fin 2)).val
    · rw [← ih (by omega) y h]
      exact View.read_writes_cons_rows_of_not_mem (d := ![4096, 128]) (W := 8) m.view G _ _ _ y (k0_off2_eq ⟨k, hkt⟩) rfl
        (Or.inr (by show 4088 - 8 * k + 8 ≤ _; omega))
    · have e : 511 - (y (0 : Fin 2)).val / 8 = k := by omega
      refine (View.read_writes_cons_rows_of_mem (d := ![4096, 128]) (size := S8x128.size) m.view G (k0_off2_inb ⟨k, hkt⟩) _ _ y
        (ix2 ⟨(y (0 : Fin 2)).val % 8, Nat.mod_lt _ (by omega)⟩ (y (1 : Fin 2))) (k0_off2_eq ⟨k, hkt⟩)
        (by show _ = 4088 - 8 * k + (y (0 : Fin 2)).val % 8; omega) rfl).trans ?_
      unfold revAll
      simp only [e]

theorem rev_read (m : Memref sig .tc .vmem S4096x128 .f32) (G : BufTy.Contents (Elt F) m.view.ty) (A B : Vec F S4096x128 .f32) :
    m.view.read (Elt F) (m.view.writes (Elt F) G (revPieces tileIota A B k0_pay44 k0_t2_loop.trips)) = revAll A B := by
  funext y
  rw [trips2]
  exact rev_read_upto m G A B 512 le_rfl y (by omega)

end Cert.Lru

end
-- ==== Proof.KOut.lean ====
/- What one grid step of the kernel computes: each intermediate array, and each output block, as a function of the ten input blocks. -/
module

public import proofs.«01_k».proof.Proof.KScan

@[expose] public section

set_option maxRecDepth 16384

noncomputable section

namespace Cert.Lru

open Cert.KernelIdeal Cert.KernelIdeal.Gen
open Idealize.ShloMosaic Idealize.ShloMosaic.TcCoe
open Idealize.ShloMosaic.ValueIdx

/-- The ten input blocks of a grid step: the channel block's columns of each argument. -/
structure Blk (F : FTy → Type) where
  xl : Vec F S4096x128 .f32
  yl : Vec F S4096x128 .f32
  cw : Vec F S4x128 .f32
  cb : Vec F S1x128 .f32
  wr : Vec F S1x128x128 .f32
  br : Vec F S1x128 .f32
  wi : Vec F S1x128x128 .f32
  bi : Vec F S1x128 .f32
  lam : Vec F S1x128 .f32
  ct : Vec F S4096x128 .f32

variable {F : FTy → Type} [FloatOps F] [Named F]

namespace Blk

variable (p : Blk F)

def xc : Vec F S4096x128 .f32 := k0_pay19 p.xl p.cw p.cb
/-- The convolution's output `u`. -/
def u : Vec F S4096x128 .f32 := k0_pay20 p.xl p.cw p.xc
/-- The recurrence gate. -/
def r : Vec F S4096x128 .f32 := k0_pay21 p.xl p.cw (k0_pay17 p.wr) p.br p.xc
/-- The input gate. -/
def i : Vec F S4096x128 .f32 := k0_pay22 p.xl p.cw (k0_pay18 p.wi) p.bi p.xc
/-- `softplus (-lam)`. -/
def sp : Vec F S1x128 .f32 := k0_pay28 (k0_pay23 p.lam) (k0_pay24 p.lam) (k0_pay25 p.lam) (k0_pay26 p.lam) (k0_pay27 p.lam)
/-- The decay `a`, as a value kept for later. -/
def a : Vec F S4096x128 .f32 := k0_pay30 p.r (k0_pay23 p.lam) (k0_pay24 p.lam) (k0_pay25 p.lam) (k0_pay26 p.lam) (k0_pay27 p.lam)
/-- The decay `a`, as stored for the forward scan. -/
def aS : Vec F S4096x128 .f32 := k0_pay33 p.r (k0_pay23 p.lam) (k0_pay24 p.lam) (k0_pay25 p.lam) (k0_pay26 p.lam) (k0_pay27 p.lam)
/-- The scan's input, as stored for the forward scan. -/
def bS : Vec F S4096x128 .f32 := k0_pay34 p.u p.r p.i (k0_pay23 p.lam) (k0_pay24 p.lam) (k0_pay25 p.lam) (k0_pay26 p.lam) (k0_pay27 p.lam)
def mult : Vec F S4096x128 .f32 := k0_pay31 p.r (k0_pay23 p.lam) (k0_pay24 p.lam) (k0_pay25 p.lam) (k0_pay26 p.lam) (k0_pay27 p.lam)
def iu : Vec F S4096x128 .f32 := k0_pay32 p.u p.i
/-- The hidden state, recomputed by the forward scan. -/
def h : Vec F S4096x128 .f32 := fwdAll p.aS p.bS
/-- The cotangent of the hidden state before the scan. -/
def gin : Vec F S4096x128 .f32 := k0_pay42 p.yl k0_pay39 p.ct
/-- The cotangent of the hidden state, by the reverse scan. -/
def g : Vec F S4096x128 .f32 := revAll (k0_pay43 p.a) p.gin
def dv : Vec F S4096x128 .f32 := k0_pay48 p.mult p.g
def dr : Vec F S4096x128 .f32 := k0_pay50 p.sp p.a p.mult p.iu p.h p.g
def dsp : Vec F S1x128 .f32 := k0_pay51 p.r p.a p.mult p.iu p.h p.g
def drp : Vec F S4096x128 .f32 := k0_pay53 p.r p.dr
def dip : Vec F S4096x128 .f32 := k0_pay54 p.u p.i p.dv
def du : Vec F S4096x128 .f32 := k0_pay60 p.i p.dv p.drp p.dip p.wr p.wi
/-- The output blocks. -/
def dxl : Vec F S4096x128 .bf16 := k0_pay64 p.du (k0_pay61 p.cw p.i p.dv p.drp p.dip p.wr p.wi) (k0_pay62 p.cw) k0_pay63
def dyl : Vec F S4096x128 .bf16 := k0_pay41 p.yl k0_pay39 p.ct p.h
def dcw : Vec F S4x128 .f32 := fun y =>
  if (y (0 : Fin 2)).val = 0 then k0_pay65 p.xl p.du (ix2 ⟨0, by decide⟩ (y (1 : Fin 2)))
  else if (y (0 : Fin 2)).val = 1 then k0_pay66 p.xl p.du (ix2 ⟨0, by decide⟩ (y (1 : Fin 2)))
  else if (y (0 : Fin 2)).val = 2 then k0_pay67 p.xl p.du (ix2 ⟨0, by decide⟩ (y (1 : Fin 2)))
  else k0_pay1 p.xl p.du (ix2 ⟨0, by decide⟩ (y (1 : Fin 2)))
def dcb : Vec F S1x128 .f32 := k0_pay2 p.du
def dwr : Vec F S1x128x128 .f32 := k0_pay57 p.u p.r p.dr
def dbr : Vec F S1x128 .f32 := k0_pay55 p.r p.dr
def dwi : Vec F S1x128x128 .f32 := k0_pay59 (k0_pay58 p.u p.i p.dv)
def dbi : Vec F S1x128 .f32 := k0_pay56 p.u p.i p.dv
def dlam : Vec F S1x128 .f32 := k0_pay52 p.lam p.dsp

end Blk

/-- A buffer of four rows, each row stored once, reads row by row. -/
theorem rows4_read (m : Memref sig .tc .vmem S4x128 .f32) (G : BufTy.Contents (Elt F) m.view.ty) (w0 w1 w2 w3 : Vec F S1x128 .f32) :
    m.view.read (Elt F) (m.view.writes (Elt F) G [⟨Rect.unit ![3, 0] S1x128.size inb_S4x128_S1x128_3_0, w3⟩,
      ⟨Rect.unit ![2, 0] S1x128.size inb_S4x128_S1x128_2_0, w2⟩, ⟨Rect.unit ![1, 0] S1x128.size inb_S4x128_S1x128_1_0, w1⟩,
      ⟨Rect.unit ![0, 0] S1x128.size inb_S4x128_S1x128_0_0, w0⟩]) =
    (fun y : S4x128.Idx =>
      if (y (0 : Fin 2)).val = 0 then w0 (ix2 ⟨0, by decide⟩ (y (1 : Fin 2)))
      else if (y (0 : Fin 2)).val = 1 then w1 (ix2 ⟨0, by decide⟩ (y (1 : Fin 2)))
      else if (y (0 : Fin 2)).val = 2 then w2 (ix2 ⟨0, by decide⟩ (y (1 : Fin 2)))
      else w3 (ix2 ⟨0, by decide⟩ (y (1 : Fin 2)))) := by
  funext y
  have hy : (y (0 : Fin 2)).val < 4 := (y (0 : Fin 2)).isLt
  have miss : ∀ (o : ℕ) (inb : ∀ a, (![o, 0] : Fin 2 → ℕ) a + S1x128.size a ≤ S4x128.size a) (w : Vec F S1x128 .f32) L, (y (0 : Fin 2)).val ≠ o →
      m.view.read (Elt F) (m.view.writes (Elt F) G (⟨Rect.unit ![o, 0] S1x128.size inb, w⟩ :: L)) y = m.view.read (Elt F) (m.view.writes (Elt F) G L) y := by
    intro o inb w L h
    exact View.read_writes_cons_rows_of_not_mem (d := ![4, 128]) (W := 1) m.view G inb w L y rfl rfl (by omega)
  have hit : ∀ (o : ℕ) (inb : ∀ a, (![o, 0] : Fin 2 → ℕ) a + S1x128.size a ≤ S4x128.size a) (w : Vec F S1x128 .f32) L, (y (0 : Fin 2)).val = o →
      m.view.read (Elt F) (m.view.writes (Elt F) G (⟨Rect.unit ![o, 0] S1x128.size inb, w⟩ :: L)) y = w (ix2 ⟨0, by decide⟩ (y (1 : Fin 2))) := by
    intro o inb w L h
    exact View.read_writes_cons_rows_of_mem (d := ![4, 128]) (size := S1x128.size) m.view G inb w L y (ix2 ⟨0, by decide⟩ (y (1 : Fin 2))) rfl
      (by show _ = o + 0; omega) rfl
  split_ifs with h0 h1 h2
  · rw [miss 3 _ _ _ (by omega), miss 2 _ _ _ (by omega), miss 1 _ _ _ (by omega), hit 0 _ _ _ h0]
  · rw [miss 3 _ _ _ (by omega), miss 2 _ _ _ (by omega), hit 1 _ _ _ h1]
  · rw [miss 3 _ _ _ (by omega), hit 2 _ _ _ h2]
  · rw [hit 3 _ _ _ (by omega)]

end Cert.Lru

end
-- ==== Proof.KBody.lean ====
/- One run of the kernel body on whole staging buffers, with what each output buffer holds afterwards. -/
module

public import proofs.«01_k».proof.Proof.KOut
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.VecWindow

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the runs. -/
local notation "𝕄" => MT nD τ sig Unit (Elt F) ℕ (UR sig nD τ) ℕ

set_option maxHeartbeats 2000000 in
/-- The body's triple: the inputs are left as they were, each output holds its value. -/
theorem body_run (c : Dev nD) (i : grid0.Coords)
    (arg1 : Memref sig .tc .vmem S4096x128 .f32) (harg1 : arg1.IsWhole)
    (arg2 : Memref sig .tc .vmem S4096x128 .f32) (harg2 : arg2.IsWhole)
    (arg3 : Memref sig .tc .vmem S4x128 .f32) (harg3 : arg3.IsWhole)
    (arg4 : Memref sig .tc .vmem S1x128 .f32) (harg4 : arg4.IsWhole)
    (arg5 : Memref sig .tc .vmem S1x128x128 .f32) (harg5 : arg5.IsWhole)
    (arg6 : Memref sig .tc .vmem S1x128 .f32) (harg6 : arg6.IsWhole)
    (arg7 : Memref sig .tc .vmem S1x128x128 .f32) (harg7 : arg7.IsWhole)
    (arg8 : Memref sig .tc .vmem S1x128 .f32) (harg8 : arg8.IsWhole)
    (arg9 : Memref sig .tc .vmem S1x128 .f32) (harg9 : arg9.IsWhole)
    (arg10 : Memref sig .tc .vmem S4096x128 .f32) (harg10 : arg10.IsWhole)
    (arg11 : Memref sig .tc .vmem S4096x128 .bf16) (harg11 : arg11.IsWhole)
    (arg12 : Memref sig .tc .vmem S4096x128 .bf16) (harg12 : arg12.IsWhole)
    (arg13 : Memref sig .tc .vmem S4x128 .f32) (harg13 : arg13.IsWhole)
    (arg14 : Memref sig .tc .vmem S1x128 .f32) (harg14 : arg14.IsWhole)
    (arg15 : Memref sig .tc .vmem S1x128x128 .f32) (harg15 : arg15.IsWhole)
    (arg16 : Memref sig .tc .vmem S1x128 .f32) (harg16 : arg16.IsWhole)
    (arg17 : Memref sig .tc .vmem S1x128x128 .f32) (harg17 : arg17.IsWhole)
    (arg18 : Memref sig .tc .vmem S1x128 .f32) (harg18 : arg18.IsWhole)
    (arg19 : Memref sig .tc .vmem S1x128 .f32) (harg19 : arg19.IsWhole)
    (arg20 : Memref sig .tc .vmem S4096x128 .f32) (harg20 : arg20.IsWhole)
    (arg21 : Memref sig .tc .vmem S4096x128 .f32) (harg21 : arg21.IsWhole)
    (arg22 : Memref sig .tc .vmem S4096x128 .f32) (harg22 : arg22.IsWhole)
    (arg23 : Memref sig .tc .vmem S4096x128 .f32) (harg23 : arg23.IsWhole)
    (x0 : Vec F S4096x128 .f32) (x1 : Vec F S4096x128 .f32) (x2 : Vec F S4x128 .f32) (x3 : Vec F S1x128 .f32) (x4 : Vec F S1x128x128 .f32) (x5 : Vec F S1x128 .f32) (x6 : Vec F S1x128x128 .f32) (x7 : Vec F S1x128 .f32) (x8 : Vec F S1x128 .f32) (x9 : Vec F S4096x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (Blk.mk x0 x1 x2 x3 x4 x5 x6 x7 x8 x9).dxl ∗ owns (c : Thread nD τ) arg12 fullShare (Blk.mk x0 x1 x2 x3 x4 x5 x6 x7 x8 x9).dyl ∗ owns (c : Thread nD τ) arg13 fullShare (Blk.mk x0 x1 x2 x3 x4 x5 x6 x7 x8 x9).dcw ∗ owns (c : Thread nD τ) arg14 fullShare (Blk.mk x0 x1 x2 x3 x4 x5 x6 x7 x8 x9).dcb ∗ owns (c : Thread nD τ) arg15 fullShare (Blk.mk x0 x1 x2 x3 x4 x5 x6 x7 x8 x9).dwr ∗ owns (c : Thread nD τ) arg16 fullShare (Blk.mk x0 x1 x2 x3 x4 x5 x6 x7 x8 x9).dbr ∗ owns (c : Thread nD τ) arg17 fullShare (Blk.mk x0 x1 x2 x3 x4 x5 x6 x7 x8 x9).dwi ∗ owns (c : Thread nD τ) arg18 fullShare (Blk.mk x0 x1 x2 x3 x4 x5 x6 x7 x8 x9).dbi ∗ owns (c : Thread nD τ) arg19 fullShare (Blk.mk x0 x1 x2 x3 x4 x5 x6 x7 x8 x9).dlam ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_lru_bwd_eq_skeleton]; unfold cc0_lru_bwd_skel
  simp only [k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec
  sl_step
  have hr : body_run.sl.r c arg1 harg1 x0 = x0 := by
    unfold body_run.sl.r
    rw [View.readAt_full, harg1.read_unread]
  have hr_1 : body_run.sl.r_1 c arg3 harg3 x2 = x2 := by
    unfold body_run.sl.r_1
    rw [View.readAt_full, harg3.read_unread]
  have hr_2 : body_run.sl.r_2 c arg9 harg9 x8 = x8 := by
    unfold body_run.sl.r_2
    rw [View.readAt_full, harg9.read_unread]
  have hr_3 : body_run.sl.r_3 c arg5 harg5 x4 = (k0_pay17 x4) := by
    unfold body_run.sl.r_3
    rw [View.readAt_full, harg5.read_unread]
  have hr_4 : body_run.sl.r_4 c arg6 harg6 x5 = x5 := by
    unfold body_run.sl.r_4
    rw [View.readAt_full, harg6.read_unread]
  have hr_5 : body_run.sl.r_5 c arg7 harg7 x6 = (k0_pay18 x6) := by
    unfold body_run.sl.r_5
    rw [View.readAt_full, harg7.read_unread]
  have hr_6 : body_run.sl.r_6 c arg8 harg8 x7 = x7 := by
    unfold body_run.sl.r_6
    rw [View.readAt_full, harg8.read_unread]
  have hr_7 : body_run.sl.r_7 c arg1 harg1 arg3 harg3 arg4 harg4 x0 x2 x3 = (Blk.mk x0 x1 x2 x3 x4 x5 x6 x7 x8 x9).xc := by
    unfold body_run.sl.r_7
    rw [View.readAt_full, View.readAt_full, View.readAt_full, harg1.read_unread, harg3.read_unread, harg4.read_unread]
    rfl
  have hr_8 : body_run.sl.r_8 c arg1 harg1 arg3 harg3 arg4 harg4 x0 x2 x3 = (Blk.mk x0 x1 x2 x3 x4 x5 x6 x7 x8 x9).u := by
    unfold body_run.sl.r_8
    rw [hr, hr_1, hr_7]
    rfl
  have hr_9 : body_run.sl.r_9 c arg1 harg1 arg3 harg3 arg4 harg4 arg5 harg5 arg6 harg6 x0 x2 x3 x4 x5 = (Blk.mk x0 x1 x2 x3 x4 x5 x6 x7 x8 x9).r := by
    unfold body_run.sl.r_9
    rw [hr, hr_1, hr_3, hr_4, hr_7]
    rfl
  have hr_10 : body_run.sl.r_10 c arg1 harg1 arg3 harg3 arg4 harg4 arg7 harg7 arg8 harg8 x0 x2 x3 x6 x7 = (Blk.mk x0 x1 x2 x3 x4 x5 x6 x7 x8 x9).i := by
    unfold body_run.sl.r_10
    rw [hr, hr_1, hr_5, hr_6, hr_7]
    rfl
  have hr_11 : body_run.sl.r_11 c arg9 harg9 x8 = (k0_pay23 x8) := by
    unfold body_run.sl.r_11
    rw [hr_2]
  have hr_12 : body_run.sl.r_12 c arg9 harg9 x8 = (k0_pay24 x8) := by
    unfold body_run.sl.r_12
    rw [hr_2]
  have hr_13 : body_run.sl.r_13 c arg9 harg9 x8 = (k0_pay25 x8) := by
    unfold body_run.sl.r_13
    rw [hr_2]
  have hr_14 : body_run.sl.r_14 c arg9 harg9 x8 = (k0_pay26 x8) := by
    unfold body_run.sl.r_14
    rw [hr_2]
  have hr_15 : body_run.sl.r_15 c arg9 harg9 x8 = (k0_pay27 x8) := by
    unfold body_run.sl.r_15
    rw [hr_2]
  have hr_16 : body_run.sl.r_16 c arg9 harg9 x8 = (Blk.mk x0 x1 x2 x3 x4 x5 x6 x7 x8 x9).sp := by
    unfold body_run.sl.r_16
    rw [hr_11, hr_12, hr_13, hr_14, hr_15]
    rfl
  have hr_17 : body_run.sl.r_17 c arg1 harg1 arg3 harg3 arg4 harg4 arg5 harg5 arg6 harg6 arg9 harg9 x0 x2 x3 x4 x5 x8 = (Blk.mk x0 x1 x2 x3 x4 x5 x6 x7 x8 x9).a := by
    unfold body_run.sl.r_17
    rw [hr_11, hr_12, hr_13, hr_14, hr_15, hr_9]
    rfl
  have hr_18 : body_run.sl.r_18 c arg1 harg1 arg3 harg3 arg4 harg4 arg5 harg5 arg6 harg6 arg9 harg9 x0 x2 x3 x4 x5 x8 = (Blk.mk x0 x1 x2 x3 x4 x5 x6 x7 x8 x9).mult := by
    unfold body_run.sl.r_18
    rw [hr_11, hr_12, hr_13, hr_14, hr_15, hr_9]
    rfl
  have hr_19 : body_run.sl.r_19 c arg1 harg1 arg3 harg3 arg4 harg4 arg7 harg7 arg8 harg8 x0 x2 x3 x6 x7 = (Blk.mk x0 x1 x2 x3 x4 x5 x6 x7 x8 x9).iu := by
    unfold body_run.sl.r_19
    rw [hr_10, hr_8]
    rfl
  have hr_20 : body_run.sl.r_20 c arg2 harg2 x1 = x1 := by
    unfold body_run.sl.r_20
    rw [View.readAt_full, harg2.read_unread]
  have hr_21 : body_run.sl.r_21 c arg2 harg2 arg10 harg10 x1 x9 = (Blk.mk x0 x1 x2 x3 x4 x5 x6 x7 x8 x9).gin := by
    unfold body_run.sl.r_21
    rw [hr_20, View.readAt_full, harg10.read_unread]
    rfl
  have hv151 : body_run.sl.v151 c arg1 harg1 arg3 harg3 arg4 harg4 arg5 harg5 arg6 harg6 arg7 harg7 arg8 harg8 arg9 harg9 arg20 arg21 arg22 x0 x2 x3 x4 x5 x6 x7 x8 = (Blk.mk x0 x1 x2 x3 x4 x5 x6 x7 x8 x9).h := by
    unfold body_run.sl.v151
    unfold body_run.sl.H19_1 body_run.sl.H20_1
    rw [hr_8, hr_9, hr_10, hr_11, hr_12, hr_13, hr_14, hr_15, View.read_writes_full, View.read_writes_full]
    exact (View.readAt_full _ _ _).trans (fwd_read arg22 _ _ _)
  have hv173 : body_run.sl.v173 c arg1 harg1 arg2 harg2 arg3 harg3 arg4 harg4 arg5 harg5 arg6 harg6 arg7 harg7 arg8 harg8 arg9 harg9 arg10 harg10 arg20 arg21 arg23 x0 x1 x2 x3 x4 x5 x6 x7 x8 x9 = (Blk.mk x0 x1 x2 x3 x4 x5 x6 x7 x8 x9).g := by
    unfold body_run.sl.v173
    unfold body_run.sl.H19_1 body_run.sl.H20_1
    rw [hr_17, hr_21, View.read_writes_full, View.read_writes_full]
    exact (View.readAt_full _ _ _).trans (rev_read arg23 _ _ _)
  have hr_22 : body_run.sl.r_22 c arg1 harg1 arg2 harg2 arg3 harg3 arg4 harg4 arg5 harg5 arg6 harg6 arg7 harg7 arg8 harg8 arg9 harg9 arg10 harg10 arg20 arg21 arg23 x0 x1 x2 x3 x4 x5 x6 x7 x8 x9 = (Blk.mk x0 x1 x2 x3 x4 x5 x6 x7 x8 x9).dv := by
    unfold body_run.sl.r_22
    rw [hr_18, hv173]
    rfl
  have hr_23 : body_run.sl.r_23 c arg1 harg1 arg2 harg2 arg3 harg3 arg4 harg4 arg5 harg5 arg6 harg6 arg7 harg7 arg8 harg8 arg9 harg9 arg10 harg10 arg20 arg21 arg22 arg23 x0 x1 x2 x3 x4 x5 x6 x7 x8 x9 = (Blk.mk x0 x1 x2 x3 x4 x5 x6 x7 x8 x9).dr := by
    unfold body_run.sl.r_23
    rw [hr_16, hr_17, hr_18, hr_19, hv151, hv173]
    rfl
  have hr_24 : body_run.sl.r_24 c arg1 harg1 arg2 harg2 arg3 harg3 arg4 harg4 arg5 harg5 arg6 harg6 arg7 harg7 arg8 harg8 arg9 harg9 arg10 harg10 arg20 arg21 arg22 arg23 x0 x1 x2 x3 x4 x5 x6 x7 x8 x9 = (Blk.mk x0 x1 x2 x3 x4 x5 x6 x7 x8 x9).dsp := by
    unfold body_run.sl.r_24
    rw [hr_17, hr_18, hr_19, hr_9, hv151, hv173]
    rfl
  have hr_25 : body_run.sl.r_25 c arg1 harg1 arg2 harg2 arg3 harg3 arg4 harg4 arg5 harg5 arg6 harg6 arg7 harg7 arg8 harg8 arg9 harg9 arg10 harg10 arg20 arg21 arg22 arg23 x0 x1 x2 x3 x4 x5 x6 x7 x8 x9 = (Blk.mk x0 x1 x2 x3 x4 x5 x6 x7 x8 x9).drp := by
    unfold body_run.sl.r_25
    rw [hr_23, hr_9]
    rfl
  have hr_26 : body_run.sl.r_26 c arg1 harg1 arg2 harg2 arg3 harg3 arg4 harg4 arg5 harg5 arg6 harg6 arg7 harg7 arg8 harg8 arg9 harg9 arg10 harg10 arg20 arg21 arg23 x0 x1 x2 x3 x4 x5 x6 x7 x8 x9 = (Blk.mk x0 x1 x2 x3 x4 x5 x6 x7 x8 x9).dip := by
    unfold body_run.sl.r_26
    rw [hr_10, hr_22, hr_8]
    rfl
  have hr_27 : body_run.sl.r_27 c arg1 harg1 arg2 harg2 arg3 harg3 arg4 harg4 arg5 harg5 arg6 harg6 arg7 harg7 arg8 harg8 arg9 harg9 arg10 harg10 arg20 arg21 arg23 x0 x1 x2 x3 x4 x5 x6 x7 x8 x9 = (k0_pay58 (Blk.mk x0 x1 x2 x3 x4 x5 x6 x7 x8 x9).u (Blk.mk x0 x1 x2 x3 x4 x5 x6 x7 x8 x9).i (Blk.mk x0 x1 x2 x3 x4 x5 x6 x7 x8 x9).dv) := by
    unfold body_run.sl.r_27
    rw [hr_10, hr_22, hr_8]
  have hr_28 : body_run.sl.r_28 c arg1 harg1 arg2 harg2 arg3 harg3 arg4 harg4 arg5 harg5 arg6 harg6 arg7 harg7 arg8 harg8 arg9 harg9 arg10 harg10 arg20 arg21 arg22 arg23 x0 x1 x2 x3 x4 x5 x6 x7 x8 x9 = (Blk.mk x0 x1 x2 x3 x4 x5 x6 x7 x8 x9).du := by
    unfold body_run.sl.r_28
    rw [hr_10, hr_22, hr_25, hr_26, View.readAt_full, View.readAt_full, harg5.read_unread, harg7.read_unread]
    rfl
  have hr_29 : body_run.sl.r_29 c arg1 harg1 arg2 harg2 arg3 harg3 arg4 harg4 arg5 harg5 arg6 harg6 arg7 harg7 arg8 harg8 arg9 harg9 arg10 harg10 arg20 arg21 arg22 arg23 x0 x1 x2 x3 x4 x5 x6 x7 x8 x9 = (k0_pay61 x2 (Blk.mk x0 x1 x2 x3 x4 x5 x6 x7 x8 x9).i (Blk.mk x0 x1 x2 x3 x4 x5 x6 x7 x8 x9).dv (Blk.mk x0 x1 x2 x3 x4 x5 x6 x7 x8 x9).drp (Blk.mk x0 x1 x2 x3 x4 x5 x6 x7 x8 x9).dip x4 x6) := by
    unfold body_run.sl.r_29
    rw [hr_1, hr_10, hr_22, hr_25, hr_26, View.readAt_full, View.readAt_full, harg5.read_unread, harg7.read_unread]
  have hr_30 : body_run.sl.r_30 c arg3 harg3 x2 = (k0_pay62 x2) := by
    unfold body_run.sl.r_30
    rw [hr_1]
  have hr_31 : body_run.sl.r_31 c arg1 harg1 arg2 harg2 arg3 harg3 arg4 harg4 arg5 harg5 arg6 harg6 arg7 harg7 arg8 harg8 arg9 harg9 arg10 harg10 arg20 arg21 arg22 arg23 x0 x1 x2 x3 x4 x5 x6 x7 x8 x9 = (k0_pay67 x0 (Blk.mk x0 x1 x2 x3 x4 x5 x6 x7 x8 x9).du) := by
    unfold body_run.sl.r_31
    rw [hr, hr_28]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    refine (View.read_writes_full _ _ _ _ _).trans ?_
    rw [hr_28, hr_29, hr_30]; rfl
  isplitl [H11]
  · iexists _; isplitr; swap; · iexact H11
    ipureintro
    refine (View.read_writes_full _ _ _ _ _).trans ?_
    rw [hr_20, View.readAt_full, harg10.read_unread, hv151]; rfl
  isplitl [H12]
  · iexists _; isplitr; swap; · iexact H12
    ipureintro
    refine (rows4_read arg13 _ _ _ _ _).trans ?_
    rw [hr, hr_28, hr_31]; rfl
  isplitl [H13]
  · iexists _; isplitr; swap; · iexact H13
    ipureintro
    refine (View.read_writes_full _ _ _ _ _).trans ?_
    rw [hr_28]; rfl
  isplitl [H14]
  · iexists _; isplitr; swap; · iexact H14
    ipureintro
    refine (View.read_writes_full _ _ _ _ _).trans ?_
    rw [hr_8, hr_9, hr_23]; rfl
  isplitl [H15]
  · iexists _; isplitr; swap; · iexact H15
    ipureintro
    refine (View.read_writes_full _ _ _ _ _).trans ?_
    rw [hr_9, hr_23]; rfl
  isplitl [H16]
  · iexists _; isplitr; swap; · iexact H16
    ipureintro
    refine (View.read_writes_full _ _ _ _ _).trans ?_
    rw [hr_27]; rfl
  isplitl [H17]
  · iexists _; isplitr; swap; · iexact H17
    ipureintro
    refine (View.read_writes_full _ _ _ _ _).trans ?_
    rw [hr_8, hr_10, hr_22]; rfl
  isplitl [H18]
  · iexists _; isplitr; swap; · iexact H18
    ipureintro
    refine (View.read_writes_full _ _ _ _ _).trans ?_
    rw [hr_2, hr_24]; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.Lru

end
-- ==== Proof.KFrame.lean ====
/- The whole launch of the kernel, with named outputs: every grid step's body runs by `body_run`, so the run ends with each output array
   as its blocks leave it, the arguments as they were, and every semaphore counter at zero. -/
module

public import proofs.«01_k».proof.Proof.KBody
public import proofs.«01_k».proof.Proof.Gen.KernelIdeal.Frame
public import Idealize.ShloMosaic.Lib.Claim

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev st0 (t : Fin cfg0.N) : Memref sig .tc .vmem S4096x128 .f32 := win0_0.stage (cfg0.slots t 0)
abbrev st1 (t : Fin cfg0.N) : Memref sig .tc .vmem S4096x128 .f32 := win0_1.stage (cfg0.slots t 1)
abbrev st2 (t : Fin cfg0.N) : Memref sig .tc .vmem S4x128 .f32 := win0_2.stage (cfg0.slots t 2)
abbrev st3 (t : Fin cfg0.N) : Memref sig .tc .vmem S1x128 .f32 := win0_3.stage (cfg0.slots t 3)
abbrev st4 (t : Fin cfg0.N) : Memref sig .tc .vmem S1x128x128 .f32 := win0_4.stage (cfg0.slots t 4)
abbrev st5 (t : Fin cfg0.N) : Memref sig .tc .vmem S1x128 .f32 := win0_5.stage (cfg0.slots t 5)
abbrev st6 (t : Fin cfg0.N) : Memref sig .tc .vmem S1x128x128 .f32 := win0_6.stage (cfg0.slots t 6)
abbrev st7 (t : Fin cfg0.N) : Memref sig .tc .vmem S1x128 .f32 := win0_7.stage (cfg0.slots t 7)
abbrev st8 (t : Fin cfg0.N) : Memref sig .tc .vmem S1x128 .f32 := win0_8.stage (cfg0.slots t 8)
abbrev st9 (t : Fin cfg0.N) : Memref sig .tc .vmem S4096x128 .f32 := win0_9.stage (cfg0.slots t 9)
abbrev st10 (t : Fin cfg0.N) : Memref sig .tc .vmem S4096x128 .bf16 := win0_10.stage (cfg0.slots t 10)
abbrev st11 (t : Fin cfg0.N) : Memref sig .tc .vmem S4096x128 .bf16 := win0_11.stage (cfg0.slots t 11)
abbrev st12 (t : Fin cfg0.N) : Memref sig .tc .vmem S4x128 .f32 := win0_12.stage (cfg0.slots t 12)
abbrev st13 (t : Fin cfg0.N) : Memref sig .tc .vmem S1x128 .f32 := win0_13.stage (cfg0.slots t 13)
abbrev st14 (t : Fin cfg0.N) : Memref sig .tc .vmem S1x128x128 .f32 := win0_14.stage (cfg0.slots t 14)
abbrev st15 (t : Fin cfg0.N) : Memref sig .tc .vmem S1x128 .f32 := win0_15.stage (cfg0.slots t 15)
abbrev st16 (t : Fin cfg0.N) : Memref sig .tc .vmem S1x128x128 .f32 := win0_16.stage (cfg0.slots t 16)
abbrev st17 (t : Fin cfg0.N) : Memref sig .tc .vmem S1x128 .f32 := win0_17.stage (cfg0.slots t 17)
abbrev st18 (t : Fin cfg0.N) : Memref sig .tc .vmem S1x128 .f32 := win0_18.stage (cfg0.slots t 18)

theorem scratch_eq (c : Dev nD) :
    (Pipeline.ΦA spec0 c : sProp 𝕄)
      = iprop(iprop((∃ d, owns (c : Thread nD τ) (Memref.whole cc0_scratch0 : Memref sig .tc .vmem S4096x128 .f32) fullShare d) ∗ (∃ d, owns (c : Thread nD τ) (Memref.whole cc0_scratch1 : Memref sig .tc .vmem S4096x128 .f32) fullShare d) ∗ (∃ d, owns (c : Thread nD τ) (Memref.whole cc0_scratch2 : Memref sig .tc .vmem S4096x128 .f32) fullShare d) ∗ (∃ d, owns (c : Thread nD τ) (Memref.whole cc0_scratch3 : Memref sig .tc .vmem S4096x128 .f32) fullShare d)) ∗ (∃ r, prngReg c r)) := by
  unfold Pipeline.ΦA; rw [scopedRest0_eq]; simp only [owns_whole]; try rfl

/-- The input blocks of a grid step. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t⟩

/-- The pipeline's proof data: the arrays as launched, each input's buffer at its block, each output's at the block computed from them. -/
def datL (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (blkAt m c t).dxl
    | ⟨11, _⟩ => (blkAt m c t).dyl
    | ⟨12, _⟩ => (blkAt m c t).dcw
    | ⟨13, _⟩ => (blkAt m c t).dcb
    | ⟨14, _⟩ => (blkAt m c t).dwr
    | ⟨15, _⟩ => (blkAt m c t).dbr
    | ⟨16, _⟩ => (blkAt m c t).dwi
    | ⟨17, _⟩ => (blkAt m c t).dbi
    | ⟨18, _⟩ => (blkAt m c t).dlam
    | ⟨_ + 19, h⟩ => absurd h (Nat.not_lt.2 (Nat.le_add_left _ _))
  Φ _ := Pipeline.ΦA spec0 c
  q w := Pipeline.shareOf spec0 w
  owed _ := 0

theorem arr_eq (c : Dev nD) (w : Fin cfg0.W) : (datL m 0 c).A w = V m c (Pipeline.arrRef spec0 w) := by
  dsimp only [datL]

theorem after0 (c : Dev nD) (t : Fin cfg0.N) : (datL m 0 c).after 0 t = iblk m c 0 t := by dsimp only [datL]
theorem after1 (c : Dev nD) (t : Fin cfg0.N) : (datL m 0 c).after 1 t = iblk m c 1 t := by dsimp only [datL]
theorem after2 (c : Dev nD) (t : Fin cfg0.N) : (datL m 0 c).after 2 t = iblk m c 2 t := by dsimp only [datL]
theorem after3 (c : Dev nD) (t : Fin cfg0.N) : (datL m 0 c).after 3 t = iblk m c 3 t := by dsimp only [datL]
theorem after4 (c : Dev nD) (t : Fin cfg0.N) : (datL m 0 c).after 4 t = iblk m c 4 t := by dsimp only [datL]
theorem after5 (c : Dev nD) (t : Fin cfg0.N) : (datL m 0 c).after 5 t = iblk m c 5 t := by dsimp only [datL]
theorem after6 (c : Dev nD) (t : Fin cfg0.N) : (datL m 0 c).after 6 t = iblk m c 6 t := by dsimp only [datL]
theorem after7 (c : Dev nD) (t : Fin cfg0.N) : (datL m 0 c).after 7 t = iblk m c 7 t := by dsimp only [datL]
theorem after8 (c : Dev nD) (t : Fin cfg0.N) : (datL m 0 c).after 8 t = iblk m c 8 t := by dsimp only [datL]
theorem after9 (c : Dev nD) (t : Fin cfg0.N) : (datL m 0 c).after 9 t = iblk m c 9 t := by dsimp only [datL]
theorem after10 (c : Dev nD) (t : Fin cfg0.N) : (datL m 0 c).after 10 t = (blkAt m c t).dxl := by dsimp only [datL]
theorem after11 (c : Dev nD) (t : Fin cfg0.N) : (datL m 0 c).after 11 t = (blkAt m c t).dyl := by dsimp only [datL]
theorem after12 (c : Dev nD) (t : Fin cfg0.N) : (datL m 0 c).after 12 t = (blkAt m c t).dcw := by dsimp only [datL]
theorem after13 (c : Dev nD) (t : Fin cfg0.N) : (datL m 0 c).after 13 t = (blkAt m c t).dcb := by dsimp only [datL]
theorem after14 (c : Dev nD) (t : Fin cfg0.N) : (datL m 0 c).after 14 t = (blkAt m c t).dwr := by dsimp only [datL]
theorem after15 (c : Dev nD) (t : Fin cfg0.N) : (datL m 0 c).after 15 t = (blkAt m c t).dbr := by dsimp only [datL]
theorem after16 (c : Dev nD) (t : Fin cfg0.N) : (datL m 0 c).after 16 t = (blkAt m c t).dwi := by dsimp only [datL]
theorem after17 (c : Dev nD) (t : Fin cfg0.N) : (datL m 0 c).after 17 t = (blkAt m c t).dbi := by dsimp only [datL]
theorem after18 (c : Dev nD) (t : Fin cfg0.N) : (datL m 0 c).after 18 t = (blkAt m c t).dlam := by dsimp only [datL]

theorem before0 (c : Dev nD) (t : Fin cfg0.N) (d) : (datL m 0 c).before 0 t d = iblk m c 0 t :=
  before0_0_of m (datL m 0 c) (arr_eq m c 0) (after0 m c) t d
theorem before1 (c : Dev nD) (t : Fin cfg0.N) (d) : (datL m 0 c).before 1 t d = iblk m c 1 t :=
  before0_1_of m (datL m 0 c) (arr_eq m c 1) (after1 m c) t d
theorem before2 (c : Dev nD) (t : Fin cfg0.N) (d) : (datL m 0 c).before 2 t d = iblk m c 2 t :=
  before0_2_of m (datL m 0 c) (arr_eq m c 2) (after2 m c) t d
theorem before3 (c : Dev nD) (t : Fin cfg0.N) (d) : (datL m 0 c).before 3 t d = iblk m c 3 t :=
  before0_3_of m (datL m 0 c) (arr_eq m c 3) (after3 m c) t d
theorem before4 (c : Dev nD) (t : Fin cfg0.N) (d) : (datL m 0 c).before 4 t d = iblk m c 4 t :=
  before0_4_of m (datL m 0 c) (arr_eq m c 4) (after4 m c) t d
theorem before5 (c : Dev nD) (t : Fin cfg0.N) (d) : (datL m 0 c).before 5 t d = iblk m c 5 t :=
  before0_5_of m (datL m 0 c) (arr_eq m c 5) (after5 m c) t d
theorem before6 (c : Dev nD) (t : Fin cfg0.N) (d) : (datL m 0 c).before 6 t d = iblk m c 6 t :=
  before0_6_of m (datL m 0 c) (arr_eq m c 6) (after6 m c) t d
theorem before7 (c : Dev nD) (t : Fin cfg0.N) (d) : (datL m 0 c).before 7 t d = iblk m c 7 t :=
  before0_7_of m (datL m 0 c) (arr_eq m c 7) (after7 m c) t d
theorem before8 (c : Dev nD) (t : Fin cfg0.N) (d) : (datL m 0 c).before 8 t d = iblk m c 8 t :=
  before0_8_of m (datL m 0 c) (arr_eq m c 8) (after8 m c) t d
theorem before9 (c : Dev nD) (t : Fin cfg0.N) (d) : (datL m 0 c).before 9 t d = iblk m c 9 t :=
  before0_9_of m (datL m 0 c) (arr_eq m c 9) (after9 m c) t d

/-- What a grid step is called with, -/
def stepPre (c : Dev nD) (t : Fin cfg0.N) : sProp 𝕄 :=
  iprop((datL m 0 c).Φ t.castSucc ∗ (datL m 0 c).owesAt () t.castSucc
    ∗ (∃ d, owns (c : Thread nD τ) (st0 t) fullShare ((datL m 0 c).before 0 t d))
    ∗ (∃ d, owns (c : Thread nD τ) (st1 t) fullShare ((datL m 0 c).before 1 t d))
    ∗ (∃ d, owns (c : Thread nD τ) (st2 t) fullShare ((datL m 0 c).before 2 t d))
    ∗ (∃ d, owns (c : Thread nD τ) (st3 t) fullShare ((datL m 0 c).before 3 t d))
    ∗ (∃ d, owns (c : Thread nD τ) (st4 t) fullShare ((datL m 0 c).before 4 t d))
    ∗ (∃ d, owns (c : Thread nD τ) (st5 t) fullShare ((datL m 0 c).before 5 t d))
    ∗ (∃ d, owns (c : Thread nD τ) (st6 t) fullShare ((datL m 0 c).before 6 t d))
    ∗ (∃ d, owns (c : Thread nD τ) (st7 t) fullShare ((datL m 0 c).before 7 t d))
    ∗ (∃ d, owns (c : Thread nD τ) (st8 t) fullShare ((datL m 0 c).before 8 t d))
    ∗ (∃ d, owns (c : Thread nD τ) (st9 t) fullShare ((datL m 0 c).before 9 t d))
    ∗ (∃ d, owns (c : Thread nD τ) (st10 t) fullShare ((datL m 0 c).before 10 t d))
    ∗ (∃ d, owns (c : Thread nD τ) (st11 t) fullShare ((datL m 0 c).before 11 t d))
    ∗ (∃ d, owns (c : Thread nD τ) (st12 t) fullShare ((datL m 0 c).before 12 t d))
    ∗ (∃ d, owns (c : Thread nD τ) (st13 t) fullShare ((datL m 0 c).before 13 t d))
    ∗ (∃ d, owns (c : Thread nD τ) (st14 t) fullShare ((datL m 0 c).before 14 t d))
    ∗ (∃ d, owns (c : Thread nD τ) (st15 t) fullShare ((datL m 0 c).before 15 t d))
    ∗ (∃ d, owns (c : Thread nD τ) (st16 t) fullShare ((datL m 0 c).before 16 t d))
    ∗ (∃ d, owns (c : Thread nD τ) (st17 t) fullShare ((datL m 0 c).before 17 t d))
    ∗ (∃ d, owns (c : Thread nD τ) (st18 t) fullShare ((datL m 0 c).before 18 t d)))

/-- and what it returns. -/
def stepPost (c : Dev nD) (t : Fin cfg0.N) : sProp 𝕄 :=
  iprop((datL m 0 c).Φ t.succ ∗ (datL m 0 c).owesAt () t.succ
    ∗ owns (c : Thread nD τ) (st0 t) fullShare ((datL m 0 c).after 0 t)
    ∗ owns (c : Thread nD τ) (st1 t) fullShare ((datL m 0 c).after 1 t)
    ∗ owns (c : Thread nD τ) (st2 t) fullShare ((datL m 0 c).after 2 t)
    ∗ owns (c : Thread nD τ) (st3 t) fullShare ((datL m 0 c).after 3 t)
    ∗ owns (c : Thread nD τ) (st4 t) fullShare ((datL m 0 c).after 4 t)
    ∗ owns (c : Thread nD τ) (st5 t) fullShare ((datL m 0 c).after 5 t)
    ∗ owns (c : Thread nD τ) (st6 t) fullShare ((datL m 0 c).after 6 t)
    ∗ owns (c : Thread nD τ) (st7 t) fullShare ((datL m 0 c).after 7 t)
    ∗ owns (c : Thread nD τ) (st8 t) fullShare ((datL m 0 c).after 8 t)
    ∗ owns (c : Thread nD τ) (st9 t) fullShare ((datL m 0 c).after 9 t)
    ∗ owns (c : Thread nD τ) (st10 t) fullShare ((datL m 0 c).after 10 t)
    ∗ owns (c : Thread nD τ) (st11 t) fullShare ((datL m 0 c).after 11 t)
    ∗ owns (c : Thread nD τ) (st12 t) fullShare ((datL m 0 c).after 12 t)
    ∗ owns (c : Thread nD τ) (st13 t) fullShare ((datL m 0 c).after 13 t)
    ∗ owns (c : Thread nD τ) (st14 t) fullShare ((datL m 0 c).after 14 t)
    ∗ owns (c : Thread nD τ) (st15 t) fullShare ((datL m 0 c).after 15 t)
    ∗ owns (c : Thread nD τ) (st16 t) fullShare ((datL m 0 c).after 16 t)
    ∗ owns (c : Thread nD τ) (st17 t) fullShare ((datL m 0 c).after 17 t)
    ∗ owns (c : Thread nD τ) (st18 t) fullShare ((datL m 0 c).after 18 t))

set_option maxHeartbeats 2000000 in
/-- One grid step, at any point. -/
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [before0, before1, before2, before3, before4, before5, before6, before7, before8, before9]
  rw [show (datL m 0 c).Φ t.succ = (datL m 0 c).Φ t.castSucc from rfl,
    show (datL m 0 c).owesAt () t.succ = (datL m 0 c).owesAt () t.castSucc from rfl,
    after0, after1, after2, after3, after4, after5, after6, after7, after8, after9, after10, after11, after12, after13, after14, after15, after16, after17, after18]
  rw [show (datL m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_run c (grid0.coords t) _ _ _ _ _ _ _ _ _ _ _ _ _ _ _ _ _ _ _ _ _ _ _ _ _ _ _ _ _ _ _ _ _ _ _ _ _ _ _ _ _ _ _ _ _ _ (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_row (t : Fin cfg0.N) :
    defs₀ (F := F) .tc cfg0.body (cfg0.bodyArgs t (cfg0.slots t)) = bodyAt0 t := by
  unfold defs₀; rw [Defs.onTc_tc]

theorem step_obligation (c : Dev nD) : BodyObligation (datL (F := F) m 0 c) (defs₀ (F := F)) Variants.none () Set.univ := fun t => by
  rw [bigSep_W0, bigSep_W0, body_row]
  exact triple_restated (step_sound m c t) rfl .rfl fun _ => .rfl

set_option backward.isDefEq.respectTransparency.types false in
/-- The launch: every array ends as its blocks leave it, and every semaphore counter is zero. -/
theorem run_named : θ_run defs (onTc (τ := τ) (main (F := F))) (s₀ m ρ)
    (fun r => Pipeline.FramePost cfgs (datL m) 0 (V m) r ∧ r.2.sem = fun _ => 0) :=
  Pipeline.θ_run_frame_shared (Q' := _) cfgs (datL m) (0 : Fin 1) launch₀0 defs₀ Variants.none m ρ main
    (hbody := fun c => (step_obligation m c).loose) (hq := fun _ _ _ => rfl)
    (howed := fun _ _ => rfl) (V := V m) (hmain := hmain m Variants.none) (hA := arr_eq m) (hΦ := fun _ _ => rfl)

/-- The frame of the idealized kernel, over any float values. -/
theorem frame_named : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (datL m) (arr_eq m) ((θ_run defs _ _).mono (fun _ h => h.1) (run_named m ρ)))
    ((θ_run defs _ _).mono (fun _ h => h.2) (run_named m ρ))

end Cert.Lru

end
-- ==== Proof.Arr.lean ====
/- Arrays of extended reals whose entries are all real numbers, and what the elementwise operations do to them. -/
module

public import Idealize.ShloMosaic.PureOps
public import Idealize.ShloMosaic.Lib.ValueIdx
public import Idealize.ShloMosaic.Lib.IdealHost

@[expose] public section

noncomputable section

namespace Cert.Lru

open Idealize.ShloMosaic

/-- An index's coordinate on axis `k`, and zero where the shape has no such axis. -/
def co {s : Shape} (i : s.Idx) (k : ℕ) : ℕ := if h : k < s.rank then (i ⟨k, h⟩).val else 0

/-- The array of the real numbers `f a b c`, read at an index's first three coordinates. -/
def arr (s : Shape) (φ : FTy) (f : ℕ → ℕ → ℕ → ℝ) : FVec Ideal s φ := fun i => ((f (co i 0) (co i 1) (co i 2) : ℝ) : EReal)

variable {s : Shape} {φ ψ : FTy} {f g : ℕ → ℕ → ℕ → ℝ}

theorem arr_apply (i : s.Idx) : arr s φ f i = ((f (co i 0) (co i 1) (co i 2) : ℝ) : EReal) := rfl

theorem co_lt (i : s.Idx) (k : ℕ) (h : k < s.rank) : co i k < s.size ⟨k, h⟩ := by
  unfold co; rw [dif_pos h]; exact (i _).isLt
theorem co_ge (i : s.Idx) (k : ℕ) (h : ¬ k < s.rank) : co i k = 0 := dif_neg h

/-- Two such arrays of a vector are equal when their entries are. -/
theorem arr1_congr {n : ℕ} (h : ∀ a < n, f a 0 0 = g a 0 0) : arr ⟨1, ![n]⟩ φ f = arr ⟨1, ![n]⟩ φ g := by
  funext i
  rw [arr_apply, arr_apply, co_ge i 1 (by simp), co_ge i 2 (by simp), h _ (co_lt i 0 (by simp))]
/-- Two such matrices are equal when their entries are. -/
theorem arr2_congr {n m : ℕ} (h : ∀ a < n, ∀ b < m, f a b 0 = g a b 0) : arr ⟨2, ![n, m]⟩ φ f = arr ⟨2, ![n, m]⟩ φ g := by
  funext i
  rw [arr_apply, arr_apply, co_ge i 2 (by simp), h _ (co_lt i 0 (by simp)) _ (co_lt i 1 (by simp))]
/-- Two such arrays of three axes are equal when their entries are. -/
theorem arr3_congr {n m k : ℕ} (h : ∀ a < n, ∀ b < m, ∀ c < k, f a b c = g a b c) :
    arr ⟨3, ![n, m, k]⟩ φ f = arr ⟨3, ![n, m, k]⟩ φ g := by
  funext i
  rw [arr_apply, arr_apply, h _ (co_lt i 0 (by simp)) _ (co_lt i 1 (by simp)) _ (co_lt i 2 (by simp))]

/-! ## The elementwise operations -/

theorem addf_arr : addf (arr s φ f) (arr s φ g) = arr s φ (fun a b c => f a b c + g a b c) := by
  funext i; exact (EReal.coe_add _ _).symm
theorem subf_arr : subf (arr s φ f) (arr s φ g) = arr s φ (fun a b c => f a b c - g a b c) := by
  funext i; exact (EReal.coe_sub _ _).symm
theorem mulf_arr : mulf (arr s φ f) (arr s φ g) = arr s φ (fun a b c => f a b c * g a b c) := by
  funext i; exact (EReal.coe_mul _ _).symm
theorem negf_arr : Host.negf (arr s φ f) = arr s φ (fun a b c => -f a b c) := by
  funext i; exact (EReal.coe_neg _).symm
theorem maximumf_arr : maximumf (arr s φ f) (arr s φ g) = arr s φ (fun a b c => max (f a b c) (g a b c)) := by
  funext i; exact (EReal.coe_strictMono.monotone.map_max).symm
theorem absf_arr : absf (arr s φ f) = arr s φ (fun a b c => |f a b c|) := by
  funext i
  show max ((f _ _ _ : ℝ) : EReal) (-((f _ _ _ : ℝ) : EReal)) = _
  rw [← EReal.coe_neg]; exact (EReal.coe_strictMono.monotone.map_max).symm
theorem hostAbsf_arr : Host.absf (arr s φ f) = arr s φ (fun a b c => |f a b c|) := absf_arr (φ := φ)
theorem exp_arr : exp (arr s φ f) = arr s φ (fun a b c => Real.exp (f a b c)) := by
  funext i; exact Ideal.exp_coe _
theorem hostExp_arr : Host.exp (arr s φ f) = arr s φ (fun a b c => Real.exp (f a b c)) := by
  funext i; exact Ideal.exp_coe _
theorem tanh_arr : tanh (arr s φ f) = arr s φ (fun a b c => Real.tanh (f a b c)) := by
  funext i; exact Ideal.tanh_coe _
theorem hostTanh_arr : Host.tanh (arr s φ f) = arr s φ (fun a b c => Real.tanh (f a b c)) := by
  funext i; exact Ideal.tanh_coe _
theorem sqrt_arr (h : ∀ a b c, 0 ≤ f a b c) : sqrt (arr s φ f) = arr s φ (fun a b c => Real.sqrt (f a b c)) := by
  funext i; exact (Ideal.sqrt_coe _).trans (if_neg (not_lt.mpr (h _ _ _)))
theorem hostSqrt_arr (h : ∀ a b c, 0 ≤ f a b c) : Host.sqrt (arr s φ f) = arr s φ (fun a b c => Real.sqrt (f a b c)) := by
  funext i; exact (Ideal.sqrt_coe _).trans (if_neg (not_lt.mpr (h _ _ _)))
theorem log_arr (h : ∀ a b c, 0 < f a b c) : log (arr s φ f) = arr s φ (fun a b c => Real.log (f a b c)) := by
  funext i; exact (Ideal.log_coe _).trans (if_neg (not_le.mpr (h _ _ _)))
theorem hostLog1p_arr (h : ∀ a b c, 0 < 1 + f a b c) : Host.log1p (arr s φ f) = arr s φ (fun a b c => Real.log (1 + f a b c)) := by
  funext i
  show Ideal.log (1 + ((f _ _ _ : ℝ) : EReal)) = _
  rw [← EReal.coe_one, ← EReal.coe_add]; exact (Ideal.log_coe _).trans (if_neg (not_le.mpr (h _ _ _)))
theorem hostExpm1_arr : Host.expm1 (arr s φ f) = arr s φ (fun a b c => Real.exp (f a b c) - 1) := by
  funext i
  show Ideal.exp ((f _ _ _ : ℝ) : EReal) - 1 = _
  rw [Ideal.exp_coe, ← EReal.coe_one, ← EReal.coe_sub]; rfl
theorem divf_arr (h : ∀ a b c, g a b c ≠ 0) : divf (arr s φ f) (arr s φ g) = arr s φ (fun a b c => f a b c / g a b c) := by
  funext i
  refine (Ideal.div_coe (h _ _ _) _).trans ?_
  rw [arr_apply, arr_apply, ← EReal.coe_mul, mul_one_div]
theorem hostDivf_arr (h : ∀ a b c, g a b c ≠ 0) : Host.divf (arr s φ f) (arr s φ g) = arr s φ (fun a b c => f a b c / g a b c) :=
  divf_arr (φ := φ) h
theorem truncf_arr (h : ψ.bits < φ.bits) : truncf ψ (arr s φ f) h = arr s ψ f := rfl
theorem extf_arr (h : φ.bits < ψ.bits) : extf ψ (arr s φ f) h = arr s ψ f := rfl

/-- A choice between two such arrays, by a test of the index. -/
theorem select_arr (c : IVec s 1) (P : ℕ → ℕ → ℕ → Prop) [∀ a b c, Decidable (P a b c)] (h : ∀ i, c i = 1 ↔ P (co i 0) (co i 1) (co i 2)) :
    select c (arr s φ f) (arr s φ g) = arr s φ (fun a b c => if P a b c then f a b c else g a b c) := by
  funext i
  show (if c i = 1 then arr s φ f i else arr s φ g i) = _
  by_cases hp : P (co i 0) (co i 1) (co i 2)
  · rw [if_pos ((h i).mpr hp), arr_apply, arr_apply, if_pos hp]
  · rw [if_neg (fun e => hp ((h i).mp e)), arr_apply, arr_apply, if_neg hp]

/-- A choice that never takes the first. -/
theorem select_never (c : IVec s 1) (x y : FVec Ideal s φ) (h : ∀ i, ¬ c i = 1) : select c x y = y := by
  funext i
  show (if c i = 1 then x i else y i) = _
  rw [if_neg (h i)]
/-- Two arrays that differ in every entry. -/
theorem never_eq (h : ∀ a b c, f a b c ≠ g a b c) (i : s.Idx) : ¬ cmpf .oeq (arr s φ f) (arr s φ g) i = 1 := by
  intro e
  have e' : BitVec.ofBool (decide (arr s φ f i = arr s φ g i)) = 1 := e
  have hn : ¬ arr s φ f i = arr s φ g i := fun h' => h _ _ _ (EReal.coe_injective h')
  rw [decide_eq_false hn] at e'
  exact absurd e' (by decide)

/-! ## The constants -/

theorem constant_arr (b : BitVec φ.bits) (r : ℝ) (h : Ideal.ofBits φ b = (r : EReal)) : constant (F := Ideal) s φ b = arr s φ (fun _ _ _ => r) := by
  funext i; exact h
theorem broadcast_arr (x : Ideal φ) (r : ℝ) (h : x = ((r : ℝ) : EReal)) : (broadcast s x : FVec Ideal s φ) = arr s φ (fun _ _ _ => r) := by
  funext i; exact h

theorem bits_zero : Ideal.ofBits .f32 0x00000000#32 = ((0 : ℝ) : EReal) := by
  simp [Ideal.ofBits, Ideal.ieee]
theorem bits_one : Ideal.ofBits .f32 0x3F800000#32 = ((1 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_neg_eight : Ideal.ofBits .f32 0xC1000000#32 = ((-8 : ℝ) : EReal) := by
  simp [Ideal.ofBits, Ideal.ieee, -EReal.coe_mul, -EReal.coe_neg]; norm_num
theorem bits_gelu : Ideal.ofBits .f32 0x3F4C422A#32 = ((6693141 / 8388608 : ℝ) : EReal) := by
  simp [Ideal.ofBits, Ideal.ieee, -EReal.coe_mul]; norm_num
theorem bits_44715 : Ideal.ofBits .f32 0x472EAB00#32 = ((44715 : ℝ) : EReal) := by
  simp [Ideal.ofBits, Ideal.ieee, -EReal.coe_mul]; norm_num
theorem bits_million : Ideal.ofBits .f32 0x49742400#32 = ((1000000 : ℝ) : EReal) := by
  simp [Ideal.ofBits, Ideal.ieee, -EReal.coe_mul]; norm_num
theorem bits_inf : Ideal.ofBits .f32 0x7F800000#32 = (⊤ : EReal) := by
  simp [Ideal.ofBits, Ideal.ieee]

end Cert.Lru

end
-- ==== Proof.ArrShape.lean ====
/- What the operations that move entries, and the sums, do to arrays of real numbers. -/
module

public import proofs.«01_k».proof.Proof.Arr
public import Idealize.ShloMosaic.Lib.Pipeline.Value
public import Idealize.ShloMosaic.Lib.MatmulPlain
public import Idealize.ShloMosaic.Lib.KernelVsHost
public import Idealize.ShloMosaic.Lib.Pointwise.Reduce

@[expose] public section

noncomputable section

namespace Cert.Lru

open Idealize.ShloMosaic hiding ix1 ix2 ix3 eq_ix1 eq_ix2 eq_ix3
open Idealize.ShloMosaic.ValueIdx

variable {φ ψ : FTy} {f g : ℕ → ℕ → ℕ → ℝ}

theorem arr_of1 {n : ℕ} {x : FVec Ideal ⟨1, ![n]⟩ φ} (h : ∀ a : Fin n, x (ix1 a) = ((f a 0 0 : ℝ) : EReal)) : x = arr ⟨1, ![n]⟩ φ f := by
  funext j; rw [eq_ix1 j]; exact h _
theorem arr_of2 {n m : ℕ} {x : FVec Ideal ⟨2, ![n, m]⟩ φ} (h : ∀ (a : Fin n) (b : Fin m), x (ix2 a b) = ((f a b 0 : ℝ) : EReal)) :
    x = arr ⟨2, ![n, m]⟩ φ f := by
  funext j; rw [eq_ix2 j]; exact h _ _
theorem arr_of3 {n m k : ℕ} {x : FVec Ideal ⟨3, ![n, m, k]⟩ φ}
    (h : ∀ (a : Fin n) (b : Fin m) (c : Fin k), x (ix3 a b c) = ((f a b c : ℝ) : EReal)) : x = arr ⟨3, ![n, m, k]⟩ φ f := by
  funext j; rw [eq_ix3 j]; exact h _ _ _

theorem forall_fin2 {P : Fin 2 → Prop} (h0 : P 0) (h1 : P 1) (a : Fin 2) : P a := by
  match a with
  | ⟨0, _⟩ => exact h0
  | ⟨1, _⟩ => exact h1
theorem forall_fin3 {P : Fin 3 → Prop} (h0 : P 0) (h1 : P 1) (h2 : P 2) (a : Fin 3) : P a := by
  match a with
  | ⟨0, _⟩ => exact h0
  | ⟨1, _⟩ => exact h1
  | ⟨2, _⟩ => exact h2

/-- A finite sum of real numbers, in the extended reals. -/
theorem coe_sum {n : ℕ} (F : ℕ → ℝ) : (∑ k : Fin n, ((F k : ℝ) : EReal)) = ((∑ k ∈ Finset.range n, F k : ℝ) : EReal) := by
  rw [Fin.sum_univ_eq_sum_range (fun k => ((F k : ℝ) : EReal)) n]
  induction n with
  | zero => simp
  | succ n ih => rw [Finset.sum_range_succ, Finset.sum_range_succ, ih, EReal.coe_add]

/-! ## Broadcasts -/

theorem broadcastTo_row {n m : ℕ} (h : (⟨2, ![1, m]⟩ : Shape).Broadcasts ⟨2, ![n, m]⟩) :
    broadcastTo ⟨2, ![n, m]⟩ (arr ⟨2, ![1, m]⟩ φ f) h = arr ⟨2, ![n, m]⟩ φ (fun _ b _ => f 0 b 0) :=
  arr_of2 fun a b => broadcastTo_apply _ h (ix2 a b) (ix2 0 b) (forall_fin2 rfl (by
    show b.val = if m = 1 then 0 else b.val
    split_ifs with hm
    · have := b.isLt; omega
    · rfl))
theorem inDim_scalar {t : Shape} (h : (⟨0, ![]⟩ : Shape).BroadcastsInDim t ![]) :
    broadcastInDim t ![] h (arr ⟨0, ![]⟩ φ f) = arr t φ (fun _ _ _ => f 0 0 0) := rfl
theorem inDim_col {m : ℕ} (h : (⟨1, ![m]⟩ : Shape).BroadcastsInDim ⟨2, ![1, m]⟩ ![1]) :
    broadcastInDim ⟨2, ![1, m]⟩ ![1] h (arr ⟨1, ![m]⟩ φ f) = arr ⟨2, ![1, m]⟩ φ (fun _ b _ => f b 0 0) :=
  arr_of2 fun a b => broadcastInDim_apply _ h _ (ix2 a b) (ix1 b) (fun d => by
    match d with
    | ⟨0, _⟩ =>
      show b.val = if m = 1 then 0 else b.val
      split_ifs with hm
      · have := b.isLt; omega
      · rfl)
theorem inDim_row {n m : ℕ} (h : (⟨2, ![1, m]⟩ : Shape).BroadcastsInDim ⟨2, ![n, m]⟩ ![0, 1]) :
    broadcastInDim ⟨2, ![n, m]⟩ ![0, 1] h (arr ⟨2, ![1, m]⟩ φ f) = arr ⟨2, ![n, m]⟩ φ (fun _ b _ => f 0 b 0) :=
  arr_of2 fun a b => broadcastInDim_apply _ h _ (ix2 a b) (ix2 0 b) (forall_fin2 rfl (by
    show b.val = if m = 1 then 0 else b.val
    split_ifs with hm
    · have := b.isLt; omega
    · rfl))

/-! ## Slices, pads and a concatenation -/

theorem slice2 {n m n' m' a b : ℕ} (h : (⟨2, ![n, m]⟩ : Shape).Slices ![a, b] ⟨2, ![n', m']⟩) :
    extractStridedSlice ⟨2, ![n', m']⟩ ![a, b] (arr ⟨2, ![n, m]⟩ φ f) h = arr ⟨2, ![n', m']⟩ φ (fun t j _ => f (a + t) (b + j) 0) := rfl

/-- Rows added before and after: the padding value outside. -/
theorem pad_rows {n m n' lo hi : ℕ} {u : Shape}
    (h : (⟨2, ![n, m]⟩ : Shape).Pads ![lo, 0] ![hi, 0] ![0, 0] ⟨2, ![n', m]⟩) (hu : 0 < u.numel) :
    pad ⟨2, ![n', m]⟩ ![lo, 0] ![hi, 0] ![0, 0] (arr ⟨2, ![n, m]⟩ φ f) (arr u φ (fun _ _ _ => 0)) h hu =
      arr ⟨2, ![n', m]⟩ φ (fun t j _ => if lo ≤ t ∧ t - lo < n then f (t - lo) j 0 else 0) :=
  arr_of2 fun a b => by
    by_cases hc : lo ≤ a.val ∧ a.val - lo < n
    · rw [if_pos hc]
      refine pad_apply_of_inside _ _ _ _ _ h hu (ix2 a b) (ix2 ⟨a.val - lo, hc.2⟩ b) (forall_fin2 ?_ ?_)
      · show a.val = lo + (a.val - lo) * (0 + 1); omega
      · show b.val = 0 + b.val * (0 + 1); omega
    · rw [if_neg hc]
      refine pad_apply_of_not_inside _ _ _ _ _ h hu (ix2 a b) 0 ?_
      rintro ⟨h1, -, h3⟩
      have h3' : (a.val - lo) / (0 + 1) < n := h3
      exact hc ⟨h1, by simpa using h3'⟩

/-- One array's rows after another's. -/
theorem concat_rows {k n m n' : ℕ} (h : Shape.Concatenates [⟨2, ![k, m]⟩, ⟨2, ![n, m]⟩] ⟨2, ![n', m]⟩ 0) (hk : n' = k + n) :
    concatenate ⟨2, ![n', m]⟩ 0 [⟨⟨2, ![k, m]⟩, arr ⟨2, ![k, m]⟩ φ f⟩, ⟨⟨2, ![n, m]⟩, arr ⟨2, ![n, m]⟩ φ g⟩] h =
      arr ⟨2, ![n', m]⟩ φ (fun t j _ => if t < k then f t j 0 else g (t - k) j 0) := by
  subst hk
  refine arr_of2 fun a b => ?_
  by_cases hc : a.val < k
  · rw [if_pos hc]
    exact concatenate_pair_apply_left (t := ⟨2, ![k + n, m]⟩) (0 : Fin 2) _ _ h (ix2 a b) rfl (ix2 ⟨a.val, hc⟩ b) (forall_fin2 rfl rfl)
  · rw [if_neg hc]
    exact concatenate_pair_apply_right (t := ⟨2, ![k + n, m]⟩) (0 : Fin 2) _ _ h (ix2 a b) rfl rfl (ix2 ⟨a.val - k, by have := a.isLt; omega⟩ b)
      (fun d hd => forall_fin2 (P := fun d => d ≠ 0 → ((ix2 (⟨a.val - k, by have := a.isLt; omega⟩ : Fin n) b) d).val = ((ix2 a b) d).val)
        (fun h => absurd rfl h) (fun _ => rfl) d hd)
      (by show a.val - k + k = a.val; omega)

/-! ## Reshapes and transposes -/

theorem cast_self (s : Shape) (h : s.ShapeCasts s) : shapeCast s (arr s φ f) h = arr s φ f := shapeCast_self _ h
theorem cast_1_2 {m : ℕ} (h : (⟨1, ![m]⟩ : Shape).ShapeCasts ⟨2, ![1, m]⟩) :
    shapeCast ⟨2, ![1, m]⟩ (arr ⟨1, ![m]⟩ φ f) h = arr ⟨2, ![1, m]⟩ φ (fun _ b _ => f b 0 0) :=
  arr_of2 fun a b => shapeCast_apply _ h (ix2 a b) (ix1 b) (by
    rw [Shape.rowMajor_val_one, Shape.rowMajor_val_two]; show b.val = a.val * m + b.val; rw [Fin.val_eq_zero a]; omega)
theorem cast_2_1 {m : ℕ} (h : (⟨2, ![1, m]⟩ : Shape).ShapeCasts ⟨1, ![m]⟩) :
    shapeCast ⟨1, ![m]⟩ (arr ⟨2, ![1, m]⟩ φ f) h = arr ⟨1, ![m]⟩ φ (fun b _ _ => f 0 b 0) :=
  arr_of1 fun b => shapeCast_apply _ h (ix1 b) (ix2 0 b) (by
    rw [Shape.rowMajor_val_one, Shape.rowMajor_val_two]; show 0 * m + b.val = b.val; omega)
theorem cast_2_3 {n m : ℕ} (h : (⟨2, ![n, m]⟩ : Shape).ShapeCasts ⟨3, ![1, n, m]⟩) :
    shapeCast ⟨3, ![1, n, m]⟩ (arr ⟨2, ![n, m]⟩ φ f) h = arr ⟨3, ![1, n, m]⟩ φ (fun _ b c => f b c 0) :=
  arr_of3 fun a b c => shapeCast_apply _ h (ix3 a b c) (ix2 b c) (by
    rw [Shape.rowMajor_val_two, Shape.rowMajor_val_three]
    show b.val * m + c.val = (a.val * n + b.val) * m + c.val; rw [Fin.val_eq_zero a]; simp)
theorem cast_3_2 {n m : ℕ} (h : (⟨3, ![1, n, m]⟩ : Shape).ShapeCasts ⟨2, ![n, m]⟩) :
    shapeCast ⟨2, ![n, m]⟩ (arr ⟨3, ![1, n, m]⟩ φ f) h = arr ⟨2, ![n, m]⟩ φ (fun b c _ => f 0 b c) :=
  arr_of2 fun b c => shapeCast_apply _ h (ix2 b c) (ix3 0 b c) (by
    rw [Shape.rowMajor_val_two, Shape.rowMajor_val_three]
    show (0 * n + b.val) * m + c.val = b.val * m + c.val; simp)
/-- The columns cut into blocks of `k`. -/
theorem cast_blocks {n m b k : ℕ} (hm : m = b * k) (h : (⟨2, ![n, m]⟩ : Shape).ShapeCasts ⟨3, ![n, b, k]⟩) :
    shapeCast ⟨3, ![n, b, k]⟩ (arr ⟨2, ![n, m]⟩ φ f) h = arr ⟨3, ![n, b, k]⟩ φ (fun t i j => f t (i * k + j) 0) :=
  arr_of3 fun t i j => shapeCast_apply _ h (ix3 t i j) (ix2 t ⟨i.val * k + j.val, by
      subst hm
      calc i.val * k + j.val < i.val * k + k := by have := j.isLt; omega
        _ = (i.val + 1) * k := by ring
        _ ≤ b * k := Nat.mul_le_mul_right _ i.isLt⟩) (by
    rw [Shape.rowMajor_val_two, Shape.rowMajor_val_three]
    show t.val * m + (i.val * k + j.val) = (t.val * b + i.val) * k + j.val; subst hm; ring)
/-- The blocks of `k` columns laid side by side. -/
theorem cast_unblocks {n m b k : ℕ} (hm : m = b * k) (h : (⟨3, ![n, b, k]⟩ : Shape).ShapeCasts ⟨2, ![n, m]⟩) :
    shapeCast ⟨2, ![n, m]⟩ (arr ⟨3, ![n, b, k]⟩ φ f) h = arr ⟨2, ![n, m]⟩ φ (fun t c _ => f t (c / k) (c % k)) :=
  arr_of2 fun t c => by
    have hk : 0 < k := Nat.pos_of_ne_zero fun e => by have := c.isLt; subst hm; subst e; simp at this
    refine shapeCast_apply _ h (ix2 t c) (ix3 t ⟨c.val / k, Nat.div_lt_of_lt_mul (by have := c.isLt; rw [mul_comm]; omega)⟩ ⟨c.val % k, Nat.mod_lt _ hk⟩) ?_
    rw [Shape.rowMajor_val_two, Shape.rowMajor_val_three]
    show (t.val * b + c.val / k) * k + c.val % k = t.val * m + c.val
    subst hm
    have := Nat.div_add_mod' c.val k
    calc (t.val * b + c.val / k) * k + c.val % k = t.val * (b * k) + (c.val / k * k + c.val % k) := by ring
      _ = _ := by rw [this]

theorem transpose_201 {x y z : ℕ} (h : (⟨3, ![x, y, z]⟩ : Shape).Transposes [2, 0, 1] ⟨3, ![z, x, y]⟩) :
    transpose ⟨3, ![z, x, y]⟩ [2, 0, 1] (arr ⟨3, ![x, y, z]⟩ φ f) h = arr ⟨3, ![z, x, y]⟩ φ (fun a b c => f b c a) :=
  arr_of3 fun a b c => transpose_apply _ _ h (ix3 a b c) (ix3 b c a) (forall_fin3 rfl rfl rfl)
theorem transpose_120 {x y z : ℕ} (h : (⟨3, ![x, y, z]⟩ : Shape).Transposes [1, 2, 0] ⟨3, ![y, z, x]⟩) :
    transpose ⟨3, ![y, z, x]⟩ [1, 2, 0] (arr ⟨3, ![x, y, z]⟩ φ f) h = arr ⟨3, ![y, z, x]⟩ φ (fun a b c => f c a b) :=
  arr_of3 fun a b c => transpose_apply _ _ h (ix3 a b c) (ix3 c a b) (forall_fin3 rfl rfl rfl)
theorem transpose_102 {x y z : ℕ} (h : (⟨3, ![x, y, z]⟩ : Shape).Transposes [1, 0, 2] ⟨3, ![y, x, z]⟩) :
    transpose ⟨3, ![y, x, z]⟩ [1, 0, 2] (arr ⟨3, ![x, y, z]⟩ φ f) h = arr ⟨3, ![y, x, z]⟩ φ (fun a b c => f b a c) :=
  arr_of3 fun a b c => transpose_apply _ _ h (ix3 a b c) (ix3 b a c) (forall_fin3 rfl rfl rfl)
theorem transpose_021 {x y z : ℕ} (h : (⟨3, ![x, y, z]⟩ : Shape).Transposes [0, 2, 1] ⟨3, ![x, z, y]⟩) :
    transpose ⟨3, ![x, z, y]⟩ [0, 2, 1] (arr ⟨3, ![x, y, z]⟩ φ f) h = arr ⟨3, ![x, z, y]⟩ φ (fun a b c => f a c b) :=
  arr_of3 fun a b c => transpose_apply _ _ h (ix3 a b c) (ix3 a c b) (forall_fin3 rfl rfl rfl)

/-! ## Column sums -/

theorem colsum {n m : ℕ} (acc : BitVec 32) (h : (⟨2, ![n, m]⟩ : Shape).Reduces [0] ⟨1, ![m]⟩) (hφ : FKind.Formats .f32)
    (hacc : acc = FKind.add.neutral .f32 hφ) :
    multiReduction .add [0] ⟨1, ![m]⟩ (arr ⟨2, ![n, m]⟩ .f32 f) acc h hφ hacc = arr ⟨1, ![m]⟩ .f32 (fun b _ _ => ∑ t ∈ Finset.range n, f t b 0) :=
  arr_of1 fun b => (Ideal.reduceAdd_r2_a0 h _ (ix1 b)).trans (coe_sum (fun t => f t b 0))
theorem hostColsum {n m : ℕ} {u : Shape} (h : (⟨2, ![n, m]⟩ : Shape).ReducesTo [0] ⟨1, ![m]⟩) (hu : 0 < u.numel) :
    Host.reduceAdd (arr ⟨2, ![n, m]⟩ .f32 f) (arr u .f32 (fun _ _ _ => 0)) h hu = arr ⟨1, ![m]⟩ .f32 (fun b _ _ => ∑ t ∈ Finset.range n, f t b 0) :=
  arr_of1 fun b => (Ideal.hostReduceAdd_r2_a0 h _ _ (ix1 b)).trans (by
    rw [show arr u .f32 (fun _ _ _ => 0) (Shape.Idx.first hu) = (0 : EReal) from EReal.coe_zero, zero_add]
    exact coe_sum (fun t => f t b 0))

/-! ## Shifts of the rows -/

theorem toInt_small (t : ℕ) (h : t < 2 ^ 31) : (BitVec.ofNat 32 t).toInt = t := by
  rw [BitVec.toInt_eq_toNat_of_lt (by rw [BitVec.toNat_ofNat]; omega), BitVec.toNat_ofNat]; omega
theorem sge_iff (t k : ℕ) (ht : t < 2 ^ 31) (hk : k < 2 ^ 31) : IntOp.cmpi .sge (BitVec.ofNat 32 t) (BitVec.ofNat 32 k) = 1 ↔ k ≤ t := by
  show BitVec.ofBool ((BitVec.ofNat 32 k).sle (BitVec.ofNat 32 t)) = 1 ↔ _
  rw [BitVec.sle_eq_decide, toInt_small t ht, toInt_small k hk]
  by_cases h : k ≤ t <;> simp [h]
theorem slt_iff (t k : ℕ) (ht : t < 2 ^ 31) (hk : k < 2 ^ 31) : IntOp.cmpi .slt (BitVec.ofNat 32 t) (BitVec.ofNat 32 k) = 1 ↔ t < k := by
  show BitVec.ofBool ((BitVec.ofNat 32 t).slt (BitVec.ofNat 32 k)) = 1 ↔ _
  rw [BitVec.slt_eq_decide, toInt_small t ht, toInt_small k hk]
  by_cases h : t < k <;> simp [h]

section Rotate
variable {n m : ℕ} {κ : Kind}

theorem iota_rows (hi : (⟨2, ![n, m]⟩ : Shape).Iotas κ 32 [0]) (a : Fin n) (b : Fin m) :
    iota κ ⟨2, ![n, m]⟩ 32 [0] hi (ix2 a b) = BitVec.ofNat 32 a.val := by
  show BitVec.ofNat 32 (0 * n + a.val) = _; rw [Nat.zero_mul, Nat.zero_add]

/-- The rows shifted down by `k`; the first `k` rows are another array's. -/
theorem shift_down (k : ℕ) (hk : k < n) (hn : n < 2 ^ 31) (hi : (⟨2, ![n, m]⟩ : Shape).Iotas κ 32 [0])
    (hr : (⟨2, ![n, m]⟩ : Shape).Rotates 0 none) :
    select (cmpi .sge (iota κ ⟨2, ![n, m]⟩ 32 [0] hi) (broadcast ⟨2, ![n, m]⟩ (BitVec.ofNat 32 k)))
      (dynamicRotate (s := ⟨2, ![n, m]⟩) 0 (BitVec.ofNat 32 k) none (arr ⟨2, ![n, m]⟩ φ f) hr) (arr ⟨2, ![n, m]⟩ φ g) =
    arr ⟨2, ![n, m]⟩ φ (fun t j _ => if k ≤ t then f (t - k) j 0 else g t j 0) :=
  arr_of2 fun a b => by
    have ha := a.isLt
    show (if IntOp.cmpi .sge (iota κ ⟨2, ![n, m]⟩ 32 [0] hi (ix2 a b)) (BitVec.ofNat 32 k) = 1 then _ else _) = _
    rw [iota_rows]
    by_cases hc : k ≤ a.val
    · rw [if_pos ((sge_iff _ _ (by omega) (by omega)).mpr hc), if_pos hc]
      show ((f ((a.val + n - ((BitVec.ofNat 32 k).toNat + 0) % n) % n) b.val 0 : ℝ) : EReal) = _
      rw [BitVec.toNat_ofNat, Nat.mod_eq_of_lt (show k < 2 ^ 32 by omega), Nat.add_zero, Nat.mod_eq_of_lt hk,
        show a.val + n - k = a.val - k + n by omega, Nat.add_mod_right, Nat.mod_eq_of_lt (by omega)]
    · rw [if_neg (fun h => hc ((sge_iff _ _ (by omega) (by omega)).mp h)), if_neg hc]
      rfl

/-- The rows shifted up by `n - c`; the last rows are another array's. -/
theorem shift_up (c : ℕ) (hk : c < n) (hn : n < 2 ^ 31) (hi : (⟨2, ![n, m]⟩ : Shape).Iotas κ 32 [0])
    (hr : (⟨2, ![n, m]⟩ : Shape).Rotates 0 none) :
    select (cmpi .slt (iota κ ⟨2, ![n, m]⟩ 32 [0] hi) (broadcast ⟨2, ![n, m]⟩ (BitVec.ofNat 32 c)))
      (dynamicRotate (s := ⟨2, ![n, m]⟩) 0 (BitVec.ofNat 32 c) none (arr ⟨2, ![n, m]⟩ φ f) hr) (arr ⟨2, ![n, m]⟩ φ g) =
    arr ⟨2, ![n, m]⟩ φ (fun t j _ => if t < c then f (t + (n - c)) j 0 else g t j 0) :=
  arr_of2 fun a b => by
    have ha := a.isLt
    show (if IntOp.cmpi .slt (iota κ ⟨2, ![n, m]⟩ 32 [0] hi (ix2 a b)) (BitVec.ofNat 32 c) = 1 then _ else _) = _
    rw [iota_rows]
    by_cases hc : a.val < c
    · rw [if_pos ((slt_iff _ _ (by omega) (by omega)).mpr hc), if_pos hc]
      show ((f ((a.val + n - ((BitVec.ofNat 32 c).toNat + 0) % n) % n) b.val 0 : ℝ) : EReal) = _
      rw [BitVec.toNat_ofNat, Nat.mod_eq_of_lt (show c < 2 ^ 32 by omega), Nat.add_zero, Nat.mod_eq_of_lt hk,
        show a.val + n - c = a.val + (n - c) by omega, Nat.mod_eq_of_lt (by omega)]
    · rw [if_neg (fun h => hc ((slt_iff _ _ (by omega) (by omega)).mp h)), if_neg hc]
      rfl

end Rotate

/-! ## Products -/

section Dot
variable {sl sr so : Shape} {f g : ℕ → ℕ → ℕ → ℝ}

/-- A product over one contracted axis of size `K`, entry by entry. -/
theorem dot_entry (D : DotDims sl sr so) (K : ℕ) (hr : D.contr.rank = 1) (hs : D.contr.size ⟨0, by omega⟩ = K) (j : so.Idx) (F : ℕ → ℝ)
    (hF : ∀ k : D.contr.Idx, arr sl φ f (D.lhsIdx j k) * arr sr ψ g (D.rhsIdx j k) = ((F (k ⟨0, by omega⟩).val : ℝ) : EReal)) :
    (∑ k : D.contr.Idx, arr sl φ f (D.lhsIdx j k) * arr sr ψ g (D.rhsIdx j k)) = ((∑ k ∈ Finset.range K, F k : ℝ) : EReal) := by
  rw [← coe_sum, ← Equiv.sum_comp (contrEquiv1 D K hr hs).symm]
  refine Finset.sum_congr rfl fun k _ => ?_
  rw [hF, contrEquiv1_symm_val]

end Dot

end Cert.Lru

end
-- ==== Proof.ArrDot.lean ====
/- The products of the two programs on arrays of real numbers. -/
module

public import proofs.«01_k».proof.Proof.ArrShape
public import proofs.«01_k».proof.Defs
public import proofs.«01_k».proof.Proof.Gen.KernelIdeal
public import proofs.«01_k».proof.Proof.Gen.ReferenceIdeal

@[expose] public section

noncomputable section

namespace Cert.Lru

open Idealize.ShloMosaic hiding ix1 ix2 ix3 eq_ix1 eq_ix2 eq_ix3
open Idealize.ShloMosaic.ValueIdx
open Cert.KernelIdeal.Gen

variable {φ ψ : FTy} {f g : ℕ → ℕ → ℕ → ℝ}

/-- Rows times a matrix. -/
theorem k_dot_plain (p : Option ContractPrecision) :
    matmul Cert.KernelIdeal.dot_S4096x128_S128x128_S4096x128_1_0_0_1_n_n p (arr Cert.KernelIdeal.S4096x128 φ f) (arr Cert.KernelIdeal.S128x128 ψ g)
      (arr Cert.KernelIdeal.S4096x128 .f32 fun _ _ _ => 0) =
    arr Cert.KernelIdeal.S4096x128 .f32 (fun t j _ => ∑ c ∈ Finset.range 128, f t c 0 * g c j 0) := by
  refine arr_of2 fun a b => ?_
  refine (congrArg (((0 : ℝ) : EReal) + ·) (dot_entry Cert.KernelIdeal.dot_S4096x128_S128x128_S4096x128_1_0_0_1_n_n 128 rfl rfl (ix2 a b)
    (fun c => f a c 0 * g c b 0) fun k => (EReal.coe_mul _ _).symm)).trans ?_
  rw [EReal.coe_zero, zero_add]
/-- Rows times a matrix's transpose. -/
theorem k_dot_transposed (p : Option ContractPrecision) :
    matmul Cert.KernelIdeal.dot_S4096x128_S128x128_S4096x128_1_1_0_0_n_n p (arr Cert.KernelIdeal.S4096x128 φ f) (arr Cert.KernelIdeal.S128x128 ψ g)
      (arr Cert.KernelIdeal.S4096x128 .f32 fun _ _ _ => 0) =
    arr Cert.KernelIdeal.S4096x128 .f32 (fun t j _ => ∑ c ∈ Finset.range 128, f t c 0 * g j c 0) := by
  refine arr_of2 fun a b => ?_
  refine (congrArg (((0 : ℝ) : EReal) + ·) (dot_entry Cert.KernelIdeal.dot_S4096x128_S128x128_S4096x128_1_1_0_0_n_n 128 rfl rfl (ix2 a b)
    (fun c => f a c 0 * g b c 0) fun k => (EReal.coe_mul _ _).symm)).trans ?_
  rw [EReal.coe_zero, zero_add]
/-- The sum over the rows of the products of two arrays' entries. -/
theorem k_dot_rows (p : Option ContractPrecision) :
    matmul Cert.KernelIdeal.dot_S4096x128_S4096x128_S128x128_0_0_1_1_n_n p (arr Cert.KernelIdeal.S4096x128 φ f) (arr Cert.KernelIdeal.S4096x128 ψ g)
      (arr Cert.KernelIdeal.S128x128 .f32 fun _ _ _ => 0) =
    arr Cert.KernelIdeal.S128x128 .f32 (fun i j _ => ∑ t ∈ Finset.range 4096, f t i 0 * g t j 0) := by
  refine arr_of2 fun a b => ?_
  refine (congrArg (((0 : ℝ) : EReal) + ·) (dot_entry Cert.KernelIdeal.dot_S4096x128_S4096x128_S128x128_0_0_1_1_n_n 4096 rfl rfl (ix2 a b)
    (fun t => f t a 0 * g t b 0) fun k => (EReal.coe_mul _ _).symm)).trans ?_
  rw [EReal.coe_zero, zero_add]

/-- The block-diagonal product of the gates: each block's matrix and its columns of the rows. -/
theorem r_dot_gate (p : Option ContractPrecision) :
    Host.dotGeneral Cert.ReferenceIdeal.dot_S10x128x128_S4096x10x128_S10x128x4096_1_2_2_0_0_1 p (arr Cert.ReferenceIdeal.S10x128x128 .f32 f)
      (arr Cert.ReferenceIdeal.S4096x10x128 .f32 g) =
    arr Cert.ReferenceIdeal.S10x128x4096 .f32 (fun n j t => ∑ c ∈ Finset.range 128, f n c j * g t n c) :=
  arr_of3 fun n j t =>
    (zero_add _).trans (dot_entry Cert.ReferenceIdeal.dot_S10x128x128_S4096x10x128_S10x128x4096_1_2_2_0_0_1 128 rfl rfl (ix3 n j t)
      (fun c => f n c j * g t n c) fun k => (EReal.coe_mul _ _).symm)
/-- The gradient of the gates' product in its rows. -/
theorem r_dot_rows (p : Option ContractPrecision) :
    Host.dotGeneral Cert.ReferenceIdeal.dot_S10x128x4096_S10x128x128_S10x4096x128_1_2_2_1_0_0 p (arr Cert.ReferenceIdeal.S10x128x4096 .f32 f)
      (arr Cert.ReferenceIdeal.S10x128x128 .f32 g) =
    arr Cert.ReferenceIdeal.S10x4096x128 .f32 (fun n t c => ∑ j ∈ Finset.range 128, f n j t * g n c j) :=
  arr_of3 fun n t c =>
    (zero_add _).trans (dot_entry Cert.ReferenceIdeal.dot_S10x128x4096_S10x128x128_S10x4096x128_1_2_2_1_0_0 128 rfl rfl (ix3 n t c)
      (fun j => f n j t * g n c j) fun k => (EReal.coe_mul _ _).symm)
/-- The gradient of the gates' product in its matrices. -/
theorem r_dot_mats (p : Option ContractPrecision) :
    Host.dotGeneral Cert.ReferenceIdeal.dot_S10x128x4096_S4096x10x128_S10x128x128_2_0_1_2_0_1 p (arr Cert.ReferenceIdeal.S10x128x4096 .f32 f)
      (arr Cert.ReferenceIdeal.S4096x10x128 .f32 g) =
    arr Cert.ReferenceIdeal.S10x128x128 .f32 (fun n j c => ∑ t ∈ Finset.range 4096, f n j t * g t n c) :=
  arr_of3 fun n j c =>
    (zero_add _).trans (dot_entry Cert.ReferenceIdeal.dot_S10x128x4096_S4096x10x128_S10x128x128_2_0_1_2_0_1 4096 rfl rfl (ix3 n j c)
      (fun t => f n j t * g t n c) fun k => (EReal.coe_mul _ _).symm)

end Cert.Lru

end
-- ==== Proof.Spec.lean ====
/- The mathematics of one head: the gated block's forward lines over the real numbers, and the gradient of each of its inputs. -/
module

public import Mathlib.Analysis.SpecialFunctions.Trigonometric.DerivHyp
public import Mathlib.Analysis.SpecialFunctions.Log.Basic

@[expose] public section

noncomputable section

namespace Cert.Lru

/-- The inputs of one head: 4096 rows of 128 channels, the convolution's four taps and bias, the two gates' matrices and biases,
the decay's parameter, and the cotangent of the output. -/
structure Head where
  x : ℕ → ℕ → ℝ
  y : ℕ → ℕ → ℝ
  cw : ℕ → ℕ → ℝ
  cb : ℕ → ℝ
  wr : ℕ → ℕ → ℝ
  br : ℕ → ℝ
  wi : ℕ → ℕ → ℝ
  bi : ℕ → ℝ
  lam : ℕ → ℝ
  ct : ℕ → ℕ → ℝ

/-- The logistic function. -/
def sg (z : ℝ) : ℝ := 1 / (1 + Real.exp (-z))
/-- The rows shifted down by `k`, zeros coming in. -/
def down (k : ℕ) (f : ℕ → ℕ → ℝ) (t j : ℕ) : ℝ := if k ≤ t then f (t - k) j else 0
/-- The rows below 4096 shifted up by `k`, zeros coming in. -/
def up (k : ℕ) (f : ℕ → ℕ → ℝ) (t j : ℕ) : ℝ := if t + k < 4096 then f (t + k) j else 0
/-- The slope in the gelu's tanh approximation, and its cubic coefficient. -/
abbrev gc : ℝ := 6693141 / 8388608
abbrev gk : ℝ := 8943 / 200000
/-- The gelu's inner tanh, the gelu, and its derivative. -/
def gt (y : ℝ) : ℝ := Real.tanh (gc * (y + gk * y * y * y))
def gelu (y : ℝ) : ℝ := 1 / 2 * y * (1 + gt y)
def gelu' (y : ℝ) : ℝ := 1 / 2 * (1 + gt y) + 1 / 2 * y * (1 - gt y * gt y) * gc * (1 + 3 * gk * y * y)

namespace Head

variable (S : Head)

/-- The causal convolution. -/
def u (t j : ℕ) : ℝ := S.cb j + S.cw 0 j * down 3 S.x t j + S.cw 1 j * down 2 S.x t j + S.cw 2 j * down 1 S.x t j + S.cw 3 j * S.x t j
/-- The recurrence gate and the input gate. -/
def r (t j : ℕ) : ℝ := sg (∑ c ∈ Finset.range 128, S.u t c * S.wr c j + S.br j)
def i (t j : ℕ) : ℝ := sg (∑ c ∈ Finset.range 128, S.u t c * S.wi c j + S.bi j)
/-- `softplus (-lam)`. -/
def sp (j : ℕ) : ℝ := max (-S.lam j) 0 + Real.log (1 + Real.exp (-|S.lam j|))
/-- The decay's logarithm, the decay, and the input's multiplier. -/
def la (t j : ℕ) : ℝ := -8 * S.r t j * S.sp j
def a (t j : ℕ) : ℝ := Real.exp (S.la t j)
def mult (t j : ℕ) : ℝ := Real.sqrt (1 - Real.exp (2 * S.la t j))
def iu (t j : ℕ) : ℝ := S.i t j * S.u t j
def b (t j : ℕ) : ℝ := S.mult t j * S.iu t j
/-- The recurrence. -/
def h : ℕ → ℕ → ℝ
  | 0, j => S.b 0 j
  | t + 1, j => S.a (t + 1) j * h t j + S.b (t + 1) j
/-- The cotangent of the recurrence's output, without and with what comes back from later rows; `grev d` is the row `d` before the last. -/
def gin (t j : ℕ) : ℝ := S.ct t j * gelu (S.y t j)
def grev : ℕ → ℕ → ℝ
  | 0, j => S.gin 4095 j
  | d + 1, j => S.gin (4094 - d) j + S.a (4095 - d) j * grev d j
def g (t j : ℕ) : ℝ := S.grev (4095 - t) j
/-- The cotangents: of `y`, of the gated input, of the decay's logarithm, of the gates, and of the convolution's output. -/
def dyl (t j : ℕ) : ℝ := S.ct t j * S.h t j * gelu' (S.y t j)
def dv (t j : ℕ) : ℝ := S.g t j * S.mult t j
def dla (t j : ℕ) : ℝ := S.g t j * down 1 S.h t j * S.a t j - S.g t j * S.iu t j * (S.a t j * S.a t j) / S.mult t j
def dr (t j : ℕ) : ℝ := S.dla t j * (-8 * S.sp j)
def drp (t j : ℕ) : ℝ := S.dr t j * S.r t j * (1 - S.r t j)
def dip (t j : ℕ) : ℝ := S.dv t j * S.u t j * S.i t j * (1 - S.i t j)
def du (t j : ℕ) : ℝ := S.dv t j * S.i t j + ∑ c ∈ Finset.range 128, S.drp t c * S.wr j c + ∑ c ∈ Finset.range 128, S.dip t c * S.wi j c
/-- The results. -/
def dxl (t j : ℕ) : ℝ := S.cw 3 j * S.du t j + S.cw 0 j * up 3 S.du t j + S.cw 1 j * up 2 S.du t j + S.cw 2 j * up 1 S.du t j
def dcw (k j : ℕ) : ℝ := ∑ t ∈ Finset.range 4096, S.du t j * down (3 - k) S.x t j
def dcb (j : ℕ) : ℝ := ∑ t ∈ Finset.range 4096, S.du t j
def dwr (c j : ℕ) : ℝ := ∑ t ∈ Finset.range 4096, S.u t c * S.drp t j
def dbr (j : ℕ) : ℝ := ∑ t ∈ Finset.range 4096, S.drp t j
def dwi (c j : ℕ) : ℝ := ∑ t ∈ Finset.range 4096, S.u t c * S.dip t j
def dbi (j : ℕ) : ℝ := ∑ t ∈ Finset.range 4096, S.dip t j
def dlam (j : ℕ) : ℝ := -(∑ t ∈ Finset.range 4096, S.dla t j * (-8 * S.r t j)) * (1 / (1 + Real.exp (S.lam j)))

theorem h_zero (j : ℕ) : S.h 0 j = S.b 0 j := rfl
theorem h_succ (t j : ℕ) : S.h (t + 1) j = S.a (t + 1) j * S.h t j + S.b (t + 1) j := rfl
theorem g_last (j : ℕ) : S.g 4095 j = S.gin 4095 j := rfl
theorem g_step (t j : ℕ) (h : t < 4095) : S.g t j = S.gin t j + S.a (t + 1) j * S.g (t + 1) j := by
  unfold g
  obtain ⟨d, hd⟩ : ∃ d, 4095 - t = d + 1 := ⟨4094 - t, by omega⟩
  rw [hd, grev, show 4094 - d = t by omega, show 4095 - d = t + 1 by omega, show 4095 - (t + 1) = d by omega]

/-! ## Signs -/

theorem sg_pos (z : ℝ) : 0 < sg z := by unfold sg; positivity
theorem r_pos (t j : ℕ) : 0 < S.r t j := sg_pos _
theorem sp_pos (j : ℕ) : 0 < S.sp j := by
  unfold sp
  have h1 : 0 < Real.log (1 + Real.exp (-|S.lam j|)) := Real.log_pos (by have := Real.exp_pos (-|S.lam j|); linarith)
  have h2 := le_max_right (-S.lam j) 0
  linarith
theorem la_neg (t j : ℕ) : S.la t j < 0 := by
  have := mul_pos (S.r_pos t j) (S.sp_pos j); unfold la; nlinarith
theorem one_sub_pos (t j : ℕ) : 0 < 1 - Real.exp (2 * S.la t j) := by
  have : Real.exp (2 * S.la t j) < 1 := Real.exp_lt_one_iff.mpr (by have := S.la_neg t j; linarith)
  linarith
theorem mult_pos (t j : ℕ) : 0 < S.mult t j := Real.sqrt_pos.mpr (S.one_sub_pos t j)
theorem mult_ne (t j : ℕ) : S.mult t j ≠ 0 := (S.mult_pos t j).ne'

theorem exp_two_la (t j : ℕ) : Real.exp (2 * S.la t j) = S.a t j * S.a t j := by
  unfold a; rw [← Real.exp_add]; congr 1; ring

end Head

/-- `-tanh z (e^{2z} + 1) = 1 - e^{2z}`. -/
theorem tanh_identity (z : ℝ) : (0 - Real.tanh z) * (Real.exp z * Real.exp z + 1) = 1 - Real.exp (2 * z) := by
  have e : Real.exp (2 * z) = Real.exp z * Real.exp z := by rw [← Real.exp_add]; congr 1; ring
  have hp := Real.exp_pos z
  rw [e, Real.tanh_eq_sinh_div_cosh, Real.sinh_eq, Real.cosh_eq, Real.exp_neg]
  field_simp
  ring

/-- The logarithm of `1 + x` by way of the quotient `log (1 + x) · x / ((1 + x) - 1)`. -/
theorem log_quotient (x : ℝ) (hx : 0 < x) :
    (if 1 + x = 1 then x else Real.log (1 + x) * x / (if 1 + x = 1 then 1 else 1 + x - 1)) = Real.log (1 + x) := by
  have h : ¬ 1 + x = 1 := by intro h; linarith
  rw [if_neg h, if_neg h, show 1 + x - 1 = x by ring, mul_div_assoc, div_self hx.ne', mul_one]

/-- The derivative of the softplus, as the quotient of the exponentials that the plain formula has. -/
theorem softplus_slope (l : ℝ) : Real.exp (-l - (max (-l) 0 + Real.log (1 + Real.exp (-|l|)))) = 1 / (1 + Real.exp l) := by
  have hp : 0 < 1 + Real.exp (-|l|) := by positivity
  rw [← sub_sub, Real.exp_sub, Real.exp_log hp]
  rcases le_total 0 l with h | h
  · rw [max_eq_right (by linarith), abs_of_nonneg h, sub_zero, Real.exp_neg]
    have := Real.exp_pos l
    field_simp
    ring
  · rw [max_eq_left (by linarith), abs_of_nonpos h, neg_neg, sub_self, Real.exp_zero]

end Cert.Lru

end
-- ==== Proof.KVal.lean ====
/- What the kernel's payloads are on arrays of real numbers: the operations at this kernel's shapes, then the two tile scans. -/
module

public import proofs.«01_k».proof.Proof.ArrDot
public import proofs.«01_k».proof.Proof.KOut
public import proofs.«01_k».proof.Proof.Spec
public import Idealize.ShloMosaic.PureOps.IdealRules

@[expose] public section

set_option maxRecDepth 16384

noncomputable section

namespace Cert.Lru

open Cert.KernelIdeal Cert.KernelIdeal.Gen
open Idealize.ShloMosaic hiding ix1 ix2 ix3 eq_ix1 eq_ix2 eq_ix3
open Idealize.ShloMosaic.ValueIdx

variable {f g : ℕ → ℕ → ℕ → ℝ}

/-! ## The constants -/

theorem bc_zero (s : Shape) : broadcast s (Scalar.ofBits .f32 0x00000000#32 : Ideal .f32) = arr s .f32 (fun _ _ _ => 0) := broadcast_arr _ 0 bits_zero
theorem bc_one (s : Shape) : broadcast s (Scalar.ofBits .f32 0x3F800000#32 : Ideal .f32) = arr s .f32 (fun _ _ _ => 1) := broadcast_arr _ 1 bits_one
theorem bc_half (s : Shape) : broadcast s (Scalar.ofBits .f32 0x3F000000#32 : Ideal .f32) = arr s .f32 (fun _ _ _ => 1 / 2) := broadcast_arr _ _ bits_half
theorem bc_neg_eight (s : Shape) : broadcast s (Scalar.ofBits .f32 0xC1000000#32 : Ideal .f32) = arr s .f32 (fun _ _ _ => -8) := broadcast_arr _ _ bits_neg_eight
theorem bc_gelu (s : Shape) : broadcast s (Scalar.ofBits .f32 0x3F4C422A#32 : Ideal .f32) = arr s .f32 (fun _ _ _ => gc) := broadcast_arr _ _ bits_gelu
theorem bc_k (s : Shape) : broadcast s (Named.named (F := Ideal) κ "gelu_k" (φ := .f32) 0x3D372713#32) = arr s .f32 (fun _ _ _ => gk) :=
  broadcast_arr _ _ (IdealRules.named_const.ideal_named_scalar _ _ _ _ rfl)
theorem bc_3k (s : Shape) : broadcast s (Named.named (F := Ideal) κ "gelu_3k" (φ := .f32) 0x3E095D4F#32) = arr s .f32 (fun _ _ _ => 26829 / 200000) :=
  broadcast_arr _ _ (IdealRules.named_const.ideal_named_scalar _ _ _ _ rfl)
theorem ct_zero (s : Shape) : constant (F := Ideal) s .f32 0x00000000#32 = arr s .f32 (fun _ _ _ => 0) := constant_arr _ 0 bits_zero

/-! ## The tile scans -/

theorem ld_fwd (k : Fin k0_t1_loop.trips) :
    View.ld (Val := Elt Ideal) (e' := .f32) (arr S4096x128 .f32 f) (fwdRect k) = (arr S8x128 .f32 (fun t j _ => f (8 * k + t) j 0) : FVec Ideal S8x128 .f32) := by
  refine arr_of2 fun a b => ?_
  show ((f (k0_off1 k 0 + 1 * a.val) (k0_off1 k 1 + 1 * b.val) 0 : ℝ) : EReal) = _
  rw [k0_off1_eq]
  simp
theorem ld_rev (k : Fin k0_t2_loop.trips) :
    View.ld (Val := Elt Ideal) (e' := .f32) (arr S4096x128 .f32 f) (revRect k) = (arr S8x128 .f32 (fun t j _ => f (4088 - 8 * k + t) j 0) : FVec Ideal S8x128 .f32) := by
  refine arr_of2 fun a b => ?_
  show ((f (k0_off2 k 0 + 1 * a.val) (k0_off2 k 1 + 1 * b.val) 0 : ℝ) : EReal) = _
  rw [k0_off2_eq]
  simp

section Scan
variable (A B H : ℕ → ℕ → ℝ)

/-- The row carried into tile `k` of the forward scan. -/
def before (k j : ℕ) : ℝ := if k = 0 then 0 else H (8 * k - 1) j

theorem fwd_tile (h0 : ∀ j, H 0 j = B 0 j) (hs : ∀ t j, H (t + 1) j = A (t + 1) j * H t j + B (t + 1) j) (k : Fin k0_t1_loop.trips) :
    k0_pay36 (k0_pay8 tileIota (View.ld (Val := Elt Ideal) (arr S4096x128 .f32 fun t j _ => A t j) (fwdRect k))
        (View.ld (Val := Elt Ideal) (arr S4096x128 .f32 fun t j _ => B t j) (fwdRect k)))
      (k0_pay9 tileIota (arr S1x128 .f32 fun _ j _ => before H k j) (View.ld (Val := Elt Ideal) (arr S4096x128 .f32 fun t j _ => A t j) (fwdRect k))) =
    arr S8x128 .f32 (fun t j _ => H (8 * k + t) j) := by
  have e0 : ∀ j, H (8 * k) j = A (8 * k) j * before H k j + B (8 * k) j := by
    intro j
    unfold before
    split_ifs with h
    · rw [h, Nat.mul_zero, h0, mul_zero, zero_add]
    · obtain ⟨d, hd⟩ : ∃ d, 8 * k.val = d + 1 := ⟨8 * k.val - 1, by omega⟩
      rw [hd, hs, Nat.add_sub_cancel]
  rw [ld_fwd, ld_fwd]
  simp only [k0_pay36, k0_pay8, k0_pay9, k0_pay3, k0_pay4, k0_pay5, k0_pay6, k0_pay7, bc_zero, bc_one, shift_down (n := 8) (m := 128) 1 (by norm_num) (by norm_num), shift_down (n := 8) (m := 128) 2 (by norm_num) (by norm_num), shift_down (n := 8) (m := 128) 4 (by norm_num) (by norm_num), mulf_arr, addf_arr,
    broadcastTo_row (n := 8) (m := 128)]
  refine arr2_congr fun t ht j _ => ?_
  interval_cases t <;> simp [hs, e0] <;> ring

theorem fwd_carry (h0 : ∀ j, H 0 j = B 0 j) (hs : ∀ t j, H (t + 1) j = A (t + 1) j * H t j + B (t + 1) j) :
    ∀ k ≤ 512, fwdCarry (F := Ideal) tileIota (arr S4096x128 .f32 fun t j _ => A t j) (arr S4096x128 .f32 fun t j _ => B t j) k0_pay35 k =
      arr S1x128 .f32 (fun _ j _ => before H k j) := by
  intro k
  induction k with
  | zero => intro _; exact bc_zero _
  | succ k ih =>
    intro hk
    have hkt : k < k0_t1_loop.trips := by rw [trips1]; omega
    rw [fwdCarry_succ (F := Ideal) tileIota _ _ k0_pay35 ⟨k, hkt⟩, ih (by omega)]
    unfold fwdNext k0_pay38
    rw [fwd_tile A B H h0 hs ⟨k, hkt⟩]
    dsimp only
    rw [slice2]
    refine arr2_congr fun t ht j _ => ?_
    obtain rfl : t = 0 := by omega
    unfold before
    rw [if_neg (by omega), Nat.zero_add]
    congr 1

/-- The forward loop computes the recurrence. -/
theorem fwdAll_arr (h0 : ∀ j, H 0 j = B 0 j) (hs : ∀ t j, H (t + 1) j = A (t + 1) j * H t j + B (t + 1) j) :
    fwdAll (F := Ideal) (arr S4096x128 .f32 fun t j _ => A t j) (arr S4096x128 .f32 fun t j _ => B t j) = arr S4096x128 .f32 (fun t j _ => H t j) := by
  refine arr_of2 fun a b => ?_
  unfold fwdAll
  have ha : a.val / 8 ≤ 512 := by have := a.isLt; omega
  have e : ((ix2 a b : S4096x128.Idx) (0 : Fin 2)).val = a.val := rfl
  simp only [e]
  rw [fwd_carry A B H h0 hs _ ha]
  unfold fwdTile k0_pay37
  rw [fwd_tile A B H h0 hs ⟨a.val / 8, _⟩]
  dsimp only
  rw [cast_self]
  show ((H (8 * (a.val / 8) + a.val % 8) b.val : ℝ) : EReal) = _
  rw [Nat.div_add_mod]

/-- The row carried into tile `k` of the reverse scan. -/
def behind (G : ℕ → ℕ → ℝ) (k j : ℕ) : ℝ := if k = 0 then 0 else G (4096 - 8 * k) j

variable (G : ℕ → ℕ → ℝ)

theorem rev_tile (h0 : ∀ j, G 4095 j = B 4095 j) (hs : ∀ t < 4095, ∀ j, G t j = B t j + A t j * G (t + 1) j) (k : Fin k0_t2_loop.trips) :
    k0_pay45 (arr S1x128 .f32 fun _ j _ => behind G k j)
      (k0_pay15 tileIota (View.ld (Val := Elt Ideal) (arr S4096x128 .f32 fun t j _ => A t j) (revRect k))
        (View.ld (Val := Elt Ideal) (arr S4096x128 .f32 fun t j _ => B t j) (revRect k)))
      (k0_pay16 tileIota (View.ld (Val := Elt Ideal) (arr S4096x128 .f32 fun t j _ => A t j) (revRect k))) =
    arr S8x128 .f32 (fun t j _ => G (4088 - 8 * k + t) j) := by
  have hk : k.val < 512 := by have := k.isLt; have := trips2; omega
  obtain ⟨q, hq⟩ : ∃ q, 4088 - 8 * k.val = q := ⟨_, rfl⟩
  have e7 : ∀ j, G (q + 7) j = B (q + 7) j + A (q + 7) j * behind G k j := by
    intro j
    unfold behind
    split_ifs with h
    · rw [show q + 7 = 4095 by omega, h0, mul_zero, add_zero]
    · rw [hs _ (by omega), show q + 7 + 1 = 4096 - 8 * k.val by omega]
  have e6 : ∀ j, G (q + 6) j = B (q + 6) j + A (q + 6) j * G (q + 7) j := fun j => hs _ (by omega) j
  have e5 : ∀ j, G (q + 5) j = B (q + 5) j + A (q + 5) j * G (q + 6) j := fun j => hs _ (by omega) j
  have e4 : ∀ j, G (q + 4) j = B (q + 4) j + A (q + 4) j * G (q + 5) j := fun j => hs _ (by omega) j
  have e3 : ∀ j, G (q + 3) j = B (q + 3) j + A (q + 3) j * G (q + 4) j := fun j => hs _ (by omega) j
  have e2 : ∀ j, G (q + 2) j = B (q + 2) j + A (q + 2) j * G (q + 3) j := fun j => hs _ (by omega) j
  have e1 : ∀ j, G (q + 1) j = B (q + 1) j + A (q + 1) j * G (q + 2) j := fun j => hs _ (by omega) j
  have e0 : ∀ j, G q j = B q j + A q j * G (q + 1) j := fun j => hs _ (by omega) j
  rw [ld_rev, ld_rev]
  simp only [k0_pay45, k0_pay10, k0_pay11, k0_pay12, k0_pay13, k0_pay14, k0_pay15, k0_pay16, bc_zero, bc_one, shift_up (n := 8) (m := 128) 7 (by norm_num) (by norm_num), shift_up (n := 8) (m := 128) 6 (by norm_num) (by norm_num), shift_up (n := 8) (m := 128) 4 (by norm_num) (by norm_num), mulf_arr, addf_arr,
    broadcastTo_row (n := 8) (m := 128), hq]
  refine arr2_congr fun t ht j _ => ?_
  interval_cases t <;> simp [e0, e1, e2, e3, e4, e5, e6, e7] <;> ring

theorem rev_carry (h0 : ∀ j, G 4095 j = B 4095 j) (hs : ∀ t < 4095, ∀ j, G t j = B t j + A t j * G (t + 1) j) :
    ∀ k ≤ 512, revCarry (F := Ideal) tileIota (arr S4096x128 .f32 fun t j _ => A t j) (arr S4096x128 .f32 fun t j _ => B t j) k0_pay44 k =
      arr S1x128 .f32 (fun _ j _ => behind G k j) := by
  intro k
  induction k with
  | zero => intro _; exact bc_zero _
  | succ k ih =>
    intro hk
    have hkt : k < k0_t2_loop.trips := by rw [trips2]; omega
    rw [revCarry_succ (F := Ideal) tileIota _ _ k0_pay44 ⟨k, hkt⟩, ih (by omega)]
    unfold revNext k0_pay47
    rw [rev_tile A B G h0 hs ⟨k, hkt⟩]
    dsimp only
    rw [slice2]
    refine arr2_congr fun t ht j _ => ?_
    obtain rfl : t = 0 := by omega
    unfold behind
    rw [if_neg (by omega), Nat.zero_add, Nat.zero_add, Nat.add_zero]
    congr 1
    omega

/-- The reverse loop computes the recurrence from the last row back. -/
theorem revAll_arr (h0 : ∀ j, G 4095 j = B 4095 j) (hs : ∀ t < 4095, ∀ j, G t j = B t j + A t j * G (t + 1) j) :
    revAll (F := Ideal) (arr S4096x128 .f32 fun t j _ => A t j) (arr S4096x128 .f32 fun t j _ => B t j) = arr S4096x128 .f32 (fun t j _ => G t j) := by
  refine arr_of2 fun a b => ?_
  unfold revAll
  have ha : 511 - a.val / 8 ≤ 512 := by omega
  have e : ((ix2 a b : S4096x128.Idx) (0 : Fin 2)).val = a.val := rfl
  simp only [e]
  rw [rev_carry A B G h0 hs _ ha]
  unfold revTile k0_pay46
  rw [rev_tile A B G h0 hs ⟨511 - a.val / 8, _⟩]
  dsimp only
  rw [cast_self]
  show ((G (4088 - 8 * (511 - a.val / 8) + a.val % 8) b.val : ℝ) : EReal) = _
  rw [show 4088 - 8 * (511 - a.val / 8) + a.val % 8 = a.val by have := a.isLt; omega]

end Scan

end Cert.Lru

end
-- ==== Proof.KHead.lean ====
/- The kernel's block on one head's inputs: every named value of the body, and every output, is the array of the mathematics. -/
module

public import proofs.«01_k».proof.Proof.KVal

@[expose] public section

set_option maxRecDepth 16384

noncomputable section

namespace Cert.Lru

open Cert.KernelIdeal Cert.KernelIdeal.Gen
open Idealize.ShloMosaic hiding ix1 ix2 ix3 eq_ix1 eq_ix2 eq_ix3
open Idealize.ShloMosaic.ValueIdx

variable {φ : FTy} {f g : ℕ → ℕ → ℕ → ℝ}

/-! ## The operations at the block's shapes -/

theorem row_to (h) : broadcastTo S4096x128 (arr S1x128 φ f) h = arr S4096x128 φ (fun _ j _ => f 0 j 0) := broadcastTo_row (n := 4096) (m := 128) h
theorem tap (a : ℕ) (h) : extractStridedSlice S1x128 ![a, 0] (arr S4x128 φ f) h = arr S1x128 φ (fun t j _ => f (a + t) (0 + j) 0) := slice2 (n := 4) (m := 128) h
theorem flat (h) : shapeCast S128x128 (arr S1x128x128 φ f) h = arr S128x128 φ (fun b c _ => f 0 b c) := cast_3_2 (n := 128) (m := 128) h
theorem unflat (h) : shapeCast S1x128x128 (arr S128x128 φ f) h = arr S1x128x128 φ (fun _ b c => f b c 0) := cast_2_3 (n := 128) (m := 128) h
theorem colS (acc h hφ hacc) : multiReduction .add [0] S128 (arr S4096x128 .f32 f) acc h hφ hacc = arr S128 .f32 (fun j _ _ => ∑ t ∈ Finset.range 4096, f t j 0) :=
  colsum (n := 4096) (m := 128) acc h hφ hacc
theorem row_of (h) : shapeCast S1x128 (arr S128 φ f) h = arr S1x128 φ (fun _ j _ => f j 0 0) := cast_1_2 (m := 128) h
theorem col_row (h h') : shapeCast S1x128 (multiReduction .add [0] S128 (arr S4096x128 .f32 f) 0x00000000#32 h (.inl rfl) rfl) h' =
    arr S1x128 .f32 (fun _ j _ => ∑ t ∈ Finset.range 4096, f t j 0) :=
  (congrArg (fun x => shapeCast S1x128 x h') (colS _ h _ _)).trans (row_of h')
theorem sdown (k : ℕ) (hk : k < 4096) (hi hr) :
    select (cmpi .sge (iota .tc S4096x128 32 [0] hi) (broadcast S4096x128 (BitVec.ofNat 32 k)))
      (dynamicRotate (s := S4096x128) 0 (BitVec.ofNat 32 k) none (arr S4096x128 φ f) hr) (arr S4096x128 φ fun _ _ _ => 0) =
    arr S4096x128 φ (fun t j _ => down k (fun t j => f t j 0) t j) := shift_down (n := 4096) (m := 128) k hk (by norm_num) hi hr
theorem sup (c : ℕ) (hk : c < 4096) (hi hr) :
    select (cmpi .slt (iota .tc S4096x128 32 [0] hi) (broadcast S4096x128 (BitVec.ofNat 32 c)))
      (dynamicRotate (s := S4096x128) 0 (BitVec.ofNat 32 c) none (arr S4096x128 φ f) hr) (arr S4096x128 φ fun _ _ _ => 0) =
    arr S4096x128 φ (fun t j _ => up (4096 - c) (fun t j => f t j 0) t j) := by
  refine (shift_up (n := 4096) (m := 128) c hk (by norm_num) hi hr).trans (arr2_congr fun t _ j _ => ?_)
  unfold up
  by_cases h : t < c
  · rw [if_pos h, if_pos (by omega)]
  · rw [if_neg h, if_neg (by omega)]

namespace Blk

/-- The block whose inputs are a head's. -/
def ofHead (S : Head) : Blk Ideal where
  xl := arr S4096x128 .f32 (fun t j _ => S.x t j)
  yl := arr S4096x128 .f32 (fun t j _ => S.y t j)
  cw := arr S4x128 .f32 (fun k j _ => S.cw k j)
  cb := arr S1x128 .f32 (fun _ j _ => S.cb j)
  wr := arr S1x128x128 .f32 (fun _ c j => S.wr c j)
  br := arr S1x128 .f32 (fun _ j _ => S.br j)
  wi := arr S1x128x128 .f32 (fun _ c j => S.wi c j)
  bi := arr S1x128 .f32 (fun _ j _ => S.bi j)
  lam := arr S1x128 .f32 (fun _ j _ => S.lam j)
  ct := arr S4096x128 .f32 (fun t j _ => S.ct t j)

variable (S : Head)

theorem u_arr : (ofHead S).u = arr S4096x128 .f32 (fun t j _ => S.u t j) := by
  simp only [u, xc, ofHead, k0_pay19, k0_pay20, tap, row_to, mulf_arr, addf_arr, bc_zero, sdown 1 (by norm_num), sdown 2 (by norm_num), sdown 3 (by norm_num)]
  refine arr2_congr fun t _ j _ => ?_
  simp only [Nat.add_zero, Nat.zero_add, Head.u]
  ring

theorem gate_arr (f g : ℕ → ℕ → ℝ) (b : ℕ → ℝ) (p) :
    divf (arr S4096x128 .f32 fun _ _ _ => 1) (addf (arr S4096x128 .f32 fun _ _ _ => 1) (exp (subf (arr S4096x128 .f32 fun _ _ _ => 0)
      (addf (matmul dot_S4096x128_S128x128_S4096x128_1_0_0_1_n_n p (arr S4096x128 .bf16 fun t j _ => f t j) (arr S128x128 .bf16 fun t j _ => g t j)
        (constant S4096x128 .f32 0x00000000#32)) (arr S4096x128 .f32 fun _ j _ => b j))))) =
    arr S4096x128 .f32 (fun t j _ => sg (∑ c ∈ Finset.range 128, f t c * g c j + b j)) := by
  simp only [ct_zero, k_dot_plain, addf_arr, subf_arr, exp_arr]
  rw [divf_arr (fun a b c => by positivity)]
  simp only [zero_sub, sg]

theorem r_arr : (ofHead S).r = arr S4096x128 .f32 (fun t j _ => S.r t j) := by
  have hu := u_arr S
  simp only [u] at hu
  simp only [r, k0_pay21, hu]
  simp only [ofHead, k0_pay17, flat, truncf_arr, bc_zero, bc_one, row_to]
  exact gate_arr S.u S.wr S.br _
theorem i_arr : (ofHead S).i = arr S4096x128 .f32 (fun t j _ => S.i t j) := by
  have hu := u_arr S
  simp only [u] at hu
  simp only [i, k0_pay22, hu]
  simp only [ofHead, k0_pay18, flat, truncf_arr, bc_zero, bc_one, row_to]
  exact gate_arr S.u S.wi S.bi _

theorem sp_arr : (ofHead S).sp = arr S1x128 .f32 (fun _ j _ => S.sp j) := by
  have p23 : k0_pay23 (ofHead S).lam = arr S1x128 .f32 (fun _ j _ => -S.lam j) := by
    simp only [k0_pay23, ofHead, bc_zero, subf_arr, zero_sub]
  have p24 : k0_pay24 (ofHead S).lam = arr S1x128 .f32 (fun _ j _ => Real.exp (-|S.lam j|)) := by
    simp only [k0_pay24, p23, bc_zero, absf_arr, subf_arr, exp_arr, zero_sub, abs_neg]
  have p25 : k0_pay25 (ofHead S).lam = arr S1x128 .f32 (fun _ j _ => 1 + Real.exp (-|S.lam j|)) := by
    simp only [k0_pay25, p24, bc_one, addf_arr]
  have hne : ∀ j, ¬ 1 + Real.exp (-|S.lam j|) = 1 := fun j h => by have := Real.exp_pos (-|S.lam j|); linarith
  have hc := never_eq (s := S1x128) (φ := .f32) (f := fun _ j _ => 1 + Real.exp (-|S.lam j|)) (g := fun _ _ _ => 1) (fun _ j _ => hne j)
  have p26 : k0_pay26 (ofHead S).lam = cmpf .oeq (arr S1x128 .f32 (fun _ j _ => 1 + Real.exp (-|S.lam j|))) (arr S1x128 .f32 (fun _ _ _ => 1)) := by
    simp only [k0_pay26, p25, bc_one]
  have p27 : k0_pay27 (ofHead S).lam = arr S1x128 .f32 (fun _ j _ => Real.log (1 + Real.exp (-|S.lam j|))) := by
    simp only [k0_pay27, p25]
    exact log_arr (fun a b c => by positivity)
  simp only [sp, k0_pay28, p23, p24, p25, p26, p27, bc_one, bc_zero, mulf_arr, subf_arr]
  rw [select_never _ _ _ hc, select_never _ _ _ hc, divf_arr (fun a b c h => hne b (by linarith)), maximumf_arr, addf_arr]
  refine arr2_congr fun _ _ j _ => ?_
  have h := log_quotient _ (Real.exp_pos (-|S.lam j|))
  rw [if_neg (hne j), if_neg (hne j)] at h
  rw [h]; rfl

/-- The decay's logarithm, as the body computes it. -/
theorem la_arr : k0_pay29 (ofHead S).r (k0_pay23 (ofHead S).lam) (k0_pay24 (ofHead S).lam) (k0_pay25 (ofHead S).lam) (k0_pay26 (ofHead S).lam) (k0_pay27 (ofHead S).lam) =
    arr S4096x128 .f32 (fun t j _ => S.la t j) := by
  have hs := sp_arr S
  simp only [sp] at hs
  simp only [k0_pay29, hs, r_arr, bc_neg_eight, row_to, mulf_arr]
  rfl
theorem a_arr : (ofHead S).a = arr S4096x128 .f32 (fun t j _ => S.a t j) := by
  simp only [a, k0_pay30, la_arr, exp_arr]; rfl
theorem aS_arr : (ofHead S).aS = arr S4096x128 .f32 (fun t j _ => S.a t j) := by
  have h := a_arr S
  simp only [a] at h
  simp only [aS, k0_pay33, h, cast_self]
theorem mult_arr : (ofHead S).mult = arr S4096x128 .f32 (fun t j _ => S.mult t j) := by
  have h := a_arr S
  simp only [a] at h
  simp only [mult, k0_pay31, h, la_arr, tanh_arr, bc_zero, bc_one, subf_arr, mulf_arr, addf_arr]
  have e : ∀ t j, (0 - Real.tanh (S.la t j)) * (S.a t j * S.a t j + 1) = 1 - Real.exp (2 * S.la t j) := fun t j => tanh_identity _
  simp only [e]
  exact sqrt_arr (fun t j _ => (S.one_sub_pos t j).le)
theorem iu_arr : (ofHead S).iu = arr S4096x128 .f32 (fun t j _ => S.iu t j) := by
  simp only [iu, k0_pay32, u_arr, i_arr, mulf_arr]; rfl
theorem bS_arr : (ofHead S).bS = arr S4096x128 .f32 (fun t j _ => S.b t j) := by
  have h := mult_arr S
  have h' := iu_arr S
  simp only [mult] at h
  simp only [iu] at h'
  simp only [bS, k0_pay34, h, h', mulf_arr, cast_self]; rfl
theorem h_arr : (ofHead S).h = arr S4096x128 .f32 (fun t j _ => S.h t j) := by
  rw [h, aS_arr, bS_arr]
  exact fwdAll_arr S.a S.b S.h (fun _ => rfl) (fun _ _ => rfl)

/-- The gelu's inner tanh, as the body computes it. -/
theorem gt_arr : k0_pay40 (ofHead S).yl k0_pay39 = arr S4096x128 .f32 (fun t j _ => gt (S.y t j)) := by
  simp only [k0_pay40, k0_pay39, ofHead, bc_k, bc_gelu, mulf_arr, addf_arr, tanh_arr]; rfl
theorem gin_arr : (ofHead S).gin = arr S4096x128 .f32 (fun t j _ => S.gin t j) := by
  simp only [gin, k0_pay42, gt_arr, bc_half, bc_one, addf_arr]
  simp only [ofHead, mulf_arr, cast_self]; rfl
theorem dyl_arr : (ofHead S).dyl = arr S4096x128 .bf16 (fun t j _ => S.dyl t j) := by
  simp only [dyl, k0_pay41, gt_arr, h_arr, bc_half, bc_one, bc_gelu, bc_3k, addf_arr, mulf_arr, subf_arr]
  simp only [ofHead, mulf_arr, addf_arr, truncf_arr]
  refine arr2_congr fun t _ j _ => ?_
  simp only [Head.dyl, gelu']
  ring
theorem g_arr : (ofHead S).g = arr S4096x128 .f32 (fun t j _ => S.g t j) := by
  simp only [g, gin_arr, k0_pay43, a_arr, bc_zero, sup 4095 (by norm_num), cast_self]
  refine revAll_arr (fun t j => up 1 S.a t j) S.gin S.g (fun _ => rfl) (fun t ht j => ?_)
  rw [S.g_step t j ht]
  unfold up
  rw [if_pos (by omega)]

theorem dv_arr : (ofHead S).dv = arr S4096x128 .f32 (fun t j _ => S.dv t j) := by
  simp only [dv, k0_pay48, mult_arr, g_arr, mulf_arr]; rfl
/-- The gradient of the decay's logarithm, as the body computes it. -/
theorem dla_arr : k0_pay49 (ofHead S).a (ofHead S).mult (ofHead S).iu (ofHead S).h (ofHead S).g = arr S4096x128 .f32 (fun t j _ => S.dla t j) := by
  simp only [k0_pay49, a_arr, mult_arr, iu_arr, h_arr, g_arr, bc_zero, sdown 1 (by norm_num), mulf_arr]
  rw [divf_arr (fun t j _ => S.mult_ne t j), subf_arr]; rfl
theorem dr_arr : (ofHead S).dr = arr S4096x128 .f32 (fun t j _ => S.dr t j) := by
  simp only [dr, k0_pay50, dla_arr, sp_arr, bc_neg_eight, mulf_arr, row_to]; rfl
theorem dsp_arr : (ofHead S).dsp = arr S1x128 .f32 (fun _ j _ => -∑ t ∈ Finset.range 4096, S.dla t j * (-8 * S.r t j)) := by
  simp only [dsp, k0_pay51, dla_arr, r_arr, bc_neg_eight, bc_zero, mulf_arr]
  refine (congrArg (subf _) (col_row _ _)).trans (subf_arr.trans ?_)
  simp only [zero_sub]
theorem dlam_arr : (ofHead S).dlam = arr S1x128 .f32 (fun _ j _ => S.dlam j) := by
  simp only [dlam, k0_pay52, dsp_arr, bc_zero, bc_one]
  simp only [ofHead, subf_arr, exp_arr, addf_arr]
  rw [divf_arr (fun a b c => by positivity), mulf_arr]
  refine arr2_congr fun _ _ j _ => ?_
  simp only [Head.dlam, zero_sub, neg_neg]
theorem drp_arr : (ofHead S).drp = arr S4096x128 .f32 (fun t j _ => S.drp t j) := by
  simp only [drp, k0_pay53, r_arr, dr_arr, bc_one, mulf_arr, subf_arr]; rfl
theorem dip_arr : (ofHead S).dip = arr S4096x128 .f32 (fun t j _ => S.dip t j) := by
  simp only [dip, k0_pay54, u_arr, i_arr, dv_arr, bc_one, mulf_arr, subf_arr]; rfl
theorem dbr_arr : (ofHead S).dbr = arr S1x128 .f32 (fun _ j _ => S.dbr j) := by
  have h := drp_arr S
  simp only [drp] at h
  simp only [dbr, k0_pay55, h]; exact col_row _ _
theorem dbi_arr : (ofHead S).dbi = arr S1x128 .f32 (fun _ j _ => S.dbi j) := by
  have h := dip_arr S
  simp only [dip] at h
  simp only [dbi, k0_pay56, h]; exact col_row _ _
theorem dwr_arr : (ofHead S).dwr = arr S1x128x128 .f32 (fun _ c j => S.dwr c j) := by
  have h := drp_arr S
  simp only [drp] at h
  simp only [dwr, k0_pay57, h]
  simp only [u_arr, truncf_arr, ct_zero, k_dot_rows, unflat]; rfl
theorem dwi_arr : (ofHead S).dwi = arr S1x128x128 .f32 (fun _ c j => S.dwi c j) := by
  have h := dip_arr S
  simp only [dip] at h
  simp only [dwi, k0_pay58, k0_pay59, h]
  simp only [u_arr, truncf_arr, ct_zero, k_dot_rows, unflat]; rfl
theorem du_arr : (ofHead S).du = arr S4096x128 .f32 (fun t j _ => S.du t j) := by
  simp only [du, k0_pay60, i_arr, dv_arr, drp_arr, dip_arr]
  simp only [ofHead, flat, truncf_arr, ct_zero, k_dot_transposed, mulf_arr, addf_arr]; rfl
theorem dcb_arr : (ofHead S).dcb = arr S1x128 .f32 (fun _ j _ => S.dcb j) := by
  simp only [dcb, k0_pay2, du_arr]; exact col_row _ _
theorem dxl_arr : (ofHead S).dxl = arr S4096x128 .bf16 (fun t j _ => S.dxl t j) := by
  have h := du_arr S
  simp only [du] at h
  simp only [dxl, du, k0_pay61, k0_pay62, k0_pay63, k0_pay64, h]
  simp only [ofHead, tap, row_to, bc_zero, sup 4093 (by norm_num), sup 4094 (by norm_num), sup 4095 (by norm_num), mulf_arr, addf_arr, truncf_arr]
  refine arr2_congr fun t _ j _ => ?_
  simp only [Nat.add_zero, Nat.zero_add, Nat.reduceSub, Head.dxl]
theorem dcw_arr : (ofHead S).dcw = arr S4x128 .f32 (fun k j _ => S.dcw k j) := by
  have h0 : k0_pay65 (ofHead S).xl (ofHead S).du = arr S1x128 .f32 (fun _ j _ => S.dcw 0 j) := by
    simp only [k0_pay65, du_arr]
    simp only [ofHead, bc_zero, sdown 3 (by norm_num), mulf_arr]; exact col_row _ _
  have h1 : k0_pay66 (ofHead S).xl (ofHead S).du = arr S1x128 .f32 (fun _ j _ => S.dcw 1 j) := by
    simp only [k0_pay66, du_arr]
    simp only [ofHead, bc_zero, sdown 2 (by norm_num), mulf_arr]; exact col_row _ _
  have h2 : k0_pay67 (ofHead S).xl (ofHead S).du = arr S1x128 .f32 (fun _ j _ => S.dcw 2 j) := by
    simp only [k0_pay67, du_arr]
    simp only [ofHead, bc_zero, sdown 1 (by norm_num), mulf_arr]; exact col_row _ _
  have h3 : k0_pay1 (ofHead S).xl (ofHead S).du = arr S1x128 .f32 (fun _ j _ => S.dcw 3 j) := by
    simp only [k0_pay1, du_arr]
    simp only [ofHead, mulf_arr]
    refine (col_row _ _).trans (arr2_congr fun _ _ j _ => ?_)
    simp [Head.dcw, down]
  refine arr_of2 fun k j => ?_
  unfold dcw
  rw [h0, h1, h2, h3]
  have e : ((ix2 k j : S4x128.Idx) (0 : Fin 2)) = k := rfl
  have e' : ((ix2 k j : S4x128.Idx) (1 : Fin 2)) = j := rfl
  rw [e, e']
  match k with
  | ⟨0, _⟩ => rfl
  | ⟨1, _⟩ => rfl
  | ⟨2, _⟩ => rfl
  | ⟨3, _⟩ => rfl

end Blk

end Cert.Lru

end
-- ==== Proof.RShape.lean ====
/- What the reference's operations do, at its shapes, to arrays of real numbers; and the arrays of a family of heads laid side by side. -/
module

public import proofs.«01_k».proof.Proof.ArrDot
public import proofs.«01_k».proof.Proof.Spec

@[expose] public section

set_option maxRecDepth 16384

noncomputable section

namespace Cert.Lru.Ref

open Cert.ReferenceIdeal Cert.ReferenceIdeal.Gen
open Idealize.ShloMosaic hiding ix1 ix2 ix3 eq_ix1 eq_ix2 eq_ix3
open Idealize.ShloMosaic.ValueIdx

variable {f g : ℕ → ℕ → ℕ → ℝ}

/-! ## The heads side by side -/

section Family
variable (S : ℕ → Head)

/-- A value of every head, 4096 rows, the heads' columns side by side. -/
abbrev wide (f : Head → ℕ → ℕ → ℝ) : FVec Ideal S4096x1280 .f32 := arr S4096x1280 .f32 (fun t c _ => f (S (c / 128)) t (c % 128))
/-- The same in the short format. -/
abbrev wideS (f : Head → ℕ → ℕ → ℝ) : FVec Ideal S4096x1280 .bf16 := arr S4096x1280 .bf16 (fun t c _ => f (S (c / 128)) t (c % 128))
/-- A value of every head for each of the four taps. -/
abbrev four (f : Head → ℕ → ℕ → ℝ) : FVec Ideal S4x1280 .f32 := arr S4x1280 .f32 (fun k c _ => f (S (c / 128)) k (c % 128))
/-- One row of every head. -/
abbrev row (f : Head → ℕ → ℝ) : FVec Ideal S1x1280 .f32 := arr S1x1280 .f32 (fun _ c _ => f (S (c / 128)) (c % 128))
/-- A matrix of every head. -/
abbrev mats (f : Head → ℕ → ℕ → ℝ) : FVec Ideal S10x128x128 .f32 := arr S10x128x128 .f32 (fun n c j => f (S n) c j)
/-- The rows of every head, the heads on an axis of their own. -/
abbrev heads (f : Head → ℕ → ℕ → ℝ) : FVec Ideal S4096x10x128 .f32 := arr S4096x10x128 .f32 (fun t n j => f (S n) t j)

theorem block_div (i j : ℕ) (h : j < 128) : (i * 128 + j) / 128 = i := by omega
theorem block_mod (i j : ℕ) (h : j < 128) : (i * 128 + j) % 128 = j := by omega

end Family

/-! ## The constants -/

theorem c_zero (s : Shape) : constant (F := Ideal) s .f32 0x00000000#32 = arr s .f32 (fun _ _ _ => 0) := constant_arr _ _ bits_zero
theorem c_one (s : Shape) : constant (F := Ideal) s .f32 0x3F800000#32 = arr s .f32 (fun _ _ _ => 1) := constant_arr _ _ bits_one
theorem c_half (s : Shape) : constant (F := Ideal) s .f32 0x3F000000#32 = arr s .f32 (fun _ _ _ => 1 / 2) := constant_arr _ _ bits_half
theorem c_two (s : Shape) : constant (F := Ideal) s .f32 0x40000000#32 = arr s .f32 (fun _ _ _ => 2) := constant_arr _ _ bits_two
theorem c_three (s : Shape) : constant (F := Ideal) s .f32 0x40400000#32 = arr s .f32 (fun _ _ _ => 3) := constant_arr _ _ bits_three
theorem c_neg_eight (s : Shape) : constant (F := Ideal) s .f32 0xC1000000#32 = arr s .f32 (fun _ _ _ => -8) := constant_arr _ _ bits_neg_eight
theorem c_gelu (s : Shape) : constant (F := Ideal) s .f32 0x3F4C422A#32 = arr s .f32 (fun _ _ _ => gc) := constant_arr _ _ bits_gelu
theorem c_44715 (s : Shape) : constant (F := Ideal) s .f32 0x472EAB00#32 = arr s .f32 (fun _ _ _ => 44715) := constant_arr _ _ bits_44715
theorem c_million (s : Shape) : constant (F := Ideal) s .f32 0x49742400#32 = arr s .f32 (fun _ _ _ => 1000000) := constant_arr _ _ bits_million

/-! ## The operations that move entries -/

/-- An entry of the programs' wide format. -/
abbrev R : Type := Elt Ideal .f32

theorem scalar_to (t : Shape) (d) (h) : broadcastInDim (α := R) t d h (arr S_ .f32 f) = arr t .f32 (fun _ _ _ => f 0 0 0) := by
  obtain rfl : d = ![] := Subsingleton.elim _ _
  exact inDim_scalar _
theorem col_to {d : Fin 1 → Fin 2} (hd : d = ![1]) (h) : broadcastInDim (α := R) S1x1280 d h (arr S1280 .f32 f) = arr S1x1280 .f32 (fun _ c _ => f c 0 0) := by
  subst hd; exact inDim_col (m := 1280) h
theorem row_to {d : Fin 2 → Fin 2} (hd : d = ![0, 1]) (h) : broadcastInDim (α := R) S4096x1280 d h (arr S1x1280 .f32 f) = arr S4096x1280 .f32 (fun _ c _ => f 0 c 0) := by
  subst hd; exact inDim_row (n := 4096) (m := 1280) h
theorem tap (a : ℕ) (h) : extractStridedSlice (α := R) S1x1280 ![a, 0] (arr S4x1280 .f32 f) h = arr S1x1280 .f32 (fun t c _ => f (a + t) (0 + c) 0) := slice2 (n := 4) (m := 1280) h
theorem to_row (h) : shapeCast (α := R) S1x1280 (arr S1280 .f32 f) h = arr S1x1280 .f32 (fun _ c _ => f c 0 0) := cast_1_2 (m := 1280) h
theorem of_row (h) : shapeCast (α := R) S1280 (arr S1x1280 .f32 f) h = arr S1280 .f32 (fun c _ _ => f 0 c 0) := cast_2_1 (m := 1280) h
theorem blocks (h) : shapeCast (α := R) S4096x10x128 (arr S4096x1280 .f32 f) h = arr S4096x10x128 .f32 (fun t i j => f t (i * 128 + j) 0) :=
  cast_blocks (n := 4096) (m := 1280) (b := 10) (k := 128) rfl h
theorem unblocks (h) : shapeCast (α := R) S4096x1280 (arr S4096x10x128 .f32 f) h = arr S4096x1280 .f32 (fun t c _ => f t (c / 128) (c % 128)) :=
  cast_unblocks (n := 4096) (m := 1280) (b := 10) (k := 128) rfl h
theorem turn_201 (h) : transpose (α := R) S4096x10x128 [2, 0, 1] (arr S10x128x4096 .f32 f) h = arr S4096x10x128 .f32 (fun a b c => f b c a) :=
  transpose_201 (x := 10) (y := 128) (z := 4096) h
theorem turn_120 (h) : transpose (α := R) S10x128x4096 [1, 2, 0] (arr S4096x10x128 .f32 f) h = arr S10x128x4096 .f32 (fun a b c => f c a b) :=
  transpose_120 (x := 4096) (y := 10) (z := 128) h
theorem turn_102 (h) : transpose (α := R) S4096x10x128 [1, 0, 2] (arr S10x4096x128 .f32 f) h = arr S4096x10x128 .f32 (fun a b c => f b a c) :=
  transpose_102 (x := 10) (y := 4096) (z := 128) h
theorem turn_021 (h) : transpose (α := R) S10x128x128 [0, 2, 1] (arr S10x128x128 .f32 f) h = arr S10x128x128 .f32 (fun a b c => f a c b) :=
  transpose_021 (x := 10) (y := 128) (z := 128) h
theorem sum_rows (h : S4096x1280.ReducesTo [0] S1280) (hu) : Host.reduceAdd (arr S4096x1280 .f32 f) (arr S_ .f32 (fun _ _ _ => 0)) h hu =
    arr S1280 .f32 (fun c _ _ => ∑ t ∈ Finset.range 4096, f t c 0) := hostColsum (n := 4096) (m := 1280) h hu
theorem sum_row (h : S1x1280.ReducesTo [0] S1280) (hu) : Host.reduceAdd (arr S1x1280 .f32 f) (arr S_ .f32 (fun _ _ _ => 0)) h hu =
    arr S1280 .f32 (fun c _ _ => f 0 c 0) := (hostColsum (n := 1) (m := 1280) h hu).trans (by simp only [Finset.sum_range_one])
/-- The convolution's tap `k`: the rows shifted down by `3 - k`. -/
theorem shifted (k : ℕ) (hk : k ≤ 3) {z : FVec Ideal S3x1280 .f32} {x : FVec Ideal S4096x1280 .f32} (hz : z = arr S3x1280 .f32 fun _ _ _ => 0)
    (hx : x = arr S4096x1280 .f32 f) (h h') :
    extractStridedSlice (α := R) S4096x1280 ![k, 0] (concatenate (α := R) S4099x1280 0 [⟨S3x1280, z⟩, ⟨S4096x1280, x⟩] h) h' =
      arr S4096x1280 .f32 (fun t c _ => down (3 - k) (fun t c => f t c 0) t c) := by
  subst hz hx
  rw [concat_rows (k := 3) (n := 4096) (m := 1280) (n' := 4099) h rfl, slice2 (n := 4099) (m := 1280)]
  refine arr2_congr fun t _ c _ => ?_
  unfold down
  by_cases hc : 3 - k ≤ t
  · rw [if_pos hc, if_neg (by omega), Nat.zero_add, show k + t - 3 = t - (3 - k) by omega]
  · rw [if_neg hc, if_pos (by omega)]
theorem zeros3 (h) : broadcastInDim (α := R) S3x1280 ![] h (constant (F := Ideal) S_ .f32 0x00000000#32) = arr S3x1280 .f32 fun _ _ _ => 0 :=
  (congrArg (broadcastInDim (α := R) S3x1280 ![] h) (c_zero S_)).trans (scalar_to S3x1280 _ h)
/-- Its transpose, before the sum: rows padded, then cut. -/
theorem padded (lo hi : ℕ) (h hu) :
    pad (α := R) S4099x1280 ![lo, 0] ![hi, 0] ![0, 0] (arr S4096x1280 .f32 f) (arr S_ .f32 fun _ _ _ => 0) h hu =
      arr S4099x1280 .f32 (fun t c _ => if lo ≤ t ∧ t - lo < 4096 then f (t - lo) c 0 else 0) := pad_rows (n := 4096) (m := 1280) (n' := 4099) h hu
theorem padded4 (lo hi : ℕ) (h hu) :
    pad (α := R) S4x1280 ![lo, 0] ![hi, 0] ![0, 0] (arr S1x1280 .f32 f) (arr S_ .f32 fun _ _ _ => 0) h hu =
      arr S4x1280 .f32 (fun t c _ => if lo ≤ t ∧ t - lo < 1 then f (t - lo) c 0 else 0) := pad_rows (n := 1) (m := 1280) (n' := 4) h hu
theorem cut3 (h) : extractStridedSlice (α := R) S4096x1280 ![3, 0] (arr S4099x1280 .f32 f) h = arr S4096x1280 .f32 (fun t c _ => f (3 + t) (0 + c) 0) :=
  slice2 (n := 4099) (m := 1280) h

/-- A tap's row of weights. -/
theorem tap_row (S : ℕ → Head) (k : ℕ) {w : FVec Ideal S4x1280 .f32} (hw : w = four S Head.cw) (h1 h2 h3) :
    broadcastInDim (α := R) S1x1280 ![1] h3 (shapeCast (α := R) S1280 (extractStridedSlice (α := R) S1x1280 ![k, 0] w h1) h2) = row S (fun S => S.cw k) := by
  subst hw
  rw [tap, of_row, col_to rfl]
  simp only [Nat.add_zero, Nat.zero_add]

end Cert.Lru.Ref

end
-- ==== Proof.Given.lean ====
/- The nine argument arrays, finite in the columns that are read, hold a family of heads. -/
module

public import proofs.«01_k».proof.Proof.RShape

@[expose] public section

noncomputable section

namespace Cert.Lru

open Cert.ReferenceIdeal Cert.ReferenceIdeal.Gen
open Idealize.ShloMosaic Idealize.ShloMosaic.TcCoe

/-- The arguments hold the heads `S`: the first in two stretches of 1280 columns, the other eight whole. -/
structure Given (S : ℕ → Head) (A0 : FVec Ideal S4096x9856 .f32) (A1 : FVec Ideal S4x1280 .f32) (A2 : FVec Ideal S1x1280 .f32)
    (A3 : FVec Ideal S10x128x128 .f32) (A4 : FVec Ideal S1x1280 .f32) (A5 : FVec Ideal S10x128x128 .f32) (A6 A7 : FVec Ideal S1x1280 .f32)
    (A8 : FVec Ideal S4096x1280 .f32) : Prop where
  x : extractStridedSlice S4096x1280 ![0, 7168] A0 slices_S4096x9856_S4096x1280_0_7168 = Ref.wide S Head.x
  y : extractStridedSlice S4096x1280 ![0, 8448] A0 slices_S4096x9856_S4096x1280_0_8448 = Ref.wide S Head.y
  cw : A1 = Ref.four S Head.cw
  cb : A2 = Ref.row S Head.cb
  wr : A3 = Ref.mats S Head.wr
  br : A4 = Ref.row S Head.br
  wi : A5 = Ref.mats S Head.wi
  bi : A6 = Ref.row S Head.bi
  lam : A7 = Ref.row S Head.lam
  ct : A8 = Ref.wide S Head.ct

end Cert.Lru

end
-- ==== Proof.KCover.lean ====
/- The kernel's blocks on the launched arguments, and its results from its blocks. -/
module

public import proofs.«01_k».proof.Proof.KFrame
public import proofs.«01_k».proof.Proof.KHead
public import proofs.«01_k».proof.Proof.Given
public import Idealize.ShloMosaic.Lib.Pipeline.ValueKit

@[expose] public section

set_option maxRecDepth 16384

noncomputable section

namespace Cert.Lru

open Cert.KernelIdeal Cert.KernelIdeal.Gen
open Idealize.ShloMosaic hiding ix1 ix2 ix3 eq_ix1 eq_ix2 eq_ix3
open Idealize.ShloMosaic.ValueIdx Idealize.ShloMosaic.TcCoe
open Idealize.ShloMosaic.Pipeline (Dat Cfg Window)

variable (S : ℕ → Head) (m : (ℓ : Loc nD τ sig) → Buf (Elt Ideal) ℓ) (c : Dev nD)

/-- The launched arguments hold the heads. -/
def Launched : Prop := Given S (V m c main_arg0) (V m c main_arg1) (V m c main_arg2) (V m c main_arg3) (V m c main_arg4) (V m c main_arg5) (V m c main_arg6)
  (V m c main_arg7) (V m c main_arg8)

theorem index0 : ∀ t : Fin cfg0.N, win0_0.index t = ![0, 56 + t.val] := (by decide +kernel : ∀ t : Fin grid0.N, _)
theorem index1 : ∀ t : Fin cfg0.N, win0_1.index t = ![0, 66 + t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![t.val, 0, 0] := (by decide +kernel : ∀ t : Fin grid0.N, _)
theorem index7 : ∀ t : Fin cfg0.N, win0_7.index t = ![0, t.val] := (by decide +kernel : ∀ t : Fin grid0.N, _)
theorem index8 : ∀ t : Fin cfg0.N, win0_8.index t = ![0, t.val] := (by decide +kernel : ∀ t : Fin grid0.N, _)
theorem index9 : ∀ t : Fin cfg0.N, win0_9.index t = ![0, t.val] := (by decide +kernel : ∀ t : Fin grid0.N, _)
theorem index10 : ∀ t : Fin cfg0.N, win0_10.index t = ![0, t.val] := (by decide +kernel : ∀ t : Fin grid0.N, _)
theorem index11 : ∀ t : Fin cfg0.N, win0_11.index t = ![0, t.val] := (by decide +kernel : ∀ t : Fin grid0.N, _)
theorem index12 : ∀ t : Fin cfg0.N, win0_12.index t = ![0, t.val] := (by decide +kernel : ∀ t : Fin grid0.N, _)
theorem index13 : ∀ t : Fin cfg0.N, win0_13.index t = ![0, t.val] := (by decide +kernel : ∀ t : Fin grid0.N, _)
theorem index14 : ∀ t : Fin cfg0.N, win0_14.index t = ![t.val, 0, 0] := (by decide +kernel : ∀ t : Fin grid0.N, _)
theorem index15 : ∀ t : Fin cfg0.N, win0_15.index t = ![0, t.val] := (by decide +kernel : ∀ t : Fin grid0.N, _)
theorem index16 : ∀ t : Fin cfg0.N, win0_16.index t = ![t.val, 0, 0] := (by decide +kernel : ∀ t : Fin grid0.N, _)
theorem index17 : ∀ t : Fin cfg0.N, win0_17.index t = ![0, t.val] := (by decide +kernel : ∀ t : Fin grid0.N, _)
theorem index18 : ∀ t : Fin cfg0.N, win0_18.index t = ![0, t.val] := (by decide +kernel : ∀ t : Fin grid0.N, _)

variable {S m c}

/-- An entry of heads laid side by side, in the columns of the head `t`. -/
theorem side_at {φ : FTy} (S : ℕ → Head) (f : Head → ℕ → ℕ → ℝ) {n : ℕ} (i : Shape.Idx ⟨2, ![n, 1280]⟩) (y : Shape.Idx ⟨2, ![n, 128]⟩) (t : ℕ)
    (e0 : (i 0).val = (y 0).val) (e1 : (i 1).val = t * 128 + (y 1).val) :
    arr ⟨2, ![n, 1280]⟩ φ (fun a c _ => f (S (c / 128)) a (c % 128)) i = arr ⟨2, ![n, 128]⟩ φ (fun a j _ => f (S t) a j) y := by
  have hb : (y 1).val < 128 := (y 1).isLt
  show ((f (S ((i 1).val / 128)) (i 0).val ((i 1).val % 128) : ℝ) : EReal) = ((f (S t) (y 0).val (y 1).val : ℝ) : EReal)
  rw [e0, e1, Ref.block_div _ _ hb, Ref.block_mod _ _ hb]
/-- An entry of the heads' matrices, in the matrix of the head `t`. -/
theorem mats_at (S : ℕ → Head) (f : Head → ℕ → ℕ → ℝ) (i : S10x128x128.Idx) (y : S1x128x128.Idx) (t : ℕ)
    (e0 : (i 0).val = t + (y 0).val) (e1 : (i 1).val = (y 1).val) (e2 : (i 2).val = (y 2).val) : Ref.mats S f i = arr S1x128x128 .f32 (fun _ a b => f (S t) a b) y := by
  have hb : (y 0).val < 1 := (y 0).isLt
  show ((f (S (i 0).val) (i 1).val (i 2).val : ℝ) : EReal) = ((f (S t) (y 1).val (y 2).val : ℝ) : EReal)
  rw [e0, e1, e2, show t + (y 0).val = t by omega]
/-- An entry of a stretch of the first argument's columns. -/
theorem stretch_at (S : ℕ → Head) (f : Head → ℕ → ℕ → ℝ) (A : FVec Ideal S4096x9856 .f32) (k : ℕ) (h)
    (hx : extractStridedSlice ⟨2, ![4096, 1280]⟩ ![0, k] A h = Ref.wide S f) (i : S4096x9856.Idx) (y : S4096x128.Idx) (t : ℕ) (ht : t < 10)
    (e0 : (i 0).val = (y 0).val) (e1 : (i 1).val = k + (t * 128 + (y 1).val)) : A i = arr S4096x128 .f32 (fun a j _ => f (S t) a j) y := by
  have hb : (y 1).val < 128 := (y 1).isLt
  have hx' := congrFun hx (ix2 (y 0) ⟨t * 128 + (y 1).val, by omega⟩)
  refine Eq.trans (congrArg A (funext fun a => ?_)) (hx'.trans (side_at S f _ y t rfl rfl))
  match a with
  | ⟨0, _⟩ => exact Fin.ext (e0.trans (Nat.zero_add _).symm)
  | ⟨1, _⟩ => exact Fin.ext e1

/-! ## The input blocks -/

theorem block0 (h : Launched S m c) (t : Fin cfg0.N) : iblk m c 0 t = (Blk.ofHead (S t)).xl := by
  funext y
  blk_simp [iblk]
  have ht : t.val < 10 := t.isLt
  exact stretch_at S Head.x _ 7168 _ h.x _ y t ht (by blk_simp [index0]) (by blk_simp [index0]; omega)
theorem block1 (h : Launched S m c) (t : Fin cfg0.N) : iblk m c 1 t = (Blk.ofHead (S t)).yl := by
  funext y
  blk_simp [iblk]
  have ht : t.val < 10 := t.isLt
  exact stretch_at S Head.y _ 8448 _ h.y _ y t ht (by blk_simp [index1]) (by blk_simp [index1]; omega)
theorem block2 (h : Launched S m c) (t : Fin cfg0.N) : iblk m c 2 t = (Blk.ofHead (S t)).cw := by
  funext y
  blk_simp [iblk]
  exact (congrFun h.cw _).trans (side_at S Head.cw _ y t (by blk_simp [index2]) (by blk_simp [index2]))
theorem block3 (h : Launched S m c) (t : Fin cfg0.N) : iblk m c 3 t = (Blk.ofHead (S t)).cb := by
  funext y
  blk_simp [iblk]
  exact (congrFun h.cb _).trans (side_at S (fun S _ j => S.cb j) _ y t (by blk_simp [index3]) (by blk_simp [index3]))
theorem block4 (h : Launched S m c) (t : Fin cfg0.N) : iblk m c 4 t = (Blk.ofHead (S t)).wr := by
  funext y
  blk_simp [iblk]
  exact (congrFun h.wr _).trans (mats_at S Head.wr _ y t (by blk_simp [index4]) (by blk_simp [index4]) (by blk_simp [index4]))
theorem block5 (h : Launched S m c) (t : Fin cfg0.N) : iblk m c 5 t = (Blk.ofHead (S t)).br := by
  funext y
  blk_simp [iblk]
  exact (congrFun h.br _).trans (side_at S (fun S _ j => S.br j) _ y t (by blk_simp [index5]) (by blk_simp [index5]))
theorem block6 (h : Launched S m c) (t : Fin cfg0.N) : iblk m c 6 t = (Blk.ofHead (S t)).wi := by
  funext y
  blk_simp [iblk]
  exact (congrFun h.wi _).trans (mats_at S Head.wi _ y t (by blk_simp [index6]) (by blk_simp [index6]) (by blk_simp [index6]))
theorem block7 (h : Launched S m c) (t : Fin cfg0.N) : iblk m c 7 t = (Blk.ofHead (S t)).bi := by
  funext y
  blk_simp [iblk]
  exact (congrFun h.bi _).trans (side_at S (fun S _ j => S.bi j) _ y t (by blk_simp [index7]) (by blk_simp [index7]))
theorem block8 (h : Launched S m c) (t : Fin cfg0.N) : iblk m c 8 t = (Blk.ofHead (S t)).lam := by
  funext y
  blk_simp [iblk]
  exact (congrFun h.lam _).trans (side_at S (fun S _ j => S.lam j) _ y t (by blk_simp [index8]) (by blk_simp [index8]))
theorem block9 (h : Launched S m c) (t : Fin cfg0.N) : iblk m c 9 t = (Blk.ofHead (S t)).ct := by
  funext y
  blk_simp [iblk]
  exact (congrFun h.ct _).trans (side_at S Head.ct _ y t (by blk_simp [index9]) (by blk_simp [index9]))

/-- Every grid step works on one head. -/
theorem blkAt_eq (h : Launched S m c) (t : Fin cfg0.N) : blkAt m c t = Blk.ofHead (S t) := by
  unfold blkAt
  rw [block0 h, block1 h, block2 h, block3 h, block4 h, block5 h, block6 h, block7 h, block8 h, block9 h]

/-! ## The results -/

theorem final10 (h : Launched S m c) : (datL m 0 c).arrAt 10 cfg0.N = Ref.wideS S Head.dxl := by
  refine (datL m 0 c).arrAt_eq_of_covers 10 _ (by decide +kernel) fun t hf y => ?_
  rw [after10, blkAt_eq h, Blk.dxl_arr]
  blk_simp
  exact (side_at S Head.dxl _ y t (by blk_simp [index10]) (by blk_simp [index10])).symm
theorem final11 (h : Launched S m c) : (datL m 0 c).arrAt 11 cfg0.N = Ref.wideS S Head.dyl := by
  refine (datL m 0 c).arrAt_eq_of_covers 11 _ (by decide +kernel) fun t hf y => ?_
  rw [after11, blkAt_eq h, Blk.dyl_arr]
  blk_simp
  exact (side_at S Head.dyl _ y t (by blk_simp [index11]) (by blk_simp [index11])).symm
theorem final12 (h : Launched S m c) : (datL m 0 c).arrAt 12 cfg0.N = Ref.four S Head.dcw := by
  refine (datL m 0 c).arrAt_eq_of_covers 12 _ (by decide +kernel) fun t hf y => ?_
  rw [after12, blkAt_eq h, Blk.dcw_arr]
  blk_simp
  exact (side_at S Head.dcw _ y t (by blk_simp [index12]) (by blk_simp [index12])).symm
theorem final13 (h : Launched S m c) : (datL m 0 c).arrAt 13 cfg0.N = Ref.row S Head.dcb := by
  refine (datL m 0 c).arrAt_eq_of_covers 13 _ (by decide +kernel) fun t hf y => ?_
  rw [after13, blkAt_eq h, Blk.dcb_arr]
  blk_simp
  exact (side_at S (fun S _ j => S.dcb j) _ y t (by blk_simp [index13]) (by blk_simp [index13])).symm
theorem final14 (h : Launched S m c) : (datL m 0 c).arrAt 14 cfg0.N = Ref.mats S Head.dwr := by
  refine (datL m 0 c).arrAt_eq_of_covers 14 _ (by decide +kernel) fun t hf y => ?_
  rw [after14, blkAt_eq h, Blk.dwr_arr]
  blk_simp
  exact (mats_at S Head.dwr _ y t (by blk_simp [index14]) (by blk_simp [index14]) (by blk_simp [index14])).symm
theorem final15 (h : Launched S m c) : (datL m 0 c).arrAt 15 cfg0.N = Ref.row S Head.dbr := by
  refine (datL m 0 c).arrAt_eq_of_covers 15 _ (by decide +kernel) fun t hf y => ?_
  rw [after15, blkAt_eq h, Blk.dbr_arr]
  blk_simp
  exact (side_at S (fun S _ j => S.dbr j) _ y t (by blk_simp [index15]) (by blk_simp [index15])).symm
theorem final16 (h : Launched S m c) : (datL m 0 c).arrAt 16 cfg0.N = Ref.mats S Head.dwi := by
  refine (datL m 0 c).arrAt_eq_of_covers 16 _ (by decide +kernel) fun t hf y => ?_
  rw [after16, blkAt_eq h, Blk.dwi_arr]
  blk_simp
  exact (mats_at S Head.dwi _ y t (by blk_simp [index16]) (by blk_simp [index16]) (by blk_simp [index16])).symm
theorem final17 (h : Launched S m c) : (datL m 0 c).arrAt 17 cfg0.N = Ref.row S Head.dbi := by
  refine (datL m 0 c).arrAt_eq_of_covers 17 _ (by decide +kernel) fun t hf y => ?_
  rw [after17, blkAt_eq h, Blk.dbi_arr]
  blk_simp
  exact (side_at S (fun S _ j => S.dbi j) _ y t (by blk_simp [index17]) (by blk_simp [index17])).symm
theorem final18 (h : Launched S m c) : (datL m 0 c).arrAt 18 cfg0.N = Ref.row S Head.dlam := by
  refine (datL m 0 c).arrAt_eq_of_covers 18 _ (by decide +kernel) fun t hf y => ?_
  rw [after18, blkAt_eq h, Blk.dlam_arr]
  blk_simp
  exact (side_at S (fun S _ j => S.dlam j) _ y t (by blk_simp [index18]) (by blk_simp [index18])).symm

end Cert.Lru

end
-- ==== Proof.ROps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-!
The reference program as short stretches of operations: what each stretch does, which references it writes, and the program and the bodies of its two
loops as chains of them.
-/

@[expose] public section

set_option maxRecDepth 4000

noncomputable section

namespace Cert.Lru.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The convolution. -/
abbrev opsConv : List (HloOp τ sig (Elt F)) := [
  StableHlo.unary main_arg0 main_v0 ((extractStridedSlice S4096x1280 ![0, 7168] · slices_S4096x9856_S4096x1280_0_7168) : (⟨S4096x9856, .f32⟩ : BufTy).Contents (Elt F) → (⟨S4096x1280, .f32⟩ : BufTy).Contents (Elt F)),
  StableHlo.unary main_arg0 main_v1 ((extractStridedSlice S4096x1280 ![0, 8448] · slices_S4096x9856_S4096x1280_0_8448) : (⟨S4096x9856, .f32⟩ : BufTy).Contents (Elt F) → (⟨S4096x1280, .f32⟩ : BufTy).Contents (Elt F)),
  StableHlo.nullary main_cst (constant S_ .f32 0x00000000#32),
  StableHlo.unary main_cst main_v2 (broadcastInDim S3x1280 ![] bcast_S_S3x1280 : (⟨S_, .f32⟩ : BufTy).Contents (Elt F) → (⟨S3x1280, .f32⟩ : BufTy).Contents (Elt F)),
  StableHlo.binary main_v2 main_v0 main_v3 ((fun a b => concatenate S4099x1280 0 [⟨S3x1280, a⟩, ⟨S4096x1280, b⟩] concatenates_S3x1280_S4096x1280_S4099x1280_d0) : (⟨S3x1280, .f32⟩ : BufTy).Contents (Elt F) → (⟨S4096x1280, .f32⟩ : BufTy).Contents (Elt F) → (⟨S4099x1280, .f32⟩ : BufTy).Contents (Elt F)),
  StableHlo.nullary main_cst_0 (constant S_ .f32 0x00000000#32),
  StableHlo.unary main_cst_0 main_v4 (broadcastInDim S3x1280 ![] bcast_S_S3x1280 : (⟨S_, .f32⟩ : BufTy).Contents (Elt F) → (⟨S3x1280, .f32⟩ : BufTy).Contents (Elt F)),
  StableHlo.unary main_v3 main_v5 ((extractStridedSlice S4096x1280 ![0, 0] · slices_S4099x1280_S4096x1280_0_0) : (⟨S4099x1280, .f32⟩ : BufTy).Contents (Elt F) → (⟨S4096x1280, .f32⟩ : BufTy).Contents (Elt F)),
  StableHlo.unary main_arg1 main_v6 ((extractStridedSlice S1x1280 ![0, 0] · slices_S4x1280_S1x1280_0_0) : (⟨S4x1280, .f32⟩ : BufTy).Contents (Elt F) → (⟨S1x1280, .f32⟩ : BufTy).Contents (Elt F)),
  StableHlo.reshape main_v6 main_v7 (rfl : (.f32 : EltTy) = .f32) shapeCasts_S1x1280_S1280,
  StableHlo.unary main_v7 main_v8 (broadcastInDim S1x1280 ![1] bcast_S1280_S1x1280_1 : (⟨S1280, .f32⟩ : BufTy).Contents (Elt F) → (⟨S1x1280, .f32⟩ : BufTy).Contents (Elt F)),
  StableHlo.unary main_v8 main_v9 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v5 main_v9 main_v10 (mulf : (⟨S4096x1280, .f32⟩ : BufTy).Contents (Elt F) → (⟨S4096x1280, .f32⟩ : BufTy).Contents (Elt F) → (⟨S4096x1280, .f32⟩ : BufTy).Contents (Elt F)),
  StableHlo.unary main_arg2 main_v11 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v11 main_v10 main_v12 (addf : (⟨S4096x1280, .f32⟩ : BufTy).Contents (Elt F) → (⟨S4096x1280, .f32⟩ : BufTy).Contents (Elt F) → (⟨S4096x1280, .f32⟩ : BufTy).Contents (Elt F)),
  StableHlo.unary main_v3 main_v13 ((extractStridedSlice S4096x1280 ![1, 0] · slices_S4099x1280_S4096x1280_1_0) : (⟨S4099x1280, .f32⟩ : BufTy).Contents (Elt F) → (⟨S4096x1280, .f32⟩ : BufTy).Contents (Elt F)),
  StableHlo.unary main_arg1 main_v14 ((extractStridedSlice S1x1280 ![1, 0] · slices_S4x1280_S1x1280_1_0) : (⟨S4x1280, .f32⟩ : BufTy).Contents (Elt F) → (⟨S1x1280, .f32⟩ : BufTy).Contents (Elt F)),
  StableHlo.reshape main_v14 main_v15 (rfl : (.f32 : EltTy) = .f32) shapeCasts_S1x1280_S1280,
  StableHlo.unary main_v15 main_v16 (broadcastInDim S1x1280 ![1] bcast_S1280_S1x1280_1 : (⟨S1280, .f32⟩ : BufTy).Contents (Elt F) → (⟨S1x1280, .f32⟩ : BufTy).Contents (Elt F)),
  StableHlo.unary main_v16 main_v17 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v13 main_v17 main_v18 (mulf : (⟨S4096x1280, .f32⟩ : BufTy).Contents (Elt F) → (⟨S4096x1280, .f32⟩ : BufTy).Contents (Elt F) → (⟨S4096x1280, .f32⟩ : BufTy).Contents (Elt F)),
  StableHlo.binary main_v12 main_v18 main_v19 (addf : (⟨S4096x1280, .f32⟩ : BufTy).Contents (Elt F) → (⟨S4096x1280, .f32⟩ : BufTy).Contents (Elt F) → (⟨S4096x1280, .f32⟩ : BufTy).Contents (Elt F)),
  StableHlo.unary main_v3 main_v20 ((extractStridedSlice S4096x1280 ![2, 0] · slices_S4099x1280_S4096x1280_2_0) : (⟨S4099x1280, .f32⟩ : BufTy).Contents (Elt F) → (⟨S4096x1280, .f32⟩ : BufTy).Contents (Elt F)),
  StableHlo.unary main_arg1 main_v21 ((extractStridedSlice S1x1280 ![2, 0] · slices_S4x1280_S1x1280_2_0) : (⟨S4x1280, .f32⟩ : BufTy).Contents (Elt F) → (⟨S1x1280, .f32⟩ : BufTy).Contents (Elt F)),
  StableHlo.reshape main_v21 main_v22 (rfl : (.f32 : EltTy) = .f32) shapeCasts_S1x1280_S1280,
  StableHlo.unary main_v22 main_v23 (broadcastInDim S1x1280 ![1] bcast_S1280_S1x1280_1 : (⟨S1280, .f32⟩ : BufTy).Contents (Elt F) → (⟨S1x1280, .f32⟩ : BufTy).Contents (Elt F)),
  StableHlo.unary main_v23 main_v24 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v20 main_v24 main_v25 (mulf : (⟨S4096x1280, .f32⟩ : BufTy).Contents (Elt F) → (⟨S4096x1280, .f32⟩ : BufTy).Contents (Elt F) → (⟨S4096x1280, .f32⟩ : BufTy).Contents (Elt F)),
  StableHlo.binary main_v19 main_v25 main_v26 (addf : (⟨S4096x1280, .f32⟩ : BufTy).Contents (Elt F) → (⟨S4096x1280, .f32⟩ : BufTy).Contents (Elt F) → (⟨S4096x1280, .f32⟩ : BufTy).Contents (Elt F)),
  StableHlo.unary main_v3 main_v27 ((extractStridedSlice S4096x1280 ![3, 0] · slices_S4099x1280_S4096x1280_3_0) : (⟨S4099x1280, .f32⟩ : BufTy).Contents (Elt F) → (⟨S4096x1280, .f32⟩ : BufTy).Contents (Elt F)),
  StableHlo.unary main_arg1 main_v28 ((extractStridedSlice S1x1280 ![3, 0] · slices_S4x1280_S1x1280_3_0) : (⟨S4x1280, .f32⟩ : BufTy).Contents (Elt F) → (⟨S1x1280, .f32⟩ : BufTy).Contents (Elt F)),
  StableHlo.reshape main_v28 main_v29 (rfl : (.f32 : EltTy) = .f32) shapeCasts_S1x1280_S1280,
  StableHlo.unary main_v29 main_v30 (broadcastInDim S1x1280 ![1] bcast_S1280_S1x1280_1 : (⟨S1280, .f32⟩ : BufTy).Contents (Elt F) → (⟨S1x1280, .f32⟩ : BufTy).Contents (Elt F)),
  StableHlo.unary main_v30 main_v31 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v27 main_v31 main_v32 (mulf : (⟨S4096x1280, .f32⟩ : BufTy).Contents (Elt F) → (⟨S4096x1280, .f32⟩ : BufTy).Contents (Elt F) → (⟨S4096x1280, .f32⟩ : BufTy).Contents (Elt F)),
  StableHlo.binary main_v26 main_v32 main_v33 (addf : (⟨S4096x1280, .f32⟩ : BufTy).Contents (Elt F) → (⟨S4096x1280, .f32⟩ : BufTy).Contents (Elt F) → (⟨S4096x1280, .f32⟩ : BufTy).Contents (Elt F)) ]
/-- The references that `opsConv` writes. -/
abbrev opsConv_W : List (Ref sig .tc) := [main_v0, main_v1, main_cst, main_v2, main_v3, main_cst_0, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33]
theorem opsConv_sub : (opsConv : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub ..⟩
theorem opsConv_fresh : (opsConv : List (HloOp τ sig (Elt F))).Forall fun op => op.fresh = ∅ :=
  StableHlo.forall_fresh_of_map rfl
theorem opsConv_writes : (opsConv : List (HloOp τ sig (Elt F))).Forall fun op => op.writes ⊆ (opsConv_W.map (Proc.devRef (τ := τ) .tc)).toFinset :=
  StableHlo.forall_writes_sub_of_map rfl

/-- The reset gate, and the input gate up to its sigmoid. -/
abbrev opsGates : List (HloOp τ sig (Elt F)) := [
  StableHlo.reshape main_v33 main_v34 (rfl : (.f32 : EltTy) = .f32) shapeCasts_S4096x1280_S4096x10x128,
  StableHlo.binary main_arg3 main_v34 main_v35 ((fun l r => Host.dotGeneral dot_S10x128x128_S4096x10x128_S10x128x4096_1_2_2_0_0_1 none l r) : (⟨S10x128x128, .f32⟩ : BufTy).Contents (Elt F) → (⟨S4096x10x128, .f32⟩ : BufTy).Contents (Elt F) → (⟨S10x128x4096, .f32⟩ : BufTy).Contents (Elt F)),
  StableHlo.unary main_v35 main_v36 ((transpose S4096x10x128 [2, 0, 1] · transposes_S10x128x4096_S4096x10x128_2_0_1) : (⟨S10x128x4096, .f32⟩ : BufTy).Contents (Elt F) → (⟨S4096x10x128, .f32⟩ : BufTy).Contents (Elt F)),
  StableHlo.reshape main_v36 main_v37 (rfl : (.f32 : EltTy) = .f32) shapeCasts_S4096x10x128_S4096x1280,
  StableHlo.unary main_arg4 main_v38 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v37 main_v38 main_v39 (addf : (⟨S4096x1280, .f32⟩ : BufTy).Contents (Elt F) → (⟨S4096x1280, .f32⟩ : BufTy).Contents (Elt F) → (⟨S4096x1280, .f32⟩ : BufTy).Contents (Elt F)),
  StableHlo.unary main_v39 main_v40 (Host.negf : (⟨S4096x1280, .f32⟩ : BufTy).Contents (Elt F) → (⟨S4096x1280, .f32⟩ : BufTy).Contents (Elt F)),
  StableHlo.unary main_v40 main_v41 (Host.exp : (⟨S4096x1280, .f32⟩ : BufTy).Contents (Elt F) → (⟨S4096x1280, .f32⟩ : BufTy).Contents (Elt F)),
  StableHlo.nullary main_cst_1 (constant S_ .f32 0x3F800000#32),
  StableHlo.unary main_cst_1 main_v42 (broadcastInDim S4096x1280 ![] bcast_S_S4096x1280 : (⟨S_, .f32⟩ : BufTy).Contents (Elt F) → (⟨S4096x1280, .f32⟩ : BufTy).Contents (Elt F)),
  StableHlo.binary main_v42 main_v41 main_v43 (addf : (⟨S4096x1280, .f32⟩ : BufTy).Contents (Elt F) → (⟨S4096x1280, .f32⟩ : BufTy).Contents (Elt F) → (⟨S4096x1280, .f32⟩ : BufTy).Contents (Elt F)),
  StableHlo.nullary main_cst_2 (constant S_ .f32 0x3F800000#32),
  StableHlo.unary main_cst_2 main_v44 (broadcastInDim S4096x1280 ![] bcast_S_S4096x1280 : (⟨S_, .f32⟩ : BufTy).Contents (Elt F) → (⟨S4096x1280, .f32⟩ : BufTy).Contents (Elt F)),
  StableHlo.binary main_v44 main_v43 main_v45 (Host.divf : (⟨S4096x1280, .f32⟩ : BufTy).Contents (Elt F) → (⟨S4096x1280, .f32⟩ : BufTy).Contents (Elt F) → (⟨S4096x1280, .f32⟩ : BufTy).Contents (Elt F)),
  StableHlo.nullary main_cst_3 (constant S_ .f32 0x3F800000#32),
  StableHlo.unary main_cst_3 main_v46 (broadcastInDim S4096x1280 ![] bcast_S_S4096x1280 : (⟨S_, .f32⟩ : BufTy).Contents (Elt F) → (⟨S4096x1280, .f32⟩ : BufTy).Contents (Elt F)),
  StableHlo.binary main_v46 main_v45 main_v47 (subf : (⟨S4096x1280, .f32⟩ : BufTy).Contents (Elt F) → (⟨S4096x1280, .f32⟩ : BufTy).Contents (Elt F) → (⟨S4096x1280, .f32⟩ : BufTy).Contents (Elt F)),
  StableHlo.binary main_v45 main_v47 main_v48 (mulf : (⟨S4096x1280, .f32⟩ : BufTy).Contents (Elt F) → (⟨S4096x1280, .f32⟩ : BufTy).Contents (Elt F) → (⟨S4096x1280, .f32⟩ : BufTy).Contents (Elt F)),
  StableHlo.binary main_arg5 main_v34 main_v49 ((fun l r => Host.dotGeneral dot_S10x128x128_S4096x10x128_S10x128x4096_1_2_2_0_0_1 none l r) : (⟨S10x128x128, .f32⟩ : BufTy).Contents (Elt F) → (⟨S4096x10x128, .f32⟩ : BufTy).Contents (Elt F) → (⟨S10x128x4096, .f32⟩ : BufTy).Contents (Elt F)),
  StableHlo.unary main_v49 main_v50 ((transpose S4096x10x128 [2, 0, 1] · transposes_S10x128x4096_S4096x10x128_2_0_1) : (⟨S10x128x4096, .f32⟩ : BufTy).Contents (Elt F) → (⟨S4096x10x128, .f32⟩ : BufTy).Contents (Elt F)),
  StableHlo.reshape main_v50 main_v51 (rfl : (.f32 : EltTy) = .f32) shapeCasts_S4096x10x128_S4096x1280,
  StableHlo.unary main_arg6 main_v52 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v51 main_v52 main_v53 (addf : (⟨S4096x1280, .f32⟩ : BufTy).Contents (Elt F) → (⟨S4096x1280, .f32⟩ : BufTy).Contents (Elt F) → (⟨S4096x1280, .f32⟩ : BufTy).Contents (Elt F)),
  StableHlo.unary main_v53 main_v54 (Host.negf : (⟨S4096x1280, .f32⟩ : BufTy).Contents (Elt F) → (⟨S4096x1280, .f32⟩ : BufTy).Contents (Elt F)) ]
/-- The references that `opsGates` writes. -/
abbrev opsGates_W : List (Ref sig .tc) := [main_v34, main_v35, main_v36, main_v37, main_v38, main_v39, main_v40, main_v41, main_cst_1, main_v42, main_v43, main_cst_2, main_v44, main_v45, main_cst_3, main_v46, main_v47, main_v48, main_v49, main_v50, main_v51, main_v52, main_v53, main_v54]
theorem opsGates_sub : (opsGates : List (HloOp τ sig (Elt F))).Forall fun op => op.bufs ⊆ StableHlo.tcRefs τ sig :=
  ⟨StableHlo.reshape_bufs_sub .., StableHlo.binary_bufs_sub .., StableHlo.unary_bufs_sub .., StableHlo.reshape_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub ..⟩
theorem opsGates_fresh : (opsGates : List (HloOp τ sig (Elt F))).Forall fun op => op.fresh = ∅ :=
  StableHlo.forall_fresh_of_map rfl
theorem opsGates_writes : (opsGates : List (HloOp τ sig (Elt F))).Forall fun op => op.writes ⊆ (opsGates_W.map (Proc.devRef (τ := τ) .tc)).toFinset :=
  StableHlo.forall_writes_sub_of_map rfl

/-- The input gate, and the scaled reset gate. -/
abbrev opsGate2 : List (HloOp τ sig (Elt F)) := [
  StableHlo.unary main_v54 main_v55 (Host.exp : (⟨S4096x1280, .f32⟩ : BufTy).Contents (Elt F) → (⟨S4096x1280, .f32⟩ : BufTy).Contents (Elt F)),
  StableHlo.nullary main_cst_4 (constant S_ .f32 0x3F800000#32),
  StableHlo.unary main_cst_4 main_v56 (broadcastInDim S4096x1280 ![] bcast_S_S4096x1280 : (⟨S_, .f32⟩ : BufTy).Contents (Elt F) → (⟨S4096x1280, .f32⟩ : BufTy).Contents (Elt F)),
  StableHlo.binary main_v56 main_v55 main_v57 (addf : (⟨S4096x1280, .f32⟩ : BufTy).Contents (Elt F) → (⟨S4096x1280, .f32⟩ : BufTy).Contents (Elt F) → (⟨S4096x1280, .f32⟩ : BufTy).Contents (Elt F)),
  StableHlo.nullary main_cst_5 (constant S_ .f32 0x3F800000#32),
  StableHlo.unary main_cst_5 main_v58 (broadcastInDim S4096x1280 ![] bcast_S_S4096x1280 : (⟨S_, .f32⟩ : BufTy).Contents (Elt F) → (⟨S4096x1280, .f32⟩ : BufTy).Contents (Elt F)),
  StableHlo.binary main_v58 main_v57 main_v59 (Host.divf : (⟨S4096x1280, .f32⟩ : BufTy).Contents (Elt F) → (⟨S4096x1280, .f32⟩ : BufTy).Contents (Elt F) → (⟨S4096x1280, .f32⟩ : BufTy).Contents (Elt F)),
  StableHlo.nullary main_cst_6 (constant S_ .f32 0x3F800000#32),
  StableHlo.unary main_cst_6 main_v60 (broadcastInDim S4096x1280 ![] bcast_S_S4096x1280 : (⟨S_, .f32⟩ : BufTy).Contents (Elt F) → (⟨S4096x1280, .f32⟩ : BufTy).Contents (Elt F)),
  StableHlo.binary main_v60 main_v59 main_v61 (subf : (⟨S4096x1280, .f32⟩ : BufTy).Contents (Elt F) → (⟨S4096x1280, .f32⟩ : BufTy).Contents (Elt F) → (⟨S4096x1280, .f32⟩ : BufTy).Contents (Elt F)),
  StableHlo.binary main_v59 main_v61 main_v62 (mulf : (⟨S4096x1280, .f32⟩ : BufTy).Contents (Elt F) → (⟨S4096x1280, .f32⟩ : BufTy).Contents (Elt F) → (⟨S4096x1280, .f32⟩ : BufTy).Contents (Elt F)),
  StableHlo.nullary main_cst_7 (constant S_ .f32 0xC1000000#32),
  StableHlo.unary main_cst_7 main_v63 (broadcastInDim S4096x1280 ![] bcast_S_S4096x1280 : (⟨S_, .f32⟩ : BufTy).Contents (Elt F) → (⟨S4096x1280, .f32⟩ : BufTy).Contents (Elt F)),
  StableHlo.binary main_v63 main_v45 main_v64 (mulf : (⟨S4096x1280, .f32⟩ : BufTy).Contents (Elt F) → (⟨S4096x1280, .f32⟩ : BufTy).Contents (Elt F) → (⟨S4096x1280, .f32⟩ : BufTy).Contents (Elt F)),
  StableHlo.unary main_arg7 main_v65 (Host.negf : (⟨S1x1280, .f32⟩ : BufTy).Contents (Elt F) → (⟨S1x1280, .f32⟩ : BufTy).Contents (Elt F)) ]
/-- The references that `opsGate2` writes. -/
abbrev opsGate2_W : List (Ref sig .tc) := [main_v55, main_cst_4, main_v56, main_v57, main_cst_5, main_v58, main_v59, main_cst_6, main_v60, main_v61, main_v62, main_cst_7, main_v63, main_v64, main_v65]
theorem opsGate2_sub : (opsGate2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub ..⟩
theorem opsGate2_fresh : (opsGate2 : List (HloOp τ sig (Elt F))).Forall fun op => op.fresh = ∅ :=
  StableHlo.forall_fresh_of_map rfl
theorem opsGate2_writes : (opsGate2 : List (HloOp τ sig (Elt F))).Forall fun op => op.writes ⊆ (opsGate2_W.map (Proc.devRef (τ := τ) .tc)).toFinset :=
  StableHlo.forall_writes_sub_of_map rfl

/-- The softplus of the negated `lambda`. -/
abbrev opsSoftplus : List (HloOp τ sig (Elt F)) := [
  StableHlo.TRef.nullary (.of main_call0_cst : StableHlo.TRef sig ⟨S_, .f32⟩) (constant S_ .f32 0x00000000#32),
  StableHlo.TRef.unary (.of main_call0_cst : StableHlo.TRef sig ⟨S_, .f32⟩) (.of main_call0_v0 : StableHlo.TRef sig ⟨S1x1280, .f32⟩) (broadcastInDim S1x1280 ![] bcast_S_S1x1280),
  StableHlo.TRef.binary (.of main_v65 : StableHlo.TRef sig ⟨S1x1280, .f32⟩) (.of main_call0_v0 : StableHlo.TRef sig ⟨S1x1280, .f32⟩) (.of main_call0_v1 : StableHlo.TRef sig ⟨S1x1280, .f32⟩) maximumf,
  StableHlo.TRef.unary (.of main_call0_cst : StableHlo.TRef sig ⟨S_, .f32⟩) (.of main_call0_v2 : StableHlo.TRef sig ⟨S1x1280, .f32⟩) (broadcastInDim S1x1280 ![] bcast_S_S1x1280),
  StableHlo.TRef.binary (.of main_v65 : StableHlo.TRef sig ⟨S1x1280, .f32⟩) (.of main_call0_v2 : StableHlo.TRef sig ⟨S1x1280, .f32⟩) (.of main_call0_v3 : StableHlo.TRef sig ⟨S1x1280, .f32⟩) subf,
  StableHlo.TRef.binary (.of main_call0_v3 : StableHlo.TRef sig ⟨S1x1280, .f32⟩) (.of main_call0_v3 : StableHlo.TRef sig ⟨S1x1280, .f32⟩) (.of main_call0_v4 : StableHlo.TRef sig ⟨S1x1280, .i1⟩) (cmpf .une),
  StableHlo.TRef.unary (.of main_call0_cst : StableHlo.TRef sig ⟨S_, .f32⟩) (.of main_call0_v5 : StableHlo.TRef sig ⟨S1x1280, .f32⟩) (broadcastInDim S1x1280 ![] bcast_S_S1x1280),
  StableHlo.TRef.binary (.of main_v65 : StableHlo.TRef sig ⟨S1x1280, .f32⟩) (.of main_call0_v5 : StableHlo.TRef sig ⟨S1x1280, .f32⟩) (.of main_call0_v6 : StableHlo.TRef sig ⟨S1x1280, .f32⟩) addf,
  StableHlo.TRef.unary (.of main_call0_v3 : StableHlo.TRef sig ⟨S1x1280, .f32⟩) (.of main_call0_v7 : StableHlo.TRef sig ⟨S1x1280, .f32⟩) Host.absf,
  StableHlo.TRef.unary (.of main_call0_v7 : StableHlo.TRef sig ⟨S1x1280, .f32⟩) (.of main_call0_v8 : StableHlo.TRef sig ⟨S1x1280, .f32⟩) Host.negf,
  StableHlo.TRef.unary (.of main_call0_v8 : StableHlo.TRef sig ⟨S1x1280, .f32⟩) (.of main_call0_v9 : StableHlo.TRef sig ⟨S1x1280, .f32⟩) Host.exp,
  StableHlo.TRef.unary (.of main_call0_v9 : StableHlo.TRef sig ⟨S1x1280, .f32⟩) (.of main_call0_v10 : StableHlo.TRef sig ⟨S1x1280, .f32⟩) Host.log1p,
  StableHlo.TRef.binary (.of main_call0_v1 : StableHlo.TRef sig ⟨S1x1280, .f32⟩) (.of main_call0_v10 : StableHlo.TRef sig ⟨S1x1280, .f32⟩) (.of main_call0_v11 : StableHlo.TRef sig ⟨S1x1280, .f32⟩) addf,
  StableHlo.TRef.ternary (.of main_call0_v4 : StableHlo.TRef sig ⟨S1x1280, .i1⟩) (.of main_call0_v6 : StableHlo.TRef sig ⟨S1x1280, .f32⟩) (.of main_call0_v11 : StableHlo.TRef sig ⟨S1x1280, .f32⟩) (.of main_v66_0 : StableHlo.TRef sig ⟨S1x1280, .f32⟩) select ]
/-- The references that `opsSoftplus` writes. -/
abbrev opsSoftplus_W : List (Ref sig .tc) := [main_call0_cst, main_call0_v0, main_call0_v1, main_call0_v2, main_call0_v3, main_call0_v4, main_call0_v5, main_call0_v6, main_call0_v7, main_call0_v8, main_call0_v9, main_call0_v10, main_call0_v11, main_v66_0]
theorem opsSoftplus_sub : (opsSoftplus : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩
theorem opsSoftplus_fresh : (opsSoftplus : List (HloOp τ sig (Elt F))).Forall fun op => op.fresh = ∅ :=
  StableHlo.forall_fresh_of_map rfl
theorem opsSoftplus_writes : (opsSoftplus : List (HloOp τ sig (Elt F))).Forall fun op => op.writes ⊆ (opsSoftplus_W.map (Proc.devRef (τ := τ) .tc)).toFinset :=
  StableHlo.forall_writes_sub_of_map rfl

/-- The derivative of the softplus. -/
abbrev opsSoftplusD : List (HloOp τ sig (Elt F)) := [
  StableHlo.TRef.nullary (.of main_call0_cst_0 : StableHlo.TRef sig ⟨S_, .f32⟩) (constant S_ .f32 0x7F800000#32),
  StableHlo.TRef.unary (.of main_call0_cst_0 : StableHlo.TRef sig ⟨S_, .f32⟩) (.of main_call0_v13 : StableHlo.TRef sig ⟨S1x1280, .f32⟩) (broadcastInDim S1x1280 ![] bcast_S_S1x1280),
  StableHlo.TRef.binary (.of main_v65 : StableHlo.TRef sig ⟨S1x1280, .f32⟩) (.of main_call0_v13 : StableHlo.TRef sig ⟨S1x1280, .f32⟩) (.of main_call0_v14 : StableHlo.TRef sig ⟨S1x1280, .i1⟩) (cmpf .oeq),
  StableHlo.TRef.nullary (.of main_call0_cst_1 : StableHlo.TRef sig ⟨S_, .f32⟩) (constant S_ .f32 0x00000000#32),
  StableHlo.TRef.unary (.of main_call0_cst_1 : StableHlo.TRef sig ⟨S_, .f32⟩) (.of main_call0_v15 : StableHlo.TRef sig ⟨S1x1280, .f32⟩) (broadcastInDim S1x1280 ![] bcast_S_S1x1280),
  StableHlo.TRef.ternary (.of main_call0_v14 : StableHlo.TRef sig ⟨S1x1280, .i1⟩) (.of main_call0_v15 : StableHlo.TRef sig ⟨S1x1280, .f32⟩) (.of main_v65 : StableHlo.TRef sig ⟨S1x1280, .f32⟩) (.of main_call0_v16 : StableHlo.TRef sig ⟨S1x1280, .f32⟩) select,
  StableHlo.TRef.nullary (.of main_call0_cst_2 : StableHlo.TRef sig ⟨S_, .f32⟩) (constant S_ .f32 0x7F800000#32),
  StableHlo.TRef.unary (.of main_call0_cst_2 : StableHlo.TRef sig ⟨S_, .f32⟩) (.of main_call0_v17 : StableHlo.TRef sig ⟨S1x1280, .f32⟩) (broadcastInDim S1x1280 ![] bcast_S_S1x1280),
  StableHlo.TRef.binary (.of main_v66_0 : StableHlo.TRef sig ⟨S1x1280, .f32⟩) (.of main_call0_v17 : StableHlo.TRef sig ⟨S1x1280, .f32⟩) (.of main_call0_v18 : StableHlo.TRef sig ⟨S1x1280, .i1⟩) (cmpf .oeq),
  StableHlo.TRef.nullary (.of main_call0_cst_3 : StableHlo.TRef sig ⟨S_, .f32⟩) (constant S_ .f32 0x00000000#32),
  StableHlo.TRef.unary (.of main_call0_cst_3 : StableHlo.TRef sig ⟨S_, .f32⟩) (.of main_call0_v19 : StableHlo.TRef sig ⟨S1x1280, .f32⟩) (broadcastInDim S1x1280 ![] bcast_S_S1x1280),
  StableHlo.TRef.ternary (.of main_call0_v18 : StableHlo.TRef sig ⟨S1x1280, .i1⟩) (.of main_call0_v19 : StableHlo.TRef sig ⟨S1x1280, .f32⟩) (.of main_v66_0 : StableHlo.TRef sig ⟨S1x1280, .f32⟩) (.of main_call0_v20 : StableHlo.TRef sig ⟨S1x1280, .f32⟩) select,
  StableHlo.TRef.binary (.of main_call0_v16 : StableHlo.TRef sig ⟨S1x1280, .f32⟩) (.of main_call0_v20 : StableHlo.TRef sig ⟨S1x1280, .f32⟩) (.of main_call0_v21 : StableHlo.TRef sig ⟨S1x1280, .f32⟩) subf,
  StableHlo.TRef.unary (.of main_call0_v21 : StableHlo.TRef sig ⟨S1x1280, .f32⟩) (.of main_v66_1 : StableHlo.TRef sig ⟨S1x1280, .f32⟩) Host.exp,
  StableHlo.TRef.nullary (.of main_call0_cst_4 : StableHlo.TRef sig ⟨S_, .f32⟩) (constant S_ .f32 0x00000000#32),
  StableHlo.TRef.nullary (.of main_call0_cst_5 : StableHlo.TRef sig ⟨S_, .f32⟩) (constant S_ .f32 0x7F800000#32),
  StableHlo.TRef.binary (.of main_call0_cst_4 : StableHlo.TRef sig ⟨S_, .f32⟩) (.of main_call0_cst_5 : StableHlo.TRef sig ⟨S_, .f32⟩) (.of main_call0_v23 : StableHlo.TRef sig ⟨S_, .i1⟩) (cmpf .oeq),
  StableHlo.TRef.nullary (.of main_call0_cst_6 : StableHlo.TRef sig ⟨S_, .f32⟩) (constant S_ .f32 0x00000000#32),
  StableHlo.TRef.nullary (.of main_call0_cst_7 : StableHlo.TRef sig ⟨S_, .f32⟩) (constant S_ .f32 0x00000000#32),
  StableHlo.TRef.ternary (.of main_call0_v23 : StableHlo.TRef sig ⟨S_, .i1⟩) (.of main_call0_cst_7 : StableHlo.TRef sig ⟨S_, .f32⟩) (.of main_call0_cst_6 : StableHlo.TRef sig ⟨S_, .f32⟩) (.of main_call0_v24 : StableHlo.TRef sig ⟨S_, .f32⟩) select,
  StableHlo.TRef.nullary (.of main_call0_cst_8 : StableHlo.TRef sig ⟨S_, .f32⟩) (constant S_ .f32 0x7F800000#32),
  StableHlo.TRef.unary (.of main_call0_cst_8 : StableHlo.TRef sig ⟨S_, .f32⟩) (.of main_call0_v25 : StableHlo.TRef sig ⟨S1x1280, .f32⟩) (broadcastInDim S1x1280 ![] bcast_S_S1x1280),
  StableHlo.TRef.binary (.of main_v66_0 : StableHlo.TRef sig ⟨S1x1280, .f32⟩) (.of main_call0_v25 : StableHlo.TRef sig ⟨S1x1280, .f32⟩) (.of main_call0_v26 : StableHlo.TRef sig ⟨S1x1280, .i1⟩) (cmpf .oeq),
  StableHlo.TRef.nullary (.of main_call0_cst_9 : StableHlo.TRef sig ⟨S_, .f32⟩) (constant S_ .f32 0x00000000#32),
  StableHlo.TRef.unary (.of main_call0_cst_9 : StableHlo.TRef sig ⟨S_, .f32⟩) (.of main_call0_v27 : StableHlo.TRef sig ⟨S1x1280, .f32⟩) (broadcastInDim S1x1280 ![] bcast_S_S1x1280),
  StableHlo.TRef.ternary (.of main_call0_v26 : StableHlo.TRef sig ⟨S1x1280, .i1⟩) (.of main_call0_v27 : StableHlo.TRef sig ⟨S1x1280, .f32⟩) (.of main_v66_0 : StableHlo.TRef sig ⟨S1x1280, .f32⟩) (.of main_call0_v28 : StableHlo.TRef sig ⟨S1x1280, .f32⟩) select,
  StableHlo.TRef.unary (.of main_call0_v24 : StableHlo.TRef sig ⟨S_, .f32⟩) (.of main_call0_v29 : StableHlo.TRef sig ⟨S1x1280, .f32⟩) (broadcastInDim S1x1280 ![] bcast_S_S1x1280),
  StableHlo.TRef.binary (.of main_call0_v29 : StableHlo.TRef sig ⟨S1x1280, .f32⟩) (.of main_call0_v28 : StableHlo.TRef sig ⟨S1x1280, .f32⟩) (.of main_call0_v30 : StableHlo.TRef sig ⟨S1x1280, .f32⟩) subf,
  StableHlo.TRef.unary (.of main_call0_v30 : StableHlo.TRef sig ⟨S1x1280, .f32⟩) (.of main_call0_v31 : StableHlo.TRef sig ⟨S1x1280, .f32⟩) Host.exp,
  StableHlo.TRef.nullary (.of main_call0_cst_10 : StableHlo.TRef sig ⟨S_, .f32⟩) (constant S_ .f32 0x00000000#32),
  StableHlo.TRef.unary (.of main_call0_cst_10 : StableHlo.TRef sig ⟨S_, .f32⟩) (.of main_call0_v32 : StableHlo.TRef sig ⟨S1x1280, .f32⟩) (broadcastInDim S1x1280 ![] bcast_S_S1x1280),
  StableHlo.TRef.binary (.of main_call0_v32 : StableHlo.TRef sig ⟨S1x1280, .f32⟩) (.of main_call0_v31 : StableHlo.TRef sig ⟨S1x1280, .f32⟩) (.of main_v66_2 : StableHlo.TRef sig ⟨S1x1280, .f32⟩) mulf ]
/-- The references that `opsSoftplusD` writes. -/
abbrev opsSoftplusD_W : List (Ref sig .tc) := [main_call0_cst_0, main_call0_v13, main_call0_v14, main_call0_cst_1, main_call0_v15, main_call0_v16, main_call0_cst_2, main_call0_v17, main_call0_v18, main_call0_cst_3, main_call0_v19, main_call0_v20, main_call0_v21, main_v66_1, main_call0_cst_4, main_call0_cst_5, main_call0_v23, main_call0_cst_6, main_call0_cst_7, main_call0_v24, main_call0_cst_8, main_call0_v25, main_call0_v26, main_call0_cst_9, main_call0_v27, main_call0_v28, main_call0_v29, main_call0_v30, main_call0_v31, main_call0_cst_10, main_call0_v32, main_v66_2]
theorem opsSoftplusD_sub : (opsSoftplusD : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub ..⟩
theorem opsSoftplusD_fresh : (opsSoftplusD : List (HloOp τ sig (Elt F))).Forall fun op => op.fresh = ∅ :=
  StableHlo.forall_fresh_of_map rfl
theorem opsSoftplusD_writes : (opsSoftplusD : List (HloOp τ sig (Elt F))).Forall fun op => op.writes ⊆ (opsSoftplusD_W.map (Proc.devRef (τ := τ) .tc)).toFinset :=
  StableHlo.forall_writes_sub_of_map rfl

/-- The decay, the input of the recurrence, and the start of the first loop. -/
abbrev opsDecay : List (HloOp τ sig (Elt F)) := [
  StableHlo.unary main_v66_0 main_v67 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v64 main_v67 main_v68 (mulf : (⟨S4096x1280, .f32⟩ : BufTy).Contents (Elt F) → (⟨S4096x1280, .f32⟩ : BufTy).Contents (Elt F) → (⟨S4096x1280, .f32⟩ : BufTy).Contents (Elt F)),
  StableHlo.unary main_v68 main_v69 (Host.exp : (⟨S4096x1280, .f32⟩ : BufTy).Contents (Elt F) → (⟨S4096x1280, .f32⟩ : BufTy).Contents (Elt F)),
  StableHlo.nullary main_cst_8 (constant S_ .f32 0x40000000#32),
  StableHlo.unary main_cst_8 main_v70 (broadcastInDim S4096x1280 ![] bcast_S_S4096x1280 : (⟨S_, .f32⟩ : BufTy).Contents (Elt F) → (⟨S4096x1280, .f32⟩ : BufTy).Contents (Elt F)),
  StableHlo.binary main_v70 main_v68 main_v71 (mulf : (⟨S4096x1280, .f32⟩ : BufTy).Contents (Elt F) → (⟨S4096x1280, .f32⟩ : BufTy).Contents (Elt F) → (⟨S4096x1280, .f32⟩ : BufTy).Contents (Elt F)),
  StableHlo.unary main_v71 main_v72 (Host.expm1 : (⟨S4096x1280, .f32⟩ : BufTy).Contents (Elt F) → (⟨S4096x1280, .f32⟩ : BufTy).Contents (Elt F)),
  StableHlo.unary main_v71 main_v73 (Host.exp : (⟨S4096x1280, .f32⟩ : BufTy).Contents (Elt F) → (⟨S4096x1280, .f32⟩ : BufTy).Contents (Elt F)),
  StableHlo.unary main_v72 main_v74 (Host.negf : (⟨S4096x1280, .f32⟩ : BufTy).Contents (Elt F) → (⟨S4096x1280, .f32⟩ : BufTy).Contents (Elt F)),
  StableHlo.unary main_v74 main_v75 (Host.sqrt : (⟨S4096x1280, .f32⟩ : BufTy).Contents (Elt F) → (⟨S4096x1280, .f32⟩ : BufTy).Contents (Elt F)),
  StableHlo.nullary main_cst_9 (constant S_ .f32 0x3F000000#32),
  StableHlo.unary main_cst_9 main_v76 (broadcastInDim S4096x1280 ![] bcast_S_S4096x1280 : (⟨S_, .f32⟩ : BufTy).Contents (Elt F) → (⟨S4096x1280, .f32⟩ : BufTy).Contents (Elt F)),
  StableHlo.binary main_v76 main_v75 main_v77 (Host.divf : (⟨S4096x1280, .f32⟩ : BufTy).Contents (Elt F) → (⟨S4096x1280, .f32⟩ : BufTy).Contents (Elt F) → (⟨S4096x1280, .f32⟩ : BufTy).Contents (Elt F)),
  StableHlo.binary main_v59 main_v33 main_v78 (mulf : (⟨S4096x1280, .f32⟩ : BufTy).Contents (Elt F) → (⟨S4096x1280, .f32⟩ : BufTy).Contents (Elt F) → (⟨S4096x1280, .f32⟩ : BufTy).Contents (Elt F)),
  StableHlo.binary main_v75 main_v78 main_v79 (mulf : (⟨S4096x1280, .f32⟩ : BufTy).Contents (Elt F) → (⟨S4096x1280, .f32⟩ : BufTy).Contents (Elt F) → (⟨S4096x1280, .f32⟩ : BufTy).Contents (Elt F)),
  StableHlo.nullary main_cst_10 (constant S_ .f32 0x00000000#32),
  StableHlo.unary main_cst_10 main_v80 (broadcastInDim S1280 ![] bcast_S_S1280 : (⟨S_, .f32⟩ : BufTy).Contents (Elt F) → (⟨S1280, .f32⟩ : BufTy).Contents (Elt F)),
  StableHlo.nullary main_cst_11 (constant S_ .f32 0x00000000#32),
  StableHlo.unary main_cst_11 main_v81 (broadcastInDim S4096x1280 ![] bcast_S_S4096x1280 : (⟨S_, .f32⟩ : BufTy).Contents (Elt F) → (⟨S4096x1280, .f32⟩ : BufTy).Contents (Elt F)),
  StableHlo.nullary main_cst_12 (constant S_ .f32 0x00000000#32),
  StableHlo.unary main_cst_12 main_v82 (broadcastInDim S4096x1280 ![] bcast_S_S4096x1280 : (⟨S_, .f32⟩ : BufTy).Contents (Elt F) → (⟨S4096x1280, .f32⟩ : BufTy).Contents (Elt F)),
  StableHlo.nullary main_c (constantI S_ 32 0#32),
  StableHlo.unary main_v69 main_v83_0 id,
  StableHlo.unary main_v79 main_v83_1 id,
  StableHlo.unary main_c main_v83_2 id,
  StableHlo.unary main_v80 main_v83_3 id,
  StableHlo.unary main_v81 main_v83_4 id,
  StableHlo.unary main_v82 main_v83_5 id ]
/-- The references that `opsDecay` writes. -/
abbrev opsDecay_W : List (Ref sig .tc) := [main_v67, main_v68, main_v69, main_cst_8, main_v70, main_v71, main_v72, main_v73, main_v74, main_v75, main_cst_9, main_v76, main_v77, main_v78, main_v79, main_cst_10, main_v80, main_cst_11, main_v81, main_cst_12, main_v82, main_c, main_v83_0, main_v83_1, main_v83_2, main_v83_3, main_v83_4, main_v83_5]
theorem opsDecay_sub : (opsDecay : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem opsDecay_fresh : (opsDecay : List (HloOp τ sig (Elt F))).Forall fun op => op.fresh = ∅ :=
  StableHlo.forall_fresh_of_map rfl
theorem opsDecay_writes : (opsDecay : List (HloOp τ sig (Elt F))).Forall fun op => op.writes ⊆ (opsDecay_W.map (Proc.devRef (τ := τ) .tc)).toFinset :=
  StableHlo.forall_writes_sub_of_map rfl

/-- The argument of the gelu's tanh. -/
abbrev opsGelu : List (HloOp τ sig (Elt F)) := [
  StableHlo.nullary main_cst_13 (constant S_ .f32 0x472EAB00#32),
  StableHlo.nullary main_cst_14 (constant S_ .f32 0x49742400#32),
  StableHlo.binary main_cst_13 main_cst_14 main_v84 (Host.divf : (⟨S_, .f32⟩ : BufTy).Contents (Elt F) → (⟨S_, .f32⟩ : BufTy).Contents (Elt F) → (⟨S_, .f32⟩ : BufTy).Contents (Elt F)),
  StableHlo.binary main_v1 main_v1 main_v85 (mulf : (⟨S4096x1280, .f32⟩ : BufTy).Contents (Elt F) → (⟨S4096x1280, .f32⟩ : BufTy).Contents (Elt F) → (⟨S4096x1280, .f32⟩ : BufTy).Contents (Elt F)),
  StableHlo.binary main_v85 main_v1 main_v86 (mulf : (⟨S4096x1280, .f32⟩ : BufTy).Contents (Elt F) → (⟨S4096x1280, .f32⟩ : BufTy).Contents (Elt F) → (⟨S4096x1280, .f32⟩ : BufTy).Contents (Elt F)),
  StableHlo.binary main_v1 main_v1 main_v87 (mulf : (⟨S4096x1280, .f32⟩ : BufTy).Contents (Elt F) → (⟨S4096x1280, .f32⟩ : BufTy).Contents (Elt F) → (⟨S4096x1280, .f32⟩ : BufTy).Contents (Elt F)),
  StableHlo.nullary main_cst_15 (constant S_ .f32 0x40400000#32),
  StableHlo.unary main_cst_15 main_v88 (broadcastInDim S4096x1280 ![] bcast_S_S4096x1280 : (⟨S_, .f32⟩ : BufTy).Contents (Elt F) → (⟨S4096x1280, .f32⟩ : BufTy).Contents (Elt F)),
  StableHlo.binary main_v88 main_v87 main_v89 (mulf : (⟨S4096x1280, .f32⟩ : BufTy).Contents (Elt F) → (⟨S4096x1280, .f32⟩ : BufTy).Contents (Elt F) → (⟨S4096x1280, .f32⟩ : BufTy).Contents (Elt F)),
  StableHlo.unary main_v84 main_v90 (broadcastInDim S4096x1280 ![] bcast_S_S4096x1280 : (⟨S_, .f32⟩ : BufTy).Contents (Elt F) → (⟨S4096x1280, .f32⟩ : BufTy).Contents (Elt F)),
  StableHlo.binary main_v90 main_v86 main_v91 (mulf : (⟨S4096x1280, .f32⟩ : BufTy).Contents (Elt F) → (⟨S4096x1280, .f32⟩ : BufTy).Contents (Elt F) → (⟨S4096x1280, .f32⟩ : BufTy).Contents (Elt F)),
  StableHlo.binary main_v1 main_v91 main_v92 (addf : (⟨S4096x1280, .f32⟩ : BufTy).Contents (Elt F) → (⟨S4096x1280, .f32⟩ : BufTy).Contents (Elt F) → (⟨S4096x1280, .f32⟩ : BufTy).Contents (Elt F)),
  StableHlo.nullary main_cst_16 (constant S_ .f32 0x3F4C422A#32),
  StableHlo.unary main_cst_16 main_v93 (broadcastInDim S4096x1280 ![] bcast_S_S4096x1280 : (⟨S_, .f32⟩ : BufTy).Contents (Elt F) → (⟨S4096x1280, .f32⟩ : BufTy).Contents (Elt F)),
  StableHlo.binary main_v93 main_v92 main_v94 (mulf : (⟨S4096x1280, .f32⟩ : BufTy).Contents (Elt F) → (⟨S4096x1280, .f32⟩ : BufTy).Contents (Elt F) → (⟨S4096x1280, .f32⟩ : BufTy).Contents (Elt F)) ]
/-- The references that `opsGelu` writes. -/
abbrev opsGelu_W : List (Ref sig .tc) := [main_cst_13, main_cst_14, main_v84, main_v85, main_v86, main_v87, main_cst_15, main_v88, main_v89, main_v90, main_v91, main_v92, main_cst_16, main_v93, main_v94]
theorem opsGelu_sub : (opsGelu : List (HloOp τ sig (Elt F))).Forall fun op => op.bufs ⊆ StableHlo.tcRefs τ sig :=
  ⟨StableHlo.nullary_bufs_sub .., StableHlo.nullary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub ..⟩
theorem opsGelu_fresh : (opsGelu : List (HloOp τ sig (Elt F))).Forall fun op => op.fresh = ∅ :=
  StableHlo.forall_fresh_of_map rfl
theorem opsGelu_writes : (opsGelu : List (HloOp τ sig (Elt F))).Forall fun op => op.writes ⊆ (opsGelu_W.map (Proc.devRef (τ := τ) .tc)).toFinset :=
  StableHlo.forall_writes_sub_of_map rfl

/-- The gelu, its derivative, and the gradient of the gate branch. -/
abbrev opsOut : List (HloOp τ sig (Elt F)) := [
  StableHlo.unary main_v94 main_v95 (Host.tanh : (⟨S4096x1280, .f32⟩ : BufTy).Contents (Elt F) → (⟨S4096x1280, .f32⟩ : BufTy).Contents (Elt F)),
  StableHlo.nullary main_cst_17 (constant S_ .f32 0x3F800000#32),
  StableHlo.unary main_cst_17 main_v96 (broadcastInDim S4096x1280 ![] bcast_S_S4096x1280 : (⟨S_, .f32⟩ : BufTy).Contents (Elt F) → (⟨S4096x1280, .f32⟩ : BufTy).Contents (Elt F)),
  StableHlo.binary main_v96 main_v95 main_v97 (addf : (⟨S4096x1280, .f32⟩ : BufTy).Contents (Elt F) → (⟨S4096x1280, .f32⟩ : BufTy).Contents (Elt F) → (⟨S4096x1280, .f32⟩ : BufTy).Contents (Elt F)),
  StableHlo.nullary main_cst_18 (constant S_ .f32 0x3F800000#32),
  StableHlo.unary main_cst_18 main_v98 (broadcastInDim S4096x1280 ![] bcast_S_S4096x1280 : (⟨S_, .f32⟩ : BufTy).Contents (Elt F) → (⟨S4096x1280, .f32⟩ : BufTy).Contents (Elt F)),
  StableHlo.binary main_v98 main_v95 main_v99 (subf : (⟨S4096x1280, .f32⟩ : BufTy).Contents (Elt F) → (⟨S4096x1280, .f32⟩ : BufTy).Contents (Elt F) → (⟨S4096x1280, .f32⟩ : BufTy).Contents (Elt F)),
  StableHlo.binary main_v97 main_v99 main_v100 (mulf : (⟨S4096x1280, .f32⟩ : BufTy).Contents (Elt F) → (⟨S4096x1280, .f32⟩ : BufTy).Contents (Elt F) → (⟨S4096x1280, .f32⟩ : BufTy).Contents (Elt F)),
  StableHlo.nullary main_cst_19 (constant S_ .f32 0x3F800000#32),
  StableHlo.unary main_cst_19 main_v101 (broadcastInDim S4096x1280 ![] bcast_S_S4096x1280 : (⟨S_, .f32⟩ : BufTy).Contents (Elt F) → (⟨S4096x1280, .f32⟩ : BufTy).Contents (Elt F)),
  StableHlo.binary main_v101 main_v95 main_v102 (addf : (⟨S4096x1280, .f32⟩ : BufTy).Contents (Elt F) → (⟨S4096x1280, .f32⟩ : BufTy).Contents (Elt F) → (⟨S4096x1280, .f32⟩ : BufTy).Contents (Elt F)),
  StableHlo.nullary main_cst_20 (constant S_ .f32 0x3F000000#32),
  StableHlo.unary main_cst_20 main_v103 (broadcastInDim S4096x1280 ![] bcast_S_S4096x1280 : (⟨S_, .f32⟩ : BufTy).Contents (Elt F) → (⟨S4096x1280, .f32⟩ : BufTy).Contents (Elt F)),
  StableHlo.binary main_v103 main_v102 main_v104 (mulf : (⟨S4096x1280, .f32⟩ : BufTy).Contents (Elt F) → (⟨S4096x1280, .f32⟩ : BufTy).Contents (Elt F) → (⟨S4096x1280, .f32⟩ : BufTy).Contents (Elt F)),
  StableHlo.binary main_v1 main_v104 main_v105 (mulf : (⟨S4096x1280, .f32⟩ : BufTy).Contents (Elt F) → (⟨S4096x1280, .f32⟩ : BufTy).Contents (Elt F) → (⟨S4096x1280, .f32⟩ : BufTy).Contents (Elt F)),
  StableHlo.binary main_v83_4 main_v105 main_v106 (mulf : (⟨S4096x1280, .f32⟩ : BufTy).Contents (Elt F) → (⟨S4096x1280, .f32⟩ : BufTy).Contents (Elt F) → (⟨S4096x1280, .f32⟩ : BufTy).Contents (Elt F)),
  StableHlo.nullary main_cst_21 (constant S_ .f32 0x00000000#32),
  StableHlo.unary main_cst_21 main_v107 (broadcastInDim S1280 ![] bcast_S_S1280 : (⟨S_, .f32⟩ : BufTy).Contents (Elt F) → (⟨S1280, .f32⟩ : BufTy).Contents (Elt F)),
  StableHlo.binary main_v83_4 main_arg8 main_v108 (mulf : (⟨S4096x1280, .f32⟩ : BufTy).Contents (Elt F) → (⟨S4096x1280, .f32⟩ : BufTy).Contents (Elt F) → (⟨S4096x1280, .f32⟩ : BufTy).Contents (Elt F)),
  StableHlo.binary main_arg8 main_v105 main_v109 (mulf : (⟨S4096x1280, .f32⟩ : BufTy).Contents (Elt F) → (⟨S4096x1280, .f32⟩ : BufTy).Contents (Elt F) → (⟨S4096x1280, .f32⟩ : BufTy).Contents (Elt F)),
  StableHlo.binary main_v1 main_v108 main_v110 (mulf : (⟨S4096x1280, .f32⟩ : BufTy).Contents (Elt F) → (⟨S4096x1280, .f32⟩ : BufTy).Contents (Elt F) → (⟨S4096x1280, .f32⟩ : BufTy).Contents (Elt F)),
  StableHlo.binary main_v108 main_v104 main_v111 (mulf : (⟨S4096x1280, .f32⟩ : BufTy).Contents (Elt F) → (⟨S4096x1280, .f32⟩ : BufTy).Contents (Elt F) → (⟨S4096x1280, .f32⟩ : BufTy).Contents (Elt F)),
  StableHlo.nullary main_cst_22 (constant S_ .f32 0x3F000000#32),
  StableHlo.unary main_cst_22 main_v112 (broadcastInDim S4096x1280 ![] bcast_S_S4096x1280 : (⟨S_, .f32⟩ : BufTy).Contents (Elt F) → (⟨S4096x1280, .f32⟩ : BufTy).Contents (Elt F)),
  StableHlo.binary main_v112 main_v110 main_v113 (mulf : (⟨S4096x1280, .f32⟩ : BufTy).Contents (Elt F) → (⟨S4096x1280, .f32⟩ : BufTy).Contents (Elt F) → (⟨S4096x1280, .f32⟩ : BufTy).Contents (Elt F)),
  StableHlo.binary main_v113 main_v100 main_v114 (mulf : (⟨S4096x1280, .f32⟩ : BufTy).Contents (Elt F) → (⟨S4096x1280, .f32⟩ : BufTy).Contents (Elt F) → (⟨S4096x1280, .f32⟩ : BufTy).Contents (Elt F)),
  StableHlo.nullary main_cst_23 (constant S_ .f32 0x3F4C422A#32),
  StableHlo.unary main_cst_23 main_v115 (broadcastInDim S4096x1280 ![] bcast_S_S4096x1280 : (⟨S_, .f32⟩ : BufTy).Contents (Elt F) → (⟨S4096x1280, .f32⟩ : BufTy).Contents (Elt F)),
  StableHlo.binary main_v115 main_v114 main_v116 (mulf : (⟨S4096x1280, .f32⟩ : BufTy).Contents (Elt F) → (⟨S4096x1280, .f32⟩ : BufTy).Contents (Elt F) → (⟨S4096x1280, .f32⟩ : BufTy).Contents (Elt F)),
  StableHlo.binary main_v111 main_v116 main_v117 (addf : (⟨S4096x1280, .f32⟩ : BufTy).Contents (Elt F) → (⟨S4096x1280, .f32⟩ : BufTy).Contents (Elt F) → (⟨S4096x1280, .f32⟩ : BufTy).Contents (Elt F)),
  StableHlo.unary main_v84 main_v118 (broadcastInDim S4096x1280 ![] bcast_S_S4096x1280 : (⟨S_, .f32⟩ : BufTy).Contents (Elt F) → (⟨S4096x1280, .f32⟩ : BufTy).Contents (Elt F)),
  StableHlo.binary main_v118 main_v116 main_v119 (mulf : (⟨S4096x1280, .f32⟩ : BufTy).Contents (Elt F) → (⟨S4096x1280, .f32⟩ : BufTy).Contents (Elt F) → (⟨S4096x1280, .f32⟩ : BufTy).Contents (Elt F)),
  StableHlo.binary main_v119 main_v89 main_v120 (mulf : (⟨S4096x1280, .f32⟩ : BufTy).Contents (Elt F) → (⟨S4096x1280, .f32⟩ : BufTy).Contents (Elt F) → (⟨S4096x1280, .f32⟩ : BufTy).Contents (Elt F)),
  StableHlo.binary main_v117 main_v120 main_v121 (addf : (⟨S4096x1280, .f32⟩ : BufTy).Contents (Elt F) → (⟨S4096x1280, .f32⟩ : BufTy).Contents (Elt F) → (⟨S4096x1280, .f32⟩ : BufTy).Contents (Elt F)) ]
/-- The references that `opsOut` writes. -/
abbrev opsOut_W : List (Ref sig .tc) := [main_v95, main_cst_17, main_v96, main_v97, main_cst_18, main_v98, main_v99, main_v100, main_cst_19, main_v101, main_v102, main_cst_20, main_v103, main_v104, main_v105, main_v106, main_cst_21, main_v107, main_v108, main_v109, main_v110, main_v111, main_cst_22, main_v112, main_v113, main_v114, main_cst_23, main_v115, main_v116, main_v117, main_v118, main_v119, main_v120, main_v121]
theorem opsOut_sub : (opsOut : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub ..⟩
theorem opsOut_fresh : (opsOut : List (HloOp τ sig (Elt F))).Forall fun op => op.fresh = ∅ :=
  StableHlo.forall_fresh_of_map rfl
theorem opsOut_writes : (opsOut : List (HloOp τ sig (Elt F))).Forall fun op => op.writes ⊆ (opsOut_W.map (Proc.devRef (τ := τ) .tc)).toFinset :=
  StableHlo.forall_writes_sub_of_map rfl

/-- The start of the second loop. -/
abbrev opsStart : List (HloOp τ sig (Elt F)) := [
  StableHlo.nullary main_cst_24 (constant S_ .f32 0x00000000#32),
  StableHlo.unary main_cst_24 main_v122 (broadcastInDim S1280 ![] bcast_S_S1280 : (⟨S_, .f32⟩ : BufTy).Contents (Elt F) → (⟨S1280, .f32⟩ : BufTy).Contents (Elt F)),
  StableHlo.nullary main_cst_25 (constant S_ .f32 0x00000000#32),
  StableHlo.unary main_cst_25 main_v123 (broadcastInDim S4096x1280 ![] bcast_S_S4096x1280 : (⟨S_, .f32⟩ : BufTy).Contents (Elt F) → (⟨S4096x1280, .f32⟩ : BufTy).Contents (Elt F)),
  StableHlo.nullary main_cst_26 (constant S_ .f32 0x00000000#32),
  StableHlo.unary main_cst_26 main_v124 (broadcastInDim S4096x1280 ![] bcast_S_S4096x1280 : (⟨S_, .f32⟩ : BufTy).Contents (Elt F) → (⟨S4096x1280, .f32⟩ : BufTy).Contents (Elt F)),
  StableHlo.nullary main_c_27 (constantI S_ 32 0#32),
  StableHlo.unary main_v109 main_v125_0 id,
  StableHlo.unary main_v83_5 main_v125_1 id,
  StableHlo.unary main_v69 main_v125_2 id,
  StableHlo.unary main_c_27 main_v125_3 id,
  StableHlo.unary main_v122 main_v125_4 id,
  StableHlo.unary main_v123 main_v125_5 id,
  StableHlo.unary main_v124 main_v125_6 id ]
/-- The references that `opsStart` writes. -/
abbrev opsStart_W : List (Ref sig .tc) := [main_cst_24, main_v122, main_cst_25, main_v123, main_cst_26, main_v124, main_c_27, main_v125_0, main_v125_1, main_v125_2, main_v125_3, main_v125_4, main_v125_5, main_v125_6]
theorem opsStart_sub : (opsStart : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem opsStart_fresh : (opsStart : List (HloOp τ sig (Elt F))).Forall fun op => op.fresh = ∅ :=
  StableHlo.forall_fresh_of_map rfl
theorem opsStart_writes : (opsStart : List (HloOp τ sig (Elt F))).Forall fun op => op.writes ⊆ (opsStart_W.map (Proc.devRef (τ := τ) .tc)).toFinset :=
  StableHlo.forall_writes_sub_of_map rfl

/-- Back through the input of the recurrence. -/
abbrev opsMult : List (HloOp τ sig (Elt F)) := [
  StableHlo.binary main_v75 main_v125_6 main_v126 (mulf : (⟨S4096x1280, .f32⟩ : BufTy).Contents (Elt F) → (⟨S4096x1280, .f32⟩ : BufTy).Contents (Elt F) → (⟨S4096x1280, .f32⟩ : BufTy).Contents (Elt F)),
  StableHlo.binary main_v125_6 main_v78 main_v127 (mulf : (⟨S4096x1280, .f32⟩ : BufTy).Contents (Elt F) → (⟨S4096x1280, .f32⟩ : BufTy).Contents (Elt F) → (⟨S4096x1280, .f32⟩ : BufTy).Contents (Elt F)),
  StableHlo.binary main_v59 main_v126 main_v128 (mulf : (⟨S4096x1280, .f32⟩ : BufTy).Contents (Elt F) → (⟨S4096x1280, .f32⟩ : BufTy).Contents (Elt F) → (⟨S4096x1280, .f32⟩ : BufTy).Contents (Elt F)),
  StableHlo.binary main_v126 main_v33 main_v129 (mulf : (⟨S4096x1280, .f32⟩ : BufTy).Contents (Elt F) → (⟨S4096x1280, .f32⟩ : BufTy).Contents (Elt F) → (⟨S4096x1280, .f32⟩ : BufTy).Contents (Elt F)),
  StableHlo.binary main_v127 main_v77 main_v130 (mulf : (⟨S4096x1280, .f32⟩ : BufTy).Contents (Elt F) → (⟨S4096x1280, .f32⟩ : BufTy).Contents (Elt F) → (⟨S4096x1280, .f32⟩ : BufTy).Contents (Elt F)),
  StableHlo.unary main_v130 main_v131 (Host.negf : (⟨S4096x1280, .f32⟩ : BufTy).Contents (Elt F) → (⟨S4096x1280, .f32⟩ : BufTy).Contents (Elt F)),
  StableHlo.binary main_v131 main_v73 main_v132 (mulf : (⟨S4096x1280, .f32⟩ : BufTy).Contents (Elt F) → (⟨S4096x1280, .f32⟩ : BufTy).Contents (Elt F) → (⟨S4096x1280, .f32⟩ : BufTy).Contents (Elt F)),
  StableHlo.nullary main_cst_28 (constant S_ .f32 0x40000000#32),
  StableHlo.unary main_cst_28 main_v133 (broadcastInDim S4096x1280 ![] bcast_S_S4096x1280 : (⟨S_, .f32⟩ : BufTy).Contents (Elt F) → (⟨S4096x1280, .f32⟩ : BufTy).Contents (Elt F)),
  StableHlo.binary main_v133 main_v132 main_v134 (mulf : (⟨S4096x1280, .f32⟩ : BufTy).Contents (Elt F) → (⟨S4096x1280, .f32⟩ : BufTy).Contents (Elt F) → (⟨S4096x1280, .f32⟩ : BufTy).Contents (Elt F)),
  StableHlo.binary main_v125_5 main_v69 main_v135 (mulf : (⟨S4096x1280, .f32⟩ : BufTy).Contents (Elt F) → (⟨S4096x1280, .f32⟩ : BufTy).Contents (Elt F) → (⟨S4096x1280, .f32⟩ : BufTy).Contents (Elt F)) ]
/-- The references that `opsMult` writes. -/
abbrev opsMult_W : List (Ref sig .tc) := [main_v126, main_v127, main_v128, main_v129, main_v130, main_v131, main_v132, main_cst_28, main_v133, main_v134, main_v135]
theorem opsMult_sub : (opsMult : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩
theorem opsMult_fresh : (opsMult : List (HloOp τ sig (Elt F))).Forall fun op => op.fresh = ∅ :=
  StableHlo.forall_fresh_of_map rfl
theorem opsMult_writes : (opsMult : List (HloOp τ sig (Elt F))).Forall fun op => op.writes ⊆ (opsMult_W.map (Proc.devRef (τ := τ) .tc)).toFinset :=
  StableHlo.forall_writes_sub_of_map rfl

/-- Back through the decay. -/
abbrev opsLam : List (HloOp τ sig (Elt F)) := [
  StableHlo.binary main_v134 main_v135 main_v136 (addf : (⟨S4096x1280, .f32⟩ : BufTy).Contents (Elt F) → (⟨S4096x1280, .f32⟩ : BufTy).Contents (Elt F) → (⟨S4096x1280, .f32⟩ : BufTy).Contents (Elt F)),
  StableHlo.binary main_v64 main_v136 main_v137 (mulf : (⟨S4096x1280, .f32⟩ : BufTy).Contents (Elt F) → (⟨S4096x1280, .f32⟩ : BufTy).Contents (Elt F) → (⟨S4096x1280, .f32⟩ : BufTy).Contents (Elt F)),
  StableHlo.nullary main_cst_29 (constant S_ .f32 0x00000000#32),
  StableHlo.binary main_v137 main_cst_29 main_v138 ((fun x v => Host.reduceAdd x v reducesTo_S4096x1280_S1280_d0 h_S_) : (⟨S4096x1280, .f32⟩ : BufTy).Contents (Elt F) → (⟨S_, .f32⟩ : BufTy).Contents (Elt F) → (⟨S1280, .f32⟩ : BufTy).Contents (Elt F)),
  StableHlo.reshape main_v138 main_v139 (rfl : (.f32 : EltTy) = .f32) shapeCasts_S1280_S1x1280,
  StableHlo.unary main_v66_0 main_v140 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v136 main_v140 main_v141 (mulf : (⟨S4096x1280, .f32⟩ : BufTy).Contents (Elt F) → (⟨S4096x1280, .f32⟩ : BufTy).Contents (Elt F) → (⟨S4096x1280, .f32⟩ : BufTy).Contents (Elt F)) ]
/-- The references that `opsLam` writes. -/
abbrev opsLam_W : List (Ref sig .tc) := [main_v136, main_v137, main_cst_29, main_v138, main_v139, main_v140, main_v141]
theorem opsLam_sub : (opsLam : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.reshape_bufs_sub .., StableHlo.unary_bufs_sub .., StableHlo.binary_bufs_sub ..⟩
theorem opsLam_fresh : (opsLam : List (HloOp τ sig (Elt F))).Forall fun op => op.fresh = ∅ :=
  StableHlo.forall_fresh_of_map rfl
theorem opsLam_writes : (opsLam : List (HloOp τ sig (Elt F))).Forall fun op => op.writes ⊆ (opsLam_W.map (Proc.devRef (τ := τ) .tc)).toFinset :=
  StableHlo.forall_writes_sub_of_map rfl

/-- Back through the softplus. -/
abbrev opsLamS : List (HloOp τ sig (Elt F)) := [
  StableHlo.TRef.binary (.of main_v139 : StableHlo.TRef sig ⟨S1x1280, .f32⟩) (.of main_v66_1 : StableHlo.TRef sig ⟨S1x1280, .f32⟩) (.of main_v142 : StableHlo.TRef sig ⟨S1x1280, .f32⟩) mulf ]
/-- The references that `opsLamS` writes. -/
abbrev opsLamS_W : List (Ref sig .tc) := [main_v142]
theorem opsLamS_sub : (opsLamS : List (HloOp τ sig (Elt F))).Forall fun op => op.bufs ⊆ StableHlo.tcRefs τ sig :=
  StableHlo.binary_bufs_sub ..
theorem opsLamS_fresh : (opsLamS : List (HloOp τ sig (Elt F))).Forall fun op => op.fresh = ∅ :=
  StableHlo.forall_fresh_of_map rfl
theorem opsLamS_writes : (opsLamS : List (HloOp τ sig (Elt F))).Forall fun op => op.writes ⊆ (opsLamS_W.map (Proc.devRef (τ := τ) .tc)).toFinset :=
  StableHlo.forall_writes_sub_of_map rfl

/-- Back through the gates. -/
abbrev opsGateB : List (HloOp τ sig (Elt F)) := [
  StableHlo.unary main_v142 main_v143 (Host.negf : (⟨S1x1280, .f32⟩ : BufTy).Contents (Elt F) → (⟨S1x1280, .f32⟩ : BufTy).Contents (Elt F)),
  StableHlo.nullary main_cst_30 (constant S_ .f32 0xC1000000#32),
  StableHlo.unary main_cst_30 main_v144 (broadcastInDim S4096x1280 ![] bcast_S_S4096x1280 : (⟨S_, .f32⟩ : BufTy).Contents (Elt F) → (⟨S4096x1280, .f32⟩ : BufTy).Contents (Elt F)),
  StableHlo.binary main_v144 main_v141 main_v145 (mulf : (⟨S4096x1280, .f32⟩ : BufTy).Contents (Elt F) → (⟨S4096x1280, .f32⟩ : BufTy).Contents (Elt F) → (⟨S4096x1280, .f32⟩ : BufTy).Contents (Elt F)),
  StableHlo.binary main_v129 main_v62 main_v146 (mulf : (⟨S4096x1280, .f32⟩ : BufTy).Contents (Elt F) → (⟨S4096x1280, .f32⟩ : BufTy).Contents (Elt F) → (⟨S4096x1280, .f32⟩ : BufTy).Contents (Elt F)),
  StableHlo.nullary main_cst_31 (constant S_ .f32 0x00000000#32),
  StableHlo.binary main_v146 main_cst_31 main_v147 ((fun x v => Host.reduceAdd x v reducesTo_S4096x1280_S1280_d0 h_S_) : (⟨S4096x1280, .f32⟩ : BufTy).Contents (Elt F) → (⟨S_, .f32⟩ : BufTy).Contents (Elt F) → (⟨S1280, .f32⟩ : BufTy).Contents (Elt F)),
  StableHlo.reshape main_v147 main_v148 (rfl : (.f32 : EltTy) = .f32) shapeCasts_S1280_S1x1280,
  StableHlo.reshape main_v146 main_v149 (rfl : (.f32 : EltTy) = .f32) shapeCasts_S4096x1280_S4096x10x128,
  StableHlo.unary main_v149 main_v150 ((transpose S10x128x4096 [1, 2, 0] · transposes_S4096x10x128_S10x128x4096_1_2_0) : (⟨S4096x10x128, .f32⟩ : BufTy).Contents (Elt F) → (⟨S10x128x4096, .f32⟩ : BufTy).Contents (Elt F)),
  StableHlo.binary main_v150 main_arg5 main_v151 ((fun l r => Host.dotGeneral dot_S10x128x4096_S10x128x128_S10x4096x128_1_2_2_1_0_0 none l r) : (⟨S10x128x4096, .f32⟩ : BufTy).Contents (Elt F) → (⟨S10x128x128, .f32⟩ : BufTy).Contents (Elt F) → (⟨S10x4096x128, .f32⟩ : BufTy).Contents (Elt F)),
  StableHlo.unary main_v151 main_v152 ((transpose S4096x10x128 [1, 0, 2] · transposes_S10x4096x128_S4096x10x128_1_0_2) : (⟨S10x4096x128, .f32⟩ : BufTy).Contents (Elt F) → (⟨S4096x10x128, .f32⟩ : BufTy).Contents (Elt F)),
  StableHlo.binary main_v150 main_v34 main_v153 ((fun l r => Host.dotGeneral dot_S10x128x4096_S4096x10x128_S10x128x128_2_0_1_2_0_1 none l r) : (⟨S10x128x4096, .f32⟩ : BufTy).Contents (Elt F) → (⟨S4096x10x128, .f32⟩ : BufTy).Contents (Elt F) → (⟨S10x128x128, .f32⟩ : BufTy).Contents (Elt F)),
  StableHlo.unary main_v153 main_v154 ((transpose S10x128x128 [0, 2, 1] · transposes_S10x128x128_S10x128x128_0_2_1) : (⟨S10x128x128, .f32⟩ : BufTy).Contents (Elt F) → (⟨S10x128x128, .f32⟩ : BufTy).Contents (Elt F)),
  StableHlo.binary main_v145 main_v48 main_v155 (mulf : (⟨S4096x1280, .f32⟩ : BufTy).Contents (Elt F) → (⟨S4096x1280, .f32⟩ : BufTy).Contents (Elt F) → (⟨S4096x1280, .f32⟩ : BufTy).Contents (Elt F)),
  StableHlo.nullary main_cst_32 (constant S_ .f32 0x00000000#32),
  StableHlo.binary main_v155 main_cst_32 main_v156 ((fun x v => Host.reduceAdd x v reducesTo_S4096x1280_S1280_d0 h_S_) : (⟨S4096x1280, .f32⟩ : BufTy).Contents (Elt F) → (⟨S_, .f32⟩ : BufTy).Contents (Elt F) → (⟨S1280, .f32⟩ : BufTy).Contents (Elt F)),
  StableHlo.reshape main_v156 main_v157 (rfl : (.f32 : EltTy) = .f32) shapeCasts_S1280_S1x1280,
  StableHlo.reshape main_v155 main_v158 (rfl : (.f32 : EltTy) = .f32) shapeCasts_S4096x1280_S4096x10x128,
  StableHlo.unary main_v158 main_v159 ((transpose S10x128x4096 [1, 2, 0] · transposes_S4096x10x128_S10x128x4096_1_2_0) : (⟨S4096x10x128, .f32⟩ : BufTy).Contents (Elt F) → (⟨S10x128x4096, .f32⟩ : BufTy).Contents (Elt F)),
  StableHlo.binary main_v159 main_arg3 main_v160 ((fun l r => Host.dotGeneral dot_S10x128x4096_S10x128x128_S10x4096x128_1_2_2_1_0_0 none l r) : (⟨S10x128x4096, .f32⟩ : BufTy).Contents (Elt F) → (⟨S10x128x128, .f32⟩ : BufTy).Contents (Elt F) → (⟨S10x4096x128, .f32⟩ : BufTy).Contents (Elt F)),
  StableHlo.unary main_v160 main_v161 ((transpose S4096x10x128 [1, 0, 2] · transposes_S10x4096x128_S4096x10x128_1_0_2) : (⟨S10x4096x128, .f32⟩ : BufTy).Contents (Elt F) → (⟨S4096x10x128, .f32⟩ : BufTy).Contents (Elt F)),
  StableHlo.binary main_v152 main_v161 main_v162 (addf : (⟨S4096x10x128, .f32⟩ : BufTy).Contents (Elt F) → (⟨S4096x10x128, .f32⟩ : BufTy).Contents (Elt F) → (⟨S4096x10x128, .f32⟩ : BufTy).Contents (Elt F)),
  StableHlo.binary main_v159 main_v34 main_v163 ((fun l r => Host.dotGeneral dot_S10x128x4096_S4096x10x128_S10x128x128_2_0_1_2_0_1 none l r) : (⟨S10x128x4096, .f32⟩ : BufTy).Contents (Elt F) → (⟨S4096x10x128, .f32⟩ : BufTy).Contents (Elt F) → (⟨S10x128x128, .f32⟩ : BufTy).Contents (Elt F)),
  StableHlo.unary main_v163 main_v164 ((transpose S10x128x128 [0, 2, 1] · transposes_S10x128x128_S10x128x128_0_2_1) : (⟨S10x128x128, .f32⟩ : BufTy).Contents (Elt F) → (⟨S10x128x128, .f32⟩ : BufTy).Contents (Elt F)),
  StableHlo.reshape main_v162 main_v165 (rfl : (.f32 : EltTy) = .f32) shapeCasts_S4096x10x128_S4096x1280,
  StableHlo.binary main_v128 main_v165 main_v166 (addf : (⟨S4096x1280, .f32⟩ : BufTy).Contents (Elt F) → (⟨S4096x1280, .f32⟩ : BufTy).Contents (Elt F) → (⟨S4096x1280, .f32⟩ : BufTy).Contents (Elt F)) ]
/-- The references that `opsGateB` writes. -/
abbrev opsGateB_W : List (Ref sig .tc) := [main_v143, main_cst_30, main_v144, main_v145, main_v146, main_cst_31, main_v147, main_v148, main_v149, main_v150, main_v151, main_v152, main_v153, main_v154, main_v155, main_cst_32, main_v156, main_v157, main_v158, main_v159, main_v160, main_v161, main_v162, main_v163, main_v164, main_v165, main_v166]
theorem opsGateB_sub : (opsGateB : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.binary_bufs_sub .., StableHlo.nullary_bufs_sub .., StableHlo.binary_bufs_sub .., StableHlo.reshape_bufs_sub .., StableHlo.reshape_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub ..⟩
theorem opsGateB_fresh : (opsGateB : List (HloOp τ sig (Elt F))).Forall fun op => op.fresh = ∅ :=
  StableHlo.forall_fresh_of_map rfl
theorem opsGateB_writes : (opsGateB : List (HloOp τ sig (Elt F))).Forall fun op => op.writes ⊆ (opsGateB_W.map (Proc.devRef (τ := τ) .tc)).toFinset :=
  StableHlo.forall_writes_sub_of_map rfl

/-- Back through the first two taps of the convolution. -/
abbrev opsTapA : List (HloOp τ sig (Elt F)) := [
  StableHlo.binary main_v27 main_v166 main_v167 (mulf : (⟨S4096x1280, .f32⟩ : BufTy).Contents (Elt F) → (⟨S4096x1280, .f32⟩ : BufTy).Contents (Elt F) → (⟨S4096x1280, .f32⟩ : BufTy).Contents (Elt F)),
  StableHlo.nullary main_cst_33 (constant S_ .f32 0x00000000#32),
  StableHlo.binary main_v167 main_cst_33 main_v168 ((fun x v => Host.reduceAdd x v reducesTo_S4096x1280_S1280_d0 h_S_) : (⟨S4096x1280, .f32⟩ : BufTy).Contents (Elt F) → (⟨S_, .f32⟩ : BufTy).Contents (Elt F) → (⟨S1280, .f32⟩ : BufTy).Contents (Elt F)),
  StableHlo.reshape main_v168 main_v169 (rfl : (.f32 : EltTy) = .f32) shapeCasts_S1280_S1x1280,
  StableHlo.unary main_v30 main_v170 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v166 main_v170 main_v171 (mulf : (⟨S4096x1280, .f32⟩ : BufTy).Contents (Elt F) → (⟨S4096x1280, .f32⟩ : BufTy).Contents (Elt F) → (⟨S4096x1280, .f32⟩ : BufTy).Contents (Elt F)),
  StableHlo.nullary main_cst_34 (constant S_ .f32 0x00000000#32),
  StableHlo.binary main_v169 main_cst_34 main_v172 ((fun x v => Host.reduceAdd x v reducesTo_S1x1280_S1280_d0 h_S_) : (⟨S1x1280, .f32⟩ : BufTy).Contents (Elt F) → (⟨S_, .f32⟩ : BufTy).Contents (Elt F) → (⟨S1280, .f32⟩ : BufTy).Contents (Elt F)),
  StableHlo.unary main_v172 main_v173 (broadcastInDim S1x1280 ![1] bcast_S1280_S1x1280_1 : (⟨S1280, .f32⟩ : BufTy).Contents (Elt F) → (⟨S1x1280, .f32⟩ : BufTy).Contents (Elt F)),
  StableHlo.nullary main_cst_35 (constant S_ .f32 0x00000000#32),
  StableHlo.binary main_v173 main_cst_35 main_v174 ((fun x v => pad S4x1280 ![3, 0] ![0, 0] ![0, 0] x v pads_S1x1280_S4x1280_300_000 h_S_) : (⟨S1x1280, .f32⟩ : BufTy).Contents (Elt F) → (⟨S_, .f32⟩ : BufTy).Contents (Elt F) → (⟨S4x1280, .f32⟩ : BufTy).Contents (Elt F)),
  StableHlo.nullary main_cst_36 (constant S_ .f32 0x00000000#32),
  StableHlo.binary main_v171 main_cst_36 main_v175 ((fun x v => pad S4099x1280 ![3, 0] ![0, 0] ![0, 0] x v pads_S4096x1280_S4099x1280_300_000 h_S_) : (⟨S4096x1280, .f32⟩ : BufTy).Contents (Elt F) → (⟨S_, .f32⟩ : BufTy).Contents (Elt F) → (⟨S4099x1280, .f32⟩ : BufTy).Contents (Elt F)),
  StableHlo.binary main_v20 main_v166 main_v176 (mulf : (⟨S4096x1280, .f32⟩ : BufTy).Contents (Elt F) → (⟨S4096x1280, .f32⟩ : BufTy).Contents (Elt F) → (⟨S4096x1280, .f32⟩ : BufTy).Contents (Elt F)),
  StableHlo.nullary main_cst_37 (constant S_ .f32 0x00000000#32),
  StableHlo.binary main_v176 main_cst_37 main_v177 ((fun x v => Host.reduceAdd x v reducesTo_S4096x1280_S1280_d0 h_S_) : (⟨S4096x1280, .f32⟩ : BufTy).Contents (Elt F) → (⟨S_, .f32⟩ : BufTy).Contents (Elt F) → (⟨S1280, .f32⟩ : BufTy).Contents (Elt F)),
  StableHlo.reshape main_v177 main_v178 (rfl : (.f32 : EltTy) = .f32) shapeCasts_S1280_S1x1280,
  StableHlo.unary main_v23 main_v179 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v166 main_v179 main_v180 (mulf : (⟨S4096x1280, .f32⟩ : BufTy).Contents (Elt F) → (⟨S4096x1280, .f32⟩ : BufTy).Contents (Elt F) → (⟨S4096x1280, .f32⟩ : BufTy).Contents (Elt F)),
  StableHlo.nullary main_cst_38 (constant S_ .f32 0x00000000#32),
  StableHlo.binary main_v178 main_cst_38 main_v181 ((fun x v => Host.reduceAdd x v reducesTo_S1x1280_S1280_d0 h_S_) : (⟨S1x1280, .f32⟩ : BufTy).Contents (Elt F) → (⟨S_, .f32⟩ : BufTy).Contents (Elt F) → (⟨S1280, .f32⟩ : BufTy).Contents (Elt F)),
  StableHlo.unary main_v181 main_v182 (broadcastInDim S1x1280 ![1] bcast_S1280_S1x1280_1 : (⟨S1280, .f32⟩ : BufTy).Contents (Elt F) → (⟨S1x1280, .f32⟩ : BufTy).Contents (Elt F)),
  StableHlo.nullary main_cst_39 (constant S_ .f32 0x00000000#32),
  StableHlo.binary main_v182 main_cst_39 main_v183 ((fun x v => pad S4x1280 ![2, 0] ![1, 0] ![0, 0] x v pads_S1x1280_S4x1280_210_000 h_S_) : (⟨S1x1280, .f32⟩ : BufTy).Contents (Elt F) → (⟨S_, .f32⟩ : BufTy).Contents (Elt F) → (⟨S4x1280, .f32⟩ : BufTy).Contents (Elt F)),
  StableHlo.binary main_v174 main_v183 main_v184 (addf : (⟨S4x1280, .f32⟩ : BufTy).Contents (Elt F) → (⟨S4x1280, .f32⟩ : BufTy).Contents (Elt F) → (⟨S4x1280, .f32⟩ : BufTy).Contents (Elt F)) ]
/-- The references that `opsTapA` writes. -/
abbrev opsTapA_W : List (Ref sig .tc) := [main_v167, main_cst_33, main_v168, main_v169, main_v170, main_v171, main_cst_34, main_v172, main_v173, main_cst_35, main_v174, main_cst_36, main_v175, main_v176, main_cst_37, main_v177, main_v178, main_v179, main_v180, main_cst_38, main_v181, main_v182, main_cst_39, main_v183, main_v184]
theorem opsTapA_sub : (opsTapA : List (HloOp τ sig (Elt F))).Forall fun op => op.bufs ⊆ StableHlo.tcRefs τ sig :=
  ⟨StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.binary_bufs_sub ..⟩
theorem opsTapA_fresh : (opsTapA : List (HloOp τ sig (Elt F))).Forall fun op => op.fresh = ∅ :=
  StableHlo.forall_fresh_of_map rfl
theorem opsTapA_writes : (opsTapA : List (HloOp τ sig (Elt F))).Forall fun op => op.writes ⊆ (opsTapA_W.map (Proc.devRef (τ := τ) .tc)).toFinset :=
  StableHlo.forall_writes_sub_of_map rfl

/-- Back through the third tap. -/
abbrev opsTapB : List (HloOp τ sig (Elt F)) := [
  StableHlo.nullary main_cst_40 (constant S_ .f32 0x00000000#32),
  StableHlo.binary main_v180 main_cst_40 main_v185 ((fun x v => pad S4099x1280 ![2, 0] ![1, 0] ![0, 0] x v pads_S4096x1280_S4099x1280_210_000 h_S_) : (⟨S4096x1280, .f32⟩ : BufTy).Contents (Elt F) → (⟨S_, .f32⟩ : BufTy).Contents (Elt F) → (⟨S4099x1280, .f32⟩ : BufTy).Contents (Elt F)),
  StableHlo.binary main_v175 main_v185 main_v186 (addf : (⟨S4099x1280, .f32⟩ : BufTy).Contents (Elt F) → (⟨S4099x1280, .f32⟩ : BufTy).Contents (Elt F) → (⟨S4099x1280, .f32⟩ : BufTy).Contents (Elt F)),
  StableHlo.binary main_v13 main_v166 main_v187 (mulf : (⟨S4096x1280, .f32⟩ : BufTy).Contents (Elt F) → (⟨S4096x1280, .f32⟩ : BufTy).Contents (Elt F) → (⟨S4096x1280, .f32⟩ : BufTy).Contents (Elt F)),
  StableHlo.nullary main_cst_41 (constant S_ .f32 0x00000000#32),
  StableHlo.binary main_v187 main_cst_41 main_v188 ((fun x v => Host.reduceAdd x v reducesTo_S4096x1280_S1280_d0 h_S_) : (⟨S4096x1280, .f32⟩ : BufTy).Contents (Elt F) → (⟨S_, .f32⟩ : BufTy).Contents (Elt F) → (⟨S1280, .f32⟩ : BufTy).Contents (Elt F)),
  StableHlo.reshape main_v188 main_v189 (rfl : (.f32 : EltTy) = .f32) shapeCasts_S1280_S1x1280,
  StableHlo.unary main_v16 main_v190 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v166 main_v190 main_v191 (mulf : (⟨S4096x1280, .f32⟩ : BufTy).Contents (Elt F) → (⟨S4096x1280, .f32⟩ : BufTy).Contents (Elt F) → (⟨S4096x1280, .f32⟩ : BufTy).Contents (Elt F)),
  StableHlo.nullary main_cst_42 (constant S_ .f32 0x00000000#32),
  StableHlo.binary main_v189 main_cst_42 main_v192 ((fun x v => Host.reduceAdd x v reducesTo_S1x1280_S1280_d0 h_S_) : (⟨S1x1280, .f32⟩ : BufTy).Contents (Elt F) → (⟨S_, .f32⟩ : BufTy).Contents (Elt F) → (⟨S1280, .f32⟩ : BufTy).Contents (Elt F)),
  StableHlo.unary main_v192 main_v193 (broadcastInDim S1x1280 ![1] bcast_S1280_S1x1280_1 : (⟨S1280, .f32⟩ : BufTy).Contents (Elt F) → (⟨S1x1280, .f32⟩ : BufTy).Contents (Elt F)),
  StableHlo.nullary main_cst_43 (constant S_ .f32 0x00000000#32),
  StableHlo.binary main_v193 main_cst_43 main_v194 ((fun x v => pad S4x1280 ![1, 0] ![2, 0] ![0, 0] x v pads_S1x1280_S4x1280_120_000 h_S_) : (⟨S1x1280, .f32⟩ : BufTy).Contents (Elt F) → (⟨S_, .f32⟩ : BufTy).Contents (Elt F) → (⟨S4x1280, .f32⟩ : BufTy).Contents (Elt F)),
  StableHlo.binary main_v184 main_v194 main_v195 (addf : (⟨S4x1280, .f32⟩ : BufTy).Contents (Elt F) → (⟨S4x1280, .f32⟩ : BufTy).Contents (Elt F) → (⟨S4x1280, .f32⟩ : BufTy).Contents (Elt F)),
  StableHlo.nullary main_cst_44 (constant S_ .f32 0x00000000#32),
  StableHlo.binary main_v191 main_cst_44 main_v196 ((fun x v => pad S4099x1280 ![1, 0] ![2, 0] ![0, 0] x v pads_S4096x1280_S4099x1280_120_000 h_S_) : (⟨S4096x1280, .f32⟩ : BufTy).Contents (Elt F) → (⟨S_, .f32⟩ : BufTy).Contents (Elt F) → (⟨S4099x1280, .f32⟩ : BufTy).Contents (Elt F)),
  StableHlo.binary main_v186 main_v196 main_v197 (addf : (⟨S4099x1280, .f32⟩ : BufTy).Contents (Elt F) → (⟨S4099x1280, .f32⟩ : BufTy).Contents (Elt F) → (⟨S4099x1280, .f32⟩ : BufTy).Contents (Elt F)) ]
/-- The references that `opsTapB` writes. -/
abbrev opsTapB_W : List (Ref sig .tc) := [main_cst_40, main_v185, main_v186, main_v187, main_cst_41, main_v188, main_v189, main_v190, main_v191, main_cst_42, main_v192, main_v193, main_cst_43, main_v194, main_v195, main_cst_44, main_v196, main_v197]
theorem opsTapB_sub : (opsTapB : List (HloOp τ sig (Elt F))).Forall fun op => op.bufs ⊆ StableHlo.tcRefs τ sig :=
  ⟨StableHlo.nullary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.binary_bufs_sub .., StableHlo.nullary_bufs_sub .., StableHlo.binary_bufs_sub .., StableHlo.binary_bufs_sub ..⟩
theorem opsTapB_fresh : (opsTapB : List (HloOp τ sig (Elt F))).Forall fun op => op.fresh = ∅ :=
  StableHlo.forall_fresh_of_map rfl
theorem opsTapB_writes : (opsTapB : List (HloOp τ sig (Elt F))).Forall fun op => op.writes ⊆ (opsTapB_W.map (Proc.devRef (τ := τ) .tc)).toFinset :=
  StableHlo.forall_writes_sub_of_map rfl

/-- Back through the last tap, and the casts of the results. -/
abbrev opsTapC : List (HloOp τ sig (Elt F)) := [
  StableHlo.nullary main_cst_45 (constant S_ .f32 0x00000000#32),
  StableHlo.binary main_v166 main_cst_45 main_v198 ((fun x v => Host.reduceAdd x v reducesTo_S4096x1280_S1280_d0 h_S_) : (⟨S4096x1280, .f32⟩ : BufTy).Contents (Elt F) → (⟨S_, .f32⟩ : BufTy).Contents (Elt F) → (⟨S1280, .f32⟩ : BufTy).Contents (Elt F)),
  StableHlo.reshape main_v198 main_v199 (rfl : (.f32 : EltTy) = .f32) shapeCasts_S1280_S1x1280,
  StableHlo.binary main_v5 main_v166 main_v200 (mulf : (⟨S4096x1280, .f32⟩ : BufTy).Contents (Elt F) → (⟨S4096x1280, .f32⟩ : BufTy).Contents (Elt F) → (⟨S4096x1280, .f32⟩ : BufTy).Contents (Elt F)),
  StableHlo.nullary main_cst_46 (constant S_ .f32 0x00000000#32),
  StableHlo.binary main_v200 main_cst_46 main_v201 ((fun x v => Host.reduceAdd x v reducesTo_S4096x1280_S1280_d0 h_S_) : (⟨S4096x1280, .f32⟩ : BufTy).Contents (Elt F) → (⟨S_, .f32⟩ : BufTy).Contents (Elt F) → (⟨S1280, .f32⟩ : BufTy).Contents (Elt F)),
  StableHlo.reshape main_v201 main_v202 (rfl : (.f32 : EltTy) = .f32) shapeCasts_S1280_S1x1280,
  StableHlo.unary main_v8 main_v203 (broadcastInDim S4096x1280 ![0, 1] bcast_S1x1280_S4096x1280_0_1 : (⟨S1x1280, .f32⟩ : BufTy).Contents (Elt F) → (⟨S4096x1280, .f32⟩ : BufTy).Contents (Elt F)),
  StableHlo.binary main_v166 main_v203 main_v204 (mulf : (⟨S4096x1280, .f32⟩ : BufTy).Contents (Elt F) → (⟨S4096x1280, .f32⟩ : BufTy).Contents (Elt F) → (⟨S4096x1280, .f32⟩ : BufTy).Contents (Elt F)),
  StableHlo.nullary main_cst_47 (constant S_ .f32 0x00000000#32),
  StableHlo.binary main_v202 main_cst_47 main_v205 ((fun x v => Host.reduceAdd x v reducesTo_S1x1280_S1280_d0 h_S_) : (⟨S1x1280, .f32⟩ : BufTy).Contents (Elt F) → (⟨S_, .f32⟩ : BufTy).Contents (Elt F) → (⟨S1280, .f32⟩ : BufTy).Contents (Elt F)),
  StableHlo.unary main_v205 main_v206 (broadcastInDim S1x1280 ![1] bcast_S1280_S1x1280_1 : (⟨S1280, .f32⟩ : BufTy).Contents (Elt F) → (⟨S1x1280, .f32⟩ : BufTy).Contents (Elt F)),
  StableHlo.nullary main_cst_48 (constant S_ .f32 0x00000000#32),
  StableHlo.binary main_v206 main_cst_48 main_v207 ((fun x v => pad S4x1280 ![0, 0] ![3, 0] ![0, 0] x v pads_S1x1280_S4x1280_030_000 h_S_) : (⟨S1x1280, .f32⟩ : BufTy).Contents (Elt F) → (⟨S_, .f32⟩ : BufTy).Contents (Elt F) → (⟨S4x1280, .f32⟩ : BufTy).Contents (Elt F)),
  StableHlo.binary main_v195 main_v207 main_v208 (addf : (⟨S4x1280, .f32⟩ : BufTy).Contents (Elt F) → (⟨S4x1280, .f32⟩ : BufTy).Contents (Elt F) → (⟨S4x1280, .f32⟩ : BufTy).Contents (Elt F)),
  StableHlo.nullary main_cst_49 (constant S_ .f32 0x00000000#32),
  StableHlo.binary main_v204 main_cst_49 main_v209 ((fun x v => pad S4099x1280 ![0, 0] ![3, 0] ![0, 0] x v pads_S4096x1280_S4099x1280_030_000 h_S_) : (⟨S4096x1280, .f32⟩ : BufTy).Contents (Elt F) → (⟨S_, .f32⟩ : BufTy).Contents (Elt F) → (⟨S4099x1280, .f32⟩ : BufTy).Contents (Elt F)),
  StableHlo.binary main_v197 main_v209 main_v210 (addf : (⟨S4099x1280, .f32⟩ : BufTy).Contents (Elt F) → (⟨S4099x1280, .f32⟩ : BufTy).Contents (Elt F) → (⟨S4099x1280, .f32⟩ : BufTy).Contents (Elt F)),
  StableHlo.unary main_v210 main_v211 ((extractStridedSlice S3x1280 ![0, 0] · slices_S4099x1280_S3x1280_0_0) : (⟨S4099x1280, .f32⟩ : BufTy).Contents (Elt F) → (⟨S3x1280, .f32⟩ : BufTy).Contents (Elt F)),
  StableHlo.unary main_v210 main_v212 ((extractStridedSlice S4096x1280 ![3, 0] · slices_S4099x1280_S4096x1280_3_0) : (⟨S4099x1280, .f32⟩ : BufTy).Contents (Elt F) → (⟨S4096x1280, .f32⟩ : BufTy).Contents (Elt F)),
  StableHlo.unary main_v212 main_v213 ((truncf .bf16 · bitsLt_bf16_f32) : (⟨S4096x1280, .f32⟩ : BufTy).Contents (Elt F) → (⟨S4096x1280, .bf16⟩ : BufTy).Contents (Elt F)),
  StableHlo.unary main_v121 main_v214 ((truncf .bf16 · bitsLt_bf16_f32) : (⟨S4096x1280, .f32⟩ : BufTy).Contents (Elt F) → (⟨S4096x1280, .bf16⟩ : BufTy).Contents (Elt F)) ]
/-- The references that `opsTapC` writes. -/
abbrev opsTapC_W : List (Ref sig .tc) := [main_cst_45, main_v198, main_v199, main_v200, main_cst_46, main_v201, main_v202, main_v203, main_v204, main_cst_47, main_v205, main_v206, main_cst_48, main_v207, main_v208, main_cst_49, main_v209, main_v210, main_v211, main_v212, main_v213, main_v214]
theorem opsTapC_sub : (opsTapC : List (HloOp τ sig (Elt F))).Forall fun op => op.bufs ⊆ StableHlo.tcRefs τ sig :=
  ⟨StableHlo.nullary_bufs_sub .., StableHlo.binary_bufs_sub .., StableHlo.reshape_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.binary_bufs_sub .., StableHlo.nullary_bufs_sub .., StableHlo.binary_bufs_sub .., StableHlo.binary_bufs_sub .., StableHlo.unary_bufs_sub .., StableHlo.unary_bufs_sub .., StableHlo.unary_bufs_sub .., StableHlo.unary_bufs_sub ..⟩
theorem opsTapC_fresh : (opsTapC : List (HloOp τ sig (Elt F))).Forall fun op => op.fresh = ∅ :=
  StableHlo.forall_fresh_of_map rfl
theorem opsTapC_writes : (opsTapC : List (HloOp τ sig (Elt F))).Forall fun op => op.writes ⊆ (opsTapC_W.map (Proc.devRef (τ := τ) .tc)).toFinset :=
  StableHlo.forall_writes_sub_of_map rfl

/-- Reads this step's decay. -/
abbrev trip0A : List (HloOp τ sig (Elt F)) := [
  StableHlo.TRef.nullary (.of main_while0b_call1_c : StableHlo.TRef sig ⟨S_, .i32⟩) (constantI S_ 32 0#32),
  StableHlo.TRef.unaryIndexed (.of main_v83_0 : StableHlo.TRef sig ⟨S4096x1280, .f32⟩) ![(.of main_v83_2 : StableHlo.TRef sig ⟨S_, .i32⟩), (.of main_while0b_call1_c : StableHlo.TRef sig ⟨S_, .i32⟩)] (.of main_while0b_call1_v0 : StableHlo.TRef sig ⟨S1x1280, .f32⟩) (fun x i => Host.dynamicSlice S1x1280 x (fun k => (i k (Shape.Idx.first h_S_)).toInt) sliceFits_S4096x1280_S1x1280),
  StableHlo.TRef.reshape (.of main_while0b_call1_v0 : StableHlo.TRef sig ⟨S1x1280, .f32⟩) (.of main_while0b_v215 : StableHlo.TRef sig ⟨S1280, .f32⟩) (rfl : (.f32 : EltTy) = .f32) shapeCasts_S1x1280_S1280 ]
/-- The references that `trip0A` writes. -/
abbrev trip0A_W : List (Ref sig .tc) := [main_while0b_call1_c, main_while0b_call1_v0, main_while0b_v215]
theorem trip0A_sub : (trip0A : List (HloOp τ sig (Elt F))).Forall fun op => op.bufs ⊆ StableHlo.tcRefs τ sig :=
  ⟨StableHlo.nullary_bufs_sub .., StableHlo.unaryIndexed_bufs_sub .., StableHlo.reshape_bufs_sub ..⟩
theorem trip0A_fresh : (trip0A : List (HloOp τ sig (Elt F))).Forall fun op => op.fresh = ∅ :=
  StableHlo.forall_fresh_of_map rfl
theorem trip0A_writes : (trip0A : List (HloOp τ sig (Elt F))).Forall fun op => op.writes ⊆ (trip0A_W.map (Proc.devRef (τ := τ) .tc)).toFinset :=
  StableHlo.forall_writes_sub_of_map rfl

/-- Reads this step's input. -/
abbrev trip0B : List (HloOp τ sig (Elt F)) := [
  StableHlo.TRef.nullary (.of main_while0b_call2_c : StableHlo.TRef sig ⟨S_, .i32⟩) (constantI S_ 32 0#32),
  StableHlo.TRef.unaryIndexed (.of main_v83_1 : StableHlo.TRef sig ⟨S4096x1280, .f32⟩) ![(.of main_v83_2 : StableHlo.TRef sig ⟨S_, .i32⟩), (.of main_while0b_call2_c : StableHlo.TRef sig ⟨S_, .i32⟩)] (.of main_while0b_call2_v0 : StableHlo.TRef sig ⟨S1x1280, .f32⟩) (fun x i => Host.dynamicSlice S1x1280 x (fun k => (i k (Shape.Idx.first h_S_)).toInt) sliceFits_S4096x1280_S1x1280),
  StableHlo.TRef.reshape (.of main_while0b_call2_v0 : StableHlo.TRef sig ⟨S1x1280, .f32⟩) (.of main_while0b_v216 : StableHlo.TRef sig ⟨S1280, .f32⟩) (rfl : (.f32 : EltTy) = .f32) shapeCasts_S1x1280_S1280 ]
/-- The references that `trip0B` writes. -/
abbrev trip0B_W : List (Ref sig .tc) := [main_while0b_call2_c, main_while0b_call2_v0, main_while0b_v216]
theorem trip0B_sub : (trip0B : List (HloOp τ sig (Elt F))).Forall fun op => op.bufs ⊆ StableHlo.tcRefs τ sig :=
  ⟨StableHlo.nullary_bufs_sub .., StableHlo.unaryIndexed_bufs_sub .., StableHlo.reshape_bufs_sub ..⟩
theorem trip0B_fresh : (trip0B : List (HloOp τ sig (Elt F))).Forall fun op => op.fresh = ∅ :=
  StableHlo.forall_fresh_of_map rfl
theorem trip0B_writes : (trip0B : List (HloOp τ sig (Elt F))).Forall fun op => op.writes ⊆ (trip0B_W.map (Proc.devRef (τ := τ) .tc)).toFinset :=
  StableHlo.forall_writes_sub_of_map rfl

/-- One step of the recurrence. -/
abbrev trip0C : List (HloOp τ sig (Elt F)) := [
  StableHlo.binary main_while0b_v215 main_v83_3 main_while0b_v217 (mulf : (⟨S1280, .f32⟩ : BufTy).Contents (Elt F) → (⟨S1280, .f32⟩ : BufTy).Contents (Elt F) → (⟨S1280, .f32⟩ : BufTy).Contents (Elt F)),
  StableHlo.binary main_while0b_v217 main_while0b_v216 main_while0b_v218 (addf : (⟨S1280, .f32⟩ : BufTy).Contents (Elt F) → (⟨S1280, .f32⟩ : BufTy).Contents (Elt F) → (⟨S1280, .f32⟩ : BufTy).Contents (Elt F)) ]
/-- The references that `trip0C` writes. -/
abbrev trip0C_W : List (Ref sig .tc) := [main_while0b_v217, main_while0b_v218]
theorem trip0C_sub : (trip0C : List (HloOp τ sig (Elt F))).Forall fun op => op.bufs ⊆ StableHlo.tcRefs τ sig :=
  ⟨StableHlo.binary_bufs_sub .., StableHlo.binary_bufs_sub ..⟩
theorem trip0C_fresh : (trip0C : List (HloOp τ sig (Elt F))).Forall fun op => op.fresh = ∅ :=
  StableHlo.forall_fresh_of_map rfl
theorem trip0C_writes : (trip0C : List (HloOp τ sig (Elt F))).Forall fun op => op.writes ⊆ (trip0C_W.map (Proc.devRef (τ := τ) .tc)).toFinset :=
  StableHlo.forall_writes_sub_of_map rfl

/-- Stores the new state. -/
abbrev trip0D : List (HloOp τ sig (Elt F)) := [
  StableHlo.TRef.unary (.of main_while0b_v218 : StableHlo.TRef sig ⟨S1280, .f32⟩) (.of main_while0b_call3_v0 : StableHlo.TRef sig ⟨S1x1280, .f32⟩) (broadcastInDim S1x1280 ![1] bcast_S1280_S1x1280_1),
  StableHlo.TRef.nullary (.of main_while0b_call3_c : StableHlo.TRef sig ⟨S_, .i32⟩) (constantI S_ 32 0#32),
  StableHlo.TRef.binaryIndexed (.of main_v83_4 : StableHlo.TRef sig ⟨S4096x1280, .f32⟩) (.of main_while0b_call3_v0 : StableHlo.TRef sig ⟨S1x1280, .f32⟩) ![(.of main_v83_2 : StableHlo.TRef sig ⟨S_, .i32⟩), (.of main_while0b_call3_c : StableHlo.TRef sig ⟨S_, .i32⟩)] (.of main_while0b_v219 : StableHlo.TRef sig ⟨S4096x1280, .f32⟩) (fun x u i => Host.dynamicUpdateSlice x u (fun k => (i k (Shape.Idx.first h_S_)).toInt) updateFits_S4096x1280_S1x1280) ]
/-- The references that `trip0D` writes. -/
abbrev trip0D_W : List (Ref sig .tc) := [main_while0b_call3_v0, main_while0b_call3_c, main_while0b_v219]
theorem trip0D_sub : (trip0D : List (HloOp τ sig (Elt F))).Forall fun op => op.bufs ⊆ StableHlo.tcRefs τ sig :=
  ⟨StableHlo.unary_bufs_sub .., StableHlo.nullary_bufs_sub .., StableHlo.binaryIndexed_bufs_sub ..⟩
theorem trip0D_fresh : (trip0D : List (HloOp τ sig (Elt F))).Forall fun op => op.fresh = ∅ :=
  StableHlo.forall_fresh_of_map rfl
theorem trip0D_writes : (trip0D : List (HloOp τ sig (Elt F))).Forall fun op => op.writes ⊆ (trip0D_W.map (Proc.devRef (τ := τ) .tc)).toFinset :=
  StableHlo.forall_writes_sub_of_map rfl

/-- Stores the state before it. -/
abbrev trip0E : List (HloOp τ sig (Elt F)) := [
  StableHlo.TRef.unary (.of main_v83_3 : StableHlo.TRef sig ⟨S1280, .f32⟩) (.of main_while0b_call4_v0 : StableHlo.TRef sig ⟨S1x1280, .f32⟩) (broadcastInDim S1x1280 ![1] bcast_S1280_S1x1280_1),
  StableHlo.TRef.nullary (.of main_while0b_call4_c : StableHlo.TRef sig ⟨S_, .i32⟩) (constantI S_ 32 0#32),
  StableHlo.TRef.binaryIndexed (.of main_v83_5 : StableHlo.TRef sig ⟨S4096x1280, .f32⟩) (.of main_while0b_call4_v0 : StableHlo.TRef sig ⟨S1x1280, .f32⟩) ![(.of main_v83_2 : StableHlo.TRef sig ⟨S_, .i32⟩), (.of main_while0b_call4_c : StableHlo.TRef sig ⟨S_, .i32⟩)] (.of main_while0b_v220 : StableHlo.TRef sig ⟨S4096x1280, .f32⟩) (fun x u i => Host.dynamicUpdateSlice x u (fun k => (i k (Shape.Idx.first h_S_)).toInt) updateFits_S4096x1280_S1x1280) ]
/-- The references that `trip0E` writes. -/
abbrev trip0E_W : List (Ref sig .tc) := [main_while0b_call4_v0, main_while0b_call4_c, main_while0b_v220]
theorem trip0E_sub : (trip0E : List (HloOp τ sig (Elt F))).Forall fun op => op.bufs ⊆ StableHlo.tcRefs τ sig :=
  ⟨StableHlo.unary_bufs_sub .., StableHlo.nullary_bufs_sub .., StableHlo.binaryIndexed_bufs_sub ..⟩
theorem trip0E_fresh : (trip0E : List (HloOp τ sig (Elt F))).Forall fun op => op.fresh = ∅ :=
  StableHlo.forall_fresh_of_map rfl
theorem trip0E_writes : (trip0E : List (HloOp τ sig (Elt F))).Forall fun op => op.writes ⊆ (trip0E_W.map (Proc.devRef (τ := τ) .tc)).toFinset :=
  StableHlo.forall_writes_sub_of_map rfl

/-- The counter and the loop values move on. -/
abbrev trip0F : List (HloOp τ sig (Elt F)) := [
  StableHlo.nullary main_while0b_c_55 (constantI S_ 32 1#32),
  StableHlo.binary main_v83_2 main_while0b_c_55 main_while0b_v221 (addi : (⟨S_, .i32⟩ : BufTy).Contents (Elt F) → (⟨S_, .i32⟩ : BufTy).Contents (Elt F) → (⟨S_, .i32⟩ : BufTy).Contents (Elt F)),
  StableHlo.unary main_while0b_v221 main_v83_2 id,
  StableHlo.unary main_while0b_v218 main_v83_3 id,
  StableHlo.unary main_while0b_v219 main_v83_4 id,
  StableHlo.unary main_while0b_v220 main_v83_5 id ]
/-- The references that `trip0F` writes. -/
abbrev trip0F_W : List (Ref sig .tc) := [main_while0b_c_55, main_while0b_v221, main_v83_2, main_v83_3, main_v83_4, main_v83_5]
theorem trip0F_sub : (trip0F : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem trip0F_fresh : (trip0F : List (HloOp τ sig (Elt F))).Forall fun op => op.fresh = ∅ :=
  StableHlo.forall_fresh_of_map rfl
theorem trip0F_writes : (trip0F : List (HloOp τ sig (Elt F))).Forall fun op => op.writes ⊆ (trip0F_W.map (Proc.devRef (τ := τ) .tc)).toFinset :=
  StableHlo.forall_writes_sub_of_map rfl

/-- The row that this trip handles. -/
abbrev trip1A : List (HloOp τ sig (Elt F)) := [
  StableHlo.nullary main_while1b_c_56 (constantI S_ 32 4096#32),
  StableHlo.binary main_while1b_c_56 main_v125_3 main_while1b_v215 (subi : (⟨S_, .i32⟩ : BufTy).Contents (Elt F) → (⟨S_, .i32⟩ : BufTy).Contents (Elt F) → (⟨S_, .i32⟩ : BufTy).Contents (Elt F)),
  StableHlo.nullary main_while1b_c_57 (constantI S_ 32 1#32),
  StableHlo.binary main_while1b_v215 main_while1b_c_57 main_while1b_v216 (subi : (⟨S_, .i32⟩ : BufTy).Contents (Elt F) → (⟨S_, .i32⟩ : BufTy).Contents (Elt F) → (⟨S_, .i32⟩ : BufTy).Contents (Elt F)) ]
/-- The references that `trip1A` writes. -/
abbrev trip1A_W : List (Ref sig .tc) := [main_while1b_c_56, main_while1b_v215, main_while1b_c_57, main_while1b_v216]
theorem trip1A_sub : (trip1A : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem trip1A_fresh : (trip1A : List (HloOp τ sig (Elt F))).Forall fun op => op.fresh = ∅ :=
  StableHlo.forall_fresh_of_map rfl
theorem trip1A_writes : (trip1A : List (HloOp τ sig (Elt F))).Forall fun op => op.writes ⊆ (trip1A_W.map (Proc.devRef (τ := τ) .tc)).toFinset :=
  StableHlo.forall_writes_sub_of_map rfl

/-- Reads its cotangent. -/
abbrev trip1B : List (HloOp τ sig (Elt F)) := [
  StableHlo.TRef.nullary (.of main_while1b_call5_c : StableHlo.TRef sig ⟨S_, .i32⟩) (constantI S_ 32 0#32),
  StableHlo.TRef.unaryIndexed (.of main_v125_0 : StableHlo.TRef sig ⟨S4096x1280, .f32⟩) ![(.of main_while1b_v216 : StableHlo.TRef sig ⟨S_, .i32⟩), (.of main_while1b_call5_c : StableHlo.TRef sig ⟨S_, .i32⟩)] (.of main_while1b_call5_v0 : StableHlo.TRef sig ⟨S1x1280, .f32⟩) (fun x i => Host.dynamicSlice S1x1280 x (fun k => (i k (Shape.Idx.first h_S_)).toInt) sliceFits_S4096x1280_S1x1280),
  StableHlo.TRef.reshape (.of main_while1b_call5_v0 : StableHlo.TRef sig ⟨S1x1280, .f32⟩) (.of main_while1b_v217 : StableHlo.TRef sig ⟨S1280, .f32⟩) (rfl : (.f32 : EltTy) = .f32) shapeCasts_S1x1280_S1280 ]
/-- The references that `trip1B` writes. -/
abbrev trip1B_W : List (Ref sig .tc) := [main_while1b_call5_c, main_while1b_call5_v0, main_while1b_v217]
theorem trip1B_sub : (trip1B : List (HloOp τ sig (Elt F))).Forall fun op => op.bufs ⊆ StableHlo.tcRefs τ sig :=
  ⟨StableHlo.nullary_bufs_sub .., StableHlo.unaryIndexed_bufs_sub .., StableHlo.reshape_bufs_sub ..⟩
theorem trip1B_fresh : (trip1B : List (HloOp τ sig (Elt F))).Forall fun op => op.fresh = ∅ :=
  StableHlo.forall_fresh_of_map rfl
theorem trip1B_writes : (trip1B : List (HloOp τ sig (Elt F))).Forall fun op => op.writes ⊆ (trip1B_W.map (Proc.devRef (τ := τ) .tc)).toFinset :=
  StableHlo.forall_writes_sub_of_map rfl

/-- Reads the state before it. -/
abbrev trip1C : List (HloOp τ sig (Elt F)) := [
  StableHlo.TRef.nullary (.of main_while1b_call6_c : StableHlo.TRef sig ⟨S_, .i32⟩) (constantI S_ 32 0#32),
  StableHlo.TRef.unaryIndexed (.of main_v125_1 : StableHlo.TRef sig ⟨S4096x1280, .f32⟩) ![(.of main_while1b_v216 : StableHlo.TRef sig ⟨S_, .i32⟩), (.of main_while1b_call6_c : StableHlo.TRef sig ⟨S_, .i32⟩)] (.of main_while1b_call6_v0 : StableHlo.TRef sig ⟨S1x1280, .f32⟩) (fun x i => Host.dynamicSlice S1x1280 x (fun k => (i k (Shape.Idx.first h_S_)).toInt) sliceFits_S4096x1280_S1x1280),
  StableHlo.TRef.reshape (.of main_while1b_call6_v0 : StableHlo.TRef sig ⟨S1x1280, .f32⟩) (.of main_while1b_v218 : StableHlo.TRef sig ⟨S1280, .f32⟩) (rfl : (.f32 : EltTy) = .f32) shapeCasts_S1x1280_S1280 ]
/-- The references that `trip1C` writes. -/
abbrev trip1C_W : List (Ref sig .tc) := [main_while1b_call6_c, main_while1b_call6_v0, main_while1b_v218]
theorem trip1C_sub : (trip1C : List (HloOp τ sig (Elt F))).Forall fun op => op.bufs ⊆ StableHlo.tcRefs τ sig :=
  ⟨StableHlo.nullary_bufs_sub .., StableHlo.unaryIndexed_bufs_sub .., StableHlo.reshape_bufs_sub ..⟩
theorem trip1C_fresh : (trip1C : List (HloOp τ sig (Elt F))).Forall fun op => op.fresh = ∅ :=
  StableHlo.forall_fresh_of_map rfl
theorem trip1C_writes : (trip1C : List (HloOp τ sig (Elt F))).Forall fun op => op.writes ⊆ (trip1C_W.map (Proc.devRef (τ := τ) .tc)).toFinset :=
  StableHlo.forall_writes_sub_of_map rfl

/-- Reads its decay. -/
abbrev trip1D : List (HloOp τ sig (Elt F)) := [
  StableHlo.TRef.nullary (.of main_while1b_call7_c : StableHlo.TRef sig ⟨S_, .i32⟩) (constantI S_ 32 0#32),
  StableHlo.TRef.unaryIndexed (.of main_v125_2 : StableHlo.TRef sig ⟨S4096x1280, .f32⟩) ![(.of main_while1b_v216 : StableHlo.TRef sig ⟨S_, .i32⟩), (.of main_while1b_call7_c : StableHlo.TRef sig ⟨S_, .i32⟩)] (.of main_while1b_call7_v0 : StableHlo.TRef sig ⟨S1x1280, .f32⟩) (fun x i => Host.dynamicSlice S1x1280 x (fun k => (i k (Shape.Idx.first h_S_)).toInt) sliceFits_S4096x1280_S1x1280),
  StableHlo.TRef.reshape (.of main_while1b_call7_v0 : StableHlo.TRef sig ⟨S1x1280, .f32⟩) (.of main_while1b_v219 : StableHlo.TRef sig ⟨S1280, .f32⟩) (rfl : (.f32 : EltTy) = .f32) shapeCasts_S1x1280_S1280 ]
/-- The references that `trip1D` writes. -/
abbrev trip1D_W : List (Ref sig .tc) := [main_while1b_call7_c, main_while1b_call7_v0, main_while1b_v219]
theorem trip1D_sub : (trip1D : List (HloOp τ sig (Elt F))).Forall fun op => op.bufs ⊆ StableHlo.tcRefs τ sig :=
  ⟨StableHlo.nullary_bufs_sub .., StableHlo.unaryIndexed_bufs_sub .., StableHlo.reshape_bufs_sub ..⟩
theorem trip1D_fresh : (trip1D : List (HloOp τ sig (Elt F))).Forall fun op => op.fresh = ∅ :=
  StableHlo.forall_fresh_of_map rfl
theorem trip1D_writes : (trip1D : List (HloOp τ sig (Elt F))).Forall fun op => op.writes ⊆ (trip1D_W.map (Proc.devRef (τ := τ) .tc)).toFinset :=
  StableHlo.forall_writes_sub_of_map rfl

/-- One step back. -/
abbrev trip1E : List (HloOp τ sig (Elt F)) := [
  StableHlo.binary main_v125_4 main_while1b_v217 main_while1b_v220 (addf : (⟨S1280, .f32⟩ : BufTy).Contents (Elt F) → (⟨S1280, .f32⟩ : BufTy).Contents (Elt F) → (⟨S1280, .f32⟩ : BufTy).Contents (Elt F)),
  StableHlo.binary main_while1b_v219 main_while1b_v220 main_while1b_v221 (mulf : (⟨S1280, .f32⟩ : BufTy).Contents (Elt F) → (⟨S1280, .f32⟩ : BufTy).Contents (Elt F) → (⟨S1280, .f32⟩ : BufTy).Contents (Elt F)),
  StableHlo.binary main_while1b_v220 main_while1b_v218 main_while1b_v222 (mulf : (⟨S1280, .f32⟩ : BufTy).Contents (Elt F) → (⟨S1280, .f32⟩ : BufTy).Contents (Elt F) → (⟨S1280, .f32⟩ : BufTy).Contents (Elt F)) ]
/-- The references that `trip1E` writes. -/
abbrev trip1E_W : List (Ref sig .tc) := [main_while1b_v220, main_while1b_v221, main_while1b_v222]
theorem trip1E_sub : (trip1E : List (HloOp τ sig (Elt F))).Forall fun op => op.bufs ⊆ StableHlo.tcRefs τ sig :=
  ⟨StableHlo.binary_bufs_sub .., StableHlo.binary_bufs_sub .., StableHlo.binary_bufs_sub ..⟩
theorem trip1E_fresh : (trip1E : List (HloOp τ sig (Elt F))).Forall fun op => op.fresh = ∅ :=
  StableHlo.forall_fresh_of_map rfl
theorem trip1E_writes : (trip1E : List (HloOp τ sig (Elt F))).Forall fun op => op.writes ⊆ (trip1E_W.map (Proc.devRef (τ := τ) .tc)).toFinset :=
  StableHlo.forall_writes_sub_of_map rfl

/-- Stores the gradient of the decay. -/
abbrev trip1F : List (HloOp τ sig (Elt F)) := [
  StableHlo.TRef.unary (.of main_while1b_v222 : StableHlo.TRef sig ⟨S1280, .f32⟩) (.of main_while1b_call8_v0 : StableHlo.TRef sig ⟨S1x1280, .f32⟩) (broadcastInDim S1x1280 ![1] bcast_S1280_S1x1280_1),
  StableHlo.TRef.nullary (.of main_while1b_call8_c : StableHlo.TRef sig ⟨S_, .i32⟩) (constantI S_ 32 0#32),
  StableHlo.TRef.binaryIndexed (.of main_v125_5 : StableHlo.TRef sig ⟨S4096x1280, .f32⟩) (.of main_while1b_call8_v0 : StableHlo.TRef sig ⟨S1x1280, .f32⟩) ![(.of main_while1b_v216 : StableHlo.TRef sig ⟨S_, .i32⟩), (.of main_while1b_call8_c : StableHlo.TRef sig ⟨S_, .i32⟩)] (.of main_while1b_v223 : StableHlo.TRef sig ⟨S4096x1280, .f32⟩) (fun x u i => Host.dynamicUpdateSlice x u (fun k => (i k (Shape.Idx.first h_S_)).toInt) updateFits_S4096x1280_S1x1280) ]
/-- The references that `trip1F` writes. -/
abbrev trip1F_W : List (Ref sig .tc) := [main_while1b_call8_v0, main_while1b_call8_c, main_while1b_v223]
theorem trip1F_sub : (trip1F : List (HloOp τ sig (Elt F))).Forall fun op => op.bufs ⊆ StableHlo.tcRefs τ sig :=
  ⟨StableHlo.unary_bufs_sub .., StableHlo.nullary_bufs_sub .., StableHlo.binaryIndexed_bufs_sub ..⟩
theorem trip1F_fresh : (trip1F : List (HloOp τ sig (Elt F))).Forall fun op => op.fresh = ∅ :=
  StableHlo.forall_fresh_of_map rfl
theorem trip1F_writes : (trip1F : List (HloOp τ sig (Elt F))).Forall fun op => op.writes ⊆ (trip1F_W.map (Proc.devRef (τ := τ) .tc)).toFinset :=
  StableHlo.forall_writes_sub_of_map rfl

/-- Stores the gradient of the input. -/
abbrev trip1G : List (HloOp τ sig (Elt F)) := [
  StableHlo.TRef.unary (.of main_while1b_v220 : StableHlo.TRef sig ⟨S1280, .f32⟩) (.of main_while1b_call9_v0 : StableHlo.TRef sig ⟨S1x1280, .f32⟩) (broadcastInDim S1x1280 ![1] bcast_S1280_S1x1280_1),
  StableHlo.TRef.nullary (.of main_while1b_call9_c : StableHlo.TRef sig ⟨S_, .i32⟩) (constantI S_ 32 0#32),
  StableHlo.TRef.binaryIndexed (.of main_v125_6 : StableHlo.TRef sig ⟨S4096x1280, .f32⟩) (.of main_while1b_call9_v0 : StableHlo.TRef sig ⟨S1x1280, .f32⟩) ![(.of main_while1b_v216 : StableHlo.TRef sig ⟨S_, .i32⟩), (.of main_while1b_call9_c : StableHlo.TRef sig ⟨S_, .i32⟩)] (.of main_while1b_v224 : StableHlo.TRef sig ⟨S4096x1280, .f32⟩) (fun x u i => Host.dynamicUpdateSlice x u (fun k => (i k (Shape.Idx.first h_S_)).toInt) updateFits_S4096x1280_S1x1280) ]
/-- The references that `trip1G` writes. -/
abbrev trip1G_W : List (Ref sig .tc) := [main_while1b_call9_v0, main_while1b_call9_c, main_while1b_v224]
theorem trip1G_sub : (trip1G : List (HloOp τ sig (Elt F))).Forall fun op => op.bufs ⊆ StableHlo.tcRefs τ sig :=
  ⟨StableHlo.unary_bufs_sub .., StableHlo.nullary_bufs_sub .., StableHlo.binaryIndexed_bufs_sub ..⟩
theorem trip1G_fresh : (trip1G : List (HloOp τ sig (Elt F))).Forall fun op => op.fresh = ∅ :=
  StableHlo.forall_fresh_of_map rfl
theorem trip1G_writes : (trip1G : List (HloOp τ sig (Elt F))).Forall fun op => op.writes ⊆ (trip1G_W.map (Proc.devRef (τ := τ) .tc)).toFinset :=
  StableHlo.forall_writes_sub_of_map rfl

/-- The counter and the loop values move on. -/
abbrev trip1H : List (HloOp τ sig (Elt F)) := [
  StableHlo.nullary main_while1b_c_58 (constantI S_ 32 1#32),
  StableHlo.binary main_v125_3 main_while1b_c_58 main_while1b_v225 (addi : (⟨S_, .i32⟩ : BufTy).Contents (Elt F) → (⟨S_, .i32⟩ : BufTy).Contents (Elt F) → (⟨S_, .i32⟩ : BufTy).Contents (Elt F)),
  StableHlo.unary main_while1b_v225 main_v125_3 id,
  StableHlo.unary main_while1b_v221 main_v125_4 id,
  StableHlo.unary main_while1b_v223 main_v125_5 id,
  StableHlo.unary main_while1b_v224 main_v125_6 id ]
/-- The references that `trip1H` writes. -/
abbrev trip1H_W : List (Ref sig .tc) := [main_while1b_c_58, main_while1b_v225, main_v125_3, main_v125_4, main_v125_5, main_v125_6]
theorem trip1H_sub : (trip1H : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem trip1H_fresh : (trip1H : List (HloOp τ sig (Elt F))).Forall fun op => op.fresh = ∅ :=
  StableHlo.forall_fresh_of_map rfl
theorem trip1H_writes : (trip1H : List (HloOp τ sig (Elt F))).Forall fun op => op.writes ⊆ (trip1H_W.map (Proc.devRef (τ := τ) .tc)).toFinset :=
  StableHlo.forall_writes_sub_of_map rfl

/-- The condition: the counter is below 4096. -/
abbrev cond0 : List (HloOp τ sig (Elt F)) := [
  StableHlo.nullary main_while0c_c_55 (constantI S_ 32 4096#32),
  StableHlo.binary main_v83_2 main_while0c_c_55 main_while0c_v215 (cmpi .slt) ]
/-- The references that `cond0` writes. -/
abbrev cond0_W : List (Ref sig .tc) := [main_while0c_c_55, main_while0c_v215]
theorem cond0_sub : (cond0 : List (HloOp τ sig (Elt F))).Forall fun op => op.bufs ⊆ StableHlo.tcRefs τ sig :=
  ⟨StableHlo.nullary_bufs_sub .., StableHlo.binary_bufs_sub ..⟩
theorem cond0_fresh : (cond0 : List (HloOp τ sig (Elt F))).Forall fun op => op.fresh = ∅ :=
  StableHlo.forall_fresh_of_map rfl
theorem cond0_writes : (cond0 : List (HloOp τ sig (Elt F))).Forall fun op => op.writes ⊆ (cond0_W.map (Proc.devRef (τ := τ) .tc)).toFinset :=
  StableHlo.forall_writes_sub_of_map rfl

/-- The condition: the counter is below 4096. -/
abbrev cond1 : List (HloOp τ sig (Elt F)) := [
  StableHlo.nullary main_while1c_c_56 (constantI S_ 32 4096#32),
  StableHlo.binary main_v125_3 main_while1c_c_56 main_while1c_v215 (cmpi .slt) ]
/-- The references that `cond1` writes. -/
abbrev cond1_W : List (Ref sig .tc) := [main_while1c_c_56, main_while1c_v215]
theorem cond1_sub : (cond1 : List (HloOp τ sig (Elt F))).Forall fun op => op.bufs ⊆ StableHlo.tcRefs τ sig :=
  ⟨StableHlo.nullary_bufs_sub .., StableHlo.binary_bufs_sub ..⟩
theorem cond1_fresh : (cond1 : List (HloOp τ sig (Elt F))).Forall fun op => op.fresh = ∅ :=
  StableHlo.forall_fresh_of_map rfl
theorem cond1_writes : (cond1 : List (HloOp τ sig (Elt F))).Forall fun op => op.writes ⊆ (cond1_W.map (Proc.devRef (τ := τ) .tc)).toFinset :=
  StableHlo.forall_writes_sub_of_map rfl

theorem main_part0_pieces (c : Dev nD) : main_part0 (F := F) c = (Pipeline.chainK [StableHlo.seq opsConv]
  (StableHlo.seq opsGates) : Prog (TpuEff nD τ sig (Elt F) (HostLoop.Sig (Pipeline.Sig Λ₀ (Fin 0) fun p => (pcfgs (F := F) p).Adm) 2) .tc) PUnit) := by
  chain_rfl
theorem main_part1_pieces (c : Dev nD) : main_part1 (F := F) c = (Pipeline.chainK [StableHlo.seq opsGate2, StableHlo.seq opsSoftplus, StableHlo.seq opsSoftplusD, StableHlo.seq opsDecay, HostLoop.enter 0]
  (StableHlo.seq opsGelu) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl
theorem main_part2_pieces (c : Dev nD) : main_part2 (F := F) c = (Pipeline.chainK [StableHlo.seq opsOut, StableHlo.seq opsStart, HostLoop.enter 1]
  (StableHlo.seq opsMult) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl
theorem main_part3_pieces (c : Dev nD) : main_part3 (F := F) c = (Pipeline.chainK [StableHlo.seq opsLam, StableHlo.seq opsLamS, StableHlo.seq opsGateB]
  (StableHlo.seq opsTapA) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl
theorem main_part4_pieces (c : Dev nD) : main_part4 (F := F) c = (Pipeline.chain [StableHlo.seq opsTapB, StableHlo.seq opsTapC] : Prog (TpuEff nD τ sig (Elt F) (HostLoop.Sig (Pipeline.Sig Λ₀ (Fin 0) fun p => (pcfgs (F := F) p).Adm) 2) .tc) PUnit) := by
  rewrite [StableHlo.chain_seq_cons]
  chain_rfl
/-- The program is its stretches of operations and its two loops, in order. -/
theorem main_pieces (c : Dev nD) : main (F := F) c = (Pipeline.chain [StableHlo.seq opsConv, StableHlo.seq opsGates, StableHlo.seq opsGate2, StableHlo.seq opsSoftplus, StableHlo.seq opsSoftplusD, StableHlo.seq opsDecay, HostLoop.enter 0, StableHlo.seq opsGelu, StableHlo.seq opsOut, StableHlo.seq opsStart, HostLoop.enter 1, StableHlo.seq opsMult, StableHlo.seq opsLam, StableHlo.seq opsLamS, StableHlo.seq opsGateB, StableHlo.seq opsTapA, StableHlo.seq opsTapB, StableHlo.seq opsTapC] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c) = _
  rewrite [main_part4_pieces, main_part3_pieces, Pipeline.chainK_bind_chain, main_part2_pieces, Pipeline.chainK_bind_chain, main_part1_pieces, Pipeline.chainK_bind_chain, main_part0_pieces, Pipeline.chainK_bind_chain]
  chain_rfl
theorem body0_pieces : main_while0_body (F := F) = (Pipeline.chain [StableHlo.seq trip0A, StableHlo.seq trip0B, StableHlo.seq trip0C, StableHlo.seq trip0D, StableHlo.seq trip0E, StableHlo.seq trip0F] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl
theorem body1_pieces : main_while1_body (F := F) = (Pipeline.chain [StableHlo.seq trip1A, StableHlo.seq trip1B, StableHlo.seq trip1C, StableHlo.seq trip1D, StableHlo.seq trip1E, StableHlo.seq trip1F, StableHlo.seq trip1G, StableHlo.seq trip1H] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl

end Cert.Lru.Ref

end
-- ==== Proof.RPre.lean ====
/- The values of the reference before its first loop: the convolution, the gates, the decay and the loop's input. -/
module

public import proofs.«01_k».proof.Proof.RShape
public import proofs.«01_k».proof.Proof.ROps

@[expose] public section

set_option maxRecDepth 16384

noncomputable section

namespace Cert.Lru.Ref

open Cert.ReferenceIdeal Cert.ReferenceIdeal.Gen
open Idealize.ShloMosaic Idealize.ShloMosaic.TcCoe Idealize.ShloMosaic.Tactic
open Idealize.SL.Sem Idealize.ShloMosaic.StableHlo

variable (S : ℕ → Head) (X : Valuation τ sig (Elt Ideal))

/-! ## The convolution -/

theorem conv_y (hy : extractStridedSlice S4096x1280 ![0, 8448] (X (Proc.devRef .tc main_arg0)) slices_S4096x9856_S4096x1280_0_8448 = wide S Head.y) :
    after opsConv X (Proc.devRef .tc main_v1) = wide S Head.y := by
  after_results
  exact hy

section
variable (hx : extractStridedSlice S4096x1280 ![0, 7168] (X (Proc.devRef .tc main_arg0)) slices_S4096x9856_S4096x1280_0_7168 = wide S Head.x)
include hx

theorem conv_tap0 : after opsConv X (Proc.devRef .tc main_v5) = wide S (fun S => down 3 S.x) := by
  after_results
  exact shifted 0 (by norm_num) (zeros3 _) hx _ _
theorem conv_tap1 : after opsConv X (Proc.devRef .tc main_v13) = wide S (fun S => down 2 S.x) := by
  after_results
  exact shifted 1 (by norm_num) (zeros3 _) hx _ _
theorem conv_tap2 : after opsConv X (Proc.devRef .tc main_v20) = wide S (fun S => down 1 S.x) := by
  after_results
  exact shifted 2 (by norm_num) (zeros3 _) hx _ _
theorem conv_tap3 : after opsConv X (Proc.devRef .tc main_v27) = wide S (fun S => down 0 S.x) := by
  after_results
  exact shifted 3 (by norm_num) (zeros3 _) hx _ _
end

section
variable (hw : X (Proc.devRef .tc main_arg1) = four S Head.cw)
include hw

theorem conv_w0 : after opsConv X (Proc.devRef .tc main_v8) = row S (fun S => S.cw 0) := by
  after_results
  exact tap_row S 0 hw _ _ _
theorem conv_w1 : after opsConv X (Proc.devRef .tc main_v16) = row S (fun S => S.cw 1) := by
  after_results
  exact tap_row S 1 hw _ _ _
theorem conv_w2 : after opsConv X (Proc.devRef .tc main_v23) = row S (fun S => S.cw 2) := by
  after_results
  exact tap_row S 2 hw _ _ _
theorem conv_w3 : after opsConv X (Proc.devRef .tc main_v30) = row S (fun S => S.cw 3) := by
  after_results
  exact tap_row S 3 hw _ _ _

theorem conv_u (hx : extractStridedSlice S4096x1280 ![0, 7168] (X (Proc.devRef .tc main_arg0)) slices_S4096x9856_S4096x1280_0_7168 = wide S Head.x)
    (hb : X (Proc.devRef .tc main_arg2) = row S Head.cb) : after opsConv X (Proc.devRef .tc main_v33) = wide S Head.u := by
  after_results
  erw [tap_row S 0 hw, tap_row S 1 hw, tap_row S 2 hw, tap_row S 3 hw, shifted 0 (by norm_num) (zeros3 _) hx, shifted 1 (by norm_num) (zeros3 _) hx,
    shifted 2 (by norm_num) (zeros3 _) hx, shifted 3 (by norm_num) (zeros3 _) hx, hb]
  simp (index := false) only [row_to, mulf_arr, addf_arr]
  refine arr2_congr fun t _ c _ => ?_
  simp only [Head.u, down, Nat.sub_zero, Nat.zero_le, if_true, Nat.reduceSub]
  ring
end

end Cert.Lru.Ref

end
-- ==== Proof.RGate.lean ====
/- The values of the reference's two gates, and of their slopes. -/
module

public import proofs.«01_k».proof.Proof.RShape
public import proofs.«01_k».proof.Proof.ROps

@[expose] public section

set_option maxRecDepth 16384

noncomputable section

namespace Cert.Lru.Ref

open Cert.ReferenceIdeal Cert.ReferenceIdeal.Gen
open Idealize.ShloMosaic Idealize.ShloMosaic.TcCoe Idealize.ShloMosaic.Tactic
open Idealize.SL.Sem Idealize.ShloMosaic.StableHlo

variable (S : ℕ → Head) (X : Valuation τ sig (Elt Ideal))

/-- The heads of the convolution's output. -/
theorem gates_heads (hu : X (Proc.devRef .tc main_v33) = wide S Head.u) : after opsGates X (Proc.devRef .tc main_v34) = heads S Head.u := by
  after_results
  erw [hu, blocks]
  exact arr3_congr fun t _ n _ j hj => by rw [block_div _ _ hj, block_mod _ _ hj]

/-- A gate's product with its matrices, laid out in rows again, plus the bias. -/
theorem gate_input {w : FVec Ideal S10x128x128 .f32} {u : FVec Ideal S4096x1280 .f32} {b : FVec Ideal S1x1280 .f32} {fw : Head → ℕ → ℕ → ℝ} {fb : Head → ℕ → ℝ}
    (hw : w = mats S fw) (hu : u = wide S Head.u) (hb : b = row S fb) (h1 h2 h3 h4) :
    addf (shapeCast (α := R) S4096x1280 (transpose (α := R) S4096x10x128 [2, 0, 1]
        (Host.dotGeneral (φ₂ := .f32) dot_S10x128x128_S4096x10x128_S10x128x4096_1_2_2_0_0_1 none w (shapeCast (α := R) S4096x10x128 u h1)) h2) h3)
      (broadcastInDim (α := R) S4096x1280 ![0, 1] h4 b) =
    wide S (fun S t j => ∑ c ∈ Finset.range 128, S.u t c * fw S c j + fb S j) := by
  subst hw hu hb
  rw [blocks, r_dot_gate, turn_201, unblocks, row_to rfl, addf_arr]
  refine arr2_congr fun t _ c _ => congrArg (· + _) (Finset.sum_congr rfl fun k hk => ?_)
  rw [block_div _ _ (Finset.mem_range.mp hk), block_mod _ _ (Finset.mem_range.mp hk), mul_comm]

theorem sg_den (z : ℝ) : 1 + Real.exp (-z) ≠ 0 := by positivity

theorem gates_r (hu : X (Proc.devRef .tc main_v33) = wide S Head.u) (hw : X (Proc.devRef .tc main_arg3) = mats S Head.wr) (hb : X (Proc.devRef .tc main_arg4) = row S Head.br) :
    after opsGates X (Proc.devRef .tc main_v45) = wide S Head.r := by
  after_results
  erw [gate_input S hw hu hb]
  simp (index := false) only [c_one, scalar_to, negf_arr, hostExp_arr, addf_arr]
  exact hostDivf_arr fun _ _ _ => sg_den _
theorem gates_r' (hu : X (Proc.devRef .tc main_v33) = wide S Head.u) (hw : X (Proc.devRef .tc main_arg3) = mats S Head.wr) (hb : X (Proc.devRef .tc main_arg4) = row S Head.br) :
    after opsGates X (Proc.devRef .tc main_v48) = wide S (fun S t j => S.r t j * (1 - S.r t j)) := by
  after_results
  erw [gate_input S hw hu hb]
  simp (index := false) only [c_one, scalar_to, negf_arr, hostExp_arr, addf_arr]
  rw [hostDivf_arr fun _ _ _ => sg_den _]
  simp only [subf_arr, mulf_arr]
  rfl
theorem gates_i (hu : X (Proc.devRef .tc main_v33) = wide S Head.u) (hw : X (Proc.devRef .tc main_arg5) = mats S Head.wi) (hb : X (Proc.devRef .tc main_arg6) = row S Head.bi) :
    after opsGates X (Proc.devRef .tc main_v54) = wide S (fun S t j => -(∑ c ∈ Finset.range 128, S.u t c * S.wi c j + S.bi j)) := by
  after_results
  erw [gate_input S hw hu hb]
  exact negf_arr

section
variable (hz : X (Proc.devRef .tc main_v54) = wide S (fun S t j => -(∑ c ∈ Finset.range 128, S.u t c * S.wi c j + S.bi j)))
include hz
theorem gate2_i : after opsGate2 X (Proc.devRef .tc main_v59) = wide S Head.i := by
  after_results
  rw [hz]
  simp (index := false) only [c_one, scalar_to, hostExp_arr, addf_arr]
  exact hostDivf_arr fun _ _ _ => sg_den _
theorem gate2_i' : after opsGate2 X (Proc.devRef .tc main_v62) = wide S (fun S t j => S.i t j * (1 - S.i t j)) := by
  after_results
  rw [hz]
  simp (index := false) only [c_one, scalar_to, hostExp_arr, addf_arr]
  rw [hostDivf_arr fun _ _ _ => sg_den _]
  simp only [subf_arr, mulf_arr]
  rfl
end
theorem gate2_slope (hr : X (Proc.devRef .tc main_v45) = wide S Head.r) : after opsGate2 X (Proc.devRef .tc main_v64) = wide S (fun S t j => -8 * S.r t j) := by
  after_results
  rw [hr]
  simp (index := false) only [c_neg_eight, scalar_to, mulf_arr]
theorem gate2_lam (hl : X (Proc.devRef .tc main_arg7) = row S Head.lam) : after opsGate2 X (Proc.devRef .tc main_v65) = row S (fun S j => -S.lam j) := by
  after_results
  rw [hl]
  exact negf_arr

end Cert.Lru.Ref

end
-- ==== Proof.RDecay.lean ====
/- The values of the reference's softplus and its slope, of the decay, and of the recurrence's input. -/
module

public import proofs.«01_k».proof.Proof.RShape
public import proofs.«01_k».proof.Proof.ROps

@[expose] public section

set_option maxRecDepth 16384

noncomputable section

namespace Cert.Lru.Ref

open Cert.ReferenceIdeal Cert.ReferenceIdeal.Gen
open Idealize.ShloMosaic Idealize.ShloMosaic.TcCoe Idealize.ShloMosaic.Tactic
open Idealize.SL.Sem Idealize.ShloMosaic.StableHlo

variable (S : ℕ → Head) (X : Valuation τ sig (Elt Ideal))

/-- An array of numbers differs nowhere from itself. -/
theorem never_une {s : Shape} {φ : FTy} (x : FVec Ideal s φ) (i : s.Idx) : ¬ cmpf .une x x i = 1 := by
  intro e
  have e' : BitVec.ofBool (decide (x i ≠ x i)) = 1 := e
  simp at e'
/-- An array of real numbers is nowhere infinite. -/
theorem never_top {s : Shape} {f : ℕ → ℕ → ℕ → ℝ} (h : S_.BroadcastsInDim s ![]) (i : s.Idx) :
    ¬ cmpf .oeq (arr s .f32 f) (broadcastInDim (α := R) s ![] h (constant (F := Ideal) S_ .f32 0x7F800000#32)) i = 1 := by
  intro e
  have e' : BitVec.ofBool (decide (arr s .f32 f i = Ideal.ofBits .f32 0x7F800000#32)) = 1 := e
  rw [bits_inf, decide_eq_false (show ¬ arr s .f32 f i = ⊤ from EReal.coe_ne_top _)] at e'
  exact absurd e' (by decide)

theorem log_arg (z : ℝ) : 0 < 1 + Real.exp z := by positivity

/-- The softplus as the reference computes it. -/
theorem softplus_arr {l : FVec Ideal S1x1280 .f32} (hl : l = row S (fun S j => -S.lam j)) (h : S_.BroadcastsInDim S1x1280 ![]) :
    select (cmpf .une (subf l (broadcastInDim (α := R) S1x1280 ![] h (constant (F := Ideal) S_ .f32 0x00000000#32)))
        (subf l (broadcastInDim (α := R) S1x1280 ![] h (constant (F := Ideal) S_ .f32 0x00000000#32))))
      (addf l (broadcastInDim (α := R) S1x1280 ![] h (constant (F := Ideal) S_ .f32 0x00000000#32)))
      (addf (maximumf l (broadcastInDim (α := R) S1x1280 ![] h (constant (F := Ideal) S_ .f32 0x00000000#32)))
        (Host.log1p (Host.exp (Host.negf (Host.absf (subf l (broadcastInDim (α := R) S1x1280 ![] h (constant (F := Ideal) S_ .f32 0x00000000#32)))))))) =
    row S Head.sp := by
  refine (select_never _ _ _ fun i => never_une _ i).trans ?_
  subst hl
  simp (index := false) only [c_zero, scalar_to, subf_arr, addf_arr, maximumf_arr, hostAbsf_arr, negf_arr, hostExp_arr]
  rw [hostLog1p_arr fun _ _ _ => log_arg _, addf_arr]
  refine arr2_congr fun t _ c _ => ?_
  simp only [Head.sp, sub_zero, abs_neg]
/-- Its slope as the reference computes it. -/
theorem softplus_slope_arr {l p : FVec Ideal S1x1280 .f32} (hl : l = row S (fun S j => -S.lam j)) (hp : p = row S Head.sp)
    (x y : FVec Ideal S1x1280 .f32) (h : S_.BroadcastsInDim S1x1280 ![]) :
    Host.exp (subf (select (cmpf .oeq l (broadcastInDim (α := R) S1x1280 ![] h (constant (F := Ideal) S_ .f32 0x7F800000#32))) x l)
      (select (cmpf .oeq p (broadcastInDim (α := R) S1x1280 ![] h (constant (F := Ideal) S_ .f32 0x7F800000#32))) y p)) =
    row S (fun S j => 1 / (1 + Real.exp (S.lam j))) := by
  subst hl hp
  rw [select_never _ _ _ fun i => never_top _ i, select_never _ _ _ fun i => never_top _ i, subf_arr, hostExp_arr]
  exact arr2_congr fun t _ c _ => softplus_slope _

theorem softplus_v (hl : X (Proc.devRef .tc main_v65) = row S (fun S j => -S.lam j)) : after opsSoftplus X (Proc.devRef .tc main_v66_0) = row S Head.sp := by
  after_results
  simp only [TRef.ofBuf_toBuf]
  exact softplus_arr S hl bcast_S_S1x1280
theorem softplus_slope_v (hl : X (Proc.devRef .tc main_v65) = row S (fun S j => -S.lam j)) (hs : X (Proc.devRef .tc main_v66_0) = row S Head.sp) :
    after opsSoftplusD X (Proc.devRef .tc main_v66_1) = row S (fun S j => 1 / (1 + Real.exp (S.lam j))) := by
  after_results
  simp only [TRef.ofBuf_toBuf]
  exact softplus_slope_arr S hl hs _ _ bcast_S_S1x1280

/-- The square root of one less the squared decay. -/
theorem mult_sqrt : Host.sqrt (arr S4096x1280 .f32 fun t c _ => -(Real.exp (2 * (-8 * (S (c / 128)).r t (c % 128) * (S (c / 128)).sp (c % 128))) - 1)) =
    wide S Head.mult := by
  have e : ∀ z : ℝ, -(Real.exp z - 1) = 1 - Real.exp z := fun z => by ring
  simp only [e]
  exact hostSqrt_arr fun t c _ => ((S (c / 128)).one_sub_pos t (c % 128)).le

section
variable (hr : X (Proc.devRef .tc main_v64) = wide S (fun S t j => -8 * S.r t j)) (hs : X (Proc.devRef .tc main_v66_0) = row S Head.sp)
include hr hs
theorem decay_a : after opsDecay X (Proc.devRef .tc main_v69) = wide S Head.a := by
  after_results
  rw [hr, hs]
  simp (index := false) only [row_to, mulf_arr, hostExp_arr]
  rfl
theorem decay_aa : after opsDecay X (Proc.devRef .tc main_v73) = wide S (fun S t j => Real.exp (2 * S.la t j)) := by
  after_results
  rw [hr, hs]
  simp (index := false) only [row_to, c_two, scalar_to, mulf_arr, hostExp_arr]
  rfl

theorem decay_mult : after opsDecay X (Proc.devRef .tc main_v75) = wide S Head.mult := by
  after_results
  rw [hr, hs]
  simp (index := false) only [row_to, c_two, scalar_to, mulf_arr, hostExpm1_arr, negf_arr]
  exact mult_sqrt S
theorem decay_half : after opsDecay X (Proc.devRef .tc main_v77) = wide S (fun S t j => 1 / 2 / S.mult t j) := by
  after_results
  rw [hr, hs]
  simp (index := false) only [row_to, c_two, c_half, scalar_to, mulf_arr, hostExpm1_arr, negf_arr]
  rw [mult_sqrt]
  exact hostDivf_arr fun t c _ => (S (c / 128)).mult_ne t (c % 128)
theorem decay_b (hi : X (Proc.devRef .tc main_v59) = wide S Head.i) (hu : X (Proc.devRef .tc main_v33) = wide S Head.u) :
    after opsDecay X (Proc.devRef .tc main_v83_1) = wide S Head.b := by
  after_results
  rw [hr, hs, hi, hu]
  simp (index := false) only [row_to, c_two, scalar_to, mulf_arr, hostExpm1_arr, negf_arr]
  rw [mult_sqrt]
  exact mulf_arr
theorem decay_a0 : after opsDecay X (Proc.devRef .tc main_v83_0) = wide S Head.a := by
  after_results
  rw [hr, hs]
  simp (index := false) only [row_to, mulf_arr, hostExp_arr]
  rfl
end
theorem decay_iu (hi : X (Proc.devRef .tc main_v59) = wide S Head.i) (hu : X (Proc.devRef .tc main_v33) = wide S Head.u) :
    after opsDecay X (Proc.devRef .tc main_v78) = wide S Head.iu := by
  after_results
  rw [hi, hu]
  exact mulf_arr
theorem decay_carry : after opsDecay X (Proc.devRef .tc main_v83_3) = arr S1280 .f32 (fun _ _ _ => 0) := by
  after_results
  exact (congrArg _ (c_zero S_)).trans (scalar_to _ _ _)
theorem decay_rows : after opsDecay X (Proc.devRef .tc main_v83_4) = arr S4096x1280 .f32 (fun _ _ _ => 0) := by
  after_results
  exact (congrArg _ (c_zero S_)).trans (scalar_to _ _ _)
theorem decay_prev : after opsDecay X (Proc.devRef .tc main_v83_5) = arr S4096x1280 .f32 (fun _ _ _ => 0) := by
  after_results
  exact (congrArg _ (c_zero S_)).trans (scalar_to _ _ _)

end Cert.Lru.Ref

end
-- ==== Proof.TwoLoops.lean ====
module

public import Idealize.ShloMosaic.Lib.StableHlo.RunLoop

/-!
The run of a program of host operations that holds two counted loops, one after the other, with stretches of operations before the first, between the
two, and after the second. Nothing in it names a program: the reference uses it.
-/

@[expose] public section

noncomputable section

namespace Cert.Lru

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Pipeline (CSeg Ticket PCfg ucRefs sub_ucRefs)

variable {nD : Nat} {τ : Topo} {sig : RefSig} {F : FTy → Type} {Λ₀ : Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- There is no pipeline to admit. -/
abbrev noAdm : (p : Fin 0) → (pcs p).Adm := fun p => p.elim0
/-- There is no ticket. -/
abbrev noTk : Fin 0 → Ticket (Ix := Unit) (Name := ℕ) (U := Option PUnit) (Lvl := ℕ) (nD := nD) (τ := τ) pcs (noAdm pcs) := fun j => j.elim0
/-- No semaphore has an index. -/
abbrev noIx : GSem nD τ sig → Finset Unit := fun _ => ∅
/-- All levels are zero. -/
abbrev zeroLv : GSem nD τ sig → Unit → ℕ := fun _ _ => 0

/-- What is carried beside the buffers: the core owes nothing. -/
abbrev owesNone (c : Dev nD) : sProp 𝕄 := iprop(∃ W, owes (c : Thread nD τ) (0 : CellTallies nD τ sig Unit) W)

/-- The contents before the first loop, after it, before the second loop, after it, and at the end. -/
abbrev W1 (preI : List (List (HloOp τ sig (Elt F)))) (m : (ℓ : Loc nD τ sig) → Buf (Elt F) ℓ) (c : Dev nD) : Valuation τ sig (Elt F) :=
  afterL preI (launchContents m c)

variable (cond0 cond1 : Prog (TpuEff nD τ sig (Elt F) (HostLoop.Sig (Pipeline.Sig Λ₀ (Fin 0) fun p => (pcs p).Adm) nL) .tc) (Elt F .i1))
  (body0 body1 : Prog (TpuEff nD τ sig (Elt F) (HostLoop.Sig (Pipeline.Sig Λ₀ (Fin 0) fun p => (pcs p).Adm) nL) .tc) PUnit)
  (preI midI postI bodyI0 bodyI1 : List (List (HloOp τ sig (Elt F)))) (condOps0 condOps1 : List (HloOp τ sig (Elt F)))
  (n0 n1 : ℕ) (m : (ℓ : Loc nD τ sig) → Buf (Elt F) ℓ)

/-- The contents when the first loop has ended: `n0` trips, and the condition's operations once more. -/
abbrev W2 (c : Dev nD) : Valuation τ sig (Elt F) := after condOps0 (atTrip condOps0 bodyI0 (W1 preI m) n0 c)
/-- The contents at the second loop's entry. -/
abbrev W3 (c : Dev nD) : Valuation τ sig (Elt F) := afterL midI (W2 preI bodyI0 condOps0 n0 m c)
/-- The contents when the second loop has ended. -/
abbrev W4 (c : Dev nD) : Valuation τ sig (Elt F) :=
  after condOps1 (atTrip condOps1 bodyI1 (W3 preI midI bodyI0 condOps0 n0 m) n1 c)
/-- The contents at the end of the program. -/
abbrev W5 (c : Dev nD) : Valuation τ sig (Elt F) := afterL postI (W4 preI midI bodyI0 bodyI1 condOps0 condOps1 n0 n1 m c)

/-- The run of `pre; while; mid; while; post`: every weakly fair execution ends, with every buffer of the program at `W5`. -/
theorem run_two_loops [∀ e, Nonempty (Elt F e)]
    (main : Dev nD → Prog (TpuEff nD τ sig (Elt F) (HostLoop.Sig (Pipeline.Sig Λ₀ (Fin 0) fun p => (pcs p).Adm) nL) .tc) PUnit)
    (l0 l1 : Fin nL) (hl0 : loops l0 = HostLoop.step l0 cond0 body0) (hl1 : loops l1 = HostLoop.step l1 cond1 body1)
    (hpre : Plain preI) (hmid : Plain midI) (hpost : Plain postI) (hb0 : Plain bodyI0) (hb1 : Plain bodyI1)
    (hmain : ∀ c, main c = Pipeline.chain ((preI.map fun ops => (seq ops : Prog _ PUnit)) ++ HostLoop.enter l0
      :: ((midI.map fun ops => (seq ops : Prog _ PUnit)) ++ HostLoop.enter l1 :: postI.map fun ops => (seq ops : Prog _ PUnit))))
    (hbody0 : body0 = Pipeline.chain (bodyI0.map fun ops => (seq ops : Prog _ PUnit)))
    (hbody1 : body1 = Pipeline.chain (bodyI1.map fun ops => (seq ops : Prog _ PUnit)))
    (ρ : Dev nD → PrngReg)
    (hcond0 : LoopCond pcs defs₀ Variants.none loops (owesNone (F := F) (nD := nD) (τ := τ) (sig := sig)) cond0 condOps0 bodyI0 (W1 preI m) n0)
    (hcond1 : LoopCond pcs defs₀ Variants.none loops (owesNone (F := F) (nD := nD) (τ := τ) (sig := sig)) cond1 condOps1 bodyI1
      (W3 preI midI bodyI0 condOps0 n0 m) n1) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = W5 preI midI postI bodyI0 bodyI1 condOps0 condOps1 n0 n1 m c (Proc.devRef .tc b)) := by
  let segs : List (CSeg pcs (noAdm pcs) defs₀ Variants.none (noIx (nD := nD) (τ := τ) (sig := sig)) zeroLv loops (noTk pcs)) :=
    segsOf pcs (noAdm pcs) defs₀ Variants.none noIx zeroLv loops (noTk pcs) owesNone preI hpre (launchContents m)
      ++ loopSeg pcs (noAdm pcs) defs₀ Variants.none noIx zeroLv loops (noTk pcs) l0 cond0 body0 hl0 condOps0 bodyI0 hb0 hbody0 n0 (W1 preI m) owesNone hcond0
        :: (segsOf pcs (noAdm pcs) defs₀ Variants.none noIx zeroLv loops (noTk pcs) owesNone midI hmid (W2 preI bodyI0 condOps0 n0 m)
          ++ loopSeg pcs (noAdm pcs) defs₀ Variants.none noIx zeroLv loops (noTk pcs) l1 cond1 body1 hl1 condOps1 bodyI1 hb1 hbody1 n1
              (W3 preI midI bodyI0 condOps0 n0 m) owesNone hcond1
            :: segsOf pcs (noAdm pcs) defs₀ Variants.none noIx zeroLv loops (noTk pcs) owesNone postI hpost
              (W4 preI midI bodyI0 bodyI1 condOps0 condOps1 n0 n1 m))
  have hprog : segs.map CSeg.prog = (preI.map fun ops => (seq ops : Prog _ PUnit)) ++ HostLoop.enter l0
      :: ((midI.map fun ops => (seq ops : Prog _ PUnit)) ++ HostLoop.enter l1 :: postI.map fun ops => (seq ops : Prog _ PUnit)) := by
    simp only [segs, List.map_append, List.map_cons, segsOf_prog]
    rfl
  have hchains : CSeg.Chains (fun c => iprop(held (c : Thread nD τ) (ucRefs τ sig) (launchContents m c) ∗ owesNone c)) segs
      (fun c => iprop(held (c : Thread nD τ) (ucRefs τ sig) (W5 preI midI postI bodyI0 bodyI1 condOps0 condOps1 n0 n1 m c)
        ∗ owesNone c)) :=
    CSeg.Chains.append (segsOf_chains _ _ _ _ _ _ _ _ owesNone preI hpre _)
      ⟨fun _ => .rfl, CSeg.Chains.append (segsOf_chains _ _ _ _ _ _ _ _ owesNone midI hmid _)
        ⟨fun _ => .rfl, segsOf_chains _ _ _ _ _ _ _ _ owesNone postI hpost _⟩⟩
  exact Pipeline.θ_run_regions_loop_kit (Ix := Unit) (Name := ℕ) (U := Option PUnit) (Lvl := ℕ) (J := Fin 0) (P := Fin 0) (Val := Elt F)
    pcs (noAdm pcs) (fun k => k.1.elim0) defs₀ Variants.none noIx zeroLv loops (noTk pcs) m ρ main segs
    (fun c Q => by
      rw [hmain c]
      show wp _ _ _ (Pipeline.chain (segs.map CSeg.prog)) Q ⊢ _
      rw [hprog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owesNone c))
    (Tₙ := fun c => iprop(held (c : Thread nD τ) (ucRefs τ sig) (W5 preI midI postI bodyI0 bodyI1 condOps0 condOps1 n0 n1 m c)))
    (hch := hchains)
    (hinit := by
      refine Pipeline.initEach noIx zeroLv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W5 preI midI postI bodyI0 bodyI1 condOps0 condOps1 n0 n1 m c b)
    (hfin := fun c s' => by
      unfold held
      iintro ⟨Hh, HSI⟩
      ihave Hr := (pointsTo_read_all (ucRefs τ sig) (fun b => ((c : Dev nD), b))
        (fun b => W5 preI midI postI bodyI0 bodyI1 condOps0 condOps1 n0 n1 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.Lru

end
-- ==== Proof.RRun.lean ====
module

public import proofs.«01_k».proof.Proof.ROps
public import proofs.«01_k».proof.Proof.TwoLoops
public import Idealize.ShloMosaic.Lib.Quiescent

/-!
The reference's run: it ends in every weakly fair execution, its buffers then hold what its stretches and the trips of its two loops leave, and it leaves
its arguments as they were.
-/

@[expose] public section

set_option maxRecDepth 20000

noncomputable section

namespace Cert.Lru.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
variable (m : (ℓ : Loc nD τ sig) → Buf (Elt F) ℓ) (ρ : Dev nD → PrngReg)

/-- What is written within a list is written within a longer one. -/
theorem forall_mono {ops : List (HloOp τ sig (Elt F))} {Ws Ws' : List (Ref sig .tc)}
    (h : ops.Forall fun op => op.writes ⊆ (Ws.map (Proc.devRef (τ := τ) .tc)).toFinset) (hs : Ws ⊆ Ws') :
    ops.Forall fun op => op.writes ⊆ (Ws'.map (Proc.devRef (τ := τ) .tc)).toFinset :=
  List.forall_iff_forall_mem.mpr fun op ho => (List.forall_iff_forall_mem.mp h op ho).trans fun x hx => by
    rw [List.mem_toFinset] at hx ⊢
    exact List.map_subset _ hs hx

/-- The stretches before the first loop. -/
abbrev preI : List (List (HloOp τ sig (Elt F))) := [opsConv, opsGates, opsGate2, opsSoftplus, opsSoftplusD, opsDecay]
theorem preI_plain : Plain (preI (F := F)) :=
  .cons opsConv_sub (hf := List.forall_iff_forall_mem.mp opsConv_fresh) (.cons opsGates_sub (hf := List.forall_iff_forall_mem.mp opsGates_fresh) (.cons opsGate2_sub (hf := List.forall_iff_forall_mem.mp opsGate2_fresh) (.cons opsSoftplus_sub (hf := List.forall_iff_forall_mem.mp opsSoftplus_fresh) (.cons opsSoftplusD_sub (hf := List.forall_iff_forall_mem.mp opsSoftplusD_fresh) (.cons opsDecay_sub (hf := List.forall_iff_forall_mem.mp opsDecay_fresh) (.nil))))))

/-- The stretches between the loops. -/
abbrev midI : List (List (HloOp τ sig (Elt F))) := [opsGelu, opsOut, opsStart]
theorem midI_plain : Plain (midI (F := F)) :=
  .cons opsGelu_sub (hf := List.forall_iff_forall_mem.mp opsGelu_fresh) (.cons opsOut_sub (hf := List.forall_iff_forall_mem.mp opsOut_fresh) (.cons opsStart_sub (hf := List.forall_iff_forall_mem.mp opsStart_fresh) (.nil)))

/-- The stretches after the second loop. -/
abbrev postI : List (List (HloOp τ sig (Elt F))) := [opsMult, opsLam, opsLamS, opsGateB, opsTapA, opsTapB, opsTapC]
theorem postI_plain : Plain (postI (F := F)) :=
  .cons opsMult_sub (hf := List.forall_iff_forall_mem.mp opsMult_fresh) (.cons opsLam_sub (hf := List.forall_iff_forall_mem.mp opsLam_fresh) (.cons opsLamS_sub (hf := List.forall_iff_forall_mem.mp opsLamS_fresh) (.cons opsGateB_sub (hf := List.forall_iff_forall_mem.mp opsGateB_fresh) (.cons opsTapA_sub (hf := List.forall_iff_forall_mem.mp opsTapA_fresh) (.cons opsTapB_sub (hf := List.forall_iff_forall_mem.mp opsTapB_fresh) (.cons opsTapC_sub (hf := List.forall_iff_forall_mem.mp opsTapC_fresh) (.nil)))))))

/-- The stretches of the first loop's body. -/
abbrev bodyI0 : List (List (HloOp τ sig (Elt F))) := [trip0A, trip0B, trip0C, trip0D, trip0E, trip0F]
theorem bodyI0_plain : Plain (bodyI0 (F := F)) :=
  .cons trip0A_sub (hf := List.forall_iff_forall_mem.mp trip0A_fresh) (.cons trip0B_sub (hf := List.forall_iff_forall_mem.mp trip0B_fresh) (.cons trip0C_sub (hf := List.forall_iff_forall_mem.mp trip0C_fresh) (.cons trip0D_sub (hf := List.forall_iff_forall_mem.mp trip0D_fresh) (.cons trip0E_sub (hf := List.forall_iff_forall_mem.mp trip0E_fresh) (.cons trip0F_sub (hf := List.forall_iff_forall_mem.mp trip0F_fresh) (.nil))))))

/-- The stretches of the second loop's body. -/
abbrev bodyI1 : List (List (HloOp τ sig (Elt F))) := [trip1A, trip1B, trip1C, trip1D, trip1E, trip1F, trip1G, trip1H]
theorem bodyI1_plain : Plain (bodyI1 (F := F)) :=
  .cons trip1A_sub (hf := List.forall_iff_forall_mem.mp trip1A_fresh) (.cons trip1B_sub (hf := List.forall_iff_forall_mem.mp trip1B_fresh) (.cons trip1C_sub (hf := List.forall_iff_forall_mem.mp trip1C_fresh) (.cons trip1D_sub (hf := List.forall_iff_forall_mem.mp trip1D_fresh) (.cons trip1E_sub (hf := List.forall_iff_forall_mem.mp trip1E_fresh) (.cons trip1F_sub (hf := List.forall_iff_forall_mem.mp trip1F_fresh) (.cons trip1G_sub (hf := List.forall_iff_forall_mem.mp trip1G_fresh) (.cons trip1H_sub (hf := List.forall_iff_forall_mem.mp trip1H_fresh) (.nil))))))))

/-- The contents before trip `k` of loop 0. -/
abbrev at0 (k : ℕ) (c : Dev nD) : Valuation τ sig (Elt F) := atTrip cond0 bodyI0 (W1 preI m) k c

/-- The last stretch of the body moves the counter of loop 0 one on. -/
theorem ctr0_step (X : Valuation τ sig (Elt F)) :
    after (trip0F (F := F)) X (Proc.devRef .tc main_v83_2) = addi (X (Proc.devRef .tc main_v83_2)) (constantI S_ 32 1#32) := by
  after_results
  rfl

/-- The counter of loop 0 starts at zero. -/
theorem ctr0_init (X : Valuation τ sig (Elt F)) :
    after (opsDecay (F := F)) X (Proc.devRef .tc main_v83_2) = fun _ => (0#32 : BitVec 32) := by
  after_results
  rfl

theorem ctr0_entry (c : Dev nD) : (W1 preI m) c (Proc.devRef .tc main_v83_2) = fun _ => (0#32 : BitVec 32) := by
  simp only [W1, afterL_cons, afterL_nil]
  exact ctr0_init _

/-- The counter of loop 0 before trip `k` is `k`. -/
theorem at0_ctr (c : Dev nD) : ∀ k, at0 m k c (Proc.devRef .tc main_v83_2) = fun _ => Scf.iv 0#32 1#32 k
  | 0 => by rw [show at0 m 0 c = (W1 preI m) c from rfl, ctr0_entry, Scf.iv_zero]
  | k + 1 => by
    rw [show at0 m (k + 1) c = afterL (bodyI0 (F := F)) (after cond0 (at0 m k c)) from rfl]
    simp only [afterL_cons, afterL_nil]
    rw [ctr0_step (F := F), after_of_writes_sub trip0E _ trip0E_writes (by decide +kernel), after_of_writes_sub trip0D _ trip0D_writes (by decide +kernel), after_of_writes_sub trip0C _ trip0C_writes (by decide +kernel), after_of_writes_sub trip0B _ trip0B_writes (by decide +kernel), after_of_writes_sub trip0A _ trip0A_writes (by decide +kernel),
      after_of_writes_sub cond0 _ cond0_writes (by decide +kernel), at0_ctr c k, Scf.iv_succ]
    rfl

set_option backward.isDefEq.respectTransparency.types false in
/-- The condition of loop 0 holds before trip `k` exactly when `k` is below 4096. -/
theorem cond0_spec : LoopCond (pcfgs (F := F)) defs₀ Variants.none loops (owesNone (F := F) (nD := nD) (τ := τ) (sig := sig))
    (main_while0_cond (F := F)) cond0 bodyI0 (W1 preI m) 4096 := by
  intro k hk c bd
  have hctr := at0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v83_2 HostLoop.idx0)
        (HloOp.result _ (at0 m k c) main_while0c_c_55 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

/-- The contents before trip `k` of loop 1. -/
abbrev at1 (k : ℕ) (c : Dev nD) : Valuation τ sig (Elt F) := atTrip cond1 bodyI1 (W3 preI midI bodyI0 cond0 4096 m) k c

/-- The last stretch of the body moves the counter of loop 1 one on. -/
theorem ctr1_step (X : Valuation τ sig (Elt F)) :
    after (trip1H (F := F)) X (Proc.devRef .tc main_v125_3) = addi (X (Proc.devRef .tc main_v125_3)) (constantI S_ 32 1#32) := by
  after_results
  rfl

/-- The counter of loop 1 starts at zero. -/
theorem ctr1_init (X : Valuation τ sig (Elt F)) :
    after (opsStart (F := F)) X (Proc.devRef .tc main_v125_3) = fun _ => (0#32 : BitVec 32) := by
  after_results
  rfl

theorem ctr1_entry (c : Dev nD) : (W3 preI midI bodyI0 cond0 4096 m) c (Proc.devRef .tc main_v125_3) = fun _ => (0#32 : BitVec 32) := by
  simp only [W3, afterL_cons, afterL_nil]
  exact ctr1_init _

/-- The counter of loop 1 before trip `k` is `k`. -/
theorem at1_ctr (c : Dev nD) : ∀ k, at1 m k c (Proc.devRef .tc main_v125_3) = fun _ => Scf.iv 0#32 1#32 k
  | 0 => by rw [show at1 m 0 c = (W3 preI midI bodyI0 cond0 4096 m) c from rfl, ctr1_entry, Scf.iv_zero]
  | k + 1 => by
    rw [show at1 m (k + 1) c = afterL (bodyI1 (F := F)) (after cond1 (at1 m k c)) from rfl]
    simp only [afterL_cons, afterL_nil]
    rw [ctr1_step (F := F), after_of_writes_sub trip1G _ trip1G_writes (by decide +kernel), after_of_writes_sub trip1F _ trip1F_writes (by decide +kernel), after_of_writes_sub trip1E _ trip1E_writes (by decide +kernel), after_of_writes_sub trip1D _ trip1D_writes (by decide +kernel), after_of_writes_sub trip1C _ trip1C_writes (by decide +kernel), after_of_writes_sub trip1B _ trip1B_writes (by decide +kernel), after_of_writes_sub trip1A _ trip1A_writes (by decide +kernel),
      after_of_writes_sub cond1 _ cond1_writes (by decide +kernel), at1_ctr c k, Scf.iv_succ]
    rfl

set_option backward.isDefEq.respectTransparency.types false in
/-- The condition of loop 1 holds before trip `k` exactly when `k` is below 4096. -/
theorem cond1_spec : LoopCond (pcfgs (F := F)) defs₀ Variants.none loops (owesNone (F := F) (nD := nD) (τ := τ) (sig := sig))
    (main_while1_cond (F := F)) cond1 bodyI1 (W3 preI midI bodyI0 cond0 4096 m) 4096 := by
  intro k hk c bd
  have hctr := at1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v125_3 HostLoop.idx0)
        (HloOp.result _ (at1 m k c) main_while1c_c_56 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

/-- The contents at the end of the program. -/
abbrev final (c : Dev nD) : Valuation τ sig (Elt F) := W5 preI midI postI bodyI0 bodyI1 cond0 cond1 4096 4096 m c

/-- The reference's run: every weakly fair execution ends, with every buffer at `final`. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  run_two_loops (pcfgs (F := F)) defs₀ loops main_while0_cond main_while1_cond main_while0_body main_while1_body preI midI postI bodyI0 bodyI1 cond0 cond1
    4096 4096 m main 0 1 rfl rfl preI_plain midI_plain postI_plain bodyI0_plain bodyI1_plain
    (fun c => main_pieces c) body0_pieces body1_pieces ρ (cond0_spec m) (cond1_spec m)

/-- A list of stretches leaves a reference alone that none of them writes. -/
theorem afterL_keep {Ws : List (Ref sig .tc)} : ∀ (items : List (List (HloOp τ sig (Elt F)))) (V : Valuation τ sig (Elt F)),
    (∀ ops ∈ items, ops.Forall fun op => op.writes ⊆ (Ws.map (Proc.devRef (τ := τ) .tc)).toFinset) → ∀ b : Ref sig .tc, b ∉ Ws →
    afterL items V (Proc.devRef .tc b) = V (Proc.devRef .tc b)
  | [], _, _, _, _ => rfl
  | ops :: rest, V, h, b, hb => by
    rw [afterL_cons, afterL_keep rest _ (fun o ho => h o (List.mem_cons_of_mem _ ho)) b hb]
    exact after_of_writes_sub ops V (h ops List.mem_cons_self) hb

/-- The trips of a loop leave a reference alone that neither its condition nor its body writes. -/
theorem atTrip_keep {Ws : List (Ref sig .tc)} (condOps : List (HloOp τ sig (Elt F))) (items : List (List (HloOp τ sig (Elt F))))
    (W₀ : Dev nD → Valuation τ sig (Elt F)) (c : Dev nD) (h : ∀ ops ∈ condOps :: items, ops.Forall fun op => op.writes ⊆ (Ws.map (Proc.devRef (τ := τ) .tc)).toFinset)
    (b : Ref sig .tc) (hb : b ∉ Ws) : ∀ k, atTrip condOps items W₀ k c (Proc.devRef .tc b) = W₀ c (Proc.devRef .tc b)
  | 0 => rfl
  | k + 1 => by
    rw [atTrip_succ, afterL_keep items _ (fun o ho => h o (List.mem_cons_of_mem _ ho)) b hb,
      after_of_writes_sub condOps _ (h condOps List.mem_cons_self) hb, atTrip_keep condOps items W₀ c h b hb k]

/-- The references that the stretches of `preI` write. -/
abbrev pre_W : List (Ref sig .tc) := opsConv_W ++ opsGates_W ++ opsGate2_W ++ opsSoftplus_W ++ opsSoftplusD_W ++ opsDecay_W
theorem pre_writes : ∀ ops ∈ (preI : List (List (HloOp τ sig (Elt F)))), ops.Forall fun op => op.writes ⊆ (pre_W.map (Proc.devRef (τ := τ) .tc)).toFinset := by
  intro ops h
  simp only [List.mem_cons, List.not_mem_nil, or_false] at h
  rcases h with rfl | rfl | rfl | rfl | rfl | rfl
  · exact forall_mono opsConv_writes (by decide +kernel)
  · exact forall_mono opsGates_writes (by decide +kernel)
  · exact forall_mono opsGate2_writes (by decide +kernel)
  · exact forall_mono opsSoftplus_writes (by decide +kernel)
  · exact forall_mono opsSoftplusD_writes (by decide +kernel)
  · exact forall_mono opsDecay_writes (by decide +kernel)

/-- The references that the stretches of `midI` write. -/
abbrev mid_W : List (Ref sig .tc) := opsGelu_W ++ opsOut_W ++ opsStart_W
theorem mid_writes : ∀ ops ∈ (midI : List (List (HloOp τ sig (Elt F)))), ops.Forall fun op => op.writes ⊆ (mid_W.map (Proc.devRef (τ := τ) .tc)).toFinset := by
  intro ops h
  simp only [List.mem_cons, List.not_mem_nil, or_false] at h
  rcases h with rfl | rfl | rfl
  · exact forall_mono opsGelu_writes (by decide +kernel)
  · exact forall_mono opsOut_writes (by decide +kernel)
  · exact forall_mono opsStart_writes (by decide +kernel)

/-- The references that the stretches of `postI` write. -/
abbrev post_W : List (Ref sig .tc) := opsMult_W ++ opsLam_W ++ opsLamS_W ++ opsGateB_W ++ opsTapA_W ++ opsTapB_W ++ opsTapC_W
theorem post_writes : ∀ ops ∈ (postI : List (List (HloOp τ sig (Elt F)))), ops.Forall fun op => op.writes ⊆ (post_W.map (Proc.devRef (τ := τ) .tc)).toFinset := by
  intro ops h
  simp only [List.mem_cons, List.not_mem_nil, or_false] at h
  rcases h with rfl | rfl | rfl | rfl | rfl | rfl | rfl
  · exact forall_mono opsMult_writes (by decide +kernel)
  · exact forall_mono opsLam_writes (by decide +kernel)
  · exact forall_mono opsLamS_writes (by decide +kernel)
  · exact forall_mono opsGateB_writes (by decide +kernel)
  · exact forall_mono opsTapA_writes (by decide +kernel)
  · exact forall_mono opsTapB_writes (by decide +kernel)
  · exact forall_mono opsTapC_writes (by decide +kernel)

/-- The references that the stretches of `cond0 :: bodyI0` write. -/
abbrev loop0_W : List (Ref sig .tc) := cond0_W ++ trip0A_W ++ trip0B_W ++ trip0C_W ++ trip0D_W ++ trip0E_W ++ trip0F_W
theorem loop0_writes : ∀ ops ∈ (cond0 :: bodyI0 : List (List (HloOp τ sig (Elt F)))), ops.Forall fun op => op.writes ⊆ (loop0_W.map (Proc.devRef (τ := τ) .tc)).toFinset := by
  intro ops h
  simp only [List.mem_cons, List.not_mem_nil, or_false] at h
  rcases h with rfl | rfl | rfl | rfl | rfl | rfl | rfl
  · exact forall_mono cond0_writes (by decide +kernel)
  · exact forall_mono trip0A_writes (by decide +kernel)
  · exact forall_mono trip0B_writes (by decide +kernel)
  · exact forall_mono trip0C_writes (by decide +kernel)
  · exact forall_mono trip0D_writes (by decide +kernel)
  · exact forall_mono trip0E_writes (by decide +kernel)
  · exact forall_mono trip0F_writes (by decide +kernel)

/-- The references that the stretches of `cond1 :: bodyI1` write. -/
abbrev loop1_W : List (Ref sig .tc) := cond1_W ++ trip1A_W ++ trip1B_W ++ trip1C_W ++ trip1D_W ++ trip1E_W ++ trip1F_W ++ trip1G_W ++ trip1H_W
theorem loop1_writes : ∀ ops ∈ (cond1 :: bodyI1 : List (List (HloOp τ sig (Elt F)))), ops.Forall fun op => op.writes ⊆ (loop1_W.map (Proc.devRef (τ := τ) .tc)).toFinset := by
  intro ops h
  simp only [List.mem_cons, List.not_mem_nil, or_false] at h
  rcases h with rfl | rfl | rfl | rfl | rfl | rfl | rfl | rfl | rfl
  · exact forall_mono cond1_writes (by decide +kernel)
  · exact forall_mono trip1A_writes (by decide +kernel)
  · exact forall_mono trip1B_writes (by decide +kernel)
  · exact forall_mono trip1C_writes (by decide +kernel)
  · exact forall_mono trip1D_writes (by decide +kernel)
  · exact forall_mono trip1E_writes (by decide +kernel)
  · exact forall_mono trip1F_writes (by decide +kernel)
  · exact forall_mono trip1G_writes (by decide +kernel)
  · exact forall_mono trip1H_writes (by decide +kernel)

/-- From the first loop's entry to the second loop's entry, what neither the first loop nor the stretches between write is unchanged. -/
theorem keep13 (c : Dev nD) (b : Ref sig .tc) (h : b ∉ loop0_W ++ mid_W) :
    W3 preI midI bodyI0 cond0 4096 m c (Proc.devRef .tc b) = W1 preI m c (Proc.devRef .tc b) := by
  rw [List.mem_append, not_or] at h
  rw [W3, afterL_keep midI _ mid_writes b h.2, W2, after_of_writes_sub cond0 _ (loop0_writes cond0 List.mem_cons_self) h.1,
    atTrip_keep cond0 bodyI0 _ c loop0_writes b h.1]

/-- From the second loop's entry to its end, what the loop does not write is unchanged. -/
theorem keep34 (c : Dev nD) (b : Ref sig .tc) (h : b ∉ loop1_W) :
    W4 preI midI bodyI0 bodyI1 cond0 cond1 4096 4096 m c (Proc.devRef .tc b) = W3 preI midI bodyI0 cond0 4096 m c (Proc.devRef .tc b) := by
  rw [W4, after_of_writes_sub cond1 _ (loop1_writes cond1 List.mem_cons_self) h, atTrip_keep cond1 bodyI1 _ c loop1_writes b h]

/-- What no operation writes holds at the end what it held at the launch. -/
theorem keep_all (c : Dev nD) (b : Ref sig .tc) (h : b ∉ pre_W ++ ((loop0_W ++ mid_W) ++ (loop1_W ++ post_W))) :
    final m c (Proc.devRef .tc b) = m ((c.tc : Thread nD τ).loc b) := by
  obtain ⟨h1, h⟩ := not_or.mp (List.mem_append.not.mp h)
  obtain ⟨h2, h⟩ := not_or.mp (List.mem_append.not.mp h)
  obtain ⟨h3, h4⟩ := not_or.mp (List.mem_append.not.mp h)
  rw [final, W5, afterL_keep postI _ post_writes b h4, keep34 m c b h3, keep13 m c b h2, W1, afterL_keep preI _ pre_writes b h1]

/-- The reference leaves its arguments and its counters as they were. -/
theorem frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) ∧ r.2.sem = fun _ => 0) :=
  (θ_run defs _ _).mono (fun r h =>
    ⟨fun c => ⟨(h c main_arg0 rfl).trans (keep_all m c main_arg0 (by decide +kernel)),
      (h c main_arg1 rfl).trans (keep_all m c main_arg1 (by decide +kernel)),
      (h c main_arg2 rfl).trans (keep_all m c main_arg2 (by decide +kernel)),
      (h c main_arg3 rfl).trans (keep_all m c main_arg3 (by decide +kernel)),
      (h c main_arg4 rfl).trans (keep_all m c main_arg4 (by decide +kernel)),
      (h c main_arg5 rfl).trans (keep_all m c main_arg5 (by decide +kernel)),
      (h c main_arg6 rfl).trans (keep_all m c main_arg6 (by decide +kernel)),
      (h c main_arg7 rfl).trans (keep_all m c main_arg7 (by decide +kernel)),
      (h c main_arg8 rfl).trans (keep_all m c main_arg8 (by decide +kernel))⟩, sem_eq_zero_of_no_sems rfl r.2⟩) (run m ρ)

end Cert.Lru.Ref

end
-- ==== Proof.RLoop.lean ====
/- The values of the reference's two loops: the forward one leaves the recurrence's states, the backward one the cotangents that come back through it. -/
module

public import proofs.«01_k».proof.Proof.RShape
public import proofs.«01_k».proof.Proof.RRun
public import Idealize.ShloMosaic.Lib.DynamicIndex
public import Idealize.ShloMosaic.Lib.Pointwise.ShapeOpsCore

@[expose] public section

set_option maxRecDepth 16384

noncomputable section

namespace Cert.Lru.Ref

open Cert.ReferenceIdeal Cert.ReferenceIdeal.Gen
open Idealize.ShloMosaic Idealize.ShloMosaic.TcCoe Idealize.ShloMosaic.Tactic
open Idealize.SL.Sem Idealize.ShloMosaic.StableHlo

/-! ## One row read, one row written -/

/-- The counter, read as a number. -/
theorem ctr_int {k : ℕ} (hk : k < 4096) : (Scf.iv 0#32 1#32 k : BitVec 32).toInt = k := by
  rw [show (Scf.iv 0#32 1#32 k : BitVec 32) = BitVec.ofNat 32 k by simp [Scf.iv]]
  exact toInt_ofNat_of_lt (by omega)
/-- The row that the backward loop works at. -/
theorem back_int {k : ℕ} (hk : k < 4096) : (4096#32 - (Scf.iv 0#32 1#32 k : BitVec 32) - 1#32).toInt = ((4095 - k : ℕ) : ℤ) := by
  have e : 4096#32 - (Scf.iv 0#32 1#32 k : BitVec 32) - 1#32 = BitVec.ofNat 32 (4095 - k) := by
    apply BitVec.eq_of_toNat_eq
    simp [Scf.iv, BitVec.toNat_sub]
    omega
  rw [e]
  exact toInt_ofNat_of_lt (by omega)

variable {f g : ℕ → ℕ → ℕ → ℝ}

/-- Row `k` of an array. -/
theorem row_read {k : ℕ} (hk : k < 4096) {x : FVec Ideal S4096x1280 .f32} (hx : x = arr S4096x1280 .f32 f) (start : Fin S4096x1280.rank → ℤ)
    (h0 : start 0 = k) (h1 : start 1 = 0) (h h') :
    shapeCast (α := R) S1280 (Host.dynamicSlice (α := R) S1x1280 x start h) h' = arr S1280 .f32 (fun c _ _ => f k c 0) := by
  subst hx
  have hs : S4096x1280.Slices ![k, 0] S1x1280 := ⟨rfl, fun a => by fin_cases a <;> simp <;> omega⟩
  rw [Host.dynamicSlice_eq_extractStridedSlice S1x1280 _ start ![k, 0] h hs (fun a => by fin_cases a <;> simp [h0, h1]),
    slice2 (n := 4096) (m := 1280) hs]
  exact (of_row h').trans (arr1_congr fun c _ => by simp only [Nat.zero_add, Nat.add_zero])

/-- A row written over row `k`. -/
theorem row_write {k : ℕ} (hk : k < 4096) {x : FVec Ideal S4096x1280 .f32} (hx : x = arr S4096x1280 .f32 f) {u : FVec Ideal S1280 .f32} (hu : u = arr S1280 .f32 g)
    (start : Fin S4096x1280.rank → ℤ) (h0 : start 0 = k) (h1 : start 1 = 0) (h h') :
    Host.dynamicUpdateSlice (α := R) x (broadcastInDim (α := R) S1x1280 ![1] h' u) start h =
      arr S4096x1280 .f32 (fun t c _ => if t = k then g c 0 0 else f t c 0) := by
  subst hx hu
  rw [col_to rfl]
  have c0 : Host.clampedStart S4096x1280 S1x1280 h.1 start 0 = k := Host.clampedStart_of_le h.1 start 0 k h0 (by simp; omega)
  have c1 : Host.clampedStart S4096x1280 S1x1280 h.1 start 1 = 0 := Host.clampedStart_of_le h.1 start 1 0 h1 (by simp)
  refine arr_of2 (n := 4096) (m := 1280) fun a b => ?_
  rw [Host.dynamicUpdateSlice_apply]
  by_cases hak : a.val = k
  · rw [dif_pos (by
      intro d; fin_cases d
      · show Host.clampedStart S4096x1280 S1x1280 h.1 start 0 ≤ a.val ∧ a.val < Host.clampedStart S4096x1280 S1x1280 h.1 start 0 + 1
        omega
      · show Host.clampedStart S4096x1280 S1x1280 h.1 start 1 ≤ b.val ∧ b.val < Host.clampedStart S4096x1280 S1x1280 h.1 start 1 + 1280
        omega), if_pos hak]
    rw [arr_apply]
    congr 2
    show b.val - Host.clampedStart S4096x1280 S1x1280 h.1 start 1 = b.val
    omega
  · rw [dif_neg (by
      intro hin
      have := hin 0
      change Host.clampedStart S4096x1280 S1x1280 h.1 start 0 ≤ a.val ∧ a.val < Host.clampedStart S4096x1280 S1x1280 h.1 start 0 + 1 at this
      omega), if_neg hak]
    rfl

end Cert.Lru.Ref

end
-- ==== Proof.RLoop0.lean ====
/- The forward loop of the reference: after all its trips its first stack holds the states, its second one the states before them. -/
module

public import proofs.«01_k».proof.Proof.RLoop

@[expose] public section

set_option maxRecDepth 16384

noncomputable section

namespace Cert.Lru.Ref

open Cert.ReferenceIdeal Cert.ReferenceIdeal.Gen
open Idealize.ShloMosaic Idealize.ShloMosaic.TcCoe Idealize.ShloMosaic.Tactic
open Idealize.SL.Sem Idealize.ShloMosaic.StableHlo

variable (S : ℕ → Head) (X : Valuation τ sig (Elt Ideal))

/-- A state from the one before it. -/
theorem h_from (S : Head) : ∀ t j : ℕ, S.h t j = S.a t j * down 1 S.h t j + S.b t j
  | 0, j => by rw [Head.h_zero, down, if_neg (by omega), mul_zero, zero_add]
  | t + 1, j => by rw [Head.h_succ, down, if_pos (by omega), Nat.add_sub_cancel]

/-- One row per head, as a vector. -/
abbrev vec (f : Head → ℕ → ℝ) : FVec Ideal S1280 .f32 := arr S1280 .f32 (fun c _ _ => f (S (c / 128)) (c % 128))

/-- Before trip `k` of the forward loop. -/
structure Fwd (k : ℕ) : Prop where
  a : X (Proc.devRef .tc main_v83_0) = wide S Head.a
  b : X (Proc.devRef .tc main_v83_1) = wide S Head.b
  ctr : X (Proc.devRef .tc main_v83_2) = fun _ => (Scf.iv 0#32 1#32 k : BitVec 32)
  carry : X (Proc.devRef .tc main_v83_3) = vec S (fun S => down 1 S.h k)
  rows : X (Proc.devRef .tc main_v83_4) = wide S (fun S t j => if t < k then S.h t j else 0)
  prev : X (Proc.devRef .tc main_v83_5) = wide S (fun S t j => if t < k then down 1 S.h t j else 0)

theorem fwd_a {k : ℕ} (hk : k < 4096) (ha : X (Proc.devRef .tc main_v83_0) = wide S Head.a)
    (hc : X (Proc.devRef .tc main_v83_2) = fun _ => (Scf.iv 0#32 1#32 k : BitVec 32)) :
    after trip0A X (Proc.devRef .tc main_while0b_v215) = vec S (fun S => S.a k) := by
  after_results
  simp only [TRef.ofBuf_toBuf]
  exact row_read hk ha _ ((congrArg (fun z : IVec S_ 32 => (z (Shape.Idx.first h_S_)).toInt) hc).trans (ctr_int hk)) rfl sliceFits_S4096x1280_S1x1280 shapeCasts_S1x1280_S1280
theorem fwd_b {k : ℕ} (hk : k < 4096) (hb : X (Proc.devRef .tc main_v83_1) = wide S Head.b)
    (hc : X (Proc.devRef .tc main_v83_2) = fun _ => (Scf.iv 0#32 1#32 k : BitVec 32)) :
    after trip0B X (Proc.devRef .tc main_while0b_v216) = vec S (fun S => S.b k) := by
  after_results
  simp only [TRef.ofBuf_toBuf]
  exact row_read hk hb _ ((congrArg (fun z : IVec S_ 32 => (z (Shape.Idx.first h_S_)).toInt) hc).trans (ctr_int hk)) rfl sliceFits_S4096x1280_S1x1280 shapeCasts_S1x1280_S1280
theorem fwd_state {k : ℕ} (ha : X (Proc.devRef .tc main_while0b_v215) = vec S (fun S => S.a k))
    (hb : X (Proc.devRef .tc main_while0b_v216) = vec S (fun S => S.b k)) (hc : X (Proc.devRef .tc main_v83_3) = vec S (fun S => down 1 S.h k)) :
    after trip0C X (Proc.devRef .tc main_while0b_v218) = vec S (fun S => S.h k) := by
  after_results
  rw [ha, hb, hc, mulf_arr, addf_arr]
  exact arr1_congr fun c _ => (h_from _ _ _).symm
theorem fwd_rows {k : ℕ} (hk : k < 4096) (hh : X (Proc.devRef .tc main_while0b_v218) = vec S (fun S => S.h k))
    (hr : X (Proc.devRef .tc main_v83_4) = wide S (fun S t j => if t < k then S.h t j else 0))
    (hc : X (Proc.devRef .tc main_v83_2) = fun _ => (Scf.iv 0#32 1#32 k : BitVec 32)) :
    after trip0D X (Proc.devRef .tc main_while0b_v219) = wide S (fun S t j => if t < k + 1 then S.h t j else 0) := by
  after_results
  simp only [TRef.ofBuf_toBuf]
  refine (row_write hk hr hh _ ((congrArg (fun z : IVec S_ 32 => (z (Shape.Idx.first h_S_)).toInt) hc).trans (ctr_int hk)) rfl updateFits_S4096x1280_S1x1280 bcast_S1280_S1x1280_1).trans ?_
  refine arr2_congr fun t _ c _ => ?_
  beta_reduce
  by_cases ht : t = k
  · rw [if_pos ht, if_pos (by omega), ht]
  · rw [if_neg ht]; exact if_congr (by omega) rfl rfl
theorem fwd_prev {k : ℕ} (hk : k < 4096) (hh : X (Proc.devRef .tc main_v83_3) = vec S (fun S => down 1 S.h k))
    (hr : X (Proc.devRef .tc main_v83_5) = wide S (fun S t j => if t < k then down 1 S.h t j else 0))
    (hc : X (Proc.devRef .tc main_v83_2) = fun _ => (Scf.iv 0#32 1#32 k : BitVec 32)) :
    after trip0E X (Proc.devRef .tc main_while0b_v220) = wide S (fun S t j => if t < k + 1 then down 1 S.h t j else 0) := by
  after_results
  simp only [TRef.ofBuf_toBuf]
  refine (row_write hk hr hh _ ((congrArg (fun z : IVec S_ 32 => (z (Shape.Idx.first h_S_)).toInt) hc).trans (ctr_int hk)) rfl updateFits_S4096x1280_S1x1280 bcast_S1280_S1x1280_1).trans ?_
  refine arr2_congr fun t _ c _ => ?_
  beta_reduce
  by_cases ht : t = k
  · rw [if_pos ht, if_pos (by omega), ht]
  · rw [if_neg ht]; exact if_congr (by omega) rfl rfl
theorem fwd_move3 : after trip0F X (Proc.devRef .tc main_v83_3) = X (Proc.devRef .tc main_while0b_v218) := by
  after_results; rfl
theorem fwd_move4 : after trip0F X (Proc.devRef .tc main_v83_4) = X (Proc.devRef .tc main_while0b_v219) := by
  after_results; rfl
theorem fwd_move5 : after trip0F X (Proc.devRef .tc main_v83_5) = X (Proc.devRef .tc main_while0b_v220) := by
  after_results; rfl

theorem keepC0 {b : Ref sig .tc} (h : b ∉ cond0_W) : after cond0 X (Proc.devRef .tc b) = X (Proc.devRef .tc b) := after_of_writes_sub cond0 _ cond0_writes h
theorem keep0A {b : Ref sig .tc} (h : b ∉ trip0A_W) : after trip0A X (Proc.devRef .tc b) = X (Proc.devRef .tc b) := after_of_writes_sub trip0A _ trip0A_writes h
theorem keep0B {b : Ref sig .tc} (h : b ∉ trip0B_W) : after trip0B X (Proc.devRef .tc b) = X (Proc.devRef .tc b) := after_of_writes_sub trip0B _ trip0B_writes h
theorem keep0C {b : Ref sig .tc} (h : b ∉ trip0C_W) : after trip0C X (Proc.devRef .tc b) = X (Proc.devRef .tc b) := after_of_writes_sub trip0C _ trip0C_writes h
theorem keep0D {b : Ref sig .tc} (h : b ∉ trip0D_W) : after trip0D X (Proc.devRef .tc b) = X (Proc.devRef .tc b) := after_of_writes_sub trip0D _ trip0D_writes h
theorem keep0E {b : Ref sig .tc} (h : b ∉ trip0E_W) : after trip0E X (Proc.devRef .tc b) = X (Proc.devRef .tc b) := after_of_writes_sub trip0E _ trip0E_writes h
theorem keep0F {b : Ref sig .tc} (h : b ∉ trip0F_W) : after trip0F X (Proc.devRef .tc b) = X (Proc.devRef .tc b) := after_of_writes_sub trip0F _ trip0F_writes h

variable {S X} in
/-- One trip of the forward loop. -/
theorem Fwd.step {k : ℕ} (hk : k < 4096) (h : Fwd S X k) : Fwd S (afterL bodyI0 (after cond0 X)) (k + 1) := by
  simp only [afterL_cons, afterL_nil]
  have a0 := (keepC0 X (b := main_v83_0) (by decide +kernel)).trans h.a
  have b0 := (keepC0 X (b := main_v83_1) (by decide +kernel)).trans h.b
  have c0 := (keepC0 X (b := main_v83_2) (by decide +kernel)).trans h.ctr
  have y0 := (keepC0 X (b := main_v83_3) (by decide +kernel)).trans h.carry
  have r0 := (keepC0 X (b := main_v83_4) (by decide +kernel)).trans h.rows
  have p0 := (keepC0 X (b := main_v83_5) (by decide +kernel)).trans h.prev
  generalize after cond0 X = Y at *
  have sa := fwd_a S Y hk a0 c0
  have a1 := (keep0A Y (b := main_v83_0) (by decide +kernel)).trans a0
  have b1 := (keep0A Y (b := main_v83_1) (by decide +kernel)).trans b0
  have c1 := (keep0A Y (b := main_v83_2) (by decide +kernel)).trans c0
  have y1 := (keep0A Y (b := main_v83_3) (by decide +kernel)).trans y0
  have r1 := (keep0A Y (b := main_v83_4) (by decide +kernel)).trans r0
  have p1 := (keep0A Y (b := main_v83_5) (by decide +kernel)).trans p0
  generalize after trip0A Y = Z at *
  have sb := fwd_b S Z hk b1 c1
  have sa2 := (keep0B Z (b := main_while0b_v215) (by decide +kernel)).trans sa
  have a2 := (keep0B Z (b := main_v83_0) (by decide +kernel)).trans a1
  have b2 := (keep0B Z (b := main_v83_1) (by decide +kernel)).trans b1
  have c2 := (keep0B Z (b := main_v83_2) (by decide +kernel)).trans c1
  have y2 := (keep0B Z (b := main_v83_3) (by decide +kernel)).trans y1
  have r2 := (keep0B Z (b := main_v83_4) (by decide +kernel)).trans r1
  have p2 := (keep0B Z (b := main_v83_5) (by decide +kernel)).trans p1
  generalize after trip0B Z = T at *
  have sh := fwd_state S T sa2 sb y2
  have a3 := (keep0C T (b := main_v83_0) (by decide +kernel)).trans a2
  have b3 := (keep0C T (b := main_v83_1) (by decide +kernel)).trans b2
  have c3 := (keep0C T (b := main_v83_2) (by decide +kernel)).trans c2
  have y3 := (keep0C T (b := main_v83_3) (by decide +kernel)).trans y2
  have r3 := (keep0C T (b := main_v83_4) (by decide +kernel)).trans r2
  have p3 := (keep0C T (b := main_v83_5) (by decide +kernel)).trans p2
  generalize after trip0C T = U at *
  have sr := fwd_rows S U hk sh r3 c3
  have sh4 := (keep0D U (b := main_while0b_v218) (by decide +kernel)).trans sh
  have a4 := (keep0D U (b := main_v83_0) (by decide +kernel)).trans a3
  have b4 := (keep0D U (b := main_v83_1) (by decide +kernel)).trans b3
  have c4 := (keep0D U (b := main_v83_2) (by decide +kernel)).trans c3
  have y4 := (keep0D U (b := main_v83_3) (by decide +kernel)).trans y3
  have p4 := (keep0D U (b := main_v83_5) (by decide +kernel)).trans p3
  generalize after trip0D U = V at *
  have sp := fwd_prev S V hk y4 p4 c4
  have sh5 := (keep0E V (b := main_while0b_v218) (by decide +kernel)).trans sh4
  have sr5 := (keep0E V (b := main_while0b_v219) (by decide +kernel)).trans sr
  have a5 := (keep0E V (b := main_v83_0) (by decide +kernel)).trans a4
  have b5 := (keep0E V (b := main_v83_1) (by decide +kernel)).trans b4
  have c5 := (keep0E V (b := main_v83_2) (by decide +kernel)).trans c4
  generalize after trip0E V = W at *
  refine ⟨(keep0F W (by decide +kernel)).trans a5, (keep0F W (by decide +kernel)).trans b5, ?_, ?_, (fwd_move4 W).trans sr5, (fwd_move5 W).trans sp⟩
  · rw [ctr0_step, c5, Scf.iv_succ]; rfl
  · refine ((fwd_move3 W).trans sh5).trans (arr1_congr fun c _ => ?_)
    show (S (c / 128)).h k _ = down 1 (S (c / 128)).h (k + 1) _
    rw [down, if_pos (by omega), Nat.add_sub_cancel]

/-- All trips. -/
theorem Fwd.all (m : (ℓ : Loc nD τ sig) → Buf (Elt Ideal) ℓ) (c : Dev nD) (h : Fwd S (at0 m 0 c) 0) : ∀ k ≤ 4096, Fwd S (at0 m k c) k
  | 0, _ => h
  | k + 1, hk => (Fwd.all m c h k (by omega)).step (by omega)

end Cert.Lru.Ref

end
-- ==== Proof.RLoop1.lean ====
/- The backward loop of the reference: after all its trips its second stack holds the cotangents of the states, its first one their products with the states before. -/
module

public import proofs.«01_k».proof.Proof.RLoop

@[expose] public section

set_option maxRecDepth 16384

noncomputable section

namespace Cert.Lru.Ref

open Cert.ReferenceIdeal Cert.ReferenceIdeal.Gen
open Idealize.ShloMosaic Idealize.ShloMosaic.TcCoe Idealize.ShloMosaic.Tactic
open Idealize.SL.Sem Idealize.ShloMosaic.StableHlo

variable (S : ℕ → Head) (X : Valuation τ sig (Elt Ideal))

/-- What comes back into the row `4095 - k`: from the row after it, if there is one. -/
def comes (S : Head) (k j : ℕ) : ℝ := if k = 0 then 0 else S.a (4096 - k) j * S.g (4096 - k) j

theorem g_from (S : Head) {k : ℕ} (hk : k < 4096) (j : ℕ) : S.g (4095 - k) j = comes S k j + S.gin (4095 - k) j := by
  unfold comes
  by_cases h : k = 0
  · subst h; rw [if_pos rfl, zero_add]; exact S.g_last j
  · rw [if_neg h, S.g_step _ _ (by omega), show 4095 - k + 1 = 4096 - k by omega, add_comm]

/-- One row per head, as a vector. -/
abbrev rvec (f : Head → ℕ → ℝ) : FVec Ideal S1280 .f32 := arr S1280 .f32 (fun c _ _ => f (S (c / 128)) (c % 128))

/-- Before trip `k` of the backward loop. -/
structure Bwd (k : ℕ) : Prop where
  gin : X (Proc.devRef .tc main_v125_0) = wide S Head.gin
  prev : X (Proc.devRef .tc main_v125_1) = wide S (fun S => down 1 S.h)
  a : X (Proc.devRef .tc main_v125_2) = wide S Head.a
  ctr : X (Proc.devRef .tc main_v125_3) = fun _ => (Scf.iv 0#32 1#32 k : BitVec 32)
  carry : X (Proc.devRef .tc main_v125_4) = rvec S (fun S => comes S k)
  prods : X (Proc.devRef .tc main_v125_5) = wide S (fun S t j => if 4096 ≤ t + k then S.g t j * down 1 S.h t j else 0)
  rows : X (Proc.devRef .tc main_v125_6) = wide S (fun S t j => if 4096 ≤ t + k then S.g t j else 0)

/-- The row's number, as a word. -/
abbrev RowIs (k : ℕ) : Prop := X (Proc.devRef .tc main_while1b_v216) = fun _ => (4096#32 - (Scf.iv 0#32 1#32 k : BitVec 32) - 1#32)

theorem bwd_row {k : ℕ} (hc : X (Proc.devRef .tc main_v125_3) = fun _ => (Scf.iv 0#32 1#32 k : BitVec 32)) : RowIs (after trip1A X) k := by
  unfold RowIs
  after_results
  rw [hc]
  rfl

section
variable {f : Head → ℕ → ℕ → ℝ} {k : ℕ} (hk : k < 4096) (hc : RowIs X k)
include hk hc

theorem bwd_gin (h : X (Proc.devRef .tc main_v125_0) = wide S f) :
    after trip1B X (Proc.devRef .tc main_while1b_v217) = rvec S (fun S => f S (4095 - k)) := by
  after_results
  simp only [TRef.ofBuf_toBuf]
  exact row_read (by omega) h _ ((congrArg (fun z : IVec S_ 32 => (z (Shape.Idx.first h_S_)).toInt) hc).trans (back_int hk)) rfl sliceFits_S4096x1280_S1x1280 shapeCasts_S1x1280_S1280
theorem bwd_prev (h : X (Proc.devRef .tc main_v125_1) = wide S f) :
    after trip1C X (Proc.devRef .tc main_while1b_v218) = rvec S (fun S => f S (4095 - k)) := by
  after_results
  simp only [TRef.ofBuf_toBuf]
  exact row_read (by omega) h _ ((congrArg (fun z : IVec S_ 32 => (z (Shape.Idx.first h_S_)).toInt) hc).trans (back_int hk)) rfl sliceFits_S4096x1280_S1x1280 shapeCasts_S1x1280_S1280
theorem bwd_a (h : X (Proc.devRef .tc main_v125_2) = wide S f) :
    after trip1D X (Proc.devRef .tc main_while1b_v219) = rvec S (fun S => f S (4095 - k)) := by
  after_results
  simp only [TRef.ofBuf_toBuf]
  exact row_read (by omega) h _ ((congrArg (fun z : IVec S_ 32 => (z (Shape.Idx.first h_S_)).toInt) hc).trans (back_int hk)) rfl sliceFits_S4096x1280_S1x1280 shapeCasts_S1x1280_S1280

/-- A row of a stack filled in from the end. -/
theorem fill (f : Head → ℕ → ℕ → ℝ) :
    (arr S4096x1280 .f32 fun t c _ => if t = 4095 - k then f (S (c / 128)) (4095 - k) (c % 128) else if 4096 ≤ t + k then f (S (c / 128)) t (c % 128) else 0) =
      wide S (fun S t j => if 4096 ≤ t + (k + 1) then f S t j else 0) := by
  refine arr2_congr fun t _ c _ => ?_
  beta_reduce
  by_cases ht : t = 4095 - k
  · rw [if_pos ht, if_pos (by omega), ht]
  · rw [if_neg ht]; exact if_congr (by omega) rfl rfl

theorem bwd_prods (h : X (Proc.devRef .tc main_while1b_v222) = rvec S (fun S => f S (4095 - k)))
    (hr : X (Proc.devRef .tc main_v125_5) = wide S (fun S t j => if 4096 ≤ t + k then f S t j else 0)) :
    after trip1F X (Proc.devRef .tc main_while1b_v223) = wide S (fun S t j => if 4096 ≤ t + (k + 1) then f S t j else 0) := by
  after_results
  simp only [TRef.ofBuf_toBuf]
  exact (row_write (by omega) hr h _ ((congrArg (fun z : IVec S_ 32 => (z (Shape.Idx.first h_S_)).toInt) hc).trans (back_int hk)) rfl updateFits_S4096x1280_S1x1280 bcast_S1280_S1x1280_1).trans (fill S X hk hc f)
theorem bwd_rows (h : X (Proc.devRef .tc main_while1b_v220) = rvec S (fun S => f S (4095 - k)))
    (hr : X (Proc.devRef .tc main_v125_6) = wide S (fun S t j => if 4096 ≤ t + k then f S t j else 0)) :
    after trip1G X (Proc.devRef .tc main_while1b_v224) = wide S (fun S t j => if 4096 ≤ t + (k + 1) then f S t j else 0) := by
  after_results
  simp only [TRef.ofBuf_toBuf]
  exact (row_write (by omega) hr h _ ((congrArg (fun z : IVec S_ 32 => (z (Shape.Idx.first h_S_)).toInt) hc).trans (back_int hk)) rfl updateFits_S4096x1280_S1x1280 bcast_S1280_S1x1280_1).trans (fill S X hk hc f)
end

section
variable {k : ℕ} (hk : k < 4096) (hy : X (Proc.devRef .tc main_v125_4) = rvec S (fun S => comes S k))
  (hg : X (Proc.devRef .tc main_while1b_v217) = rvec S (fun S => S.gin (4095 - k)))
include hk hy hg

theorem bwd_g : after trip1E X (Proc.devRef .tc main_while1b_v220) = rvec S (fun S => S.g (4095 - k)) := by
  after_results
  rw [hy, hg, addf_arr]
  exact arr1_congr fun c _ => (g_from _ hk _).symm
theorem bwd_comes (ha : X (Proc.devRef .tc main_while1b_v219) = rvec S (fun S => S.a (4095 - k))) :
    after trip1E X (Proc.devRef .tc main_while1b_v221) = rvec S (fun S => comes S (k + 1)) := by
  after_results
  rw [hy, hg, ha, addf_arr, mulf_arr]
  refine arr1_congr fun c _ => ?_
  simp only [← g_from _ hk]
  rw [comes, if_neg (by omega), show 4096 - (k + 1) = 4095 - k by omega]
theorem bwd_prod (hp : X (Proc.devRef .tc main_while1b_v218) = rvec S (fun S => down 1 S.h (4095 - k))) :
    after trip1E X (Proc.devRef .tc main_while1b_v222) = rvec S (fun S j => S.g (4095 - k) j * down 1 S.h (4095 - k) j) := by
  after_results
  rw [hy, hg, hp, addf_arr, mulf_arr]
  refine arr1_congr fun c _ => ?_
  simp only [← g_from _ hk]
end

theorem bwd_move4 : after trip1H X (Proc.devRef .tc main_v125_4) = X (Proc.devRef .tc main_while1b_v221) := by
  after_results; rfl
theorem bwd_move5 : after trip1H X (Proc.devRef .tc main_v125_5) = X (Proc.devRef .tc main_while1b_v223) := by
  after_results; rfl
theorem bwd_move6 : after trip1H X (Proc.devRef .tc main_v125_6) = X (Proc.devRef .tc main_while1b_v224) := by
  after_results; rfl

theorem keepC1 {b : Ref sig .tc} (h : b ∉ cond1_W) : after cond1 X (Proc.devRef .tc b) = X (Proc.devRef .tc b) := after_of_writes_sub cond1 _ cond1_writes h
theorem keep1A {b : Ref sig .tc} (h : b ∉ trip1A_W) : after trip1A X (Proc.devRef .tc b) = X (Proc.devRef .tc b) := after_of_writes_sub trip1A _ trip1A_writes h
theorem keep1B {b : Ref sig .tc} (h : b ∉ trip1B_W) : after trip1B X (Proc.devRef .tc b) = X (Proc.devRef .tc b) := after_of_writes_sub trip1B _ trip1B_writes h
theorem keep1C {b : Ref sig .tc} (h : b ∉ trip1C_W) : after trip1C X (Proc.devRef .tc b) = X (Proc.devRef .tc b) := after_of_writes_sub trip1C _ trip1C_writes h
theorem keep1D {b : Ref sig .tc} (h : b ∉ trip1D_W) : after trip1D X (Proc.devRef .tc b) = X (Proc.devRef .tc b) := after_of_writes_sub trip1D _ trip1D_writes h
theorem keep1E {b : Ref sig .tc} (h : b ∉ trip1E_W) : after trip1E X (Proc.devRef .tc b) = X (Proc.devRef .tc b) := after_of_writes_sub trip1E _ trip1E_writes h
theorem keep1F {b : Ref sig .tc} (h : b ∉ trip1F_W) : after trip1F X (Proc.devRef .tc b) = X (Proc.devRef .tc b) := after_of_writes_sub trip1F _ trip1F_writes h
theorem keep1G {b : Ref sig .tc} (h : b ∉ trip1G_W) : after trip1G X (Proc.devRef .tc b) = X (Proc.devRef .tc b) := after_of_writes_sub trip1G _ trip1G_writes h
theorem keep1H {b : Ref sig .tc} (h : b ∉ trip1H_W) : after trip1H X (Proc.devRef .tc b) = X (Proc.devRef .tc b) := after_of_writes_sub trip1H _ trip1H_writes h

/-- What the reads, the row's step and the writes leave alone: the loop's inputs and its counter. -/
structure Still (k : ℕ) : Prop where
  gin : X (Proc.devRef .tc main_v125_0) = wide S Head.gin
  prev : X (Proc.devRef .tc main_v125_1) = wide S (fun S => down 1 S.h)
  a : X (Proc.devRef .tc main_v125_2) = wide S Head.a
  ctr : X (Proc.devRef .tc main_v125_3) = fun _ => (Scf.iv 0#32 1#32 k : BitVec 32)

variable {S X} in
theorem Still.on {k : ℕ} (h : Still S X k) {Y : Valuation τ sig (Elt Ideal)} (e0 : Y (Proc.devRef .tc main_v125_0) = X (Proc.devRef .tc main_v125_0))
    (e1 : Y (Proc.devRef .tc main_v125_1) = X (Proc.devRef .tc main_v125_1)) (e2 : Y (Proc.devRef .tc main_v125_2) = X (Proc.devRef .tc main_v125_2))
    (e3 : Y (Proc.devRef .tc main_v125_3) = X (Proc.devRef .tc main_v125_3)) : Still S Y k :=
  ⟨e0.trans h.gin, e1.trans h.prev, e2.trans h.a, e3.trans h.ctr⟩

variable {S X} in
/-- One trip of the backward loop. -/
theorem Bwd.step {k : ℕ} (hk : k < 4096) (h : Bwd S X k) : Bwd S (afterL bodyI1 (after cond1 X)) (k + 1) := by
  simp only [afterL_cons, afterL_nil]
  have s0 : Still S (after cond1 X) k := Still.on ⟨h.gin, h.prev, h.a, h.ctr⟩ (keepC1 X (by decide +kernel)) (keepC1 X (by decide +kernel)) (keepC1 X (by decide +kernel)) (keepC1 X (by decide +kernel))
  have y0 := (keepC1 X (b := main_v125_4) (by decide +kernel)).trans h.carry
  have p0 := (keepC1 X (b := main_v125_5) (by decide +kernel)).trans h.prods
  have r0 := (keepC1 X (b := main_v125_6) (by decide +kernel)).trans h.rows
  generalize after cond1 X = A at *
  have n1 := bwd_row A s0.ctr
  have s1 := s0.on (keep1A A (by decide +kernel)) (keep1A A (by decide +kernel)) (keep1A A (by decide +kernel)) (keep1A A (by decide +kernel))
  have y1 := (keep1A A (b := main_v125_4) (by decide +kernel)).trans y0
  have p1 := (keep1A A (b := main_v125_5) (by decide +kernel)).trans p0
  have r1 := (keep1A A (b := main_v125_6) (by decide +kernel)).trans r0
  generalize after trip1A A = B at *
  have g2 := bwd_gin S B hk n1 s1.gin
  have n2 : RowIs (after trip1B B) k := (keep1B B (b := main_while1b_v216) (by decide +kernel)).trans n1
  have s2 := s1.on (keep1B B (by decide +kernel)) (keep1B B (by decide +kernel)) (keep1B B (by decide +kernel)) (keep1B B (by decide +kernel))
  have y2 := (keep1B B (b := main_v125_4) (by decide +kernel)).trans y1
  have p2 := (keep1B B (b := main_v125_5) (by decide +kernel)).trans p1
  have r2 := (keep1B B (b := main_v125_6) (by decide +kernel)).trans r1
  generalize after trip1B B = C at *
  have h3 := bwd_prev S C hk n2 s2.prev
  have g3 := (keep1C C (b := main_while1b_v217) (by decide +kernel)).trans g2
  have n3 : RowIs (after trip1C C) k := (keep1C C (b := main_while1b_v216) (by decide +kernel)).trans n2
  have s3 := s2.on (keep1C C (by decide +kernel)) (keep1C C (by decide +kernel)) (keep1C C (by decide +kernel)) (keep1C C (by decide +kernel))
  have y3 := (keep1C C (b := main_v125_4) (by decide +kernel)).trans y2
  have p3 := (keep1C C (b := main_v125_5) (by decide +kernel)).trans p2
  have r3 := (keep1C C (b := main_v125_6) (by decide +kernel)).trans r2
  generalize after trip1C C = D at *
  have a4 := bwd_a S D hk n3 s3.a
  have h4 := (keep1D D (b := main_while1b_v218) (by decide +kernel)).trans h3
  have g4 := (keep1D D (b := main_while1b_v217) (by decide +kernel)).trans g3
  have n4 : RowIs (after trip1D D) k := (keep1D D (b := main_while1b_v216) (by decide +kernel)).trans n3
  have s4 := s3.on (keep1D D (by decide +kernel)) (keep1D D (by decide +kernel)) (keep1D D (by decide +kernel)) (keep1D D (by decide +kernel))
  have y4 := (keep1D D (b := main_v125_4) (by decide +kernel)).trans y3
  have p4 := (keep1D D (b := main_v125_5) (by decide +kernel)).trans p3
  have r4 := (keep1D D (b := main_v125_6) (by decide +kernel)).trans r3
  generalize after trip1D D = E at *
  have v5 := bwd_g S E hk y4 g4
  have w5 := bwd_comes S E hk y4 g4 a4
  have q5 := bwd_prod S E hk y4 g4 h4
  have n5 : RowIs (after trip1E E) k := (keep1E E (b := main_while1b_v216) (by decide +kernel)).trans n4
  have s5 := s4.on (keep1E E (by decide +kernel)) (keep1E E (by decide +kernel)) (keep1E E (by decide +kernel)) (keep1E E (by decide +kernel))
  have p5 := (keep1E E (b := main_v125_5) (by decide +kernel)).trans p4
  have r5 := (keep1E E (b := main_v125_6) (by decide +kernel)).trans r4
  generalize after trip1E E = G at *
  have p6 := bwd_prods S G (f := fun S t j => S.g t j * down 1 S.h t j) hk n5 q5 p5
  have v6 := (keep1F G (b := main_while1b_v220) (by decide +kernel)).trans v5
  have w6 := (keep1F G (b := main_while1b_v221) (by decide +kernel)).trans w5
  have n6 : RowIs (after trip1F G) k := (keep1F G (b := main_while1b_v216) (by decide +kernel)).trans n5
  have s6 := s5.on (keep1F G (by decide +kernel)) (keep1F G (by decide +kernel)) (keep1F G (by decide +kernel)) (keep1F G (by decide +kernel))
  have r6 := (keep1F G (b := main_v125_6) (by decide +kernel)).trans r5
  generalize after trip1F G = H at *
  have r7 := bwd_rows S H (f := Head.g) hk n6 v6 r6
  have p7 := (keep1G H (b := main_while1b_v223) (by decide +kernel)).trans p6
  have w7 := (keep1G H (b := main_while1b_v221) (by decide +kernel)).trans w6
  have s7 := s6.on (keep1G H (by decide +kernel)) (keep1G H (by decide +kernel)) (keep1G H (by decide +kernel)) (keep1G H (by decide +kernel))
  generalize after trip1G H = I at *
  refine ⟨(keep1H I (by decide +kernel)).trans s7.gin, (keep1H I (by decide +kernel)).trans s7.prev, (keep1H I (by decide +kernel)).trans s7.a, ?_,
    (bwd_move4 I).trans w7, (bwd_move5 I).trans p7, (bwd_move6 I).trans r7⟩
  rw [ctr1_step, s7.ctr, Scf.iv_succ]; rfl

/-- All trips. -/
theorem Bwd.all (m : (ℓ : Loc nD τ sig) → Buf (Elt Ideal) ℓ) (c : Dev nD) (h : Bwd S (at1 m 0 c) 0) : ∀ k ≤ 4096, Bwd S (at1 m k c) k
  | 0, _ => h
  | k + 1, hk => (Bwd.all m c h k (by omega)).step (by omega)

end Cert.Lru.Ref

end
-- ==== Proof.RMid.lean ====
/- The values of the reference between its loops: the gelu, its gradient, and the backward loop's inputs. -/
module

public import proofs.«01_k».proof.Proof.RShape
public import proofs.«01_k».proof.Proof.ROps

@[expose] public section

set_option maxRecDepth 16384

noncomputable section

namespace Cert.Lru.Ref

open Cert.ReferenceIdeal Cert.ReferenceIdeal.Gen
open Idealize.ShloMosaic Idealize.ShloMosaic.TcCoe Idealize.ShloMosaic.Tactic
open Idealize.SL.Sem Idealize.ShloMosaic.StableHlo

variable (S : ℕ → Head) (X : Valuation τ sig (Elt Ideal))

/-- The cubic coefficient, a quotient of two whole numbers. -/
theorem gelu_quotient : Host.divf (constant (F := Ideal) S_ .f32 0x472EAB00#32) (constant (F := Ideal) S_ .f32 0x49742400#32) = arr S_ .f32 (fun _ _ _ => gk) := by
  rw [c_44715, c_million, hostDivf_arr fun _ _ _ => by norm_num]
  simp only [gk]
  norm_num
theorem gelu_k : after opsGelu X (Proc.devRef .tc main_v84) = arr S_ .f32 (fun _ _ _ => gk) := by
  after_results
  exact gelu_quotient

section
variable (hy : X (Proc.devRef .tc main_v1) = wide S Head.y)
include hy
theorem gelu_sq : after opsGelu X (Proc.devRef .tc main_v89) = wide S (fun S t j => 3 * (S.y t j * S.y t j)) := by
  after_results
  rw [hy]
  simp (index := false) only [c_three, scalar_to, mulf_arr]
theorem gelu_arg : after opsGelu X (Proc.devRef .tc main_v94) = wide S (fun S t j => gc * (S.y t j + gk * S.y t j * S.y t j * S.y t j)) := by
  after_results
  rw [hy, gelu_quotient]
  simp (index := false) only [c_gelu, scalar_to, mulf_arr, addf_arr]
  refine arr2_congr fun t _ c _ => ?_
  ring
end

section
variable (hy : X (Proc.devRef .tc main_v1) = wide S Head.y)
  (hz : X (Proc.devRef .tc main_v94) = wide S (fun S t j => gc * (S.y t j + gk * S.y t j * S.y t j * S.y t j)))
  (hct : X (Proc.devRef .tc main_arg8) = wide S Head.ct)
include hy hz hct
theorem out_gin : after opsOut X (Proc.devRef .tc main_v109) = wide S Head.gin := by
  after_results
  rw [hy, hz, hct]
  simp (index := false) only [c_one, c_half, scalar_to, hostTanh_arr, mulf_arr, addf_arr]
  refine arr2_congr fun t _ c _ => ?_
  simp only [Head.gin, gelu, gt]
  ring
theorem out_dyl (hh : X (Proc.devRef .tc main_v83_4) = wide S Head.h) (hk : X (Proc.devRef .tc main_v84) = arr S_ .f32 (fun _ _ _ => gk))
    (hs : X (Proc.devRef .tc main_v89) = wide S (fun S t j => 3 * (S.y t j * S.y t j))) :
    after opsOut X (Proc.devRef .tc main_v121) = wide S Head.dyl := by
  after_results
  rw [hy, hz, hct, hh, hk, hs]
  simp (index := false) only [c_one, c_half, c_gelu, scalar_to, hostTanh_arr, mulf_arr, addf_arr, subf_arr]
  refine arr2_congr fun t _ c _ => ?_
  simp only [Head.dyl, gelu', gt]
  ring
end

theorem start_gin : after opsStart X (Proc.devRef .tc main_v125_0) = X (Proc.devRef .tc main_v109) := by
  after_results; rfl
theorem start_prev : after opsStart X (Proc.devRef .tc main_v125_1) = X (Proc.devRef .tc main_v83_5) := by
  after_results; rfl
theorem start_a : after opsStart X (Proc.devRef .tc main_v125_2) = X (Proc.devRef .tc main_v69) := by
  after_results; rfl
theorem start_carry : after opsStart X (Proc.devRef .tc main_v125_4) = arr S1280 .f32 (fun _ _ _ => 0) := by
  after_results
  exact (congrArg _ (c_zero S_)).trans (scalar_to _ _ _)
theorem start_prods : after opsStart X (Proc.devRef .tc main_v125_5) = arr S4096x1280 .f32 (fun _ _ _ => 0) := by
  after_results
  exact (congrArg _ (c_zero S_)).trans (scalar_to _ _ _)
theorem start_rows : after opsStart X (Proc.devRef .tc main_v125_6) = arr S4096x1280 .f32 (fun _ _ _ => 0) := by
  after_results
  exact (congrArg _ (c_zero S_)).trans (scalar_to _ _ _)

end Cert.Lru.Ref

end
-- ==== Proof.RPost.lean ====
/- The values of the reference after its loops: the gradients of the decay, the gates and their weights. -/
module

public import proofs.«01_k».proof.Proof.RShape
public import proofs.«01_k».proof.Proof.ROps

@[expose] public section

set_option maxRecDepth 16384

noncomputable section

namespace Cert.Lru.Ref

open Cert.ReferenceIdeal Cert.ReferenceIdeal.Gen
open Idealize.ShloMosaic Idealize.ShloMosaic.TcCoe Idealize.ShloMosaic.Tactic
open Idealize.SL.Sem Idealize.ShloMosaic.StableHlo

variable (S : ℕ → Head) (X : Valuation τ sig (Elt Ideal))

section
variable (hm : X (Proc.devRef .tc main_v75) = wide S Head.mult) (hg : X (Proc.devRef .tc main_v125_6) = wide S Head.g)
include hm hg
theorem mult_di (hi : X (Proc.devRef .tc main_v59) = wide S Head.i) : after opsMult X (Proc.devRef .tc main_v128) = wide S (fun S t j => S.dv t j * S.i t j) := by
  after_results
  rw [hm, hg, hi]
  simp only [mulf_arr]
  exact arr2_congr fun t _ c _ => by simp only [Head.dv]; ring
theorem mult_du (hu : X (Proc.devRef .tc main_v33) = wide S Head.u) : after opsMult X (Proc.devRef .tc main_v129) = wide S (fun S t j => S.dv t j * S.u t j) := by
  after_results
  rw [hm, hg, hu]
  simp only [mulf_arr]
  exact arr2_congr fun t _ c _ => by simp only [Head.dv]; ring
end
theorem mult_sq (hg : X (Proc.devRef .tc main_v125_6) = wide S Head.g) (hiu : X (Proc.devRef .tc main_v78) = wide S Head.iu)
    (hh : X (Proc.devRef .tc main_v77) = wide S (fun S t j => 1 / 2 / S.mult t j)) (he : X (Proc.devRef .tc main_v73) = wide S (fun S t j => Real.exp (2 * S.la t j))) :
    after opsMult X (Proc.devRef .tc main_v134) = wide S (fun S t j => -(S.g t j * S.iu t j * (S.a t j * S.a t j) / S.mult t j)) := by
  after_results
  rw [hg, hiu, hh, he]
  simp (index := false) only [c_two, scalar_to, mulf_arr, negf_arr]
  refine arr2_congr fun t _ c _ => ?_
  simp only [Head.exp_two_la]
  ring
theorem mult_dec (hp : X (Proc.devRef .tc main_v125_5) = wide S (fun S t j => S.g t j * down 1 S.h t j)) (ha : X (Proc.devRef .tc main_v69) = wide S Head.a) :
    after opsMult X (Proc.devRef .tc main_v135) = wide S (fun S t j => S.g t j * down 1 S.h t j * S.a t j) := by
  after_results
  rw [hp, ha]
  exact mulf_arr

/-- A column's sum, as a row. -/
theorem row_sum {x : FVec Ideal S4096x1280 .f32} {f : Head → ℕ → ℕ → ℝ} (hx : x = wide S f) (h : S4096x1280.ReducesTo [0] S1280) (hu h') :
    shapeCast (α := R) S1x1280 (Host.reduceAdd x (constant (F := Ideal) S_ .f32 0x00000000#32) h hu) h' = row S (fun S j => ∑ t ∈ Finset.range 4096, f S t j) := by
  subst hx
  rw [c_zero, sum_rows, to_row]

section
variable (hq : X (Proc.devRef .tc main_v134) = wide S (fun S t j => -(S.g t j * S.iu t j * (S.a t j * S.a t j) / S.mult t j)))
  (hd : X (Proc.devRef .tc main_v135) = wide S (fun S t j => S.g t j * down 1 S.h t j * S.a t j))
include hq hd
theorem dla_arr : addf (F := Ideal) (φ := .f32) (s := S4096x1280) (X (Proc.devRef .tc main_v134)) (X (Proc.devRef .tc main_v135)) = wide S Head.dla := by
  rw [hq, hd, addf_arr]
  exact arr2_congr fun t _ c _ => by simp only [Head.dla]; ring
theorem lam_row (hr : X (Proc.devRef .tc main_v64) = wide S (fun S t j => -8 * S.r t j)) :
    after opsLam X (Proc.devRef .tc main_v139) = row S (fun S j => ∑ t ∈ Finset.range 4096, S.dla t j * (-8 * S.r t j)) := by
  after_results
  refine row_sum S (f := fun S t j => S.dla t j * (-8 * S.r t j)) ?_ _ _ _
  rw [dla_arr S X hq hd, hr, mulf_arr]
  exact arr2_congr fun t _ c _ => mul_comm _ _
theorem lam_sp (hs : X (Proc.devRef .tc main_v66_0) = row S Head.sp) : after opsLam X (Proc.devRef .tc main_v141) = wide S (fun S t j => S.dla t j * S.sp j) := by
  after_results
  rw [dla_arr S X hq hd, hs, row_to rfl, mulf_arr]
end
theorem lamS_v (hl : X (Proc.devRef .tc main_v139) = row S (fun S j => ∑ t ∈ Finset.range 4096, S.dla t j * (-8 * S.r t j)))
    (hs : X (Proc.devRef .tc main_v66_1) = row S (fun S j => 1 / (1 + Real.exp (S.lam j)))) :
    after opsLamS X (Proc.devRef .tc main_v142) = row S (fun S j => (∑ t ∈ Finset.range 4096, S.dla t j * (-8 * S.r t j)) * (1 / (1 + Real.exp (S.lam j)))) := by
  after_results
  simp only [TRef.ofBuf_toBuf]
  have e : mulf (F := Ideal) (φ := .f32) (s := S1x1280) (X (Proc.devRef .tc main_v139)) (X (Proc.devRef .tc main_v66_1)) = row S (fun S j => (∑ t ∈ Finset.range 4096, S.dla t j * (-8 * S.r t j)) * (1 / (1 + Real.exp (S.lam j)))) := by
    rw [hl, hs]; exact mulf_arr
  exact e

theorem gate_dlam (hl : X (Proc.devRef .tc main_v142) = row S (fun S j => (∑ t ∈ Finset.range 4096, S.dla t j * (-8 * S.r t j)) * (1 / (1 + Real.exp (S.lam j))))) :
    after opsGateB X (Proc.devRef .tc main_v143) = row S Head.dlam := by
  after_results
  rw [hl, negf_arr]
  exact arr2_congr fun t _ c _ => by simp only [Head.dlam]; ring

/-- The gradient of a gate's input, back through its matrices. -/
theorem gate_back {d : FVec Ideal S4096x1280 .f32} {w : FVec Ideal S10x128x128 .f32} {fd fw : Head → ℕ → ℕ → ℝ} (hd : d = wide S fd) (hw : w = mats S fw) (h1 h2 h3) :
    transpose (α := R) S4096x10x128 [1, 0, 2] (Host.dotGeneral (φ₁ := .f32) (φ₂ := .f32) dot_S10x128x4096_S10x128x128_S10x4096x128_1_2_2_1_0_0 none
      (transpose (α := R) S10x128x4096 [1, 2, 0] (shapeCast (α := R) S4096x10x128 d h1) h2) w) h3 =
    heads S (fun S t c => ∑ j ∈ Finset.range 128, fd S t j * fw S c j) := by
  subst hd hw
  rw [blocks, turn_120, r_dot_rows, turn_102]
  refine arr3_congr fun t _ n _ c _ => Finset.sum_congr rfl fun j hj => ?_
  rw [block_div _ _ (Finset.mem_range.mp hj), block_mod _ _ (Finset.mem_range.mp hj)]
/-- The gradient of a gate's matrices. -/
theorem gate_mats {d : FVec Ideal S4096x1280 .f32} {u : FVec Ideal S4096x10x128 .f32} {fd fu : Head → ℕ → ℕ → ℝ} (hd : d = wide S fd) (hu : u = heads S fu) (h1 h2 h3) :
    transpose (α := R) S10x128x128 [0, 2, 1] (Host.dotGeneral (φ₁ := .f32) (φ₂ := .f32) dot_S10x128x4096_S4096x10x128_S10x128x128_2_0_1_2_0_1 none
      (transpose (α := R) S10x128x4096 [1, 2, 0] (shapeCast (α := R) S4096x10x128 d h1) h2) u) h3 =
    mats S (fun S c j => ∑ t ∈ Finset.range 4096, fu S t c * fd S t j) := by
  subst hd hu
  rw [blocks, turn_120, r_dot_mats, turn_021]
  refine arr3_congr fun n _ c _ j hj => Finset.sum_congr rfl fun t _ => ?_
  rw [block_div _ _ hj, block_mod _ _ hj, mul_comm]

section
variable (hu : X (Proc.devRef .tc main_v129) = wide S (fun S t j => S.dv t j * S.u t j)) (hi : X (Proc.devRef .tc main_v62) = wide S (fun S t j => S.i t j * (1 - S.i t j)))
include hu hi
theorem dip_arr : mulf (F := Ideal) (φ := .f32) (s := S4096x1280) (X (Proc.devRef .tc main_v129)) (X (Proc.devRef .tc main_v62)) = wide S Head.dip := by
  rw [hu, hi, mulf_arr]
  exact arr2_congr fun t _ c _ => by simp only [Head.dip]; ring
theorem gate_dbi : after opsGateB X (Proc.devRef .tc main_v148) = row S Head.dbi := by
  after_results
  exact row_sum S (dip_arr S X hu hi) _ _ _
theorem gate_dwi (hh : X (Proc.devRef .tc main_v34) = heads S Head.u) : after opsGateB X (Proc.devRef .tc main_v154) = mats S Head.dwi := by
  after_results
  exact gate_mats S (dip_arr S X hu hi) hh _ _ _
end

section
variable (hd : X (Proc.devRef .tc main_v141) = wide S (fun S t j => S.dla t j * S.sp j)) (hr : X (Proc.devRef .tc main_v48) = wide S (fun S t j => S.r t j * (1 - S.r t j)))
include hd hr
theorem drp_arr (h : S_.BroadcastsInDim S4096x1280 ![]) :
    mulf (F := Ideal) (φ := .f32) (s := S4096x1280) (mulf (broadcastInDim (α := R) S4096x1280 ![] h (constant (F := Ideal) S_ .f32 0xC1000000#32)) (X (Proc.devRef .tc main_v141)))
      (X (Proc.devRef .tc main_v48)) = wide S Head.drp := by
  rw [hd, hr, c_neg_eight, scalar_to]
  simp only [mulf_arr]
  exact arr2_congr fun t _ c _ => by simp only [Head.drp, Head.dr]; ring
theorem gate_dbr : after opsGateB X (Proc.devRef .tc main_v157) = row S Head.dbr := by
  after_results
  exact row_sum S (drp_arr S X hd hr _) _ _ _
theorem gate_dwr (hh : X (Proc.devRef .tc main_v34) = heads S Head.u) : after opsGateB X (Proc.devRef .tc main_v164) = mats S Head.dwr := by
  after_results
  exact gate_mats S (drp_arr S X hd hr _) hh _ _ _
theorem gate_du (hu : X (Proc.devRef .tc main_v129) = wide S (fun S t j => S.dv t j * S.u t j)) (hi : X (Proc.devRef .tc main_v62) = wide S (fun S t j => S.i t j * (1 - S.i t j)))
    (hv : X (Proc.devRef .tc main_v128) = wide S (fun S t j => S.dv t j * S.i t j)) (hwr : X (Proc.devRef .tc main_arg3) = mats S Head.wr)
    (hwi : X (Proc.devRef .tc main_arg5) = mats S Head.wi) : after opsGateB X (Proc.devRef .tc main_v166) = wide S Head.du := by
  after_results
  erw [gate_back S (dip_arr S X hu hi) hwi, gate_back S (drp_arr S X hd hr _) hwr, addf_arr, unblocks, hv, addf_arr]
  exact arr2_congr fun t _ c _ => by simp only [Head.du]; ring
end

end Cert.Lru.Ref

end
-- ==== Proof.RTaps.lean ====
/- The values of the reference's last stretch: the gradients of the convolution's weights, bias and input. -/
module

public import proofs.«01_k».proof.Proof.RShape
public import proofs.«01_k».proof.Proof.ROps

@[expose] public section

set_option maxRecDepth 16384

noncomputable section

namespace Cert.Lru.Ref

open Cert.ReferenceIdeal Cert.ReferenceIdeal.Gen
open Idealize.ShloMosaic Idealize.ShloMosaic.TcCoe Idealize.ShloMosaic.Tactic
open Idealize.SL.Sem Idealize.ShloMosaic.StableHlo

variable (S : ℕ → Head) (X : Valuation τ sig (Elt Ideal))

/-- A number of every channel put at the row `lo` of the four taps, zeros elsewhere. -/
abbrev at4 (lo : ℕ) (f : Head → ℕ → ℝ) (k c : ℕ) : ℝ := if lo ≤ k ∧ k - lo < 1 then f (S (c / 128)) (c % 128) else 0
/-- The rows put at the rows from `lo` on, zeros elsewhere. -/
abbrev at4099 (lo : ℕ) (f : Head → ℕ → ℕ → ℝ) (t c : ℕ) : ℝ := if lo ≤ t ∧ t - lo < 4096 then f (S (c / 128)) (t - lo) (c % 128) else 0

/-- A tap's gradient: the sum of its products, at its row of the four. -/
theorem tap_sum {x d : FVec Ideal S4096x1280 .f32} {fx fd : Head → ℕ → ℕ → ℝ} (hx : x = wide S fx) (hd : d = wide S fd) (lo hi : ℕ)
    (h1 : S4096x1280.ReducesTo [0] S1280) (hu h2) (h3 : S1x1280.ReducesTo [0] S1280) (hu' h4 h5 hu'') :
    pad (α := R) S4x1280 ![lo, 0] ![hi, 0] ![0, 0] (broadcastInDim (α := R) S1x1280 ![1] h4
      (Host.reduceAdd (φ := .f32) (shapeCast (α := R) S1x1280 (Host.reduceAdd (mulf x d) (constant (F := Ideal) S_ .f32 0x00000000#32) h1 hu) h2)
        (constant (F := Ideal) S_ .f32 0x00000000#32) h3 hu')) (constant (F := Ideal) S_ .f32 0x00000000#32) h5 hu'' =
    arr S4x1280 .f32 (fun k c _ => at4 S lo (fun S j => ∑ t ∈ Finset.range 4096, fx S t j * fd S t j) k c) := by
  subst hx hd
  rw [mulf_arr, c_zero, sum_rows, to_row, sum_row, col_to rfl, padded4]

/-- A tap's part of the input's gradient: the products at the rows that the tap read. -/
theorem tap_rows {d : FVec Ideal S4096x1280 .f32} {w : FVec Ideal S1x1280 .f32} {fd : Head → ℕ → ℕ → ℝ} {fw : Head → ℕ → ℝ} (hd : d = wide S fd) (hw : w = row S fw) (lo hi : ℕ)
    (h1 h2 hu) :
    pad (α := R) S4099x1280 ![lo, 0] ![hi, 0] ![0, 0] (mulf d (broadcastInDim (α := R) S4096x1280 ![0, 1] h1 w)) (constant (F := Ideal) S_ .f32 0x00000000#32) h2 hu =
    arr S4099x1280 .f32 (fun t c _ => at4099 S lo (fun S t j => fd S t j * fw S j) t c) := by
  subst hd hw
  rw [row_to rfl, mulf_arr, c_zero, padded]

section
variable (hd : X (Proc.devRef .tc main_v166) = wide S Head.du)
include hd

theorem tapA_w (h3 : X (Proc.devRef .tc main_v27) = wide S (fun S => down 0 S.x)) (h2 : X (Proc.devRef .tc main_v20) = wide S (fun S => down 1 S.x)) :
    after opsTapA X (Proc.devRef .tc main_v184) = arr S4x1280 .f32 (fun k c _ =>
      at4 S 3 (fun S j => ∑ t ∈ Finset.range 4096, down 0 S.x t j * S.du t j) k c + at4 S 2 (fun S j => ∑ t ∈ Finset.range 4096, down 1 S.x t j * S.du t j) k c) := by
  after_results
  erw [tap_sum S h3 hd 3 0, tap_sum S h2 hd 2 1]
  exact addf_arr
theorem tapA_3 (hw : X (Proc.devRef .tc main_v30) = row S (fun S => S.cw 3)) :
    after opsTapA X (Proc.devRef .tc main_v175) = arr S4099x1280 .f32 (fun t c _ => at4099 S 3 (fun S t j => S.du t j * S.cw 3 j) t c) := by
  after_results
  exact tap_rows S hd hw 3 0 _ _ _
theorem tapA_2 (hw : X (Proc.devRef .tc main_v23) = row S (fun S => S.cw 2)) :
    after opsTapA X (Proc.devRef .tc main_v180) = wide S (fun S t j => S.du t j * S.cw 2 j) := by
  after_results
  rw [hd, hw, row_to rfl, mulf_arr]

theorem tapB_w (h1 : X (Proc.devRef .tc main_v13) = wide S (fun S => down 2 S.x))
    (hp : X (Proc.devRef .tc main_v184) = arr S4x1280 .f32 (fun k c _ =>
      at4 S 3 (fun S j => ∑ t ∈ Finset.range 4096, down 0 S.x t j * S.du t j) k c + at4 S 2 (fun S j => ∑ t ∈ Finset.range 4096, down 1 S.x t j * S.du t j) k c)) :
    after opsTapB X (Proc.devRef .tc main_v195) = arr S4x1280 .f32 (fun k c _ =>
      at4 S 3 (fun S j => ∑ t ∈ Finset.range 4096, down 0 S.x t j * S.du t j) k c + at4 S 2 (fun S j => ∑ t ∈ Finset.range 4096, down 1 S.x t j * S.du t j) k c +
        at4 S 1 (fun S j => ∑ t ∈ Finset.range 4096, down 2 S.x t j * S.du t j) k c) := by
  after_results
  erw [tap_sum S h1 hd 1 2, hp]
  exact addf_arr
theorem tapB_x (h3 : X (Proc.devRef .tc main_v175) = arr S4099x1280 .f32 (fun t c _ => at4099 S 3 (fun S t j => S.du t j * S.cw 3 j) t c))
    (h2 : X (Proc.devRef .tc main_v180) = wide S (fun S t j => S.du t j * S.cw 2 j)) (hw : X (Proc.devRef .tc main_v16) = row S (fun S => S.cw 1)) :
    after opsTapB X (Proc.devRef .tc main_v197) = arr S4099x1280 .f32 (fun t c _ =>
      at4099 S 3 (fun S t j => S.du t j * S.cw 3 j) t c + at4099 S 2 (fun S t j => S.du t j * S.cw 2 j) t c + at4099 S 1 (fun S t j => S.du t j * S.cw 1 j) t c) := by
  after_results
  erw [tap_rows S hd hw 1 2, h3, h2, c_zero, padded 2 1, addf_arr]
  exact addf_arr

theorem tapC_b : after opsTapC X (Proc.devRef .tc main_v199) = row S Head.dcb := by
  after_results
  rw [hd]
  erw [c_zero, sum_rows]
  exact to_row _
theorem tapC_w (h0 : X (Proc.devRef .tc main_v5) = wide S (fun S => down 3 S.x))
    (hp : X (Proc.devRef .tc main_v195) = arr S4x1280 .f32 (fun k c _ =>
      at4 S 3 (fun S j => ∑ t ∈ Finset.range 4096, down 0 S.x t j * S.du t j) k c + at4 S 2 (fun S j => ∑ t ∈ Finset.range 4096, down 1 S.x t j * S.du t j) k c +
        at4 S 1 (fun S j => ∑ t ∈ Finset.range 4096, down 2 S.x t j * S.du t j) k c)) :
    after opsTapC X (Proc.devRef .tc main_v208) = four S Head.dcw := by
  after_results
  erw [tap_sum S h0 hd 0 3, hp, addf_arr]
  refine arr2_congr fun k hk c _ => ?_
  have e : ∀ n (S : Head) (j : ℕ), ∑ t ∈ Finset.range 4096, down n S.x t j * S.du t j = ∑ t ∈ Finset.range 4096, S.du t j * down n S.x t j :=
    fun n S j => Finset.sum_congr rfl fun t _ => mul_comm _ _
  simp only [at4, Head.dcw, e]
  interval_cases k <;> norm_num
theorem tapC_x (hw : X (Proc.devRef .tc main_v8) = row S (fun S => S.cw 0))
    (hp : X (Proc.devRef .tc main_v197) = arr S4099x1280 .f32 (fun t c _ =>
      at4099 S 3 (fun S t j => S.du t j * S.cw 3 j) t c + at4099 S 2 (fun S t j => S.du t j * S.cw 2 j) t c + at4099 S 1 (fun S t j => S.du t j * S.cw 1 j) t c)) :
    after opsTapC X (Proc.devRef .tc main_v213) = wideS S Head.dxl := by
  after_results
  erw [tap_rows S hd hw 0 3, hp, addf_arr, cut3]
  refine (truncf_arr _).trans (arr2_congr fun t ht c _ => ?_)
  simp only [at4099, Head.dxl, up, Nat.zero_add]
  rw [if_pos ⟨by omega, by omega⟩, show 3 + t - 3 = t by omega, show 3 + t - 2 = t + 1 by omega, show 3 + t - 1 = t + 2 by omega, show 3 + t - 0 = t + 3 by omega]
  have c1 : (2 ≤ 3 + t ∧ t + 1 < 4096) ↔ t + 1 < 4096 := by omega
  have c2 : (1 ≤ 3 + t ∧ t + 2 < 4096) ↔ t + 2 < 4096 := by omega
  have c3 : (0 ≤ 3 + t ∧ t + 3 < 4096) ↔ t + 3 < 4096 := by omega
  simp only [c1, c2, c3]
  split_ifs <;> ring
end
theorem tapC_y (hy : X (Proc.devRef .tc main_v121) = wide S Head.dyl) : after opsTapC X (Proc.devRef .tc main_v214) = wideS S Head.dyl := by
  after_results
  rw [hy]
  exact truncf_arr _

end Cert.Lru.Ref

end
-- ==== Proof.RVal.lean ====
/- The reference's results: each of the nine arrays that it leaves, as the mathematics of the heads that its arguments hold. -/
module

public import proofs.«01_k».proof.Proof.RPre
public import proofs.«01_k».proof.Proof.RGate
public import proofs.«01_k».proof.Proof.RDecay
public import proofs.«01_k».proof.Proof.RLoop0
public import proofs.«01_k».proof.Proof.RLoop1
public import proofs.«01_k».proof.Proof.RMid
public import proofs.«01_k».proof.Proof.RPost
public import proofs.«01_k».proof.Proof.RTaps

@[expose] public section

set_option maxRecDepth 16384

noncomputable section

namespace Cert.Lru.Ref

open Cert.ReferenceIdeal Cert.ReferenceIdeal.Gen
open Idealize.ShloMosaic Idealize.ShloMosaic.TcCoe Idealize.ShloMosaic.Tactic
open Idealize.SL.Sem Idealize.ShloMosaic.StableHlo

variable (S : ℕ → Head) (X : Valuation τ sig (Elt Ideal))

/-- The arguments hold the heads `S`. -/
structure Holds : Prop where
  x : extractStridedSlice S4096x1280 ![0, 7168] (X (Proc.devRef .tc main_arg0)) slices_S4096x9856_S4096x1280_0_7168 = wide S Head.x
  y : extractStridedSlice S4096x1280 ![0, 8448] (X (Proc.devRef .tc main_arg0)) slices_S4096x9856_S4096x1280_0_8448 = wide S Head.y
  cw : X (Proc.devRef .tc main_arg1) = four S Head.cw
  cb : X (Proc.devRef .tc main_arg2) = row S Head.cb
  wr : X (Proc.devRef .tc main_arg3) = mats S Head.wr
  br : X (Proc.devRef .tc main_arg4) = row S Head.br
  wi : X (Proc.devRef .tc main_arg5) = mats S Head.wi
  bi : X (Proc.devRef .tc main_arg6) = row S Head.bi
  lam : X (Proc.devRef .tc main_arg7) = row S Head.lam
  ct : X (Proc.devRef .tc main_arg8) = wide S Head.ct

/-- What the convolution leaves for the rest of the program. -/
structure Conv : Prop where
  y : X (Proc.devRef .tc main_v1) = wide S Head.y
  t0 : X (Proc.devRef .tc main_v5) = wide S (fun S => down 3 S.x)
  t1 : X (Proc.devRef .tc main_v13) = wide S (fun S => down 2 S.x)
  t2 : X (Proc.devRef .tc main_v20) = wide S (fun S => down 1 S.x)
  t3 : X (Proc.devRef .tc main_v27) = wide S (fun S => down 0 S.x)
  w0 : X (Proc.devRef .tc main_v8) = row S (fun S => S.cw 0)
  w1 : X (Proc.devRef .tc main_v16) = row S (fun S => S.cw 1)
  w2 : X (Proc.devRef .tc main_v23) = row S (fun S => S.cw 2)
  w3 : X (Proc.devRef .tc main_v30) = row S (fun S => S.cw 3)
  u : X (Proc.devRef .tc main_v33) = wide S Head.u
  wr : X (Proc.devRef .tc main_arg3) = mats S Head.wr
  br : X (Proc.devRef .tc main_arg4) = row S Head.br
  wi : X (Proc.devRef .tc main_arg5) = mats S Head.wi
  bi : X (Proc.devRef .tc main_arg6) = row S Head.bi
  lam : X (Proc.devRef .tc main_arg7) = row S Head.lam
  ct : X (Proc.devRef .tc main_arg8) = wide S Head.ct

abbrev convRefs : List (Ref sig .tc) := [main_v1, main_v5, main_v13, main_v20, main_v27, main_v8, main_v16, main_v23, main_v30, main_v33,
  main_arg3, main_arg4, main_arg5, main_arg6, main_arg7, main_arg8]

variable {S X}

theorem Conv.on (h : Conv S X) {Y : Valuation τ sig (Elt Ideal)} (e : ∀ b ∈ convRefs, Y (Proc.devRef .tc b) = X (Proc.devRef .tc b)) : Conv S Y :=
  ⟨(e _ (by decide +kernel)).trans h.y, (e _ (by decide +kernel)).trans h.t0, (e _ (by decide +kernel)).trans h.t1, (e _ (by decide +kernel)).trans h.t2,
    (e _ (by decide +kernel)).trans h.t3, (e _ (by decide +kernel)).trans h.w0, (e _ (by decide +kernel)).trans h.w1, (e _ (by decide +kernel)).trans h.w2,
    (e _ (by decide +kernel)).trans h.w3, (e _ (by decide +kernel)).trans h.u, (e _ (by decide +kernel)).trans h.wr, (e _ (by decide +kernel)).trans h.br,
    (e _ (by decide +kernel)).trans h.wi, (e _ (by decide +kernel)).trans h.bi, (e _ (by decide +kernel)).trans h.lam, (e _ (by decide +kernel)).trans h.ct⟩

theorem Conv.of (h : Holds S X) : Conv S (after opsConv X) := by
  have k : ∀ b ∉ opsConv_W, after opsConv X (Proc.devRef .tc b) = X (Proc.devRef .tc b) := fun b hb => after_of_writes_sub opsConv _ opsConv_writes hb
  exact ⟨conv_y S X h.y, conv_tap0 S X h.x, conv_tap1 S X h.x, conv_tap2 S X h.x, conv_tap3 S X h.x, conv_w0 S X h.cw, conv_w1 S X h.cw, conv_w2 S X h.cw, conv_w3 S X h.cw,
    conv_u S X h.cw h.x h.cb, (k _ (by decide +kernel)).trans h.wr, (k _ (by decide +kernel)).trans h.br, (k _ (by decide +kernel)).trans h.wi, (k _ (by decide +kernel)).trans h.bi,
    (k _ (by decide +kernel)).trans h.lam, (k _ (by decide +kernel)).trans h.ct⟩

variable (S X) in
/-- What the stretches before the first loop leave for the stretches after it. -/
structure Kept : Prop where
  conv : Conv S X
  uh : X (Proc.devRef .tc main_v34) = heads S Head.u
  r' : X (Proc.devRef .tc main_v48) = wide S (fun S t j => S.r t j * (1 - S.r t j))
  i : X (Proc.devRef .tc main_v59) = wide S Head.i
  i' : X (Proc.devRef .tc main_v62) = wide S (fun S t j => S.i t j * (1 - S.i t j))
  s : X (Proc.devRef .tc main_v64) = wide S (fun S t j => -8 * S.r t j)
  sp : X (Proc.devRef .tc main_v66_0) = row S Head.sp
  sl : X (Proc.devRef .tc main_v66_1) = row S (fun S j => 1 / (1 + Real.exp (S.lam j)))
  a : X (Proc.devRef .tc main_v69) = wide S Head.a
  aa : X (Proc.devRef .tc main_v73) = wide S (fun S t j => Real.exp (2 * S.la t j))
  m : X (Proc.devRef .tc main_v75) = wide S Head.mult
  mh : X (Proc.devRef .tc main_v77) = wide S (fun S t j => 1 / 2 / S.mult t j)
  iu : X (Proc.devRef .tc main_v78) = wide S Head.iu

abbrev keptRefs : List (Ref sig .tc) := convRefs ++ [main_v34, main_v48, main_v59, main_v62, main_v64, main_v66_0, main_v66_1, main_v69, main_v73, main_v75, main_v77, main_v78]

theorem Kept.on (h : Kept S X) {Y : Valuation τ sig (Elt Ideal)} (e : ∀ b ∈ keptRefs, Y (Proc.devRef .tc b) = X (Proc.devRef .tc b)) : Kept S Y :=
  ⟨h.conv.on fun b hb => e b (List.mem_append_left _ hb), (e _ (by decide +kernel)).trans h.uh, (e _ (by decide +kernel)).trans h.r', (e _ (by decide +kernel)).trans h.i,
    (e _ (by decide +kernel)).trans h.i', (e _ (by decide +kernel)).trans h.s, (e _ (by decide +kernel)).trans h.sp, (e _ (by decide +kernel)).trans h.sl,
    (e _ (by decide +kernel)).trans h.a, (e _ (by decide +kernel)).trans h.aa, (e _ (by decide +kernel)).trans h.m, (e _ (by decide +kernel)).trans h.mh,
    (e _ (by decide +kernel)).trans h.iu⟩

/-- A stretch that writes none of some references leaves all of them alone. -/
theorem leaves (ops : List (HloOp τ sig (Elt Ideal))) {Ws L : List (Ref sig .tc)} (hw : ops.Forall fun op => op.writes ⊆ (Ws.map (Proc.devRef (τ := τ) .tc)).toFinset)
    (hd : ∀ b ∈ L, b ∉ Ws) (Y : Valuation τ sig (Elt Ideal)) : ∀ b ∈ L, after ops Y (Proc.devRef .tc b) = Y (Proc.devRef .tc b) :=
  fun b hb => after_of_writes_sub ops Y hw (hd b hb)

/-- Before the first loop. -/
theorem pre_all (h : Holds S X) : Kept S (afterL preI X) ∧ Fwd S (afterL preI X) 0 := by
  simp only [afterL_cons, afterL_nil]
  have v1 := Conv.of h
  generalize after opsConv X = A at *
  have v2 := v1.on (leaves opsGates opsGates_writes (by decide +kernel) A)
  have uh2 := gates_heads S A v1.u
  have r2 := gates_r S A v1.u v1.wr v1.br
  have r'2 := gates_r' S A v1.u v1.wr v1.br
  have z2 := gates_i S A v1.u v1.wi v1.bi
  generalize after opsGates A = B at *
  have k := leaves (L := convRefs ++ [main_v34, main_v48]) opsGate2 opsGate2_writes (by decide +kernel) B
  have v3 := v2.on fun b hb => k b (List.mem_append_left _ hb)
  have uh3 := (k _ (by decide +kernel)).trans uh2
  have r'3 := (k _ (by decide +kernel)).trans r'2
  have i3 := gate2_i S B z2
  have i'3 := gate2_i' S B z2
  have s3 := gate2_slope S B r2
  have l3 := gate2_lam S B v2.lam
  clear k
  generalize after opsGate2 B = C at *
  have k := leaves (L := convRefs ++ [main_v34, main_v48, main_v59, main_v62, main_v64, main_v65]) opsSoftplus opsSoftplus_writes (by decide +kernel) C
  have v4 := v3.on fun b hb => k b (List.mem_append_left _ hb)
  have uh4 := (k _ (by decide +kernel)).trans uh3
  have r'4 := (k _ (by decide +kernel)).trans r'3
  have i4 := (k _ (by decide +kernel)).trans i3
  have i'4 := (k _ (by decide +kernel)).trans i'3
  have s4 := (k _ (by decide +kernel)).trans s3
  have l4 := (k _ (by decide +kernel)).trans l3
  have sp4 := softplus_v S C l3
  clear k
  generalize after opsSoftplus C = D at *
  have k := leaves (L := convRefs ++ [main_v34, main_v48, main_v59, main_v62, main_v64, main_v66_0]) opsSoftplusD opsSoftplusD_writes (by decide +kernel) D
  have v5 := v4.on fun b hb => k b (List.mem_append_left _ hb)
  have uh5 := (k _ (by decide +kernel)).trans uh4
  have r'5 := (k _ (by decide +kernel)).trans r'4
  have i5 := (k _ (by decide +kernel)).trans i4
  have i'5 := (k _ (by decide +kernel)).trans i'4
  have s5 := (k _ (by decide +kernel)).trans s4
  have sp5 := (k _ (by decide +kernel)).trans sp4
  have sl5 := softplus_slope_v S D l4 sp4
  clear k
  generalize after opsSoftplusD D = E at *
  have k := leaves (L := convRefs ++ [main_v34, main_v48, main_v59, main_v62, main_v64, main_v66_0, main_v66_1]) opsDecay opsDecay_writes (by decide +kernel) E
  refine ⟨⟨v5.on fun b hb => k b (List.mem_append_left _ hb), (k _ (by decide +kernel)).trans uh5, (k _ (by decide +kernel)).trans r'5, (k _ (by decide +kernel)).trans i5,
    (k _ (by decide +kernel)).trans i'5, (k _ (by decide +kernel)).trans s5, (k _ (by decide +kernel)).trans sp5, (k _ (by decide +kernel)).trans sl5,
    decay_a S E s5 sp5, decay_aa S E s5 sp5, decay_mult S E s5 sp5, decay_half S E s5 sp5, decay_iu S E i5 v5.u⟩,
    ⟨decay_a0 S E s5 sp5, decay_b S E s5 sp5 i5 v5.u, ?_, (decay_carry E).trans ?_, (decay_rows E).trans ?_, (decay_prev E).trans ?_⟩⟩
  · rw [ctr0_init, Scf.iv_zero]
  · exact arr1_congr fun c _ => (if_neg (by omega)).symm
  · exact arr2_congr fun t _ c _ => (if_neg (by omega)).symm
  · exact arr2_congr fun t _ c _ => (if_neg (by omega)).symm

/-- Between the loops: what the backward loop starts from, and the gradient of the gelu's argument. -/
theorem mid_all (h : Kept S X) (hh : X (Proc.devRef .tc main_v83_4) = wide S Head.h) (hp : X (Proc.devRef .tc main_v83_5) = wide S (fun S => down 1 S.h)) :
    Kept S (afterL midI X) ∧ Bwd S (afterL midI X) 0 ∧ afterL midI X (Proc.devRef .tc main_v121) = wide S Head.dyl := by
  simp only [afterL_cons, afterL_nil]
  have k := leaves (L := keptRefs ++ [main_v83_4, main_v83_5]) opsGelu opsGelu_writes (by decide +kernel) X
  have v1 := h.on fun b hb => k b (List.mem_append_left _ hb)
  have h1 := (k _ (by decide +kernel)).trans hh
  have p1 := (k _ (by decide +kernel)).trans hp
  have c1 := gelu_k X
  have s1 := gelu_sq S X h.conv.y
  have z1 := gelu_arg S X h.conv.y
  clear k
  generalize after opsGelu X = A at *
  have k := leaves (L := keptRefs ++ [main_v83_5]) opsOut opsOut_writes (by decide +kernel) A
  have v2 := v1.on fun b hb => k b (List.mem_append_left _ hb)
  have p2 := (k _ (by decide +kernel)).trans p1
  have g2 := out_gin S A v1.conv.y z1 v1.conv.ct
  have d2 := out_dyl S A v1.conv.y z1 v1.conv.ct h1 c1 s1
  clear k
  generalize after opsOut A = B at *
  have k := leaves (L := keptRefs ++ [main_v121]) opsStart opsStart_writes (by decide +kernel) B
  refine ⟨v2.on fun b hb => k b (List.mem_append_left _ hb), ⟨(start_gin B).trans g2, (start_prev B).trans p2, (start_a B).trans v2.a, ?_,
    (start_carry B).trans ?_, (start_prods B).trans ?_, (start_rows B).trans ?_⟩, (k _ (by decide +kernel)).trans d2⟩
  · rw [ctr1_init, Scf.iv_zero]
  · exact arr1_congr fun c _ => (if_pos rfl).symm
  · exact arr2_congr fun t _ c _ => (if_neg (by omega)).symm
  · exact arr2_congr fun t _ c _ => (if_neg (by omega)).symm

variable (S X) in
/-- The nine results. -/
structure Results : Prop where
  dxl : X (Proc.devRef .tc main_v213) = wideS S Head.dxl
  dyl : X (Proc.devRef .tc main_v214) = wideS S Head.dyl
  dcw : X (Proc.devRef .tc main_v208) = four S Head.dcw
  dcb : X (Proc.devRef .tc main_v199) = row S Head.dcb
  dwr : X (Proc.devRef .tc main_v164) = mats S Head.dwr
  dbr : X (Proc.devRef .tc main_v157) = row S Head.dbr
  dwi : X (Proc.devRef .tc main_v154) = mats S Head.dwi
  dbi : X (Proc.devRef .tc main_v148) = row S Head.dbi
  dlam : X (Proc.devRef .tc main_v143) = row S Head.dlam

/-- After the loops. -/
theorem post_all (h : Kept S X) (hg : X (Proc.devRef .tc main_v125_6) = wide S Head.g)
    (hp : X (Proc.devRef .tc main_v125_5) = wide S (fun S t j => S.g t j * down 1 S.h t j)) (hd : X (Proc.devRef .tc main_v121) = wide S Head.dyl) :
    Results S (afterL postI X) := by
  simp only [afterL_cons, afterL_nil]
  have k := leaves (L := keptRefs ++ [main_v121]) opsMult opsMult_writes (by decide +kernel) X
  have v1 := h.on fun b hb => k b (List.mem_append_left _ hb)
  have d1 := (k _ (by decide +kernel)).trans hd
  have di1 := mult_di S X h.m hg h.i
  have du1 := mult_du S X h.m hg h.conv.u
  have sq1 := mult_sq S X hg h.iu h.mh h.aa
  have de1 := mult_dec S X hp h.a
  clear k
  generalize after opsMult X = A at *
  have k := leaves (L := keptRefs ++ [main_v121, main_v128, main_v129]) opsLam opsLam_writes (by decide +kernel) A
  have v2 := v1.on fun b hb => k b (List.mem_append_left _ hb)
  have d2 := (k _ (by decide +kernel)).trans d1
  have di2 := (k _ (by decide +kernel)).trans di1
  have du2 := (k _ (by decide +kernel)).trans du1
  have lr2 := lam_row S A sq1 de1 v1.s
  have ls2 := lam_sp S A sq1 de1 v1.sp
  clear k
  generalize after opsLam A = B at *
  have k := leaves (L := keptRefs ++ [main_v121, main_v128, main_v129, main_v141]) opsLamS opsLamS_writes (by decide +kernel) B
  have v3 := v2.on fun b hb => k b (List.mem_append_left _ hb)
  have d3 := (k _ (by decide +kernel)).trans d2
  have di3 := (k _ (by decide +kernel)).trans di2
  have du3 := (k _ (by decide +kernel)).trans du2
  have ls3 := (k _ (by decide +kernel)).trans ls2
  have l3 := lamS_v S B lr2 v2.sl
  clear k
  generalize after opsLamS B = C at *
  have k := leaves (L := convRefs ++ [main_v121]) opsGateB opsGateB_writes (by decide +kernel) C
  have v4 := v3.conv.on fun b hb => k b (List.mem_append_left _ hb)
  have d4 := (k _ (by decide +kernel)).trans d3
  have lam4 := gate_dlam S C l3
  have bi4 := gate_dbi S C du3 v3.i'
  have wi4 := gate_dwi S C du3 v3.i' v3.uh
  have br4 := gate_dbr S C ls3 v3.r'
  have wr4 := gate_dwr S C ls3 v3.r' v3.uh
  have u4 := gate_du S C ls3 v3.r' du3 v3.i' di3 v3.conv.wr v3.conv.wi
  clear k
  generalize after opsGateB C = D at *
  have k := leaves (L := convRefs ++ [main_v121, main_v166, main_v143, main_v148, main_v154, main_v157, main_v164]) opsTapA opsTapA_writes (by decide +kernel) D
  have v5 := v4.on fun b hb => k b (List.mem_append_left _ hb)
  have d5 := (k _ (by decide +kernel)).trans d4
  have u5 := (k _ (by decide +kernel)).trans u4
  have lam5 := (k _ (by decide +kernel)).trans lam4
  have bi5 := (k _ (by decide +kernel)).trans bi4
  have wi5 := (k _ (by decide +kernel)).trans wi4
  have br5 := (k _ (by decide +kernel)).trans br4
  have wr5 := (k _ (by decide +kernel)).trans wr4
  have w5 := tapA_w S D u4 v4.t3 v4.t2
  have x5 := tapA_3 S D u4 v4.w3
  have y5 := tapA_2 S D u4 v4.w2
  clear k
  generalize after opsTapA D = E at *
  have k := leaves (L := convRefs ++ [main_v121, main_v166, main_v143, main_v148, main_v154, main_v157, main_v164]) opsTapB opsTapB_writes (by decide +kernel) E
  have v6 := v5.on fun b hb => k b (List.mem_append_left _ hb)
  have d6 := (k _ (by decide +kernel)).trans d5
  have u6 := (k _ (by decide +kernel)).trans u5
  have lam6 := (k _ (by decide +kernel)).trans lam5
  have bi6 := (k _ (by decide +kernel)).trans bi5
  have wi6 := (k _ (by decide +kernel)).trans wi5
  have br6 := (k _ (by decide +kernel)).trans br5
  have wr6 := (k _ (by decide +kernel)).trans wr5
  have w6 := tapB_w S E u5 v5.t1 w5
  have x6 := tapB_x S E u5 x5 y5 v5.w1
  clear k
  generalize after opsTapB E = G at *
  have k := leaves (L := [main_v143, main_v148, main_v154, main_v157, main_v164]) opsTapC opsTapC_writes (by decide +kernel) G
  exact ⟨tapC_x S G u6 v6.w0 x6, tapC_y S G d6, tapC_w S G u6 v6.t0 w6, tapC_b S G u6, (k _ (by decide +kernel)).trans wr6, (k _ (by decide +kernel)).trans br6,
    (k _ (by decide +kernel)).trans wi6, (k _ (by decide +kernel)).trans bi6, (k _ (by decide +kernel)).trans lam6⟩

/-- The reference's results, from its arguments. -/
theorem results (m : (ℓ : Loc nD τ sig) → Buf (Elt Ideal) ℓ) (c : Dev nD) (h : Holds S (launchContents m c)) : Results S (final m c) := by
  obtain ⟨k1, f1⟩ := pre_all h
  have f2 := Fwd.all S m c f1 4096 le_rfl
  have k2 : Kept S (W2 preI bodyI0 cond0 4096 m c) := k1.on fun b hb => by
    have hn : b ∉ loop0_W := (by decide +kernel : ∀ b ∈ keptRefs, b ∉ loop0_W) b hb
    rw [W2, after_of_writes_sub cond0 _ (loop0_writes cond0 List.mem_cons_self) hn, atTrip_keep cond0 bodyI0 _ c loop0_writes b hn]
  have h2 : W2 preI bodyI0 cond0 4096 m c (Proc.devRef .tc main_v83_4) = wide S Head.h :=
    ((keepC0 _ (by decide +kernel)).trans f2.rows).trans (arr2_congr fun t ht c _ => if_pos ht)
  have p2 : W2 preI bodyI0 cond0 4096 m c (Proc.devRef .tc main_v83_5) = wide S (fun S => down 1 S.h) :=
    ((keepC0 _ (by decide +kernel)).trans f2.prev).trans (arr2_congr fun t ht c _ => if_pos ht)
  obtain ⟨k3, b3, d3⟩ := mid_all k2 h2 p2
  have b4 := Bwd.all S m c b3 4096 le_rfl
  have keep : ∀ b ∈ keptRefs ++ [main_v121], W4 preI midI bodyI0 bodyI1 cond0 cond1 4096 4096 m c (Proc.devRef .tc b) = W3 preI midI bodyI0 cond0 4096 m c (Proc.devRef .tc b) :=
    fun b hb => keep34 m c b ((by decide +kernel : ∀ b ∈ keptRefs ++ [main_v121], b ∉ loop1_W) b hb)
  exact post_all (k3.on fun b hb => keep b (List.mem_append_left _ hb))
    (((keepC1 _ (by decide +kernel)).trans b4.rows).trans (arr2_congr fun t ht c _ => if_pos (by omega)))
    (((keepC1 _ (by decide +kernel)).trans b4.prods).trans (arr2_congr fun t ht c _ => if_pos (by omega)))
    ((keep _ (by decide +kernel)).trans d3)

end Cert.Lru.Ref

end
-- ==== Proof.Finite.lean ====
/- The precondition says that the entries which are read are real numbers, so the arguments hold a family of heads. -/
module

public import proofs.«01_k».proof.Proof.Given
public import proofs.«01_k».proof.Defs
public import proofs.«01_k».proof.Proof.Gen.Pre_finite
public import Idealize.ShloMosaic.Lib.ReduceAll

@[expose] public section

set_option maxRecDepth 16384

noncomputable section

namespace Cert.Lru

open Cert.ReferenceIdeal Cert.ReferenceIdeal.Gen
open Idealize.ShloMosaic hiding ix1 ix2 ix3 eq_ix1 eq_ix2 eq_ix3
open Idealize.ShloMosaic.ValueIdx Idealize.ShloMosaic.TcCoe

/-- The entry of a matrix at two coordinates, as a real number; zero outside. -/
def pick {n m : ℕ} (x : FVec Ideal ⟨2, ![n, m]⟩ .f32) (a b : ℕ) : ℝ := if h : a < n ∧ b < m then (x (ix2 ⟨a, h.1⟩ ⟨b, h.2⟩)).toReal else 0
/-- The entry of an array of three axes, as a real number; zero outside. -/
def pick3 {n m k : ℕ} (x : FVec Ideal ⟨3, ![n, m, k]⟩ .f32) (a b c : ℕ) : ℝ :=
  if h : a < n ∧ b < m ∧ c < k then (x (ix3 ⟨a, h.1⟩ ⟨b, h.2.1⟩ ⟨c, h.2.2⟩)).toReal else 0

/-- The heads that nine arrays hold. -/
def headsOf (A0 : FVec Ideal S4096x9856 .f32) (A1 : FVec Ideal S4x1280 .f32) (A2 : FVec Ideal S1x1280 .f32)
    (A3 : FVec Ideal S10x128x128 .f32) (A4 : FVec Ideal S1x1280 .f32) (A5 : FVec Ideal S10x128x128 .f32) (A6 A7 : FVec Ideal S1x1280 .f32)
    (A8 : FVec Ideal S4096x1280 .f32) (n : ℕ) : Head where
  x t j := pick A0 t (7168 + (n * 128 + j))
  y t j := pick A0 t (8448 + (n * 128 + j))
  cw k j := pick A1 k (n * 128 + j)
  cb j := pick A2 0 (n * 128 + j)
  wr c j := pick3 A3 n c j
  br j := pick A4 0 (n * 128 + j)
  wi c j := pick3 A5 n c j
  bi j := pick A6 0 (n * 128 + j)
  lam j := pick A7 0 (n * 128 + j)
  ct t j := pick A8 t (n * 128 + j)

theorem together (c : ℕ) : c / 128 * 128 + c % 128 = c := Nat.div_add_mod' c 128

theorem all_pick {n m : ℕ} (x : FVec Ideal ⟨2, ![n, m]⟩ .f32) (h : ∀ i, x i ≠ ⊤ ∧ x i ≠ ⊥) : x = arr ⟨2, ![n, m]⟩ .f32 (fun a c _ => pick x a (c / 128 * 128 + c % 128)) :=
  arr_of2 fun a b => by
    rw [together, pick, dif_pos ⟨a.isLt, b.isLt⟩]
    exact (EReal.coe_toReal (h _).1 (h _).2).symm
theorem all_pick_row (x : FVec Ideal S1x1280 .f32) (h : ∀ i, x i ≠ ⊤ ∧ x i ≠ ⊥) : x = arr S1x1280 .f32 (fun _ c _ => pick x 0 (c / 128 * 128 + c % 128)) :=
  (all_pick x h).trans (arr2_congr fun a ha c _ => by rw [Nat.lt_one_iff.mp ha])
theorem all_pick3 {n m k : ℕ} (x : FVec Ideal ⟨3, ![n, m, k]⟩ .f32) (h : ∀ i, x i ≠ ⊤ ∧ x i ≠ ⊥) : x = arr ⟨3, ![n, m, k]⟩ .f32 (fun a b c => pick3 x a b c) :=
  arr_of3 fun a b c => by
    rw [pick3, dif_pos ⟨a.isLt, b.isLt, c.isLt⟩]
    exact (EReal.coe_toReal (h _).1 (h _).2).symm
/-- A stretch of 1280 columns of the first argument, inside the 2560 that are read. -/
theorem stretch_pick (A : FVec Ideal S4096x9856 .f32) (k : ℕ) (hk : 7168 ≤ k) (hk' : k ≤ 8448) (h)
    (hx : ∀ i, extractStridedSlice Pre_finite.S4096x2560 ![0, 7168] A Pre_finite.Gen.slices_S4096x9856_S4096x2560_0_7168 i ≠ ⊤ ∧
      extractStridedSlice Pre_finite.S4096x2560 ![0, 7168] A Pre_finite.Gen.slices_S4096x9856_S4096x2560_0_7168 i ≠ ⊥) :
    extractStridedSlice ⟨2, ![4096, 1280]⟩ ![0, k] A h = arr S4096x1280 .f32 (fun t c _ => pick A t (k + (c / 128 * 128 + c % 128))) :=
  arr_of2 fun a b => by
    have hb := b.isLt
    have hx' := hx (ix2 a ⟨k - 7168 + b.val, by omega⟩)
    have e : extractStridedSlice Pre_finite.S4096x2560 ![0, 7168] A Pre_finite.Gen.slices_S4096x9856_S4096x2560_0_7168 (ix2 a ⟨k - 7168 + b.val, by omega⟩) =
        A (ix2 ⟨a.val, a.isLt⟩ ⟨k + b.val, by omega⟩) := congrArg A (funext fun d => match d with
      | ⟨0, _⟩ => Fin.ext (Nat.zero_add _)
      | ⟨1, _⟩ => Fin.ext (show 7168 + (k - 7168 + b.val) = k + b.val by omega))
    have e' : extractStridedSlice ⟨2, ![4096, 1280]⟩ ![0, k] A h (ix2 a b) = A (ix2 ⟨a.val, a.isLt⟩ ⟨k + b.val, by omega⟩) := congrArg A (funext fun d => match d with
      | ⟨0, _⟩ => Fin.ext (Nat.zero_add _)
      | ⟨1, _⟩ => rfl)
    rw [e] at hx'
    rw [e', together, pick, dif_pos ⟨a.isLt, by omega⟩]
    exact (EReal.coe_toReal hx'.1 hx'.2).symm

/-- An `all` of comparisons of magnitudes with infinity says that no entry is infinite. -/
theorem no_inf {s u t : Shape} {axes : List (Fin s.rank)} [Subsingleton t.Idx] (x : FVec Ideal s .f32) {d} (hb) (c : u.Idx → BitVec 1) (h : s.ReducesTo axes t) (hu : 0 < u.numel) (j : t.Idx)
    (e : Host.reduce IntOp.andi (cmpf .olt (Host.absf x) (broadcastInDim (s := Pre_finite.S_) s d hb (constant Pre_finite.S_ .f32 0x7F800000#32))) c h hu j = 1#1) (i : s.Idx) :
    x i ≠ ⊤ ∧ x i ≠ ⊥ := by
  have e1 : BitVec.ofBool (decide (max (x i) (-x i) < Ideal.ofBits .f32 0x7F800000#32)) = 1#1 := Host.reduce_andi_all _ _ h hu j e i
  rw [bits_inf] at e1
  have e2 : max (x i) (-x i) < ⊤ := by
    by_contra hn
    rw [decide_eq_false hn] at e1
    exact absurd e1 (by decide)
  obtain ⟨h1, h2⟩ := max_lt_iff.mp e2
  exact ⟨h1.ne, fun hb => by rw [hb, EReal.neg_bot] at h2; exact lt_irrefl _ h2⟩

/-- Arguments of which the precondition holds hold the heads that are picked from them. -/
theorem given_of_finite (A0 : FVec Ideal S4096x9856 .f32) (A1 : FVec Ideal S4x1280 .f32) (A2 : FVec Ideal S1x1280 .f32)
    (A3 : FVec Ideal S10x128x128 .f32) (A4 : FVec Ideal S1x1280 .f32) (A5 : FVec Ideal S10x128x128 .f32) (A6 A7 : FVec Ideal S1x1280 .f32)
    (A8 : FVec Ideal S4096x1280 .f32) (j : Pre_finite.S_.Idx) (e : Pre_finite.fn (F := Ideal) A0 A1 A2 A3 A4 A5 A6 A7 A8 j = 1#1) :
    Given (headsOf A0 A1 A2 A3 A4 A5 A6 A7 A8) A0 A1 A2 A3 A4 A5 A6 A7 A8 := by
  haveI : Subsingleton Pre_finite.S_.Idx := ⟨fun a b => funext fun i => i.elim0⟩
  simp only [Pre_finite.fn, Pre_finite.fn_part1, Pre_finite.fn_part2, andi] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have f0 := no_inf _ _ _ _ _ _ e0
  exact ⟨stretch_pick A0 7168 (by norm_num) (by norm_num) _ f0, stretch_pick A0 8448 (by norm_num) (by norm_num) _ f0, all_pick A1 (no_inf _ _ _ _ _ _ e1),
    all_pick_row A2 (no_inf _ _ _ _ _ _ e2), all_pick3 A3 (no_inf _ _ _ _ _ _ e3), all_pick_row A4 (no_inf _ _ _ _ _ _ e4), all_pick3 A5 (no_inf _ _ _ _ _ _ e5),
    all_pick_row A6 (no_inf _ _ _ _ _ _ e6), all_pick_row A7 (no_inf _ _ _ _ _ _ e7), all_pick A8 (no_inf _ _ _ _ _ _ e8)⟩

end Cert.Lru

end
-- ==== Proof.Product.lean ====
module

public import Idealize.ShloMosaic.Lib.Pointwise

/-!
The product of two matrices over the extended reals in the three forms in which the step takes it: as it stands, with the second factor transposed (the gradient
in the first factor) and with the first factor transposed (the gradient in the second).
-/

@[expose] public section

noncomputable section

namespace Cert.Product

open Idealize.ShloMosaic

variable {M K N : ℕ}

/-- The product `x y`. -/
def nn (x : (⟨2, ![M, K]⟩ : Shape).Idx → EReal) (y : (⟨2, ![K, N]⟩ : Shape).Idx → EReal) : Vec Ideal ⟨2, ![M, N]⟩ .f32 :=
  fun j => ∑ k : Fin K, x (ix2 (j 0) k) * y (ix2 k (j 1))

/-- The product `x yᵀ`. -/
def nt (x : (⟨2, ![M, K]⟩ : Shape).Idx → EReal) (y : (⟨2, ![N, K]⟩ : Shape).Idx → EReal) : Vec Ideal ⟨2, ![M, N]⟩ .f32 :=
  fun j => ∑ k : Fin K, x (ix2 (j 0) k) * y (ix2 (j 1) k)

/-- The product `xᵀ y`. -/
def tn (x : (⟨2, ![K, M]⟩ : Shape).Idx → EReal) (y : (⟨2, ![K, N]⟩ : Shape).Idx → EReal) : Vec Ideal ⟨2, ![M, N]⟩ .f32 :=
  fun j => ∑ k : Fin K, x (ix2 k (j 0)) * y (ix2 k (j 1))

/-- The sum of two matrices. -/
def plus (x y : (⟨2, ![M, N]⟩ : Shape).Idx → EReal) : Vec Ideal ⟨2, ![M, N]⟩ .f32 :=
  fun j => x j + y j

end Cert.Product

end
-- ==== Proof.In.lean ====
module

public import proofs.«01_k».proof.Defs
public import proofs.«01_k».proof.Proof.Product
public import proofs.«01_k».proof.Proof.Gen.InKernelIdeal.Frame
public import proofs.«01_k».proof.Proof.Gen.InReferenceIdeal
public import proofs.«01_k».proof.Proof.Gen.InKernel.Frame
public import Idealize.ShloMosaic.Lib.Claim
public import Idealize.ShloMosaic.Lib.Quiescent
public import Idealize.ShloMosaic.Lib.Pipeline.ValueKit
public import Idealize.ShloMosaic.Lib.Pipeline.ReadBack

/-!
The input projection, `hn1 w_in`. The kernel walks 4 blocks of rows and 7 blocks of columns; the contracted axis is whole in each.
-/

@[expose] public section

noncomputable section

namespace Cert.In

open Cert.InKernelIdeal Cert.InKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1408 .f32) (x : Vec Ideal S1024x1024 .bf16) (y : Vec Ideal S1024x1408 .bf16) (j : S1024x1408.Idx) :
    k0_pay2 acc x y j = acc j + Product.nn x y j := by
  unfold k0_pay2 Product.nn
  pointwise

/-- The scratch starts from zero. -/
theorem pay_zero (j : S1024x1408.Idx) : k0_pay1 (F := Ideal) j = 0 := by
  unfold k0_pay1
  pointwise

/-- A point hands over the product of its blocks. -/
theorem out : outsAt0 m c t = k0_pay2 (F := Ideal) (k0_pay1 (F := Ideal)) (iblk m c 0 t) (iblk m c 1 t) := by
  unfold outsAt0
  frame_out

theorem index0 : ∀ t : Fin cfg0.N, win0_0.index t = ![t.val / 7, 0] := (by decide +kernel : ∀ t : Fin grid0.N, _)
theorem index1 : ∀ t : Fin cfg0.N, win0_1.index t = ![0, t.val % 7] := (by decide +kernel : ∀ t : Fin grid0.N, _)
theorem index2 : ∀ t : Fin cfg0.N, win0_2.index t = ![t.val / 7, t.val % 7] := (by decide +kernel : ∀ t : Fin grid0.N, _)

/-- The kernel's result is the product. -/
theorem final : (dats m 0 c).arrAt 2 cfg0.N = Product.nn (M := 4096) (K := 1024) (N := 9856) (m ((c.tc : Thread nD τ).loc main_arg0)) (m ((c.tc : Thread nD τ).loc main_arg1)) := by
  refine (dats m 0 c).arrAt_eq_of_covers 2 _ (by decide +kernel) fun t hf y => ?_
  blk_simp
  rw [after0_2, out, pay, pay_zero, zero_add]
  refine Fin.sum_fin_congr fun k => ?_
  congr 1
  · blk_ext [iblk, V, index0, index2]
  · blk_ext [iblk, V, index1, index2]

/-- The reference's result is the same. -/
theorem reference (x : Vec Ideal S4096x1024 .bf16) (y : Vec Ideal S1024x9856 .bf16) :
    Host.dotGeneral (F := Ideal) (φ₁ := .f32) (φ₂ := .f32) InReferenceIdeal.dot_S4096x1024_S1024x9856_S4096x9856_1_0_0_1_n_n none (extf .f32 x InReferenceIdeal.Gen.bitsLt_bf16_f32) (extf .f32 y InReferenceIdeal.Gen.bitsLt_bf16_f32)
      = Product.nn (M := 4096) (K := 1024) (N := 9856) x y := by
  funext j
  unfold Product.nn
  pointwise

/-- The compiled program ends, with its arguments as they were and every counter at zero. -/
theorem frame_kernel : quiescent_InKernel := fun m g _ => InKernel.Gen.frame m g

/-- So does the ideal one. -/
theorem frame_ideal : quiescent_InKernelIdeal := fun m g _ => frame m g

/-- So does the reference. -/
theorem frame_reference : quiescent_InReferenceIdeal := by
  intro m g _
  hlo_run
  · exact fun _ => ⟨trivial, trivial⟩
  · exact sem_eq_zero_of_no_sems rfl _

/-- The kernel and the reference compute the same function over the extended reals, on any arguments. -/
theorem algebraic : algebraic_InKernelIdeal_InReferenceIdeal := by
  intro m g m' g' _ hm
  refine ⟨_, (θ_run InKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.In

end
-- ==== Proof.InDx.lean ====
module

public import proofs.«01_k».proof.Defs
public import proofs.«01_k».proof.Proof.Product
public import proofs.«01_k».proof.Proof.Gen.InDxKernelIdeal.Frame
public import proofs.«01_k».proof.Proof.Gen.InDxReferenceIdeal
public import proofs.«01_k».proof.Proof.Gen.InDxKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the input projection in its input, `dproj w_inᵀ`. The kernel walks 4 blocks of rows, and for each 7 blocks of the contracted axis, whose products
it adds up in its scratch.
-/

@[expose] public section

noncomputable section

namespace Cert.InDx

open Cert.InDxKernelIdeal Cert.InDxKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1024 .f32) (x : Vec Ideal S1024x1408 .bf16) (y : Vec Ideal S1024x1408 .bf16) (j : S1024x1024.Idx) :
    k0_pay2 acc x y j = acc j + Product.nt x y j := by
  unfold k0_pay2 Product.nt
  pointwise

/-- The scratch starts from zero. -/
theorem pay_zero (j : S1024x1024.Idx) : k0_pay1 (F := Ideal) j = 0 := by
  unfold k0_pay1
  pointwise

/-- The first point of a run starts from zero. -/
theorem start (h : t.val % 7 = 0) : (outsAt0 m c t.val t.isLt).2 = k0_pay2 (F := Ideal) (k0_pay1 (F := Ideal)) (iblk m c 0 t) (iblk m c 1 t) := by
  rw [outsAt0_A m c t h (by omega)]
  frame_out

/-- A later point goes on from the point before. -/
theorem later (h : ¬t.val % 7 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases hl : t.val % 7 = 6
  · rw [outsAt0_C m c t h hl]; frame_out; rw [read_unread_whole]
  · rw [outsAt0_B m c t h hl]; frame_out; rw [read_unread_whole]

/-- The last point of a run hands the scratch over. -/
theorem last (h : t.val % 7 = 6) : (outsAt0 m c t.val t.isLt).1 = (outsAt0 m c t.val t.isLt).2 := by
  rw [later m c t (by omega), outsAt0_C m c t (by omega) h]; frame_out; rw [read_unread_whole]

theorem index0 : ∀ t : Fin cfg0.N, win0_0.index t = ![t.val / 7, t.val % 7] := (by decide +kernel : ∀ t : Fin grid0.N, _)
theorem index1 : ∀ t : Fin cfg0.N, win0_1.index t = ![0, t.val % 7] := (by decide +kernel : ∀ t : Fin grid0.N, _)
theorem index2 : ∀ t : Fin cfg0.N, win0_2.index t = ![t.val / 7, 0] := (by decide +kernel : ∀ t : Fin grid0.N, _)

/-- The kernel's result is the product. -/
theorem final : (dats m 0 c).arrAt 2 cfg0.N = Product.nt (M := 4096) (K := 9856) (N := 1024) (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, last m c t ht, Pipeline.eq_sum_fin_of_reset_step_apply_of_flush (fun n h => (outsAt0 m c n h).2) 7 (fun _ => 0) _
      (fun t h j => by rw [start m c t h, pay, pay_zero]) (fun t h j => by rw [later m c t h, pay]) t ht y, zero_add]
  refine Fin.sum_mul_add_congr fun s k hl => ?_
  congr 1
  · blk_ext [iblk, V, index0, index2]
  · blk_ext [iblk, V, index1, index2]

/-- The reference's result is the same. -/
theorem reference (x : Vec Ideal S4096x9856 .bf16) (y : Vec Ideal S1024x9856 .bf16) :
    Host.dotGeneral (F := Ideal) (φ₁ := .f32) (φ₂ := .f32) InDxReferenceIdeal.dot_S4096x9856_S1024x9856_S4096x1024_1_1_0_0_n_n none (extf .f32 x InDxReferenceIdeal.Gen.bitsLt_bf16_f32) (extf .f32 y InDxReferenceIdeal.Gen.bitsLt_bf16_f32)
      = Product.nt (M := 4096) (K := 9856) (N := 1024) x y := by
  funext j
  unfold Product.nt
  pointwise

/-- The compiled program ends, with its arguments as they were and every counter at zero. -/
theorem frame_kernel : quiescent_InDxKernel := fun m g _ => InDxKernel.Gen.frame m g

/-- So does the ideal one. -/
theorem frame_ideal : quiescent_InDxKernelIdeal := fun m g _ => frame m g

/-- So does the reference. -/
theorem frame_reference : quiescent_InDxReferenceIdeal := by
  intro m g _
  hlo_run
  · exact fun _ => ⟨trivial, trivial⟩
  · exact sem_eq_zero_of_no_sems rfl _

/-- The kernel and the reference compute the same function over the extended reals, on any arguments. -/
theorem algebraic : algebraic_InDxKernelIdeal_InDxReferenceIdeal := by
  intro m g m' g' _ hm
  refine ⟨_, (θ_run InDxKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.InDx

end
-- ==== Proof.InDw.lean ====
module

public import proofs.«01_k».proof.Defs
public import proofs.«01_k».proof.Proof.Product
public import proofs.«01_k».proof.Proof.Gen.InDwKernelIdeal.Frame
public import proofs.«01_k».proof.Proof.Gen.InDwReferenceIdeal
public import proofs.«01_k».proof.Proof.Gen.InDwKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the input projection in its weights, `hn1ᵀ dproj`. The kernel walks 7 blocks of columns, and for each 4 blocks of the contracted axis (the
tokens), whose products it adds up in its scratch.
-/

@[expose] public section

noncomputable section

namespace Cert.InDw

open Cert.InDwKernelIdeal Cert.InDwKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1408 .f32) (x : Vec Ideal S1024x1024 .bf16) (y : Vec Ideal S1024x1408 .bf16) (j : S1024x1408.Idx) :
    k0_pay2 acc x y j = acc j + Product.tn x y j := by
  unfold k0_pay2 Product.tn
  pointwise

/-- The scratch starts from zero. -/
theorem pay_zero (j : S1024x1408.Idx) : k0_pay1 (F := Ideal) j = 0 := by
  unfold k0_pay1
  pointwise

/-- The first point of a run starts from zero. -/
theorem start (h : t.val % 4 = 0) : (outsAt0 m c t.val t.isLt).2 = k0_pay2 (F := Ideal) (k0_pay1 (F := Ideal)) (iblk m c 0 t) (iblk m c 1 t) := by
  rw [outsAt0_A m c t h (by omega)]
  frame_out

/-- A later point goes on from the point before. -/
theorem later (h : ¬t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases hl : t.val % 4 = 3
  · rw [outsAt0_C m c t h hl]; frame_out; rw [read_unread_whole]
  · rw [outsAt0_B m c t h hl]; frame_out; rw [read_unread_whole]

/-- The last point of a run hands the scratch over. -/
theorem last (h : t.val % 4 = 3) : (outsAt0 m c t.val t.isLt).1 = (outsAt0 m c t.val t.isLt).2 := by
  rw [later m c t (by omega), outsAt0_C m c t (by omega) h]; frame_out; rw [read_unread_whole]

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![0, t.val / 4] := (by decide +kernel : ∀ t : Fin grid0.N, _)

/-- The kernel's result is the product. -/
theorem final : (dats m 0 c).arrAt 2 cfg0.N = Product.tn (M := 1024) (K := 4096) (N := 9856) (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, last m c t ht, Pipeline.eq_sum_fin_of_reset_step_apply_of_flush (fun n h => (outsAt0 m c n h).2) 4 (fun _ => 0) _
      (fun t h j => by rw [start m c t h, pay, pay_zero]) (fun t h j => by rw [later m c t h, pay]) t ht y, zero_add]
  refine Fin.sum_mul_add_congr fun s k hl => ?_
  congr 1
  · blk_ext [iblk, V, index0, index2]
  · blk_ext [iblk, V, index1, index2]

/-- The reference's result is the same. -/
theorem reference (x : Vec Ideal S4096x1024 .bf16) (y : Vec Ideal S4096x9856 .bf16) :
    transpose InDwReferenceIdeal.S1024x9856 [1, 0] (Host.dotGeneral (F := Ideal) (φ₁ := .f32) (φ₂ := .f32) InDwReferenceIdeal.dot_S4096x9856_S4096x1024_S9856x1024_0_0_1_1_n_n none (extf .f32 y InDwReferenceIdeal.Gen.bitsLt_bf16_f32) (extf .f32 x InDwReferenceIdeal.Gen.bitsLt_bf16_f32)) InDwReferenceIdeal.Gen.transposes_S9856x1024_S1024x9856_1_0
      = Product.tn (M := 1024) (K := 4096) (N := 9856) x y := by
  funext j
  unfold Product.tn
  pointwise
  exact Finset.sum_congr rfl fun k _ => mul_comm _ _

/-- The compiled program ends, with its arguments as they were and every counter at zero. -/
theorem frame_kernel : quiescent_InDwKernel := fun m g _ => InDwKernel.Gen.frame m g

/-- So does the ideal one. -/
theorem frame_ideal : quiescent_InDwKernelIdeal := fun m g _ => frame m g

/-- So does the reference. -/
theorem frame_reference : quiescent_InDwReferenceIdeal := by
  intro m g _
  hlo_run
  · exact fun _ => ⟨trivial, trivial⟩
  · exact sem_eq_zero_of_no_sems rfl _

/-- The kernel and the reference compute the same function over the extended reals, on any arguments. -/
theorem algebraic : algebraic_InDwKernelIdeal_InDwReferenceIdeal := by
  intro m g m' g' _ hm
  refine ⟨_, (θ_run InDwKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.InDw

end
-- ==== Proof.Up.lean ====
module

public import proofs.«01_k».proof.Defs
public import proofs.«01_k».proof.Proof.Product
public import proofs.«01_k».proof.Proof.Gen.UpKernelIdeal.Frame
public import proofs.«01_k».proof.Proof.Gen.UpReferenceIdeal
public import proofs.«01_k».proof.Proof.Gen.UpKernel.Frame
public import Idealize.ShloMosaic.Lib.Claim
public import Idealize.ShloMosaic.Lib.Quiescent
public import Idealize.ShloMosaic.Lib.Pipeline.ValueKit
public import Idealize.ShloMosaic.Lib.Pipeline.ReadBack

/-!
The first product of the feed-forward block, `hn2 w_ffn_in`. The kernel walks 4 blocks of rows and 4 blocks of columns; the contracted axis is whole in each.
-/

@[expose] public section

noncomputable section

namespace Cert.Up

open Cert.UpKernelIdeal Cert.UpKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1408 .f32) (x : Vec Ideal S1024x1024 .bf16) (y : Vec Ideal S1024x1408 .bf16) (j : S1024x1408.Idx) :
    k0_pay2 acc x y j = acc j + Product.nn x y j := by
  unfold k0_pay2 Product.nn
  pointwise

/-- The scratch starts from zero. -/
theorem pay_zero (j : S1024x1408.Idx) : k0_pay1 (F := Ideal) j = 0 := by
  unfold k0_pay1
  pointwise

/-- A point hands over the product of its blocks. -/
theorem out : outsAt0 m c t = k0_pay2 (F := Ideal) (k0_pay1 (F := Ideal)) (iblk m c 0 t) (iblk m c 1 t) := by
  unfold outsAt0
  frame_out

theorem index0 : ∀ t : Fin cfg0.N, win0_0.index t = ![t.val / 4, 0] := (by decide +kernel : ∀ t : Fin grid0.N, _)
theorem index1 : ∀ t : Fin cfg0.N, win0_1.index t = ![0, t.val % 4] := (by decide +kernel : ∀ t : Fin grid0.N, _)
theorem index2 : ∀ t : Fin cfg0.N, win0_2.index t = ![t.val / 4, t.val % 4] := (by decide +kernel : ∀ t : Fin grid0.N, _)

/-- The kernel's result is the product. -/
theorem final : (dats m 0 c).arrAt 2 cfg0.N = Product.nn (M := 4096) (K := 1024) (N := 5632) (m ((c.tc : Thread nD τ).loc main_arg0)) (m ((c.tc : Thread nD τ).loc main_arg1)) := by
  refine (dats m 0 c).arrAt_eq_of_covers 2 _ (by decide +kernel) fun t hf y => ?_
  blk_simp
  rw [after0_2, out, pay, pay_zero, zero_add]
  refine Fin.sum_fin_congr fun k => ?_
  congr 1
  · blk_ext [iblk, V, index0, index2]
  · blk_ext [iblk, V, index1, index2]

/-- The reference's result is the same. -/
theorem reference (x : Vec Ideal S4096x1024 .bf16) (y : Vec Ideal S1024x5632 .bf16) :
    Host.dotGeneral (F := Ideal) (φ₁ := .f32) (φ₂ := .f32) UpReferenceIdeal.dot_S4096x1024_S1024x5632_S4096x5632_1_0_0_1_n_n none (extf .f32 x UpReferenceIdeal.Gen.bitsLt_bf16_f32) (extf .f32 y UpReferenceIdeal.Gen.bitsLt_bf16_f32)
      = Product.nn (M := 4096) (K := 1024) (N := 5632) x y := by
  funext j
  unfold Product.nn
  pointwise

/-- The compiled program ends, with its arguments as they were and every counter at zero. -/
theorem frame_kernel : quiescent_UpKernel := fun m g _ => UpKernel.Gen.frame m g

/-- So does the ideal one. -/
theorem frame_ideal : quiescent_UpKernelIdeal := fun m g _ => frame m g

/-- So does the reference. -/
theorem frame_reference : quiescent_UpReferenceIdeal := by
  intro m g _
  hlo_run
  · exact fun _ => ⟨trivial, trivial⟩
  · exact sem_eq_zero_of_no_sems rfl _

/-- The kernel and the reference compute the same function over the extended reals, on any arguments. -/
theorem algebraic : algebraic_UpKernelIdeal_UpReferenceIdeal := by
  intro m g m' g' _ hm
  refine ⟨_, (θ_run UpKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.Up

end
-- ==== Proof.UpDx.lean ====
module

public import proofs.«01_k».proof.Defs
public import proofs.«01_k».proof.Proof.Product
public import proofs.«01_k».proof.Proof.Gen.UpDxKernelIdeal.Frame
public import proofs.«01_k».proof.Proof.Gen.UpDxReferenceIdeal
public import proofs.«01_k».proof.Proof.Gen.UpDxKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the feed-forward block's first product in its input, `dgu w_ffn_inᵀ`. The kernel walks 4 blocks of rows, and for each 4 blocks of the contracted
axis, whose products it adds up in its scratch.
-/

@[expose] public section

noncomputable section

namespace Cert.UpDx

open Cert.UpDxKernelIdeal Cert.UpDxKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1024 .f32) (x : Vec Ideal S1024x1408 .bf16) (y : Vec Ideal S1024x1408 .bf16) (j : S1024x1024.Idx) :
    k0_pay2 acc x y j = acc j + Product.nt x y j := by
  unfold k0_pay2 Product.nt
  pointwise

/-- The scratch starts from zero. -/
theorem pay_zero (j : S1024x1024.Idx) : k0_pay1 (F := Ideal) j = 0 := by
  unfold k0_pay1
  pointwise

/-- The first point of a run starts from zero. -/
theorem start (h : t.val % 4 = 0) : (outsAt0 m c t.val t.isLt).2 = k0_pay2 (F := Ideal) (k0_pay1 (F := Ideal)) (iblk m c 0 t) (iblk m c 1 t) := by
  rw [outsAt0_A m c t h (by omega)]
  frame_out

/-- A later point goes on from the point before. -/
theorem later (h : ¬t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases hl : t.val % 4 = 3
  · rw [outsAt0_C m c t h hl]; frame_out; rw [read_unread_whole]
  · rw [outsAt0_B m c t h hl]; frame_out; rw [read_unread_whole]

/-- The last point of a run hands the scratch over. -/
theorem last (h : t.val % 4 = 3) : (outsAt0 m c t.val t.isLt).1 = (outsAt0 m c t.val t.isLt).2 := by
  rw [later m c t (by omega), outsAt0_C m c t (by omega) h]; frame_out; rw [read_unread_whole]

theorem index0 : ∀ t : Fin cfg0.N, win0_0.index t = ![t.val / 4, t.val % 4] := (by decide +kernel : ∀ t : Fin grid0.N, _)
theorem index1 : ∀ t : Fin cfg0.N, win0_1.index t = ![0, t.val % 4] := (by decide +kernel : ∀ t : Fin grid0.N, _)
theorem index2 : ∀ t : Fin cfg0.N, win0_2.index t = ![t.val / 4, 0] := (by decide +kernel : ∀ t : Fin grid0.N, _)

/-- The kernel's result is the product. -/
theorem final : (dats m 0 c).arrAt 2 cfg0.N = Product.nt (M := 4096) (K := 5632) (N := 1024) (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, last m c t ht, Pipeline.eq_sum_fin_of_reset_step_apply_of_flush (fun n h => (outsAt0 m c n h).2) 4 (fun _ => 0) _
      (fun t h j => by rw [start m c t h, pay, pay_zero]) (fun t h j => by rw [later m c t h, pay]) t ht y, zero_add]
  refine Fin.sum_mul_add_congr fun s k hl => ?_
  congr 1
  · blk_ext [iblk, V, index0, index2]
  · blk_ext [iblk, V, index1, index2]

/-- The reference's result is the same. -/
theorem reference (x : Vec Ideal S4096x5632 .bf16) (y : Vec Ideal S1024x5632 .bf16) :
    Host.dotGeneral (F := Ideal) (φ₁ := .f32) (φ₂ := .f32) UpDxReferenceIdeal.dot_S4096x5632_S1024x5632_S4096x1024_1_1_0_0_n_n none (extf .f32 x UpDxReferenceIdeal.Gen.bitsLt_bf16_f32) (extf .f32 y UpDxReferenceIdeal.Gen.bitsLt_bf16_f32)
      = Product.nt (M := 4096) (K := 5632) (N := 1024) x y := by
  funext j
  unfold Product.nt
  pointwise

/-- The compiled program ends, with its arguments as they were and every counter at zero. -/
theorem frame_kernel : quiescent_UpDxKernel := fun m g _ => UpDxKernel.Gen.frame m g

/-- So does the ideal one. -/
theorem frame_ideal : quiescent_UpDxKernelIdeal := fun m g _ => frame m g

/-- So does the reference. -/
theorem frame_reference : quiescent_UpDxReferenceIdeal := by
  intro m g _
  hlo_run
  · exact fun _ => ⟨trivial, trivial⟩
  · exact sem_eq_zero_of_no_sems rfl _

/-- The kernel and the reference compute the same function over the extended reals, on any arguments. -/
theorem algebraic : algebraic_UpDxKernelIdeal_UpDxReferenceIdeal := by
  intro m g m' g' _ hm
  refine ⟨_, (θ_run UpDxKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.UpDx

end
-- ==== Proof.UpDw.lean ====
module

public import proofs.«01_k».proof.Defs
public import proofs.«01_k».proof.Proof.Product
public import proofs.«01_k».proof.Proof.Gen.UpDwKernelIdeal.Frame
public import proofs.«01_k».proof.Proof.Gen.UpDwReferenceIdeal
public import proofs.«01_k».proof.Proof.Gen.UpDwKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the feed-forward block's first product in its weights, `hn2ᵀ dgu`. The kernel walks 4 blocks of columns, and for each 4 blocks of the contracted
axis (the tokens), whose products it adds up in its scratch.
-/

@[expose] public section

noncomputable section

namespace Cert.UpDw

open Cert.UpDwKernelIdeal Cert.UpDwKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1408 .f32) (x : Vec Ideal S1024x1024 .bf16) (y : Vec Ideal S1024x1408 .bf16) (j : S1024x1408.Idx) :
    k0_pay2 acc x y j = acc j + Product.tn x y j := by
  unfold k0_pay2 Product.tn
  pointwise

/-- The scratch starts from zero. -/
theorem pay_zero (j : S1024x1408.Idx) : k0_pay1 (F := Ideal) j = 0 := by
  unfold k0_pay1
  pointwise

/-- The first point of a run starts from zero. -/
theorem start (h : t.val % 4 = 0) : (outsAt0 m c t.val t.isLt).2 = k0_pay2 (F := Ideal) (k0_pay1 (F := Ideal)) (iblk m c 0 t) (iblk m c 1 t) := by
  rw [outsAt0_A m c t h (by omega)]
  frame_out

/-- A later point goes on from the point before. -/
theorem later (h : ¬t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases hl : t.val % 4 = 3
  · rw [outsAt0_C m c t h hl]; frame_out; rw [read_unread_whole]
  · rw [outsAt0_B m c t h hl]; frame_out; rw [read_unread_whole]

/-- The last point of a run hands the scratch over. -/
theorem last (h : t.val % 4 = 3) : (outsAt0 m c t.val t.isLt).1 = (outsAt0 m c t.val t.isLt).2 := by
  rw [later m c t (by omega), outsAt0_C m c t (by omega) h]; frame_out; rw [read_unread_whole]

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![0, t.val / 4] := (by decide +kernel : ∀ t : Fin grid0.N, _)

/-- The kernel's result is the product. -/
theorem final : (dats m 0 c).arrAt 2 cfg0.N = Product.tn (M := 1024) (K := 4096) (N := 5632) (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, last m c t ht, Pipeline.eq_sum_fin_of_reset_step_apply_of_flush (fun n h => (outsAt0 m c n h).2) 4 (fun _ => 0) _
      (fun t h j => by rw [start m c t h, pay, pay_zero]) (fun t h j => by rw [later m c t h, pay]) t ht y, zero_add]
  refine Fin.sum_mul_add_congr fun s k hl => ?_
  congr 1
  · blk_ext [iblk, V, index0, index2]
  · blk_ext [iblk, V, index1, index2]

/-- The reference's result is the same. -/
theorem reference (x : Vec Ideal S4096x1024 .bf16) (y : Vec Ideal S4096x5632 .bf16) :
    transpose UpDwReferenceIdeal.S1024x5632 [1, 0] (Host.dotGeneral (F := Ideal) (φ₁ := .f32) (φ₂ := .f32) UpDwReferenceIdeal.dot_S4096x5632_S4096x1024_S5632x1024_0_0_1_1_n_n none (extf .f32 y UpDwReferenceIdeal.Gen.bitsLt_bf16_f32) (extf .f32 x UpDwReferenceIdeal.Gen.bitsLt_bf16_f32)) UpDwReferenceIdeal.Gen.transposes_S5632x1024_S1024x5632_1_0
      = Product.tn (M := 1024) (K := 4096) (N := 5632) x y := by
  funext j
  unfold Product.tn
  pointwise
  exact Finset.sum_congr rfl fun k _ => mul_comm _ _

/-- The compiled program ends, with its arguments as they were and every counter at zero. -/
theorem frame_kernel : quiescent_UpDwKernel := fun m g _ => UpDwKernel.Gen.frame m g

/-- So does the ideal one. -/
theorem frame_ideal : quiescent_UpDwKernelIdeal := fun m g _ => frame m g

/-- So does the reference. -/
theorem frame_reference : quiescent_UpDwReferenceIdeal := by
  intro m g _
  hlo_run
  · exact fun _ => ⟨trivial, trivial⟩
  · exact sem_eq_zero_of_no_sems rfl _

/-- The kernel and the reference compute the same function over the extended reals, on any arguments. -/
theorem algebraic : algebraic_UpDwKernelIdeal_UpDwReferenceIdeal := by
  intro m g m' g' _ hm
  refine ⟨_, (θ_run UpDwKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.UpDw

end
-- ==== Proof.Down.lean ====
module

public import proofs.«01_k».proof.Defs
public import proofs.«01_k».proof.Proof.Product
public import proofs.«01_k».proof.Proof.Gen.DownKernelIdeal.Frame
public import proofs.«01_k».proof.Proof.Gen.DownReferenceIdeal
public import proofs.«01_k».proof.Proof.Gen.DownKernel.Frame
public import Idealize.ShloMosaic.Lib.Claim
public import Idealize.ShloMosaic.Lib.Quiescent
public import Idealize.ShloMosaic.Lib.Pipeline.ValueKit
public import Idealize.ShloMosaic.Lib.Pipeline.ReadBack

/-!
The second product of the feed-forward block with the residual stream added, `h1 + act w_ffn_out`. The kernel walks 4 blocks of rows, and for each 2 blocks of the
contracted axis, whose products it adds up in its scratch; the residual is added once, at the last.
-/

@[expose] public section

noncomputable section

namespace Cert.Down

open Cert.DownKernelIdeal Cert.DownKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1024 .f32) (x : Vec Ideal S1024x1408 .bf16) (y : Vec Ideal S1408x1024 .bf16) (j : S1024x1024.Idx) :
    k0_pay2 acc x y j = acc j + Product.nn x y j := by
  unfold k0_pay2 Product.nn
  pointwise

/-- The scratch starts from zero. -/
theorem pay_zero (j : S1024x1024.Idx) : k0_pay1 (F := Ideal) j = 0 := by
  unfold k0_pay1
  pointwise

/-- The first point of a run starts from zero. -/
theorem start (h : t.val % 2 = 0) : (outsAt0 m c t.val t.isLt).2 = k0_pay2 (F := Ideal) (k0_pay1 (F := Ideal)) (iblk m c 0 t) (iblk m c 1 t) := by
  rw [outsAt0_A m c t h (by omega)]
  frame_out

/-- A later point goes on from the point before. -/
theorem later (h : ¬t.val % 2 = 0) : (outsAt0 m c t.val t.isLt).2
    = k0_pay2 (F := Ideal) (outsAt0 m c (t.val - 1) (Nat.lt_of_le_of_lt (Nat.sub_le _ _) t.isLt)).2 (iblk m c 0 t) (iblk m c 1 t) := by
  rw [outsAt0_B m c t h (by omega)]; frame_out; rw [read_unread_whole]

/-- The last point of a run hands the scratch over, with the block of the third argument added. -/
theorem last (h : t.val % 2 = 1) : (outsAt0 m c t.val t.isLt).1 = k0_pay3 (F := Ideal) (outsAt0 m c t.val t.isLt).2 (iblk m c 2 t) := by
  rw [later m c t (by omega), outsAt0_B m c t (by omega) h]; frame_out; rw [read_unread_whole]

/-- That block is added at each entry. -/
theorem pay_add (x y : Vec Ideal S1024x1024 .f32) (j : S1024x1024.Idx) : k0_pay3 x y j = x j + y j := by
  unfold k0_pay3
  pointwise

theorem index0 : ∀ t : Fin cfg0.N, win0_0.index t = ![t.val / 2, t.val % 2] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, 0] := (by decide +kernel : ∀ t : Fin grid0.N, _)
theorem index3 : ∀ t : Fin cfg0.N, win0_3.index t = ![t.val / 2, 0] := (by decide +kernel : ∀ t : Fin grid0.N, _)

/-- The kernel's result is the third argument and the product. -/
theorem final : (dats m 0 c).arrAt 3 cfg0.N = Product.plus (m ((c.tc : Thread nD τ).loc main_arg2)) (Product.nn (M := 4096) (K := 2816) (N := 1024) (m ((c.tc : Thread nD τ).loc main_arg0)) (m ((c.tc : Thread nD τ).loc main_arg1))) := by
  refine (dats m 0 c).arrAt_eq_of_covers 3 _ (by decide +kernel) fun t hf y => ?_
  have ht := (flush0_3 t).mp hf
  blk_simp
  rw [after0_3, last m c t ht, pay_add, Pipeline.eq_sum_fin_of_reset_step_apply_of_flush (fun n h => (outsAt0 m c n h).2) 2 (fun _ => 0) _
      (fun t h j => by rw [start m c t h, pay, pay_zero]) (fun t h j => by rw [later m c t h, pay]) t ht y, zero_add]
  refine (add_comm (G := EReal) _ _).trans ?_
  unfold Product.plus
  congr 1
  refine Fin.sum_mul_add_congr fun s k hl => ?_
  congr 1
  · blk_ext [iblk, V, index0, index3]
  · blk_ext [iblk, V, index1, index3]

/-- The reference's result is the same. -/
theorem reference (x : Vec Ideal S4096x2816 .bf16) (y : Vec Ideal S2816x1024 .bf16) (r : Vec Ideal S4096x1024 .f32) :
    addf r (Host.dotGeneral (F := Ideal) (φ₁ := .f32) (φ₂ := .f32) DownReferenceIdeal.dot_S4096x2816_S2816x1024_S4096x1024_1_0_0_1_n_n none (extf .f32 x DownReferenceIdeal.Gen.bitsLt_bf16_f32) (extf .f32 y DownReferenceIdeal.Gen.bitsLt_bf16_f32))
      = Product.plus r (Product.nn (M := 4096) (K := 2816) (N := 1024) x y) := by
  funext j
  unfold Product.plus Product.nn
  pointwise

/-- The compiled program ends, with its arguments as they were and every counter at zero. -/
theorem frame_kernel : quiescent_DownKernel := fun m g _ => DownKernel.Gen.frame m g

/-- So does the ideal one. -/
theorem frame_ideal : quiescent_DownKernelIdeal := fun m g _ => frame m g

/-- So does the reference. -/
theorem frame_reference : quiescent_DownReferenceIdeal := by
  intro m g _
  hlo_run
  · exact fun _ => ⟨trivial, trivial, trivial⟩
  · exact sem_eq_zero_of_no_sems rfl _

/-- The kernel and the reference compute the same function over the extended reals, on any arguments. -/
theorem algebraic : algebraic_DownKernelIdeal_DownReferenceIdeal := by
  intro m g m' g' _ hm
  refine ⟨_, (θ_run DownKernelIdeal.defs _ _).mono (fun r hr c => ⟨(hr.1.out_eq c 3).trans (final m c), hr.2.1 c⟩) (θ_run_and (run_main m g) (frame m g)), ?_⟩
  hlo_run
  rw [(hm c).1, (hm c).2.1, (hm c).2.2]
  exact reference _ _ _

end Cert.Down

end
-- ==== Proof.DownDx.lean ====
module

public import proofs.«01_k».proof.Defs
public import proofs.«01_k».proof.Proof.Product
public import proofs.«01_k».proof.Proof.Gen.DownDxKernelIdeal.Frame
public import proofs.«01_k».proof.Proof.Gen.DownDxReferenceIdeal
public import proofs.«01_k».proof.Proof.Gen.DownDxKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the feed-forward block's second product in its input, `dh2 w_ffn_outᵀ`. The kernel walks 4 blocks of rows and 2 blocks of columns; the contracted
axis is whole in each.
-/

@[expose] public section

noncomputable section

namespace Cert.DownDx

open Cert.DownDxKernelIdeal Cert.DownDxKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1408 .f32) (x : Vec Ideal S1024x1024 .f32) (y : Vec Ideal S1408x1024 .bf16) (j : S1024x1408.Idx) :
    k0_pay2 acc x y j = acc j + Product.nt x y j := by
  unfold k0_pay2 Product.nt
  pointwise

/-- The scratch starts from zero. -/
theorem pay_zero (j : S1024x1408.Idx) : k0_pay1 (F := Ideal) j = 0 := by
  unfold k0_pay1
  pointwise

/-- A point hands over the product of its blocks. -/
theorem out : outsAt0 m c t = k0_pay2 (F := Ideal) (k0_pay1 (F := Ideal)) (iblk m c 0 t) (iblk m c 1 t) := by
  unfold outsAt0
  frame_out

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

/-- The kernel's result is the product. -/
theorem final : (dats m 0 c).arrAt 2 cfg0.N = Product.nt (M := 4096) (K := 1024) (N := 2816) (m ((c.tc : Thread nD τ).loc main_arg0)) (m ((c.tc : Thread nD τ).loc main_arg1)) := by
  refine (dats m 0 c).arrAt_eq_of_covers 2 _ (by decide +kernel) fun t hf y => ?_
  blk_simp
  rw [after0_2, out, pay, pay_zero, zero_add]
  refine Fin.sum_fin_congr fun k => ?_
  congr 1
  · blk_ext [iblk, V, index0, index2]
  · blk_ext [iblk, V, index1, index2]

/-- The reference's result is the same. -/
theorem reference (x : Vec Ideal S4096x1024 .f32) (y : Vec Ideal S2816x1024 .bf16) :
    Host.dotGeneral (F := Ideal) (φ₁ := .f32) (φ₂ := .f32) DownDxReferenceIdeal.dot_S4096x1024_S2816x1024_S4096x2816_1_1_0_0_n_n none x (extf .f32 y DownDxReferenceIdeal.Gen.bitsLt_bf16_f32)
      = Product.nt (M := 4096) (K := 1024) (N := 2816) x y := by
  funext j
  unfold Product.nt
  pointwise

/-- The compiled program ends, with its arguments as they were and every counter at zero. -/
theorem frame_kernel : quiescent_DownDxKernel := fun m g _ => DownDxKernel.Gen.frame m g

/-- So does the ideal one. -/
theorem frame_ideal : quiescent_DownDxKernelIdeal := fun m g _ => frame m g

/-- So does the reference. -/
theorem frame_reference : quiescent_DownDxReferenceIdeal := by
  intro m g _
  hlo_run
  · exact fun _ => ⟨trivial, trivial⟩
  · exact sem_eq_zero_of_no_sems rfl _

/-- The kernel and the reference compute the same function over the extended reals, on any arguments. -/
theorem algebraic : algebraic_DownDxKernelIdeal_DownDxReferenceIdeal := by
  intro m g m' g' _ hm
  refine ⟨_, (θ_run DownDxKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.DownDx

end
-- ==== Proof.DownDw.lean ====
module

public import proofs.«01_k».proof.Defs
public import proofs.«01_k».proof.Proof.Product
public import proofs.«01_k».proof.Proof.Gen.DownDwKernelIdeal.Frame
public import proofs.«01_k».proof.Proof.Gen.DownDwReferenceIdeal
public import proofs.«01_k».proof.Proof.Gen.DownDwKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the feed-forward block's second product in its weights, `actᵀ dh2`. The kernel walks 11 blocks of rows, and for each 4 blocks of the contracted
axis (the tokens), whose products it adds up in its scratch.
-/

@[expose] public section

noncomputable section

namespace Cert.DownDw

open Cert.DownDwKernelIdeal Cert.DownDwKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S256x1024 .f32) (x : Vec Ideal S1024x256 .bf16) (y : Vec Ideal S1024x1024 .f32) (j : S256x1024.Idx) :
    k0_pay2 acc x y j = acc j + Product.tn x y j := by
  unfold k0_pay2 Product.tn
  pointwise

/-- The scratch starts from zero. -/
theorem pay_zero (j : S256x1024.Idx) : k0_pay1 (F := Ideal) j = 0 := by
  unfold k0_pay1
  pointwise

/-- The first point of a run starts from zero. -/
theorem start (h : t.val % 4 = 0) : (outsAt0 m c t.val t.isLt).2 = k0_pay2 (F := Ideal) (k0_pay1 (F := Ideal)) (iblk m c 0 t) (iblk m c 1 t) := by
  rw [outsAt0_A m c t h (by omega)]
  frame_out

/-- A later point goes on from the point before. -/
theorem later (h : ¬t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases hl : t.val % 4 = 3
  · rw [outsAt0_C m c t h hl]; frame_out; rw [read_unread_whole]
  · rw [outsAt0_B m c t h hl]; frame_out; rw [read_unread_whole]

/-- The last point of a run hands the scratch over. -/
theorem last (h : t.val % 4 = 3) : (outsAt0 m c t.val t.isLt).1 = (outsAt0 m c t.val t.isLt).2 := by
  rw [later m c t (by omega), outsAt0_C m c t (by omega) h]; frame_out; rw [read_unread_whole]

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

/-- The kernel's result is the product. -/
theorem final : (dats m 0 c).arrAt 2 cfg0.N = Product.tn (M := 2816) (K := 4096) (N := 1024) (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, last m c t ht, Pipeline.eq_sum_fin_of_reset_step_apply_of_flush (fun n h => (outsAt0 m c n h).2) 4 (fun _ => 0) _
      (fun t h j => by rw [start m c t h, pay, pay_zero]) (fun t h j => by rw [later m c t h, pay]) t ht y, zero_add]
  refine Fin.sum_mul_add_congr fun s k hl => ?_
  congr 1
  · blk_ext [iblk, V, index0, index2]
  · blk_ext [iblk, V, index1, index2]

/-- The reference's result is the same. -/
theorem reference (x : Vec Ideal S4096x2816 .bf16) (y : Vec Ideal S4096x1024 .f32) :
    transpose DownDwReferenceIdeal.S2816x1024 [1, 0] (Host.dotGeneral (F := Ideal) (φ₁ := .f32) (φ₂ := .f32) DownDwReferenceIdeal.dot_S4096x1024_S4096x2816_S1024x2816_0_0_1_1_n_n none y (extf .f32 x DownDwReferenceIdeal.Gen.bitsLt_bf16_f32)) DownDwReferenceIdeal.Gen.transposes_S1024x2816_S2816x1024_1_0
      = Product.tn (M := 2816) (K := 4096) (N := 1024) x y := by
  funext j
  unfold Product.tn
  pointwise
  exact Finset.sum_congr rfl fun k _ => mul_comm _ _

/-- The compiled program ends, with its arguments as they were and every counter at zero. -/
theorem frame_kernel : quiescent_DownDwKernel := fun m g _ => DownDwKernel.Gen.frame m g

/-- So does the ideal one. -/
theorem frame_ideal : quiescent_DownDwKernelIdeal := fun m g _ => frame m g

/-- So does the reference. -/
theorem frame_reference : quiescent_DownDwReferenceIdeal := by
  intro m g _
  hlo_run
  · exact fun _ => ⟨trivial, trivial⟩
  · exact sem_eq_zero_of_no_sems rfl _

/-- The kernel and the reference compute the same function over the extended reals, on any arguments. -/
theorem algebraic : algebraic_DownDwKernelIdeal_DownDwReferenceIdeal := by
  intro m g m' g' _ hm
  refine ⟨_, (θ_run DownDwKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.DownDw

end
-- ==== Proof.Ssm.lean ====
module

public import proofs.«01_k».proof.Defs
public import proofs.«01_k».proof.Proof.Product
public import proofs.«01_k».proof.Proof.Gen.SsmKernelIdeal.Frame
public import proofs.«01_k».proof.Proof.Gen.SsmReferenceIdeal
public import proofs.«01_k».proof.Proof.Gen.SsmKernel.Frame
public import Idealize.ShloMosaic.Lib.Claim
public import Idealize.ShloMosaic.Lib.Quiescent
public import Idealize.ShloMosaic.Lib.Pipeline.ValueKit
public import Idealize.ShloMosaic.Lib.Pipeline.ReadBack

/-!
The output projection of the SSD branch, `y_pre w_out_ssm`. The kernel walks 4 blocks of rows, and for each 2 blocks of the contracted axis, whose products it
adds up in its scratch.
-/

@[expose] public section

noncomputable section

namespace Cert.Ssm

open Cert.SsmKernelIdeal Cert.SsmKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1024 .f32) (x : Vec Ideal S1024x1024 .bf16) (y : Vec Ideal S1024x1024 .bf16) (j : S1024x1024.Idx) :
    k0_pay2 acc x y j = acc j + Product.nn x y j := by
  unfold k0_pay2 Product.nn
  pointwise

/-- The scratch starts from zero. -/
theorem pay_zero (j : S1024x1024.Idx) : k0_pay1 (F := Ideal) j = 0 := by
  unfold k0_pay1
  pointwise

/-- The first point of a run starts from zero. -/
theorem start (h : t.val % 2 = 0) : (outsAt0 m c t.val t.isLt).2 = k0_pay2 (F := Ideal) (k0_pay1 (F := Ideal)) (iblk m c 0 t) (iblk m c 1 t) := by
  rw [outsAt0_A m c t h (by omega)]
  frame_out

/-- A later point goes on from the point before. -/
theorem later (h : ¬t.val % 2 = 0) : (outsAt0 m c t.val t.isLt).2
    = k0_pay2 (F := Ideal) (outsAt0 m c (t.val - 1) (Nat.lt_of_le_of_lt (Nat.sub_le _ _) t.isLt)).2 (iblk m c 0 t) (iblk m c 1 t) := by
  rw [outsAt0_B m c t h (by omega)]; frame_out; rw [read_unread_whole]

/-- The last point of a run hands the scratch over. -/
theorem last (h : t.val % 2 = 1) : (outsAt0 m c t.val t.isLt).1 = (outsAt0 m c t.val t.isLt).2 := by
  rw [later m c t (by omega), outsAt0_B m c t (by omega) h]; frame_out; rw [read_unread_whole]

theorem index0 : ∀ t : Fin cfg0.N, win0_0.index t = ![t.val / 2, t.val % 2] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, 0] := (by decide +kernel : ∀ t : Fin grid0.N, _)

/-- The kernel's result is the product. -/
theorem final : (dats m 0 c).arrAt 2 cfg0.N = Product.nn (M := 4096) (K := 2048) (N := 1024) (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, last m c t ht, Pipeline.eq_sum_fin_of_reset_step_apply_of_flush (fun n h => (outsAt0 m c n h).2) 2 (fun _ => 0) _
      (fun t h j => by rw [start m c t h, pay, pay_zero]) (fun t h j => by rw [later m c t h, pay]) t ht y, zero_add]
  refine Fin.sum_mul_add_congr fun s k hl => ?_
  congr 1
  · blk_ext [iblk, V, index0, index2]
  · blk_ext [iblk, V, index1, index2]

/-- The reference's result is the same. -/
theorem reference (x : Vec Ideal S4096x2048 .bf16) (y : Vec Ideal S2048x1024 .bf16) :
    Host.dotGeneral (F := Ideal) (φ₁ := .f32) (φ₂ := .f32) SsmReferenceIdeal.dot_S4096x2048_S2048x1024_S4096x1024_1_0_0_1_n_n none (extf .f32 x SsmReferenceIdeal.Gen.bitsLt_bf16_f32) (extf .f32 y SsmReferenceIdeal.Gen.bitsLt_bf16_f32)
      = Product.nn (M := 4096) (K := 2048) (N := 1024) x y := by
  funext j
  unfold Product.nn
  pointwise

/-- The compiled program ends, with its arguments as they were and every counter at zero. -/
theorem frame_kernel : quiescent_SsmKernel := fun m g _ => SsmKernel.Gen.frame m g

/-- So does the ideal one. -/
theorem frame_ideal : quiescent_SsmKernelIdeal := fun m g _ => frame m g

/-- So does the reference. -/
theorem frame_reference : quiescent_SsmReferenceIdeal := by
  intro m g _
  hlo_run
  · exact fun _ => ⟨trivial, trivial⟩
  · exact sem_eq_zero_of_no_sems rfl _

/-- The kernel and the reference compute the same function over the extended reals, on any arguments. -/
theorem algebraic : algebraic_SsmKernelIdeal_SsmReferenceIdeal := by
  intro m g m' g' _ hm
  refine ⟨_, (θ_run SsmKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.Ssm

end
-- ==== Proof.SsmDx.lean ====
module

public import proofs.«01_k».proof.Defs
public import proofs.«01_k».proof.Proof.Product
public import proofs.«01_k».proof.Proof.Gen.SsmDxKernelIdeal.Frame
public import proofs.«01_k».proof.Proof.Gen.SsmDxReferenceIdeal
public import proofs.«01_k».proof.Proof.Gen.SsmDxKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the SSD branch's output projection in its input, `dy_ssm w_out_ssmᵀ`. The kernel walks 4 blocks of rows and 2 blocks of columns; the contracted
axis is whole in each.
-/

@[expose] public section

noncomputable section

namespace Cert.SsmDx

open Cert.SsmDxKernelIdeal Cert.SsmDxKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1024 .f32) (x : Vec Ideal S1024x1024 .bf16) (y : Vec Ideal S1024x1024 .bf16) (j : S1024x1024.Idx) :
    k0_pay2 acc x y j = acc j + Product.nt x y j := by
  unfold k0_pay2 Product.nt
  pointwise

/-- The scratch starts from zero. -/
theorem pay_zero (j : S1024x1024.Idx) : k0_pay1 (F := Ideal) j = 0 := by
  unfold k0_pay1
  pointwise

/-- A point hands over the product of its blocks. -/
theorem out : outsAt0 m c t = k0_pay2 (F := Ideal) (k0_pay1 (F := Ideal)) (iblk m c 0 t) (iblk m c 1 t) := by
  unfold outsAt0
  frame_out

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

/-- The kernel's result is the product. -/
theorem final : (dats m 0 c).arrAt 2 cfg0.N = Product.nt (M := 4096) (K := 1024) (N := 2048) (m ((c.tc : Thread nD τ).loc main_arg0)) (m ((c.tc : Thread nD τ).loc main_arg1)) := by
  refine (dats m 0 c).arrAt_eq_of_covers 2 _ (by decide +kernel) fun t hf y => ?_
  blk_simp
  rw [after0_2, out, pay, pay_zero, zero_add]
  refine Fin.sum_fin_congr fun k => ?_
  congr 1
  · blk_ext [iblk, V, index0, index2]
  · blk_ext [iblk, V, index1, index2]

/-- The reference's result is the same. -/
theorem reference (x : Vec Ideal S4096x1024 .bf16) (y : Vec Ideal S2048x1024 .bf16) :
    Host.dotGeneral (F := Ideal) (φ₁ := .f32) (φ₂ := .f32) SsmDxReferenceIdeal.dot_S4096x1024_S2048x1024_S4096x2048_1_1_0_0_n_n none (extf .f32 x SsmDxReferenceIdeal.Gen.bitsLt_bf16_f32) (extf .f32 y SsmDxReferenceIdeal.Gen.bitsLt_bf16_f32)
      = Product.nt (M := 4096) (K := 1024) (N := 2048) x y := by
  funext j
  unfold Product.nt
  pointwise

/-- The compiled program ends, with its arguments as they were and every counter at zero. -/
theorem frame_kernel : quiescent_SsmDxKernel := fun m g _ => SsmDxKernel.Gen.frame m g

/-- So does the ideal one. -/
theorem frame_ideal : quiescent_SsmDxKernelIdeal := fun m g _ => frame m g

/-- So does the reference. -/
theorem frame_reference : quiescent_SsmDxReferenceIdeal := by
  intro m g _
  hlo_run
  · exact fun _ => ⟨trivial, trivial⟩
  · exact sem_eq_zero_of_no_sems rfl _

/-- The kernel and the reference compute the same function over the extended reals, on any arguments. -/
theorem algebraic : algebraic_SsmDxKernelIdeal_SsmDxReferenceIdeal := by
  intro m g m' g' _ hm
  refine ⟨_, (θ_run SsmDxKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.SsmDx

end
-- ==== Proof.SsmDw.lean ====
module

public import proofs.«01_k».proof.Defs
public import proofs.«01_k».proof.Proof.Product
public import proofs.«01_k».proof.Proof.Gen.SsmDwKernelIdeal.Frame
public import proofs.«01_k».proof.Proof.Gen.SsmDwReferenceIdeal
public import proofs.«01_k».proof.Proof.Gen.SsmDwKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the SSD branch's output projection in its weights, `y_preᵀ dy_ssm`. The kernel walks 2 blocks of rows, and for each 4 blocks of the contracted
axis (the tokens), whose products it adds up in its scratch.
-/

@[expose] public section

noncomputable section

namespace Cert.SsmDw

open Cert.SsmDwKernelIdeal Cert.SsmDwKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1024 .f32) (x : Vec Ideal S1024x1024 .bf16) (y : Vec Ideal S1024x1024 .bf16) (j : S1024x1024.Idx) :
    k0_pay2 acc x y j = acc j + Product.tn x y j := by
  unfold k0_pay2 Product.tn
  pointwise

/-- The scratch starts from zero. -/
theorem pay_zero (j : S1024x1024.Idx) : k0_pay1 (F := Ideal) j = 0 := by
  unfold k0_pay1
  pointwise

/-- The first point of a run starts from zero. -/
theorem start (h : t.val % 4 = 0) : (outsAt0 m c t.val t.isLt).2 = k0_pay2 (F := Ideal) (k0_pay1 (F := Ideal)) (iblk m c 0 t) (iblk m c 1 t) := by
  rw [outsAt0_A m c t h (by omega)]
  frame_out

/-- A later point goes on from the point before. -/
theorem later (h : ¬t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases hl : t.val % 4 = 3
  · rw [outsAt0_C m c t h hl]; frame_out; rw [read_unread_whole]
  · rw [outsAt0_B m c t h hl]; frame_out; rw [read_unread_whole]

/-- The last point of a run hands the scratch over. -/
theorem last (h : t.val % 4 = 3) : (outsAt0 m c t.val t.isLt).1 = (outsAt0 m c t.val t.isLt).2 := by
  rw [later m c t (by omega), outsAt0_C m c t (by omega) h]; frame_out; rw [read_unread_whole]

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

/-- The kernel's result is the product. -/
theorem final : (dats m 0 c).arrAt 2 cfg0.N = Product.tn (M := 2048) (K := 4096) (N := 1024) (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, last m c t ht, Pipeline.eq_sum_fin_of_reset_step_apply_of_flush (fun n h => (outsAt0 m c n h).2) 4 (fun _ => 0) _
      (fun t h j => by rw [start m c t h, pay, pay_zero]) (fun t h j => by rw [later m c t h, pay]) t ht y, zero_add]
  refine Fin.sum_mul_add_congr fun s k hl => ?_
  congr 1
  · blk_ext [iblk, V, index0, index2]
  · blk_ext [iblk, V, index1, index2]

/-- The reference's result is the same. -/
theorem reference (x : Vec Ideal S4096x2048 .bf16) (y : Vec Ideal S4096x1024 .bf16) :
    transpose SsmDwReferenceIdeal.S2048x1024 [1, 0] (Host.dotGeneral (F := Ideal) (φ₁ := .f32) (φ₂ := .f32) SsmDwReferenceIdeal.dot_S4096x1024_S4096x2048_S1024x2048_0_0_1_1_n_n none (extf .f32 y SsmDwReferenceIdeal.Gen.bitsLt_bf16_f32) (extf .f32 x SsmDwReferenceIdeal.Gen.bitsLt_bf16_f32)) SsmDwReferenceIdeal.Gen.transposes_S1024x2048_S2048x1024_1_0
      = Product.tn (M := 2048) (K := 4096) (N := 1024) x y := by
  funext j
  unfold Product.tn
  pointwise
  exact Finset.sum_congr rfl fun k _ => mul_comm _ _

/-- The compiled program ends, with its arguments as they were and every counter at zero. -/
theorem frame_kernel : quiescent_SsmDwKernel := fun m g _ => SsmDwKernel.Gen.frame m g

/-- So does the ideal one. -/
theorem frame_ideal : quiescent_SsmDwKernelIdeal := fun m g _ => frame m g

/-- So does the reference. -/
theorem frame_reference : quiescent_SsmDwReferenceIdeal := by
  intro m g _
  hlo_run
  · exact fun _ => ⟨trivial, trivial⟩
  · exact sem_eq_zero_of_no_sems rfl _

/-- The kernel and the reference compute the same function over the extended reals, on any arguments. -/
theorem algebraic : algebraic_SsmDwKernelIdeal_SsmDwReferenceIdeal := by
  intro m g m' g' _ hm
  refine ⟨_, (θ_run SsmDwKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.SsmDw

end
-- ==== Proof.Rec.lean ====
module

public import proofs.«01_k».proof.Defs
public import proofs.«01_k».proof.Proof.Product
public import proofs.«01_k».proof.Proof.Gen.RecKernelIdeal.Frame
public import proofs.«01_k».proof.Proof.Gen.RecReferenceIdeal
public import proofs.«01_k».proof.Proof.Gen.RecKernel.Frame
public import Idealize.ShloMosaic.Lib.Claim
public import Idealize.ShloMosaic.Lib.Quiescent
public import Idealize.ShloMosaic.Lib.Pipeline.ValueKit
public import Idealize.ShloMosaic.Lib.Pipeline.ReadBack

/-!
The output projection of the RG-LRU branch, `l_out w_out_lru`. The kernel walks 4 blocks of rows; the contracted axis is whole in each.
-/

@[expose] public section

noncomputable section

namespace Cert.Rec

open Cert.RecKernelIdeal Cert.RecKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1024 .f32) (x : Vec Ideal S1024x1280 .bf16) (y : Vec Ideal S1280x1024 .bf16) (j : S1024x1024.Idx) :
    k0_pay2 acc x y j = acc j + Product.nn x y j := by
  unfold k0_pay2 Product.nn
  pointwise

/-- The scratch starts from zero. -/
theorem pay_zero (j : S1024x1024.Idx) : k0_pay1 (F := Ideal) j = 0 := by
  unfold k0_pay1
  pointwise

/-- A point hands over the product of its blocks. -/
theorem out : outsAt0 m c t = k0_pay2 (F := Ideal) (k0_pay1 (F := Ideal)) (iblk m c 0 t) (iblk m c 1 t) := by
  unfold outsAt0
  frame_out

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The kernel's result is the product. -/
theorem final : (dats m 0 c).arrAt 2 cfg0.N = Product.nn (M := 4096) (K := 1280) (N := 1024) (m ((c.tc : Thread nD τ).loc main_arg0)) (m ((c.tc : Thread nD τ).loc main_arg1)) := by
  refine (dats m 0 c).arrAt_eq_of_covers 2 _ (by decide +kernel) fun t hf y => ?_
  blk_simp
  rw [after0_2, out, pay, pay_zero, zero_add]
  refine Fin.sum_fin_congr fun k => ?_
  congr 1
  · blk_ext [iblk, V, index0, index2]
  · blk_ext [iblk, V, index1, index2]

/-- The reference's result is the same. -/
theorem reference (x : Vec Ideal S4096x1280 .bf16) (y : Vec Ideal S1280x1024 .bf16) :
    Host.dotGeneral (F := Ideal) (φ₁ := .f32) (φ₂ := .f32) RecReferenceIdeal.dot_S4096x1280_S1280x1024_S4096x1024_1_0_0_1_n_n none (extf .f32 x RecReferenceIdeal.Gen.bitsLt_bf16_f32) (extf .f32 y RecReferenceIdeal.Gen.bitsLt_bf16_f32)
      = Product.nn (M := 4096) (K := 1280) (N := 1024) x y := by
  funext j
  unfold Product.nn
  pointwise

/-- The compiled program ends, with its arguments as they were and every counter at zero. -/
theorem frame_kernel : quiescent_RecKernel := fun m g _ => RecKernel.Gen.frame m g

/-- So does the ideal one. -/
theorem frame_ideal : quiescent_RecKernelIdeal := fun m g _ => frame m g

/-- So does the reference. -/
theorem frame_reference : quiescent_RecReferenceIdeal := by
  intro m g _
  hlo_run
  · exact fun _ => ⟨trivial, trivial⟩
  · exact sem_eq_zero_of_no_sems rfl _

/-- The kernel and the reference compute the same function over the extended reals, on any arguments. -/
theorem algebraic : algebraic_RecKernelIdeal_RecReferenceIdeal := by
  intro m g m' g' _ hm
  refine ⟨_, (θ_run RecKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.Rec

end
-- ==== Proof.RecDx.lean ====
module

public import proofs.«01_k».proof.Defs
public import proofs.«01_k».proof.Proof.Product
public import proofs.«01_k».proof.Proof.Gen.RecDxKernelIdeal.Frame
public import proofs.«01_k».proof.Proof.Gen.RecDxReferenceIdeal
public import proofs.«01_k».proof.Proof.Gen.RecDxKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the RG-LRU branch's output projection in its input, `dy_lru w_out_lruᵀ`. The kernel walks 4 blocks of rows; the contracted axis is whole in each.
-/

@[expose] public section

noncomputable section

namespace Cert.RecDx

open Cert.RecDxKernelIdeal Cert.RecDxKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1280 .f32) (x : Vec Ideal S1024x1024 .bf16) (y : Vec Ideal S1280x1024 .bf16) (j : S1024x1280.Idx) :
    k0_pay2 acc x y j = acc j + Product.nt x y j := by
  unfold k0_pay2 Product.nt
  pointwise

/-- The scratch starts from zero. -/
theorem pay_zero (j : S1024x1280.Idx) : k0_pay1 (F := Ideal) j = 0 := by
  unfold k0_pay1
  pointwise

/-- A point hands over the product of its blocks. -/
theorem out : outsAt0 m c t = k0_pay2 (F := Ideal) (k0_pay1 (F := Ideal)) (iblk m c 0 t) (iblk m c 1 t) := by
  unfold outsAt0
  frame_out

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The kernel's result is the product. -/
theorem final : (dats m 0 c).arrAt 2 cfg0.N = Product.nt (M := 4096) (K := 1024) (N := 1280) (m ((c.tc : Thread nD τ).loc main_arg0)) (m ((c.tc : Thread nD τ).loc main_arg1)) := by
  refine (dats m 0 c).arrAt_eq_of_covers 2 _ (by decide +kernel) fun t hf y => ?_
  blk_simp
  rw [after0_2, out, pay, pay_zero, zero_add]
  refine Fin.sum_fin_congr fun k => ?_
  congr 1
  · blk_ext [iblk, V, index0, index2]
  · blk_ext [iblk, V, index1, index2]

/-- The reference's result is the same. -/
theorem reference (x : Vec Ideal S4096x1024 .bf16) (y : Vec Ideal S1280x1024 .bf16) :
    Host.dotGeneral (F := Ideal) (φ₁ := .f32) (φ₂ := .f32) RecDxReferenceIdeal.dot_S4096x1024_S1280x1024_S4096x1280_1_1_0_0_n_n none (extf .f32 x RecDxReferenceIdeal.Gen.bitsLt_bf16_f32) (extf .f32 y RecDxReferenceIdeal.Gen.bitsLt_bf16_f32)
      = Product.nt (M := 4096) (K := 1024) (N := 1280) x y := by
  funext j
  unfold Product.nt
  pointwise

/-- The compiled program ends, with its arguments as they were and every counter at zero. -/
theorem frame_kernel : quiescent_RecDxKernel := fun m g _ => RecDxKernel.Gen.frame m g

/-- So does the ideal one. -/
theorem frame_ideal : quiescent_RecDxKernelIdeal := fun m g _ => frame m g

/-- So does the reference. -/
theorem frame_reference : quiescent_RecDxReferenceIdeal := by
  intro m g _
  hlo_run
  · exact fun _ => ⟨trivial, trivial⟩
  · exact sem_eq_zero_of_no_sems rfl _

/-- The kernel and the reference compute the same function over the extended reals, on any arguments. -/
theorem algebraic : algebraic_RecDxKernelIdeal_RecDxReferenceIdeal := by
  intro m g m' g' _ hm
  refine ⟨_, (θ_run RecDxKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.RecDx

end
-- ==== Proof.RecDw.lean ====
module

public import proofs.«01_k».proof.Defs
public import proofs.«01_k».proof.Proof.Product
public import proofs.«01_k».proof.Proof.Gen.RecDwKernelIdeal.Frame
public import proofs.«01_k».proof.Proof.Gen.RecDwReferenceIdeal
public import proofs.«01_k».proof.Proof.Gen.RecDwKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the RG-LRU branch's output projection in its weights, `l_outᵀ dy_lru`. The kernel walks 2 blocks of rows, and for each 4 blocks of the contracted
axis (the tokens), whose products it adds up in its scratch.
-/

@[expose] public section

noncomputable section

namespace Cert.RecDw

open Cert.RecDwKernelIdeal Cert.RecDwKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S640x1024 .f32) (x : Vec Ideal S1024x640 .bf16) (y : Vec Ideal S1024x1024 .bf16) (j : S640x1024.Idx) :
    k0_pay2 acc x y j = acc j + Product.tn x y j := by
  unfold k0_pay2 Product.tn
  pointwise

/-- The scratch starts from zero. -/
theorem pay_zero (j : S640x1024.Idx) : k0_pay1 (F := Ideal) j = 0 := by
  unfold k0_pay1
  pointwise

/-- The first point of a run starts from zero. -/
theorem start (h : t.val % 4 = 0) : (outsAt0 m c t.val t.isLt).2 = k0_pay2 (F := Ideal) (k0_pay1 (F := Ideal)) (iblk m c 0 t) (iblk m c 1 t) := by
  rw [outsAt0_A m c t h (by omega)]
  frame_out

/-- A later point goes on from the point before. -/
theorem later (h : ¬t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases hl : t.val % 4 = 3
  · rw [outsAt0_C m c t h hl]; frame_out; rw [read_unread_whole]
  · rw [outsAt0_B m c t h hl]; frame_out; rw [read_unread_whole]

/-- The last point of a run hands the scratch over. -/
theorem last (h : t.val % 4 = 3) : (outsAt0 m c t.val t.isLt).1 = (outsAt0 m c t.val t.isLt).2 := by
  rw [later m c t (by omega), outsAt0_C m c t (by omega) h]; frame_out; rw [read_unread_whole]

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

/-- The kernel's result is the product. -/
theorem final : (dats m 0 c).arrAt 2 cfg0.N = Product.tn (M := 1280) (K := 4096) (N := 1024) (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, last m c t ht, Pipeline.eq_sum_fin_of_reset_step_apply_of_flush (fun n h => (outsAt0 m c n h).2) 4 (fun _ => 0) _
      (fun t h j => by rw [start m c t h, pay, pay_zero]) (fun t h j => by rw [later m c t h, pay]) t ht y, zero_add]
  refine Fin.sum_mul_add_congr fun s k hl => ?_
  congr 1
  · blk_ext [iblk, V, index0, index2]
  · blk_ext [iblk, V, index1, index2]

/-- The reference's result is the same. -/
theorem reference (x : Vec Ideal S4096x1280 .bf16) (y : Vec Ideal S4096x1024 .bf16) :
    transpose RecDwReferenceIdeal.S1280x1024 [1, 0] (Host.dotGeneral (F := Ideal) (φ₁ := .f32) (φ₂ := .f32) RecDwReferenceIdeal.dot_S4096x1024_S4096x1280_S1024x1280_0_0_1_1_n_n none (extf .f32 y RecDwReferenceIdeal.Gen.bitsLt_bf16_f32) (extf .f32 x RecDwReferenceIdeal.Gen.bitsLt_bf16_f32)) RecDwReferenceIdeal.Gen.transposes_S1024x1280_S1280x1024_1_0
      = Product.tn (M := 1280) (K := 4096) (N := 1024) x y := by
  funext j
  unfold Product.tn
  pointwise
  exact Finset.sum_congr rfl fun k _ => mul_comm _ _

/-- The compiled program ends, with its arguments as they were and every counter at zero. -/
theorem frame_kernel : quiescent_RecDwKernel := fun m g _ => RecDwKernel.Gen.frame m g

/-- So does the ideal one. -/
theorem frame_ideal : quiescent_RecDwKernelIdeal := fun m g _ => frame m g

/-- So does the reference. -/
theorem frame_reference : quiescent_RecDwReferenceIdeal := by
  intro m g _
  hlo_run
  · exact fun _ => ⟨trivial, trivial⟩
  · exact sem_eq_zero_of_no_sems rfl _

/-- The kernel and the reference compute the same function over the extended reals, on any arguments. -/
theorem algebraic : algebraic_RecDwKernelIdeal_RecDwReferenceIdeal := by
  intro m g m' g' _ hm
  refine ⟨_, (θ_run RecDwKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.RecDw

end
-- ==== Proof.Out.lean ====
module

public import proofs.«01_k».proof.Defs
public import proofs.«01_k».proof.Proof.Product
public import proofs.«01_k».proof.Proof.Gen.OutKernelIdeal.Frame
public import proofs.«01_k».proof.Proof.Gen.OutReferenceIdeal
public import proofs.«01_k».proof.Proof.Gen.OutKernel.Frame
public import Idealize.ShloMosaic.Lib.Claim
public import Idealize.ShloMosaic.Lib.Quiescent
public import Idealize.ShloMosaic.Lib.Pipeline.ValueKit
public import Idealize.ShloMosaic.Lib.Pipeline.ReadBack

/-!
The projection of the merged branches with the residual stream added, `x + merged w_out`. The kernel walks 4 blocks of rows; the contracted axis is whole in each.
-/

@[expose] public section

noncomputable section

namespace Cert.Out

open Cert.OutKernelIdeal Cert.OutKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1024 .f32) (x : Vec Ideal S1024x1024 .bf16) (y : Vec Ideal S1024x1024 .bf16) (j : S1024x1024.Idx) :
    k0_pay2 acc x y j = acc j + Product.nn x y j := by
  unfold k0_pay2 Product.nn
  pointwise

/-- The scratch starts from zero. -/
theorem pay_zero (j : S1024x1024.Idx) : k0_pay1 (F := Ideal) j = 0 := by
  unfold k0_pay1
  pointwise

/-- A point hands over the product of its blocks, with the block of the third argument added. -/
theorem out : outsAt0 m c t = k0_pay3 (F := Ideal) (k0_pay2 (F := Ideal) (k0_pay1 (F := Ideal)) (iblk m c 0 t) (iblk m c 1 t)) (iblk m c 2 t) := by
  unfold outsAt0
  frame_out

/-- That block is added at each entry. -/
theorem pay_add (x y : Vec Ideal S1024x1024 .f32) (j : S1024x1024.Idx) : k0_pay3 x y j = x j + y j := by
  unfold k0_pay3
  pointwise

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

/-- The kernel's result is the third argument and the product. -/
theorem final : (dats m 0 c).arrAt 3 cfg0.N = Product.plus (m ((c.tc : Thread nD τ).loc main_arg2)) (Product.nn (M := 4096) (K := 1024) (N := 1024) (m ((c.tc : Thread nD τ).loc main_arg0)) (m ((c.tc : Thread nD τ).loc main_arg1))) := by
  refine (dats m 0 c).arrAt_eq_of_covers 3 _ (by decide +kernel) fun t hf y => ?_
  blk_simp
  rw [after0_3, out, pay_add, pay, pay_zero, zero_add]
  refine (add_comm (G := EReal) _ _).trans ?_
  unfold Product.plus
  congr 1
  refine Fin.sum_fin_congr fun k => ?_
  congr 1
  · blk_ext [iblk, V, index0, index3]
  · blk_ext [iblk, V, index1, index3]

/-- The reference's result is the same. -/
theorem reference (x : Vec Ideal S4096x1024 .bf16) (y : Vec Ideal S1024x1024 .bf16) (r : Vec Ideal S4096x1024 .f32) :
    addf r (Host.dotGeneral (F := Ideal) (φ₁ := .f32) (φ₂ := .f32) OutReferenceIdeal.dot_S4096x1024_S1024x1024_S4096x1024_1_0_0_1_n_n none (extf .f32 x OutReferenceIdeal.Gen.bitsLt_bf16_f32) (extf .f32 y OutReferenceIdeal.Gen.bitsLt_bf16_f32))
      = Product.plus r (Product.nn (M := 4096) (K := 1024) (N := 1024) x y) := by
  funext j
  unfold Product.plus Product.nn
  pointwise

/-- The compiled program ends, with its arguments as they were and every counter at zero. -/
theorem frame_kernel : quiescent_OutKernel := fun m g _ => OutKernel.Gen.frame m g

/-- So does the ideal one. -/
theorem frame_ideal : quiescent_OutKernelIdeal := fun m g _ => frame m g

/-- So does the reference. -/
theorem frame_reference : quiescent_OutReferenceIdeal := by
  intro m g _
  hlo_run
  · exact fun _ => ⟨trivial, trivial, trivial⟩
  · exact sem_eq_zero_of_no_sems rfl _

/-- The kernel and the reference compute the same function over the extended reals, on any arguments. -/
theorem algebraic : algebraic_OutKernelIdeal_OutReferenceIdeal := by
  intro m g m' g' _ hm
  refine ⟨_, (θ_run OutKernelIdeal.defs _ _).mono (fun r hr c => ⟨(hr.1.out_eq c 3).trans (final m c), hr.2.1 c⟩) (θ_run_and (run_main m g) (frame m g)), ?_⟩
  hlo_run
  rw [(hm c).1, (hm c).2.1, (hm c).2.2]
  exact reference _ _ _

end Cert.Out

end
-- ==== Proof.OutDx.lean ====
module

public import proofs.«01_k».proof.Defs
public import proofs.«01_k».proof.Proof.Product
public import proofs.«01_k».proof.Proof.Gen.OutDxKernelIdeal.Frame
public import proofs.«01_k».proof.Proof.Gen.OutDxReferenceIdeal
public import proofs.«01_k».proof.Proof.Gen.OutDxKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the merged branches' projection in its input, `dh1 w_outᵀ`. The kernel walks 4 blocks of rows; the contracted axis is whole in each.
-/

@[expose] public section

noncomputable section

namespace Cert.OutDx

open Cert.OutDxKernelIdeal Cert.OutDxKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1024 .f32) (x : Vec Ideal S1024x1024 .f32) (y : Vec Ideal S1024x1024 .bf16) (j : S1024x1024.Idx) :
    k0_pay2 acc x y j = acc j + Product.nt x y j := by
  unfold k0_pay2 Product.nt
  pointwise

/-- The scratch starts from zero. -/
theorem pay_zero (j : S1024x1024.Idx) : k0_pay1 (F := Ideal) j = 0 := by
  unfold k0_pay1
  pointwise

/-- A point hands over the product of its blocks. -/
theorem out : outsAt0 m c t = k0_pay2 (F := Ideal) (k0_pay1 (F := Ideal)) (iblk m c 0 t) (iblk m c 1 t) := by
  unfold outsAt0
  frame_out

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The kernel's result is the product. -/
theorem final : (dats m 0 c).arrAt 2 cfg0.N = Product.nt (M := 4096) (K := 1024) (N := 1024) (m ((c.tc : Thread nD τ).loc main_arg0)) (m ((c.tc : Thread nD τ).loc main_arg1)) := by
  refine (dats m 0 c).arrAt_eq_of_covers 2 _ (by decide +kernel) fun t hf y => ?_
  blk_simp
  rw [after0_2, out, pay, pay_zero, zero_add]
  refine Fin.sum_fin_congr fun k => ?_
  congr 1
  · blk_ext [iblk, V, index0, index2]
  · blk_ext [iblk, V, index1, index2]

/-- The reference's result is the same. -/
theorem reference (x : Vec Ideal S4096x1024 .f32) (y : Vec Ideal S1024x1024 .bf16) :
    Host.dotGeneral (F := Ideal) (φ₁ := .f32) (φ₂ := .f32) OutDxReferenceIdeal.dot_S4096x1024_S1024x1024_S4096x1024_1_1_0_0_n_n none x (extf .f32 y OutDxReferenceIdeal.Gen.bitsLt_bf16_f32)
      = Product.nt (M := 4096) (K := 1024) (N := 1024) x y := by
  funext j
  unfold Product.nt
  pointwise

/-- The compiled program ends, with its arguments as they were and every counter at zero. -/
theorem frame_kernel : quiescent_OutDxKernel := fun m g _ => OutDxKernel.Gen.frame m g

/-- So does the ideal one. -/
theorem frame_ideal : quiescent_OutDxKernelIdeal := fun m g _ => frame m g

/-- So does the reference. -/
theorem frame_reference : quiescent_OutDxReferenceIdeal := by
  intro m g _
  hlo_run
  · exact fun _ => ⟨trivial, trivial⟩
  · exact sem_eq_zero_of_no_sems rfl _

/-- The kernel and the reference compute the same function over the extended reals, on any arguments. -/
theorem algebraic : algebraic_OutDxKernelIdeal_OutDxReferenceIdeal := by
  intro m g m' g' _ hm
  refine ⟨_, (θ_run OutDxKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.OutDx

end
-- ==== Proof.OutDw.lean ====
module

public import proofs.«01_k».proof.Defs
public import proofs.«01_k».proof.Proof.Product
public import proofs.«01_k».proof.Proof.Gen.OutDwKernelIdeal.Frame
public import proofs.«01_k».proof.Proof.Gen.OutDwReferenceIdeal
public import proofs.«01_k».proof.Proof.Gen.OutDwKernel.Frame
public import Idealize.ShloMosaic.Lib.Claim
public import Idealize.ShloMosaic.Lib.Quiescent
public import Idealize.ShloMosaic.Lib.Pipeline.ValueKit
public import Idealize.ShloMosaic.Lib.Pipeline.ReadBack

/-!
The gradient of the merged branches' projection in its weights, `mergedᵀ dh1`. The kernel adds the products of the 4 blocks of the contracted axis (the tokens) up
in its scratch.
-/

@[expose] public section

noncomputable section

namespace Cert.OutDw

open Cert.OutDwKernelIdeal Cert.OutDwKernelIdeal.Gen
open Idealize.ShloMosaic Idealize.ShloMosaic.TcCoe Idealize.SL.Sem

variable (m : (ℓ : Loc nD τ sig) → Buf (Elt Ideal) ℓ) (c : Dev nD) (t : Fin cfg0.N)

/-- One point adds the product of its two blocks to the scratch. -/
theorem pay (acc : Vec Ideal S1024x1024 .f32) (x : Vec Ideal S1024x1024 .bf16) (y : Vec Ideal S1024x1024 .f32) (j : S1024x1024.Idx) :
    k0_pay2 acc x y j = acc j + Product.tn x y j := by
  unfold k0_pay2 Product.tn
  pointwise

/-- The scratch starts from zero. -/
theorem pay_zero (j : S1024x1024.Idx) : k0_pay1 (F := Ideal) j = 0 := by
  unfold k0_pay1
  pointwise

/-- The first point of a run starts from zero. -/
theorem start (h : t.val % 4 = 0) : (outsAt0 m c t.val t.isLt).2 = k0_pay2 (F := Ideal) (k0_pay1 (F := Ideal)) (iblk m c 0 t) (iblk m c 1 t) := by
  rw [outsAt0_A m c t h (by omega)]
  frame_out

/-- A later point goes on from the point before. -/
theorem later (h : ¬t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases hl : t.val % 4 = 3
  · rw [outsAt0_C m c t h hl]; frame_out; rw [read_unread_whole]
  · rw [outsAt0_B m c t h hl]; frame_out; rw [read_unread_whole]

/-- The last point of a run hands the scratch over. -/
theorem last (h : t.val % 4 = 3) : (outsAt0 m c t.val t.isLt).1 = (outsAt0 m c t.val t.isLt).2 := by
  rw [later m c t (by omega), outsAt0_C m c t (by omega) h]; frame_out; rw [read_unread_whole]

theorem index0 : ∀ t : Fin cfg0.N, win0_0.index t = ![t.val % 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, 0] := (by decide +kernel : ∀ t : Fin grid0.N, _)

/-- The kernel's result is the product. -/
theorem final : (dats m 0 c).arrAt 2 cfg0.N = Product.tn (M := 1024) (K := 4096) (N := 1024) (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, last m c t ht, Pipeline.eq_sum_fin_of_reset_step_apply_of_flush (fun n h => (outsAt0 m c n h).2) 4 (fun _ => 0) _
      (fun t h j => by rw [start m c t h, pay, pay_zero]) (fun t h j => by rw [later m c t h, pay]) t ht y, zero_add]
  refine Fin.sum_mul_add_congr fun s k hl => ?_
  congr 1
  · blk_ext [iblk, V, index0, index2]
  · blk_ext [iblk, V, index1, index2]

/-- The reference's result is the same. -/
theorem reference (x : Vec Ideal S4096x1024 .bf16) (y : Vec Ideal S4096x1024 .f32) :
    transpose OutDwReferenceIdeal.S1024x1024 [1, 0] (Host.dotGeneral (F := Ideal) (φ₁ := .f32) (φ₂ := .f32) OutDwReferenceIdeal.dot_S4096x1024_S4096x1024_S1024x1024_0_0_1_1_n_n none y (extf .f32 x OutDwReferenceIdeal.Gen.bitsLt_bf16_f32)) OutDwReferenceIdeal.Gen.transposes_S1024x1024_S1024x1024_1_0
      = Product.tn (M := 1024) (K := 4096) (N := 1024) x y := by
  funext j
  unfold Product.tn
  pointwise
  exact Finset.sum_congr rfl fun k _ => mul_comm _ _

/-- The compiled program ends, with its arguments as they were and every counter at zero. -/
theorem frame_kernel : quiescent_OutDwKernel := fun m g _ => OutDwKernel.Gen.frame m g

/-- So does the ideal one. -/
theorem frame_ideal : quiescent_OutDwKernelIdeal := fun m g _ => frame m g

/-- So does the reference. -/
theorem frame_reference : quiescent_OutDwReferenceIdeal := by
  intro m g _
  hlo_run
  · exact fun _ => ⟨trivial, trivial⟩
  · exact sem_eq_zero_of_no_sems rfl _

/-- The kernel and the reference compute the same function over the extended reals, on any arguments. -/
theorem algebraic : algebraic_OutDwKernelIdeal_OutDwReferenceIdeal := by
  intro m g m' g' _ hm
  refine ⟨_, (θ_run OutDwKernelIdeal.defs _ _).mono (fun r hr c => ⟨(hr.1.out_eq c 2).trans (final m c), hr.2.1 c⟩) (θ_run_and (run_main m g) (frame m g)), ?_⟩
  hlo_run
  rw [(hm c).1, (hm c).2]
  exact reference _ _

end Cert.OutDw

end
-- ==== Proof.Gate.lean ====
/- Entries of a matrix named by an entry of a narrower one, and the gates that are computed of them. -/
module

public import Idealize.ShloMosaic.PureOps
public import Idealize.ShloMosaic.Lib.ValueIdx
public import Idealize.ShloMosaic.Lib.IdealHost
public import Idealize.ShloMosaic.Lib.Pipeline.FrameBody

@[expose] public section

noncomputable section

namespace Cert.Gate

open Idealize.ShloMosaic
open Idealize.ShloMosaic.ValueIdx

variable {n m k : ℕ} {φ ψ : FTy}

/-- The entry of the same row, `o` columns to the right. -/
def right (o : ℕ) (h : o + m ≤ k) (j : (⟨2, ![n, m]⟩ : Shape).Idx) : (⟨2, ![n, k]⟩ : Shape).Idx :=
  ix2 (j 0) ⟨o + (j 1).val, Nat.lt_of_lt_of_le (Nat.add_lt_add_left (j 1).isLt o) h⟩

/-- The entry of a single row, `o` columns to the right. -/
def along (o : ℕ) (h : o + m ≤ k) (j : (⟨2, ![n, m]⟩ : Shape).Idx) : (⟨2, ![1, k]⟩ : Shape).Idx :=
  ix2 (0 : Fin 1) ⟨o + (j 1).val, Nat.lt_of_lt_of_le (Nat.add_lt_add_left (j 1).isLt o) h⟩

theorem right_row (o : ℕ) (h : o + m ≤ k) (j : (⟨2, ![n, m]⟩ : Shape).Idx) : (right o h j 0).val = (j 0).val := rfl
theorem right_col (o : ℕ) (h : o + m ≤ k) (j : (⟨2, ![n, m]⟩ : Shape).Idx) : (right o h j 1).val = o + (j 1).val := rfl
theorem along_row (o : ℕ) (h : o + m ≤ k) (j : (⟨2, ![n, m]⟩ : Shape).Idx) : (along o h j 0).val = 0 := rfl
theorem along_col (o : ℕ) (h : o + m ≤ k) (j : (⟨2, ![n, m]⟩ : Shape).Idx) : (along o h j 1).val = o + (j 1).val := rfl

theorem right_zero (h : 0 + m ≤ k) (j : (⟨2, ![n, m]⟩ : Shape).Idx) :
    right 0 h j = ix2 (j 0) ⟨(j 1).val, Nat.lt_of_lt_of_le (j 1).isLt (Nat.zero_add m ▸ h)⟩ := congrArg (ix2 (j 0)) (Fin.ext (Nat.zero_add _))

theorem along_zero (h : 0 + m ≤ k) (j : (⟨2, ![n, m]⟩ : Shape).Idx) :
    along 0 h j = ix2 (0 : Fin 1) ⟨(j 1).val, Nat.lt_of_lt_of_le (j 1).isLt (Nat.zero_add m ▸ h)⟩ := congrArg (ix2 (0 : Fin 1)) (Fin.ext (Nat.zero_add _))

/-- A stretch of columns holds the entries `o` columns to the right. -/
theorem slice_right (o : ℕ) (h : o + m ≤ k) (x : FVec Ideal ⟨2, ![n, k]⟩ φ) (hs) (j : (⟨2, ![n, m]⟩ : Shape).Idx) :
    extractStridedSlice ⟨2, ![n, m]⟩ ![0, o] x hs j = x (right o h j) := by
  refine congrArg x (funext fun d => ?_)
  match d with
  | ⟨0, _⟩ => exact Fin.ext (Nat.zero_add _)
  | ⟨1, _⟩ => rfl

/-- A stretch read of a single row holds its entries `o` columns to the right. -/
theorem ld_along (o : ℕ) (h : o + m ≤ k) {e : EltTy} (x : (⟨2, ![1, k]⟩ : Shape).Idx → Elt Ideal e) (hi) :
    View.ld (Val := Elt Ideal) x (Rect.unit (s := ⟨2, ![1, k]⟩) ![0, o] ![1, m] hi) = fun j : (⟨2, ![1, m]⟩ : Shape).Idx => x (along o h j) := by
  refine funext fun j => congrArg x (funext fun d => Fin.ext ?_)
  match d with
  | ⟨0, _⟩ =>
    have : (j 0).val < 1 := (j 0).isLt
    change 0 + 1 * (j 0).val = 0
    omega
  | ⟨1, _⟩ =>
    change o + 1 * (j 1).val = o + (j 1).val
    omega

/-- An entry of a matrix of two halves is an entry of one of them. -/
theorem halves (hk : k = m + m) (h : 0 + m ≤ k) (h' : m + m ≤ k) (y : (⟨2, ![n, k]⟩ : Shape).Idx) :
    (∃ j : (⟨2, ![n, m]⟩ : Shape).Idx, y = right 0 h j) ∨ ∃ j : (⟨2, ![n, m]⟩ : Shape).Idx, y = right m h' j := by
  have hy : (y 1).val < m + m := hk ▸ (y 1).isLt
  by_cases hl : (y 1).val < m
  · refine .inl ⟨ix2 (y 0) ⟨(y 1).val, hl⟩, funext fun d => ?_⟩
    match d with
    | ⟨0, _⟩ => rfl
    | ⟨1, _⟩ => exact Fin.ext (Nat.zero_add _).symm
  · refine .inr ⟨ix2 (y 0) ⟨(y 1).val - m, by omega⟩, funext fun d => ?_⟩
    match d with
    | ⟨0, _⟩ => rfl
    | ⟨1, _⟩ => exact Fin.ext (show (y 1).val = m + ((y 1).val - m) by omega)

theorem rect_right (o : ℕ) (h : o + m ≤ k) (hi) (j : (⟨2, ![n, m]⟩ : Shape).Idx) :
    (Rect.unit (s := ⟨2, ![n, k]⟩) ![0, o] ![n, m] hi).emb j = right o h j := by
  refine funext fun d => Fin.ext ?_
  match d with
  | ⟨0, _⟩ =>
    change 0 + 1 * (j 0).val = (j 0).val
    omega
  | ⟨1, _⟩ =>
    change o + 1 * (j 1).val = o + (j 1).val
    omega

/-- A stretch of columns that was stored last holds what was stored. -/
theorem canon_right (o : ℕ) (h : o + m ≤ k) {e : EltTy} (hi) (w : (⟨2, ![n, m]⟩ : Shape).Idx → Elt Ideal e) (L : List (View.Piece (Elt Ideal) ⟨2, ![n, k]⟩ e))
    (j : (⟨2, ![n, m]⟩ : Shape).Idx) : View.canon (⟨Rect.unit (s := ⟨2, ![n, k]⟩) ![0, o] ![n, m] hi, w⟩ :: L) (right o h j) = w j := by
  rw [← rect_right o h hi]
  exact View.canon_cons_emb _ _ _ _

/-- The columns to its left hold what they held. -/
theorem canon_left (o : ℕ) {e : EltTy} (hi) (w : (⟨2, ![n, m]⟩ : Shape).Idx → Elt Ideal e) (L : List (View.Piece (Elt Ideal) ⟨2, ![n, k]⟩ e))
    (y : (⟨2, ![n, k]⟩ : Shape).Idx) (hy : (y 1).val < o) : View.canon (⟨Rect.unit (s := ⟨2, ![n, k]⟩) ![0, o] ![n, m] hi, w⟩ :: L) y = View.canon L y := by
  refine View.canon_cons_of_not_mem _ _ fun hm => ?_
  have e : o ≤ (y 1).val := ((Rect.mem_set_unit (inb := hi)).mp hm 1).1
  omega

theorem right_self (h : 0 + m ≤ m) (j : (⟨2, ![n, m]⟩ : Shape).Idx) : right 0 h j = j := by
  refine funext fun d => ?_
  match d with
  | ⟨0, _⟩ => rfl
  | ⟨1, _⟩ => exact Fin.ext (Nat.zero_add _)

/-- A matrix that was stored whole holds what was stored. -/
theorem canon_all {e : EltTy} (hi) (w : (⟨2, ![n, m]⟩ : Shape).Idx → Elt Ideal e) (L : List (View.Piece (Elt Ideal) ⟨2, ![n, m]⟩ e))
    (j : (⟨2, ![n, m]⟩ : Shape).Idx) : View.canon (⟨Rect.unit (s := ⟨2, ![n, m]⟩) ![0, 0] ![n, m] hi, w⟩ :: L) j = w j := by
  have h := canon_right 0 (le_of_eq (Nat.zero_add m)) hi w L j
  rwa [right_self] at h

/-- A stretch of columns read back after stores. -/
theorem read_right (o : ℕ) (h : o + m ≤ k) {sig : RefSig} {κ : Kind} {sp : Space} {e : EltTy} (v : View sig κ sp ⟨2, ![n, k]⟩ e) (hi) (L : List (View.Piece (Elt Ideal) ⟨2, ![n, k]⟩ e))
    (j : (⟨2, ![n, m]⟩ : Shape).Idx) : v.readCov L (Rect.unit (s := ⟨2, ![n, k]⟩) ![0, o] ![n, m] hi).toLoadRect j = View.canon L (right o h j) := by
  rw [View.readCov_eq_canon', ← rect_right o h hi]
  rfl

theorem ld_right (o : ℕ) (h : o + m ≤ k) {e : EltTy} (x : (⟨2, ![n, k]⟩ : Shape).Idx → Elt Ideal e) (hi) (j : (⟨2, ![n, m]⟩ : Shape).Idx) :
    View.ld (Val := Elt Ideal) x (Rect.unit (s := ⟨2, ![n, k]⟩) ![0, o] ![n, m] hi) j = x (right o h j) := congrArg x (rect_right o h hi j)

/-- A load of columns other than the ones stored last. -/
theorem canon_beyond (o : ℕ) {e : EltTy} (hi) (w : (⟨2, ![n, m]⟩ : Shape).Idx → Elt Ideal e) (L : List (View.Piece (Elt Ideal) ⟨2, ![n, k]⟩ e))
    (y : (⟨2, ![n, k]⟩ : Shape).Idx) (hy : o + m ≤ (y 1).val) : View.canon (⟨Rect.unit (s := ⟨2, ![n, k]⟩) ![0, o] ![n, m] hi, w⟩ :: L) y = View.canon L y := by
  refine View.canon_cons_of_not_mem _ _ fun hm => ?_
  have e : (y 1).val < o + m := ((Rect.mem_set_unit (inb := hi)).mp hm 1).2
  omega

/-- The quotient that computes the logistic function. -/
theorem logistic_eq (x : EReal) : Ideal.div 1 (1 + Ideal.exp (0 - x)) = Ideal.logistic x := by rw [zero_sub]; rfl

end Cert.Gate

end
-- ==== Proof.Swiglu.lean ====
module

public import proofs.«01_k».proof.Defs
public import proofs.«01_k».proof.Proof.Gen.SwigluKernelIdeal.Frame
public import proofs.«01_k».proof.Proof.Gen.SwigluReferenceIdeal
public import proofs.«01_k».proof.Proof.Gen.SwigluKernel.Frame
public import Idealize.ShloMosaic.Lib.Claim
public import Idealize.ShloMosaic.Lib.Quiescent
public import Idealize.ShloMosaic.Lib.Pipeline.ValueKit
public import Idealize.ShloMosaic.Lib.Pipeline.ReadBack
public import proofs.«01_k».proof.Proof.Gate

/-!
The gate of the feed-forward block, `silu (gate) * up`. The kernel walks 16 blocks of rows.
-/

@[expose] public section

noncomputable section

namespace Cert.Swiglu

open Cert.SwigluKernelIdeal Cert.SwigluKernelIdeal.Gen Gate
open Idealize.ShloMosaic hiding ix1 ix2 ix3 eq_ix1 eq_ix2 eq_ix3
open Idealize.ShloMosaic.ValueIdx Idealize.ShloMosaic.TcCoe Idealize.SL.Sem

variable (m : (ℓ : Loc nD τ sig) → Buf (Elt Ideal) ℓ) (c : Dev nD) (t : Fin cfg0.N)

/-- The gated value at each entry: the first half of the columns is the gate, the second what it multiplies. -/
def gated (x : FVec Ideal ⟨2, ![4096, 5632]⟩ .f32) : FVec Ideal ⟨2, ![4096, 2816]⟩ .bf16 := fun j =>
  x (right 0 (by decide) j) * Ideal.logistic (x (right 0 (by decide) j)) * x (right 2816 (by decide) j)

/-- A block of the result, entry by entry. -/
theorem pay (x y : Vec Ideal S256x2816 .f32) (j : S256x2816.Idx) : k0_pay1 x y j = x j * Ideal.logistic (x j) * y j := by
  unfold k0_pay1
  pointwise
  rw [logistic_eq]

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![t.val, 0] := (by decide +kernel : ∀ t : Fin grid0.N, _)

theorem out (x y : Vec Ideal S256x2816 .f32) : out0_2 x y = k0_pay1 x y := by
  unfold out0_2
  frame_out

/-- The kernel's result is the gated value. -/
theorem final : (dats m 0 c).arrAt 2 cfg0.N = gated (m ((c.tc : Thread nD τ).loc main_arg0)) := by
  refine (dats m 0 c).arrAt_eq_of_covers 2 _ (by decide +kernel) fun t hf y => ?_
  blk_simp
  rw [after0_2, out, pay]
  unfold gated
  congr 1
  · congr 1
    · blk_ext [iblk, V, index0, index2, right_row, right_col]
    · congr 1
      blk_ext [iblk, V, index0, index2, right_row, right_col]
  · blk_ext [iblk, V, index1, index2, right_row, right_col]

/-- The compiled program ends, with its arguments as they were and every counter at zero. -/
theorem frame_kernel : quiescent_SwigluKernel := fun m g _ => SwigluKernel.Gen.frame m g

/-- So does the ideal one. -/
theorem frame_ideal : quiescent_SwigluKernelIdeal := fun m g _ => frame m g

/-- So does the reference. -/
theorem frame_reference : quiescent_SwigluReferenceIdeal := by
  intro m g _
  hlo_run
  · exact fun _ => trivial
  · exact sem_eq_zero_of_no_sems rfl _

/-- The kernel and the reference compute the same function over the extended reals, on any arguments. -/
theorem algebraic : algebraic_SwigluKernelIdeal_SwigluReferenceIdeal := by
  intro m g m' g' _ hm
  refine ⟨_, (θ_run SwigluKernelIdeal.defs _ _).mono (fun r hr c => ⟨(hr.1.out_eq c 2).trans (final m c), hr.2.1 c⟩) (θ_run_and (run_main m g) (frame m g)), ?_⟩
  hlo_run
  rw [hm c]
  generalize m ((c.tc : Thread nD τ).loc main_arg0) = x
  funext j
  unfold gated
  rw [← slice_right (φ := .f32) 0 _ x SwigluReferenceIdeal.Gen.slices_S4096x5632_S4096x2816_0_0 j, ← slice_right (φ := .f32) 2816 _ x SwigluReferenceIdeal.Gen.slices_S4096x5632_S4096x2816_0_2816 j]
  pointwise
  rfl

end Cert.Swiglu

end
-- ==== Proof.SwigluBwd.lean ====
module

public import proofs.«01_k».proof.Defs
public import proofs.«01_k».proof.Proof.Gen.SwigluBwdKernelIdeal.Frame
public import proofs.«01_k».proof.Proof.Gen.SwigluBwdReferenceIdeal
public import proofs.«01_k».proof.Proof.Gen.SwigluBwdKernel.Frame
public import proofs.«01_k».proof.Proof.Gen.Pre_swiglu_real
public import proofs.«01_k».proof.Proof.Finite
public import Idealize.ShloMosaic.Lib.Claim
public import Idealize.ShloMosaic.Lib.Quiescent
public import Idealize.ShloMosaic.Lib.Pipeline.ValueKit
public import Idealize.ShloMosaic.Lib.Pipeline.ReadBack
public import proofs.«01_k».proof.Proof.Gate

/-!
The gradient of the feed-forward block's gate, `silu (gate) * up`: in the gate in the first half of the columns, in `up` in the second.
The kernel walks 16 blocks of rows and takes the derivative of `silu` in one factor, the reference as the sum that the rule of the product gives.
-/

@[expose] public section

set_option maxRecDepth 16384

noncomputable section

namespace Cert.SwigluBwd

open Cert.SwigluBwdKernelIdeal Cert.SwigluBwdKernelIdeal.Gen Gate
open Idealize.ShloMosaic hiding ix1 ix2 ix3 eq_ix1 eq_ix2 eq_ix3
open Idealize.ShloMosaic.ValueIdx Idealize.ShloMosaic.TcCoe Idealize.SL.Sem

variable (m : (ℓ : Loc nD τ sig) → Buf (Elt Ideal) ℓ) (c : Dev nD) (t : Fin cfg0.N)

/-- The gradient in the gate, where the gradient of the result is `a`. -/
def byGate (g u a : EReal) : EReal := a * u * (Ideal.logistic g * (1 + g * (1 - Ideal.logistic g)))

/-- The gradient in the other factor. -/
def byUp (g a : EReal) : EReal := a * g * Ideal.logistic g

/-- For real numbers the rule of the product gives the same gradient in the gate. -/
theorem byGate_eq (g u a : EReal) (hg : g ≠ ⊤ ∧ g ≠ ⊥) (hu : u ≠ ⊤ ∧ u ≠ ⊥) (ha : a ≠ ⊤ ∧ a ≠ ⊥) :
    a * u * Ideal.logistic g + g * (a * u) * (Ideal.logistic g * (1 - Ideal.logistic g)) = byGate g u a := by
  lift g to ℝ using hg
  lift u to ℝ using hu
  lift a to ℝ using ha
  unfold byGate
  rw [Ideal.logistic_coe]
  generalize (1 + Real.exp (-g))⁻¹ = s
  norm_cast
  ring

/-- The gradients side by side. -/
def swung (x : FVec Ideal ⟨2, ![4096, 5632]⟩ .f32) (a : FVec Ideal ⟨2, ![4096, 2816]⟩ .f32) : FVec Ideal ⟨2, ![4096, 5632]⟩ .bf16 := fun j =>
  if h : (j 1).val < 2816 then
    byGate (x j) (x (right 2816 (by decide) (ix2 (j 0) ⟨(j 1).val, h⟩ : (⟨2, ![4096, 2816]⟩ : Shape).Idx))) (a (ix2 (j 0) ⟨(j 1).val, h⟩))
  else
    byUp (x (ix2 (j 0) ⟨(j 1).val - 2816, Nat.lt_of_le_of_lt (Nat.sub_le _ _) (j 1).isLt⟩)) (a (ix2 (j 0) ⟨(j 1).val - 2816, Nat.sub_lt_left_of_lt_add (Nat.le_of_not_lt h) (j 1).isLt⟩))

theorem swung_left (x a) (j : (⟨2, ![4096, 2816]⟩ : Shape).Idx) :
    swung x a (right 0 (by decide) j) = byGate (x (right 0 (by decide) j)) (x (right 2816 (by decide) j)) (a j) := by
  have e : ((right 0 (by decide) j : (⟨2, ![4096, 5632]⟩ : Shape).Idx) 1).val < 2816 := by rw [right_col, Nat.zero_add]; exact (j 1).isLt
  have e' : (ix2 ((right 0 (by decide) j : (⟨2, ![4096, 5632]⟩ : Shape).Idx) 0) ⟨_, e⟩ : (⟨2, ![4096, 2816]⟩ : Shape).Idx) = j := funext fun d => match d with
    | ⟨0, _⟩ => rfl
    | ⟨1, _⟩ => Fin.ext (Nat.zero_add _)
  unfold swung
  rw [dif_pos e, e']

theorem swung_right (x a) (j : (⟨2, ![4096, 2816]⟩ : Shape).Idx) :
    swung x a (right 2816 (by decide) j) = byUp (x (right 0 (by decide) j)) (a j) := by
  have e : ¬((right 2816 (by decide) j : (⟨2, ![4096, 5632]⟩ : Shape).Idx) 1).val < 2816 := by rw [right_col]; omega
  have e' : ∀ h, (ix2 ((right 2816 (by decide) j : (⟨2, ![4096, 5632]⟩ : Shape).Idx) 0) ⟨((right 2816 (by decide) j : (⟨2, ![4096, 5632]⟩ : Shape).Idx) 1).val - 2816, h⟩ : (⟨2, ![4096, 2816]⟩ : Shape).Idx) = j := fun h => funext fun d => match d with
    | ⟨0, _⟩ => rfl
    | ⟨1, _⟩ => Fin.ext (Nat.add_sub_cancel_left ..)
  have e'' : ∀ h, (ix2 ((right 2816 (by decide) j : (⟨2, ![4096, 5632]⟩ : Shape).Idx) 0) ⟨((right 2816 (by decide) j : (⟨2, ![4096, 5632]⟩ : Shape).Idx) 1).val - 2816, h⟩ : (⟨2, ![4096, 5632]⟩ : Shape).Idx) = right 0 (by decide) j := fun h => funext fun d => match d with
    | ⟨0, _⟩ => rfl
    | ⟨1, _⟩ => Fin.ext ((Nat.add_sub_cancel_left ..).trans (Nat.zero_add _).symm)
  unfold swung
  rw [dif_neg e, e', e'']

theorem pay1 (x : Vec Ideal S256x2816 .f32) (j : S256x2816.Idx) : k0_pay1 x j = Ideal.logistic (x j) := by
  unfold k0_pay1
  pointwise
  rw [logistic_eq]

theorem pay2 (x a y : Vec Ideal S256x2816 .f32) (j : S256x2816.Idx) : k0_pay2 x a y j = byGate (x j) (y j) (a j) := by
  unfold k0_pay2 byGate
  pointwise [pay1]

theorem pay3 (x a : Vec Ideal S256x2816 .f32) (j : S256x2816.Idx) : k0_pay3 x a j = byUp (x j) (a j) := by
  unfold k0_pay3 byUp
  pointwise [pay1]

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

theorem place (o : ℕ) (h : o + 2816 ≤ 5632) (j : S256x2816.Idx) : (win0_3.blk t).view.emb (right o h j : S256x5632.Idx) = right o h ((win0_2.blk t).view.emb j) := by
  blk_ext [index3, index2, right_row, right_col]

theorem at0 (j : S256x2816.Idx) : iblk m c 0 t j = (m ((c.tc : Thread nD τ).loc main_arg0)) (right 0 (by decide) ((win0_2.blk t).view.emb j)) := by
  blk_ext [iblk, V, index0, index2, right_row, right_col]
theorem at1 (j : S256x2816.Idx) : iblk m c 1 t j = (m ((c.tc : Thread nD τ).loc main_arg0)) (right 2816 (by decide) ((win0_2.blk t).view.emb j)) := by
  blk_ext [iblk, V, index1, index2, right_row, right_col]
theorem at2 (j : S256x2816.Idx) : iblk m c 2 t j = (m ((c.tc : Thread nD τ).loc main_arg1)) ((win0_2.blk t).view.emb j) := by
  blk_ext [iblk, V, index2]

theorem left_lt (j : S256x2816.Idx) : ((right 0 (by decide) j : S256x5632.Idx) 1).val < 2816 := by rw [right_col, Nat.zero_add]; exact (j 1).isLt

/-- A block of the result: the gradient in the gate on the left, in the other factor on the right. -/
theorem out_left (x y a : Vec Ideal S256x2816 .f32) (j : S256x2816.Idx) : out0_3 x y a (right 0 (by decide) j) = byGate (x j) (y j) (a j) := by
  rw [← pay2]
  unfold out0_3
  frame_out
  rw [canon_left 2816 _ _ _ _ (left_lt j), canon_right 0]
theorem out_right (x y a : Vec Ideal S256x2816 .f32) (j : S256x2816.Idx) : out0_3 x y a (right 2816 (by decide) j) = byUp (x j) (a j) := by
  rw [← pay3]
  unfold out0_3
  frame_out
  rw [canon_right 2816]

/-- The kernel's result is the two gradients side by side. -/
theorem final : (dats m 0 c).arrAt 3 cfg0.N = swung (m ((c.tc : Thread nD τ).loc main_arg0)) (m ((c.tc : Thread nD τ).loc main_arg1)) := by
  refine (dats m 0 c).arrAt_eq_of_covers 3 _ (by decide +kernel) fun t hf y => ?_
  blk_simp
  rw [after0_3]
  rcases halves (m := 2816) rfl (by decide) (by decide) y with ⟨j, rfl⟩ | ⟨j, rfl⟩
  · rw [out_left, place, swung_left, at0, at1, at2]
  · rw [out_right, place, swung_right, at0, at2]

/-- The compiled program ends, with its arguments as they were and every counter at zero. -/
theorem frame_kernel : quiescent_SwigluBwdKernel := fun m g _ => SwigluBwdKernel.Gen.frame m g

/-- So does the ideal one. -/
theorem frame_ideal : quiescent_SwigluBwdKernelIdeal := fun m g _ => frame m g

/-- So does the reference. -/
theorem frame_reference : quiescent_SwigluBwdReferenceIdeal := by
  intro m g _
  hlo_run
  · exact fun _ => ⟨trivial, trivial⟩
  · exact sem_eq_zero_of_no_sems rfl _

/-- The precondition says that no entry is infinite. -/
theorem no_infinity (x : FVec Ideal S4096x5632 .f32) (a : FVec Ideal S4096x2816 .f32) (j : Pre_swiglu_real.S_.Idx) (e : Pre_swiglu_real.fn (F := Ideal) x a j = 1#1) :
    (∀ i, x i ≠ ⊤ ∧ x i ≠ ⊥) ∧ ∀ i, a i ≠ ⊤ ∧ a i ≠ ⊥ := by
  haveI : Subsingleton Pre_swiglu_real.S_.Idx := ⟨fun a b => funext fun i => i.elim0⟩
  simp only [Pre_swiglu_real.fn, andi] at e
  obtain ⟨e0, e1⟩ := IntOp.andi_eq_one.1 e
  exact ⟨Lru.no_inf _ _ _ _ _ _ e0, Lru.no_inf _ _ _ _ _ _ e1⟩

/-- The kernel and the reference compute the same function over the extended reals, on arguments whose entries are real numbers. -/
theorem algebraic : algebraic_SwigluBwdKernelIdeal_SwigluBwdReferenceIdeal_pre_swiglu_real := by
  intro m g m' g' hp hm
  refine ⟨_, (θ_run SwigluBwdKernelIdeal.defs _ _).mono (fun r hr c => ⟨(hr.1.out_eq c 3).trans (final m c), hr.2.1 c⟩) (θ_run_and (run_main m g) (frame m g)), ?_⟩
  hlo_run
  obtain ⟨hx, ha⟩ := no_infinity _ _ (fun a => a.elim0) (congrFun (hp c) _)
  rw [(hm c).1, (hm c).2]
  generalize m ((c.tc : Thread nD τ).loc main_arg0) = x at hx
  generalize m ((c.tc : Thread nD τ).loc main_arg1) = a at ha
  funext j
  unfold swung
  pointwise
  split
  · rw [← byGate_eq _ _ _ (hx _) (hx _) (ha _)]
    rfl
  · unfold byUp
    exact (mul_comm (G := EReal) _ _).trans (mul_assoc (G := EReal) _ _ _).symm

end Cert.SwigluBwd

end
-- ==== Proof.Merge.lean ====
module

public import proofs.«01_k».proof.Defs
public import proofs.«01_k».proof.Proof.Gen.MergeKernelIdeal.Frame
public import proofs.«01_k».proof.Proof.Gen.MergeReferenceIdeal
public import proofs.«01_k».proof.Proof.Gen.MergeKernel.Frame
public import Idealize.ShloMosaic.Lib.Claim
public import Idealize.ShloMosaic.Lib.Quiescent
public import Idealize.ShloMosaic.Lib.Pipeline.ValueKit
public import Idealize.ShloMosaic.Lib.Pipeline.ReadBack
public import proofs.«01_k».proof.Proof.Gate

/-!
The merge of the two branches, each multiplied by its gate: the logistic function of a stretch of the projections and its bias. The kernel walks 16 blocks of rows.
-/

@[expose] public section

noncomputable section

namespace Cert.Merge

open Cert.MergeKernelIdeal Cert.MergeKernelIdeal.Gen Gate
open Idealize.ShloMosaic hiding ix1 ix2 ix3 eq_ix1 eq_ix2 eq_ix3
open Idealize.ShloMosaic.ValueIdx Idealize.ShloMosaic.TcCoe Idealize.SL.Sem

variable (m : (ℓ : Loc nD τ sig) → Buf (Elt Ideal) ℓ) (c : Dev nD) (t : Fin cfg0.N)

/-- The merged value at each entry. -/
def merged (p : FVec Ideal ⟨2, ![4096, 9856]⟩ .f32) (b : FVec Ideal ⟨2, ![1, 2048]⟩ .f32) (s l : FVec Ideal ⟨2, ![4096, 1024]⟩ .f32) : FVec Ideal ⟨2, ![4096, 1024]⟩ .bf16 := fun j =>
  Ideal.logistic (p (right 0 (by decide) j) + b (along 0 (by decide) j)) * s j + Ideal.logistic (p (right 1024 (by decide) j) + b (along 1024 (by decide) j)) * l j

/-- A block of the result, entry by entry. -/
theorem pay (x0 x1 x3 x4 : Vec Ideal S256x1024 .f32) (b b' : Vec Ideal S1x1024 .f32) (j : S256x1024.Idx) :
    k0_pay1 x0 b x1 b' x3 x4 j = Ideal.logistic (x0 j + b (ix2 0 (j 1))) * x3 j + Ideal.logistic (x1 j + b' (ix2 0 (j 1))) * x4 j := by
  unfold k0_pay1
  pointwise
  rw [logistic_eq, logistic_eq]
  rfl

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- What the body leaves in the result's buffer. -/
theorem out : outsAt0 m c t = k0_pay1 (X0_0 m c t) (fun j => iblk m c 2 t (along 0 (by decide) j)) (X0_1 m c t) (fun j => iblk m c 2 t (along 1024 (by decide) j)) (iblk m c 3 t) (iblk m c 4 t) := by
  unfold outsAt0 out0_A_5
  frame_out
  rw [ld_along 0 (by decide), ld_along 1024 (by decide)]

/-- The first stretch of the projections, as the body finds it. -/
theorem stretch0 (y : S256x1024.Idx) : X0_0 m c t y = m ((c.tc : Thread nD τ).loc main_arg0) (right 0 (by decide) ((win0_5.blk t).view.emb y)) := by
  unfold X0_0 Pipeline.Window.fill
  rw [dif_pos (moved0_0 t y)]
  blk_ext [iblk, V, index0, index5, right_row, right_col]

/-- The second. -/
theorem stretch1 (y : S256x1024.Idx) : X0_1 m c t y = m ((c.tc : Thread nD τ).loc main_arg0) (right 1024 (by decide) ((win0_5.blk t).view.emb y)) := by
  unfold X0_1 Pipeline.Window.fill
  rw [dif_pos (moved0_1 t y)]
  blk_ext [iblk, V, index1, index5, right_row, right_col]

/-- The kernel's result is the merged branches. -/
theorem final : (dats m 0 c).arrAt 5 cfg0.N = merged (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5, out, pay, stretch0, stretch1]
  unfold merged
  congr 1
  · congr 3
    blk_ext [iblk, V, index2, index5, along_row, along_col, ix2]
  · congr 3
    blk_ext [iblk, V, index2, index5, along_row, along_col, ix2]

/-- The compiled program ends, with its arguments as they were and every counter at zero. -/
theorem frame_kernel : quiescent_MergeKernel := fun m g _ => MergeKernel.Gen.frame m g

/-- So does the ideal one. -/
theorem frame_ideal : quiescent_MergeKernelIdeal := fun m g _ => frame m g

/-- So does the reference. -/
theorem frame_reference : quiescent_MergeReferenceIdeal := by
  intro m g _
  hlo_run
  · exact fun _ => ⟨trivial, trivial, trivial, trivial⟩
  · exact sem_eq_zero_of_no_sems rfl _

/-- The kernel and the reference compute the same function over the extended reals, on any arguments. -/
theorem algebraic : algebraic_MergeKernelIdeal_MergeReferenceIdeal := by
  intro m g m' g' _ hm
  refine ⟨_, (θ_run MergeKernelIdeal.defs _ _).mono (fun r hr c => ⟨(hr.1.out_eq c 5).trans (final m c), hr.2.1 c⟩) (θ_run_and (run_main m g) (frame m g)), ?_⟩
  hlo_run
  rw [(hm c).1, (hm c).2.1, (hm c).2.2.1, (hm c).2.2.2]
  funext j
  unfold merged
  simp only [right_zero, along_zero]
  pointwise
  rfl

end Cert.Merge

end
-- ==== Proof.MergeBwd.lean ====
module

public import proofs.«01_k».proof.Defs
public import proofs.«01_k».proof.Proof.Gen.MergeBwdKernelIdeal.Frame
public import proofs.«01_k».proof.Proof.Gen.MergeBwdReferenceIdeal
public import proofs.«01_k».proof.Proof.Gen.MergeBwdKernel.Frame
public import Idealize.ShloMosaic.Lib.Claim
public import Idealize.ShloMosaic.Lib.Quiescent
public import Idealize.ShloMosaic.Lib.Pipeline.ValueKit
public import Idealize.ShloMosaic.Lib.Pipeline.ReadBack
public import proofs.«01_k».proof.Proof.Gate

/-!
The gradient of the merge of the two branches, in the branches, in the projections of the gates and in the gates' bias. The kernel walks 16 blocks of rows and adds the bias's gradient up over them.
-/

@[expose] public section

noncomputable section

namespace Cert.MergeBwd

open Cert.MergeBwdKernelIdeal Cert.MergeBwdKernelIdeal.Gen Gate
open Idealize.ShloMosaic hiding ix1 ix2 ix3 eq_ix1 eq_ix2 eq_ix3
open Idealize.ShloMosaic.ValueIdx Idealize.ShloMosaic.TcCoe Idealize.SL.Sem

variable (m : (ℓ : Loc nD τ sig) → Buf (Elt Ideal) ℓ) (c : Dev nD) (t : Fin cfg0.N)

/-- How far a gate is open. -/
def opened (p : FVec Ideal ⟨2, ![4096, 9856]⟩ .f32) (b : FVec Ideal ⟨2, ![1, 2048]⟩ .f32) (j : (⟨2, ![4096, 2048]⟩ : Shape).Idx) : EReal :=
  Ideal.logistic (p (right 0 (by decide) j) + b (along 0 (by decide) j))

theorem opened_at (p b) (j : (⟨2, ![4096, 2048]⟩ : Shape).Idx) :
    opened p b j = Ideal.logistic (p (ix2 (j 0) ⟨(j 1).val, Nat.lt_of_lt_of_le (j 1).isLt (by decide)⟩) + b (ix2 (0 : Fin 1) (j 1))) := by
  unfold opened
  rw [right_zero, along_zero]
  rfl

/-- The gradient in the branch whose gates start at column `o`. -/
def through (o : ℕ) (h : o + 1024 ≤ 2048) (p : FVec Ideal ⟨2, ![4096, 9856]⟩ .f32) (b : FVec Ideal ⟨2, ![1, 2048]⟩ .f32) (d : FVec Ideal ⟨2, ![4096, 1024]⟩ .f32) : FVec Ideal ⟨2, ![4096, 1024]⟩ .bf16 :=
  fun j => d j * opened p b (right o h j)

/-- The gradient in the projections of the gates. -/
def turned (p : FVec Ideal ⟨2, ![4096, 9856]⟩ .f32) (b : FVec Ideal ⟨2, ![1, 2048]⟩ .f32) (s l d : FVec Ideal ⟨2, ![4096, 1024]⟩ .f32) : FVec Ideal ⟨2, ![4096, 2048]⟩ .bf16 := fun j =>
  (if h : (j 1).val < 1024 then d (ix2 (j 0) ⟨(j 1).val, h⟩) * s (ix2 (j 0) ⟨(j 1).val, h⟩)
    else d (ix2 (j 0) ⟨(j 1).val - 1024, Nat.sub_lt_left_of_lt_add (Nat.le_of_not_lt h) (j 1).isLt⟩) * l (ix2 (j 0) ⟨(j 1).val - 1024, Nat.sub_lt_left_of_lt_add (Nat.le_of_not_lt h) (j 1).isLt⟩))
  * opened p b j * (1 - opened p b j)

theorem turned_left (p b s l d) (j : (⟨2, ![4096, 1024]⟩ : Shape).Idx) :
    turned p b s l d (right 0 (by decide) j) = d j * s j * opened p b (right 0 (by decide) j) * (1 - opened p b (right 0 (by decide) j)) := by
  have e : ((right 0 (by decide) j : (⟨2, ![4096, 2048]⟩ : Shape).Idx) 1).val < 1024 := by rw [right_col, Nat.zero_add]; exact (j 1).isLt
  have e' : (ix2 ((right 0 (by decide) j : (⟨2, ![4096, 2048]⟩ : Shape).Idx) 0) ⟨_, e⟩ : (⟨2, ![4096, 1024]⟩ : Shape).Idx) = j := funext fun d => match d with
    | ⟨0, _⟩ => rfl
    | ⟨1, _⟩ => Fin.ext (Nat.zero_add _)
  unfold turned
  rw [dif_pos e, e']

theorem turned_right (p b s l d) (j : (⟨2, ![4096, 1024]⟩ : Shape).Idx) :
    turned p b s l d (right 1024 (by decide) j) = d j * l j * opened p b (right 1024 (by decide) j) * (1 - opened p b (right 1024 (by decide) j)) := by
  have e : ¬((right 1024 (by decide) j : (⟨2, ![4096, 2048]⟩ : Shape).Idx) 1).val < 1024 := by rw [right_col]; omega
  have e' : ∀ h, (ix2 ((right 1024 (by decide) j : (⟨2, ![4096, 2048]⟩ : Shape).Idx) 0) ⟨((right 1024 (by decide) j : (⟨2, ![4096, 2048]⟩ : Shape).Idx) 1).val - 1024, h⟩ : (⟨2, ![4096, 1024]⟩ : Shape).Idx) = j := fun h => funext fun d => match d with
    | ⟨0, _⟩ => rfl
    | ⟨1, _⟩ => Fin.ext (Nat.add_sub_cancel_left _ _)
  unfold turned
  rw [dif_neg e, e']

/-- How far a gate is open, in a block. -/
def gateOf (x : Vec Ideal S256x1024 .f32) (b : Vec Ideal S1x1024 .f32) (j : S256x1024.Idx) : EReal := Ideal.logistic (x j + b (ix2 0 (j 1)))

/-- The gradient of one branch's gates at an entry of a block. -/
def turn (x : Vec Ideal S256x1024 .f32) (b : Vec Ideal S1x1024 .f32) (d s : Vec Ideal S256x1024 .f32) (j : S256x1024.Idx) : EReal :=
  d j * s j * gateOf x b j * (1 - gateOf x b j)

theorem pay8 (x : Vec Ideal S256x1024 .f32) (b : Vec Ideal S1x1024 .f32) (j : S256x1024.Idx) : k0_pay8 x b j = gateOf x b j := by
  unfold k0_pay8 gateOf
  pointwise
  rw [logistic_eq]
  rfl

theorem pay9 (x : Vec Ideal S256x1024 .f32) (b : Vec Ideal S1x1024 .f32) (j : S256x1024.Idx) : k0_pay9 x b j = gateOf x b j := pay8 x b j

theorem pay10 (x d : Vec Ideal S256x1024 .f32) (b : Vec Ideal S1x1024 .f32) (j : S256x1024.Idx) : k0_pay10 x b d j = d j * gateOf x b j := by
  unfold k0_pay10
  pointwise [pay8]

theorem pay11 (x d : Vec Ideal S256x1024 .f32) (b : Vec Ideal S1x1024 .f32) (j : S256x1024.Idx) : k0_pay11 x b d j = d j * gateOf x b j := pay10 x d b j

theorem pay1 (x d s : Vec Ideal S256x1024 .f32) (b : Vec Ideal S1x1024 .f32) (j : S256x1024.Idx) : k0_pay1 (k0_pay12 x b d s) (k0_pay13 x b) j = turn x b d s j := by
  unfold k0_pay1 k0_pay12 k0_pay13 turn
  pointwise [pay8]

theorem pay2 (x d s : Vec Ideal S256x1024 .f32) (b : Vec Ideal S1x1024 .f32) (j : S256x1024.Idx) : k0_pay2 (k0_pay9 x b) d s j = turn x b d s j := by
  unfold k0_pay2 turn
  pointwise [pay9]

theorem pay3 (x d s : Vec Ideal S256x1024 .f32) (b : Vec Ideal S1x1024 .f32) (j : S256x1024.Idx) : k0_pay3 (k0_pay12 x b d s) (k0_pay13 x b) j = turn x b d s j :=
  pay1 x d s b j

theorem pay4 (x d s : Vec Ideal S256x1024 .f32) (b : Vec Ideal S1x1024 .f32) (j : S256x1024.Idx) : k0_pay4 (k0_pay9 x b) d s j = turn x b d s j :=
  pay2 x d s b j

theorem pay5 (j : S1x2048.Idx) : k0_pay5 (F := Ideal) j = 0 := by
  unfold k0_pay5
  pointwise

theorem pay6 (x d s : Vec Ideal S256x1024 .f32) (b a : Vec Ideal S1x1024 .f32) (j : S1x1024.Idx) :
    k0_pay6 (k0_pay12 x b d s) (k0_pay13 x b) a j = a j + ∑ i : Fin 256, turn x b d s (ix2 i (j 1)) := by
  unfold k0_pay6
  pointwise [pay1]
  rfl

theorem pay7 (x d s : Vec Ideal S256x1024 .f32) (b a : Vec Ideal S1x1024 .f32) (j : S1x1024.Idx) :
    k0_pay7 (k0_pay9 x b) d s a j = a j + ∑ i : Fin 256, turn x b d s (ix2 i (j 1)) := by
  unfold k0_pay7
  pointwise [pay2]
  rfl

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, 0] := (by decide +kernel : ∀ t : Fin grid0.N, _)

theorem open0 (j : S256x1024.Idx) : gateOf (X0_0 m c t) (fun j => iblk m c 2 t (along 0 (by decide) j)) j = opened (m ((c.tc : Thread nD τ).loc main_arg0)) (m ((c.tc : Thread nD τ).loc main_arg1)) (right 0 (by decide) ((win0_6.blk t).view.emb j)) := by
  unfold gateOf opened
  congr 2
  · unfold X0_0 Pipeline.Window.fill
    rw [dif_pos (moved0_0 t j)]
    blk_ext [iblk, V, index0, index6, right_row, right_col]
  · blk_ext [iblk, V, index2, index6, right_row, right_col, along_row, along_col, ix2]

theorem open1 (j : S256x1024.Idx) : gateOf (X0_1 m c t) (fun j => iblk m c 2 t (along 1024 (by decide) j)) j = opened (m ((c.tc : Thread nD τ).loc main_arg0)) (m ((c.tc : Thread nD τ).loc main_arg1)) (right 1024 (by decide) ((win0_6.blk t).view.emb j)) := by
  unfold gateOf opened
  congr 2
  · unfold X0_1 Pipeline.Window.fill
    rw [dif_pos (moved0_1 t j)]
    blk_ext [iblk, V, index1, index6, right_row, right_col]
  · blk_ext [iblk, V, index2, index6, right_row, right_col, along_row, along_col, ix2]

theorem at3 (j : S256x1024.Idx) : iblk m c 3 t j = (m ((c.tc : Thread nD τ).loc main_arg2)) ((win0_6.blk t).view.emb j) := by
  blk_ext [iblk, V, index3, index6]
theorem at4 (j : S256x1024.Idx) : iblk m c 4 t j = (m ((c.tc : Thread nD τ).loc main_arg3)) ((win0_6.blk t).view.emb j) := by
  blk_ext [iblk, V, index4, index6]
theorem at5 (j : S256x1024.Idx) : iblk m c 5 t j = (m ((c.tc : Thread nD τ).loc main_arg4)) ((win0_6.blk t).view.emb j) := by
  blk_ext [iblk, V, index5, index6]

theorem place (o : ℕ) (h : o + 1024 ≤ 2048) (j : S256x1024.Idx) : (win0_8.blk t).view.emb (right o h j : S256x2048.Idx) = right o h ((win0_6.blk t).view.emb j) := by
  blk_ext [index8, index6, right_row, right_col]

/-- The first branch's gates, a block at a time. -/
theorem part0 (j : S256x1024.Idx) : turn (X0_0 m c t) (fun j => iblk m c 2 t (along 0 (by decide) j)) (iblk m c 5 t) (iblk m c 3 t) j
    = turned (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ((win0_8.blk t).view.emb (right 0 (by decide) j : S256x2048.Idx)) := by
  rw [place, turned_left, ← open0, ← at3 m c, ← at5 m c]
  rfl

/-- The second's. -/
theorem part1 (j : S256x1024.Idx) : turn (X0_1 m c t) (fun j => iblk m c 2 t (along 1024 (by decide) j)) (iblk m c 5 t) (iblk m c 4 t) j
    = turned (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ((win0_8.blk t).view.emb (right 1024 (by decide) j : S256x2048.Idx)) := by
  rw [place, turned_right, ← open1, ← at4 m c, ← at5 m c]
  rfl

theorem out6 : (outsAt0 m c t.val t.isLt).1 = k0_pay10 (X0_0 m c t) (fun j => iblk m c 2 t (along 0 (by decide) j)) (iblk m c 5 t) := by
  by_cases h : t.val % 16 = 0
  · rw [outsAt0_A m c t h]; frame_out; rw [ld_along 0 (by decide)]
  · rw [outsAt0_B m c t h]; frame_out; rw [ld_along 0 (by decide)]

theorem out7 : (outsAt0 m c t.val t.isLt).2.1 = k0_pay11 (X0_1 m c t) (fun j => iblk m c 2 t (along 1024 (by decide) j)) (iblk m c 5 t) := by
  by_cases h : t.val % 16 = 0
  · rw [outsAt0_A m c t h]; frame_out; rw [ld_along 1024 (by decide)]
  · rw [outsAt0_B m c t h]; frame_out; rw [ld_along 1024 (by decide)]

theorem left_lt (j : S256x1024.Idx) : ((right 0 (by decide) j : S256x2048.Idx) 1).val < 1024 := by rw [right_col, Nat.zero_add]; exact (j 1).isLt
theorem row_lt (j : S1x1024.Idx) : ((right 0 (by decide) j : S1x2048.Idx) 1).val < 1024 := by rw [right_col, Nat.zero_add]; exact (j 1).isLt

/-- The block of the gates' gradient. -/
theorem out8 (y : S256x2048.Idx) : (outsAt0 m c t.val t.isLt).2.2.1 y = turned (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ((win0_8.blk t).view.emb y) := by
  rcases halves (m := 1024) rfl (by decide) (by decide) y with ⟨j, rfl⟩ | ⟨j, rfl⟩
  · rw [← part0, ← pay3]
    by_cases h : t.val % 16 = 0
    · rw [outsAt0_A m c t h]; frame_out; rw [canon_left 1024 _ _ _ _ (left_lt j), canon_right 0, ld_along 0 (by decide)]
    · rw [outsAt0_B m c t h]; frame_out; rw [canon_left 1024 _ _ _ _ (left_lt j), canon_right 0, ld_along 0 (by decide)]
  · rw [← part1, ← pay4]
    by_cases h : t.val % 16 = 0
    · rw [outsAt0_A m c t h]; frame_out; rw [canon_right 1024, ld_along 1024 (by decide)]
    · rw [outsAt0_B m c t h]; frame_out; rw [canon_right 1024, ld_along 1024 (by decide)]

/-- The first point starts the bias's gradient from zero. -/
theorem start (h : t.val % 16 = 0) (y : S1x2048.Idx) : (outsAt0 m c t.val t.isLt).2.2.2 y = 0 + ∑ i : Fin 256, turned (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ((win0_8.blk t).view.emb (ix2 i (y 1) : S256x2048.Idx)) := by
  rcases halves (m := 1024) rfl (by decide) (by decide) y with ⟨j, rfl⟩ | ⟨j, rfl⟩
  · rw [outsAt0_A m c t h]; frame_out
    rw [canon_left 1024 _ _ _ _ (row_lt j), canon_right 0, pay6, read_right 0 (by decide), canon_all, pay5, ld_along 0 (by decide)]
    exact congrArg (0 + ·) (Finset.sum_congr rfl fun i _ => part0 m c t (ix2 i (j 1)))
  · rw [outsAt0_A m c t h]; frame_out
    rw [canon_right 1024, pay7, read_right 1024 (by decide), canon_beyond 0 _ _ _ _ (by rw [right_col]; omega), canon_all, pay5, ld_along 1024 (by decide)]
    exact congrArg (0 + ·) (Finset.sum_congr rfl fun i _ => part1 m c t (ix2 i (j 1)))

/-- A later point goes on from the point before. -/
theorem later (h : ¬t.val % 16 = 0) (y : S1x2048.Idx) : (outsAt0 m c t.val t.isLt).2.2.2 y
    = (outsAt0 m c (t.val - 1) (Nat.lt_of_le_of_lt (Nat.sub_le _ _) t.isLt)).2.2.2 y + ∑ i : Fin 256, turned (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ((win0_8.blk t).view.emb (ix2 i (y 1) : S256x2048.Idx)) := by
  rcases halves (m := 1024) rfl (by decide) (by decide) y with ⟨j, rfl⟩ | ⟨j, rfl⟩
  · rw [outsAt0_B m c t h]; frame_out
    rw [canon_left 1024 _ _ _ _ (row_lt j), canon_right 0, pay6, ld_right 0 (by decide), ld_along 0 (by decide)]
    exact congrArg (_ + ·) (Finset.sum_congr rfl fun i _ => part0 m c t (ix2 i (j 1)))
  · rw [outsAt0_B m c t h]; frame_out
    rw [canon_right 1024, pay7, ld_right 1024 (by decide), ld_along 1024 (by decide)]
    exact congrArg (_ + ·) (Finset.sum_congr rfl fun i _ => part1 m c t (ix2 i (j 1)))

/-- The gradient in the first branch. -/
theorem final6 : (dats m 0 c).arrAt 6 cfg0.N = through 0 (by decide) (m ((c.tc : Thread nD τ).loc main_arg0)) (m ((c.tc : Thread nD τ).loc main_arg1)) (m ((c.tc : Thread nD τ).loc main_arg4)) := by
  refine (dats m 0 c).arrAt_eq_of_covers 6 _ (by decide +kernel) fun t hf y => ?_
  blk_simp
  rw [after0_6, out6, pay10, open0, at5]
  rfl

/-- The gradient in the second branch. -/
theorem final7 : (dats m 0 c).arrAt 7 cfg0.N = through 1024 (by decide) (m ((c.tc : Thread nD τ).loc main_arg0)) (m ((c.tc : Thread nD τ).loc main_arg1)) (m ((c.tc : Thread nD τ).loc main_arg4)) := by
  refine (dats m 0 c).arrAt_eq_of_covers 7 _ (by decide +kernel) fun t hf y => ?_
  blk_simp
  rw [after0_7, out7, pay11, open1, at5]
  rfl

/-- The gradient in the projections of the gates. -/
theorem final8 : (dats m 0 c).arrAt 8 cfg0.N = turned (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  blk_simp
  rw [after0_8, out8]

/-- The gradient in the bias: the columns' sums. -/
def summed (g : FVec Ideal ⟨2, ![4096, 2048]⟩ .bf16) : FVec Ideal ⟨2, ![1, 2048]⟩ .f32 := fun j => ∑ i : Fin 4096, g (ix2 i (j 1))

theorem final9 : (dats m 0 c).arrAt 9 cfg0.N = summed (turned (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 9 _ (by decide +kernel) fun t hf y => ?_
  have ht := (flush0_9 t).mp hf
  blk_simp
  rw [after0_9, Pipeline.eq_sum_fin_of_reset_step_apply_of_flush (fun n h => (outsAt0 m c n h).2.2.2) 16 (fun _ => 0) _
      (fun t h j => start m c t h j) (fun t h j => later m c t h j) t ht y, zero_add]
  refine Fin.sum_mul_add_congr fun s k hl => ?_
  blk_ext [index8, index9, ix2]

/-- The compiled program ends, with its arguments as they were and every counter at zero. -/
theorem frame_kernel : quiescent_MergeBwdKernel := fun m g _ => MergeBwdKernel.Gen.frame m g

/-- So does the ideal one. -/
theorem frame_ideal : quiescent_MergeBwdKernelIdeal := fun m g _ => frame m g

/-- So does the reference. -/
theorem frame_reference : quiescent_MergeBwdReferenceIdeal := by
  intro m g _
  hlo_run
  · exact fun _ => ⟨trivial, trivial, trivial, trivial, trivial⟩
  · exact sem_eq_zero_of_no_sems rfl _

/-- The kernel and the reference compute the same functions over the extended reals, on any arguments. -/
theorem algebraic : algebraic_MergeBwdKernelIdeal_MergeBwdReferenceIdeal := by
  intro m g m' g' _ hm
  refine ⟨_, _, _, _, (θ_run MergeBwdKernelIdeal.defs _ _).mono (fun r hr c => ⟨(hr.1.out_eq c 6).trans (final6 m c), (hr.1.out_eq c 7).trans (final7 m c), (hr.1.out_eq c 8).trans (final8 m c), (hr.1.out_eq c 9).trans (final9 m c), hr.2.1 c⟩) (θ_run_and (run_main m g) (frame m g)), ?_⟩
  hlo_run
  · rw [(hm c).1, (hm c).2.1, (hm c).2.2.2.2]
    funext j
    unfold through
    rw [opened_at, right_zero]
    pointwise
    exact mul_comm (G := EReal) _ _
  · rw [(hm c).1, (hm c).2.1, (hm c).2.2.2.2]
    funext j
    unfold through
    rw [opened_at]
    pointwise
    exact mul_comm (G := EReal) _ _
  · rw [(hm c).1, (hm c).2.1, (hm c).2.2.1, (hm c).2.2.2.1, (hm c).2.2.2.2]
    funext j
    unfold turned
    rw [opened_at]
    pointwise
    exact (mul_assoc (G := EReal) _ _ _).symm
  · rw [(hm c).1, (hm c).2.1, (hm c).2.2.1, (hm c).2.2.2.1, (hm c).2.2.2.2]
    funext j
    unfold summed turned
    simp only [opened_at]
    pointwise
    refine Finset.sum_congr (M := EReal) rfl fun x _ => ?_
    exact (mul_assoc (G := EReal) _ _ _).symm

end Cert.MergeBwd

end
-- ==== Proof.Norm.lean ====
module

public import proofs.«01_k».proof.Defs
public import proofs.«01_k».proof.Proof.Gen.NormKernelIdeal.Frame
public import proofs.«01_k».proof.Proof.Gen.NormReferenceIdeal
public import proofs.«01_k».proof.Proof.Gen.NormKernel.Frame
public import Idealize.ShloMosaic.Lib.Claim
public import Idealize.ShloMosaic.Lib.Quiescent
public import Idealize.ShloMosaic.Lib.Pipeline.ValueKit
public import Idealize.ShloMosaic.Lib.Pipeline.ReadBack
public import proofs.«01_k».proof.Proof.Gate

/-!
The RMS norm of the rows. The kernel walks 16 blocks of rows.
-/

@[expose] public section

noncomputable section

namespace Cert.Norm

open Cert.NormKernelIdeal Cert.NormKernelIdeal.Gen Gate
open Idealize.ShloMosaic hiding ix1 ix2 ix3 eq_ix1 eq_ix2 eq_ix3
open Idealize.ShloMosaic.ValueIdx Idealize.ShloMosaic.TcCoe Idealize.SL.Sem

variable (m : (ℓ : Loc nD τ sig) → Buf (Elt Ideal) ℓ) (c : Dev nD) (t : Fin cfg0.N)

/-- A row times the reciprocal of its root mean square, and times the norm's weights. -/
def normed {n : ℕ} (x : FVec Ideal ⟨2, ![n, 1024]⟩ .f32) (w : FVec Ideal ⟨2, ![1, 1024]⟩ .f32) (j : (⟨2, ![n, 1024]⟩ : Shape).Idx) : EReal :=
  x j * Ideal.rsqrt (Ideal.div (∑ i : Fin 1024, x (ix2 (j 0) i) * x (ix2 (j 0) i)) (Ideal.ofBits FTy.f32 0x44800000#32) + Ideal.ofBits FTy.f32 0x358637BD#32) * w (ix2 0 (j 1))

/-- A block of the result, entry by entry. -/
theorem pay (x : Vec Ideal S256x1024 .f32) (w : Vec Ideal S1x1024 .f32) (j : S256x1024.Idx) : k0_pay1 x w j = normed x w j := by
  unfold k0_pay1 normed
  pointwise
  rfl

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem out (x : Vec Ideal S256x1024 .f32) (w : Vec Ideal S1x1024 .f32) : out0_2 x w = k0_pay1 x w := by
  unfold out0_2
  frame_out

/-- The kernel's result is the normed rows. -/
theorem final : (dats m 0 c).arrAt 2 cfg0.N = normed (m ((c.tc : Thread nD τ).loc main_arg0)) (m ((c.tc : Thread nD τ).loc main_arg1)) := by
  refine (dats m 0 c).arrAt_eq_of_covers 2 _ (by decide +kernel) fun t hf y => ?_
  blk_simp
  rw [after0_2, out, pay]
  unfold normed
  have e : ∀ i : Fin 1024, iblk m c 0 t (ix2 (y 0) i) = m ((c.tc : Thread nD τ).loc main_arg0) (ix2 ((win0_2.blk t).view.emb y 0) i) := fun i => by
    blk_ext [iblk, V, index0, index2, ix2]
  congr 1
  · congr 1
    simp only [e]
  · blk_ext [iblk, V, index1, index2, ix2]

/-- The compiled program ends, with its arguments as they were and every counter at zero. -/
theorem frame_kernel : quiescent_NormKernel := fun m g _ => NormKernel.Gen.frame m g

/-- So does the ideal one. -/
theorem frame_ideal : quiescent_NormKernelIdeal := fun m g _ => frame m g

/-- So does the reference. -/
theorem frame_reference : quiescent_NormReferenceIdeal := by
  intro m g _
  hlo_run
  · exact fun _ => ⟨trivial, trivial⟩
  · exact sem_eq_zero_of_no_sems rfl _

/-- The kernel and the reference compute the same function over the extended reals, on any arguments. -/
theorem algebraic : algebraic_NormKernelIdeal_NormReferenceIdeal := by
  intro m g m' g' _ hm
  refine ⟨_, (θ_run NormKernelIdeal.defs _ _).mono (fun r hr c => ⟨(hr.1.out_eq c 2).trans (final m c), hr.2.1 c⟩) (θ_run_and (run_main m g) (frame m g)), ?_⟩
  hlo_run
  rw [(hm c).1, (hm c).2]
  funext j
  unfold normed
  pointwise
  rfl

end Cert.Norm

end
-- ==== Proof.lean ====
/- The claims, put together. The kernel and the idealized kernel differ in two named constants, so each has its run. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.KCover
public import proofs.«01_k».proof.Proof.PFrame
public import proofs.«01_k».proof.Proof.RVal
public import proofs.«01_k».proof.Proof.Finite
public import proofs.«01_k».proof.Proof.In
public import proofs.«01_k».proof.Proof.InDx
public import proofs.«01_k».proof.Proof.InDw
public import proofs.«01_k».proof.Proof.Up
public import proofs.«01_k».proof.Proof.UpDx
public import proofs.«01_k».proof.Proof.UpDw
public import proofs.«01_k».proof.Proof.Down
public import proofs.«01_k».proof.Proof.DownDx
public import proofs.«01_k».proof.Proof.DownDw
public import proofs.«01_k».proof.Proof.Ssm
public import proofs.«01_k».proof.Proof.SsmDx
public import proofs.«01_k».proof.Proof.SsmDw
public import proofs.«01_k».proof.Proof.Rec
public import proofs.«01_k».proof.Proof.RecDx
public import proofs.«01_k».proof.Proof.RecDw
public import proofs.«01_k».proof.Proof.Out
public import proofs.«01_k».proof.Proof.OutDx
public import proofs.«01_k».proof.Proof.OutDw
public import proofs.«01_k».proof.Proof.Swiglu
public import proofs.«01_k».proof.Proof.SwigluBwd
public import proofs.«01_k».proof.Proof.Merge
public import proofs.«01_k».proof.Proof.MergeBwd
public import proofs.«01_k».proof.Proof.Norm
public import Idealize.ShloMosaic.Adequacy
public import Idealize.ShloMosaic.Init

@[expose] public section

noncomputable section

namespace Cert.Proof

open Idealize.ShloMosaic Idealize.SL.Sem

/-- The two constants of the gelu are named by the rational numbers that they round. -/
theorem preserves : Cert.preserves_Kernel_KernelIdeal :=
  ⟨IdealRules.named_const.statement Cert.KernelIdeal.κ "gelu_k" .f32 0x3D372713#32 ((8943 / 200000 : ℝ) : EReal) rfl,
    IdealRules.named_const.statement Cert.KernelIdeal.κ "gelu_3k" .f32 0x3E095D4F#32 ((26829 / 200000 : ℝ) : EReal) rfl⟩

/-- The kernel ends with its nine results as the mathematics of the heads that its arguments hold, and its arguments as they were. -/
theorem kernel_run (m : (ℓ : Loc KernelIdeal.nD KernelIdeal.τ KernelIdeal.sig) → Buf (Elt Ideal) ℓ) (g : Dev KernelIdeal.nD → PrngReg) (S : Dev KernelIdeal.nD → ℕ → Lru.Head)
    (h : ∀ c, Lru.Launched (S c) m c) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v0_0) = Lru.Ref.wideS (S c) Lru.Head.dxl
      ∧ r.2.mem ((c.tc : Thread KernelIdeal.nD KernelIdeal.τ).loc KernelIdeal.main_v0_1) = Lru.Ref.wideS (S c) Lru.Head.dyl
      ∧ r.2.mem ((c.tc : Thread KernelIdeal.nD KernelIdeal.τ).loc KernelIdeal.main_v0_2) = Lru.Ref.four (S c) Lru.Head.dcw
      ∧ r.2.mem ((c.tc : Thread KernelIdeal.nD KernelIdeal.τ).loc KernelIdeal.main_v0_3) = Lru.Ref.row (S c) Lru.Head.dcb
      ∧ r.2.mem ((c.tc : Thread KernelIdeal.nD KernelIdeal.τ).loc KernelIdeal.main_v0_4) = Lru.Ref.mats (S c) Lru.Head.dwr
      ∧ r.2.mem ((c.tc : Thread KernelIdeal.nD KernelIdeal.τ).loc KernelIdeal.main_v0_5) = Lru.Ref.row (S c) Lru.Head.dbr
      ∧ r.2.mem ((c.tc : Thread KernelIdeal.nD KernelIdeal.τ).loc KernelIdeal.main_v0_6) = Lru.Ref.mats (S c) Lru.Head.dwi
      ∧ r.2.mem ((c.tc : Thread KernelIdeal.nD KernelIdeal.τ).loc KernelIdeal.main_v0_7) = Lru.Ref.row (S c) Lru.Head.dbi
      ∧ r.2.mem ((c.tc : Thread KernelIdeal.nD KernelIdeal.τ).loc KernelIdeal.main_v0_8) = Lru.Ref.row (S c) Lru.Head.dlam
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8)) :=
  (θ_run KernelIdeal.defs _ _).mono
    (fun r hr c => ⟨(hr.1.1.out_eq c 10).trans (Lru.final10 (h c)), (hr.1.1.out_eq c 11).trans (Lru.final11 (h c)), (hr.1.1.out_eq c 12).trans (Lru.final12 (h c)),
      (hr.1.1.out_eq c 13).trans (Lru.final13 (h c)), (hr.1.1.out_eq c 14).trans (Lru.final14 (h c)), (hr.1.1.out_eq c 15).trans (Lru.final15 (h c)),
      (hr.1.1.out_eq c 16).trans (Lru.final16 (h c)), (hr.1.1.out_eq c 17).trans (Lru.final17 (h c)), (hr.1.1.out_eq c 18).trans (Lru.final18 (h c)), hr.2.1 c⟩)
    (θ_run_and (Lru.run_named m g) (Lru.frame_named m g))

/-- The kernel and the reference end with the same results, on arguments whose entries are real numbers. -/
theorem algebraic [hPre_finite : Pre_finite.Facts] : Cert.algebraic_KernelIdeal_ReferenceIdeal_pre_finite := by
  intro m g m' g' hp hm
  have hS : ∀ c : Dev KernelIdeal.nD, ∃ S, Lru.Launched S m c := fun c => ⟨_, Lru.given_of_finite _ _ _ _ _ _ _ _ _ (fun a => a.elim0) (congrFun (hp c) _)⟩
  choose S hS using hS
  refine ⟨_, _, _, _, _, _, _, _, _, kernel_run m g S hS, (θ_run ReferenceIdeal.defs _ _).mono (fun r hr c => ?_) (Lru.Ref.run m' g')⟩
  obtain ⟨a0, a1, a2, a3, a4, a5, a6, a7, a8⟩ := hm c
  have hh : Lru.Ref.Holds (S c) (StableHlo.launchContents m' c) :=
    ⟨(congrArg (extractStridedSlice _ _ · _) a0).trans (hS c).x, (congrArg (extractStridedSlice _ _ · _) a0).trans (hS c).y, a1.trans (hS c).cw, a2.trans (hS c).cb,
      a3.trans (hS c).wr, a4.trans (hS c).br, a5.trans (hS c).wi, a6.trans (hS c).bi, a7.trans (hS c).lam, a8.trans (hS c).ct⟩
  have hv := Lru.Ref.results m' c hh
  exact ⟨(hr c _ rfl).trans hv.dxl, (hr c _ rfl).trans hv.dyl, (hr c _ rfl).trans hv.dcw, (hr c _ rfl).trans hv.dcb, (hr c _ rfl).trans hv.dwr, (hr c _ rfl).trans hv.dbr,
    (hr c _ rfl).trans hv.dwi, (hr c _ rfl).trans hv.dbi, (hr c _ rfl).trans hv.dlam,
    (hr c _ rfl).trans (Lru.Ref.keep_all m' c _ (by decide +kernel)), (hr c _ rfl).trans (Lru.Ref.keep_all m' c _ (by decide +kernel)),
    (hr c _ rfl).trans (Lru.Ref.keep_all m' c _ (by decide +kernel)), (hr c _ rfl).trans (Lru.Ref.keep_all m' c _ (by decide +kernel)),
    (hr c _ rfl).trans (Lru.Ref.keep_all m' c _ (by decide +kernel)), (hr c _ rfl).trans (Lru.Ref.keep_all m' c _ (by decide +kernel)),
    (hr c _ rfl).trans (Lru.Ref.keep_all m' c _ (by decide +kernel)), (hr c _ rfl).trans (Lru.Ref.keep_all m' c _ (by decide +kernel)),
    (hr c _ rfl).trans (Lru.Ref.keep_all m' c _ (by decide +kernel))⟩

/-- Everything that is claimed: of the mixer's gradient, of the eighteen products, of the gates and of the norm. -/
theorem claim : Cert.Claim :=
  ⟨Cert.Kernel.Gen.facts, Cert.KernelIdeal.Gen.facts, Cert.ReferenceIdeal.Gen.facts,
    Cert.InKernel.Gen.facts, Cert.InKernelIdeal.Gen.facts, Cert.InReferenceIdeal.Gen.facts, Cert.InDxKernel.Gen.facts, Cert.InDxKernelIdeal.Gen.facts,
    Cert.InDxReferenceIdeal.Gen.facts, Cert.InDwKernel.Gen.facts, Cert.InDwKernelIdeal.Gen.facts, Cert.InDwReferenceIdeal.Gen.facts,
    Cert.UpKernel.Gen.facts, Cert.UpKernelIdeal.Gen.facts, Cert.UpReferenceIdeal.Gen.facts, Cert.UpDxKernel.Gen.facts, Cert.UpDxKernelIdeal.Gen.facts,
    Cert.UpDxReferenceIdeal.Gen.facts, Cert.UpDwKernel.Gen.facts, Cert.UpDwKernelIdeal.Gen.facts, Cert.UpDwReferenceIdeal.Gen.facts,
    Cert.DownKernel.Gen.facts, Cert.DownKernelIdeal.Gen.facts, Cert.DownReferenceIdeal.Gen.facts, Cert.DownDxKernel.Gen.facts,
    Cert.DownDxKernelIdeal.Gen.facts, Cert.DownDxReferenceIdeal.Gen.facts, Cert.DownDwKernel.Gen.facts, Cert.DownDwKernelIdeal.Gen.facts,
    Cert.DownDwReferenceIdeal.Gen.facts,
    Cert.SsmKernel.Gen.facts, Cert.SsmKernelIdeal.Gen.facts, Cert.SsmReferenceIdeal.Gen.facts, Cert.SsmDxKernel.Gen.facts,
    Cert.SsmDxKernelIdeal.Gen.facts, Cert.SsmDxReferenceIdeal.Gen.facts, Cert.SsmDwKernel.Gen.facts, Cert.SsmDwKernelIdeal.Gen.facts,
    Cert.SsmDwReferenceIdeal.Gen.facts, Cert.RecKernel.Gen.facts, Cert.RecKernelIdeal.Gen.facts, Cert.RecReferenceIdeal.Gen.facts,
    Cert.RecDxKernel.Gen.facts, Cert.RecDxKernelIdeal.Gen.facts, Cert.RecDxReferenceIdeal.Gen.facts, Cert.RecDwKernel.Gen.facts,
    Cert.RecDwKernelIdeal.Gen.facts, Cert.RecDwReferenceIdeal.Gen.facts, Cert.OutKernel.Gen.facts, Cert.OutKernelIdeal.Gen.facts,
    Cert.OutReferenceIdeal.Gen.facts, Cert.OutDxKernel.Gen.facts, Cert.OutDxKernelIdeal.Gen.facts, Cert.OutDxReferenceIdeal.Gen.facts,
    Cert.OutDwKernel.Gen.facts, Cert.OutDwKernelIdeal.Gen.facts, Cert.OutDwReferenceIdeal.Gen.facts,
    Cert.SwigluKernel.Gen.facts, Cert.SwigluKernelIdeal.Gen.facts, Cert.SwigluReferenceIdeal.Gen.facts, Cert.SwigluBwdKernel.Gen.facts,
    Cert.SwigluBwdKernelIdeal.Gen.facts, Cert.SwigluBwdReferenceIdeal.Gen.facts, Cert.MergeKernel.Gen.facts, Cert.MergeKernelIdeal.Gen.facts,
    Cert.MergeReferenceIdeal.Gen.facts, Cert.MergeBwdKernel.Gen.facts, Cert.MergeBwdKernelIdeal.Gen.facts, Cert.MergeBwdReferenceIdeal.Gen.facts,
    Cert.NormKernel.Gen.facts, Cert.NormKernelIdeal.Gen.facts, Cert.NormReferenceIdeal.Gen.facts,
    Cert.Pre_finite.Gen.facts, Cert.Pre_swiglu_real.Gen.facts,
    fun m ρ _ => Cert.Lru.Printed.frame_named m ρ, fun m ρ _ => Cert.Lru.frame_named m ρ, fun m ρ _ => Cert.Lru.frame_named m ρ,
    fun m ρ _ => Cert.Lru.Ref.frame m ρ, fun m ρ _ => Cert.Lru.Ref.frame m ρ,
    Cert.In.frame_kernel, Cert.In.frame_ideal, Cert.In.frame_reference, Cert.InDx.frame_kernel, Cert.InDx.frame_ideal, Cert.InDx.frame_reference,
    Cert.InDw.frame_kernel, Cert.InDw.frame_ideal, Cert.InDw.frame_reference, Cert.Up.frame_kernel, Cert.Up.frame_ideal, Cert.Up.frame_reference,
    Cert.UpDx.frame_kernel, Cert.UpDx.frame_ideal, Cert.UpDx.frame_reference, Cert.UpDw.frame_kernel, Cert.UpDw.frame_ideal, Cert.UpDw.frame_reference,
    Cert.Down.frame_kernel, Cert.Down.frame_ideal, Cert.Down.frame_reference, Cert.DownDx.frame_kernel, Cert.DownDx.frame_ideal,
    Cert.DownDx.frame_reference, Cert.DownDw.frame_kernel, Cert.DownDw.frame_ideal, Cert.DownDw.frame_reference,
    Cert.Ssm.frame_kernel, Cert.Ssm.frame_ideal, Cert.Ssm.frame_reference, Cert.SsmDx.frame_kernel, Cert.SsmDx.frame_ideal,
    Cert.SsmDx.frame_reference, Cert.SsmDw.frame_kernel, Cert.SsmDw.frame_ideal, Cert.SsmDw.frame_reference, Cert.Rec.frame_kernel,
    Cert.Rec.frame_ideal, Cert.Rec.frame_reference, Cert.RecDx.frame_kernel, Cert.RecDx.frame_ideal, Cert.RecDx.frame_reference,
    Cert.RecDw.frame_kernel, Cert.RecDw.frame_ideal, Cert.RecDw.frame_reference, Cert.Out.frame_kernel, Cert.Out.frame_ideal,
    Cert.Out.frame_reference, Cert.OutDx.frame_kernel, Cert.OutDx.frame_ideal, Cert.OutDx.frame_reference, Cert.OutDw.frame_kernel,
    Cert.OutDw.frame_ideal, Cert.OutDw.frame_reference,
    Cert.Swiglu.frame_kernel, Cert.Swiglu.frame_ideal, Cert.Swiglu.frame_reference, Cert.SwigluBwd.frame_kernel, Cert.SwigluBwd.frame_ideal, fun m ρ _
    => Cert.SwigluBwd.frame_ideal m ρ trivial, Cert.SwigluBwd.frame_reference, fun m ρ _ => Cert.SwigluBwd.frame_reference m ρ trivial,
    Cert.Merge.frame_kernel, Cert.Merge.frame_ideal, Cert.Merge.frame_reference, Cert.MergeBwd.frame_kernel, Cert.MergeBwd.frame_ideal,
    Cert.MergeBwd.frame_reference, Cert.Norm.frame_kernel, Cert.Norm.frame_ideal, Cert.Norm.frame_reference,
    preserves, algebraic,
    trivial, Cert.In.algebraic, trivial, Cert.InDx.algebraic, trivial, Cert.InDw.algebraic, trivial, Cert.Up.algebraic, trivial, Cert.UpDx.algebraic,
    trivial, Cert.UpDw.algebraic, trivial, Cert.Down.algebraic, trivial, Cert.DownDx.algebraic, trivial, Cert.DownDw.algebraic,
    trivial, Cert.Ssm.algebraic, trivial, Cert.SsmDx.algebraic, trivial, Cert.SsmDw.algebraic, trivial, Cert.Rec.algebraic, trivial,
    Cert.RecDx.algebraic, trivial, Cert.RecDw.algebraic, trivial, Cert.Out.algebraic, trivial, Cert.OutDx.algebraic, trivial, Cert.OutDw.algebraic,
    trivial, Cert.Swiglu.algebraic, trivial, Cert.SwigluBwd.algebraic, trivial, Cert.Merge.algebraic, trivial, Cert.MergeBwd.algebraic, trivial,
    Cert.Norm.algebraic⟩

end Cert.Proof

end
